-- ==== Defs.lean ====
def Pre_Swap (m : (ℓ : Loc Cert.Swap.nD Cert.Swap.τ Cert.Swap.sig) → Buf (Elt Bits) ℓ) : Prop :=
  True

def Pre_SwapIdeal (m : (ℓ : Loc Cert.SwapIdeal.nD Cert.SwapIdeal.τ Cert.SwapIdeal.sig) → Buf (Elt Ideal) ℓ) : Prop :=
  True

def Pre_SwapRefIdeal (m : (ℓ : Loc Cert.SwapRefIdeal.nD Cert.SwapRefIdeal.τ Cert.SwapRefIdeal.sig) → Buf (Elt Ideal) ℓ) : Prop :=
  True

def Pre_SwapRef (m : (ℓ : Loc Cert.SwapRef.nD Cert.SwapRef.τ Cert.SwapRef.sig) → Buf (Elt Bits) ℓ) : Prop :=
  True

def Pre_Exchange (m : (ℓ : Loc Cert.Exchange.nD Cert.Exchange.τ Cert.Exchange.sig) → Buf (Elt Bits) ℓ) : Prop :=
  True

def Pre_ExchangeIdeal (m : (ℓ : Loc Cert.ExchangeIdeal.nD Cert.ExchangeIdeal.τ Cert.ExchangeIdeal.sig) → Buf (Elt Ideal) ℓ) : Prop :=
  True

def Pre_ExchangeRefIdeal (m : (ℓ : Loc Cert.ExchangeRefIdeal.nD Cert.ExchangeRefIdeal.τ Cert.ExchangeRefIdeal.sig) → Buf (Elt Ideal) ℓ) : Prop :=
  True

def Pre_ExchangeRef (m : (ℓ : Loc Cert.ExchangeRef.nD Cert.ExchangeRef.τ Cert.ExchangeRef.sig) → Buf (Elt Bits) ℓ) : Prop :=
  True

def Pre_Join (m : (ℓ : Loc Cert.Join.nD Cert.Join.τ Cert.Join.sig) → Buf (Elt Bits) ℓ) : Prop :=
  True

def Pre_JoinIdeal (m : (ℓ : Loc Cert.JoinIdeal.nD Cert.JoinIdeal.τ Cert.JoinIdeal.sig) → Buf (Elt Ideal) ℓ) : Prop :=
  True

def Pre_JoinRefIdeal (m : (ℓ : Loc Cert.JoinRefIdeal.nD Cert.JoinRefIdeal.τ Cert.JoinRefIdeal.sig) → Buf (Elt Ideal) ℓ) : Prop :=
  True

def Pre_JoinRef (m : (ℓ : Loc Cert.JoinRef.nD Cert.JoinRef.τ Cert.JoinRef.sig) → Buf (Elt Bits) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_AdamwWAda (m : (ℓ : Loc Cert.AdamwWAda.nD Cert.AdamwWAda.τ Cert.AdamwWAda.sig) → Buf (Elt Bits) ℓ) : Prop :=
  True

def Pre_AdamwWAdaIdeal (m : (ℓ : Loc Cert.AdamwWAdaIdeal.nD Cert.AdamwWAdaIdeal.τ Cert.AdamwWAdaIdeal.sig) → Buf (Elt Ideal) ℓ) : Prop :=
  True

def Pre_AdamwWAdaRefIdeal (m : (ℓ : Loc Cert.AdamwWAdaRefIdeal.nD Cert.AdamwWAdaRefIdeal.τ Cert.AdamwWAdaRefIdeal.sig) → Buf (Elt Ideal) ℓ) : Prop :=
  True

def Pre_AdamwBAda (m : (ℓ : Loc Cert.AdamwBAda.nD Cert.AdamwBAda.τ Cert.AdamwBAda.sig) → Buf (Elt Bits) ℓ) : Prop :=
  True

def Pre_AdamwBAdaIdeal (m : (ℓ : Loc Cert.AdamwBAdaIdeal.nD Cert.AdamwBAdaIdeal.τ Cert.AdamwBAdaIdeal.sig) → Buf (Elt Ideal) ℓ) : Prop :=
  True

def Pre_AdamwBAdaRefIdeal (m : (ℓ : Loc Cert.AdamwBAdaRefIdeal.nD Cert.AdamwBAdaRefIdeal.τ Cert.AdamwBAdaRefIdeal.sig) → Buf (Elt Ideal) ℓ) : Prop :=
  True

def Pre_AdamwLnG (m : (ℓ : Loc Cert.AdamwLnG.nD Cert.AdamwLnG.τ Cert.AdamwLnG.sig) → Buf (Elt Bits) ℓ) : Prop :=
  True

def Pre_AdamwLnGIdeal (m : (ℓ : Loc Cert.AdamwLnGIdeal.nD Cert.AdamwLnGIdeal.τ Cert.AdamwLnGIdeal.sig) → Buf (Elt Ideal) ℓ) : Prop :=
  True

def Pre_AdamwLnGRefIdeal (m : (ℓ : Loc Cert.AdamwLnGRefIdeal.nD Cert.AdamwLnGRefIdeal.τ Cert.AdamwLnGRefIdeal.sig) → Buf (Elt Ideal) ℓ) : Prop :=
  True

def Pre_AdamwGlaWIn (m : (ℓ : Loc Cert.AdamwGlaWIn.nD Cert.AdamwGlaWIn.τ Cert.AdamwGlaWIn.sig) → Buf (Elt Bits) ℓ) : Prop :=
  True

def Pre_AdamwGlaWInIdeal (m : (ℓ : Loc Cert.AdamwGlaWInIdeal.nD Cert.AdamwGlaWInIdeal.τ Cert.AdamwGlaWInIdeal.sig) → Buf (Elt Ideal) ℓ) : Prop :=
  True

def Pre_AdamwGlaWInRefIdeal (m : (ℓ : Loc Cert.AdamwGlaWInRefIdeal.nD Cert.AdamwGlaWInRefIdeal.τ Cert.AdamwGlaWInRefIdeal.sig) → Buf (Elt Ideal) ℓ) : Prop :=
  True

def Pre_AdamwGlaWGk2 (m : (ℓ : Loc Cert.AdamwGlaWGk2.nD Cert.AdamwGlaWGk2.τ Cert.AdamwGlaWGk2.sig) → Buf (Elt Bits) ℓ) : Prop :=
  True

def Pre_AdamwGlaWGk2Ideal (m : (ℓ : Loc Cert.AdamwGlaWGk2Ideal.nD Cert.AdamwGlaWGk2Ideal.τ Cert.AdamwGlaWGk2Ideal.sig) → Buf (Elt Ideal) ℓ) : Prop :=
  True

def Pre_AdamwGlaWGk2RefIdeal (m : (ℓ : Loc Cert.AdamwGlaWGk2RefIdeal.nD Cert.AdamwGlaWGk2RefIdeal.τ Cert.AdamwGlaWGk2RefIdeal.sig) → Buf (Elt Ideal) ℓ) : Prop :=
  True

def Pre_AdamwGlaBGk (m : (ℓ : Loc Cert.AdamwGlaBGk.nD Cert.AdamwGlaBGk.τ Cert.AdamwGlaBGk.sig) → Buf (Elt Bits) ℓ) : Prop :=
  True

def Pre_AdamwGlaBGkIdeal (m : (ℓ : Loc Cert.AdamwGlaBGkIdeal.nD Cert.AdamwGlaBGkIdeal.τ Cert.AdamwGlaBGkIdeal.sig) → Buf (Elt Ideal) ℓ) : Prop :=
  True

def Pre_AdamwGlaBGkRefIdeal (m : (ℓ : Loc Cert.AdamwGlaBGkRefIdeal.nD Cert.AdamwGlaBGkRefIdeal.τ Cert.AdamwGlaBGkRefIdeal.sig) → Buf (Elt Ideal) ℓ) : Prop :=
  True

def Pre_AdamwGlaGNorm (m : (ℓ : Loc Cert.AdamwGlaGNorm.nD Cert.AdamwGlaGNorm.τ Cert.AdamwGlaGNorm.sig) → Buf (Elt Bits) ℓ) : Prop :=
  True

def Pre_AdamwGlaGNormIdeal (m : (ℓ : Loc Cert.AdamwGlaGNormIdeal.nD Cert.AdamwGlaGNormIdeal.τ Cert.AdamwGlaGNormIdeal.sig) → Buf (Elt Ideal) ℓ) : Prop :=
  True

def Pre_AdamwGlaGNormRefIdeal (m : (ℓ : Loc Cert.AdamwGlaGNormRefIdeal.nD Cert.AdamwGlaGNormRefIdeal.τ Cert.AdamwGlaGNormRefIdeal.sig) → Buf (Elt Ideal) ℓ) : Prop :=
  True

def Pre_AdamwGlaWOut (m : (ℓ : Loc Cert.AdamwGlaWOut.nD Cert.AdamwGlaWOut.τ Cert.AdamwGlaWOut.sig) → Buf (Elt Bits) ℓ) : Prop :=
  True

def Pre_AdamwGlaWOutIdeal (m : (ℓ : Loc Cert.AdamwGlaWOutIdeal.nD Cert.AdamwGlaWOutIdeal.τ Cert.AdamwGlaWOutIdeal.sig) → Buf (Elt Ideal) ℓ) : Prop :=
  True

def Pre_AdamwGlaWOutRefIdeal (m : (ℓ : Loc Cert.AdamwGlaWOutRefIdeal.nD Cert.AdamwGlaWOutRefIdeal.τ Cert.AdamwGlaWOutRefIdeal.sig) → Buf (Elt Ideal) ℓ) : Prop :=
  True

def Pre_AdamwAttWIn (m : (ℓ : Loc Cert.AdamwAttWIn.nD Cert.AdamwAttWIn.τ Cert.AdamwAttWIn.sig) → Buf (Elt Bits) ℓ) : Prop :=
  True

def Pre_AdamwAttWInIdeal (m : (ℓ : Loc Cert.AdamwAttWInIdeal.nD Cert.AdamwAttWInIdeal.τ Cert.AdamwAttWInIdeal.sig) → Buf (Elt Ideal) ℓ) : Prop :=
  True

def Pre_AdamwAttWInRefIdeal (m : (ℓ : Loc Cert.AdamwAttWInRefIdeal.nD Cert.AdamwAttWInRefIdeal.τ Cert.AdamwAttWInRefIdeal.sig) → Buf (Elt Ideal) ℓ) : Prop :=
  True

def Pre_AdamwAttBIn (m : (ℓ : Loc Cert.AdamwAttBIn.nD Cert.AdamwAttBIn.τ Cert.AdamwAttBIn.sig) → Buf (Elt Bits) ℓ) : Prop :=
  True

def Pre_AdamwAttBInIdeal (m : (ℓ : Loc Cert.AdamwAttBInIdeal.nD Cert.AdamwAttBInIdeal.τ Cert.AdamwAttBInIdeal.sig) → Buf (Elt Ideal) ℓ) : Prop :=
  True

def Pre_AdamwAttBInRefIdeal (m : (ℓ : Loc Cert.AdamwAttBInRefIdeal.nD Cert.AdamwAttBInRefIdeal.τ Cert.AdamwAttBInRefIdeal.sig) → Buf (Elt Ideal) ℓ) : Prop :=
  True

def Pre_AdamwAttRelBias (m : (ℓ : Loc Cert.AdamwAttRelBias.nD Cert.AdamwAttRelBias.τ Cert.AdamwAttRelBias.sig) → Buf (Elt Bits) ℓ) : Prop :=
  True

def Pre_AdamwAttRelBiasIdeal (m : (ℓ : Loc Cert.AdamwAttRelBiasIdeal.nD Cert.AdamwAttRelBiasIdeal.τ Cert.AdamwAttRelBiasIdeal.sig) → Buf (Elt Ideal) ℓ) : Prop :=
  True

def Pre_AdamwAttRelBiasRefIdeal (m : (ℓ : Loc Cert.AdamwAttRelBiasRefIdeal.nD Cert.AdamwAttRelBiasRefIdeal.τ Cert.AdamwAttRelBiasRefIdeal.sig) → Buf (Elt Ideal) ℓ) : Prop :=
  True

def Pre_AdamwFfW1 (m : (ℓ : Loc Cert.AdamwFfW1.nD Cert.AdamwFfW1.τ Cert.AdamwFfW1.sig) → Buf (Elt Bits) ℓ) : Prop :=
  True

def Pre_AdamwFfW1Ideal (m : (ℓ : Loc Cert.AdamwFfW1Ideal.nD Cert.AdamwFfW1Ideal.τ Cert.AdamwFfW1Ideal.sig) → Buf (Elt Ideal) ℓ) : Prop :=
  True

def Pre_AdamwFfW1RefIdeal (m : (ℓ : Loc Cert.AdamwFfW1RefIdeal.nD Cert.AdamwFfW1RefIdeal.τ Cert.AdamwFfW1RefIdeal.sig) → Buf (Elt Ideal) ℓ) : Prop :=
  True

def Pre_SumGrads (m : (ℓ : Loc Cert.SumGrads.nD Cert.SumGrads.τ Cert.SumGrads.sig) → Buf (Elt Bits) ℓ) : Prop :=
  True

def Pre_SumGradsIdeal (m : (ℓ : Loc Cert.SumGradsIdeal.nD Cert.SumGradsIdeal.τ Cert.SumGradsIdeal.sig) → Buf (Elt Ideal) ℓ) : Prop :=
  True

def Pre_SumGradsRefIdeal (m : (ℓ : Loc Cert.SumGradsRefIdeal.nD Cert.SumGradsRefIdeal.τ Cert.SumGradsRefIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdRefIdeal (m : (ℓ : Loc Cert.AdaBwdRefIdeal.nD Cert.AdaBwdRefIdeal.τ Cert.AdaBwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_GradFfW2 (m : (ℓ : Loc Cert.GradFfW2.nD Cert.GradFfW2.τ Cert.GradFfW2.sig) → Buf (Elt Bits) ℓ) : Prop :=
  True

def Pre_GradFfW2Ideal (m : (ℓ : Loc Cert.GradFfW2Ideal.nD Cert.GradFfW2Ideal.τ Cert.GradFfW2Ideal.sig) → Buf (Elt Ideal) ℓ) : Prop :=
  True

def Pre_GradFfW2RefIdeal (m : (ℓ : Loc Cert.GradFfW2RefIdeal.nD Cert.GradFfW2RefIdeal.τ Cert.GradFfW2RefIdeal.sig) → Buf (Elt Ideal) ℓ) : Prop :=
  True

def Pre_GradFfW1 (m : (ℓ : Loc Cert.GradFfW1.nD Cert.GradFfW1.τ Cert.GradFfW1.sig) → Buf (Elt Bits) ℓ) : Prop :=
  True

def Pre_GradFfW1Ideal (m : (ℓ : Loc Cert.GradFfW1Ideal.nD Cert.GradFfW1Ideal.τ Cert.GradFfW1Ideal.sig) → Buf (Elt Ideal) ℓ) : Prop :=
  True

def Pre_GradFfW1RefIdeal (m : (ℓ : Loc Cert.GradFfW1RefIdeal.nD Cert.GradFfW1RefIdeal.τ Cert.GradFfW1RefIdeal.sig) → Buf (Elt Ideal) ℓ) : Prop :=
  True

def Pre_GradGlaWOut (m : (ℓ : Loc Cert.GradGlaWOut.nD Cert.GradGlaWOut.τ Cert.GradGlaWOut.sig) → Buf (Elt Bits) ℓ) : Prop :=
  True

def Pre_GradGlaWOutIdeal (m : (ℓ : Loc Cert.GradGlaWOutIdeal.nD Cert.GradGlaWOutIdeal.τ Cert.GradGlaWOutIdeal.sig) → Buf (Elt Ideal) ℓ) : Prop :=
  True

def Pre_GradGlaWOutRefIdeal (m : (ℓ : Loc Cert.GradGlaWOutRefIdeal.nD Cert.GradGlaWOutRefIdeal.τ Cert.GradGlaWOutRefIdeal.sig) → Buf (Elt Ideal) ℓ) : Prop :=
  True

def Pre_GradGlaWIn (m : (ℓ : Loc Cert.GradGlaWIn.nD Cert.GradGlaWIn.τ Cert.GradGlaWIn.sig) → Buf (Elt Bits) ℓ) : Prop :=
  True

def Pre_GradGlaWInIdeal (m : (ℓ : Loc Cert.GradGlaWInIdeal.nD Cert.GradGlaWInIdeal.τ Cert.GradGlaWInIdeal.sig) → Buf (Elt Ideal) ℓ) : Prop :=
  True

def Pre_GradGlaWInRefIdeal (m : (ℓ : Loc Cert.GradGlaWInRefIdeal.nD Cert.GradGlaWInRefIdeal.τ Cert.GradGlaWInRefIdeal.sig) → Buf (Elt Ideal) ℓ) : Prop :=
  True

def Pre_GradAttWIn (m : (ℓ : Loc Cert.GradAttWIn.nD Cert.GradAttWIn.τ Cert.GradAttWIn.sig) → Buf (Elt Bits) ℓ) : Prop :=
  True

def Pre_GradAttWInIdeal (m : (ℓ : Loc Cert.GradAttWInIdeal.nD Cert.GradAttWInIdeal.τ Cert.GradAttWInIdeal.sig) → Buf (Elt Ideal) ℓ) : Prop :=
  True

def Pre_GradAttWInRefIdeal (m : (ℓ : Loc Cert.GradAttWInRefIdeal.nD Cert.GradAttWInRefIdeal.τ Cert.GradAttWInRefIdeal.sig) → Buf (Elt Ideal) ℓ) : Prop :=
  True

def Pre_DxGla (m : (ℓ : Loc Cert.DxGla.nD Cert.DxGla.τ Cert.DxGla.sig) → Buf (Elt Bits) ℓ) : Prop :=
  True

def Pre_DxGlaIdeal (m : (ℓ : Loc Cert.DxGlaIdeal.nD Cert.DxGlaIdeal.τ Cert.DxGlaIdeal.sig) → Buf (Elt Ideal) ℓ) : Prop :=
  True

def Pre_DxGlaRefIdeal (m : (ℓ : Loc Cert.DxGlaRefIdeal.nD Cert.DxGlaRefIdeal.τ Cert.DxGlaRefIdeal.sig) → Buf (Elt Ideal) ℓ) : Prop :=
  True

def Pre_DxAtt (m : (ℓ : Loc Cert.DxAtt.nD Cert.DxAtt.τ Cert.DxAtt.sig) → Buf (Elt Bits) ℓ) : Prop :=
  True

def Pre_DxAttIdeal (m : (ℓ : Loc Cert.DxAttIdeal.nD Cert.DxAttIdeal.τ Cert.DxAttIdeal.sig) → Buf (Elt Ideal) ℓ) : Prop :=
  True

def Pre_DxAttRefIdeal (m : (ℓ : Loc Cert.DxAttRefIdeal.nD Cert.DxAttRefIdeal.τ Cert.DxAttRefIdeal.sig) → Buf (Elt Ideal) ℓ) : Prop :=
  True

def Pre_DxFf (m : (ℓ : Loc Cert.DxFf.nD Cert.DxFf.τ Cert.DxFf.sig) → Buf (Elt Bits) ℓ) : Prop :=
  True

def Pre_DxFfIdeal (m : (ℓ : Loc Cert.DxFfIdeal.nD Cert.DxFfIdeal.τ Cert.DxFfIdeal.sig) → Buf (Elt Ideal) ℓ) : Prop :=
  True

def Pre_DxFfRefIdeal (m : (ℓ : Loc Cert.DxFfRefIdeal.nD Cert.DxFfRefIdeal.τ Cert.DxFfRefIdeal.sig) → Buf (Elt Ideal) ℓ) : Prop :=
  True

def Pre_Silu (m : (ℓ : Loc Cert.Silu.nD Cert.Silu.τ Cert.Silu.sig) → Buf (Elt Bits) ℓ) : Prop :=
  True

def Pre_SiluIdeal (m : (ℓ : Loc Cert.SiluIdeal.nD Cert.SiluIdeal.τ Cert.SiluIdeal.sig) → Buf (Elt Ideal) ℓ) : Prop :=
  True

def Pre_SiluRefIdeal (m : (ℓ : Loc Cert.SiluRefIdeal.nD Cert.SiluRefIdeal.τ Cert.SiluRefIdeal.sig) → Buf (Elt Ideal) ℓ) : Prop :=
  True

def Pre_Modulate (m : (ℓ : Loc Cert.Modulate.nD Cert.Modulate.τ Cert.Modulate.sig) → Buf (Elt Bits) ℓ) : Prop :=
  True

def Pre_ModulateIdeal (m : (ℓ : Loc Cert.ModulateIdeal.nD Cert.ModulateIdeal.τ Cert.ModulateIdeal.sig) → Buf (Elt Ideal) ℓ) : Prop :=
  True

def Pre_ModulateRefIdeal (m : (ℓ : Loc Cert.ModulateRefIdeal.nD Cert.ModulateRefIdeal.τ Cert.ModulateRefIdeal.sig) → Buf (Elt Ideal) ℓ) : Prop :=
  True

def Pre_ColSum (m : (ℓ : Loc Cert.ColSum.nD Cert.ColSum.τ Cert.ColSum.sig) → Buf (Elt Bits) ℓ) : Prop :=
  True

def Pre_ColSumIdeal (m : (ℓ : Loc Cert.ColSumIdeal.nD Cert.ColSumIdeal.τ Cert.ColSumIdeal.sig) → Buf (Elt Ideal) ℓ) : Prop :=
  True

def Pre_ColSumRefIdeal (m : (ℓ : Loc Cert.ColSumRefIdeal.nD Cert.ColSumRefIdeal.τ Cert.ColSumRefIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def Pre_GlaIn (m : (ℓ : Loc Cert.GlaIn.nD Cert.GlaIn.τ Cert.GlaIn.sig) → Buf (Elt Bits) ℓ) : Prop :=
  True

def Pre_GlaInIdeal (m : (ℓ : Loc Cert.GlaInIdeal.nD Cert.GlaInIdeal.τ Cert.GlaInIdeal.sig) → Buf (Elt Ideal) ℓ) : Prop :=
  True

def Pre_GlaInRefIdeal (m : (ℓ : Loc Cert.GlaInRefIdeal.nD Cert.GlaInRefIdeal.τ Cert.GlaInRefIdeal.sig) → Buf (Elt Ideal) ℓ) : Prop :=
  True

def Pre_GlaDz (m : (ℓ : Loc Cert.GlaDz.nD Cert.GlaDz.τ Cert.GlaDz.sig) → Buf (Elt Bits) ℓ) : Prop :=
  True

def Pre_GlaDzIdeal (m : (ℓ : Loc Cert.GlaDzIdeal.nD Cert.GlaDzIdeal.τ Cert.GlaDzIdeal.sig) → Buf (Elt Ideal) ℓ) : Prop :=
  True

def Pre_GlaDzRefIdeal (m : (ℓ : Loc Cert.GlaDzRefIdeal.nD Cert.GlaDzRefIdeal.τ Cert.GlaDzRefIdeal.sig) → Buf (Elt Ideal) ℓ) : Prop :=
  True

def Pre_AttIn (m : (ℓ : Loc Cert.AttIn.nD Cert.AttIn.τ Cert.AttIn.sig) → Buf (Elt Bits) ℓ) : Prop :=
  True

def Pre_AttInIdeal (m : (ℓ : Loc Cert.AttInIdeal.nD Cert.AttInIdeal.τ Cert.AttInIdeal.sig) → Buf (Elt Ideal) ℓ) : Prop :=
  True

def Pre_AttInRefIdeal (m : (ℓ : Loc Cert.AttInRefIdeal.nD Cert.AttInRefIdeal.τ Cert.AttInRefIdeal.sig) → Buf (Elt Ideal) ℓ) : Prop :=
  True

def Pre_FfUp (m : (ℓ : Loc Cert.FfUp.nD Cert.FfUp.τ Cert.FfUp.sig) → Buf (Elt Bits) ℓ) : Prop :=
  True

def Pre_FfUpIdeal (m : (ℓ : Loc Cert.FfUpIdeal.nD Cert.FfUpIdeal.τ Cert.FfUpIdeal.sig) → Buf (Elt Ideal) ℓ) : Prop :=
  True

def Pre_FfUpRefIdeal (m : (ℓ : Loc Cert.FfUpRefIdeal.nD Cert.FfUpRefIdeal.τ Cert.FfUpRefIdeal.sig) → Buf (Elt Ideal) ℓ) : Prop :=
  True

def Pre_FfDn (m : (ℓ : Loc Cert.FfDn.nD Cert.FfDn.τ Cert.FfDn.sig) → Buf (Elt Bits) ℓ) : Prop :=
  True

def Pre_FfDnIdeal (m : (ℓ : Loc Cert.FfDnIdeal.nD Cert.FfDnIdeal.τ Cert.FfDnIdeal.sig) → Buf (Elt Ideal) ℓ) : Prop :=
  True

def Pre_FfDnRefIdeal (m : (ℓ : Loc Cert.FfDnRefIdeal.nD Cert.FfDnRefIdeal.τ Cert.FfDnRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_FfOut (m : (ℓ : Loc Cert.FfOut.nD Cert.FfOut.τ Cert.FfOut.sig) → Buf (Elt Bits) ℓ) : Prop :=
  True

def Pre_FfOutIdeal (m : (ℓ : Loc Cert.FfOutIdeal.nD Cert.FfOutIdeal.τ Cert.FfOutIdeal.sig) → Buf (Elt Ideal) ℓ) : Prop :=
  True

def Pre_FfOutRefIdeal (m : (ℓ : Loc Cert.FfOutRefIdeal.nD Cert.FfOutRefIdeal.τ Cert.FfOutRefIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdRefIdeal (m : (ℓ : Loc Cert.LnBwdRefIdeal.nD Cert.LnBwdRefIdeal.τ Cert.LnBwdRefIdeal.sig) → Buf (Elt Ideal) ℓ) : Prop :=
  True

def Pre_Diag (m : (ℓ : Loc Cert.Diag.nD Cert.Diag.τ Cert.Diag.sig) → Buf (Elt Bits) ℓ) : Prop :=
  True

def Pre_DiagIdeal (m : (ℓ : Loc Cert.DiagIdeal.nD Cert.DiagIdeal.τ Cert.DiagIdeal.sig) → Buf (Elt Ideal) ℓ) : Prop :=
  True

def Pre_DiagRefIdeal (m : (ℓ : Loc Cert.DiagRefIdeal.nD Cert.DiagRefIdeal.τ Cert.DiagRefIdeal.sig) → Buf (Elt Ideal) ℓ) : Prop :=
  True

def Pre_Bins (m : (ℓ : Loc Cert.Bins.nD Cert.Bins.τ Cert.Bins.sig) → Buf (Elt Bits) ℓ) : Prop :=
  True

def Pre_BinsIdeal (m : (ℓ : Loc Cert.BinsIdeal.nD Cert.BinsIdeal.τ Cert.BinsIdeal.sig) → Buf (Elt Ideal) ℓ) : Prop :=
  True

def Pre_BinsRefIdeal (m : (ℓ : Loc Cert.BinsRefIdeal.nD Cert.BinsRefIdeal.τ Cert.BinsRefIdeal.sig) → Buf (Elt Ideal) ℓ) : Prop :=
  True

def quiescent_Swap [hSwap : Cert.Swap.Facts] : Prop :=
  ∀ (m : (ℓ : Loc Cert.Swap.nD Cert.Swap.τ Cert.Swap.sig) → Buf (Elt Bits) ℓ) (g : Dev Cert.Swap.nD → PrngReg), Pre_Swap m →
    θ_run (Cert.Swap.defs (F := Bits)) (onTc (τ := Cert.Swap.τ) (Cert.Swap.main (F := Bits))) ⟨m, fun _ => 0, g⟩ (fun r => (∀ c : Dev Cert.Swap.nD,
      r.2.mem ((c.tc : Thread Cert.Swap.nD Cert.Swap.τ).loc Cert.Swap.main_arg0) = m ((c.tc : Thread Cert.Swap.nD Cert.Swap.τ).loc Cert.Swap.main_arg0))
      ∧ r.2.sem = fun _ => 0)

def quiescent_SwapIdeal [hSwapIdeal : Cert.SwapIdeal.Facts] : Prop :=
  ∀ (m : (ℓ : Loc Cert.SwapIdeal.nD Cert.SwapIdeal.τ Cert.SwapIdeal.sig) → Buf (Elt Ideal) ℓ) (g : Dev Cert.SwapIdeal.nD → PrngReg), Pre_SwapIdeal m →
    θ_run (Cert.SwapIdeal.defs (F := Ideal)) (onTc (τ := Cert.SwapIdeal.τ) (Cert.SwapIdeal.main (F := Ideal))) ⟨m, fun _ => 0, g⟩ (fun r => (∀ c : Dev Cert.SwapIdeal.nD,
      r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ r.2.sem = fun _ => 0)

def quiescent_SwapRefIdeal [hSwapRefIdeal : Cert.SwapRefIdeal.Facts] : Prop :=
  ∀ (m : (ℓ : Loc Cert.SwapRefIdeal.nD Cert.SwapRefIdeal.τ Cert.SwapRefIdeal.sig) → Buf (Elt Ideal) ℓ) (g : Dev Cert.SwapRefIdeal.nD → PrngReg), Pre_SwapRefIdeal m →
    θ_run (Cert.SwapRefIdeal.defs (F := Ideal)) (onTc (τ := Cert.SwapRefIdeal.τ) (Cert.SwapRefIdeal.main (F := Ideal))) ⟨m, fun _ => 0, g⟩ (fun r => (∀ c : Dev Cert.SwapRefIdeal.nD,
      r.2.mem ((c.tc : Thread Cert.SwapRefIdeal.nD Cert.SwapRefIdeal.τ).loc Cert.SwapRefIdeal.main_arg0) = m ((c.tc : Thread Cert.SwapRefIdeal.nD Cert.SwapRefIdeal.τ).loc Cert.SwapRefIdeal.main_arg0))
      ∧ r.2.sem = fun _ => 0)

def quiescent_SwapRef [hSwapRef : Cert.SwapRef.Facts] : Prop :=
  ∀ (m : (ℓ : Loc Cert.SwapRef.nD Cert.SwapRef.τ Cert.SwapRef.sig) → Buf (Elt Bits) ℓ) (g : Dev Cert.SwapRef.nD → PrngReg), Pre_SwapRef m →
    θ_run (Cert.SwapRef.defs (F := Bits)) (onTc (τ := Cert.SwapRef.τ) (Cert.SwapRef.main (F := Bits))) ⟨m, fun _ => 0, g⟩ (fun r => (∀ c : Dev Cert.SwapRef.nD,
      r.2.mem ((c.tc : Thread Cert.SwapRef.nD Cert.SwapRef.τ).loc Cert.SwapRef.main_arg0) = m ((c.tc : Thread Cert.SwapRef.nD Cert.SwapRef.τ).loc Cert.SwapRef.main_arg0))
      ∧ r.2.sem = fun _ => 0)

def quiescent_Exchange [hExchange : Cert.Exchange.Facts] : Prop :=
  ∀ (m : (ℓ : Loc Cert.Exchange.nD Cert.Exchange.τ Cert.Exchange.sig) → Buf (Elt Bits) ℓ) (g : Dev Cert.Exchange.nD → PrngReg), Pre_Exchange m →
    θ_run (Cert.Exchange.defs (F := Bits)) (onTc (τ := Cert.Exchange.τ) (Cert.Exchange.main (F := Bits))) ⟨m, fun _ => 0, g⟩ (fun r => (∀ c : Dev Cert.Exchange.nD,
      r.2.mem ((c.tc : Thread Cert.Exchange.nD Cert.Exchange.τ).loc Cert.Exchange.main_arg0) = m ((c.tc : Thread Cert.Exchange.nD Cert.Exchange.τ).loc Cert.Exchange.main_arg0))
      ∧ r.2.sem = fun _ => 0)

def quiescent_ExchangeIdeal [hExchangeIdeal : Cert.ExchangeIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg), Pre_ExchangeIdeal m →
    θ_run (Cert.ExchangeIdeal.defs (F := Ideal)) (onTc (τ := Cert.ExchangeIdeal.τ) (Cert.ExchangeIdeal.main (F := Ideal))) ⟨m, fun _ => 0, g⟩ (fun r => (∀ c : Dev Cert.ExchangeIdeal.nD,
      r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0))
      ∧ r.2.sem = fun _ => 0)

def quiescent_ExchangeRefIdeal [hExchangeRefIdeal : Cert.ExchangeRefIdeal.Facts] : Prop :=
  ∀ (m : (ℓ : Loc Cert.ExchangeRefIdeal.nD Cert.ExchangeRefIdeal.τ Cert.ExchangeRefIdeal.sig) → Buf (Elt Ideal) ℓ) (g : Dev Cert.ExchangeRefIdeal.nD → PrngReg), Pre_ExchangeRefIdeal m →
    θ_run (Cert.ExchangeRefIdeal.defs (F := Ideal)) (onTc (τ := Cert.ExchangeRefIdeal.τ) (Cert.ExchangeRefIdeal.main (F := Ideal))) ⟨m, fun _ => 0, g⟩ (fun r => (∀ c : Dev Cert.ExchangeRefIdeal.nD,
      r.2.mem ((c.tc : Thread Cert.ExchangeRefIdeal.nD Cert.ExchangeRefIdeal.τ).loc Cert.ExchangeRefIdeal.main_arg0) = m ((c.tc : Thread Cert.ExchangeRefIdeal.nD Cert.ExchangeRefIdeal.τ).loc Cert.ExchangeRefIdeal.main_arg0))
      ∧ r.2.sem = fun _ => 0)

def quiescent_ExchangeRef [hExchangeRef : Cert.ExchangeRef.Facts] : Prop :=
  ∀ (m : (ℓ : Loc Cert.ExchangeRef.nD Cert.ExchangeRef.τ Cert.ExchangeRef.sig) → Buf (Elt Bits) ℓ) (g : Dev Cert.ExchangeRef.nD → PrngReg), Pre_ExchangeRef m →
    θ_run (Cert.ExchangeRef.defs (F := Bits)) (onTc (τ := Cert.ExchangeRef.τ) (Cert.ExchangeRef.main (F := Bits))) ⟨m, fun _ => 0, g⟩ (fun r => (∀ c : Dev Cert.ExchangeRef.nD,
      r.2.mem ((c.tc : Thread Cert.ExchangeRef.nD Cert.ExchangeRef.τ).loc Cert.ExchangeRef.main_arg0) = m ((c.tc : Thread Cert.ExchangeRef.nD Cert.ExchangeRef.τ).loc Cert.ExchangeRef.main_arg0))
      ∧ r.2.sem = fun _ => 0)

def quiescent_Join [hJoin : Cert.Join.Facts] : Prop :=
  ∀ (m : (ℓ : Loc Cert.Join.nD Cert.Join.τ Cert.Join.sig) → Buf (Elt Bits) ℓ) (g : Dev Cert.Join.nD → PrngReg), Pre_Join m →
    θ_run (Cert.Join.defs (F := Bits)) (onTc (τ := Cert.Join.τ) (Cert.Join.main (F := Bits))) ⟨m, fun _ => 0, g⟩ (fun r => (∀ c : Dev Cert.Join.nD,
      r.2.mem ((c.tc : Thread Cert.Join.nD Cert.Join.τ).loc Cert.Join.main_arg0) = m ((c.tc : Thread Cert.Join.nD Cert.Join.τ).loc Cert.Join.main_arg0))
      ∧ r.2.sem = fun _ => 0)

def quiescent_JoinIdeal [hJoinIdeal : Cert.JoinIdeal.Facts] : Prop :=
  ∀ (m : (ℓ : Loc Cert.JoinIdeal.nD Cert.JoinIdeal.τ Cert.JoinIdeal.sig) → Buf (Elt Ideal) ℓ) (g : Dev Cert.JoinIdeal.nD → PrngReg), Pre_JoinIdeal m →
    θ_run (Cert.JoinIdeal.defs (F := Ideal)) (onTc (τ := Cert.JoinIdeal.τ) (Cert.JoinIdeal.main (F := Ideal))) ⟨m, fun _ => 0, g⟩ (fun r => (∀ c : Dev Cert.JoinIdeal.nD,
      r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0))
      ∧ r.2.sem = fun _ => 0)

def quiescent_JoinRefIdeal [hJoinRefIdeal : Cert.JoinRefIdeal.Facts] : Prop :=
  ∀ (m : (ℓ : Loc Cert.JoinRefIdeal.nD Cert.JoinRefIdeal.τ Cert.JoinRefIdeal.sig) → Buf (Elt Ideal) ℓ) (g : Dev Cert.JoinRefIdeal.nD → PrngReg), Pre_JoinRefIdeal m →
    θ_run (Cert.JoinRefIdeal.defs (F := Ideal)) (onTc (τ := Cert.JoinRefIdeal.τ) (Cert.JoinRefIdeal.main (F := Ideal))) ⟨m, fun _ => 0, g⟩ (fun r => (∀ c : Dev Cert.JoinRefIdeal.nD,
      r.2.mem ((c.tc : Thread Cert.JoinRefIdeal.nD Cert.JoinRefIdeal.τ).loc Cert.JoinRefIdeal.main_arg0) = m ((c.tc : Thread Cert.JoinRefIdeal.nD Cert.JoinRefIdeal.τ).loc Cert.JoinRefIdeal.main_arg0))
      ∧ r.2.sem = fun _ => 0)

def quiescent_JoinRef [hJoinRef : Cert.JoinRef.Facts] : Prop :=
  ∀ (m : (ℓ : Loc Cert.JoinRef.nD Cert.JoinRef.τ Cert.JoinRef.sig) → Buf (Elt Bits) ℓ) (g : Dev Cert.JoinRef.nD → PrngReg), Pre_JoinRef m →
    θ_run (Cert.JoinRef.defs (F := Bits)) (onTc (τ := Cert.JoinRef.τ) (Cert.JoinRef.main (F := Bits))) ⟨m, fun _ => 0, g⟩ (fun r => (∀ c : Dev Cert.JoinRef.nD,
      r.2.mem ((c.tc : Thread Cert.JoinRef.nD Cert.JoinRef.τ).loc Cert.JoinRef.main_arg0) = m ((c.tc : Thread Cert.JoinRef.nD Cert.JoinRef.τ).loc Cert.JoinRef.main_arg0))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0))
      ∧ r.2.sem = fun _ => 0)

def quiescent_AdamwWAda [hAdamwWAda : Cert.AdamwWAda.Facts] : Prop :=
  ∀ (m : (ℓ : Loc Cert.AdamwWAda.nD Cert.AdamwWAda.τ Cert.AdamwWAda.sig) → Buf (Elt Bits) ℓ) (g : Dev Cert.AdamwWAda.nD → PrngReg), Pre_AdamwWAda m →
    θ_run (Cert.AdamwWAda.defs (F := Bits)) (onTc (τ := Cert.AdamwWAda.τ) (Cert.AdamwWAda.main (F := Bits))) ⟨m, fun _ => 0, g⟩ (fun r => (∀ c : Dev Cert.AdamwWAda.nD,
      r.2.mem ((c.tc : Thread Cert.AdamwWAda.nD Cert.AdamwWAda.τ).loc Cert.AdamwWAda.main_arg0) = m ((c.tc : Thread Cert.AdamwWAda.nD Cert.AdamwWAda.τ).loc Cert.AdamwWAda.main_arg0)
      ∧ r.2.mem ((c.tc : Thread Cert.AdamwWAda.nD Cert.AdamwWAda.τ).loc Cert.AdamwWAda.main_arg1) = m ((c.tc : Thread Cert.AdamwWAda.nD Cert.AdamwWAda.τ).loc Cert.AdamwWAda.main_arg1)
      ∧ r.2.mem ((c.tc : Thread Cert.AdamwWAda.nD Cert.AdamwWAda.τ).loc Cert.AdamwWAda.main_arg2) = m ((c.tc : Thread Cert.AdamwWAda.nD Cert.AdamwWAda.τ).loc Cert.AdamwWAda.main_arg2)
      ∧ r.2.mem ((c.tc : Thread Cert.AdamwWAda.nD Cert.AdamwWAda.τ).loc Cert.AdamwWAda.main_arg3) = m ((c.tc : Thread Cert.AdamwWAda.nD Cert.AdamwWAda.τ).loc Cert.AdamwWAda.main_arg3))
      ∧ r.2.sem = fun _ => 0)

def quiescent_AdamwWAdaIdeal [hAdamwWAdaIdeal : Cert.AdamwWAdaIdeal.Facts] : Prop :=
  ∀ (m : (ℓ : Loc Cert.AdamwWAdaIdeal.nD Cert.AdamwWAdaIdeal.τ Cert.AdamwWAdaIdeal.sig) → Buf (Elt Ideal) ℓ) (g : Dev Cert.AdamwWAdaIdeal.nD → PrngReg), Pre_AdamwWAdaIdeal m →
    θ_run (Cert.AdamwWAdaIdeal.defs (F := Ideal)) (onTc (τ := Cert.AdamwWAdaIdeal.τ) (Cert.AdamwWAdaIdeal.main (F := Ideal))) ⟨m, fun _ => 0, g⟩ (fun r => (∀ c : Dev Cert.AdamwWAdaIdeal.nD,
      r.2.mem ((c.tc : Thread Cert.AdamwWAdaIdeal.nD Cert.AdamwWAdaIdeal.τ).loc Cert.AdamwWAdaIdeal.main_arg0) = m ((c.tc : Thread Cert.AdamwWAdaIdeal.nD Cert.AdamwWAdaIdeal.τ).loc Cert.AdamwWAdaIdeal.main_arg0)
      ∧ r.2.mem ((c.tc : Thread Cert.AdamwWAdaIdeal.nD Cert.AdamwWAdaIdeal.τ).loc Cert.AdamwWAdaIdeal.main_arg1) = m ((c.tc : Thread Cert.AdamwWAdaIdeal.nD Cert.AdamwWAdaIdeal.τ).loc Cert.AdamwWAdaIdeal.main_arg1)
      ∧ r.2.mem ((c.tc : Thread Cert.AdamwWAdaIdeal.nD Cert.AdamwWAdaIdeal.τ).loc Cert.AdamwWAdaIdeal.main_arg2) = m ((c.tc : Thread Cert.AdamwWAdaIdeal.nD Cert.AdamwWAdaIdeal.τ).loc Cert.AdamwWAdaIdeal.main_arg2)
      ∧ r.2.mem ((c.tc : Thread Cert.AdamwWAdaIdeal.nD Cert.AdamwWAdaIdeal.τ).loc Cert.AdamwWAdaIdeal.main_arg3) = m ((c.tc : Thread Cert.AdamwWAdaIdeal.nD Cert.AdamwWAdaIdeal.τ).loc Cert.AdamwWAdaIdeal.main_arg3))
      ∧ r.2.sem = fun _ => 0)

def quiescent_AdamwWAdaRefIdeal [hAdamwWAdaRefIdeal : Cert.AdamwWAdaRefIdeal.Facts] : Prop :=
  ∀ (m : (ℓ : Loc Cert.AdamwWAdaRefIdeal.nD Cert.AdamwWAdaRefIdeal.τ Cert.AdamwWAdaRefIdeal.sig) → Buf (Elt Ideal) ℓ) (g : Dev Cert.AdamwWAdaRefIdeal.nD → PrngReg), Pre_AdamwWAdaRefIdeal m →
    θ_run (Cert.AdamwWAdaRefIdeal.defs (F := Ideal)) (onTc (τ := Cert.AdamwWAdaRefIdeal.τ) (Cert.AdamwWAdaRefIdeal.main (F := Ideal))) ⟨m, fun _ => 0, g⟩ (fun r => (∀ c : Dev Cert.AdamwWAdaRefIdeal.nD,
      r.2.mem ((c.tc : Thread Cert.AdamwWAdaRefIdeal.nD Cert.AdamwWAdaRefIdeal.τ).loc Cert.AdamwWAdaRefIdeal.main_arg0) = m ((c.tc : Thread Cert.AdamwWAdaRefIdeal.nD Cert.AdamwWAdaRefIdeal.τ).loc Cert.AdamwWAdaRefIdeal.main_arg0)
      ∧ r.2.mem ((c.tc : Thread Cert.AdamwWAdaRefIdeal.nD Cert.AdamwWAdaRefIdeal.τ).loc Cert.AdamwWAdaRefIdeal.main_arg1) = m ((c.tc : Thread Cert.AdamwWAdaRefIdeal.nD Cert.AdamwWAdaRefIdeal.τ).loc Cert.AdamwWAdaRefIdeal.main_arg1)
      ∧ r.2.mem ((c.tc : Thread Cert.AdamwWAdaRefIdeal.nD Cert.AdamwWAdaRefIdeal.τ).loc Cert.AdamwWAdaRefIdeal.main_arg2) = m ((c.tc : Thread Cert.AdamwWAdaRefIdeal.nD Cert.AdamwWAdaRefIdeal.τ).loc Cert.AdamwWAdaRefIdeal.main_arg2)
      ∧ r.2.mem ((c.tc : Thread Cert.AdamwWAdaRefIdeal.nD Cert.AdamwWAdaRefIdeal.τ).loc Cert.AdamwWAdaRefIdeal.main_arg3) = m ((c.tc : Thread Cert.AdamwWAdaRefIdeal.nD Cert.AdamwWAdaRefIdeal.τ).loc Cert.AdamwWAdaRefIdeal.main_arg3))
      ∧ r.2.sem = fun _ => 0)

def quiescent_AdamwBAda [hAdamwBAda : Cert.AdamwBAda.Facts] : Prop :=
  ∀ (m : (ℓ : Loc Cert.AdamwBAda.nD Cert.AdamwBAda.τ Cert.AdamwBAda.sig) → Buf (Elt Bits) ℓ) (g : Dev Cert.AdamwBAda.nD → PrngReg), Pre_AdamwBAda m →
    θ_run (Cert.AdamwBAda.defs (F := Bits)) (onTc (τ := Cert.AdamwBAda.τ) (Cert.AdamwBAda.main (F := Bits))) ⟨m, fun _ => 0, g⟩ (fun r => (∀ c : Dev Cert.AdamwBAda.nD,
      r.2.mem ((c.tc : Thread Cert.AdamwBAda.nD Cert.AdamwBAda.τ).loc Cert.AdamwBAda.main_arg0) = m ((c.tc : Thread Cert.AdamwBAda.nD Cert.AdamwBAda.τ).loc Cert.AdamwBAda.main_arg0)
      ∧ r.2.mem ((c.tc : Thread Cert.AdamwBAda.nD Cert.AdamwBAda.τ).loc Cert.AdamwBAda.main_arg1) = m ((c.tc : Thread Cert.AdamwBAda.nD Cert.AdamwBAda.τ).loc Cert.AdamwBAda.main_arg1)
      ∧ r.2.mem ((c.tc : Thread Cert.AdamwBAda.nD Cert.AdamwBAda.τ).loc Cert.AdamwBAda.main_arg2) = m ((c.tc : Thread Cert.AdamwBAda.nD Cert.AdamwBAda.τ).loc Cert.AdamwBAda.main_arg2)
      ∧ r.2.mem ((c.tc : Thread Cert.AdamwBAda.nD Cert.AdamwBAda.τ).loc Cert.AdamwBAda.main_arg3) = m ((c.tc : Thread Cert.AdamwBAda.nD Cert.AdamwBAda.τ).loc Cert.AdamwBAda.main_arg3))
      ∧ r.2.sem = fun _ => 0)

def quiescent_AdamwBAdaIdeal [hAdamwBAdaIdeal : Cert.AdamwBAdaIdeal.Facts] : Prop :=
  ∀ (m : (ℓ : Loc Cert.AdamwBAdaIdeal.nD Cert.AdamwBAdaIdeal.τ Cert.AdamwBAdaIdeal.sig) → Buf (Elt Ideal) ℓ) (g : Dev Cert.AdamwBAdaIdeal.nD → PrngReg), Pre_AdamwBAdaIdeal m →
    θ_run (Cert.AdamwBAdaIdeal.defs (F := Ideal)) (onTc (τ := Cert.AdamwBAdaIdeal.τ) (Cert.AdamwBAdaIdeal.main (F := Ideal))) ⟨m, fun _ => 0, g⟩ (fun r => (∀ c : Dev Cert.AdamwBAdaIdeal.nD,
      r.2.mem ((c.tc : Thread Cert.AdamwBAdaIdeal.nD Cert.AdamwBAdaIdeal.τ).loc Cert.AdamwBAdaIdeal.main_arg0) = m ((c.tc : Thread Cert.AdamwBAdaIdeal.nD Cert.AdamwBAdaIdeal.τ).loc Cert.AdamwBAdaIdeal.main_arg0)
      ∧ r.2.mem ((c.tc : Thread Cert.AdamwBAdaIdeal.nD Cert.AdamwBAdaIdeal.τ).loc Cert.AdamwBAdaIdeal.main_arg1) = m ((c.tc : Thread Cert.AdamwBAdaIdeal.nD Cert.AdamwBAdaIdeal.τ).loc Cert.AdamwBAdaIdeal.main_arg1)
      ∧ r.2.mem ((c.tc : Thread Cert.AdamwBAdaIdeal.nD Cert.AdamwBAdaIdeal.τ).loc Cert.AdamwBAdaIdeal.main_arg2) = m ((c.tc : Thread Cert.AdamwBAdaIdeal.nD Cert.AdamwBAdaIdeal.τ).loc Cert.AdamwBAdaIdeal.main_arg2)
      ∧ r.2.mem ((c.tc : Thread Cert.AdamwBAdaIdeal.nD Cert.AdamwBAdaIdeal.τ).loc Cert.AdamwBAdaIdeal.main_arg3) = m ((c.tc : Thread Cert.AdamwBAdaIdeal.nD Cert.AdamwBAdaIdeal.τ).loc Cert.AdamwBAdaIdeal.main_arg3))
      ∧ r.2.sem = fun _ => 0)

def quiescent_AdamwBAdaRefIdeal [hAdamwBAdaRefIdeal : Cert.AdamwBAdaRefIdeal.Facts] : Prop :=
  ∀ (m : (ℓ : Loc Cert.AdamwBAdaRefIdeal.nD Cert.AdamwBAdaRefIdeal.τ Cert.AdamwBAdaRefIdeal.sig) → Buf (Elt Ideal) ℓ) (g : Dev Cert.AdamwBAdaRefIdeal.nD → PrngReg), Pre_AdamwBAdaRefIdeal m →
    θ_run (Cert.AdamwBAdaRefIdeal.defs (F := Ideal)) (onTc (τ := Cert.AdamwBAdaRefIdeal.τ) (Cert.AdamwBAdaRefIdeal.main (F := Ideal))) ⟨m, fun _ => 0, g⟩ (fun r => (∀ c : Dev Cert.AdamwBAdaRefIdeal.nD,
      r.2.mem ((c.tc : Thread Cert.AdamwBAdaRefIdeal.nD Cert.AdamwBAdaRefIdeal.τ).loc Cert.AdamwBAdaRefIdeal.main_arg0) = m ((c.tc : Thread Cert.AdamwBAdaRefIdeal.nD Cert.AdamwBAdaRefIdeal.τ).loc Cert.AdamwBAdaRefIdeal.main_arg0)
      ∧ r.2.mem ((c.tc : Thread Cert.AdamwBAdaRefIdeal.nD Cert.AdamwBAdaRefIdeal.τ).loc Cert.AdamwBAdaRefIdeal.main_arg1) = m ((c.tc : Thread Cert.AdamwBAdaRefIdeal.nD Cert.AdamwBAdaRefIdeal.τ).loc Cert.AdamwBAdaRefIdeal.main_arg1)
      ∧ r.2.mem ((c.tc : Thread Cert.AdamwBAdaRefIdeal.nD Cert.AdamwBAdaRefIdeal.τ).loc Cert.AdamwBAdaRefIdeal.main_arg2) = m ((c.tc : Thread Cert.AdamwBAdaRefIdeal.nD Cert.AdamwBAdaRefIdeal.τ).loc Cert.AdamwBAdaRefIdeal.main_arg2)
      ∧ r.2.mem ((c.tc : Thread Cert.AdamwBAdaRefIdeal.nD Cert.AdamwBAdaRefIdeal.τ).loc Cert.AdamwBAdaRefIdeal.main_arg3) = m ((c.tc : Thread Cert.AdamwBAdaRefIdeal.nD Cert.AdamwBAdaRefIdeal.τ).loc Cert.AdamwBAdaRefIdeal.main_arg3))
      ∧ r.2.sem = fun _ => 0)

def quiescent_AdamwLnG [hAdamwLnG : Cert.AdamwLnG.Facts] : Prop :=
  ∀ (m : (ℓ : Loc Cert.AdamwLnG.nD Cert.AdamwLnG.τ Cert.AdamwLnG.sig) → Buf (Elt Bits) ℓ) (g : Dev Cert.AdamwLnG.nD → PrngReg), Pre_AdamwLnG m →
    θ_run (Cert.AdamwLnG.defs (F := Bits)) (onTc (τ := Cert.AdamwLnG.τ) (Cert.AdamwLnG.main (F := Bits))) ⟨m, fun _ => 0, g⟩ (fun r => (∀ c : Dev Cert.AdamwLnG.nD,
      r.2.mem ((c.tc : Thread Cert.AdamwLnG.nD Cert.AdamwLnG.τ).loc Cert.AdamwLnG.main_arg0) = m ((c.tc : Thread Cert.AdamwLnG.nD Cert.AdamwLnG.τ).loc Cert.AdamwLnG.main_arg0)
      ∧ r.2.mem ((c.tc : Thread Cert.AdamwLnG.nD Cert.AdamwLnG.τ).loc Cert.AdamwLnG.main_arg1) = m ((c.tc : Thread Cert.AdamwLnG.nD Cert.AdamwLnG.τ).loc Cert.AdamwLnG.main_arg1)
      ∧ r.2.mem ((c.tc : Thread Cert.AdamwLnG.nD Cert.AdamwLnG.τ).loc Cert.AdamwLnG.main_arg2) = m ((c.tc : Thread Cert.AdamwLnG.nD Cert.AdamwLnG.τ).loc Cert.AdamwLnG.main_arg2)
      ∧ r.2.mem ((c.tc : Thread Cert.AdamwLnG.nD Cert.AdamwLnG.τ).loc Cert.AdamwLnG.main_arg3) = m ((c.tc : Thread Cert.AdamwLnG.nD Cert.AdamwLnG.τ).loc Cert.AdamwLnG.main_arg3))
      ∧ r.2.sem = fun _ => 0)

def quiescent_AdamwLnGIdeal [hAdamwLnGIdeal : Cert.AdamwLnGIdeal.Facts] : Prop :=
  ∀ (m : (ℓ : Loc Cert.AdamwLnGIdeal.nD Cert.AdamwLnGIdeal.τ Cert.AdamwLnGIdeal.sig) → Buf (Elt Ideal) ℓ) (g : Dev Cert.AdamwLnGIdeal.nD → PrngReg), Pre_AdamwLnGIdeal m →
    θ_run (Cert.AdamwLnGIdeal.defs (F := Ideal)) (onTc (τ := Cert.AdamwLnGIdeal.τ) (Cert.AdamwLnGIdeal.main (F := Ideal))) ⟨m, fun _ => 0, g⟩ (fun r => (∀ c : Dev Cert.AdamwLnGIdeal.nD,
      r.2.mem ((c.tc : Thread Cert.AdamwLnGIdeal.nD Cert.AdamwLnGIdeal.τ).loc Cert.AdamwLnGIdeal.main_arg0) = m ((c.tc : Thread Cert.AdamwLnGIdeal.nD Cert.AdamwLnGIdeal.τ).loc Cert.AdamwLnGIdeal.main_arg0)
      ∧ r.2.mem ((c.tc : Thread Cert.AdamwLnGIdeal.nD Cert.AdamwLnGIdeal.τ).loc Cert.AdamwLnGIdeal.main_arg1) = m ((c.tc : Thread Cert.AdamwLnGIdeal.nD Cert.AdamwLnGIdeal.τ).loc Cert.AdamwLnGIdeal.main_arg1)
      ∧ r.2.mem ((c.tc : Thread Cert.AdamwLnGIdeal.nD Cert.AdamwLnGIdeal.τ).loc Cert.AdamwLnGIdeal.main_arg2) = m ((c.tc : Thread Cert.AdamwLnGIdeal.nD Cert.AdamwLnGIdeal.τ).loc Cert.AdamwLnGIdeal.main_arg2)
      ∧ r.2.mem ((c.tc : Thread Cert.AdamwLnGIdeal.nD Cert.AdamwLnGIdeal.τ).loc Cert.AdamwLnGIdeal.main_arg3) = m ((c.tc : Thread Cert.AdamwLnGIdeal.nD Cert.AdamwLnGIdeal.τ).loc Cert.AdamwLnGIdeal.main_arg3))
      ∧ r.2.sem = fun _ => 0)

def quiescent_AdamwLnGRefIdeal [hAdamwLnGRefIdeal : Cert.AdamwLnGRefIdeal.Facts] : Prop :=
  ∀ (m : (ℓ : Loc Cert.AdamwLnGRefIdeal.nD Cert.AdamwLnGRefIdeal.τ Cert.AdamwLnGRefIdeal.sig) → Buf (Elt Ideal) ℓ) (g : Dev Cert.AdamwLnGRefIdeal.nD → PrngReg), Pre_AdamwLnGRefIdeal m →
    θ_run (Cert.AdamwLnGRefIdeal.defs (F := Ideal)) (onTc (τ := Cert.AdamwLnGRefIdeal.τ) (Cert.AdamwLnGRefIdeal.main (F := Ideal))) ⟨m, fun _ => 0, g⟩ (fun r => (∀ c : Dev Cert.AdamwLnGRefIdeal.nD,
      r.2.mem ((c.tc : Thread Cert.AdamwLnGRefIdeal.nD Cert.AdamwLnGRefIdeal.τ).loc Cert.AdamwLnGRefIdeal.main_arg0) = m ((c.tc : Thread Cert.AdamwLnGRefIdeal.nD Cert.AdamwLnGRefIdeal.τ).loc Cert.AdamwLnGRefIdeal.main_arg0)
      ∧ r.2.mem ((c.tc : Thread Cert.AdamwLnGRefIdeal.nD Cert.AdamwLnGRefIdeal.τ).loc Cert.AdamwLnGRefIdeal.main_arg1) = m ((c.tc : Thread Cert.AdamwLnGRefIdeal.nD Cert.AdamwLnGRefIdeal.τ).loc Cert.AdamwLnGRefIdeal.main_arg1)
      ∧ r.2.mem ((c.tc : Thread Cert.AdamwLnGRefIdeal.nD Cert.AdamwLnGRefIdeal.τ).loc Cert.AdamwLnGRefIdeal.main_arg2) = m ((c.tc : Thread Cert.AdamwLnGRefIdeal.nD Cert.AdamwLnGRefIdeal.τ).loc Cert.AdamwLnGRefIdeal.main_arg2)
      ∧ r.2.mem ((c.tc : Thread Cert.AdamwLnGRefIdeal.nD Cert.AdamwLnGRefIdeal.τ).loc Cert.AdamwLnGRefIdeal.main_arg3) = m ((c.tc : Thread Cert.AdamwLnGRefIdeal.nD Cert.AdamwLnGRefIdeal.τ).loc Cert.AdamwLnGRefIdeal.main_arg3))
      ∧ r.2.sem = fun _ => 0)

def quiescent_AdamwGlaWIn [hAdamwGlaWIn : Cert.AdamwGlaWIn.Facts] : Prop :=
  ∀ (m : (ℓ : Loc Cert.AdamwGlaWIn.nD Cert.AdamwGlaWIn.τ Cert.AdamwGlaWIn.sig) → Buf (Elt Bits) ℓ) (g : Dev Cert.AdamwGlaWIn.nD → PrngReg), Pre_AdamwGlaWIn m →
    θ_run (Cert.AdamwGlaWIn.defs (F := Bits)) (onTc (τ := Cert.AdamwGlaWIn.τ) (Cert.AdamwGlaWIn.main (F := Bits))) ⟨m, fun _ => 0, g⟩ (fun r => (∀ c : Dev Cert.AdamwGlaWIn.nD,
      r.2.mem ((c.tc : Thread Cert.AdamwGlaWIn.nD Cert.AdamwGlaWIn.τ).loc Cert.AdamwGlaWIn.main_arg0) = m ((c.tc : Thread Cert.AdamwGlaWIn.nD Cert.AdamwGlaWIn.τ).loc Cert.AdamwGlaWIn.main_arg0)
      ∧ r.2.mem ((c.tc : Thread Cert.AdamwGlaWIn.nD Cert.AdamwGlaWIn.τ).loc Cert.AdamwGlaWIn.main_arg1) = m ((c.tc : Thread Cert.AdamwGlaWIn.nD Cert.AdamwGlaWIn.τ).loc Cert.AdamwGlaWIn.main_arg1)
      ∧ r.2.mem ((c.tc : Thread Cert.AdamwGlaWIn.nD Cert.AdamwGlaWIn.τ).loc Cert.AdamwGlaWIn.main_arg2) = m ((c.tc : Thread Cert.AdamwGlaWIn.nD Cert.AdamwGlaWIn.τ).loc Cert.AdamwGlaWIn.main_arg2)
      ∧ r.2.mem ((c.tc : Thread Cert.AdamwGlaWIn.nD Cert.AdamwGlaWIn.τ).loc Cert.AdamwGlaWIn.main_arg3) = m ((c.tc : Thread Cert.AdamwGlaWIn.nD Cert.AdamwGlaWIn.τ).loc Cert.AdamwGlaWIn.main_arg3))
      ∧ r.2.sem = fun _ => 0)

def quiescent_AdamwGlaWInIdeal [hAdamwGlaWInIdeal : Cert.AdamwGlaWInIdeal.Facts] : Prop :=
  ∀ (m : (ℓ : Loc Cert.AdamwGlaWInIdeal.nD Cert.AdamwGlaWInIdeal.τ Cert.AdamwGlaWInIdeal.sig) → Buf (Elt Ideal) ℓ) (g : Dev Cert.AdamwGlaWInIdeal.nD → PrngReg), Pre_AdamwGlaWInIdeal m →
    θ_run (Cert.AdamwGlaWInIdeal.defs (F := Ideal)) (onTc (τ := Cert.AdamwGlaWInIdeal.τ) (Cert.AdamwGlaWInIdeal.main (F := Ideal))) ⟨m, fun _ => 0, g⟩ (fun r => (∀ c : Dev Cert.AdamwGlaWInIdeal.nD,
      r.2.mem ((c.tc : Thread Cert.AdamwGlaWInIdeal.nD Cert.AdamwGlaWInIdeal.τ).loc Cert.AdamwGlaWInIdeal.main_arg0) = m ((c.tc : Thread Cert.AdamwGlaWInIdeal.nD Cert.AdamwGlaWInIdeal.τ).loc Cert.AdamwGlaWInIdeal.main_arg0)
      ∧ r.2.mem ((c.tc : Thread Cert.AdamwGlaWInIdeal.nD Cert.AdamwGlaWInIdeal.τ).loc Cert.AdamwGlaWInIdeal.main_arg1) = m ((c.tc : Thread Cert.AdamwGlaWInIdeal.nD Cert.AdamwGlaWInIdeal.τ).loc Cert.AdamwGlaWInIdeal.main_arg1)
      ∧ r.2.mem ((c.tc : Thread Cert.AdamwGlaWInIdeal.nD Cert.AdamwGlaWInIdeal.τ).loc Cert.AdamwGlaWInIdeal.main_arg2) = m ((c.tc : Thread Cert.AdamwGlaWInIdeal.nD Cert.AdamwGlaWInIdeal.τ).loc Cert.AdamwGlaWInIdeal.main_arg2)
      ∧ r.2.mem ((c.tc : Thread Cert.AdamwGlaWInIdeal.nD Cert.AdamwGlaWInIdeal.τ).loc Cert.AdamwGlaWInIdeal.main_arg3) = m ((c.tc : Thread Cert.AdamwGlaWInIdeal.nD Cert.AdamwGlaWInIdeal.τ).loc Cert.AdamwGlaWInIdeal.main_arg3))
      ∧ r.2.sem = fun _ => 0)

def quiescent_AdamwGlaWInRefIdeal [hAdamwGlaWInRefIdeal : Cert.AdamwGlaWInRefIdeal.Facts] : Prop :=
  ∀ (m : (ℓ : Loc Cert.AdamwGlaWInRefIdeal.nD Cert.AdamwGlaWInRefIdeal.τ Cert.AdamwGlaWInRefIdeal.sig) → Buf (Elt Ideal) ℓ) (g : Dev Cert.AdamwGlaWInRefIdeal.nD → PrngReg), Pre_AdamwGlaWInRefIdeal m →
    θ_run (Cert.AdamwGlaWInRefIdeal.defs (F := Ideal)) (onTc (τ := Cert.AdamwGlaWInRefIdeal.τ) (Cert.AdamwGlaWInRefIdeal.main (F := Ideal))) ⟨m, fun _ => 0, g⟩ (fun r => (∀ c : Dev Cert.AdamwGlaWInRefIdeal.nD,
      r.2.mem ((c.tc : Thread Cert.AdamwGlaWInRefIdeal.nD Cert.AdamwGlaWInRefIdeal.τ).loc Cert.AdamwGlaWInRefIdeal.main_arg0) = m ((c.tc : Thread Cert.AdamwGlaWInRefIdeal.nD Cert.AdamwGlaWInRefIdeal.τ).loc Cert.AdamwGlaWInRefIdeal.main_arg0)
      ∧ r.2.mem ((c.tc : Thread Cert.AdamwGlaWInRefIdeal.nD Cert.AdamwGlaWInRefIdeal.τ).loc Cert.AdamwGlaWInRefIdeal.main_arg1) = m ((c.tc : Thread Cert.AdamwGlaWInRefIdeal.nD Cert.AdamwGlaWInRefIdeal.τ).loc Cert.AdamwGlaWInRefIdeal.main_arg1)
      ∧ r.2.mem ((c.tc : Thread Cert.AdamwGlaWInRefIdeal.nD Cert.AdamwGlaWInRefIdeal.τ).loc Cert.AdamwGlaWInRefIdeal.main_arg2) = m ((c.tc : Thread Cert.AdamwGlaWInRefIdeal.nD Cert.AdamwGlaWInRefIdeal.τ).loc Cert.AdamwGlaWInRefIdeal.main_arg2)
      ∧ r.2.mem ((c.tc : Thread Cert.AdamwGlaWInRefIdeal.nD Cert.AdamwGlaWInRefIdeal.τ).loc Cert.AdamwGlaWInRefIdeal.main_arg3) = m ((c.tc : Thread Cert.AdamwGlaWInRefIdeal.nD Cert.AdamwGlaWInRefIdeal.τ).loc Cert.AdamwGlaWInRefIdeal.main_arg3))
      ∧ r.2.sem = fun _ => 0)

def quiescent_AdamwGlaWGk2 [hAdamwGlaWGk2 : Cert.AdamwGlaWGk2.Facts] : Prop :=
  ∀ (m : (ℓ : Loc Cert.AdamwGlaWGk2.nD Cert.AdamwGlaWGk2.τ Cert.AdamwGlaWGk2.sig) → Buf (Elt Bits) ℓ) (g : Dev Cert.AdamwGlaWGk2.nD → PrngReg), Pre_AdamwGlaWGk2 m →
    θ_run (Cert.AdamwGlaWGk2.defs (F := Bits)) (onTc (τ := Cert.AdamwGlaWGk2.τ) (Cert.AdamwGlaWGk2.main (F := Bits))) ⟨m, fun _ => 0, g⟩ (fun r => (∀ c : Dev Cert.AdamwGlaWGk2.nD,
      r.2.mem ((c.tc : Thread Cert.AdamwGlaWGk2.nD Cert.AdamwGlaWGk2.τ).loc Cert.AdamwGlaWGk2.main_arg0) = m ((c.tc : Thread Cert.AdamwGlaWGk2.nD Cert.AdamwGlaWGk2.τ).loc Cert.AdamwGlaWGk2.main_arg0)
      ∧ r.2.mem ((c.tc : Thread Cert.AdamwGlaWGk2.nD Cert.AdamwGlaWGk2.τ).loc Cert.AdamwGlaWGk2.main_arg1) = m ((c.tc : Thread Cert.AdamwGlaWGk2.nD Cert.AdamwGlaWGk2.τ).loc Cert.AdamwGlaWGk2.main_arg1)
      ∧ r.2.mem ((c.tc : Thread Cert.AdamwGlaWGk2.nD Cert.AdamwGlaWGk2.τ).loc Cert.AdamwGlaWGk2.main_arg2) = m ((c.tc : Thread Cert.AdamwGlaWGk2.nD Cert.AdamwGlaWGk2.τ).loc Cert.AdamwGlaWGk2.main_arg2)
      ∧ r.2.mem ((c.tc : Thread Cert.AdamwGlaWGk2.nD Cert.AdamwGlaWGk2.τ).loc Cert.AdamwGlaWGk2.main_arg3) = m ((c.tc : Thread Cert.AdamwGlaWGk2.nD Cert.AdamwGlaWGk2.τ).loc Cert.AdamwGlaWGk2.main_arg3))
      ∧ r.2.sem = fun _ => 0)

def quiescent_AdamwGlaWGk2Ideal [hAdamwGlaWGk2Ideal : Cert.AdamwGlaWGk2Ideal.Facts] : Prop :=
  ∀ (m : (ℓ : Loc Cert.AdamwGlaWGk2Ideal.nD Cert.AdamwGlaWGk2Ideal.τ Cert.AdamwGlaWGk2Ideal.sig) → Buf (Elt Ideal) ℓ) (g : Dev Cert.AdamwGlaWGk2Ideal.nD → PrngReg), Pre_AdamwGlaWGk2Ideal m →
    θ_run (Cert.AdamwGlaWGk2Ideal.defs (F := Ideal)) (onTc (τ := Cert.AdamwGlaWGk2Ideal.τ) (Cert.AdamwGlaWGk2Ideal.main (F := Ideal))) ⟨m, fun _ => 0, g⟩ (fun r => (∀ c : Dev Cert.AdamwGlaWGk2Ideal.nD,
      r.2.mem ((c.tc : Thread Cert.AdamwGlaWGk2Ideal.nD Cert.AdamwGlaWGk2Ideal.τ).loc Cert.AdamwGlaWGk2Ideal.main_arg0) = m ((c.tc : Thread Cert.AdamwGlaWGk2Ideal.nD Cert.AdamwGlaWGk2Ideal.τ).loc Cert.AdamwGlaWGk2Ideal.main_arg0)
      ∧ r.2.mem ((c.tc : Thread Cert.AdamwGlaWGk2Ideal.nD Cert.AdamwGlaWGk2Ideal.τ).loc Cert.AdamwGlaWGk2Ideal.main_arg1) = m ((c.tc : Thread Cert.AdamwGlaWGk2Ideal.nD Cert.AdamwGlaWGk2Ideal.τ).loc Cert.AdamwGlaWGk2Ideal.main_arg1)
      ∧ r.2.mem ((c.tc : Thread Cert.AdamwGlaWGk2Ideal.nD Cert.AdamwGlaWGk2Ideal.τ).loc Cert.AdamwGlaWGk2Ideal.main_arg2) = m ((c.tc : Thread Cert.AdamwGlaWGk2Ideal.nD Cert.AdamwGlaWGk2Ideal.τ).loc Cert.AdamwGlaWGk2Ideal.main_arg2)
      ∧ r.2.mem ((c.tc : Thread Cert.AdamwGlaWGk2Ideal.nD Cert.AdamwGlaWGk2Ideal.τ).loc Cert.AdamwGlaWGk2Ideal.main_arg3) = m ((c.tc : Thread Cert.AdamwGlaWGk2Ideal.nD Cert.AdamwGlaWGk2Ideal.τ).loc Cert.AdamwGlaWGk2Ideal.main_arg3))
      ∧ r.2.sem = fun _ => 0)

def quiescent_AdamwGlaWGk2RefIdeal [hAdamwGlaWGk2RefIdeal : Cert.AdamwGlaWGk2RefIdeal.Facts] : Prop :=
  ∀ (m : (ℓ : Loc Cert.AdamwGlaWGk2RefIdeal.nD Cert.AdamwGlaWGk2RefIdeal.τ Cert.AdamwGlaWGk2RefIdeal.sig) → Buf (Elt Ideal) ℓ) (g : Dev Cert.AdamwGlaWGk2RefIdeal.nD → PrngReg), Pre_AdamwGlaWGk2RefIdeal m →
    θ_run (Cert.AdamwGlaWGk2RefIdeal.defs (F := Ideal)) (onTc (τ := Cert.AdamwGlaWGk2RefIdeal.τ) (Cert.AdamwGlaWGk2RefIdeal.main (F := Ideal))) ⟨m, fun _ => 0, g⟩ (fun r => (∀ c : Dev Cert.AdamwGlaWGk2RefIdeal.nD,
      r.2.mem ((c.tc : Thread Cert.AdamwGlaWGk2RefIdeal.nD Cert.AdamwGlaWGk2RefIdeal.τ).loc Cert.AdamwGlaWGk2RefIdeal.main_arg0) = m ((c.tc : Thread Cert.AdamwGlaWGk2RefIdeal.nD Cert.AdamwGlaWGk2RefIdeal.τ).loc Cert.AdamwGlaWGk2RefIdeal.main_arg0)
      ∧ r.2.mem ((c.tc : Thread Cert.AdamwGlaWGk2RefIdeal.nD Cert.AdamwGlaWGk2RefIdeal.τ).loc Cert.AdamwGlaWGk2RefIdeal.main_arg1) = m ((c.tc : Thread Cert.AdamwGlaWGk2RefIdeal.nD Cert.AdamwGlaWGk2RefIdeal.τ).loc Cert.AdamwGlaWGk2RefIdeal.main_arg1)
      ∧ r.2.mem ((c.tc : Thread Cert.AdamwGlaWGk2RefIdeal.nD Cert.AdamwGlaWGk2RefIdeal.τ).loc Cert.AdamwGlaWGk2RefIdeal.main_arg2) = m ((c.tc : Thread Cert.AdamwGlaWGk2RefIdeal.nD Cert.AdamwGlaWGk2RefIdeal.τ).loc Cert.AdamwGlaWGk2RefIdeal.main_arg2)
      ∧ r.2.mem ((c.tc : Thread Cert.AdamwGlaWGk2RefIdeal.nD Cert.AdamwGlaWGk2RefIdeal.τ).loc Cert.AdamwGlaWGk2RefIdeal.main_arg3) = m ((c.tc : Thread Cert.AdamwGlaWGk2RefIdeal.nD Cert.AdamwGlaWGk2RefIdeal.τ).loc Cert.AdamwGlaWGk2RefIdeal.main_arg3))
      ∧ r.2.sem = fun _ => 0)

def quiescent_AdamwGlaBGk [hAdamwGlaBGk : Cert.AdamwGlaBGk.Facts] : Prop :=
  ∀ (m : (ℓ : Loc Cert.AdamwGlaBGk.nD Cert.AdamwGlaBGk.τ Cert.AdamwGlaBGk.sig) → Buf (Elt Bits) ℓ) (g : Dev Cert.AdamwGlaBGk.nD → PrngReg), Pre_AdamwGlaBGk m →
    θ_run (Cert.AdamwGlaBGk.defs (F := Bits)) (onTc (τ := Cert.AdamwGlaBGk.τ) (Cert.AdamwGlaBGk.main (F := Bits))) ⟨m, fun _ => 0, g⟩ (fun r => (∀ c : Dev Cert.AdamwGlaBGk.nD,
      r.2.mem ((c.tc : Thread Cert.AdamwGlaBGk.nD Cert.AdamwGlaBGk.τ).loc Cert.AdamwGlaBGk.main_arg0) = m ((c.tc : Thread Cert.AdamwGlaBGk.nD Cert.AdamwGlaBGk.τ).loc Cert.AdamwGlaBGk.main_arg0)
      ∧ r.2.mem ((c.tc : Thread Cert.AdamwGlaBGk.nD Cert.AdamwGlaBGk.τ).loc Cert.AdamwGlaBGk.main_arg1) = m ((c.tc : Thread Cert.AdamwGlaBGk.nD Cert.AdamwGlaBGk.τ).loc Cert.AdamwGlaBGk.main_arg1)
      ∧ r.2.mem ((c.tc : Thread Cert.AdamwGlaBGk.nD Cert.AdamwGlaBGk.τ).loc Cert.AdamwGlaBGk.main_arg2) = m ((c.tc : Thread Cert.AdamwGlaBGk.nD Cert.AdamwGlaBGk.τ).loc Cert.AdamwGlaBGk.main_arg2)
      ∧ r.2.mem ((c.tc : Thread Cert.AdamwGlaBGk.nD Cert.AdamwGlaBGk.τ).loc Cert.AdamwGlaBGk.main_arg3) = m ((c.tc : Thread Cert.AdamwGlaBGk.nD Cert.AdamwGlaBGk.τ).loc Cert.AdamwGlaBGk.main_arg3))
      ∧ r.2.sem = fun _ => 0)

def quiescent_AdamwGlaBGkIdeal [hAdamwGlaBGkIdeal : Cert.AdamwGlaBGkIdeal.Facts] : Prop :=
  ∀ (m : (ℓ : Loc Cert.AdamwGlaBGkIdeal.nD Cert.AdamwGlaBGkIdeal.τ Cert.AdamwGlaBGkIdeal.sig) → Buf (Elt Ideal) ℓ) (g : Dev Cert.AdamwGlaBGkIdeal.nD → PrngReg), Pre_AdamwGlaBGkIdeal m →
    θ_run (Cert.AdamwGlaBGkIdeal.defs (F := Ideal)) (onTc (τ := Cert.AdamwGlaBGkIdeal.τ) (Cert.AdamwGlaBGkIdeal.main (F := Ideal))) ⟨m, fun _ => 0, g⟩ (fun r => (∀ c : Dev Cert.AdamwGlaBGkIdeal.nD,
      r.2.mem ((c.tc : Thread Cert.AdamwGlaBGkIdeal.nD Cert.AdamwGlaBGkIdeal.τ).loc Cert.AdamwGlaBGkIdeal.main_arg0) = m ((c.tc : Thread Cert.AdamwGlaBGkIdeal.nD Cert.AdamwGlaBGkIdeal.τ).loc Cert.AdamwGlaBGkIdeal.main_arg0)
      ∧ r.2.mem ((c.tc : Thread Cert.AdamwGlaBGkIdeal.nD Cert.AdamwGlaBGkIdeal.τ).loc Cert.AdamwGlaBGkIdeal.main_arg1) = m ((c.tc : Thread Cert.AdamwGlaBGkIdeal.nD Cert.AdamwGlaBGkIdeal.τ).loc Cert.AdamwGlaBGkIdeal.main_arg1)
      ∧ r.2.mem ((c.tc : Thread Cert.AdamwGlaBGkIdeal.nD Cert.AdamwGlaBGkIdeal.τ).loc Cert.AdamwGlaBGkIdeal.main_arg2) = m ((c.tc : Thread Cert.AdamwGlaBGkIdeal.nD Cert.AdamwGlaBGkIdeal.τ).loc Cert.AdamwGlaBGkIdeal.main_arg2)
      ∧ r.2.mem ((c.tc : Thread Cert.AdamwGlaBGkIdeal.nD Cert.AdamwGlaBGkIdeal.τ).loc Cert.AdamwGlaBGkIdeal.main_arg3) = m ((c.tc : Thread Cert.AdamwGlaBGkIdeal.nD Cert.AdamwGlaBGkIdeal.τ).loc Cert.AdamwGlaBGkIdeal.main_arg3))
      ∧ r.2.sem = fun _ => 0)

def quiescent_AdamwGlaBGkRefIdeal [hAdamwGlaBGkRefIdeal : Cert.AdamwGlaBGkRefIdeal.Facts] : Prop :=
  ∀ (m : (ℓ : Loc Cert.AdamwGlaBGkRefIdeal.nD Cert.AdamwGlaBGkRefIdeal.τ Cert.AdamwGlaBGkRefIdeal.sig) → Buf (Elt Ideal) ℓ) (g : Dev Cert.AdamwGlaBGkRefIdeal.nD → PrngReg), Pre_AdamwGlaBGkRefIdeal m →
    θ_run (Cert.AdamwGlaBGkRefIdeal.defs (F := Ideal)) (onTc (τ := Cert.AdamwGlaBGkRefIdeal.τ) (Cert.AdamwGlaBGkRefIdeal.main (F := Ideal))) ⟨m, fun _ => 0, g⟩ (fun r => (∀ c : Dev Cert.AdamwGlaBGkRefIdeal.nD,
      r.2.mem ((c.tc : Thread Cert.AdamwGlaBGkRefIdeal.nD Cert.AdamwGlaBGkRefIdeal.τ).loc Cert.AdamwGlaBGkRefIdeal.main_arg0) = m ((c.tc : Thread Cert.AdamwGlaBGkRefIdeal.nD Cert.AdamwGlaBGkRefIdeal.τ).loc Cert.AdamwGlaBGkRefIdeal.main_arg0)
      ∧ r.2.mem ((c.tc : Thread Cert.AdamwGlaBGkRefIdeal.nD Cert.AdamwGlaBGkRefIdeal.τ).loc Cert.AdamwGlaBGkRefIdeal.main_arg1) = m ((c.tc : Thread Cert.AdamwGlaBGkRefIdeal.nD Cert.AdamwGlaBGkRefIdeal.τ).loc Cert.AdamwGlaBGkRefIdeal.main_arg1)
      ∧ r.2.mem ((c.tc : Thread Cert.AdamwGlaBGkRefIdeal.nD Cert.AdamwGlaBGkRefIdeal.τ).loc Cert.AdamwGlaBGkRefIdeal.main_arg2) = m ((c.tc : Thread Cert.AdamwGlaBGkRefIdeal.nD Cert.AdamwGlaBGkRefIdeal.τ).loc Cert.AdamwGlaBGkRefIdeal.main_arg2)
      ∧ r.2.mem ((c.tc : Thread Cert.AdamwGlaBGkRefIdeal.nD Cert.AdamwGlaBGkRefIdeal.τ).loc Cert.AdamwGlaBGkRefIdeal.main_arg3) = m ((c.tc : Thread Cert.AdamwGlaBGkRefIdeal.nD Cert.AdamwGlaBGkRefIdeal.τ).loc Cert.AdamwGlaBGkRefIdeal.main_arg3))
      ∧ r.2.sem = fun _ => 0)

def quiescent_AdamwGlaGNorm [hAdamwGlaGNorm : Cert.AdamwGlaGNorm.Facts] : Prop :=
  ∀ (m : (ℓ : Loc Cert.AdamwGlaGNorm.nD Cert.AdamwGlaGNorm.τ Cert.AdamwGlaGNorm.sig) → Buf (Elt Bits) ℓ) (g : Dev Cert.AdamwGlaGNorm.nD → PrngReg), Pre_AdamwGlaGNorm m →
    θ_run (Cert.AdamwGlaGNorm.defs (F := Bits)) (onTc (τ := Cert.AdamwGlaGNorm.τ) (Cert.AdamwGlaGNorm.main (F := Bits))) ⟨m, fun _ => 0, g⟩ (fun r => (∀ c : Dev Cert.AdamwGlaGNorm.nD,
      r.2.mem ((c.tc : Thread Cert.AdamwGlaGNorm.nD Cert.AdamwGlaGNorm.τ).loc Cert.AdamwGlaGNorm.main_arg0) = m ((c.tc : Thread Cert.AdamwGlaGNorm.nD Cert.AdamwGlaGNorm.τ).loc Cert.AdamwGlaGNorm.main_arg0)
      ∧ r.2.mem ((c.tc : Thread Cert.AdamwGlaGNorm.nD Cert.AdamwGlaGNorm.τ).loc Cert.AdamwGlaGNorm.main_arg1) = m ((c.tc : Thread Cert.AdamwGlaGNorm.nD Cert.AdamwGlaGNorm.τ).loc Cert.AdamwGlaGNorm.main_arg1)
      ∧ r.2.mem ((c.tc : Thread Cert.AdamwGlaGNorm.nD Cert.AdamwGlaGNorm.τ).loc Cert.AdamwGlaGNorm.main_arg2) = m ((c.tc : Thread Cert.AdamwGlaGNorm.nD Cert.AdamwGlaGNorm.τ).loc Cert.AdamwGlaGNorm.main_arg2)
      ∧ r.2.mem ((c.tc : Thread Cert.AdamwGlaGNorm.nD Cert.AdamwGlaGNorm.τ).loc Cert.AdamwGlaGNorm.main_arg3) = m ((c.tc : Thread Cert.AdamwGlaGNorm.nD Cert.AdamwGlaGNorm.τ).loc Cert.AdamwGlaGNorm.main_arg3))
      ∧ r.2.sem = fun _ => 0)

def quiescent_AdamwGlaGNormIdeal [hAdamwGlaGNormIdeal : Cert.AdamwGlaGNormIdeal.Facts] : Prop :=
  ∀ (m : (ℓ : Loc Cert.AdamwGlaGNormIdeal.nD Cert.AdamwGlaGNormIdeal.τ Cert.AdamwGlaGNormIdeal.sig) → Buf (Elt Ideal) ℓ) (g : Dev Cert.AdamwGlaGNormIdeal.nD → PrngReg), Pre_AdamwGlaGNormIdeal m →
    θ_run (Cert.AdamwGlaGNormIdeal.defs (F := Ideal)) (onTc (τ := Cert.AdamwGlaGNormIdeal.τ) (Cert.AdamwGlaGNormIdeal.main (F := Ideal))) ⟨m, fun _ => 0, g⟩ (fun r => (∀ c : Dev Cert.AdamwGlaGNormIdeal.nD,
      r.2.mem ((c.tc : Thread Cert.AdamwGlaGNormIdeal.nD Cert.AdamwGlaGNormIdeal.τ).loc Cert.AdamwGlaGNormIdeal.main_arg0) = m ((c.tc : Thread Cert.AdamwGlaGNormIdeal.nD Cert.AdamwGlaGNormIdeal.τ).loc Cert.AdamwGlaGNormIdeal.main_arg0)
      ∧ r.2.mem ((c.tc : Thread Cert.AdamwGlaGNormIdeal.nD Cert.AdamwGlaGNormIdeal.τ).loc Cert.AdamwGlaGNormIdeal.main_arg1) = m ((c.tc : Thread Cert.AdamwGlaGNormIdeal.nD Cert.AdamwGlaGNormIdeal.τ).loc Cert.AdamwGlaGNormIdeal.main_arg1)
      ∧ r.2.mem ((c.tc : Thread Cert.AdamwGlaGNormIdeal.nD Cert.AdamwGlaGNormIdeal.τ).loc Cert.AdamwGlaGNormIdeal.main_arg2) = m ((c.tc : Thread Cert.AdamwGlaGNormIdeal.nD Cert.AdamwGlaGNormIdeal.τ).loc Cert.AdamwGlaGNormIdeal.main_arg2)
      ∧ r.2.mem ((c.tc : Thread Cert.AdamwGlaGNormIdeal.nD Cert.AdamwGlaGNormIdeal.τ).loc Cert.AdamwGlaGNormIdeal.main_arg3) = m ((c.tc : Thread Cert.AdamwGlaGNormIdeal.nD Cert.AdamwGlaGNormIdeal.τ).loc Cert.AdamwGlaGNormIdeal.main_arg3))
      ∧ r.2.sem = fun _ => 0)

def quiescent_AdamwGlaGNormRefIdeal [hAdamwGlaGNormRefIdeal : Cert.AdamwGlaGNormRefIdeal.Facts] : Prop :=
  ∀ (m : (ℓ : Loc Cert.AdamwGlaGNormRefIdeal.nD Cert.AdamwGlaGNormRefIdeal.τ Cert.AdamwGlaGNormRefIdeal.sig) → Buf (Elt Ideal) ℓ) (g : Dev Cert.AdamwGlaGNormRefIdeal.nD → PrngReg), Pre_AdamwGlaGNormRefIdeal m →
    θ_run (Cert.AdamwGlaGNormRefIdeal.defs (F := Ideal)) (onTc (τ := Cert.AdamwGlaGNormRefIdeal.τ) (Cert.AdamwGlaGNormRefIdeal.main (F := Ideal))) ⟨m, fun _ => 0, g⟩ (fun r => (∀ c : Dev Cert.AdamwGlaGNormRefIdeal.nD,
      r.2.mem ((c.tc : Thread Cert.AdamwGlaGNormRefIdeal.nD Cert.AdamwGlaGNormRefIdeal.τ).loc Cert.AdamwGlaGNormRefIdeal.main_arg0) = m ((c.tc : Thread Cert.AdamwGlaGNormRefIdeal.nD Cert.AdamwGlaGNormRefIdeal.τ).loc Cert.AdamwGlaGNormRefIdeal.main_arg0)
      ∧ r.2.mem ((c.tc : Thread Cert.AdamwGlaGNormRefIdeal.nD Cert.AdamwGlaGNormRefIdeal.τ).loc Cert.AdamwGlaGNormRefIdeal.main_arg1) = m ((c.tc : Thread Cert.AdamwGlaGNormRefIdeal.nD Cert.AdamwGlaGNormRefIdeal.τ).loc Cert.AdamwGlaGNormRefIdeal.main_arg1)
      ∧ r.2.mem ((c.tc : Thread Cert.AdamwGlaGNormRefIdeal.nD Cert.AdamwGlaGNormRefIdeal.τ).loc Cert.AdamwGlaGNormRefIdeal.main_arg2) = m ((c.tc : Thread Cert.AdamwGlaGNormRefIdeal.nD Cert.AdamwGlaGNormRefIdeal.τ).loc Cert.AdamwGlaGNormRefIdeal.main_arg2)
      ∧ r.2.mem ((c.tc : Thread Cert.AdamwGlaGNormRefIdeal.nD Cert.AdamwGlaGNormRefIdeal.τ).loc Cert.AdamwGlaGNormRefIdeal.main_arg3) = m ((c.tc : Thread Cert.AdamwGlaGNormRefIdeal.nD Cert.AdamwGlaGNormRefIdeal.τ).loc Cert.AdamwGlaGNormRefIdeal.main_arg3))
      ∧ r.2.sem = fun _ => 0)

def quiescent_AdamwGlaWOut [hAdamwGlaWOut : Cert.AdamwGlaWOut.Facts] : Prop :=
  ∀ (m : (ℓ : Loc Cert.AdamwGlaWOut.nD Cert.AdamwGlaWOut.τ Cert.AdamwGlaWOut.sig) → Buf (Elt Bits) ℓ) (g : Dev Cert.AdamwGlaWOut.nD → PrngReg), Pre_AdamwGlaWOut m →
    θ_run (Cert.AdamwGlaWOut.defs (F := Bits)) (onTc (τ := Cert.AdamwGlaWOut.τ) (Cert.AdamwGlaWOut.main (F := Bits))) ⟨m, fun _ => 0, g⟩ (fun r => (∀ c : Dev Cert.AdamwGlaWOut.nD,
      r.2.mem ((c.tc : Thread Cert.AdamwGlaWOut.nD Cert.AdamwGlaWOut.τ).loc Cert.AdamwGlaWOut.main_arg0) = m ((c.tc : Thread Cert.AdamwGlaWOut.nD Cert.AdamwGlaWOut.τ).loc Cert.AdamwGlaWOut.main_arg0)
      ∧ r.2.mem ((c.tc : Thread Cert.AdamwGlaWOut.nD Cert.AdamwGlaWOut.τ).loc Cert.AdamwGlaWOut.main_arg1) = m ((c.tc : Thread Cert.AdamwGlaWOut.nD Cert.AdamwGlaWOut.τ).loc Cert.AdamwGlaWOut.main_arg1)
      ∧ r.2.mem ((c.tc : Thread Cert.AdamwGlaWOut.nD Cert.AdamwGlaWOut.τ).loc Cert.AdamwGlaWOut.main_arg2) = m ((c.tc : Thread Cert.AdamwGlaWOut.nD Cert.AdamwGlaWOut.τ).loc Cert.AdamwGlaWOut.main_arg2)
      ∧ r.2.mem ((c.tc : Thread Cert.AdamwGlaWOut.nD Cert.AdamwGlaWOut.τ).loc Cert.AdamwGlaWOut.main_arg3) = m ((c.tc : Thread Cert.AdamwGlaWOut.nD Cert.AdamwGlaWOut.τ).loc Cert.AdamwGlaWOut.main_arg3))
      ∧ r.2.sem = fun _ => 0)

def quiescent_AdamwGlaWOutIdeal [hAdamwGlaWOutIdeal : Cert.AdamwGlaWOutIdeal.Facts] : Prop :=
  ∀ (m : (ℓ : Loc Cert.AdamwGlaWOutIdeal.nD Cert.AdamwGlaWOutIdeal.τ Cert.AdamwGlaWOutIdeal.sig) → Buf (Elt Ideal) ℓ) (g : Dev Cert.AdamwGlaWOutIdeal.nD → PrngReg), Pre_AdamwGlaWOutIdeal m →
    θ_run (Cert.AdamwGlaWOutIdeal.defs (F := Ideal)) (onTc (τ := Cert.AdamwGlaWOutIdeal.τ) (Cert.AdamwGlaWOutIdeal.main (F := Ideal))) ⟨m, fun _ => 0, g⟩ (fun r => (∀ c : Dev Cert.AdamwGlaWOutIdeal.nD,
      r.2.mem ((c.tc : Thread Cert.AdamwGlaWOutIdeal.nD Cert.AdamwGlaWOutIdeal.τ).loc Cert.AdamwGlaWOutIdeal.main_arg0) = m ((c.tc : Thread Cert.AdamwGlaWOutIdeal.nD Cert.AdamwGlaWOutIdeal.τ).loc Cert.AdamwGlaWOutIdeal.main_arg0)
      ∧ r.2.mem ((c.tc : Thread Cert.AdamwGlaWOutIdeal.nD Cert.AdamwGlaWOutIdeal.τ).loc Cert.AdamwGlaWOutIdeal.main_arg1) = m ((c.tc : Thread Cert.AdamwGlaWOutIdeal.nD Cert.AdamwGlaWOutIdeal.τ).loc Cert.AdamwGlaWOutIdeal.main_arg1)
      ∧ r.2.mem ((c.tc : Thread Cert.AdamwGlaWOutIdeal.nD Cert.AdamwGlaWOutIdeal.τ).loc Cert.AdamwGlaWOutIdeal.main_arg2) = m ((c.tc : Thread Cert.AdamwGlaWOutIdeal.nD Cert.AdamwGlaWOutIdeal.τ).loc Cert.AdamwGlaWOutIdeal.main_arg2)
      ∧ r.2.mem ((c.tc : Thread Cert.AdamwGlaWOutIdeal.nD Cert.AdamwGlaWOutIdeal.τ).loc Cert.AdamwGlaWOutIdeal.main_arg3) = m ((c.tc : Thread Cert.AdamwGlaWOutIdeal.nD Cert.AdamwGlaWOutIdeal.τ).loc Cert.AdamwGlaWOutIdeal.main_arg3))
      ∧ r.2.sem = fun _ => 0)

def quiescent_AdamwGlaWOutRefIdeal [hAdamwGlaWOutRefIdeal : Cert.AdamwGlaWOutRefIdeal.Facts] : Prop :=
  ∀ (m : (ℓ : Loc Cert.AdamwGlaWOutRefIdeal.nD Cert.AdamwGlaWOutRefIdeal.τ Cert.AdamwGlaWOutRefIdeal.sig) → Buf (Elt Ideal) ℓ) (g : Dev Cert.AdamwGlaWOutRefIdeal.nD → PrngReg), Pre_AdamwGlaWOutRefIdeal m →
    θ_run (Cert.AdamwGlaWOutRefIdeal.defs (F := Ideal)) (onTc (τ := Cert.AdamwGlaWOutRefIdeal.τ) (Cert.AdamwGlaWOutRefIdeal.main (F := Ideal))) ⟨m, fun _ => 0, g⟩ (fun r => (∀ c : Dev Cert.AdamwGlaWOutRefIdeal.nD,
      r.2.mem ((c.tc : Thread Cert.AdamwGlaWOutRefIdeal.nD Cert.AdamwGlaWOutRefIdeal.τ).loc Cert.AdamwGlaWOutRefIdeal.main_arg0) = m ((c.tc : Thread Cert.AdamwGlaWOutRefIdeal.nD Cert.AdamwGlaWOutRefIdeal.τ).loc Cert.AdamwGlaWOutRefIdeal.main_arg0)
      ∧ r.2.mem ((c.tc : Thread Cert.AdamwGlaWOutRefIdeal.nD Cert.AdamwGlaWOutRefIdeal.τ).loc Cert.AdamwGlaWOutRefIdeal.main_arg1) = m ((c.tc : Thread Cert.AdamwGlaWOutRefIdeal.nD Cert.AdamwGlaWOutRefIdeal.τ).loc Cert.AdamwGlaWOutRefIdeal.main_arg1)
      ∧ r.2.mem ((c.tc : Thread Cert.AdamwGlaWOutRefIdeal.nD Cert.AdamwGlaWOutRefIdeal.τ).loc Cert.AdamwGlaWOutRefIdeal.main_arg2) = m ((c.tc : Thread Cert.AdamwGlaWOutRefIdeal.nD Cert.AdamwGlaWOutRefIdeal.τ).loc Cert.AdamwGlaWOutRefIdeal.main_arg2)
      ∧ r.2.mem ((c.tc : Thread Cert.AdamwGlaWOutRefIdeal.nD Cert.AdamwGlaWOutRefIdeal.τ).loc Cert.AdamwGlaWOutRefIdeal.main_arg3) = m ((c.tc : Thread Cert.AdamwGlaWOutRefIdeal.nD Cert.AdamwGlaWOutRefIdeal.τ).loc Cert.AdamwGlaWOutRefIdeal.main_arg3))
      ∧ r.2.sem = fun _ => 0)

def quiescent_AdamwAttWIn [hAdamwAttWIn : Cert.AdamwAttWIn.Facts] : Prop :=
  ∀ (m : (ℓ : Loc Cert.AdamwAttWIn.nD Cert.AdamwAttWIn.τ Cert.AdamwAttWIn.sig) → Buf (Elt Bits) ℓ) (g : Dev Cert.AdamwAttWIn.nD → PrngReg), Pre_AdamwAttWIn m →
    θ_run (Cert.AdamwAttWIn.defs (F := Bits)) (onTc (τ := Cert.AdamwAttWIn.τ) (Cert.AdamwAttWIn.main (F := Bits))) ⟨m, fun _ => 0, g⟩ (fun r => (∀ c : Dev Cert.AdamwAttWIn.nD,
      r.2.mem ((c.tc : Thread Cert.AdamwAttWIn.nD Cert.AdamwAttWIn.τ).loc Cert.AdamwAttWIn.main_arg0) = m ((c.tc : Thread Cert.AdamwAttWIn.nD Cert.AdamwAttWIn.τ).loc Cert.AdamwAttWIn.main_arg0)
      ∧ r.2.mem ((c.tc : Thread Cert.AdamwAttWIn.nD Cert.AdamwAttWIn.τ).loc Cert.AdamwAttWIn.main_arg1) = m ((c.tc : Thread Cert.AdamwAttWIn.nD Cert.AdamwAttWIn.τ).loc Cert.AdamwAttWIn.main_arg1)
      ∧ r.2.mem ((c.tc : Thread Cert.AdamwAttWIn.nD Cert.AdamwAttWIn.τ).loc Cert.AdamwAttWIn.main_arg2) = m ((c.tc : Thread Cert.AdamwAttWIn.nD Cert.AdamwAttWIn.τ).loc Cert.AdamwAttWIn.main_arg2)
      ∧ r.2.mem ((c.tc : Thread Cert.AdamwAttWIn.nD Cert.AdamwAttWIn.τ).loc Cert.AdamwAttWIn.main_arg3) = m ((c.tc : Thread Cert.AdamwAttWIn.nD Cert.AdamwAttWIn.τ).loc Cert.AdamwAttWIn.main_arg3))
      ∧ r.2.sem = fun _ => 0)

def quiescent_AdamwAttWInIdeal [hAdamwAttWInIdeal : Cert.AdamwAttWInIdeal.Facts] : Prop :=
  ∀ (m : (ℓ : Loc Cert.AdamwAttWInIdeal.nD Cert.AdamwAttWInIdeal.τ Cert.AdamwAttWInIdeal.sig) → Buf (Elt Ideal) ℓ) (g : Dev Cert.AdamwAttWInIdeal.nD → PrngReg), Pre_AdamwAttWInIdeal m →
    θ_run (Cert.AdamwAttWInIdeal.defs (F := Ideal)) (onTc (τ := Cert.AdamwAttWInIdeal.τ) (Cert.AdamwAttWInIdeal.main (F := Ideal))) ⟨m, fun _ => 0, g⟩ (fun r => (∀ c : Dev Cert.AdamwAttWInIdeal.nD,
      r.2.mem ((c.tc : Thread Cert.AdamwAttWInIdeal.nD Cert.AdamwAttWInIdeal.τ).loc Cert.AdamwAttWInIdeal.main_arg0) = m ((c.tc : Thread Cert.AdamwAttWInIdeal.nD Cert.AdamwAttWInIdeal.τ).loc Cert.AdamwAttWInIdeal.main_arg0)
      ∧ r.2.mem ((c.tc : Thread Cert.AdamwAttWInIdeal.nD Cert.AdamwAttWInIdeal.τ).loc Cert.AdamwAttWInIdeal.main_arg1) = m ((c.tc : Thread Cert.AdamwAttWInIdeal.nD Cert.AdamwAttWInIdeal.τ).loc Cert.AdamwAttWInIdeal.main_arg1)
      ∧ r.2.mem ((c.tc : Thread Cert.AdamwAttWInIdeal.nD Cert.AdamwAttWInIdeal.τ).loc Cert.AdamwAttWInIdeal.main_arg2) = m ((c.tc : Thread Cert.AdamwAttWInIdeal.nD Cert.AdamwAttWInIdeal.τ).loc Cert.AdamwAttWInIdeal.main_arg2)
      ∧ r.2.mem ((c.tc : Thread Cert.AdamwAttWInIdeal.nD Cert.AdamwAttWInIdeal.τ).loc Cert.AdamwAttWInIdeal.main_arg3) = m ((c.tc : Thread Cert.AdamwAttWInIdeal.nD Cert.AdamwAttWInIdeal.τ).loc Cert.AdamwAttWInIdeal.main_arg3))
      ∧ r.2.sem = fun _ => 0)

def quiescent_AdamwAttWInRefIdeal [hAdamwAttWInRefIdeal : Cert.AdamwAttWInRefIdeal.Facts] : Prop :=
  ∀ (m : (ℓ : Loc Cert.AdamwAttWInRefIdeal.nD Cert.AdamwAttWInRefIdeal.τ Cert.AdamwAttWInRefIdeal.sig) → Buf (Elt Ideal) ℓ) (g : Dev Cert.AdamwAttWInRefIdeal.nD → PrngReg), Pre_AdamwAttWInRefIdeal m →
    θ_run (Cert.AdamwAttWInRefIdeal.defs (F := Ideal)) (onTc (τ := Cert.AdamwAttWInRefIdeal.τ) (Cert.AdamwAttWInRefIdeal.main (F := Ideal))) ⟨m, fun _ => 0, g⟩ (fun r => (∀ c : Dev Cert.AdamwAttWInRefIdeal.nD,
      r.2.mem ((c.tc : Thread Cert.AdamwAttWInRefIdeal.nD Cert.AdamwAttWInRefIdeal.τ).loc Cert.AdamwAttWInRefIdeal.main_arg0) = m ((c.tc : Thread Cert.AdamwAttWInRefIdeal.nD Cert.AdamwAttWInRefIdeal.τ).loc Cert.AdamwAttWInRefIdeal.main_arg0)
      ∧ r.2.mem ((c.tc : Thread Cert.AdamwAttWInRefIdeal.nD Cert.AdamwAttWInRefIdeal.τ).loc Cert.AdamwAttWInRefIdeal.main_arg1) = m ((c.tc : Thread Cert.AdamwAttWInRefIdeal.nD Cert.AdamwAttWInRefIdeal.τ).loc Cert.AdamwAttWInRefIdeal.main_arg1)
      ∧ r.2.mem ((c.tc : Thread Cert.AdamwAttWInRefIdeal.nD Cert.AdamwAttWInRefIdeal.τ).loc Cert.AdamwAttWInRefIdeal.main_arg2) = m ((c.tc : Thread Cert.AdamwAttWInRefIdeal.nD Cert.AdamwAttWInRefIdeal.τ).loc Cert.AdamwAttWInRefIdeal.main_arg2)
      ∧ r.2.mem ((c.tc : Thread Cert.AdamwAttWInRefIdeal.nD Cert.AdamwAttWInRefIdeal.τ).loc Cert.AdamwAttWInRefIdeal.main_arg3) = m ((c.tc : Thread Cert.AdamwAttWInRefIdeal.nD Cert.AdamwAttWInRefIdeal.τ).loc Cert.AdamwAttWInRefIdeal.main_arg3))
      ∧ r.2.sem = fun _ => 0)

def quiescent_AdamwAttBIn [hAdamwAttBIn : Cert.AdamwAttBIn.Facts] : Prop :=
  ∀ (m : (ℓ : Loc Cert.AdamwAttBIn.nD Cert.AdamwAttBIn.τ Cert.AdamwAttBIn.sig) → Buf (Elt Bits) ℓ) (g : Dev Cert.AdamwAttBIn.nD → PrngReg), Pre_AdamwAttBIn m →
    θ_run (Cert.AdamwAttBIn.defs (F := Bits)) (onTc (τ := Cert.AdamwAttBIn.τ) (Cert.AdamwAttBIn.main (F := Bits))) ⟨m, fun _ => 0, g⟩ (fun r => (∀ c : Dev Cert.AdamwAttBIn.nD,
      r.2.mem ((c.tc : Thread Cert.AdamwAttBIn.nD Cert.AdamwAttBIn.τ).loc Cert.AdamwAttBIn.main_arg0) = m ((c.tc : Thread Cert.AdamwAttBIn.nD Cert.AdamwAttBIn.τ).loc Cert.AdamwAttBIn.main_arg0)
      ∧ r.2.mem ((c.tc : Thread Cert.AdamwAttBIn.nD Cert.AdamwAttBIn.τ).loc Cert.AdamwAttBIn.main_arg1) = m ((c.tc : Thread Cert.AdamwAttBIn.nD Cert.AdamwAttBIn.τ).loc Cert.AdamwAttBIn.main_arg1)
      ∧ r.2.mem ((c.tc : Thread Cert.AdamwAttBIn.nD Cert.AdamwAttBIn.τ).loc Cert.AdamwAttBIn.main_arg2) = m ((c.tc : Thread Cert.AdamwAttBIn.nD Cert.AdamwAttBIn.τ).loc Cert.AdamwAttBIn.main_arg2)
      ∧ r.2.mem ((c.tc : Thread Cert.AdamwAttBIn.nD Cert.AdamwAttBIn.τ).loc Cert.AdamwAttBIn.main_arg3) = m ((c.tc : Thread Cert.AdamwAttBIn.nD Cert.AdamwAttBIn.τ).loc Cert.AdamwAttBIn.main_arg3))
      ∧ r.2.sem = fun _ => 0)

def quiescent_AdamwAttBInIdeal [hAdamwAttBInIdeal : Cert.AdamwAttBInIdeal.Facts] : Prop :=
  ∀ (m : (ℓ : Loc Cert.AdamwAttBInIdeal.nD Cert.AdamwAttBInIdeal.τ Cert.AdamwAttBInIdeal.sig) → Buf (Elt Ideal) ℓ) (g : Dev Cert.AdamwAttBInIdeal.nD → PrngReg), Pre_AdamwAttBInIdeal m →
    θ_run (Cert.AdamwAttBInIdeal.defs (F := Ideal)) (onTc (τ := Cert.AdamwAttBInIdeal.τ) (Cert.AdamwAttBInIdeal.main (F := Ideal))) ⟨m, fun _ => 0, g⟩ (fun r => (∀ c : Dev Cert.AdamwAttBInIdeal.nD,
      r.2.mem ((c.tc : Thread Cert.AdamwAttBInIdeal.nD Cert.AdamwAttBInIdeal.τ).loc Cert.AdamwAttBInIdeal.main_arg0) = m ((c.tc : Thread Cert.AdamwAttBInIdeal.nD Cert.AdamwAttBInIdeal.τ).loc Cert.AdamwAttBInIdeal.main_arg0)
      ∧ r.2.mem ((c.tc : Thread Cert.AdamwAttBInIdeal.nD Cert.AdamwAttBInIdeal.τ).loc Cert.AdamwAttBInIdeal.main_arg1) = m ((c.tc : Thread Cert.AdamwAttBInIdeal.nD Cert.AdamwAttBInIdeal.τ).loc Cert.AdamwAttBInIdeal.main_arg1)
      ∧ r.2.mem ((c.tc : Thread Cert.AdamwAttBInIdeal.nD Cert.AdamwAttBInIdeal.τ).loc Cert.AdamwAttBInIdeal.main_arg2) = m ((c.tc : Thread Cert.AdamwAttBInIdeal.nD Cert.AdamwAttBInIdeal.τ).loc Cert.AdamwAttBInIdeal.main_arg2)
      ∧ r.2.mem ((c.tc : Thread Cert.AdamwAttBInIdeal.nD Cert.AdamwAttBInIdeal.τ).loc Cert.AdamwAttBInIdeal.main_arg3) = m ((c.tc : Thread Cert.AdamwAttBInIdeal.nD Cert.AdamwAttBInIdeal.τ).loc Cert.AdamwAttBInIdeal.main_arg3))
      ∧ r.2.sem = fun _ => 0)

def quiescent_AdamwAttBInRefIdeal [hAdamwAttBInRefIdeal : Cert.AdamwAttBInRefIdeal.Facts] : Prop :=
  ∀ (m : (ℓ : Loc Cert.AdamwAttBInRefIdeal.nD Cert.AdamwAttBInRefIdeal.τ Cert.AdamwAttBInRefIdeal.sig) → Buf (Elt Ideal) ℓ) (g : Dev Cert.AdamwAttBInRefIdeal.nD → PrngReg), Pre_AdamwAttBInRefIdeal m →
    θ_run (Cert.AdamwAttBInRefIdeal.defs (F := Ideal)) (onTc (τ := Cert.AdamwAttBInRefIdeal.τ) (Cert.AdamwAttBInRefIdeal.main (F := Ideal))) ⟨m, fun _ => 0, g⟩ (fun r => (∀ c : Dev Cert.AdamwAttBInRefIdeal.nD,
      r.2.mem ((c.tc : Thread Cert.AdamwAttBInRefIdeal.nD Cert.AdamwAttBInRefIdeal.τ).loc Cert.AdamwAttBInRefIdeal.main_arg0) = m ((c.tc : Thread Cert.AdamwAttBInRefIdeal.nD Cert.AdamwAttBInRefIdeal.τ).loc Cert.AdamwAttBInRefIdeal.main_arg0)
      ∧ r.2.mem ((c.tc : Thread Cert.AdamwAttBInRefIdeal.nD Cert.AdamwAttBInRefIdeal.τ).loc Cert.AdamwAttBInRefIdeal.main_arg1) = m ((c.tc : Thread Cert.AdamwAttBInRefIdeal.nD Cert.AdamwAttBInRefIdeal.τ).loc Cert.AdamwAttBInRefIdeal.main_arg1)
      ∧ r.2.mem ((c.tc : Thread Cert.AdamwAttBInRefIdeal.nD Cert.AdamwAttBInRefIdeal.τ).loc Cert.AdamwAttBInRefIdeal.main_arg2) = m ((c.tc : Thread Cert.AdamwAttBInRefIdeal.nD Cert.AdamwAttBInRefIdeal.τ).loc Cert.AdamwAttBInRefIdeal.main_arg2)
      ∧ r.2.mem ((c.tc : Thread Cert.AdamwAttBInRefIdeal.nD Cert.AdamwAttBInRefIdeal.τ).loc Cert.AdamwAttBInRefIdeal.main_arg3) = m ((c.tc : Thread Cert.AdamwAttBInRefIdeal.nD Cert.AdamwAttBInRefIdeal.τ).loc Cert.AdamwAttBInRefIdeal.main_arg3))
      ∧ r.2.sem = fun _ => 0)

def quiescent_AdamwAttRelBias [hAdamwAttRelBias : Cert.AdamwAttRelBias.Facts] : Prop :=
  ∀ (m : (ℓ : Loc Cert.AdamwAttRelBias.nD Cert.AdamwAttRelBias.τ Cert.AdamwAttRelBias.sig) → Buf (Elt Bits) ℓ) (g : Dev Cert.AdamwAttRelBias.nD → PrngReg), Pre_AdamwAttRelBias m →
    θ_run (Cert.AdamwAttRelBias.defs (F := Bits)) (onTc (τ := Cert.AdamwAttRelBias.τ) (Cert.AdamwAttRelBias.main (F := Bits))) ⟨m, fun _ => 0, g⟩ (fun r => (∀ c : Dev Cert.AdamwAttRelBias.nD,
      r.2.mem ((c.tc : Thread Cert.AdamwAttRelBias.nD Cert.AdamwAttRelBias.τ).loc Cert.AdamwAttRelBias.main_arg0) = m ((c.tc : Thread Cert.AdamwAttRelBias.nD Cert.AdamwAttRelBias.τ).loc Cert.AdamwAttRelBias.main_arg0)
      ∧ r.2.mem ((c.tc : Thread Cert.AdamwAttRelBias.nD Cert.AdamwAttRelBias.τ).loc Cert.AdamwAttRelBias.main_arg1) = m ((c.tc : Thread Cert.AdamwAttRelBias.nD Cert.AdamwAttRelBias.τ).loc Cert.AdamwAttRelBias.main_arg1)
      ∧ r.2.mem ((c.tc : Thread Cert.AdamwAttRelBias.nD Cert.AdamwAttRelBias.τ).loc Cert.AdamwAttRelBias.main_arg2) = m ((c.tc : Thread Cert.AdamwAttRelBias.nD Cert.AdamwAttRelBias.τ).loc Cert.AdamwAttRelBias.main_arg2)
      ∧ r.2.mem ((c.tc : Thread Cert.AdamwAttRelBias.nD Cert.AdamwAttRelBias.τ).loc Cert.AdamwAttRelBias.main_arg3) = m ((c.tc : Thread Cert.AdamwAttRelBias.nD Cert.AdamwAttRelBias.τ).loc Cert.AdamwAttRelBias.main_arg3))
      ∧ r.2.sem = fun _ => 0)

def quiescent_AdamwAttRelBiasIdeal [hAdamwAttRelBiasIdeal : Cert.AdamwAttRelBiasIdeal.Facts] : Prop :=
  ∀ (m : (ℓ : Loc Cert.AdamwAttRelBiasIdeal.nD Cert.AdamwAttRelBiasIdeal.τ Cert.AdamwAttRelBiasIdeal.sig) → Buf (Elt Ideal) ℓ) (g : Dev Cert.AdamwAttRelBiasIdeal.nD → PrngReg), Pre_AdamwAttRelBiasIdeal m →
    θ_run (Cert.AdamwAttRelBiasIdeal.defs (F := Ideal)) (onTc (τ := Cert.AdamwAttRelBiasIdeal.τ) (Cert.AdamwAttRelBiasIdeal.main (F := Ideal))) ⟨m, fun _ => 0, g⟩ (fun r => (∀ c : Dev Cert.AdamwAttRelBiasIdeal.nD,
      r.2.mem ((c.tc : Thread Cert.AdamwAttRelBiasIdeal.nD Cert.AdamwAttRelBiasIdeal.τ).loc Cert.AdamwAttRelBiasIdeal.main_arg0) = m ((c.tc : Thread Cert.AdamwAttRelBiasIdeal.nD Cert.AdamwAttRelBiasIdeal.τ).loc Cert.AdamwAttRelBiasIdeal.main_arg0)
      ∧ r.2.mem ((c.tc : Thread Cert.AdamwAttRelBiasIdeal.nD Cert.AdamwAttRelBiasIdeal.τ).loc Cert.AdamwAttRelBiasIdeal.main_arg1) = m ((c.tc : Thread Cert.AdamwAttRelBiasIdeal.nD Cert.AdamwAttRelBiasIdeal.τ).loc Cert.AdamwAttRelBiasIdeal.main_arg1)
      ∧ r.2.mem ((c.tc : Thread Cert.AdamwAttRelBiasIdeal.nD Cert.AdamwAttRelBiasIdeal.τ).loc Cert.AdamwAttRelBiasIdeal.main_arg2) = m ((c.tc : Thread Cert.AdamwAttRelBiasIdeal.nD Cert.AdamwAttRelBiasIdeal.τ).loc Cert.AdamwAttRelBiasIdeal.main_arg2)
      ∧ r.2.mem ((c.tc : Thread Cert.AdamwAttRelBiasIdeal.nD Cert.AdamwAttRelBiasIdeal.τ).loc Cert.AdamwAttRelBiasIdeal.main_arg3) = m ((c.tc : Thread Cert.AdamwAttRelBiasIdeal.nD Cert.AdamwAttRelBiasIdeal.τ).loc Cert.AdamwAttRelBiasIdeal.main_arg3))
      ∧ r.2.sem = fun _ => 0)

def quiescent_AdamwAttRelBiasRefIdeal [hAdamwAttRelBiasRefIdeal : Cert.AdamwAttRelBiasRefIdeal.Facts] : Prop :=
  ∀ (m : (ℓ : Loc Cert.AdamwAttRelBiasRefIdeal.nD Cert.AdamwAttRelBiasRefIdeal.τ Cert.AdamwAttRelBiasRefIdeal.sig) → Buf (Elt Ideal) ℓ) (g : Dev Cert.AdamwAttRelBiasRefIdeal.nD → PrngReg), Pre_AdamwAttRelBiasRefIdeal m →
    θ_run (Cert.AdamwAttRelBiasRefIdeal.defs (F := Ideal)) (onTc (τ := Cert.AdamwAttRelBiasRefIdeal.τ) (Cert.AdamwAttRelBiasRefIdeal.main (F := Ideal))) ⟨m, fun _ => 0, g⟩ (fun r => (∀ c : Dev Cert.AdamwAttRelBiasRefIdeal.nD,
      r.2.mem ((c.tc : Thread Cert.AdamwAttRelBiasRefIdeal.nD Cert.AdamwAttRelBiasRefIdeal.τ).loc Cert.AdamwAttRelBiasRefIdeal.main_arg0) = m ((c.tc : Thread Cert.AdamwAttRelBiasRefIdeal.nD Cert.AdamwAttRelBiasRefIdeal.τ).loc Cert.AdamwAttRelBiasRefIdeal.main_arg0)
      ∧ r.2.mem ((c.tc : Thread Cert.AdamwAttRelBiasRefIdeal.nD Cert.AdamwAttRelBiasRefIdeal.τ).loc Cert.AdamwAttRelBiasRefIdeal.main_arg1) = m ((c.tc : Thread Cert.AdamwAttRelBiasRefIdeal.nD Cert.AdamwAttRelBiasRefIdeal.τ).loc Cert.AdamwAttRelBiasRefIdeal.main_arg1)
      ∧ r.2.mem ((c.tc : Thread Cert.AdamwAttRelBiasRefIdeal.nD Cert.AdamwAttRelBiasRefIdeal.τ).loc Cert.AdamwAttRelBiasRefIdeal.main_arg2) = m ((c.tc : Thread Cert.AdamwAttRelBiasRefIdeal.nD Cert.AdamwAttRelBiasRefIdeal.τ).loc Cert.AdamwAttRelBiasRefIdeal.main_arg2)
      ∧ r.2.mem ((c.tc : Thread Cert.AdamwAttRelBiasRefIdeal.nD Cert.AdamwAttRelBiasRefIdeal.τ).loc Cert.AdamwAttRelBiasRefIdeal.main_arg3) = m ((c.tc : Thread Cert.AdamwAttRelBiasRefIdeal.nD Cert.AdamwAttRelBiasRefIdeal.τ).loc Cert.AdamwAttRelBiasRefIdeal.main_arg3))
      ∧ r.2.sem = fun _ => 0)

def quiescent_AdamwFfW1 [hAdamwFfW1 : Cert.AdamwFfW1.Facts] : Prop :=
  ∀ (m : (ℓ : Loc Cert.AdamwFfW1.nD Cert.AdamwFfW1.τ Cert.AdamwFfW1.sig) → Buf (Elt Bits) ℓ) (g : Dev Cert.AdamwFfW1.nD → PrngReg), Pre_AdamwFfW1 m →
    θ_run (Cert.AdamwFfW1.defs (F := Bits)) (onTc (τ := Cert.AdamwFfW1.τ) (Cert.AdamwFfW1.main (F := Bits))) ⟨m, fun _ => 0, g⟩ (fun r => (∀ c : Dev Cert.AdamwFfW1.nD,
      r.2.mem ((c.tc : Thread Cert.AdamwFfW1.nD Cert.AdamwFfW1.τ).loc Cert.AdamwFfW1.main_arg0) = m ((c.tc : Thread Cert.AdamwFfW1.nD Cert.AdamwFfW1.τ).loc Cert.AdamwFfW1.main_arg0)
      ∧ r.2.mem ((c.tc : Thread Cert.AdamwFfW1.nD Cert.AdamwFfW1.τ).loc Cert.AdamwFfW1.main_arg1) = m ((c.tc : Thread Cert.AdamwFfW1.nD Cert.AdamwFfW1.τ).loc Cert.AdamwFfW1.main_arg1)
      ∧ r.2.mem ((c.tc : Thread Cert.AdamwFfW1.nD Cert.AdamwFfW1.τ).loc Cert.AdamwFfW1.main_arg2) = m ((c.tc : Thread Cert.AdamwFfW1.nD Cert.AdamwFfW1.τ).loc Cert.AdamwFfW1.main_arg2)
      ∧ r.2.mem ((c.tc : Thread Cert.AdamwFfW1.nD Cert.AdamwFfW1.τ).loc Cert.AdamwFfW1.main_arg3) = m ((c.tc : Thread Cert.AdamwFfW1.nD Cert.AdamwFfW1.τ).loc Cert.AdamwFfW1.main_arg3))
      ∧ r.2.sem = fun _ => 0)

def quiescent_AdamwFfW1Ideal [hAdamwFfW1Ideal : Cert.AdamwFfW1Ideal.Facts] : Prop :=
  ∀ (m : (ℓ : Loc Cert.AdamwFfW1Ideal.nD Cert.AdamwFfW1Ideal.τ Cert.AdamwFfW1Ideal.sig) → Buf (Elt Ideal) ℓ) (g : Dev Cert.AdamwFfW1Ideal.nD → PrngReg), Pre_AdamwFfW1Ideal m →
    θ_run (Cert.AdamwFfW1Ideal.defs (F := Ideal)) (onTc (τ := Cert.AdamwFfW1Ideal.τ) (Cert.AdamwFfW1Ideal.main (F := Ideal))) ⟨m, fun _ => 0, g⟩ (fun r => (∀ c : Dev Cert.AdamwFfW1Ideal.nD,
      r.2.mem ((c.tc : Thread Cert.AdamwFfW1Ideal.nD Cert.AdamwFfW1Ideal.τ).loc Cert.AdamwFfW1Ideal.main_arg0) = m ((c.tc : Thread Cert.AdamwFfW1Ideal.nD Cert.AdamwFfW1Ideal.τ).loc Cert.AdamwFfW1Ideal.main_arg0)
      ∧ r.2.mem ((c.tc : Thread Cert.AdamwFfW1Ideal.nD Cert.AdamwFfW1Ideal.τ).loc Cert.AdamwFfW1Ideal.main_arg1) = m ((c.tc : Thread Cert.AdamwFfW1Ideal.nD Cert.AdamwFfW1Ideal.τ).loc Cert.AdamwFfW1Ideal.main_arg1)
      ∧ r.2.mem ((c.tc : Thread Cert.AdamwFfW1Ideal.nD Cert.AdamwFfW1Ideal.τ).loc Cert.AdamwFfW1Ideal.main_arg2) = m ((c.tc : Thread Cert.AdamwFfW1Ideal.nD Cert.AdamwFfW1Ideal.τ).loc Cert.AdamwFfW1Ideal.main_arg2)
      ∧ r.2.mem ((c.tc : Thread Cert.AdamwFfW1Ideal.nD Cert.AdamwFfW1Ideal.τ).loc Cert.AdamwFfW1Ideal.main_arg3) = m ((c.tc : Thread Cert.AdamwFfW1Ideal.nD Cert.AdamwFfW1Ideal.τ).loc Cert.AdamwFfW1Ideal.main_arg3))
      ∧ r.2.sem = fun _ => 0)

def quiescent_AdamwFfW1RefIdeal [hAdamwFfW1RefIdeal : Cert.AdamwFfW1RefIdeal.Facts] : Prop :=
  ∀ (m : (ℓ : Loc Cert.AdamwFfW1RefIdeal.nD Cert.AdamwFfW1RefIdeal.τ Cert.AdamwFfW1RefIdeal.sig) → Buf (Elt Ideal) ℓ) (g : Dev Cert.AdamwFfW1RefIdeal.nD → PrngReg), Pre_AdamwFfW1RefIdeal m →
    θ_run (Cert.AdamwFfW1RefIdeal.defs (F := Ideal)) (onTc (τ := Cert.AdamwFfW1RefIdeal.τ) (Cert.AdamwFfW1RefIdeal.main (F := Ideal))) ⟨m, fun _ => 0, g⟩ (fun r => (∀ c : Dev Cert.AdamwFfW1RefIdeal.nD,
      r.2.mem ((c.tc : Thread Cert.AdamwFfW1RefIdeal.nD Cert.AdamwFfW1RefIdeal.τ).loc Cert.AdamwFfW1RefIdeal.main_arg0) = m ((c.tc : Thread Cert.AdamwFfW1RefIdeal.nD Cert.AdamwFfW1RefIdeal.τ).loc Cert.AdamwFfW1RefIdeal.main_arg0)
      ∧ r.2.mem ((c.tc : Thread Cert.AdamwFfW1RefIdeal.nD Cert.AdamwFfW1RefIdeal.τ).loc Cert.AdamwFfW1RefIdeal.main_arg1) = m ((c.tc : Thread Cert.AdamwFfW1RefIdeal.nD Cert.AdamwFfW1RefIdeal.τ).loc Cert.AdamwFfW1RefIdeal.main_arg1)
      ∧ r.2.mem ((c.tc : Thread Cert.AdamwFfW1RefIdeal.nD Cert.AdamwFfW1RefIdeal.τ).loc Cert.AdamwFfW1RefIdeal.main_arg2) = m ((c.tc : Thread Cert.AdamwFfW1RefIdeal.nD Cert.AdamwFfW1RefIdeal.τ).loc Cert.AdamwFfW1RefIdeal.main_arg2)
      ∧ r.2.mem ((c.tc : Thread Cert.AdamwFfW1RefIdeal.nD Cert.AdamwFfW1RefIdeal.τ).loc Cert.AdamwFfW1RefIdeal.main_arg3) = m ((c.tc : Thread Cert.AdamwFfW1RefIdeal.nD Cert.AdamwFfW1RefIdeal.τ).loc Cert.AdamwFfW1RefIdeal.main_arg3))
      ∧ r.2.sem = fun _ => 0)

def quiescent_SumGrads [hSumGrads : Cert.SumGrads.Facts] : Prop :=
  ∀ (m : (ℓ : Loc Cert.SumGrads.nD Cert.SumGrads.τ Cert.SumGrads.sig) → Buf (Elt Bits) ℓ) (g : Dev Cert.SumGrads.nD → PrngReg), Pre_SumGrads m →
    θ_run (Cert.SumGrads.defs (F := Bits)) (onTc (τ := Cert.SumGrads.τ) (Cert.SumGrads.main (F := Bits))) ⟨m, fun _ => 0, g⟩ (fun r => (∀ c : Dev Cert.SumGrads.nD,
      r.2.mem ((c.tc : Thread Cert.SumGrads.nD Cert.SumGrads.τ).loc Cert.SumGrads.main_arg0) = m ((c.tc : Thread Cert.SumGrads.nD Cert.SumGrads.τ).loc Cert.SumGrads.main_arg0))
      ∧ r.2.sem = fun _ => 0)

def quiescent_SumGradsIdeal [hSumGradsIdeal : Cert.SumGradsIdeal.Facts] : Prop :=
  ∀ (m : (ℓ : Loc Cert.SumGradsIdeal.nD Cert.SumGradsIdeal.τ Cert.SumGradsIdeal.sig) → Buf (Elt Ideal) ℓ) (g : Dev Cert.SumGradsIdeal.nD → PrngReg), Pre_SumGradsIdeal m →
    θ_run (Cert.SumGradsIdeal.defs (F := Ideal)) (onTc (τ := Cert.SumGradsIdeal.τ) (Cert.SumGradsIdeal.main (F := Ideal))) ⟨m, fun _ => 0, g⟩ (fun r => (∀ c : Dev Cert.SumGradsIdeal.nD,
      r.2.mem ((c.tc : Thread Cert.SumGradsIdeal.nD Cert.SumGradsIdeal.τ).loc Cert.SumGradsIdeal.main_arg0) = m ((c.tc : Thread Cert.SumGradsIdeal.nD Cert.SumGradsIdeal.τ).loc Cert.SumGradsIdeal.main_arg0))
      ∧ r.2.sem = fun _ => 0)

def quiescent_SumGradsRefIdeal [hSumGradsRefIdeal : Cert.SumGradsRefIdeal.Facts] : Prop :=
  ∀ (m : (ℓ : Loc Cert.SumGradsRefIdeal.nD Cert.SumGradsRefIdeal.τ Cert.SumGradsRefIdeal.sig) → Buf (Elt Ideal) ℓ) (g : Dev Cert.SumGradsRefIdeal.nD → PrngReg), Pre_SumGradsRefIdeal m →
    θ_run (Cert.SumGradsRefIdeal.defs (F := Ideal)) (onTc (τ := Cert.SumGradsRefIdeal.τ) (Cert.SumGradsRefIdeal.main (F := Ideal))) ⟨m, fun _ => 0, g⟩ (fun r => (∀ c : Dev Cert.SumGradsRefIdeal.nD,
      r.2.mem ((c.tc : Thread Cert.SumGradsRefIdeal.nD Cert.SumGradsRefIdeal.τ).loc Cert.SumGradsRefIdeal.main_arg0) = m ((c.tc : Thread Cert.SumGradsRefIdeal.nD Cert.SumGradsRefIdeal.τ).loc Cert.SumGradsRefIdeal.main_arg0))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ r.2.sem = fun _ => 0)

def quiescent_AdaBwdRefIdeal [hAdaBwdRefIdeal : Cert.AdaBwdRefIdeal.Facts] : Prop :=
  ∀ (m : (ℓ : Loc Cert.AdaBwdRefIdeal.nD Cert.AdaBwdRefIdeal.τ Cert.AdaBwdRefIdeal.sig) → Buf (Elt Ideal) ℓ) (g : Dev Cert.AdaBwdRefIdeal.nD → PrngReg), Pre_AdaBwdRefIdeal m →
    θ_run (Cert.AdaBwdRefIdeal.defs (F := Ideal)) (onTc (τ := Cert.AdaBwdRefIdeal.τ) (Cert.AdaBwdRefIdeal.main (F := Ideal))) ⟨m, fun _ => 0, g⟩ (fun r => (∀ c : Dev Cert.AdaBwdRefIdeal.nD,
      r.2.mem ((c.tc : Thread Cert.AdaBwdRefIdeal.nD Cert.AdaBwdRefIdeal.τ).loc Cert.AdaBwdRefIdeal.main_arg0) = m ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m ((c.tc : Thread Cert.AdaBwdRefIdeal.nD Cert.AdaBwdRefIdeal.τ).loc Cert.AdaBwdRefIdeal.main_arg1))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def quiescent_GradFfW2 [hGradFfW2 : Cert.GradFfW2.Facts] : Prop :=
  ∀ (m : (ℓ : Loc Cert.GradFfW2.nD Cert.GradFfW2.τ Cert.GradFfW2.sig) → Buf (Elt Bits) ℓ) (g : Dev Cert.GradFfW2.nD → PrngReg), Pre_GradFfW2 m →
    θ_run (Cert.GradFfW2.defs (F := Bits)) (onTc (τ := Cert.GradFfW2.τ) (Cert.GradFfW2.main (F := Bits))) ⟨m, fun _ => 0, g⟩ (fun r => (∀ c : Dev Cert.GradFfW2.nD,
      r.2.mem ((c.tc : Thread Cert.GradFfW2.nD Cert.GradFfW2.τ).loc Cert.GradFfW2.main_arg0) = m ((c.tc : Thread Cert.GradFfW2.nD Cert.GradFfW2.τ).loc Cert.GradFfW2.main_arg0)
      ∧ r.2.mem ((c.tc : Thread Cert.GradFfW2.nD Cert.GradFfW2.τ).loc Cert.GradFfW2.main_arg1) = m ((c.tc : Thread Cert.GradFfW2.nD Cert.GradFfW2.τ).loc Cert.GradFfW2.main_arg1))
      ∧ r.2.sem = fun _ => 0)

def quiescent_GradFfW2Ideal [hGradFfW2Ideal : Cert.GradFfW2Ideal.Facts] : Prop :=
  ∀ (m : (ℓ : Loc Cert.GradFfW2Ideal.nD Cert.GradFfW2Ideal.τ Cert.GradFfW2Ideal.sig) → Buf (Elt Ideal) ℓ) (g : Dev Cert.GradFfW2Ideal.nD → PrngReg), Pre_GradFfW2Ideal m →
    θ_run (Cert.GradFfW2Ideal.defs (F := Ideal)) (onTc (τ := Cert.GradFfW2Ideal.τ) (Cert.GradFfW2Ideal.main (F := Ideal))) ⟨m, fun _ => 0, g⟩ (fun r => (∀ c : Dev Cert.GradFfW2Ideal.nD,
      r.2.mem ((c.tc : Thread Cert.GradFfW2Ideal.nD Cert.GradFfW2Ideal.τ).loc Cert.GradFfW2Ideal.main_arg0) = m ((c.tc : Thread Cert.GradFfW2Ideal.nD Cert.GradFfW2Ideal.τ).loc Cert.GradFfW2Ideal.main_arg0)
      ∧ r.2.mem ((c.tc : Thread Cert.GradFfW2Ideal.nD Cert.GradFfW2Ideal.τ).loc Cert.GradFfW2Ideal.main_arg1) = m ((c.tc : Thread Cert.GradFfW2Ideal.nD Cert.GradFfW2Ideal.τ).loc Cert.GradFfW2Ideal.main_arg1))
      ∧ r.2.sem = fun _ => 0)

def quiescent_GradFfW2RefIdeal [hGradFfW2RefIdeal : Cert.GradFfW2RefIdeal.Facts] : Prop :=
  ∀ (m : (ℓ : Loc Cert.GradFfW2RefIdeal.nD Cert.GradFfW2RefIdeal.τ Cert.GradFfW2RefIdeal.sig) → Buf (Elt Ideal) ℓ) (g : Dev Cert.GradFfW2RefIdeal.nD → PrngReg), Pre_GradFfW2RefIdeal m →
    θ_run (Cert.GradFfW2RefIdeal.defs (F := Ideal)) (onTc (τ := Cert.GradFfW2RefIdeal.τ) (Cert.GradFfW2RefIdeal.main (F := Ideal))) ⟨m, fun _ => 0, g⟩ (fun r => (∀ c : Dev Cert.GradFfW2RefIdeal.nD,
      r.2.mem ((c.tc : Thread Cert.GradFfW2RefIdeal.nD Cert.GradFfW2RefIdeal.τ).loc Cert.GradFfW2RefIdeal.main_arg0) = m ((c.tc : Thread Cert.GradFfW2RefIdeal.nD Cert.GradFfW2RefIdeal.τ).loc Cert.GradFfW2RefIdeal.main_arg0)
      ∧ r.2.mem ((c.tc : Thread Cert.GradFfW2RefIdeal.nD Cert.GradFfW2RefIdeal.τ).loc Cert.GradFfW2RefIdeal.main_arg1) = m ((c.tc : Thread Cert.GradFfW2RefIdeal.nD Cert.GradFfW2RefIdeal.τ).loc Cert.GradFfW2RefIdeal.main_arg1))
      ∧ r.2.sem = fun _ => 0)

def quiescent_GradFfW1 [hGradFfW1 : Cert.GradFfW1.Facts] : Prop :=
  ∀ (m : (ℓ : Loc Cert.GradFfW1.nD Cert.GradFfW1.τ Cert.GradFfW1.sig) → Buf (Elt Bits) ℓ) (g : Dev Cert.GradFfW1.nD → PrngReg), Pre_GradFfW1 m →
    θ_run (Cert.GradFfW1.defs (F := Bits)) (onTc (τ := Cert.GradFfW1.τ) (Cert.GradFfW1.main (F := Bits))) ⟨m, fun _ => 0, g⟩ (fun r => (∀ c : Dev Cert.GradFfW1.nD,
      r.2.mem ((c.tc : Thread Cert.GradFfW1.nD Cert.GradFfW1.τ).loc Cert.GradFfW1.main_arg0) = m ((c.tc : Thread Cert.GradFfW1.nD Cert.GradFfW1.τ).loc Cert.GradFfW1.main_arg0)
      ∧ r.2.mem ((c.tc : Thread Cert.GradFfW1.nD Cert.GradFfW1.τ).loc Cert.GradFfW1.main_arg1) = m ((c.tc : Thread Cert.GradFfW1.nD Cert.GradFfW1.τ).loc Cert.GradFfW1.main_arg1))
      ∧ r.2.sem = fun _ => 0)

def quiescent_GradFfW1Ideal [hGradFfW1Ideal : Cert.GradFfW1Ideal.Facts] : Prop :=
  ∀ (m : (ℓ : Loc Cert.GradFfW1Ideal.nD Cert.GradFfW1Ideal.τ Cert.GradFfW1Ideal.sig) → Buf (Elt Ideal) ℓ) (g : Dev Cert.GradFfW1Ideal.nD → PrngReg), Pre_GradFfW1Ideal m →
    θ_run (Cert.GradFfW1Ideal.defs (F := Ideal)) (onTc (τ := Cert.GradFfW1Ideal.τ) (Cert.GradFfW1Ideal.main (F := Ideal))) ⟨m, fun _ => 0, g⟩ (fun r => (∀ c : Dev Cert.GradFfW1Ideal.nD,
      r.2.mem ((c.tc : Thread Cert.GradFfW1Ideal.nD Cert.GradFfW1Ideal.τ).loc Cert.GradFfW1Ideal.main_arg0) = m ((c.tc : Thread Cert.GradFfW1Ideal.nD Cert.GradFfW1Ideal.τ).loc Cert.GradFfW1Ideal.main_arg0)
      ∧ r.2.mem ((c.tc : Thread Cert.GradFfW1Ideal.nD Cert.GradFfW1Ideal.τ).loc Cert.GradFfW1Ideal.main_arg1) = m ((c.tc : Thread Cert.GradFfW1Ideal.nD Cert.GradFfW1Ideal.τ).loc Cert.GradFfW1Ideal.main_arg1))
      ∧ r.2.sem = fun _ => 0)

def quiescent_GradFfW1RefIdeal [hGradFfW1RefIdeal : Cert.GradFfW1RefIdeal.Facts] : Prop :=
  ∀ (m : (ℓ : Loc Cert.GradFfW1RefIdeal.nD Cert.GradFfW1RefIdeal.τ Cert.GradFfW1RefIdeal.sig) → Buf (Elt Ideal) ℓ) (g : Dev Cert.GradFfW1RefIdeal.nD → PrngReg), Pre_GradFfW1RefIdeal m →
    θ_run (Cert.GradFfW1RefIdeal.defs (F := Ideal)) (onTc (τ := Cert.GradFfW1RefIdeal.τ) (Cert.GradFfW1RefIdeal.main (F := Ideal))) ⟨m, fun _ => 0, g⟩ (fun r => (∀ c : Dev Cert.GradFfW1RefIdeal.nD,
      r.2.mem ((c.tc : Thread Cert.GradFfW1RefIdeal.nD Cert.GradFfW1RefIdeal.τ).loc Cert.GradFfW1RefIdeal.main_arg0) = m ((c.tc : Thread Cert.GradFfW1RefIdeal.nD Cert.GradFfW1RefIdeal.τ).loc Cert.GradFfW1RefIdeal.main_arg0)
      ∧ r.2.mem ((c.tc : Thread Cert.GradFfW1RefIdeal.nD Cert.GradFfW1RefIdeal.τ).loc Cert.GradFfW1RefIdeal.main_arg1) = m ((c.tc : Thread Cert.GradFfW1RefIdeal.nD Cert.GradFfW1RefIdeal.τ).loc Cert.GradFfW1RefIdeal.main_arg1))
      ∧ r.2.sem = fun _ => 0)

def quiescent_GradGlaWOut [hGradGlaWOut : Cert.GradGlaWOut.Facts] : Prop :=
  ∀ (m : (ℓ : Loc Cert.GradGlaWOut.nD Cert.GradGlaWOut.τ Cert.GradGlaWOut.sig) → Buf (Elt Bits) ℓ) (g : Dev Cert.GradGlaWOut.nD → PrngReg), Pre_GradGlaWOut m →
    θ_run (Cert.GradGlaWOut.defs (F := Bits)) (onTc (τ := Cert.GradGlaWOut.τ) (Cert.GradGlaWOut.main (F := Bits))) ⟨m, fun _ => 0, g⟩ (fun r => (∀ c : Dev Cert.GradGlaWOut.nD,
      r.2.mem ((c.tc : Thread Cert.GradGlaWOut.nD Cert.GradGlaWOut.τ).loc Cert.GradGlaWOut.main_arg0) = m ((c.tc : Thread Cert.GradGlaWOut.nD Cert.GradGlaWOut.τ).loc Cert.GradGlaWOut.main_arg0)
      ∧ r.2.mem ((c.tc : Thread Cert.GradGlaWOut.nD Cert.GradGlaWOut.τ).loc Cert.GradGlaWOut.main_arg1) = m ((c.tc : Thread Cert.GradGlaWOut.nD Cert.GradGlaWOut.τ).loc Cert.GradGlaWOut.main_arg1))
      ∧ r.2.sem = fun _ => 0)

def quiescent_GradGlaWOutIdeal [hGradGlaWOutIdeal : Cert.GradGlaWOutIdeal.Facts] : Prop :=
  ∀ (m : (ℓ : Loc Cert.GradGlaWOutIdeal.nD Cert.GradGlaWOutIdeal.τ Cert.GradGlaWOutIdeal.sig) → Buf (Elt Ideal) ℓ) (g : Dev Cert.GradGlaWOutIdeal.nD → PrngReg), Pre_GradGlaWOutIdeal m →
    θ_run (Cert.GradGlaWOutIdeal.defs (F := Ideal)) (onTc (τ := Cert.GradGlaWOutIdeal.τ) (Cert.GradGlaWOutIdeal.main (F := Ideal))) ⟨m, fun _ => 0, g⟩ (fun r => (∀ c : Dev Cert.GradGlaWOutIdeal.nD,
      r.2.mem ((c.tc : Thread Cert.GradGlaWOutIdeal.nD Cert.GradGlaWOutIdeal.τ).loc Cert.GradGlaWOutIdeal.main_arg0) = m ((c.tc : Thread Cert.GradGlaWOutIdeal.nD Cert.GradGlaWOutIdeal.τ).loc Cert.GradGlaWOutIdeal.main_arg0)
      ∧ r.2.mem ((c.tc : Thread Cert.GradGlaWOutIdeal.nD Cert.GradGlaWOutIdeal.τ).loc Cert.GradGlaWOutIdeal.main_arg1) = m ((c.tc : Thread Cert.GradGlaWOutIdeal.nD Cert.GradGlaWOutIdeal.τ).loc Cert.GradGlaWOutIdeal.main_arg1))
      ∧ r.2.sem = fun _ => 0)

def quiescent_GradGlaWOutRefIdeal [hGradGlaWOutRefIdeal : Cert.GradGlaWOutRefIdeal.Facts] : Prop :=
  ∀ (m : (ℓ : Loc Cert.GradGlaWOutRefIdeal.nD Cert.GradGlaWOutRefIdeal.τ Cert.GradGlaWOutRefIdeal.sig) → Buf (Elt Ideal) ℓ) (g : Dev Cert.GradGlaWOutRefIdeal.nD → PrngReg), Pre_GradGlaWOutRefIdeal m →
    θ_run (Cert.GradGlaWOutRefIdeal.defs (F := Ideal)) (onTc (τ := Cert.GradGlaWOutRefIdeal.τ) (Cert.GradGlaWOutRefIdeal.main (F := Ideal))) ⟨m, fun _ => 0, g⟩ (fun r => (∀ c : Dev Cert.GradGlaWOutRefIdeal.nD,
      r.2.mem ((c.tc : Thread Cert.GradGlaWOutRefIdeal.nD Cert.GradGlaWOutRefIdeal.τ).loc Cert.GradGlaWOutRefIdeal.main_arg0) = m ((c.tc : Thread Cert.GradGlaWOutRefIdeal.nD Cert.GradGlaWOutRefIdeal.τ).loc Cert.GradGlaWOutRefIdeal.main_arg0)
      ∧ r.2.mem ((c.tc : Thread Cert.GradGlaWOutRefIdeal.nD Cert.GradGlaWOutRefIdeal.τ).loc Cert.GradGlaWOutRefIdeal.main_arg1) = m ((c.tc : Thread Cert.GradGlaWOutRefIdeal.nD Cert.GradGlaWOutRefIdeal.τ).loc Cert.GradGlaWOutRefIdeal.main_arg1))
      ∧ r.2.sem = fun _ => 0)

def quiescent_GradGlaWIn [hGradGlaWIn : Cert.GradGlaWIn.Facts] : Prop :=
  ∀ (m : (ℓ : Loc Cert.GradGlaWIn.nD Cert.GradGlaWIn.τ Cert.GradGlaWIn.sig) → Buf (Elt Bits) ℓ) (g : Dev Cert.GradGlaWIn.nD → PrngReg), Pre_GradGlaWIn m →
    θ_run (Cert.GradGlaWIn.defs (F := Bits)) (onTc (τ := Cert.GradGlaWIn.τ) (Cert.GradGlaWIn.main (F := Bits))) ⟨m, fun _ => 0, g⟩ (fun r => (∀ c : Dev Cert.GradGlaWIn.nD,
      r.2.mem ((c.tc : Thread Cert.GradGlaWIn.nD Cert.GradGlaWIn.τ).loc Cert.GradGlaWIn.main_arg0) = m ((c.tc : Thread Cert.GradGlaWIn.nD Cert.GradGlaWIn.τ).loc Cert.GradGlaWIn.main_arg0)
      ∧ r.2.mem ((c.tc : Thread Cert.GradGlaWIn.nD Cert.GradGlaWIn.τ).loc Cert.GradGlaWIn.main_arg1) = m ((c.tc : Thread Cert.GradGlaWIn.nD Cert.GradGlaWIn.τ).loc Cert.GradGlaWIn.main_arg1))
      ∧ r.2.sem = fun _ => 0)

def quiescent_GradGlaWInIdeal [hGradGlaWInIdeal : Cert.GradGlaWInIdeal.Facts] : Prop :=
  ∀ (m : (ℓ : Loc Cert.GradGlaWInIdeal.nD Cert.GradGlaWInIdeal.τ Cert.GradGlaWInIdeal.sig) → Buf (Elt Ideal) ℓ) (g : Dev Cert.GradGlaWInIdeal.nD → PrngReg), Pre_GradGlaWInIdeal m →
    θ_run (Cert.GradGlaWInIdeal.defs (F := Ideal)) (onTc (τ := Cert.GradGlaWInIdeal.τ) (Cert.GradGlaWInIdeal.main (F := Ideal))) ⟨m, fun _ => 0, g⟩ (fun r => (∀ c : Dev Cert.GradGlaWInIdeal.nD,
      r.2.mem ((c.tc : Thread Cert.GradGlaWInIdeal.nD Cert.GradGlaWInIdeal.τ).loc Cert.GradGlaWInIdeal.main_arg0) = m ((c.tc : Thread Cert.GradGlaWInIdeal.nD Cert.GradGlaWInIdeal.τ).loc Cert.GradGlaWInIdeal.main_arg0)
      ∧ r.2.mem ((c.tc : Thread Cert.GradGlaWInIdeal.nD Cert.GradGlaWInIdeal.τ).loc Cert.GradGlaWInIdeal.main_arg1) = m ((c.tc : Thread Cert.GradGlaWInIdeal.nD Cert.GradGlaWInIdeal.τ).loc Cert.GradGlaWInIdeal.main_arg1))
      ∧ r.2.sem = fun _ => 0)

def quiescent_GradGlaWInRefIdeal [hGradGlaWInRefIdeal : Cert.GradGlaWInRefIdeal.Facts] : Prop :=
  ∀ (m : (ℓ : Loc Cert.GradGlaWInRefIdeal.nD Cert.GradGlaWInRefIdeal.τ Cert.GradGlaWInRefIdeal.sig) → Buf (Elt Ideal) ℓ) (g : Dev Cert.GradGlaWInRefIdeal.nD → PrngReg), Pre_GradGlaWInRefIdeal m →
    θ_run (Cert.GradGlaWInRefIdeal.defs (F := Ideal)) (onTc (τ := Cert.GradGlaWInRefIdeal.τ) (Cert.GradGlaWInRefIdeal.main (F := Ideal))) ⟨m, fun _ => 0, g⟩ (fun r => (∀ c : Dev Cert.GradGlaWInRefIdeal.nD,
      r.2.mem ((c.tc : Thread Cert.GradGlaWInRefIdeal.nD Cert.GradGlaWInRefIdeal.τ).loc Cert.GradGlaWInRefIdeal.main_arg0) = m ((c.tc : Thread Cert.GradGlaWInRefIdeal.nD Cert.GradGlaWInRefIdeal.τ).loc Cert.GradGlaWInRefIdeal.main_arg0)
      ∧ r.2.mem ((c.tc : Thread Cert.GradGlaWInRefIdeal.nD Cert.GradGlaWInRefIdeal.τ).loc Cert.GradGlaWInRefIdeal.main_arg1) = m ((c.tc : Thread Cert.GradGlaWInRefIdeal.nD Cert.GradGlaWInRefIdeal.τ).loc Cert.GradGlaWInRefIdeal.main_arg1))
      ∧ r.2.sem = fun _ => 0)

def quiescent_GradAttWIn [hGradAttWIn : Cert.GradAttWIn.Facts] : Prop :=
  ∀ (m : (ℓ : Loc Cert.GradAttWIn.nD Cert.GradAttWIn.τ Cert.GradAttWIn.sig) → Buf (Elt Bits) ℓ) (g : Dev Cert.GradAttWIn.nD → PrngReg), Pre_GradAttWIn m →
    θ_run (Cert.GradAttWIn.defs (F := Bits)) (onTc (τ := Cert.GradAttWIn.τ) (Cert.GradAttWIn.main (F := Bits))) ⟨m, fun _ => 0, g⟩ (fun r => (∀ c : Dev Cert.GradAttWIn.nD,
      r.2.mem ((c.tc : Thread Cert.GradAttWIn.nD Cert.GradAttWIn.τ).loc Cert.GradAttWIn.main_arg0) = m ((c.tc : Thread Cert.GradAttWIn.nD Cert.GradAttWIn.τ).loc Cert.GradAttWIn.main_arg0)
      ∧ r.2.mem ((c.tc : Thread Cert.GradAttWIn.nD Cert.GradAttWIn.τ).loc Cert.GradAttWIn.main_arg1) = m ((c.tc : Thread Cert.GradAttWIn.nD Cert.GradAttWIn.τ).loc Cert.GradAttWIn.main_arg1))
      ∧ r.2.sem = fun _ => 0)

def quiescent_GradAttWInIdeal [hGradAttWInIdeal : Cert.GradAttWInIdeal.Facts] : Prop :=
  ∀ (m : (ℓ : Loc Cert.GradAttWInIdeal.nD Cert.GradAttWInIdeal.τ Cert.GradAttWInIdeal.sig) → Buf (Elt Ideal) ℓ) (g : Dev Cert.GradAttWInIdeal.nD → PrngReg), Pre_GradAttWInIdeal m →
    θ_run (Cert.GradAttWInIdeal.defs (F := Ideal)) (onTc (τ := Cert.GradAttWInIdeal.τ) (Cert.GradAttWInIdeal.main (F := Ideal))) ⟨m, fun _ => 0, g⟩ (fun r => (∀ c : Dev Cert.GradAttWInIdeal.nD,
      r.2.mem ((c.tc : Thread Cert.GradAttWInIdeal.nD Cert.GradAttWInIdeal.τ).loc Cert.GradAttWInIdeal.main_arg0) = m ((c.tc : Thread Cert.GradAttWInIdeal.nD Cert.GradAttWInIdeal.τ).loc Cert.GradAttWInIdeal.main_arg0)
      ∧ r.2.mem ((c.tc : Thread Cert.GradAttWInIdeal.nD Cert.GradAttWInIdeal.τ).loc Cert.GradAttWInIdeal.main_arg1) = m ((c.tc : Thread Cert.GradAttWInIdeal.nD Cert.GradAttWInIdeal.τ).loc Cert.GradAttWInIdeal.main_arg1))
      ∧ r.2.sem = fun _ => 0)

def quiescent_GradAttWInRefIdeal [hGradAttWInRefIdeal : Cert.GradAttWInRefIdeal.Facts] : Prop :=
  ∀ (m : (ℓ : Loc Cert.GradAttWInRefIdeal.nD Cert.GradAttWInRefIdeal.τ Cert.GradAttWInRefIdeal.sig) → Buf (Elt Ideal) ℓ) (g : Dev Cert.GradAttWInRefIdeal.nD → PrngReg), Pre_GradAttWInRefIdeal m →
    θ_run (Cert.GradAttWInRefIdeal.defs (F := Ideal)) (onTc (τ := Cert.GradAttWInRefIdeal.τ) (Cert.GradAttWInRefIdeal.main (F := Ideal))) ⟨m, fun _ => 0, g⟩ (fun r => (∀ c : Dev Cert.GradAttWInRefIdeal.nD,
      r.2.mem ((c.tc : Thread Cert.GradAttWInRefIdeal.nD Cert.GradAttWInRefIdeal.τ).loc Cert.GradAttWInRefIdeal.main_arg0) = m ((c.tc : Thread Cert.GradAttWInRefIdeal.nD Cert.GradAttWInRefIdeal.τ).loc Cert.GradAttWInRefIdeal.main_arg0)
      ∧ r.2.mem ((c.tc : Thread Cert.GradAttWInRefIdeal.nD Cert.GradAttWInRefIdeal.τ).loc Cert.GradAttWInRefIdeal.main_arg1) = m ((c.tc : Thread Cert.GradAttWInRefIdeal.nD Cert.GradAttWInRefIdeal.τ).loc Cert.GradAttWInRefIdeal.main_arg1))
      ∧ r.2.sem = fun _ => 0)

def quiescent_DxGla [hDxGla : Cert.DxGla.Facts] : Prop :=
  ∀ (m : (ℓ : Loc Cert.DxGla.nD Cert.DxGla.τ Cert.DxGla.sig) → Buf (Elt Bits) ℓ) (g : Dev Cert.DxGla.nD → PrngReg), Pre_DxGla m →
    θ_run (Cert.DxGla.defs (F := Bits)) (onTc (τ := Cert.DxGla.τ) (Cert.DxGla.main (F := Bits))) ⟨m, fun _ => 0, g⟩ (fun r => (∀ c : Dev Cert.DxGla.nD,
      r.2.mem ((c.tc : Thread Cert.DxGla.nD Cert.DxGla.τ).loc Cert.DxGla.main_arg0) = m ((c.tc : Thread Cert.DxGla.nD Cert.DxGla.τ).loc Cert.DxGla.main_arg0)
      ∧ r.2.mem ((c.tc : Thread Cert.DxGla.nD Cert.DxGla.τ).loc Cert.DxGla.main_arg1) = m ((c.tc : Thread Cert.DxGla.nD Cert.DxGla.τ).loc Cert.DxGla.main_arg1)
      ∧ r.2.mem ((c.tc : Thread Cert.DxGla.nD Cert.DxGla.τ).loc Cert.DxGla.main_arg2) = m ((c.tc : Thread Cert.DxGla.nD Cert.DxGla.τ).loc Cert.DxGla.main_arg2)
      ∧ r.2.mem ((c.tc : Thread Cert.DxGla.nD Cert.DxGla.τ).loc Cert.DxGla.main_arg3) = m ((c.tc : Thread Cert.DxGla.nD Cert.DxGla.τ).loc Cert.DxGla.main_arg3)
      ∧ r.2.mem ((c.tc : Thread Cert.DxGla.nD Cert.DxGla.τ).loc Cert.DxGla.main_arg4) = m ((c.tc : Thread Cert.DxGla.nD Cert.DxGla.τ).loc Cert.DxGla.main_arg4))
      ∧ r.2.sem = fun _ => 0)

def quiescent_DxGlaIdeal [hDxGlaIdeal : Cert.DxGlaIdeal.Facts] : Prop :=
  ∀ (m : (ℓ : Loc Cert.DxGlaIdeal.nD Cert.DxGlaIdeal.τ Cert.DxGlaIdeal.sig) → Buf (Elt Ideal) ℓ) (g : Dev Cert.DxGlaIdeal.nD → PrngReg), Pre_DxGlaIdeal m →
    θ_run (Cert.DxGlaIdeal.defs (F := Ideal)) (onTc (τ := Cert.DxGlaIdeal.τ) (Cert.DxGlaIdeal.main (F := Ideal))) ⟨m, fun _ => 0, g⟩ (fun r => (∀ c : Dev Cert.DxGlaIdeal.nD,
      r.2.mem ((c.tc : Thread Cert.DxGlaIdeal.nD Cert.DxGlaIdeal.τ).loc Cert.DxGlaIdeal.main_arg0) = m ((c.tc : Thread Cert.DxGlaIdeal.nD Cert.DxGlaIdeal.τ).loc Cert.DxGlaIdeal.main_arg0)
      ∧ r.2.mem ((c.tc : Thread Cert.DxGlaIdeal.nD Cert.DxGlaIdeal.τ).loc Cert.DxGlaIdeal.main_arg1) = m ((c.tc : Thread Cert.DxGlaIdeal.nD Cert.DxGlaIdeal.τ).loc Cert.DxGlaIdeal.main_arg1)
      ∧ r.2.mem ((c.tc : Thread Cert.DxGlaIdeal.nD Cert.DxGlaIdeal.τ).loc Cert.DxGlaIdeal.main_arg2) = m ((c.tc : Thread Cert.DxGlaIdeal.nD Cert.DxGlaIdeal.τ).loc Cert.DxGlaIdeal.main_arg2)
      ∧ r.2.mem ((c.tc : Thread Cert.DxGlaIdeal.nD Cert.DxGlaIdeal.τ).loc Cert.DxGlaIdeal.main_arg3) = m ((c.tc : Thread Cert.DxGlaIdeal.nD Cert.DxGlaIdeal.τ).loc Cert.DxGlaIdeal.main_arg3)
      ∧ r.2.mem ((c.tc : Thread Cert.DxGlaIdeal.nD Cert.DxGlaIdeal.τ).loc Cert.DxGlaIdeal.main_arg4) = m ((c.tc : Thread Cert.DxGlaIdeal.nD Cert.DxGlaIdeal.τ).loc Cert.DxGlaIdeal.main_arg4))
      ∧ r.2.sem = fun _ => 0)

def quiescent_DxGlaRefIdeal [hDxGlaRefIdeal : Cert.DxGlaRefIdeal.Facts] : Prop :=
  ∀ (m : (ℓ : Loc Cert.DxGlaRefIdeal.nD Cert.DxGlaRefIdeal.τ Cert.DxGlaRefIdeal.sig) → Buf (Elt Ideal) ℓ) (g : Dev Cert.DxGlaRefIdeal.nD → PrngReg), Pre_DxGlaRefIdeal m →
    θ_run (Cert.DxGlaRefIdeal.defs (F := Ideal)) (onTc (τ := Cert.DxGlaRefIdeal.τ) (Cert.DxGlaRefIdeal.main (F := Ideal))) ⟨m, fun _ => 0, g⟩ (fun r => (∀ c : Dev Cert.DxGlaRefIdeal.nD,
      r.2.mem ((c.tc : Thread Cert.DxGlaRefIdeal.nD Cert.DxGlaRefIdeal.τ).loc Cert.DxGlaRefIdeal.main_arg0) = m ((c.tc : Thread Cert.DxGlaRefIdeal.nD Cert.DxGlaRefIdeal.τ).loc Cert.DxGlaRefIdeal.main_arg0)
      ∧ r.2.mem ((c.tc : Thread Cert.DxGlaRefIdeal.nD Cert.DxGlaRefIdeal.τ).loc Cert.DxGlaRefIdeal.main_arg1) = m ((c.tc : Thread Cert.DxGlaRefIdeal.nD Cert.DxGlaRefIdeal.τ).loc Cert.DxGlaRefIdeal.main_arg1)
      ∧ r.2.mem ((c.tc : Thread Cert.DxGlaRefIdeal.nD Cert.DxGlaRefIdeal.τ).loc Cert.DxGlaRefIdeal.main_arg2) = m ((c.tc : Thread Cert.DxGlaRefIdeal.nD Cert.DxGlaRefIdeal.τ).loc Cert.DxGlaRefIdeal.main_arg2)
      ∧ r.2.mem ((c.tc : Thread Cert.DxGlaRefIdeal.nD Cert.DxGlaRefIdeal.τ).loc Cert.DxGlaRefIdeal.main_arg3) = m ((c.tc : Thread Cert.DxGlaRefIdeal.nD Cert.DxGlaRefIdeal.τ).loc Cert.DxGlaRefIdeal.main_arg3)
      ∧ r.2.mem ((c.tc : Thread Cert.DxGlaRefIdeal.nD Cert.DxGlaRefIdeal.τ).loc Cert.DxGlaRefIdeal.main_arg4) = m ((c.tc : Thread Cert.DxGlaRefIdeal.nD Cert.DxGlaRefIdeal.τ).loc Cert.DxGlaRefIdeal.main_arg4))
      ∧ r.2.sem = fun _ => 0)

def quiescent_DxAtt [hDxAtt : Cert.DxAtt.Facts] : Prop :=
  ∀ (m : (ℓ : Loc Cert.DxAtt.nD Cert.DxAtt.τ Cert.DxAtt.sig) → Buf (Elt Bits) ℓ) (g : Dev Cert.DxAtt.nD → PrngReg), Pre_DxAtt m →
    θ_run (Cert.DxAtt.defs (F := Bits)) (onTc (τ := Cert.DxAtt.τ) (Cert.DxAtt.main (F := Bits))) ⟨m, fun _ => 0, g⟩ (fun r => (∀ c : Dev Cert.DxAtt.nD,
      r.2.mem ((c.tc : Thread Cert.DxAtt.nD Cert.DxAtt.τ).loc Cert.DxAtt.main_arg0) = m ((c.tc : Thread Cert.DxAtt.nD Cert.DxAtt.τ).loc Cert.DxAtt.main_arg0)
      ∧ r.2.mem ((c.tc : Thread Cert.DxAtt.nD Cert.DxAtt.τ).loc Cert.DxAtt.main_arg1) = m ((c.tc : Thread Cert.DxAtt.nD Cert.DxAtt.τ).loc Cert.DxAtt.main_arg1)
      ∧ r.2.mem ((c.tc : Thread Cert.DxAtt.nD Cert.DxAtt.τ).loc Cert.DxAtt.main_arg2) = m ((c.tc : Thread Cert.DxAtt.nD Cert.DxAtt.τ).loc Cert.DxAtt.main_arg2)
      ∧ r.2.mem ((c.tc : Thread Cert.DxAtt.nD Cert.DxAtt.τ).loc Cert.DxAtt.main_arg3) = m ((c.tc : Thread Cert.DxAtt.nD Cert.DxAtt.τ).loc Cert.DxAtt.main_arg3)
      ∧ r.2.mem ((c.tc : Thread Cert.DxAtt.nD Cert.DxAtt.τ).loc Cert.DxAtt.main_arg4) = m ((c.tc : Thread Cert.DxAtt.nD Cert.DxAtt.τ).loc Cert.DxAtt.main_arg4))
      ∧ r.2.sem = fun _ => 0)

def quiescent_DxAttIdeal [hDxAttIdeal : Cert.DxAttIdeal.Facts] : Prop :=
  ∀ (m : (ℓ : Loc Cert.DxAttIdeal.nD Cert.DxAttIdeal.τ Cert.DxAttIdeal.sig) → Buf (Elt Ideal) ℓ) (g : Dev Cert.DxAttIdeal.nD → PrngReg), Pre_DxAttIdeal m →
    θ_run (Cert.DxAttIdeal.defs (F := Ideal)) (onTc (τ := Cert.DxAttIdeal.τ) (Cert.DxAttIdeal.main (F := Ideal))) ⟨m, fun _ => 0, g⟩ (fun r => (∀ c : Dev Cert.DxAttIdeal.nD,
      r.2.mem ((c.tc : Thread Cert.DxAttIdeal.nD Cert.DxAttIdeal.τ).loc Cert.DxAttIdeal.main_arg0) = m ((c.tc : Thread Cert.DxAttIdeal.nD Cert.DxAttIdeal.τ).loc Cert.DxAttIdeal.main_arg0)
      ∧ r.2.mem ((c.tc : Thread Cert.DxAttIdeal.nD Cert.DxAttIdeal.τ).loc Cert.DxAttIdeal.main_arg1) = m ((c.tc : Thread Cert.DxAttIdeal.nD Cert.DxAttIdeal.τ).loc Cert.DxAttIdeal.main_arg1)
      ∧ r.2.mem ((c.tc : Thread Cert.DxAttIdeal.nD Cert.DxAttIdeal.τ).loc Cert.DxAttIdeal.main_arg2) = m ((c.tc : Thread Cert.DxAttIdeal.nD Cert.DxAttIdeal.τ).loc Cert.DxAttIdeal.main_arg2)
      ∧ r.2.mem ((c.tc : Thread Cert.DxAttIdeal.nD Cert.DxAttIdeal.τ).loc Cert.DxAttIdeal.main_arg3) = m ((c.tc : Thread Cert.DxAttIdeal.nD Cert.DxAttIdeal.τ).loc Cert.DxAttIdeal.main_arg3)
      ∧ r.2.mem ((c.tc : Thread Cert.DxAttIdeal.nD Cert.DxAttIdeal.τ).loc Cert.DxAttIdeal.main_arg4) = m ((c.tc : Thread Cert.DxAttIdeal.nD Cert.DxAttIdeal.τ).loc Cert.DxAttIdeal.main_arg4))
      ∧ r.2.sem = fun _ => 0)

def quiescent_DxAttRefIdeal [hDxAttRefIdeal : Cert.DxAttRefIdeal.Facts] : Prop :=
  ∀ (m : (ℓ : Loc Cert.DxAttRefIdeal.nD Cert.DxAttRefIdeal.τ Cert.DxAttRefIdeal.sig) → Buf (Elt Ideal) ℓ) (g : Dev Cert.DxAttRefIdeal.nD → PrngReg), Pre_DxAttRefIdeal m →
    θ_run (Cert.DxAttRefIdeal.defs (F := Ideal)) (onTc (τ := Cert.DxAttRefIdeal.τ) (Cert.DxAttRefIdeal.main (F := Ideal))) ⟨m, fun _ => 0, g⟩ (fun r => (∀ c : Dev Cert.DxAttRefIdeal.nD,
      r.2.mem ((c.tc : Thread Cert.DxAttRefIdeal.nD Cert.DxAttRefIdeal.τ).loc Cert.DxAttRefIdeal.main_arg0) = m ((c.tc : Thread Cert.DxAttRefIdeal.nD Cert.DxAttRefIdeal.τ).loc Cert.DxAttRefIdeal.main_arg0)
      ∧ r.2.mem ((c.tc : Thread Cert.DxAttRefIdeal.nD Cert.DxAttRefIdeal.τ).loc Cert.DxAttRefIdeal.main_arg1) = m ((c.tc : Thread Cert.DxAttRefIdeal.nD Cert.DxAttRefIdeal.τ).loc Cert.DxAttRefIdeal.main_arg1)
      ∧ r.2.mem ((c.tc : Thread Cert.DxAttRefIdeal.nD Cert.DxAttRefIdeal.τ).loc Cert.DxAttRefIdeal.main_arg2) = m ((c.tc : Thread Cert.DxAttRefIdeal.nD Cert.DxAttRefIdeal.τ).loc Cert.DxAttRefIdeal.main_arg2)
      ∧ r.2.mem ((c.tc : Thread Cert.DxAttRefIdeal.nD Cert.DxAttRefIdeal.τ).loc Cert.DxAttRefIdeal.main_arg3) = m ((c.tc : Thread Cert.DxAttRefIdeal.nD Cert.DxAttRefIdeal.τ).loc Cert.DxAttRefIdeal.main_arg3)
      ∧ r.2.mem ((c.tc : Thread Cert.DxAttRefIdeal.nD Cert.DxAttRefIdeal.τ).loc Cert.DxAttRefIdeal.main_arg4) = m ((c.tc : Thread Cert.DxAttRefIdeal.nD Cert.DxAttRefIdeal.τ).loc Cert.DxAttRefIdeal.main_arg4))
      ∧ r.2.sem = fun _ => 0)

def quiescent_DxFf [hDxFf : Cert.DxFf.Facts] : Prop :=
  ∀ (m : (ℓ : Loc Cert.DxFf.nD Cert.DxFf.τ Cert.DxFf.sig) → Buf (Elt Bits) ℓ) (g : Dev Cert.DxFf.nD → PrngReg), Pre_DxFf m →
    θ_run (Cert.DxFf.defs (F := Bits)) (onTc (τ := Cert.DxFf.τ) (Cert.DxFf.main (F := Bits))) ⟨m, fun _ => 0, g⟩ (fun r => (∀ c : Dev Cert.DxFf.nD,
      r.2.mem ((c.tc : Thread Cert.DxFf.nD Cert.DxFf.τ).loc Cert.DxFf.main_arg0) = m ((c.tc : Thread Cert.DxFf.nD Cert.DxFf.τ).loc Cert.DxFf.main_arg0)
      ∧ r.2.mem ((c.tc : Thread Cert.DxFf.nD Cert.DxFf.τ).loc Cert.DxFf.main_arg1) = m ((c.tc : Thread Cert.DxFf.nD Cert.DxFf.τ).loc Cert.DxFf.main_arg1)
      ∧ r.2.mem ((c.tc : Thread Cert.DxFf.nD Cert.DxFf.τ).loc Cert.DxFf.main_arg2) = m ((c.tc : Thread Cert.DxFf.nD Cert.DxFf.τ).loc Cert.DxFf.main_arg2)
      ∧ r.2.mem ((c.tc : Thread Cert.DxFf.nD Cert.DxFf.τ).loc Cert.DxFf.main_arg3) = m ((c.tc : Thread Cert.DxFf.nD Cert.DxFf.τ).loc Cert.DxFf.main_arg3)
      ∧ r.2.mem ((c.tc : Thread Cert.DxFf.nD Cert.DxFf.τ).loc Cert.DxFf.main_arg4) = m ((c.tc : Thread Cert.DxFf.nD Cert.DxFf.τ).loc Cert.DxFf.main_arg4))
      ∧ r.2.sem = fun _ => 0)

def quiescent_DxFfIdeal [hDxFfIdeal : Cert.DxFfIdeal.Facts] : Prop :=
  ∀ (m : (ℓ : Loc Cert.DxFfIdeal.nD Cert.DxFfIdeal.τ Cert.DxFfIdeal.sig) → Buf (Elt Ideal) ℓ) (g : Dev Cert.DxFfIdeal.nD → PrngReg), Pre_DxFfIdeal m →
    θ_run (Cert.DxFfIdeal.defs (F := Ideal)) (onTc (τ := Cert.DxFfIdeal.τ) (Cert.DxFfIdeal.main (F := Ideal))) ⟨m, fun _ => 0, g⟩ (fun r => (∀ c : Dev Cert.DxFfIdeal.nD,
      r.2.mem ((c.tc : Thread Cert.DxFfIdeal.nD Cert.DxFfIdeal.τ).loc Cert.DxFfIdeal.main_arg0) = m ((c.tc : Thread Cert.DxFfIdeal.nD Cert.DxFfIdeal.τ).loc Cert.DxFfIdeal.main_arg0)
      ∧ r.2.mem ((c.tc : Thread Cert.DxFfIdeal.nD Cert.DxFfIdeal.τ).loc Cert.DxFfIdeal.main_arg1) = m ((c.tc : Thread Cert.DxFfIdeal.nD Cert.DxFfIdeal.τ).loc Cert.DxFfIdeal.main_arg1)
      ∧ r.2.mem ((c.tc : Thread Cert.DxFfIdeal.nD Cert.DxFfIdeal.τ).loc Cert.DxFfIdeal.main_arg2) = m ((c.tc : Thread Cert.DxFfIdeal.nD Cert.DxFfIdeal.τ).loc Cert.DxFfIdeal.main_arg2)
      ∧ r.2.mem ((c.tc : Thread Cert.DxFfIdeal.nD Cert.DxFfIdeal.τ).loc Cert.DxFfIdeal.main_arg3) = m ((c.tc : Thread Cert.DxFfIdeal.nD Cert.DxFfIdeal.τ).loc Cert.DxFfIdeal.main_arg3)
      ∧ r.2.mem ((c.tc : Thread Cert.DxFfIdeal.nD Cert.DxFfIdeal.τ).loc Cert.DxFfIdeal.main_arg4) = m ((c.tc : Thread Cert.DxFfIdeal.nD Cert.DxFfIdeal.τ).loc Cert.DxFfIdeal.main_arg4))
      ∧ r.2.sem = fun _ => 0)

def quiescent_DxFfRefIdeal [hDxFfRefIdeal : Cert.DxFfRefIdeal.Facts] : Prop :=
  ∀ (m : (ℓ : Loc Cert.DxFfRefIdeal.nD Cert.DxFfRefIdeal.τ Cert.DxFfRefIdeal.sig) → Buf (Elt Ideal) ℓ) (g : Dev Cert.DxFfRefIdeal.nD → PrngReg), Pre_DxFfRefIdeal m →
    θ_run (Cert.DxFfRefIdeal.defs (F := Ideal)) (onTc (τ := Cert.DxFfRefIdeal.τ) (Cert.DxFfRefIdeal.main (F := Ideal))) ⟨m, fun _ => 0, g⟩ (fun r => (∀ c : Dev Cert.DxFfRefIdeal.nD,
      r.2.mem ((c.tc : Thread Cert.DxFfRefIdeal.nD Cert.DxFfRefIdeal.τ).loc Cert.DxFfRefIdeal.main_arg0) = m ((c.tc : Thread Cert.DxFfRefIdeal.nD Cert.DxFfRefIdeal.τ).loc Cert.DxFfRefIdeal.main_arg0)
      ∧ r.2.mem ((c.tc : Thread Cert.DxFfRefIdeal.nD Cert.DxFfRefIdeal.τ).loc Cert.DxFfRefIdeal.main_arg1) = m ((c.tc : Thread Cert.DxFfRefIdeal.nD Cert.DxFfRefIdeal.τ).loc Cert.DxFfRefIdeal.main_arg1)
      ∧ r.2.mem ((c.tc : Thread Cert.DxFfRefIdeal.nD Cert.DxFfRefIdeal.τ).loc Cert.DxFfRefIdeal.main_arg2) = m ((c.tc : Thread Cert.DxFfRefIdeal.nD Cert.DxFfRefIdeal.τ).loc Cert.DxFfRefIdeal.main_arg2)
      ∧ r.2.mem ((c.tc : Thread Cert.DxFfRefIdeal.nD Cert.DxFfRefIdeal.τ).loc Cert.DxFfRefIdeal.main_arg3) = m ((c.tc : Thread Cert.DxFfRefIdeal.nD Cert.DxFfRefIdeal.τ).loc Cert.DxFfRefIdeal.main_arg3)
      ∧ r.2.mem ((c.tc : Thread Cert.DxFfRefIdeal.nD Cert.DxFfRefIdeal.τ).loc Cert.DxFfRefIdeal.main_arg4) = m ((c.tc : Thread Cert.DxFfRefIdeal.nD Cert.DxFfRefIdeal.τ).loc Cert.DxFfRefIdeal.main_arg4))
      ∧ r.2.sem = fun _ => 0)

def quiescent_Silu [hSilu : Cert.Silu.Facts] : Prop :=
  ∀ (m : (ℓ : Loc Cert.Silu.nD Cert.Silu.τ Cert.Silu.sig) → Buf (Elt Bits) ℓ) (g : Dev Cert.Silu.nD → PrngReg), Pre_Silu m →
    θ_run (Cert.Silu.defs (F := Bits)) (onTc (τ := Cert.Silu.τ) (Cert.Silu.main (F := Bits))) ⟨m, fun _ => 0, g⟩ (fun r => (∀ c : Dev Cert.Silu.nD,
      r.2.mem ((c.tc : Thread Cert.Silu.nD Cert.Silu.τ).loc Cert.Silu.main_arg0) = m ((c.tc : Thread Cert.Silu.nD Cert.Silu.τ).loc Cert.Silu.main_arg0))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0))
      ∧ r.2.sem = fun _ => 0)

def quiescent_SiluRefIdeal [hSiluRefIdeal : Cert.SiluRefIdeal.Facts] : Prop :=
  ∀ (m : (ℓ : Loc Cert.SiluRefIdeal.nD Cert.SiluRefIdeal.τ Cert.SiluRefIdeal.sig) → Buf (Elt Ideal) ℓ) (g : Dev Cert.SiluRefIdeal.nD → PrngReg), Pre_SiluRefIdeal m →
    θ_run (Cert.SiluRefIdeal.defs (F := Ideal)) (onTc (τ := Cert.SiluRefIdeal.τ) (Cert.SiluRefIdeal.main (F := Ideal))) ⟨m, fun _ => 0, g⟩ (fun r => (∀ c : Dev Cert.SiluRefIdeal.nD,
      r.2.mem ((c.tc : Thread Cert.SiluRefIdeal.nD Cert.SiluRefIdeal.τ).loc Cert.SiluRefIdeal.main_arg0) = m ((c.tc : Thread Cert.SiluRefIdeal.nD Cert.SiluRefIdeal.τ).loc Cert.SiluRefIdeal.main_arg0))
      ∧ r.2.sem = fun _ => 0)

def quiescent_Modulate [hModulate : Cert.Modulate.Facts] : Prop :=
  ∀ (m : (ℓ : Loc Cert.Modulate.nD Cert.Modulate.τ Cert.Modulate.sig) → Buf (Elt Bits) ℓ) (g : Dev Cert.Modulate.nD → PrngReg), Pre_Modulate m →
    θ_run (Cert.Modulate.defs (F := Bits)) (onTc (τ := Cert.Modulate.τ) (Cert.Modulate.main (F := Bits))) ⟨m, fun _ => 0, g⟩ (fun r => (∀ c : Dev Cert.Modulate.nD,
      r.2.mem ((c.tc : Thread Cert.Modulate.nD Cert.Modulate.τ).loc Cert.Modulate.main_arg0) = m ((c.tc : Thread Cert.Modulate.nD Cert.Modulate.τ).loc Cert.Modulate.main_arg0)
      ∧ r.2.mem ((c.tc : Thread Cert.Modulate.nD Cert.Modulate.τ).loc Cert.Modulate.main_arg1) = m ((c.tc : Thread Cert.Modulate.nD Cert.Modulate.τ).loc Cert.Modulate.main_arg1)
      ∧ r.2.mem ((c.tc : Thread Cert.Modulate.nD Cert.Modulate.τ).loc Cert.Modulate.main_arg2) = m ((c.tc : Thread Cert.Modulate.nD Cert.Modulate.τ).loc Cert.Modulate.main_arg2))
      ∧ r.2.sem = fun _ => 0)

def quiescent_ModulateIdeal [hModulateIdeal : Cert.ModulateIdeal.Facts] : Prop :=
  ∀ (m : (ℓ : Loc Cert.ModulateIdeal.nD Cert.ModulateIdeal.τ Cert.ModulateIdeal.sig) → Buf (Elt Ideal) ℓ) (g : Dev Cert.ModulateIdeal.nD → PrngReg), Pre_ModulateIdeal m →
    θ_run (Cert.ModulateIdeal.defs (F := Ideal)) (onTc (τ := Cert.ModulateIdeal.τ) (Cert.ModulateIdeal.main (F := Ideal))) ⟨m, fun _ => 0, g⟩ (fun r => (∀ c : Dev Cert.ModulateIdeal.nD,
      r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
      ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
      ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2))
      ∧ r.2.sem = fun _ => 0)

def quiescent_ModulateRefIdeal [hModulateRefIdeal : Cert.ModulateRefIdeal.Facts] : Prop :=
  ∀ (m : (ℓ : Loc Cert.ModulateRefIdeal.nD Cert.ModulateRefIdeal.τ Cert.ModulateRefIdeal.sig) → Buf (Elt Ideal) ℓ) (g : Dev Cert.ModulateRefIdeal.nD → PrngReg), Pre_ModulateRefIdeal m →
    θ_run (Cert.ModulateRefIdeal.defs (F := Ideal)) (onTc (τ := Cert.ModulateRefIdeal.τ) (Cert.ModulateRefIdeal.main (F := Ideal))) ⟨m, fun _ => 0, g⟩ (fun r => (∀ c : Dev Cert.ModulateRefIdeal.nD,
      r.2.mem ((c.tc : Thread Cert.ModulateRefIdeal.nD Cert.ModulateRefIdeal.τ).loc Cert.ModulateRefIdeal.main_arg0) = m ((c.tc : Thread Cert.ModulateRefIdeal.nD Cert.ModulateRefIdeal.τ).loc Cert.ModulateRefIdeal.main_arg0)
      ∧ r.2.mem ((c.tc : Thread Cert.ModulateRefIdeal.nD Cert.ModulateRefIdeal.τ).loc Cert.ModulateRefIdeal.main_arg1) = m ((c.tc : Thread Cert.ModulateRefIdeal.nD Cert.ModulateRefIdeal.τ).loc Cert.ModulateRefIdeal.main_arg1)
      ∧ r.2.mem ((c.tc : Thread Cert.ModulateRefIdeal.nD Cert.ModulateRefIdeal.τ).loc Cert.ModulateRefIdeal.main_arg2) = m ((c.tc : Thread Cert.ModulateRefIdeal.nD Cert.ModulateRefIdeal.τ).loc Cert.ModulateRefIdeal.main_arg2))
      ∧ r.2.sem = fun _ => 0)

def quiescent_ColSum [hColSum : Cert.ColSum.Facts] : Prop :=
  ∀ (m : (ℓ : Loc Cert.ColSum.nD Cert.ColSum.τ Cert.ColSum.sig) → Buf (Elt Bits) ℓ) (g : Dev Cert.ColSum.nD → PrngReg), Pre_ColSum m →
    θ_run (Cert.ColSum.defs (F := Bits)) (onTc (τ := Cert.ColSum.τ) (Cert.ColSum.main (F := Bits))) ⟨m, fun _ => 0, g⟩ (fun r => (∀ c : Dev Cert.ColSum.nD,
      r.2.mem ((c.tc : Thread Cert.ColSum.nD Cert.ColSum.τ).loc Cert.ColSum.main_arg0) = m ((c.tc : Thread Cert.ColSum.nD Cert.ColSum.τ).loc Cert.ColSum.main_arg0))
      ∧ r.2.sem = fun _ => 0)

def quiescent_ColSumIdeal [hColSumIdeal : Cert.ColSumIdeal.Facts] : Prop :=
  ∀ (m : (ℓ : Loc Cert.ColSumIdeal.nD Cert.ColSumIdeal.τ Cert.ColSumIdeal.sig) → Buf (Elt Ideal) ℓ) (g : Dev Cert.ColSumIdeal.nD → PrngReg), Pre_ColSumIdeal m →
    θ_run (Cert.ColSumIdeal.defs (F := Ideal)) (onTc (τ := Cert.ColSumIdeal.τ) (Cert.ColSumIdeal.main (F := Ideal))) ⟨m, fun _ => 0, g⟩ (fun r => (∀ c : Dev Cert.ColSumIdeal.nD,
      r.2.mem ((c.tc : Thread Cert.ColSumIdeal.nD Cert.ColSumIdeal.τ).loc Cert.ColSumIdeal.main_arg0) = m ((c.tc : Thread Cert.ColSumIdeal.nD Cert.ColSumIdeal.τ).loc Cert.ColSumIdeal.main_arg0))
      ∧ r.2.sem = fun _ => 0)

def quiescent_ColSumRefIdeal [hColSumRefIdeal : Cert.ColSumRefIdeal.Facts] : Prop :=
  ∀ (m : (ℓ : Loc Cert.ColSumRefIdeal.nD Cert.ColSumRefIdeal.τ Cert.ColSumRefIdeal.sig) → Buf (Elt Ideal) ℓ) (g : Dev Cert.ColSumRefIdeal.nD → PrngReg), Pre_ColSumRefIdeal m →
    θ_run (Cert.ColSumRefIdeal.defs (F := Ideal)) (onTc (τ := Cert.ColSumRefIdeal.τ) (Cert.ColSumRefIdeal.main (F := Ideal))) ⟨m, fun _ => 0, g⟩ (fun r => (∀ c : Dev Cert.ColSumRefIdeal.nD,
      r.2.mem ((c.tc : Thread Cert.ColSumRefIdeal.nD Cert.ColSumRefIdeal.τ).loc Cert.ColSumRefIdeal.main_arg0) = m ((c.tc : Thread Cert.ColSumRefIdeal.nD Cert.ColSumRefIdeal.τ).loc Cert.ColSumRefIdeal.main_arg0))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1))
      ∧ r.2.sem = fun _ => 0)

def quiescent_GlaIn [hGlaIn : Cert.GlaIn.Facts] : Prop :=
  ∀ (m : (ℓ : Loc Cert.GlaIn.nD Cert.GlaIn.τ Cert.GlaIn.sig) → Buf (Elt Bits) ℓ) (g : Dev Cert.GlaIn.nD → PrngReg), Pre_GlaIn m →
    θ_run (Cert.GlaIn.defs (F := Bits)) (onTc (τ := Cert.GlaIn.τ) (Cert.GlaIn.main (F := Bits))) ⟨m, fun _ => 0, g⟩ (fun r => (∀ c : Dev Cert.GlaIn.nD,
      r.2.mem ((c.tc : Thread Cert.GlaIn.nD Cert.GlaIn.τ).loc Cert.GlaIn.main_arg0) = m ((c.tc : Thread Cert.GlaIn.nD Cert.GlaIn.τ).loc Cert.GlaIn.main_arg0)
      ∧ r.2.mem ((c.tc : Thread Cert.GlaIn.nD Cert.GlaIn.τ).loc Cert.GlaIn.main_arg1) = m ((c.tc : Thread Cert.GlaIn.nD Cert.GlaIn.τ).loc Cert.GlaIn.main_arg1))
      ∧ r.2.sem = fun _ => 0)

def quiescent_GlaInIdeal [hGlaInIdeal : Cert.GlaInIdeal.Facts] : Prop :=
  ∀ (m : (ℓ : Loc Cert.GlaInIdeal.nD Cert.GlaInIdeal.τ Cert.GlaInIdeal.sig) → Buf (Elt Ideal) ℓ) (g : Dev Cert.GlaInIdeal.nD → PrngReg), Pre_GlaInIdeal m →
    θ_run (Cert.GlaInIdeal.defs (F := Ideal)) (onTc (τ := Cert.GlaInIdeal.τ) (Cert.GlaInIdeal.main (F := Ideal))) ⟨m, fun _ => 0, g⟩ (fun r => (∀ c : Dev Cert.GlaInIdeal.nD,
      r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
      ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1))
      ∧ r.2.sem = fun _ => 0)

def quiescent_GlaInRefIdeal [hGlaInRefIdeal : Cert.GlaInRefIdeal.Facts] : Prop :=
  ∀ (m : (ℓ : Loc Cert.GlaInRefIdeal.nD Cert.GlaInRefIdeal.τ Cert.GlaInRefIdeal.sig) → Buf (Elt Ideal) ℓ) (g : Dev Cert.GlaInRefIdeal.nD → PrngReg), Pre_GlaInRefIdeal m →
    θ_run (Cert.GlaInRefIdeal.defs (F := Ideal)) (onTc (τ := Cert.GlaInRefIdeal.τ) (Cert.GlaInRefIdeal.main (F := Ideal))) ⟨m, fun _ => 0, g⟩ (fun r => (∀ c : Dev Cert.GlaInRefIdeal.nD,
      r.2.mem ((c.tc : Thread Cert.GlaInRefIdeal.nD Cert.GlaInRefIdeal.τ).loc Cert.GlaInRefIdeal.main_arg0) = m ((c.tc : Thread Cert.GlaInRefIdeal.nD Cert.GlaInRefIdeal.τ).loc Cert.GlaInRefIdeal.main_arg0)
      ∧ r.2.mem ((c.tc : Thread Cert.GlaInRefIdeal.nD Cert.GlaInRefIdeal.τ).loc Cert.GlaInRefIdeal.main_arg1) = m ((c.tc : Thread Cert.GlaInRefIdeal.nD Cert.GlaInRefIdeal.τ).loc Cert.GlaInRefIdeal.main_arg1))
      ∧ r.2.sem = fun _ => 0)

def quiescent_GlaDz [hGlaDz : Cert.GlaDz.Facts] : Prop :=
  ∀ (m : (ℓ : Loc Cert.GlaDz.nD Cert.GlaDz.τ Cert.GlaDz.sig) → Buf (Elt Bits) ℓ) (g : Dev Cert.GlaDz.nD → PrngReg), Pre_GlaDz m →
    θ_run (Cert.GlaDz.defs (F := Bits)) (onTc (τ := Cert.GlaDz.τ) (Cert.GlaDz.main (F := Bits))) ⟨m, fun _ => 0, g⟩ (fun r => (∀ c : Dev Cert.GlaDz.nD,
      r.2.mem ((c.tc : Thread Cert.GlaDz.nD Cert.GlaDz.τ).loc Cert.GlaDz.main_arg0) = m ((c.tc : Thread Cert.GlaDz.nD Cert.GlaDz.τ).loc Cert.GlaDz.main_arg0)
      ∧ r.2.mem ((c.tc : Thread Cert.GlaDz.nD Cert.GlaDz.τ).loc Cert.GlaDz.main_arg1) = m ((c.tc : Thread Cert.GlaDz.nD Cert.GlaDz.τ).loc Cert.GlaDz.main_arg1))
      ∧ r.2.sem = fun _ => 0)

def quiescent_GlaDzIdeal [hGlaDzIdeal : Cert.GlaDzIdeal.Facts] : Prop :=
  ∀ (m : (ℓ : Loc Cert.GlaDzIdeal.nD Cert.GlaDzIdeal.τ Cert.GlaDzIdeal.sig) → Buf (Elt Ideal) ℓ) (g : Dev Cert.GlaDzIdeal.nD → PrngReg), Pre_GlaDzIdeal m →
    θ_run (Cert.GlaDzIdeal.defs (F := Ideal)) (onTc (τ := Cert.GlaDzIdeal.τ) (Cert.GlaDzIdeal.main (F := Ideal))) ⟨m, fun _ => 0, g⟩ (fun r => (∀ c : Dev Cert.GlaDzIdeal.nD,
      r.2.mem ((c.tc : Thread Cert.GlaDzIdeal.nD Cert.GlaDzIdeal.τ).loc Cert.GlaDzIdeal.main_arg0) = m ((c.tc : Thread Cert.GlaDzIdeal.nD Cert.GlaDzIdeal.τ).loc Cert.GlaDzIdeal.main_arg0)
      ∧ r.2.mem ((c.tc : Thread Cert.GlaDzIdeal.nD Cert.GlaDzIdeal.τ).loc Cert.GlaDzIdeal.main_arg1) = m ((c.tc : Thread Cert.GlaDzIdeal.nD Cert.GlaDzIdeal.τ).loc Cert.GlaDzIdeal.main_arg1))
      ∧ r.2.sem = fun _ => 0)

def quiescent_GlaDzRefIdeal [hGlaDzRefIdeal : Cert.GlaDzRefIdeal.Facts] : Prop :=
  ∀ (m : (ℓ : Loc Cert.GlaDzRefIdeal.nD Cert.GlaDzRefIdeal.τ Cert.GlaDzRefIdeal.sig) → Buf (Elt Ideal) ℓ) (g : Dev Cert.GlaDzRefIdeal.nD → PrngReg), Pre_GlaDzRefIdeal m →
    θ_run (Cert.GlaDzRefIdeal.defs (F := Ideal)) (onTc (τ := Cert.GlaDzRefIdeal.τ) (Cert.GlaDzRefIdeal.main (F := Ideal))) ⟨m, fun _ => 0, g⟩ (fun r => (∀ c : Dev Cert.GlaDzRefIdeal.nD,
      r.2.mem ((c.tc : Thread Cert.GlaDzRefIdeal.nD Cert.GlaDzRefIdeal.τ).loc Cert.GlaDzRefIdeal.main_arg0) = m ((c.tc : Thread Cert.GlaDzRefIdeal.nD Cert.GlaDzRefIdeal.τ).loc Cert.GlaDzRefIdeal.main_arg0)
      ∧ r.2.mem ((c.tc : Thread Cert.GlaDzRefIdeal.nD Cert.GlaDzRefIdeal.τ).loc Cert.GlaDzRefIdeal.main_arg1) = m ((c.tc : Thread Cert.GlaDzRefIdeal.nD Cert.GlaDzRefIdeal.τ).loc Cert.GlaDzRefIdeal.main_arg1))
      ∧ r.2.sem = fun _ => 0)

def quiescent_AttIn [hAttIn : Cert.AttIn.Facts] : Prop :=
  ∀ (m : (ℓ : Loc Cert.AttIn.nD Cert.AttIn.τ Cert.AttIn.sig) → Buf (Elt Bits) ℓ) (g : Dev Cert.AttIn.nD → PrngReg), Pre_AttIn m →
    θ_run (Cert.AttIn.defs (F := Bits)) (onTc (τ := Cert.AttIn.τ) (Cert.AttIn.main (F := Bits))) ⟨m, fun _ => 0, g⟩ (fun r => (∀ c : Dev Cert.AttIn.nD,
      r.2.mem ((c.tc : Thread Cert.AttIn.nD Cert.AttIn.τ).loc Cert.AttIn.main_arg0) = m ((c.tc : Thread Cert.AttIn.nD Cert.AttIn.τ).loc Cert.AttIn.main_arg0)
      ∧ r.2.mem ((c.tc : Thread Cert.AttIn.nD Cert.AttIn.τ).loc Cert.AttIn.main_arg1) = m ((c.tc : Thread Cert.AttIn.nD Cert.AttIn.τ).loc Cert.AttIn.main_arg1)
      ∧ r.2.mem ((c.tc : Thread Cert.AttIn.nD Cert.AttIn.τ).loc Cert.AttIn.main_arg2) = m ((c.tc : Thread Cert.AttIn.nD Cert.AttIn.τ).loc Cert.AttIn.main_arg2))
      ∧ r.2.sem = fun _ => 0)

def quiescent_AttInIdeal [hAttInIdeal : Cert.AttInIdeal.Facts] : Prop :=
  ∀ (m : (ℓ : Loc Cert.AttInIdeal.nD Cert.AttInIdeal.τ Cert.AttInIdeal.sig) → Buf (Elt Ideal) ℓ) (g : Dev Cert.AttInIdeal.nD → PrngReg), Pre_AttInIdeal m →
    θ_run (Cert.AttInIdeal.defs (F := Ideal)) (onTc (τ := Cert.AttInIdeal.τ) (Cert.AttInIdeal.main (F := Ideal))) ⟨m, fun _ => 0, g⟩ (fun r => (∀ c : Dev Cert.AttInIdeal.nD,
      r.2.mem ((c.tc : Thread Cert.AttInIdeal.nD Cert.AttInIdeal.τ).loc Cert.AttInIdeal.main_arg0) = m ((c.tc : Thread Cert.AttInIdeal.nD Cert.AttInIdeal.τ).loc Cert.AttInIdeal.main_arg0)
      ∧ r.2.mem ((c.tc : Thread Cert.AttInIdeal.nD Cert.AttInIdeal.τ).loc Cert.AttInIdeal.main_arg1) = m ((c.tc : Thread Cert.AttInIdeal.nD Cert.AttInIdeal.τ).loc Cert.AttInIdeal.main_arg1)
      ∧ r.2.mem ((c.tc : Thread Cert.AttInIdeal.nD Cert.AttInIdeal.τ).loc Cert.AttInIdeal.main_arg2) = m ((c.tc : Thread Cert.AttInIdeal.nD Cert.AttInIdeal.τ).loc Cert.AttInIdeal.main_arg2))
      ∧ r.2.sem = fun _ => 0)

def quiescent_AttInRefIdeal [hAttInRefIdeal : Cert.AttInRefIdeal.Facts] : Prop :=
  ∀ (m : (ℓ : Loc Cert.AttInRefIdeal.nD Cert.AttInRefIdeal.τ Cert.AttInRefIdeal.sig) → Buf (Elt Ideal) ℓ) (g : Dev Cert.AttInRefIdeal.nD → PrngReg), Pre_AttInRefIdeal m →
    θ_run (Cert.AttInRefIdeal.defs (F := Ideal)) (onTc (τ := Cert.AttInRefIdeal.τ) (Cert.AttInRefIdeal.main (F := Ideal))) ⟨m, fun _ => 0, g⟩ (fun r => (∀ c : Dev Cert.AttInRefIdeal.nD,
      r.2.mem ((c.tc : Thread Cert.AttInRefIdeal.nD Cert.AttInRefIdeal.τ).loc Cert.AttInRefIdeal.main_arg0) = m ((c.tc : Thread Cert.AttInRefIdeal.nD Cert.AttInRefIdeal.τ).loc Cert.AttInRefIdeal.main_arg0)
      ∧ r.2.mem ((c.tc : Thread Cert.AttInRefIdeal.nD Cert.AttInRefIdeal.τ).loc Cert.AttInRefIdeal.main_arg1) = m ((c.tc : Thread Cert.AttInRefIdeal.nD Cert.AttInRefIdeal.τ).loc Cert.AttInRefIdeal.main_arg1)
      ∧ r.2.mem ((c.tc : Thread Cert.AttInRefIdeal.nD Cert.AttInRefIdeal.τ).loc Cert.AttInRefIdeal.main_arg2) = m ((c.tc : Thread Cert.AttInRefIdeal.nD Cert.AttInRefIdeal.τ).loc Cert.AttInRefIdeal.main_arg2))
      ∧ r.2.sem = fun _ => 0)

def quiescent_FfUp [hFfUp : Cert.FfUp.Facts] : Prop :=
  ∀ (m : (ℓ : Loc Cert.FfUp.nD Cert.FfUp.τ Cert.FfUp.sig) → Buf (Elt Bits) ℓ) (g : Dev Cert.FfUp.nD → PrngReg), Pre_FfUp m →
    θ_run (Cert.FfUp.defs (F := Bits)) (onTc (τ := Cert.FfUp.τ) (Cert.FfUp.main (F := Bits))) ⟨m, fun _ => 0, g⟩ (fun r => (∀ c : Dev Cert.FfUp.nD,
      r.2.mem ((c.tc : Thread Cert.FfUp.nD Cert.FfUp.τ).loc Cert.FfUp.main_arg0) = m ((c.tc : Thread Cert.FfUp.nD Cert.FfUp.τ).loc Cert.FfUp.main_arg0)
      ∧ r.2.mem ((c.tc : Thread Cert.FfUp.nD Cert.FfUp.τ).loc Cert.FfUp.main_arg1) = m ((c.tc : Thread Cert.FfUp.nD Cert.FfUp.τ).loc Cert.FfUp.main_arg1))
      ∧ r.2.sem = fun _ => 0)

def quiescent_FfUpIdeal [hFfUpIdeal : Cert.FfUpIdeal.Facts] : Prop :=
  ∀ (m : (ℓ : Loc Cert.FfUpIdeal.nD Cert.FfUpIdeal.τ Cert.FfUpIdeal.sig) → Buf (Elt Ideal) ℓ) (g : Dev Cert.FfUpIdeal.nD → PrngReg), Pre_FfUpIdeal m →
    θ_run (Cert.FfUpIdeal.defs (F := Ideal)) (onTc (τ := Cert.FfUpIdeal.τ) (Cert.FfUpIdeal.main (F := Ideal))) ⟨m, fun _ => 0, g⟩ (fun r => (∀ c : Dev Cert.FfUpIdeal.nD,
      r.2.mem ((c.tc : Thread Cert.FfUpIdeal.nD Cert.FfUpIdeal.τ).loc Cert.FfUpIdeal.main_arg0) = m ((c.tc : Thread Cert.FfUpIdeal.nD Cert.FfUpIdeal.τ).loc Cert.FfUpIdeal.main_arg0)
      ∧ r.2.mem ((c.tc : Thread Cert.FfUpIdeal.nD Cert.FfUpIdeal.τ).loc Cert.FfUpIdeal.main_arg1) = m ((c.tc : Thread Cert.FfUpIdeal.nD Cert.FfUpIdeal.τ).loc Cert.FfUpIdeal.main_arg1))
      ∧ r.2.sem = fun _ => 0)

def quiescent_FfUpRefIdeal [hFfUpRefIdeal : Cert.FfUpRefIdeal.Facts] : Prop :=
  ∀ (m : (ℓ : Loc Cert.FfUpRefIdeal.nD Cert.FfUpRefIdeal.τ Cert.FfUpRefIdeal.sig) → Buf (Elt Ideal) ℓ) (g : Dev Cert.FfUpRefIdeal.nD → PrngReg), Pre_FfUpRefIdeal m →
    θ_run (Cert.FfUpRefIdeal.defs (F := Ideal)) (onTc (τ := Cert.FfUpRefIdeal.τ) (Cert.FfUpRefIdeal.main (F := Ideal))) ⟨m, fun _ => 0, g⟩ (fun r => (∀ c : Dev Cert.FfUpRefIdeal.nD,
      r.2.mem ((c.tc : Thread Cert.FfUpRefIdeal.nD Cert.FfUpRefIdeal.τ).loc Cert.FfUpRefIdeal.main_arg0) = m ((c.tc : Thread Cert.FfUpRefIdeal.nD Cert.FfUpRefIdeal.τ).loc Cert.FfUpRefIdeal.main_arg0)
      ∧ r.2.mem ((c.tc : Thread Cert.FfUpRefIdeal.nD Cert.FfUpRefIdeal.τ).loc Cert.FfUpRefIdeal.main_arg1) = m ((c.tc : Thread Cert.FfUpRefIdeal.nD Cert.FfUpRefIdeal.τ).loc Cert.FfUpRefIdeal.main_arg1))
      ∧ r.2.sem = fun _ => 0)

def quiescent_FfDn [hFfDn : Cert.FfDn.Facts] : Prop :=
  ∀ (m : (ℓ : Loc Cert.FfDn.nD Cert.FfDn.τ Cert.FfDn.sig) → Buf (Elt Bits) ℓ) (g : Dev Cert.FfDn.nD → PrngReg), Pre_FfDn m →
    θ_run (Cert.FfDn.defs (F := Bits)) (onTc (τ := Cert.FfDn.τ) (Cert.FfDn.main (F := Bits))) ⟨m, fun _ => 0, g⟩ (fun r => (∀ c : Dev Cert.FfDn.nD,
      r.2.mem ((c.tc : Thread Cert.FfDn.nD Cert.FfDn.τ).loc Cert.FfDn.main_arg0) = m ((c.tc : Thread Cert.FfDn.nD Cert.FfDn.τ).loc Cert.FfDn.main_arg0)
      ∧ r.2.mem ((c.tc : Thread Cert.FfDn.nD Cert.FfDn.τ).loc Cert.FfDn.main_arg1) = m ((c.tc : Thread Cert.FfDn.nD Cert.FfDn.τ).loc Cert.FfDn.main_arg1)
      ∧ r.2.mem ((c.tc : Thread Cert.FfDn.nD Cert.FfDn.τ).loc Cert.FfDn.main_arg2) = m ((c.tc : Thread Cert.FfDn.nD Cert.FfDn.τ).loc Cert.FfDn.main_arg2))
      ∧ r.2.sem = fun _ => 0)

def quiescent_FfDnIdeal [hFfDnIdeal : Cert.FfDnIdeal.Facts] : Prop :=
  ∀ (m : (ℓ : Loc Cert.FfDnIdeal.nD Cert.FfDnIdeal.τ Cert.FfDnIdeal.sig) → Buf (Elt Ideal) ℓ) (g : Dev Cert.FfDnIdeal.nD → PrngReg), Pre_FfDnIdeal m →
    θ_run (Cert.FfDnIdeal.defs (F := Ideal)) (onTc (τ := Cert.FfDnIdeal.τ) (Cert.FfDnIdeal.main (F := Ideal))) ⟨m, fun _ => 0, g⟩ (fun r => (∀ c : Dev Cert.FfDnIdeal.nD,
      r.2.mem ((c.tc : Thread Cert.FfDnIdeal.nD Cert.FfDnIdeal.τ).loc Cert.FfDnIdeal.main_arg0) = m ((c.tc : Thread Cert.FfDnIdeal.nD Cert.FfDnIdeal.τ).loc Cert.FfDnIdeal.main_arg0)
      ∧ r.2.mem ((c.tc : Thread Cert.FfDnIdeal.nD Cert.FfDnIdeal.τ).loc Cert.FfDnIdeal.main_arg1) = m ((c.tc : Thread Cert.FfDnIdeal.nD Cert.FfDnIdeal.τ).loc Cert.FfDnIdeal.main_arg1)
      ∧ r.2.mem ((c.tc : Thread Cert.FfDnIdeal.nD Cert.FfDnIdeal.τ).loc Cert.FfDnIdeal.main_arg2) = m ((c.tc : Thread Cert.FfDnIdeal.nD Cert.FfDnIdeal.τ).loc Cert.FfDnIdeal.main_arg2))
      ∧ r.2.sem = fun _ => 0)

def quiescent_FfDnRefIdeal [hFfDnRefIdeal : Cert.FfDnRefIdeal.Facts] : Prop :=
  ∀ (m : (ℓ : Loc Cert.FfDnRefIdeal.nD Cert.FfDnRefIdeal.τ Cert.FfDnRefIdeal.sig) → Buf (Elt Ideal) ℓ) (g : Dev Cert.FfDnRefIdeal.nD → PrngReg), Pre_FfDnRefIdeal m →
    θ_run (Cert.FfDnRefIdeal.defs (F := Ideal)) (onTc (τ := Cert.FfDnRefIdeal.τ) (Cert.FfDnRefIdeal.main (F := Ideal))) ⟨m, fun _ => 0, g⟩ (fun r => (∀ c : Dev Cert.FfDnRefIdeal.nD,
      r.2.mem ((c.tc : Thread Cert.FfDnRefIdeal.nD Cert.FfDnRefIdeal.τ).loc Cert.FfDnRefIdeal.main_arg0) = m ((c.tc : Thread Cert.FfDnRefIdeal.nD Cert.FfDnRefIdeal.τ).loc Cert.FfDnRefIdeal.main_arg0)
      ∧ r.2.mem ((c.tc : Thread Cert.FfDnRefIdeal.nD Cert.FfDnRefIdeal.τ).loc Cert.FfDnRefIdeal.main_arg1) = m ((c.tc : Thread Cert.FfDnRefIdeal.nD Cert.FfDnRefIdeal.τ).loc Cert.FfDnRefIdeal.main_arg1)
      ∧ r.2.mem ((c.tc : Thread Cert.FfDnRefIdeal.nD Cert.FfDnRefIdeal.τ).loc Cert.FfDnRefIdeal.main_arg2) = m ((c.tc : Thread Cert.FfDnRefIdeal.nD Cert.FfDnRefIdeal.τ).loc Cert.FfDnRefIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5))
      ∧ r.2.sem = fun _ => 0)

def quiescent_FfOut [hFfOut : Cert.FfOut.Facts] : Prop :=
  ∀ (m : (ℓ : Loc Cert.FfOut.nD Cert.FfOut.τ Cert.FfOut.sig) → Buf (Elt Bits) ℓ) (g : Dev Cert.FfOut.nD → PrngReg), Pre_FfOut m →
    θ_run (Cert.FfOut.defs (F := Bits)) (onTc (τ := Cert.FfOut.τ) (Cert.FfOut.main (F := Bits))) ⟨m, fun _ => 0, g⟩ (fun r => (∀ c : Dev Cert.FfOut.nD,
      r.2.mem ((c.tc : Thread Cert.FfOut.nD Cert.FfOut.τ).loc Cert.FfOut.main_arg0) = m ((c.tc : Thread Cert.FfOut.nD Cert.FfOut.τ).loc Cert.FfOut.main_arg0)
      ∧ r.2.mem ((c.tc : Thread Cert.FfOut.nD Cert.FfOut.τ).loc Cert.FfOut.main_arg1) = m ((c.tc : Thread Cert.FfOut.nD Cert.FfOut.τ).loc Cert.FfOut.main_arg1)
      ∧ r.2.mem ((c.tc : Thread Cert.FfOut.nD Cert.FfOut.τ).loc Cert.FfOut.main_arg2) = m ((c.tc : Thread Cert.FfOut.nD Cert.FfOut.τ).loc Cert.FfOut.main_arg2)
      ∧ r.2.mem ((c.tc : Thread Cert.FfOut.nD Cert.FfOut.τ).loc Cert.FfOut.main_arg3) = m ((c.tc : Thread Cert.FfOut.nD Cert.FfOut.τ).loc Cert.FfOut.main_arg3)
      ∧ r.2.mem ((c.tc : Thread Cert.FfOut.nD Cert.FfOut.τ).loc Cert.FfOut.main_arg4) = m ((c.tc : Thread Cert.FfOut.nD Cert.FfOut.τ).loc Cert.FfOut.main_arg4)
      ∧ r.2.mem ((c.tc : Thread Cert.FfOut.nD Cert.FfOut.τ).loc Cert.FfOut.main_arg5) = m ((c.tc : Thread Cert.FfOut.nD Cert.FfOut.τ).loc Cert.FfOut.main_arg5))
      ∧ r.2.sem = fun _ => 0)

def quiescent_FfOutIdeal [hFfOutIdeal : Cert.FfOutIdeal.Facts] : Prop :=
  ∀ (m : (ℓ : Loc Cert.FfOutIdeal.nD Cert.FfOutIdeal.τ Cert.FfOutIdeal.sig) → Buf (Elt Ideal) ℓ) (g : Dev Cert.FfOutIdeal.nD → PrngReg), Pre_FfOutIdeal m →
    θ_run (Cert.FfOutIdeal.defs (F := Ideal)) (onTc (τ := Cert.FfOutIdeal.τ) (Cert.FfOutIdeal.main (F := Ideal))) ⟨m, fun _ => 0, g⟩ (fun r => (∀ c : Dev Cert.FfOutIdeal.nD,
      r.2.mem ((c.tc : Thread Cert.FfOutIdeal.nD Cert.FfOutIdeal.τ).loc Cert.FfOutIdeal.main_arg0) = m ((c.tc : Thread Cert.FfOutIdeal.nD Cert.FfOutIdeal.τ).loc Cert.FfOutIdeal.main_arg0)
      ∧ r.2.mem ((c.tc : Thread Cert.FfOutIdeal.nD Cert.FfOutIdeal.τ).loc Cert.FfOutIdeal.main_arg1) = m ((c.tc : Thread Cert.FfOutIdeal.nD Cert.FfOutIdeal.τ).loc Cert.FfOutIdeal.main_arg1)
      ∧ r.2.mem ((c.tc : Thread Cert.FfOutIdeal.nD Cert.FfOutIdeal.τ).loc Cert.FfOutIdeal.main_arg2) = m ((c.tc : Thread Cert.FfOutIdeal.nD Cert.FfOutIdeal.τ).loc Cert.FfOutIdeal.main_arg2)
      ∧ r.2.mem ((c.tc : Thread Cert.FfOutIdeal.nD Cert.FfOutIdeal.τ).loc Cert.FfOutIdeal.main_arg3) = m ((c.tc : Thread Cert.FfOutIdeal.nD Cert.FfOutIdeal.τ).loc Cert.FfOutIdeal.main_arg3)
      ∧ r.2.mem ((c.tc : Thread Cert.FfOutIdeal.nD Cert.FfOutIdeal.τ).loc Cert.FfOutIdeal.main_arg4) = m ((c.tc : Thread Cert.FfOutIdeal.nD Cert.FfOutIdeal.τ).loc Cert.FfOutIdeal.main_arg4)
      ∧ r.2.mem ((c.tc : Thread Cert.FfOutIdeal.nD Cert.FfOutIdeal.τ).loc Cert.FfOutIdeal.main_arg5) = m ((c.tc : Thread Cert.FfOutIdeal.nD Cert.FfOutIdeal.τ).loc Cert.FfOutIdeal.main_arg5))
      ∧ r.2.sem = fun _ => 0)

def quiescent_FfOutRefIdeal [hFfOutRefIdeal : Cert.FfOutRefIdeal.Facts] : Prop :=
  ∀ (m : (ℓ : Loc Cert.FfOutRefIdeal.nD Cert.FfOutRefIdeal.τ Cert.FfOutRefIdeal.sig) → Buf (Elt Ideal) ℓ) (g : Dev Cert.FfOutRefIdeal.nD → PrngReg), Pre_FfOutRefIdeal m →
    θ_run (Cert.FfOutRefIdeal.defs (F := Ideal)) (onTc (τ := Cert.FfOutRefIdeal.τ) (Cert.FfOutRefIdeal.main (F := Ideal))) ⟨m, fun _ => 0, g⟩ (fun r => (∀ c : Dev Cert.FfOutRefIdeal.nD,
      r.2.mem ((c.tc : Thread Cert.FfOutRefIdeal.nD Cert.FfOutRefIdeal.τ).loc Cert.FfOutRefIdeal.main_arg0) = m ((c.tc : Thread Cert.FfOutRefIdeal.nD Cert.FfOutRefIdeal.τ).loc Cert.FfOutRefIdeal.main_arg0)
      ∧ r.2.mem ((c.tc : Thread Cert.FfOutRefIdeal.nD Cert.FfOutRefIdeal.τ).loc Cert.FfOutRefIdeal.main_arg1) = m ((c.tc : Thread Cert.FfOutRefIdeal.nD Cert.FfOutRefIdeal.τ).loc Cert.FfOutRefIdeal.main_arg1)
      ∧ r.2.mem ((c.tc : Thread Cert.FfOutRefIdeal.nD Cert.FfOutRefIdeal.τ).loc Cert.FfOutRefIdeal.main_arg2) = m ((c.tc : Thread Cert.FfOutRefIdeal.nD Cert.FfOutRefIdeal.τ).loc Cert.FfOutRefIdeal.main_arg2)
      ∧ r.2.mem ((c.tc : Thread Cert.FfOutRefIdeal.nD Cert.FfOutRefIdeal.τ).loc Cert.FfOutRefIdeal.main_arg3) = m ((c.tc : Thread Cert.FfOutRefIdeal.nD Cert.FfOutRefIdeal.τ).loc Cert.FfOutRefIdeal.main_arg3)
      ∧ r.2.mem ((c.tc : Thread Cert.FfOutRefIdeal.nD Cert.FfOutRefIdeal.τ).loc Cert.FfOutRefIdeal.main_arg4) = m ((c.tc : Thread Cert.FfOutRefIdeal.nD Cert.FfOutRefIdeal.τ).loc Cert.FfOutRefIdeal.main_arg4)
      ∧ r.2.mem ((c.tc : Thread Cert.FfOutRefIdeal.nD Cert.FfOutRefIdeal.τ).loc Cert.FfOutRefIdeal.main_arg5) = m ((c.tc : Thread Cert.FfOutRefIdeal.nD Cert.FfOutRefIdeal.τ).loc Cert.FfOutRefIdeal.main_arg5))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3)
      ∧ r.2.mem ((c.tc : Thread Cert.LnBwd.nD Cert.LnBwd.τ).loc Cert.LnBwd.main_arg4) = m ((c.tc : Thread Cert.LnBwd.nD Cert.LnBwd.τ).loc Cert.LnBwd.main_arg4))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
      ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3)
      ∧ r.2.mem ((c.tc : Thread Cert.LnBwdRefIdeal.nD Cert.LnBwdRefIdeal.τ).loc Cert.LnBwdRefIdeal.main_arg4) = m ((c.tc : Thread Cert.LnBwdRefIdeal.nD Cert.LnBwdRefIdeal.τ).loc Cert.LnBwdRefIdeal.main_arg4))
      ∧ r.2.sem = fun _ => 0)

def quiescent_Diag [hDiag : Cert.Diag.Facts] : Prop :=
  ∀ (m : (ℓ : Loc Cert.Diag.nD Cert.Diag.τ Cert.Diag.sig) → Buf (Elt Bits) ℓ) (g : Dev Cert.Diag.nD → PrngReg), Pre_Diag m →
    θ_run (Cert.Diag.defs (F := Bits)) (onTc (τ := Cert.Diag.τ) (Cert.Diag.main (F := Bits))) ⟨m, fun _ => 0, g⟩ (fun r => (∀ c : Dev Cert.Diag.nD,
      r.2.mem ((c.tc : Thread Cert.Diag.nD Cert.Diag.τ).loc Cert.Diag.main_arg0) = m ((c.tc : Thread Cert.Diag.nD Cert.Diag.τ).loc Cert.Diag.main_arg0))
      ∧ r.2.sem = fun _ => 0)

def quiescent_DiagIdeal [hDiagIdeal : Cert.DiagIdeal.Facts] : Prop :=
  ∀ (m : (ℓ : Loc Cert.DiagIdeal.nD Cert.DiagIdeal.τ Cert.DiagIdeal.sig) → Buf (Elt Ideal) ℓ) (g : Dev Cert.DiagIdeal.nD → PrngReg), Pre_DiagIdeal m →
    θ_run (Cert.DiagIdeal.defs (F := Ideal)) (onTc (τ := Cert.DiagIdeal.τ) (Cert.DiagIdeal.main (F := Ideal))) ⟨m, fun _ => 0, g⟩ (fun r => (∀ c : Dev Cert.DiagIdeal.nD,
      r.2.mem ((c.tc : Thread Cert.DiagIdeal.nD Cert.DiagIdeal.τ).loc Cert.DiagIdeal.main_arg0) = m ((c.tc : Thread Cert.DiagIdeal.nD Cert.DiagIdeal.τ).loc Cert.DiagIdeal.main_arg0))
      ∧ r.2.sem = fun _ => 0)

def quiescent_DiagRefIdeal [hDiagRefIdeal : Cert.DiagRefIdeal.Facts] : Prop :=
  ∀ (m : (ℓ : Loc Cert.DiagRefIdeal.nD Cert.DiagRefIdeal.τ Cert.DiagRefIdeal.sig) → Buf (Elt Ideal) ℓ) (g : Dev Cert.DiagRefIdeal.nD → PrngReg), Pre_DiagRefIdeal m →
    θ_run (Cert.DiagRefIdeal.defs (F := Ideal)) (onTc (τ := Cert.DiagRefIdeal.τ) (Cert.DiagRefIdeal.main (F := Ideal))) ⟨m, fun _ => 0, g⟩ (fun r => (∀ c : Dev Cert.DiagRefIdeal.nD,
      r.2.mem ((c.tc : Thread Cert.DiagRefIdeal.nD Cert.DiagRefIdeal.τ).loc Cert.DiagRefIdeal.main_arg0) = m ((c.tc : Thread Cert.DiagRefIdeal.nD Cert.DiagRefIdeal.τ).loc Cert.DiagRefIdeal.main_arg0))
      ∧ r.2.sem = fun _ => 0)

def quiescent_Bins [hBins : Cert.Bins.Facts] : Prop :=
  ∀ (m : (ℓ : Loc Cert.Bins.nD Cert.Bins.τ Cert.Bins.sig) → Buf (Elt Bits) ℓ) (g : Dev Cert.Bins.nD → PrngReg), Pre_Bins m →
    θ_run (Cert.Bins.defs (F := Bits)) (onTc (τ := Cert.Bins.τ) (Cert.Bins.main (F := Bits))) ⟨m, fun _ => 0, g⟩ (fun r => (∀ c : Dev Cert.Bins.nD,
      r.2.mem ((c.tc : Thread Cert.Bins.nD Cert.Bins.τ).loc Cert.Bins.main_arg0) = m ((c.tc : Thread Cert.Bins.nD Cert.Bins.τ).loc Cert.Bins.main_arg0)
      ∧ r.2.mem ((c.tc : Thread Cert.Bins.nD Cert.Bins.τ).loc Cert.Bins.main_arg1) = m ((c.tc : Thread Cert.Bins.nD Cert.Bins.τ).loc Cert.Bins.main_arg1))
      ∧ r.2.sem = fun _ => 0)

def quiescent_BinsIdeal [hBinsIdeal : Cert.BinsIdeal.Facts] : Prop :=
  ∀ (m : (ℓ : Loc Cert.BinsIdeal.nD Cert.BinsIdeal.τ Cert.BinsIdeal.sig) → Buf (Elt Ideal) ℓ) (g : Dev Cert.BinsIdeal.nD → PrngReg), Pre_BinsIdeal m →
    θ_run (Cert.BinsIdeal.defs (F := Ideal)) (onTc (τ := Cert.BinsIdeal.τ) (Cert.BinsIdeal.main (F := Ideal))) ⟨m, fun _ => 0, g⟩ (fun r => (∀ c : Dev Cert.BinsIdeal.nD,
      r.2.mem ((c.tc : Thread Cert.BinsIdeal.nD Cert.BinsIdeal.τ).loc Cert.BinsIdeal.main_arg0) = m ((c.tc : Thread Cert.BinsIdeal.nD Cert.BinsIdeal.τ).loc Cert.BinsIdeal.main_arg0)
      ∧ r.2.mem ((c.tc : Thread Cert.BinsIdeal.nD Cert.BinsIdeal.τ).loc Cert.BinsIdeal.main_arg1) = m ((c.tc : Thread Cert.BinsIdeal.nD Cert.BinsIdeal.τ).loc Cert.BinsIdeal.main_arg1))
      ∧ r.2.sem = fun _ => 0)

def quiescent_BinsRefIdeal [hBinsRefIdeal : Cert.BinsRefIdeal.Facts] : Prop :=
  ∀ (m : (ℓ : Loc Cert.BinsRefIdeal.nD Cert.BinsRefIdeal.τ Cert.BinsRefIdeal.sig) → Buf (Elt Ideal) ℓ) (g : Dev Cert.BinsRefIdeal.nD → PrngReg), Pre_BinsRefIdeal m →
    θ_run (Cert.BinsRefIdeal.defs (F := Ideal)) (onTc (τ := Cert.BinsRefIdeal.τ) (Cert.BinsRefIdeal.main (F := Ideal))) ⟨m, fun _ => 0, g⟩ (fun r => (∀ c : Dev Cert.BinsRefIdeal.nD,
      r.2.mem ((c.tc : Thread Cert.BinsRefIdeal.nD Cert.BinsRefIdeal.τ).loc Cert.BinsRefIdeal.main_arg0) = m ((c.tc : Thread Cert.BinsRefIdeal.nD Cert.BinsRefIdeal.τ).loc Cert.BinsRefIdeal.main_arg0)
      ∧ r.2.mem ((c.tc : Thread Cert.BinsRefIdeal.nD Cert.BinsRefIdeal.τ).loc Cert.BinsRefIdeal.main_arg1) = m ((c.tc : Thread Cert.BinsRefIdeal.nD Cert.BinsRefIdeal.τ).loc Cert.BinsRefIdeal.main_arg1))
      ∧ r.2.sem = fun _ => 0)

def preserves_Swap_SwapIdeal : Prop :=
  True

def algebraic_SwapIdeal_SwapRefIdeal [hSwapIdeal : Cert.SwapIdeal.Facts] [hSwapRefIdeal : Cert.SwapRefIdeal.Facts] : Prop :=
  ∀ (m : (ℓ : Loc Cert.SwapIdeal.nD Cert.SwapIdeal.τ Cert.SwapIdeal.sig) → Buf (Elt Ideal) ℓ) (g : Dev Cert.SwapIdeal.nD → PrngReg)
    (m' : (ℓ : Loc Cert.SwapRefIdeal.nD Cert.SwapRefIdeal.τ Cert.SwapRefIdeal.sig) → Buf (Elt Ideal) ℓ) (g' : Dev Cert.SwapRefIdeal.nD → PrngReg), Pre_SwapIdeal m →
    (∀ c : Dev Cert.SwapIdeal.nD,
      m ((c.tc : Thread Cert.SwapIdeal.nD Cert.SwapIdeal.τ).loc Cert.SwapIdeal.main_arg0) = Layout.block ⟨3, ![4, 12320, 1024]⟩ ⟨3, ![32, 12320, 1024]⟩ 0 8 c (m' (((0 : Dev Cert.SwapRefIdeal.nD).tc : Thread Cert.SwapRefIdeal.nD Cert.SwapRefIdeal.τ).loc Cert.SwapRefIdeal.main_arg0))) →
    ∃ (v0 : Buf (Elt Ideal) (((0 : Dev Cert.SwapRefIdeal.nD).tc : Thread Cert.SwapRefIdeal.nD Cert.SwapRefIdeal.τ).loc Cert.SwapRefIdeal.main_v8)),
      θ_run (Cert.SwapIdeal.defs (F := Ideal)) (onTc (τ := Cert.SwapIdeal.τ) (Cert.SwapIdeal.main (F := Ideal))) ⟨m, fun _ => 0, g⟩ (fun r => ∀ c : Dev Cert.SwapIdeal.nD,
          r.2.mem ((c.tc : Thread Cert.SwapIdeal.nD Cert.SwapIdeal.τ).loc Cert.SwapIdeal.main_v1) = Layout.block ⟨3, ![4, 6160, 1024]⟩ ⟨3, ![32, 6160, 1024]⟩ 0 8 c v0
          ∧ r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ θ_run (Cert.SwapRefIdeal.defs (F := Ideal)) (onTc (τ := Cert.SwapRefIdeal.τ) (Cert.SwapRefIdeal.main (F := Ideal))) ⟨m', fun _ => 0, g'⟩ (fun r =>
          r.2.mem (((0 : Dev Cert.SwapRefIdeal.nD).tc : Thread Cert.SwapRefIdeal.nD Cert.SwapRefIdeal.τ).loc Cert.SwapRefIdeal.main_v8) = v0
          ∧ r.2.mem (((0 : Dev Cert.SwapRefIdeal.nD).tc : Thread Cert.SwapRefIdeal.nD Cert.SwapRefIdeal.τ).loc Cert.SwapRefIdeal.main_arg0) = m' (((0 : Dev Cert.SwapRefIdeal.nD).tc : Thread Cert.SwapRefIdeal.nD Cert.SwapRefIdeal.τ).loc Cert.SwapRefIdeal.main_arg0))

def bitexact_Swap_SwapRef [hSwap : Cert.Swap.Facts] [hSwapRef : Cert.SwapRef.Facts] : Prop :=
  ∀ (m : (ℓ : Loc Cert.Swap.nD Cert.Swap.τ Cert.Swap.sig) → Buf (Elt Bits) ℓ) (g : Dev Cert.Swap.nD → PrngReg)
    (m' : (ℓ : Loc Cert.SwapRef.nD Cert.SwapRef.τ Cert.SwapRef.sig) → Buf (Elt Bits) ℓ) (g' : Dev Cert.SwapRef.nD → PrngReg), Pre_Swap m →
    (∀ c : Dev Cert.Swap.nD,
      m ((c.tc : Thread Cert.Swap.nD Cert.Swap.τ).loc Cert.Swap.main_arg0) = Layout.block ⟨3, ![4, 12320, 1024]⟩ ⟨3, ![32, 12320, 1024]⟩ 0 8 c (m' (((0 : Dev Cert.SwapRef.nD).tc : Thread Cert.SwapRef.nD Cert.SwapRef.τ).loc Cert.SwapRef.main_arg0))) →
    ∃ (v0 : Buf (Elt Bits) (((0 : Dev Cert.SwapRef.nD).tc : Thread Cert.SwapRef.nD Cert.SwapRef.τ).loc Cert.SwapRef.main_v8)),
      θ_run (Cert.Swap.defs (F := Bits)) (onTc (τ := Cert.Swap.τ) (Cert.Swap.main (F := Bits))) ⟨m, fun _ => 0, g⟩ (fun r => ∀ c : Dev Cert.Swap.nD,
          r.2.mem ((c.tc : Thread Cert.Swap.nD Cert.Swap.τ).loc Cert.Swap.main_v1) = Layout.block ⟨3, ![4, 6160, 1024]⟩ ⟨3, ![32, 6160, 1024]⟩ 0 8 c v0
          ∧ r.2.mem ((c.tc : Thread Cert.Swap.nD Cert.Swap.τ).loc Cert.Swap.main_arg0) = m ((c.tc : Thread Cert.Swap.nD Cert.Swap.τ).loc Cert.Swap.main_arg0))
      ∧ θ_run (Cert.SwapRef.defs (F := Bits)) (onTc (τ := Cert.SwapRef.τ) (Cert.SwapRef.main (F := Bits))) ⟨m', fun _ => 0, g'⟩ (fun r =>
          r.2.mem (((0 : Dev Cert.SwapRef.nD).tc : Thread Cert.SwapRef.nD Cert.SwapRef.τ).loc Cert.SwapRef.main_v8) = v0
          ∧ r.2.mem (((0 : Dev Cert.SwapRef.nD).tc : Thread Cert.SwapRef.nD Cert.SwapRef.τ).loc Cert.SwapRef.main_arg0) = m' (((0 : Dev Cert.SwapRef.nD).tc : Thread Cert.SwapRef.nD Cert.SwapRef.τ).loc Cert.SwapRef.main_arg0))

def preserves_Exchange_ExchangeIdeal : Prop :=
  True

def algebraic_ExchangeIdeal_ExchangeRefIdeal [hExchangeIdeal : Cert.ExchangeIdeal.Facts] [hExchangeRefIdeal : Cert.ExchangeRefIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg)
    (m' : (ℓ : Loc Cert.ExchangeRefIdeal.nD Cert.ExchangeRefIdeal.τ Cert.ExchangeRefIdeal.sig) → Buf (Elt Ideal) ℓ) (g' : Dev Cert.ExchangeRefIdeal.nD → PrngReg), Pre_ExchangeIdeal m →
    (∀ c : Dev Cert.ExchangeIdeal.nD,
      m ((c.tc : Thread Cert.ExchangeIdeal.nD Cert.ExchangeIdeal.τ).loc Cert.ExchangeIdeal.main_arg0) = Layout.block ⟨3, ![4, 6160, 1024]⟩ ⟨3, ![32, 6160, 1024]⟩ 0 8 c (m' (((0 : Dev Cert.ExchangeRefIdeal.nD).tc : Thread Cert.ExchangeRefIdeal.nD Cert.ExchangeRefIdeal.τ).loc Cert.ExchangeRefIdeal.main_arg0))) →
    ∃ (v0 : Buf (Elt Ideal) (((0 : Dev Cert.ExchangeRefIdeal.nD).tc : Thread Cert.ExchangeRefIdeal.nD Cert.ExchangeRefIdeal.τ).loc Cert.ExchangeRefIdeal.main_v46)),
      θ_run (Cert.ExchangeIdeal.defs (F := Ideal)) (onTc (τ := Cert.ExchangeIdeal.τ) (Cert.ExchangeIdeal.main (F := Ideal))) ⟨m, fun _ => 0, g⟩ (fun r => ∀ c : Dev Cert.ExchangeIdeal.nD,
          r.2.mem ((c.tc : Thread Cert.ExchangeIdeal.nD Cert.ExchangeIdeal.τ).loc Cert.ExchangeIdeal.main_v1) = Layout.block ⟨3, ![3, 6160, 1024]⟩ ⟨3, ![24, 6160, 1024]⟩ 0 8 c v0
          ∧ r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0))
      ∧ θ_run (Cert.ExchangeRefIdeal.defs (F := Ideal)) (onTc (τ := Cert.ExchangeRefIdeal.τ) (Cert.ExchangeRefIdeal.main (F := Ideal))) ⟨m', fun _ => 0, g'⟩ (fun r =>
          r.2.mem (((0 : Dev Cert.ExchangeRefIdeal.nD).tc : Thread Cert.ExchangeRefIdeal.nD Cert.ExchangeRefIdeal.τ).loc Cert.ExchangeRefIdeal.main_v46) = v0
          ∧ r.2.mem (((0 : Dev Cert.ExchangeRefIdeal.nD).tc : Thread Cert.ExchangeRefIdeal.nD Cert.ExchangeRefIdeal.τ).loc Cert.ExchangeRefIdeal.main_arg0) = m' (((0 : Dev Cert.ExchangeRefIdeal.nD).tc : Thread Cert.ExchangeRefIdeal.nD Cert.ExchangeRefIdeal.τ).loc Cert.ExchangeRefIdeal.main_arg0))

def bitexact_Exchange_ExchangeRef [hExchange : Cert.Exchange.Facts] [hExchangeRef : Cert.ExchangeRef.Facts] : Prop :=
  ∀ (m : (ℓ : Loc Cert.Exchange.nD Cert.Exchange.τ Cert.Exchange.sig) → Buf (Elt Bits) ℓ) (g : Dev Cert.Exchange.nD → PrngReg)
    (m' : (ℓ : Loc Cert.ExchangeRef.nD Cert.ExchangeRef.τ Cert.ExchangeRef.sig) → Buf (Elt Bits) ℓ) (g' : Dev Cert.ExchangeRef.nD → PrngReg), Pre_Exchange m →
    (∀ c : Dev Cert.Exchange.nD,
      m ((c.tc : Thread Cert.Exchange.nD Cert.Exchange.τ).loc Cert.Exchange.main_arg0) = Layout.block ⟨3, ![4, 6160, 1024]⟩ ⟨3, ![32, 6160, 1024]⟩ 0 8 c (m' (((0 : Dev Cert.ExchangeRef.nD).tc : Thread Cert.ExchangeRef.nD Cert.ExchangeRef.τ).loc Cert.ExchangeRef.main_arg0))) →
    ∃ (v0 : Buf (Elt Bits) (((0 : Dev Cert.ExchangeRef.nD).tc : Thread Cert.ExchangeRef.nD Cert.ExchangeRef.τ).loc Cert.ExchangeRef.main_v46)),
      θ_run (Cert.Exchange.defs (F := Bits)) (onTc (τ := Cert.Exchange.τ) (Cert.Exchange.main (F := Bits))) ⟨m, fun _ => 0, g⟩ (fun r => ∀ c : Dev Cert.Exchange.nD,
          r.2.mem ((c.tc : Thread Cert.Exchange.nD Cert.Exchange.τ).loc Cert.Exchange.main_v1) = Layout.block ⟨3, ![3, 6160, 1024]⟩ ⟨3, ![24, 6160, 1024]⟩ 0 8 c v0
          ∧ r.2.mem ((c.tc : Thread Cert.Exchange.nD Cert.Exchange.τ).loc Cert.Exchange.main_arg0) = m ((c.tc : Thread Cert.Exchange.nD Cert.Exchange.τ).loc Cert.Exchange.main_arg0))
      ∧ θ_run (Cert.ExchangeRef.defs (F := Bits)) (onTc (τ := Cert.ExchangeRef.τ) (Cert.ExchangeRef.main (F := Bits))) ⟨m', fun _ => 0, g'⟩ (fun r =>
          r.2.mem (((0 : Dev Cert.ExchangeRef.nD).tc : Thread Cert.ExchangeRef.nD Cert.ExchangeRef.τ).loc Cert.ExchangeRef.main_v46) = v0
          ∧ r.2.mem (((0 : Dev Cert.ExchangeRef.nD).tc : Thread Cert.ExchangeRef.nD Cert.ExchangeRef.τ).loc Cert.ExchangeRef.main_arg0) = m' (((0 : Dev Cert.ExchangeRef.nD).tc : Thread Cert.ExchangeRef.nD Cert.ExchangeRef.τ).loc Cert.ExchangeRef.main_arg0))

def preserves_Join_JoinIdeal : Prop :=
  True

def algebraic_JoinIdeal_JoinRefIdeal [hJoinIdeal : Cert.JoinIdeal.Facts] [hJoinRefIdeal : Cert.JoinRefIdeal.Facts] : Prop :=
  ∀ (m : (ℓ : Loc Cert.JoinIdeal.nD Cert.JoinIdeal.τ Cert.JoinIdeal.sig) → Buf (Elt Ideal) ℓ) (g : Dev Cert.JoinIdeal.nD → PrngReg)
    (m' : (ℓ : Loc Cert.JoinRefIdeal.nD Cert.JoinRefIdeal.τ Cert.JoinRefIdeal.sig) → Buf (Elt Ideal) ℓ) (g' : Dev Cert.JoinRefIdeal.nD → PrngReg), Pre_JoinIdeal m →
    (∀ c : Dev Cert.JoinIdeal.nD,
      m ((c.tc : Thread Cert.JoinIdeal.nD Cert.JoinIdeal.τ).loc Cert.JoinIdeal.main_arg0) = Layout.block ⟨2, ![6160, 1024]⟩ ⟨2, ![49280, 1024]⟩ 0 8 c (m' (((0 : Dev Cert.JoinRefIdeal.nD).tc : Thread Cert.JoinRefIdeal.nD Cert.JoinRefIdeal.τ).loc Cert.JoinRefIdeal.main_arg0))) →
    ∃ (v0 : Buf (Elt Ideal) (((0 : Dev Cert.JoinRefIdeal.nD).tc : Thread Cert.JoinRefIdeal.nD Cert.JoinRefIdeal.τ).loc Cert.JoinRefIdeal.main_v6)),
      θ_run (Cert.JoinIdeal.defs (F := Ideal)) (onTc (τ := Cert.JoinIdeal.τ) (Cert.JoinIdeal.main (F := Ideal))) ⟨m, fun _ => 0, g⟩ (fun r => ∀ c : Dev Cert.JoinIdeal.nD,
          r.2.mem ((c.tc : Thread Cert.JoinIdeal.nD Cert.JoinIdeal.τ).loc Cert.JoinIdeal.main_v1) = Layout.blockN ⟨2, ![12320, 1024]⟩ ⟨2, ![49280, 1024]⟩ (Layout.meshBlock [2, 2, 2] ![[0, 1], []] c) v0
          ∧ r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0))
      ∧ θ_run (Cert.JoinRefIdeal.defs (F := Ideal)) (onTc (τ := Cert.JoinRefIdeal.τ) (Cert.JoinRefIdeal.main (F := Ideal))) ⟨m', fun _ => 0, g'⟩ (fun r =>
          r.2.mem (((0 : Dev Cert.JoinRefIdeal.nD).tc : Thread Cert.JoinRefIdeal.nD Cert.JoinRefIdeal.τ).loc Cert.JoinRefIdeal.main_v6) = v0
          ∧ r.2.mem (((0 : Dev Cert.JoinRefIdeal.nD).tc : Thread Cert.JoinRefIdeal.nD Cert.JoinRefIdeal.τ).loc Cert.JoinRefIdeal.main_arg0) = m' (((0 : Dev Cert.JoinRefIdeal.nD).tc : Thread Cert.JoinRefIdeal.nD Cert.JoinRefIdeal.τ).loc Cert.JoinRefIdeal.main_arg0))

def bitexact_Join_JoinRef [hJoin : Cert.Join.Facts] [hJoinRef : Cert.JoinRef.Facts] : Prop :=
  ∀ (m : (ℓ : Loc Cert.Join.nD Cert.Join.τ Cert.Join.sig) → Buf (Elt Bits) ℓ) (g : Dev Cert.Join.nD → PrngReg)
    (m' : (ℓ : Loc Cert.JoinRef.nD Cert.JoinRef.τ Cert.JoinRef.sig) → Buf (Elt Bits) ℓ) (g' : Dev Cert.JoinRef.nD → PrngReg), Pre_Join m →
    (∀ c : Dev Cert.Join.nD,
      m ((c.tc : Thread Cert.Join.nD Cert.Join.τ).loc Cert.Join.main_arg0) = Layout.block ⟨2, ![6160, 1024]⟩ ⟨2, ![49280, 1024]⟩ 0 8 c (m' (((0 : Dev Cert.JoinRef.nD).tc : Thread Cert.JoinRef.nD Cert.JoinRef.τ).loc Cert.JoinRef.main_arg0))) →
    ∃ (v0 : Buf (Elt Bits) (((0 : Dev Cert.JoinRef.nD).tc : Thread Cert.JoinRef.nD Cert.JoinRef.τ).loc Cert.JoinRef.main_v6)),
      θ_run (Cert.Join.defs (F := Bits)) (onTc (τ := Cert.Join.τ) (Cert.Join.main (F := Bits))) ⟨m, fun _ => 0, g⟩ (fun r => ∀ c : Dev Cert.Join.nD,
          r.2.mem ((c.tc : Thread Cert.Join.nD Cert.Join.τ).loc Cert.Join.main_v1) = Layout.blockN ⟨2, ![12320, 1024]⟩ ⟨2, ![49280, 1024]⟩ (Layout.meshBlock [2, 2, 2] ![[0, 1], []] c) v0
          ∧ r.2.mem ((c.tc : Thread Cert.Join.nD Cert.Join.τ).loc Cert.Join.main_arg0) = m ((c.tc : Thread Cert.Join.nD Cert.Join.τ).loc Cert.Join.main_arg0))
      ∧ θ_run (Cert.JoinRef.defs (F := Bits)) (onTc (τ := Cert.JoinRef.τ) (Cert.JoinRef.main (F := Bits))) ⟨m', fun _ => 0, g'⟩ (fun r =>
          r.2.mem (((0 : Dev Cert.JoinRef.nD).tc : Thread Cert.JoinRef.nD Cert.JoinRef.τ).loc Cert.JoinRef.main_v6) = v0
          ∧ r.2.mem (((0 : Dev Cert.JoinRef.nD).tc : Thread Cert.JoinRef.nD Cert.JoinRef.τ).loc Cert.JoinRef.main_arg0) = m' (((0 : Dev Cert.JoinRef.nD).tc : Thread Cert.JoinRef.nD Cert.JoinRef.τ).loc Cert.JoinRef.main_arg0))

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨2, ![12320, 1024]⟩ ⟨2, ![49280, 1024]⟩ (Layout.meshBlock [2, 2, 2] ![[0, 1], []] c) (m' (((0 : Dev Cert.GatherRefIdeal.nD).tc : Thread Cert.GatherRefIdeal.nD Cert.GatherRefIdeal.τ).loc Cert.GatherRefIdeal.main_arg0))) →
    ∃ (v0 : Buf (Elt Ideal) (((0 : Dev Cert.GatherRefIdeal.nD).tc : Thread Cert.GatherRefIdeal.nD Cert.GatherRefIdeal.τ).loc Cert.GatherRefIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v0) = v0
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.blockN ⟨2, ![12320, 1024]⟩ ⟨2, ![49280, 1024]⟩ (Layout.meshBlock [2, 2, 2] ![[0, 1], []] c) (m' (((0 : Dev Cert.GatherRef.nD).tc : Thread Cert.GatherRef.nD Cert.GatherRef.τ).loc Cert.GatherRef.main_arg0))) →
    ∃ (v0 : Buf (Elt Bits) (((0 : Dev Cert.GatherRef.nD).tc : Thread Cert.GatherRef.nD Cert.GatherRef.τ).loc Cert.GatherRef.main_v0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v0) = v0
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0))

def preserves_AdamwWAda_AdamwWAdaIdeal : Prop :=
  True

def algebraic_AdamwWAdaIdeal_AdamwWAdaRefIdeal [hAdamwWAdaIdeal : Cert.AdamwWAdaIdeal.Facts] [hAdamwWAdaRefIdeal : Cert.AdamwWAdaRefIdeal.Facts] : Prop :=
  ∀ (m : (ℓ : Loc Cert.AdamwWAdaIdeal.nD Cert.AdamwWAdaIdeal.τ Cert.AdamwWAdaIdeal.sig) → Buf (Elt Ideal) ℓ) (g : Dev Cert.AdamwWAdaIdeal.nD → PrngReg)
    (m' : (ℓ : Loc Cert.AdamwWAdaRefIdeal.nD Cert.AdamwWAdaRefIdeal.τ Cert.AdamwWAdaRefIdeal.sig) → Buf (Elt Ideal) ℓ) (g' : Dev Cert.AdamwWAdaRefIdeal.nD → PrngReg), Pre_AdamwWAdaIdeal m →
    (∀ c : Dev Cert.AdamwWAdaIdeal.nD,
      m' ((c.tc : Thread Cert.AdamwWAdaRefIdeal.nD Cert.AdamwWAdaRefIdeal.τ).loc Cert.AdamwWAdaRefIdeal.main_arg0) = m ((c.tc : Thread Cert.AdamwWAdaIdeal.nD Cert.AdamwWAdaIdeal.τ).loc Cert.AdamwWAdaIdeal.main_arg0)
      ∧ m' ((c.tc : Thread Cert.AdamwWAdaRefIdeal.nD Cert.AdamwWAdaRefIdeal.τ).loc Cert.AdamwWAdaRefIdeal.main_arg1) = m ((c.tc : Thread Cert.AdamwWAdaIdeal.nD Cert.AdamwWAdaIdeal.τ).loc Cert.AdamwWAdaIdeal.main_arg1)
      ∧ m' ((c.tc : Thread Cert.AdamwWAdaRefIdeal.nD Cert.AdamwWAdaRefIdeal.τ).loc Cert.AdamwWAdaRefIdeal.main_arg2) = m ((c.tc : Thread Cert.AdamwWAdaIdeal.nD Cert.AdamwWAdaIdeal.τ).loc Cert.AdamwWAdaIdeal.main_arg2)
      ∧ m' ((c.tc : Thread Cert.AdamwWAdaRefIdeal.nD Cert.AdamwWAdaRefIdeal.τ).loc Cert.AdamwWAdaRefIdeal.main_arg3) = m ((c.tc : Thread Cert.AdamwWAdaIdeal.nD Cert.AdamwWAdaIdeal.τ).loc Cert.AdamwWAdaIdeal.main_arg3)) →
    ∃ (v0 : (c : Dev Cert.AdamwWAdaIdeal.nD) → Buf (Elt Ideal) ((c.tc : Thread Cert.AdamwWAdaIdeal.nD Cert.AdamwWAdaIdeal.τ).loc Cert.AdamwWAdaIdeal.main_v5)) (v1 : (c : Dev Cert.AdamwWAdaIdeal.nD) → Buf (Elt Ideal) ((c.tc : Thread Cert.AdamwWAdaIdeal.nD Cert.AdamwWAdaIdeal.τ).loc Cert.AdamwWAdaIdeal.main_v6)) (v2 : (c : Dev Cert.AdamwWAdaIdeal.nD) → Buf (Elt Ideal) ((c.tc : Thread Cert.AdamwWAdaIdeal.nD Cert.AdamwWAdaIdeal.τ).loc Cert.AdamwWAdaIdeal.main_v7)),
      θ_run (Cert.AdamwWAdaIdeal.defs (F := Ideal)) (onTc (τ := Cert.AdamwWAdaIdeal.τ) (Cert.AdamwWAdaIdeal.main (F := Ideal))) ⟨m, fun _ => 0, g⟩ (fun r => ∀ c : Dev Cert.AdamwWAdaIdeal.nD,
          r.2.mem ((c.tc : Thread Cert.AdamwWAdaIdeal.nD Cert.AdamwWAdaIdeal.τ).loc Cert.AdamwWAdaIdeal.main_v5) = v0 c
          ∧ r.2.mem ((c.tc : Thread Cert.AdamwWAdaIdeal.nD Cert.AdamwWAdaIdeal.τ).loc Cert.AdamwWAdaIdeal.main_v6) = v1 c
          ∧ r.2.mem ((c.tc : Thread Cert.AdamwWAdaIdeal.nD Cert.AdamwWAdaIdeal.τ).loc Cert.AdamwWAdaIdeal.main_v7) = v2 c
          ∧ r.2.mem ((c.tc : Thread Cert.AdamwWAdaIdeal.nD Cert.AdamwWAdaIdeal.τ).loc Cert.AdamwWAdaIdeal.main_arg0) = m ((c.tc : Thread Cert.AdamwWAdaIdeal.nD Cert.AdamwWAdaIdeal.τ).loc Cert.AdamwWAdaIdeal.main_arg0)
          ∧ r.2.mem ((c.tc : Thread Cert.AdamwWAdaIdeal.nD Cert.AdamwWAdaIdeal.τ).loc Cert.AdamwWAdaIdeal.main_arg1) = m ((c.tc : Thread Cert.AdamwWAdaIdeal.nD Cert.AdamwWAdaIdeal.τ).loc Cert.AdamwWAdaIdeal.main_arg1)
          ∧ r.2.mem ((c.tc : Thread Cert.AdamwWAdaIdeal.nD Cert.AdamwWAdaIdeal.τ).loc Cert.AdamwWAdaIdeal.main_arg2) = m ((c.tc : Thread Cert.AdamwWAdaIdeal.nD Cert.AdamwWAdaIdeal.τ).loc Cert.AdamwWAdaIdeal.main_arg2)
          ∧ r.2.mem ((c.tc : Thread Cert.AdamwWAdaIdeal.nD Cert.AdamwWAdaIdeal.τ).loc Cert.AdamwWAdaIdeal.main_arg3) = m ((c.tc : Thread Cert.AdamwWAdaIdeal.nD Cert.AdamwWAdaIdeal.τ).loc Cert.AdamwWAdaIdeal.main_arg3))
      ∧ θ_run (Cert.AdamwWAdaRefIdeal.defs (F := Ideal)) (onTc (τ := Cert.AdamwWAdaRefIdeal.τ) (Cert.AdamwWAdaRefIdeal.main (F := Ideal))) ⟨m', fun _ => 0, g'⟩ (fun r => ∀ c : Dev Cert.AdamwWAdaRefIdeal.nD,
          r.2.mem ((c.tc : Thread Cert.AdamwWAdaRefIdeal.nD Cert.AdamwWAdaRefIdeal.τ).loc Cert.AdamwWAdaRefIdeal.main_v23) = v0 c
          ∧ r.2.mem ((c.tc : Thread Cert.AdamwWAdaRefIdeal.nD Cert.AdamwWAdaRefIdeal.τ).loc Cert.AdamwWAdaRefIdeal.main_v4) = v1 c
          ∧ r.2.mem ((c.tc : Thread Cert.AdamwWAdaRefIdeal.nD Cert.AdamwWAdaRefIdeal.τ).loc Cert.AdamwWAdaRefIdeal.main_v10) = v2 c
          ∧ r.2.mem ((c.tc : Thread Cert.AdamwWAdaRefIdeal.nD Cert.AdamwWAdaRefIdeal.τ).loc Cert.AdamwWAdaRefIdeal.main_arg0) = m' ((c.tc : Thread Cert.AdamwWAdaRefIdeal.nD Cert.AdamwWAdaRefIdeal.τ).loc Cert.AdamwWAdaRefIdeal.main_arg0)
          ∧ r.2.mem ((c.tc : Thread Cert.AdamwWAdaRefIdeal.nD Cert.AdamwWAdaRefIdeal.τ).loc Cert.AdamwWAdaRefIdeal.main_arg1) = m' ((c.tc : Thread Cert.AdamwWAdaRefIdeal.nD Cert.AdamwWAdaRefIdeal.τ).loc Cert.AdamwWAdaRefIdeal.main_arg1)
          ∧ r.2.mem ((c.tc : Thread Cert.AdamwWAdaRefIdeal.nD Cert.AdamwWAdaRefIdeal.τ).loc Cert.AdamwWAdaRefIdeal.main_arg2) = m' ((c.tc : Thread Cert.AdamwWAdaRefIdeal.nD Cert.AdamwWAdaRefIdeal.τ).loc Cert.AdamwWAdaRefIdeal.main_arg2)
          ∧ r.2.mem ((c.tc : Thread Cert.AdamwWAdaRefIdeal.nD Cert.AdamwWAdaRefIdeal.τ).loc Cert.AdamwWAdaRefIdeal.main_arg3) = m' ((c.tc : Thread Cert.AdamwWAdaRefIdeal.nD Cert.AdamwWAdaRefIdeal.τ).loc Cert.AdamwWAdaRefIdeal.main_arg3))

def preserves_AdamwBAda_AdamwBAdaIdeal : Prop :=
  True

def algebraic_AdamwBAdaIdeal_AdamwBAdaRefIdeal [hAdamwBAdaIdeal : Cert.AdamwBAdaIdeal.Facts] [hAdamwBAdaRefIdeal : Cert.AdamwBAdaRefIdeal.Facts] : Prop :=
  ∀ (m : (ℓ : Loc Cert.AdamwBAdaIdeal.nD Cert.AdamwBAdaIdeal.τ Cert.AdamwBAdaIdeal.sig) → Buf (Elt Ideal) ℓ) (g : Dev Cert.AdamwBAdaIdeal.nD → PrngReg)
    (m' : (ℓ : Loc Cert.AdamwBAdaRefIdeal.nD Cert.AdamwBAdaRefIdeal.τ Cert.AdamwBAdaRefIdeal.sig) → Buf (Elt Ideal) ℓ) (g' : Dev Cert.AdamwBAdaRefIdeal.nD → PrngReg), Pre_AdamwBAdaIdeal m →
    (∀ c : Dev Cert.AdamwBAdaIdeal.nD,
      m' ((c.tc : Thread Cert.AdamwBAdaRefIdeal.nD Cert.AdamwBAdaRefIdeal.τ).loc Cert.AdamwBAdaRefIdeal.main_arg0) = m ((c.tc : Thread Cert.AdamwBAdaIdeal.nD Cert.AdamwBAdaIdeal.τ).loc Cert.AdamwBAdaIdeal.main_arg0)
      ∧ m' ((c.tc : Thread Cert.AdamwBAdaRefIdeal.nD Cert.AdamwBAdaRefIdeal.τ).loc Cert.AdamwBAdaRefIdeal.main_arg1) = m ((c.tc : Thread Cert.AdamwBAdaIdeal.nD Cert.AdamwBAdaIdeal.τ).loc Cert.AdamwBAdaIdeal.main_arg1)
      ∧ m' ((c.tc : Thread Cert.AdamwBAdaRefIdeal.nD Cert.AdamwBAdaRefIdeal.τ).loc Cert.AdamwBAdaRefIdeal.main_arg2) = m ((c.tc : Thread Cert.AdamwBAdaIdeal.nD Cert.AdamwBAdaIdeal.τ).loc Cert.AdamwBAdaIdeal.main_arg2)
      ∧ m' ((c.tc : Thread Cert.AdamwBAdaRefIdeal.nD Cert.AdamwBAdaRefIdeal.τ).loc Cert.AdamwBAdaRefIdeal.main_arg3) = m ((c.tc : Thread Cert.AdamwBAdaIdeal.nD Cert.AdamwBAdaIdeal.τ).loc Cert.AdamwBAdaIdeal.main_arg3)) →
    ∃ (v0 : (c : Dev Cert.AdamwBAdaIdeal.nD) → Buf (Elt Ideal) ((c.tc : Thread Cert.AdamwBAdaIdeal.nD Cert.AdamwBAdaIdeal.τ).loc Cert.AdamwBAdaIdeal.main_v0_0)) (v1 : (c : Dev Cert.AdamwBAdaIdeal.nD) → Buf (Elt Ideal) ((c.tc : Thread Cert.AdamwBAdaIdeal.nD Cert.AdamwBAdaIdeal.τ).loc Cert.AdamwBAdaIdeal.main_v0_1)) (v2 : (c : Dev Cert.AdamwBAdaIdeal.nD) → Buf (Elt Ideal) ((c.tc : Thread Cert.AdamwBAdaIdeal.nD Cert.AdamwBAdaIdeal.τ).loc Cert.AdamwBAdaIdeal.main_v0_2)),
      θ_run (Cert.AdamwBAdaIdeal.defs (F := Ideal)) (onTc (τ := Cert.AdamwBAdaIdeal.τ) (Cert.AdamwBAdaIdeal.main (F := Ideal))) ⟨m, fun _ => 0, g⟩ (fun r => ∀ c : Dev Cert.AdamwBAdaIdeal.nD,
          r.2.mem ((c.tc : Thread Cert.AdamwBAdaIdeal.nD Cert.AdamwBAdaIdeal.τ).loc Cert.AdamwBAdaIdeal.main_v0_0) = v0 c
          ∧ r.2.mem ((c.tc : Thread Cert.AdamwBAdaIdeal.nD Cert.AdamwBAdaIdeal.τ).loc Cert.AdamwBAdaIdeal.main_v0_1) = v1 c
          ∧ r.2.mem ((c.tc : Thread Cert.AdamwBAdaIdeal.nD Cert.AdamwBAdaIdeal.τ).loc Cert.AdamwBAdaIdeal.main_v0_2) = v2 c
          ∧ r.2.mem ((c.tc : Thread Cert.AdamwBAdaIdeal.nD Cert.AdamwBAdaIdeal.τ).loc Cert.AdamwBAdaIdeal.main_arg0) = m ((c.tc : Thread Cert.AdamwBAdaIdeal.nD Cert.AdamwBAdaIdeal.τ).loc Cert.AdamwBAdaIdeal.main_arg0)
          ∧ r.2.mem ((c.tc : Thread Cert.AdamwBAdaIdeal.nD Cert.AdamwBAdaIdeal.τ).loc Cert.AdamwBAdaIdeal.main_arg1) = m ((c.tc : Thread Cert.AdamwBAdaIdeal.nD Cert.AdamwBAdaIdeal.τ).loc Cert.AdamwBAdaIdeal.main_arg1)
          ∧ r.2.mem ((c.tc : Thread Cert.AdamwBAdaIdeal.nD Cert.AdamwBAdaIdeal.τ).loc Cert.AdamwBAdaIdeal.main_arg2) = m ((c.tc : Thread Cert.AdamwBAdaIdeal.nD Cert.AdamwBAdaIdeal.τ).loc Cert.AdamwBAdaIdeal.main_arg2)
          ∧ r.2.mem ((c.tc : Thread Cert.AdamwBAdaIdeal.nD Cert.AdamwBAdaIdeal.τ).loc Cert.AdamwBAdaIdeal.main_arg3) = m ((c.tc : Thread Cert.AdamwBAdaIdeal.nD Cert.AdamwBAdaIdeal.τ).loc Cert.AdamwBAdaIdeal.main_arg3))
      ∧ θ_run (Cert.AdamwBAdaRefIdeal.defs (F := Ideal)) (onTc (τ := Cert.AdamwBAdaRefIdeal.τ) (Cert.AdamwBAdaRefIdeal.main (F := Ideal))) ⟨m', fun _ => 0, g'⟩ (fun r => ∀ c : Dev Cert.AdamwBAdaRefIdeal.nD,
          r.2.mem ((c.tc : Thread Cert.AdamwBAdaRefIdeal.nD Cert.AdamwBAdaRefIdeal.τ).loc Cert.AdamwBAdaRefIdeal.main_v23) = v0 c
          ∧ r.2.mem ((c.tc : Thread Cert.AdamwBAdaRefIdeal.nD Cert.AdamwBAdaRefIdeal.τ).loc Cert.AdamwBAdaRefIdeal.main_v4) = v1 c
          ∧ r.2.mem ((c.tc : Thread Cert.AdamwBAdaRefIdeal.nD Cert.AdamwBAdaRefIdeal.τ).loc Cert.AdamwBAdaRefIdeal.main_v10) = v2 c
          ∧ r.2.mem ((c.tc : Thread Cert.AdamwBAdaRefIdeal.nD Cert.AdamwBAdaRefIdeal.τ).loc Cert.AdamwBAdaRefIdeal.main_arg0) = m' ((c.tc : Thread Cert.AdamwBAdaRefIdeal.nD Cert.AdamwBAdaRefIdeal.τ).loc Cert.AdamwBAdaRefIdeal.main_arg0)
          ∧ r.2.mem ((c.tc : Thread Cert.AdamwBAdaRefIdeal.nD Cert.AdamwBAdaRefIdeal.τ).loc Cert.AdamwBAdaRefIdeal.main_arg1) = m' ((c.tc : Thread Cert.AdamwBAdaRefIdeal.nD Cert.AdamwBAdaRefIdeal.τ).loc Cert.AdamwBAdaRefIdeal.main_arg1)
          ∧ r.2.mem ((c.tc : Thread Cert.AdamwBAdaRefIdeal.nD Cert.AdamwBAdaRefIdeal.τ).loc Cert.AdamwBAdaRefIdeal.main_arg2) = m' ((c.tc : Thread Cert.AdamwBAdaRefIdeal.nD Cert.AdamwBAdaRefIdeal.τ).loc Cert.AdamwBAdaRefIdeal.main_arg2)
          ∧ r.2.mem ((c.tc : Thread Cert.AdamwBAdaRefIdeal.nD Cert.AdamwBAdaRefIdeal.τ).loc Cert.AdamwBAdaRefIdeal.main_arg3) = m' ((c.tc : Thread Cert.AdamwBAdaRefIdeal.nD Cert.AdamwBAdaRefIdeal.τ).loc Cert.AdamwBAdaRefIdeal.main_arg3))

def preserves_AdamwLnG_AdamwLnGIdeal : Prop :=
  True

def algebraic_AdamwLnGIdeal_AdamwLnGRefIdeal [hAdamwLnGIdeal : Cert.AdamwLnGIdeal.Facts] [hAdamwLnGRefIdeal : Cert.AdamwLnGRefIdeal.Facts] : Prop :=
  ∀ (m : (ℓ : Loc Cert.AdamwLnGIdeal.nD Cert.AdamwLnGIdeal.τ Cert.AdamwLnGIdeal.sig) → Buf (Elt Ideal) ℓ) (g : Dev Cert.AdamwLnGIdeal.nD → PrngReg)
    (m' : (ℓ : Loc Cert.AdamwLnGRefIdeal.nD Cert.AdamwLnGRefIdeal.τ Cert.AdamwLnGRefIdeal.sig) → Buf (Elt Ideal) ℓ) (g' : Dev Cert.AdamwLnGRefIdeal.nD → PrngReg), Pre_AdamwLnGIdeal m →
    (∀ c : Dev Cert.AdamwLnGIdeal.nD,
      m' ((c.tc : Thread Cert.AdamwLnGRefIdeal.nD Cert.AdamwLnGRefIdeal.τ).loc Cert.AdamwLnGRefIdeal.main_arg0) = m ((c.tc : Thread Cert.AdamwLnGIdeal.nD Cert.AdamwLnGIdeal.τ).loc Cert.AdamwLnGIdeal.main_arg0)
      ∧ m' ((c.tc : Thread Cert.AdamwLnGRefIdeal.nD Cert.AdamwLnGRefIdeal.τ).loc Cert.AdamwLnGRefIdeal.main_arg1) = m ((c.tc : Thread Cert.AdamwLnGIdeal.nD Cert.AdamwLnGIdeal.τ).loc Cert.AdamwLnGIdeal.main_arg1)
      ∧ m' ((c.tc : Thread Cert.AdamwLnGRefIdeal.nD Cert.AdamwLnGRefIdeal.τ).loc Cert.AdamwLnGRefIdeal.main_arg2) = m ((c.tc : Thread Cert.AdamwLnGIdeal.nD Cert.AdamwLnGIdeal.τ).loc Cert.AdamwLnGIdeal.main_arg2)
      ∧ m' ((c.tc : Thread Cert.AdamwLnGRefIdeal.nD Cert.AdamwLnGRefIdeal.τ).loc Cert.AdamwLnGRefIdeal.main_arg3) = m ((c.tc : Thread Cert.AdamwLnGIdeal.nD Cert.AdamwLnGIdeal.τ).loc Cert.AdamwLnGIdeal.main_arg3)) →
    ∃ (v0 : (c : Dev Cert.AdamwLnGIdeal.nD) → Buf (Elt Ideal) ((c.tc : Thread Cert.AdamwLnGIdeal.nD Cert.AdamwLnGIdeal.τ).loc Cert.AdamwLnGIdeal.main_v5)) (v1 : (c : Dev Cert.AdamwLnGIdeal.nD) → Buf (Elt Ideal) ((c.tc : Thread Cert.AdamwLnGIdeal.nD Cert.AdamwLnGIdeal.τ).loc Cert.AdamwLnGIdeal.main_v6)) (v2 : (c : Dev Cert.AdamwLnGIdeal.nD) → Buf (Elt Ideal) ((c.tc : Thread Cert.AdamwLnGIdeal.nD Cert.AdamwLnGIdeal.τ).loc Cert.AdamwLnGIdeal.main_v7)),
      θ_run (Cert.AdamwLnGIdeal.defs (F := Ideal)) (onTc (τ := Cert.AdamwLnGIdeal.τ) (Cert.AdamwLnGIdeal.main (F := Ideal))) ⟨m, fun _ => 0, g⟩ (fun r => ∀ c : Dev Cert.AdamwLnGIdeal.nD,
          r.2.mem ((c.tc : Thread Cert.AdamwLnGIdeal.nD Cert.AdamwLnGIdeal.τ).loc Cert.AdamwLnGIdeal.main_v5) = v0 c
          ∧ r.2.mem ((c.tc : Thread Cert.AdamwLnGIdeal.nD Cert.AdamwLnGIdeal.τ).loc Cert.AdamwLnGIdeal.main_v6) = v1 c
          ∧ r.2.mem ((c.tc : Thread Cert.AdamwLnGIdeal.nD Cert.AdamwLnGIdeal.τ).loc Cert.AdamwLnGIdeal.main_v7) = v2 c
          ∧ r.2.mem ((c.tc : Thread Cert.AdamwLnGIdeal.nD Cert.AdamwLnGIdeal.τ).loc Cert.AdamwLnGIdeal.main_arg0) = m ((c.tc : Thread Cert.AdamwLnGIdeal.nD Cert.AdamwLnGIdeal.τ).loc Cert.AdamwLnGIdeal.main_arg0)
          ∧ r.2.mem ((c.tc : Thread Cert.AdamwLnGIdeal.nD Cert.AdamwLnGIdeal.τ).loc Cert.AdamwLnGIdeal.main_arg1) = m ((c.tc : Thread Cert.AdamwLnGIdeal.nD Cert.AdamwLnGIdeal.τ).loc Cert.AdamwLnGIdeal.main_arg1)
          ∧ r.2.mem ((c.tc : Thread Cert.AdamwLnGIdeal.nD Cert.AdamwLnGIdeal.τ).loc Cert.AdamwLnGIdeal.main_arg2) = m ((c.tc : Thread Cert.AdamwLnGIdeal.nD Cert.AdamwLnGIdeal.τ).loc Cert.AdamwLnGIdeal.main_arg2)
          ∧ r.2.mem ((c.tc : Thread Cert.AdamwLnGIdeal.nD Cert.AdamwLnGIdeal.τ).loc Cert.AdamwLnGIdeal.main_arg3) = m ((c.tc : Thread Cert.AdamwLnGIdeal.nD Cert.AdamwLnGIdeal.τ).loc Cert.AdamwLnGIdeal.main_arg3))
      ∧ θ_run (Cert.AdamwLnGRefIdeal.defs (F := Ideal)) (onTc (τ := Cert.AdamwLnGRefIdeal.τ) (Cert.AdamwLnGRefIdeal.main (F := Ideal))) ⟨m', fun _ => 0, g'⟩ (fun r => ∀ c : Dev Cert.AdamwLnGRefIdeal.nD,
          r.2.mem ((c.tc : Thread Cert.AdamwLnGRefIdeal.nD Cert.AdamwLnGRefIdeal.τ).loc Cert.AdamwLnGRefIdeal.main_v23) = v0 c
          ∧ r.2.mem ((c.tc : Thread Cert.AdamwLnGRefIdeal.nD Cert.AdamwLnGRefIdeal.τ).loc Cert.AdamwLnGRefIdeal.main_v4) = v1 c
          ∧ r.2.mem ((c.tc : Thread Cert.AdamwLnGRefIdeal.nD Cert.AdamwLnGRefIdeal.τ).loc Cert.AdamwLnGRefIdeal.main_v10) = v2 c
          ∧ r.2.mem ((c.tc : Thread Cert.AdamwLnGRefIdeal.nD Cert.AdamwLnGRefIdeal.τ).loc Cert.AdamwLnGRefIdeal.main_arg0) = m' ((c.tc : Thread Cert.AdamwLnGRefIdeal.nD Cert.AdamwLnGRefIdeal.τ).loc Cert.AdamwLnGRefIdeal.main_arg0)
          ∧ r.2.mem ((c.tc : Thread Cert.AdamwLnGRefIdeal.nD Cert.AdamwLnGRefIdeal.τ).loc Cert.AdamwLnGRefIdeal.main_arg1) = m' ((c.tc : Thread Cert.AdamwLnGRefIdeal.nD Cert.AdamwLnGRefIdeal.τ).loc Cert.AdamwLnGRefIdeal.main_arg1)
          ∧ r.2.mem ((c.tc : Thread Cert.AdamwLnGRefIdeal.nD Cert.AdamwLnGRefIdeal.τ).loc Cert.AdamwLnGRefIdeal.main_arg2) = m' ((c.tc : Thread Cert.AdamwLnGRefIdeal.nD Cert.AdamwLnGRefIdeal.τ).loc Cert.AdamwLnGRefIdeal.main_arg2)
          ∧ r.2.mem ((c.tc : Thread Cert.AdamwLnGRefIdeal.nD Cert.AdamwLnGRefIdeal.τ).loc Cert.AdamwLnGRefIdeal.main_arg3) = m' ((c.tc : Thread Cert.AdamwLnGRefIdeal.nD Cert.AdamwLnGRefIdeal.τ).loc Cert.AdamwLnGRefIdeal.main_arg3))

def preserves_AdamwGlaWIn_AdamwGlaWInIdeal : Prop :=
  True

def algebraic_AdamwGlaWInIdeal_AdamwGlaWInRefIdeal [hAdamwGlaWInIdeal : Cert.AdamwGlaWInIdeal.Facts] [hAdamwGlaWInRefIdeal : Cert.AdamwGlaWInRefIdeal.Facts] : Prop :=
  ∀ (m : (ℓ : Loc Cert.AdamwGlaWInIdeal.nD Cert.AdamwGlaWInIdeal.τ Cert.AdamwGlaWInIdeal.sig) → Buf (Elt Ideal) ℓ) (g : Dev Cert.AdamwGlaWInIdeal.nD → PrngReg)
    (m' : (ℓ : Loc Cert.AdamwGlaWInRefIdeal.nD Cert.AdamwGlaWInRefIdeal.τ Cert.AdamwGlaWInRefIdeal.sig) → Buf (Elt Ideal) ℓ) (g' : Dev Cert.AdamwGlaWInRefIdeal.nD → PrngReg), Pre_AdamwGlaWInIdeal m →
    (∀ c : Dev Cert.AdamwGlaWInIdeal.nD,
      m' ((c.tc : Thread Cert.AdamwGlaWInRefIdeal.nD Cert.AdamwGlaWInRefIdeal.τ).loc Cert.AdamwGlaWInRefIdeal.main_arg0) = m ((c.tc : Thread Cert.AdamwGlaWInIdeal.nD Cert.AdamwGlaWInIdeal.τ).loc Cert.AdamwGlaWInIdeal.main_arg0)
      ∧ m' ((c.tc : Thread Cert.AdamwGlaWInRefIdeal.nD Cert.AdamwGlaWInRefIdeal.τ).loc Cert.AdamwGlaWInRefIdeal.main_arg1) = m ((c.tc : Thread Cert.AdamwGlaWInIdeal.nD Cert.AdamwGlaWInIdeal.τ).loc Cert.AdamwGlaWInIdeal.main_arg1)
      ∧ m' ((c.tc : Thread Cert.AdamwGlaWInRefIdeal.nD Cert.AdamwGlaWInRefIdeal.τ).loc Cert.AdamwGlaWInRefIdeal.main_arg2) = m ((c.tc : Thread Cert.AdamwGlaWInIdeal.nD Cert.AdamwGlaWInIdeal.τ).loc Cert.AdamwGlaWInIdeal.main_arg2)
      ∧ m' ((c.tc : Thread Cert.AdamwGlaWInRefIdeal.nD Cert.AdamwGlaWInRefIdeal.τ).loc Cert.AdamwGlaWInRefIdeal.main_arg3) = m ((c.tc : Thread Cert.AdamwGlaWInIdeal.nD Cert.AdamwGlaWInIdeal.τ).loc Cert.AdamwGlaWInIdeal.main_arg3)) →
    ∃ (v0 : (c : Dev Cert.AdamwGlaWInIdeal.nD) → Buf (Elt Ideal) ((c.tc : Thread Cert.AdamwGlaWInIdeal.nD Cert.AdamwGlaWInIdeal.τ).loc Cert.AdamwGlaWInIdeal.main_v5)) (v1 : (c : Dev Cert.AdamwGlaWInIdeal.nD) → Buf (Elt Ideal) ((c.tc : Thread Cert.AdamwGlaWInIdeal.nD Cert.AdamwGlaWInIdeal.τ).loc Cert.AdamwGlaWInIdeal.main_v6)) (v2 : (c : Dev Cert.AdamwGlaWInIdeal.nD) → Buf (Elt Ideal) ((c.tc : Thread Cert.AdamwGlaWInIdeal.nD Cert.AdamwGlaWInIdeal.τ).loc Cert.AdamwGlaWInIdeal.main_v7)),
      θ_run (Cert.AdamwGlaWInIdeal.defs (F := Ideal)) (onTc (τ := Cert.AdamwGlaWInIdeal.τ) (Cert.AdamwGlaWInIdeal.main (F := Ideal))) ⟨m, fun _ => 0, g⟩ (fun r => ∀ c : Dev Cert.AdamwGlaWInIdeal.nD,
          r.2.mem ((c.tc : Thread Cert.AdamwGlaWInIdeal.nD Cert.AdamwGlaWInIdeal.τ).loc Cert.AdamwGlaWInIdeal.main_v5) = v0 c
          ∧ r.2.mem ((c.tc : Thread Cert.AdamwGlaWInIdeal.nD Cert.AdamwGlaWInIdeal.τ).loc Cert.AdamwGlaWInIdeal.main_v6) = v1 c
          ∧ r.2.mem ((c.tc : Thread Cert.AdamwGlaWInIdeal.nD Cert.AdamwGlaWInIdeal.τ).loc Cert.AdamwGlaWInIdeal.main_v7) = v2 c
          ∧ r.2.mem ((c.tc : Thread Cert.AdamwGlaWInIdeal.nD Cert.AdamwGlaWInIdeal.τ).loc Cert.AdamwGlaWInIdeal.main_arg0) = m ((c.tc : Thread Cert.AdamwGlaWInIdeal.nD Cert.AdamwGlaWInIdeal.τ).loc Cert.AdamwGlaWInIdeal.main_arg0)
          ∧ r.2.mem ((c.tc : Thread Cert.AdamwGlaWInIdeal.nD Cert.AdamwGlaWInIdeal.τ).loc Cert.AdamwGlaWInIdeal.main_arg1) = m ((c.tc : Thread Cert.AdamwGlaWInIdeal.nD Cert.AdamwGlaWInIdeal.τ).loc Cert.AdamwGlaWInIdeal.main_arg1)
          ∧ r.2.mem ((c.tc : Thread Cert.AdamwGlaWInIdeal.nD Cert.AdamwGlaWInIdeal.τ).loc Cert.AdamwGlaWInIdeal.main_arg2) = m ((c.tc : Thread Cert.AdamwGlaWInIdeal.nD Cert.AdamwGlaWInIdeal.τ).loc Cert.AdamwGlaWInIdeal.main_arg2)
          ∧ r.2.mem ((c.tc : Thread Cert.AdamwGlaWInIdeal.nD Cert.AdamwGlaWInIdeal.τ).loc Cert.AdamwGlaWInIdeal.main_arg3) = m ((c.tc : Thread Cert.AdamwGlaWInIdeal.nD Cert.AdamwGlaWInIdeal.τ).loc Cert.AdamwGlaWInIdeal.main_arg3))
      ∧ θ_run (Cert.AdamwGlaWInRefIdeal.defs (F := Ideal)) (onTc (τ := Cert.AdamwGlaWInRefIdeal.τ) (Cert.AdamwGlaWInRefIdeal.main (F := Ideal))) ⟨m', fun _ => 0, g'⟩ (fun r => ∀ c : Dev Cert.AdamwGlaWInRefIdeal.nD,
          r.2.mem ((c.tc : Thread Cert.AdamwGlaWInRefIdeal.nD Cert.AdamwGlaWInRefIdeal.τ).loc Cert.AdamwGlaWInRefIdeal.main_v23) = v0 c
          ∧ r.2.mem ((c.tc : Thread Cert.AdamwGlaWInRefIdeal.nD Cert.AdamwGlaWInRefIdeal.τ).loc Cert.AdamwGlaWInRefIdeal.main_v4) = v1 c
          ∧ r.2.mem ((c.tc : Thread Cert.AdamwGlaWInRefIdeal.nD Cert.AdamwGlaWInRefIdeal.τ).loc Cert.AdamwGlaWInRefIdeal.main_v10) = v2 c
          ∧ r.2.mem ((c.tc : Thread Cert.AdamwGlaWInRefIdeal.nD Cert.AdamwGlaWInRefIdeal.τ).loc Cert.AdamwGlaWInRefIdeal.main_arg0) = m' ((c.tc : Thread Cert.AdamwGlaWInRefIdeal.nD Cert.AdamwGlaWInRefIdeal.τ).loc Cert.AdamwGlaWInRefIdeal.main_arg0)
          ∧ r.2.mem ((c.tc : Thread Cert.AdamwGlaWInRefIdeal.nD Cert.AdamwGlaWInRefIdeal.τ).loc Cert.AdamwGlaWInRefIdeal.main_arg1) = m' ((c.tc : Thread Cert.AdamwGlaWInRefIdeal.nD Cert.AdamwGlaWInRefIdeal.τ).loc Cert.AdamwGlaWInRefIdeal.main_arg1)
          ∧ r.2.mem ((c.tc : Thread Cert.AdamwGlaWInRefIdeal.nD Cert.AdamwGlaWInRefIdeal.τ).loc Cert.AdamwGlaWInRefIdeal.main_arg2) = m' ((c.tc : Thread Cert.AdamwGlaWInRefIdeal.nD Cert.AdamwGlaWInRefIdeal.τ).loc Cert.AdamwGlaWInRefIdeal.main_arg2)
          ∧ r.2.mem ((c.tc : Thread Cert.AdamwGlaWInRefIdeal.nD Cert.AdamwGlaWInRefIdeal.τ).loc Cert.AdamwGlaWInRefIdeal.main_arg3) = m' ((c.tc : Thread Cert.AdamwGlaWInRefIdeal.nD Cert.AdamwGlaWInRefIdeal.τ).loc Cert.AdamwGlaWInRefIdeal.main_arg3))

def preserves_AdamwGlaWGk2_AdamwGlaWGk2Ideal : Prop :=
  True

def algebraic_AdamwGlaWGk2Ideal_AdamwGlaWGk2RefIdeal [hAdamwGlaWGk2Ideal : Cert.AdamwGlaWGk2Ideal.Facts] [hAdamwGlaWGk2RefIdeal : Cert.AdamwGlaWGk2RefIdeal.Facts] : Prop :=
  ∀ (m : (ℓ : Loc Cert.AdamwGlaWGk2Ideal.nD Cert.AdamwGlaWGk2Ideal.τ Cert.AdamwGlaWGk2Ideal.sig) → Buf (Elt Ideal) ℓ) (g : Dev Cert.AdamwGlaWGk2Ideal.nD → PrngReg)
    (m' : (ℓ : Loc Cert.AdamwGlaWGk2RefIdeal.nD Cert.AdamwGlaWGk2RefIdeal.τ Cert.AdamwGlaWGk2RefIdeal.sig) → Buf (Elt Ideal) ℓ) (g' : Dev Cert.AdamwGlaWGk2RefIdeal.nD → PrngReg), Pre_AdamwGlaWGk2Ideal m →
    (∀ c : Dev Cert.AdamwGlaWGk2Ideal.nD,
      m' ((c.tc : Thread Cert.AdamwGlaWGk2RefIdeal.nD Cert.AdamwGlaWGk2RefIdeal.τ).loc Cert.AdamwGlaWGk2RefIdeal.main_arg0) = m ((c.tc : Thread Cert.AdamwGlaWGk2Ideal.nD Cert.AdamwGlaWGk2Ideal.τ).loc Cert.AdamwGlaWGk2Ideal.main_arg0)
      ∧ m' ((c.tc : Thread Cert.AdamwGlaWGk2RefIdeal.nD Cert.AdamwGlaWGk2RefIdeal.τ).loc Cert.AdamwGlaWGk2RefIdeal.main_arg1) = m ((c.tc : Thread Cert.AdamwGlaWGk2Ideal.nD Cert.AdamwGlaWGk2Ideal.τ).loc Cert.AdamwGlaWGk2Ideal.main_arg1)
      ∧ m' ((c.tc : Thread Cert.AdamwGlaWGk2RefIdeal.nD Cert.AdamwGlaWGk2RefIdeal.τ).loc Cert.AdamwGlaWGk2RefIdeal.main_arg2) = m ((c.tc : Thread Cert.AdamwGlaWGk2Ideal.nD Cert.AdamwGlaWGk2Ideal.τ).loc Cert.AdamwGlaWGk2Ideal.main_arg2)
      ∧ m' ((c.tc : Thread Cert.AdamwGlaWGk2RefIdeal.nD Cert.AdamwGlaWGk2RefIdeal.τ).loc Cert.AdamwGlaWGk2RefIdeal.main_arg3) = m ((c.tc : Thread Cert.AdamwGlaWGk2Ideal.nD Cert.AdamwGlaWGk2Ideal.τ).loc Cert.AdamwGlaWGk2Ideal.main_arg3)) →
    ∃ (v0 : (c : Dev Cert.AdamwGlaWGk2Ideal.nD) → Buf (Elt Ideal) ((c.tc : Thread Cert.AdamwGlaWGk2Ideal.nD Cert.AdamwGlaWGk2Ideal.τ).loc Cert.AdamwGlaWGk2Ideal.main_v5)) (v1 : (c : Dev Cert.AdamwGlaWGk2Ideal.nD) → Buf (Elt Ideal) ((c.tc : Thread Cert.AdamwGlaWGk2Ideal.nD Cert.AdamwGlaWGk2Ideal.τ).loc Cert.AdamwGlaWGk2Ideal.main_v6)) (v2 : (c : Dev Cert.AdamwGlaWGk2Ideal.nD) → Buf (Elt Ideal) ((c.tc : Thread Cert.AdamwGlaWGk2Ideal.nD Cert.AdamwGlaWGk2Ideal.τ).loc Cert.AdamwGlaWGk2Ideal.main_v7)),
      θ_run (Cert.AdamwGlaWGk2Ideal.defs (F := Ideal)) (onTc (τ := Cert.AdamwGlaWGk2Ideal.τ) (Cert.AdamwGlaWGk2Ideal.main (F := Ideal))) ⟨m, fun _ => 0, g⟩ (fun r => ∀ c : Dev Cert.AdamwGlaWGk2Ideal.nD,
          r.2.mem ((c.tc : Thread Cert.AdamwGlaWGk2Ideal.nD Cert.AdamwGlaWGk2Ideal.τ).loc Cert.AdamwGlaWGk2Ideal.main_v5) = v0 c
          ∧ r.2.mem ((c.tc : Thread Cert.AdamwGlaWGk2Ideal.nD Cert.AdamwGlaWGk2Ideal.τ).loc Cert.AdamwGlaWGk2Ideal.main_v6) = v1 c
          ∧ r.2.mem ((c.tc : Thread Cert.AdamwGlaWGk2Ideal.nD Cert.AdamwGlaWGk2Ideal.τ).loc Cert.AdamwGlaWGk2Ideal.main_v7) = v2 c
          ∧ r.2.mem ((c.tc : Thread Cert.AdamwGlaWGk2Ideal.nD Cert.AdamwGlaWGk2Ideal.τ).loc Cert.AdamwGlaWGk2Ideal.main_arg0) = m ((c.tc : Thread Cert.AdamwGlaWGk2Ideal.nD Cert.AdamwGlaWGk2Ideal.τ).loc Cert.AdamwGlaWGk2Ideal.main_arg0)
          ∧ r.2.mem ((c.tc : Thread Cert.AdamwGlaWGk2Ideal.nD Cert.AdamwGlaWGk2Ideal.τ).loc Cert.AdamwGlaWGk2Ideal.main_arg1) = m ((c.tc : Thread Cert.AdamwGlaWGk2Ideal.nD Cert.AdamwGlaWGk2Ideal.τ).loc Cert.AdamwGlaWGk2Ideal.main_arg1)
          ∧ r.2.mem ((c.tc : Thread Cert.AdamwGlaWGk2Ideal.nD Cert.AdamwGlaWGk2Ideal.τ).loc Cert.AdamwGlaWGk2Ideal.main_arg2) = m ((c.tc : Thread Cert.AdamwGlaWGk2Ideal.nD Cert.AdamwGlaWGk2Ideal.τ).loc Cert.AdamwGlaWGk2Ideal.main_arg2)
          ∧ r.2.mem ((c.tc : Thread Cert.AdamwGlaWGk2Ideal.nD Cert.AdamwGlaWGk2Ideal.τ).loc Cert.AdamwGlaWGk2Ideal.main_arg3) = m ((c.tc : Thread Cert.AdamwGlaWGk2Ideal.nD Cert.AdamwGlaWGk2Ideal.τ).loc Cert.AdamwGlaWGk2Ideal.main_arg3))
      ∧ θ_run (Cert.AdamwGlaWGk2RefIdeal.defs (F := Ideal)) (onTc (τ := Cert.AdamwGlaWGk2RefIdeal.τ) (Cert.AdamwGlaWGk2RefIdeal.main (F := Ideal))) ⟨m', fun _ => 0, g'⟩ (fun r => ∀ c : Dev Cert.AdamwGlaWGk2RefIdeal.nD,
          r.2.mem ((c.tc : Thread Cert.AdamwGlaWGk2RefIdeal.nD Cert.AdamwGlaWGk2RefIdeal.τ).loc Cert.AdamwGlaWGk2RefIdeal.main_v23) = v0 c
          ∧ r.2.mem ((c.tc : Thread Cert.AdamwGlaWGk2RefIdeal.nD Cert.AdamwGlaWGk2RefIdeal.τ).loc Cert.AdamwGlaWGk2RefIdeal.main_v4) = v1 c
          ∧ r.2.mem ((c.tc : Thread Cert.AdamwGlaWGk2RefIdeal.nD Cert.AdamwGlaWGk2RefIdeal.τ).loc Cert.AdamwGlaWGk2RefIdeal.main_v10) = v2 c
          ∧ r.2.mem ((c.tc : Thread Cert.AdamwGlaWGk2RefIdeal.nD Cert.AdamwGlaWGk2RefIdeal.τ).loc Cert.AdamwGlaWGk2RefIdeal.main_arg0) = m' ((c.tc : Thread Cert.AdamwGlaWGk2RefIdeal.nD Cert.AdamwGlaWGk2RefIdeal.τ).loc Cert.AdamwGlaWGk2RefIdeal.main_arg0)
          ∧ r.2.mem ((c.tc : Thread Cert.AdamwGlaWGk2RefIdeal.nD Cert.AdamwGlaWGk2RefIdeal.τ).loc Cert.AdamwGlaWGk2RefIdeal.main_arg1) = m' ((c.tc : Thread Cert.AdamwGlaWGk2RefIdeal.nD Cert.AdamwGlaWGk2RefIdeal.τ).loc Cert.AdamwGlaWGk2RefIdeal.main_arg1)
          ∧ r.2.mem ((c.tc : Thread Cert.AdamwGlaWGk2RefIdeal.nD Cert.AdamwGlaWGk2RefIdeal.τ).loc Cert.AdamwGlaWGk2RefIdeal.main_arg2) = m' ((c.tc : Thread Cert.AdamwGlaWGk2RefIdeal.nD Cert.AdamwGlaWGk2RefIdeal.τ).loc Cert.AdamwGlaWGk2RefIdeal.main_arg2)
          ∧ r.2.mem ((c.tc : Thread Cert.AdamwGlaWGk2RefIdeal.nD Cert.AdamwGlaWGk2RefIdeal.τ).loc Cert.AdamwGlaWGk2RefIdeal.main_arg3) = m' ((c.tc : Thread Cert.AdamwGlaWGk2RefIdeal.nD Cert.AdamwGlaWGk2RefIdeal.τ).loc Cert.AdamwGlaWGk2RefIdeal.main_arg3))

def preserves_AdamwGlaBGk_AdamwGlaBGkIdeal : Prop :=
  True

def algebraic_AdamwGlaBGkIdeal_AdamwGlaBGkRefIdeal [hAdamwGlaBGkIdeal : Cert.AdamwGlaBGkIdeal.Facts] [hAdamwGlaBGkRefIdeal : Cert.AdamwGlaBGkRefIdeal.Facts] : Prop :=
  ∀ (m : (ℓ : Loc Cert.AdamwGlaBGkIdeal.nD Cert.AdamwGlaBGkIdeal.τ Cert.AdamwGlaBGkIdeal.sig) → Buf (Elt Ideal) ℓ) (g : Dev Cert.AdamwGlaBGkIdeal.nD → PrngReg)
    (m' : (ℓ : Loc Cert.AdamwGlaBGkRefIdeal.nD Cert.AdamwGlaBGkRefIdeal.τ Cert.AdamwGlaBGkRefIdeal.sig) → Buf (Elt Ideal) ℓ) (g' : Dev Cert.AdamwGlaBGkRefIdeal.nD → PrngReg), Pre_AdamwGlaBGkIdeal m →
    (∀ c : Dev Cert.AdamwGlaBGkIdeal.nD,
      m' ((c.tc : Thread Cert.AdamwGlaBGkRefIdeal.nD Cert.AdamwGlaBGkRefIdeal.τ).loc Cert.AdamwGlaBGkRefIdeal.main_arg0) = m ((c.tc : Thread Cert.AdamwGlaBGkIdeal.nD Cert.AdamwGlaBGkIdeal.τ).loc Cert.AdamwGlaBGkIdeal.main_arg0)
      ∧ m' ((c.tc : Thread Cert.AdamwGlaBGkRefIdeal.nD Cert.AdamwGlaBGkRefIdeal.τ).loc Cert.AdamwGlaBGkRefIdeal.main_arg1) = m ((c.tc : Thread Cert.AdamwGlaBGkIdeal.nD Cert.AdamwGlaBGkIdeal.τ).loc Cert.AdamwGlaBGkIdeal.main_arg1)
      ∧ m' ((c.tc : Thread Cert.AdamwGlaBGkRefIdeal.nD Cert.AdamwGlaBGkRefIdeal.τ).loc Cert.AdamwGlaBGkRefIdeal.main_arg2) = m ((c.tc : Thread Cert.AdamwGlaBGkIdeal.nD Cert.AdamwGlaBGkIdeal.τ).loc Cert.AdamwGlaBGkIdeal.main_arg2)
      ∧ m' ((c.tc : Thread Cert.AdamwGlaBGkRefIdeal.nD Cert.AdamwGlaBGkRefIdeal.τ).loc Cert.AdamwGlaBGkRefIdeal.main_arg3) = m ((c.tc : Thread Cert.AdamwGlaBGkIdeal.nD Cert.AdamwGlaBGkIdeal.τ).loc Cert.AdamwGlaBGkIdeal.main_arg3)) →
    ∃ (v0 : (c : Dev Cert.AdamwGlaBGkIdeal.nD) → Buf (Elt Ideal) ((c.tc : Thread Cert.AdamwGlaBGkIdeal.nD Cert.AdamwGlaBGkIdeal.τ).loc Cert.AdamwGlaBGkIdeal.main_v0_0)) (v1 : (c : Dev Cert.AdamwGlaBGkIdeal.nD) → Buf (Elt Ideal) ((c.tc : Thread Cert.AdamwGlaBGkIdeal.nD Cert.AdamwGlaBGkIdeal.τ).loc Cert.AdamwGlaBGkIdeal.main_v0_1)) (v2 : (c : Dev Cert.AdamwGlaBGkIdeal.nD) → Buf (Elt Ideal) ((c.tc : Thread Cert.AdamwGlaBGkIdeal.nD Cert.AdamwGlaBGkIdeal.τ).loc Cert.AdamwGlaBGkIdeal.main_v0_2)),
      θ_run (Cert.AdamwGlaBGkIdeal.defs (F := Ideal)) (onTc (τ := Cert.AdamwGlaBGkIdeal.τ) (Cert.AdamwGlaBGkIdeal.main (F := Ideal))) ⟨m, fun _ => 0, g⟩ (fun r => ∀ c : Dev Cert.AdamwGlaBGkIdeal.nD,
          r.2.mem ((c.tc : Thread Cert.AdamwGlaBGkIdeal.nD Cert.AdamwGlaBGkIdeal.τ).loc Cert.AdamwGlaBGkIdeal.main_v0_0) = v0 c
          ∧ r.2.mem ((c.tc : Thread Cert.AdamwGlaBGkIdeal.nD Cert.AdamwGlaBGkIdeal.τ).loc Cert.AdamwGlaBGkIdeal.main_v0_1) = v1 c
          ∧ r.2.mem ((c.tc : Thread Cert.AdamwGlaBGkIdeal.nD Cert.AdamwGlaBGkIdeal.τ).loc Cert.AdamwGlaBGkIdeal.main_v0_2) = v2 c
          ∧ r.2.mem ((c.tc : Thread Cert.AdamwGlaBGkIdeal.nD Cert.AdamwGlaBGkIdeal.τ).loc Cert.AdamwGlaBGkIdeal.main_arg0) = m ((c.tc : Thread Cert.AdamwGlaBGkIdeal.nD Cert.AdamwGlaBGkIdeal.τ).loc Cert.AdamwGlaBGkIdeal.main_arg0)
          ∧ r.2.mem ((c.tc : Thread Cert.AdamwGlaBGkIdeal.nD Cert.AdamwGlaBGkIdeal.τ).loc Cert.AdamwGlaBGkIdeal.main_arg1) = m ((c.tc : Thread Cert.AdamwGlaBGkIdeal.nD Cert.AdamwGlaBGkIdeal.τ).loc Cert.AdamwGlaBGkIdeal.main_arg1)
          ∧ r.2.mem ((c.tc : Thread Cert.AdamwGlaBGkIdeal.nD Cert.AdamwGlaBGkIdeal.τ).loc Cert.AdamwGlaBGkIdeal.main_arg2) = m ((c.tc : Thread Cert.AdamwGlaBGkIdeal.nD Cert.AdamwGlaBGkIdeal.τ).loc Cert.AdamwGlaBGkIdeal.main_arg2)
          ∧ r.2.mem ((c.tc : Thread Cert.AdamwGlaBGkIdeal.nD Cert.AdamwGlaBGkIdeal.τ).loc Cert.AdamwGlaBGkIdeal.main_arg3) = m ((c.tc : Thread Cert.AdamwGlaBGkIdeal.nD Cert.AdamwGlaBGkIdeal.τ).loc Cert.AdamwGlaBGkIdeal.main_arg3))
      ∧ θ_run (Cert.AdamwGlaBGkRefIdeal.defs (F := Ideal)) (onTc (τ := Cert.AdamwGlaBGkRefIdeal.τ) (Cert.AdamwGlaBGkRefIdeal.main (F := Ideal))) ⟨m', fun _ => 0, g'⟩ (fun r => ∀ c : Dev Cert.AdamwGlaBGkRefIdeal.nD,
          r.2.mem ((c.tc : Thread Cert.AdamwGlaBGkRefIdeal.nD Cert.AdamwGlaBGkRefIdeal.τ).loc Cert.AdamwGlaBGkRefIdeal.main_v23) = v0 c
          ∧ r.2.mem ((c.tc : Thread Cert.AdamwGlaBGkRefIdeal.nD Cert.AdamwGlaBGkRefIdeal.τ).loc Cert.AdamwGlaBGkRefIdeal.main_v4) = v1 c
          ∧ r.2.mem ((c.tc : Thread Cert.AdamwGlaBGkRefIdeal.nD Cert.AdamwGlaBGkRefIdeal.τ).loc Cert.AdamwGlaBGkRefIdeal.main_v10) = v2 c
          ∧ r.2.mem ((c.tc : Thread Cert.AdamwGlaBGkRefIdeal.nD Cert.AdamwGlaBGkRefIdeal.τ).loc Cert.AdamwGlaBGkRefIdeal.main_arg0) = m' ((c.tc : Thread Cert.AdamwGlaBGkRefIdeal.nD Cert.AdamwGlaBGkRefIdeal.τ).loc Cert.AdamwGlaBGkRefIdeal.main_arg0)
          ∧ r.2.mem ((c.tc : Thread Cert.AdamwGlaBGkRefIdeal.nD Cert.AdamwGlaBGkRefIdeal.τ).loc Cert.AdamwGlaBGkRefIdeal.main_arg1) = m' ((c.tc : Thread Cert.AdamwGlaBGkRefIdeal.nD Cert.AdamwGlaBGkRefIdeal.τ).loc Cert.AdamwGlaBGkRefIdeal.main_arg1)
          ∧ r.2.mem ((c.tc : Thread Cert.AdamwGlaBGkRefIdeal.nD Cert.AdamwGlaBGkRefIdeal.τ).loc Cert.AdamwGlaBGkRefIdeal.main_arg2) = m' ((c.tc : Thread Cert.AdamwGlaBGkRefIdeal.nD Cert.AdamwGlaBGkRefIdeal.τ).loc Cert.AdamwGlaBGkRefIdeal.main_arg2)
          ∧ r.2.mem ((c.tc : Thread Cert.AdamwGlaBGkRefIdeal.nD Cert.AdamwGlaBGkRefIdeal.τ).loc Cert.AdamwGlaBGkRefIdeal.main_arg3) = m' ((c.tc : Thread Cert.AdamwGlaBGkRefIdeal.nD Cert.AdamwGlaBGkRefIdeal.τ).loc Cert.AdamwGlaBGkRefIdeal.main_arg3))

def preserves_AdamwGlaGNorm_AdamwGlaGNormIdeal : Prop :=
  True

def algebraic_AdamwGlaGNormIdeal_AdamwGlaGNormRefIdeal [hAdamwGlaGNormIdeal : Cert.AdamwGlaGNormIdeal.Facts] [hAdamwGlaGNormRefIdeal : Cert.AdamwGlaGNormRefIdeal.Facts] : Prop :=
  ∀ (m : (ℓ : Loc Cert.AdamwGlaGNormIdeal.nD Cert.AdamwGlaGNormIdeal.τ Cert.AdamwGlaGNormIdeal.sig) → Buf (Elt Ideal) ℓ) (g : Dev Cert.AdamwGlaGNormIdeal.nD → PrngReg)
    (m' : (ℓ : Loc Cert.AdamwGlaGNormRefIdeal.nD Cert.AdamwGlaGNormRefIdeal.τ Cert.AdamwGlaGNormRefIdeal.sig) → Buf (Elt Ideal) ℓ) (g' : Dev Cert.AdamwGlaGNormRefIdeal.nD → PrngReg), Pre_AdamwGlaGNormIdeal m →
    (∀ c : Dev Cert.AdamwGlaGNormIdeal.nD,
      m' ((c.tc : Thread Cert.AdamwGlaGNormRefIdeal.nD Cert.AdamwGlaGNormRefIdeal.τ).loc Cert.AdamwGlaGNormRefIdeal.main_arg0) = m ((c.tc : Thread Cert.AdamwGlaGNormIdeal.nD Cert.AdamwGlaGNormIdeal.τ).loc Cert.AdamwGlaGNormIdeal.main_arg0)
      ∧ m' ((c.tc : Thread Cert.AdamwGlaGNormRefIdeal.nD Cert.AdamwGlaGNormRefIdeal.τ).loc Cert.AdamwGlaGNormRefIdeal.main_arg1) = m ((c.tc : Thread Cert.AdamwGlaGNormIdeal.nD Cert.AdamwGlaGNormIdeal.τ).loc Cert.AdamwGlaGNormIdeal.main_arg1)
      ∧ m' ((c.tc : Thread Cert.AdamwGlaGNormRefIdeal.nD Cert.AdamwGlaGNormRefIdeal.τ).loc Cert.AdamwGlaGNormRefIdeal.main_arg2) = m ((c.tc : Thread Cert.AdamwGlaGNormIdeal.nD Cert.AdamwGlaGNormIdeal.τ).loc Cert.AdamwGlaGNormIdeal.main_arg2)
      ∧ m' ((c.tc : Thread Cert.AdamwGlaGNormRefIdeal.nD Cert.AdamwGlaGNormRefIdeal.τ).loc Cert.AdamwGlaGNormRefIdeal.main_arg3) = m ((c.tc : Thread Cert.AdamwGlaGNormIdeal.nD Cert.AdamwGlaGNormIdeal.τ).loc Cert.AdamwGlaGNormIdeal.main_arg3)) →
    ∃ (v0 : (c : Dev Cert.AdamwGlaGNormIdeal.nD) → Buf (Elt Ideal) ((c.tc : Thread Cert.AdamwGlaGNormIdeal.nD Cert.AdamwGlaGNormIdeal.τ).loc Cert.AdamwGlaGNormIdeal.main_v5)) (v1 : (c : Dev Cert.AdamwGlaGNormIdeal.nD) → Buf (Elt Ideal) ((c.tc : Thread Cert.AdamwGlaGNormIdeal.nD Cert.AdamwGlaGNormIdeal.τ).loc Cert.AdamwGlaGNormIdeal.main_v6)) (v2 : (c : Dev Cert.AdamwGlaGNormIdeal.nD) → Buf (Elt Ideal) ((c.tc : Thread Cert.AdamwGlaGNormIdeal.nD Cert.AdamwGlaGNormIdeal.τ).loc Cert.AdamwGlaGNormIdeal.main_v7)),
      θ_run (Cert.AdamwGlaGNormIdeal.defs (F := Ideal)) (onTc (τ := Cert.AdamwGlaGNormIdeal.τ) (Cert.AdamwGlaGNormIdeal.main (F := Ideal))) ⟨m, fun _ => 0, g⟩ (fun r => ∀ c : Dev Cert.AdamwGlaGNormIdeal.nD,
          r.2.mem ((c.tc : Thread Cert.AdamwGlaGNormIdeal.nD Cert.AdamwGlaGNormIdeal.τ).loc Cert.AdamwGlaGNormIdeal.main_v5) = v0 c
          ∧ r.2.mem ((c.tc : Thread Cert.AdamwGlaGNormIdeal.nD Cert.AdamwGlaGNormIdeal.τ).loc Cert.AdamwGlaGNormIdeal.main_v6) = v1 c
          ∧ r.2.mem ((c.tc : Thread Cert.AdamwGlaGNormIdeal.nD Cert.AdamwGlaGNormIdeal.τ).loc Cert.AdamwGlaGNormIdeal.main_v7) = v2 c
          ∧ r.2.mem ((c.tc : Thread Cert.AdamwGlaGNormIdeal.nD Cert.AdamwGlaGNormIdeal.τ).loc Cert.AdamwGlaGNormIdeal.main_arg0) = m ((c.tc : Thread Cert.AdamwGlaGNormIdeal.nD Cert.AdamwGlaGNormIdeal.τ).loc Cert.AdamwGlaGNormIdeal.main_arg0)
          ∧ r.2.mem ((c.tc : Thread Cert.AdamwGlaGNormIdeal.nD Cert.AdamwGlaGNormIdeal.τ).loc Cert.AdamwGlaGNormIdeal.main_arg1) = m ((c.tc : Thread Cert.AdamwGlaGNormIdeal.nD Cert.AdamwGlaGNormIdeal.τ).loc Cert.AdamwGlaGNormIdeal.main_arg1)
          ∧ r.2.mem ((c.tc : Thread Cert.AdamwGlaGNormIdeal.nD Cert.AdamwGlaGNormIdeal.τ).loc Cert.AdamwGlaGNormIdeal.main_arg2) = m ((c.tc : Thread Cert.AdamwGlaGNormIdeal.nD Cert.AdamwGlaGNormIdeal.τ).loc Cert.AdamwGlaGNormIdeal.main_arg2)
          ∧ r.2.mem ((c.tc : Thread Cert.AdamwGlaGNormIdeal.nD Cert.AdamwGlaGNormIdeal.τ).loc Cert.AdamwGlaGNormIdeal.main_arg3) = m ((c.tc : Thread Cert.AdamwGlaGNormIdeal.nD Cert.AdamwGlaGNormIdeal.τ).loc Cert.AdamwGlaGNormIdeal.main_arg3))
      ∧ θ_run (Cert.AdamwGlaGNormRefIdeal.defs (F := Ideal)) (onTc (τ := Cert.AdamwGlaGNormRefIdeal.τ) (Cert.AdamwGlaGNormRefIdeal.main (F := Ideal))) ⟨m', fun _ => 0, g'⟩ (fun r => ∀ c : Dev Cert.AdamwGlaGNormRefIdeal.nD,
          r.2.mem ((c.tc : Thread Cert.AdamwGlaGNormRefIdeal.nD Cert.AdamwGlaGNormRefIdeal.τ).loc Cert.AdamwGlaGNormRefIdeal.main_v23) = v0 c
          ∧ r.2.mem ((c.tc : Thread Cert.AdamwGlaGNormRefIdeal.nD Cert.AdamwGlaGNormRefIdeal.τ).loc Cert.AdamwGlaGNormRefIdeal.main_v4) = v1 c
          ∧ r.2.mem ((c.tc : Thread Cert.AdamwGlaGNormRefIdeal.nD Cert.AdamwGlaGNormRefIdeal.τ).loc Cert.AdamwGlaGNormRefIdeal.main_v10) = v2 c
          ∧ r.2.mem ((c.tc : Thread Cert.AdamwGlaGNormRefIdeal.nD Cert.AdamwGlaGNormRefIdeal.τ).loc Cert.AdamwGlaGNormRefIdeal.main_arg0) = m' ((c.tc : Thread Cert.AdamwGlaGNormRefIdeal.nD Cert.AdamwGlaGNormRefIdeal.τ).loc Cert.AdamwGlaGNormRefIdeal.main_arg0)
          ∧ r.2.mem ((c.tc : Thread Cert.AdamwGlaGNormRefIdeal.nD Cert.AdamwGlaGNormRefIdeal.τ).loc Cert.AdamwGlaGNormRefIdeal.main_arg1) = m' ((c.tc : Thread Cert.AdamwGlaGNormRefIdeal.nD Cert.AdamwGlaGNormRefIdeal.τ).loc Cert.AdamwGlaGNormRefIdeal.main_arg1)
          ∧ r.2.mem ((c.tc : Thread Cert.AdamwGlaGNormRefIdeal.nD Cert.AdamwGlaGNormRefIdeal.τ).loc Cert.AdamwGlaGNormRefIdeal.main_arg2) = m' ((c.tc : Thread Cert.AdamwGlaGNormRefIdeal.nD Cert.AdamwGlaGNormRefIdeal.τ).loc Cert.AdamwGlaGNormRefIdeal.main_arg2)
          ∧ r.2.mem ((c.tc : Thread Cert.AdamwGlaGNormRefIdeal.nD Cert.AdamwGlaGNormRefIdeal.τ).loc Cert.AdamwGlaGNormRefIdeal.main_arg3) = m' ((c.tc : Thread Cert.AdamwGlaGNormRefIdeal.nD Cert.AdamwGlaGNormRefIdeal.τ).loc Cert.AdamwGlaGNormRefIdeal.main_arg3))

def preserves_AdamwGlaWOut_AdamwGlaWOutIdeal : Prop :=
  True

def algebraic_AdamwGlaWOutIdeal_AdamwGlaWOutRefIdeal [hAdamwGlaWOutIdeal : Cert.AdamwGlaWOutIdeal.Facts] [hAdamwGlaWOutRefIdeal : Cert.AdamwGlaWOutRefIdeal.Facts] : Prop :=
  ∀ (m : (ℓ : Loc Cert.AdamwGlaWOutIdeal.nD Cert.AdamwGlaWOutIdeal.τ Cert.AdamwGlaWOutIdeal.sig) → Buf (Elt Ideal) ℓ) (g : Dev Cert.AdamwGlaWOutIdeal.nD → PrngReg)
    (m' : (ℓ : Loc Cert.AdamwGlaWOutRefIdeal.nD Cert.AdamwGlaWOutRefIdeal.τ Cert.AdamwGlaWOutRefIdeal.sig) → Buf (Elt Ideal) ℓ) (g' : Dev Cert.AdamwGlaWOutRefIdeal.nD → PrngReg), Pre_AdamwGlaWOutIdeal m →
    (∀ c : Dev Cert.AdamwGlaWOutIdeal.nD,
      m' ((c.tc : Thread Cert.AdamwGlaWOutRefIdeal.nD Cert.AdamwGlaWOutRefIdeal.τ).loc Cert.AdamwGlaWOutRefIdeal.main_arg0) = m ((c.tc : Thread Cert.AdamwGlaWOutIdeal.nD Cert.AdamwGlaWOutIdeal.τ).loc Cert.AdamwGlaWOutIdeal.main_arg0)
      ∧ m' ((c.tc : Thread Cert.AdamwGlaWOutRefIdeal.nD Cert.AdamwGlaWOutRefIdeal.τ).loc Cert.AdamwGlaWOutRefIdeal.main_arg1) = m ((c.tc : Thread Cert.AdamwGlaWOutIdeal.nD Cert.AdamwGlaWOutIdeal.τ).loc Cert.AdamwGlaWOutIdeal.main_arg1)
      ∧ m' ((c.tc : Thread Cert.AdamwGlaWOutRefIdeal.nD Cert.AdamwGlaWOutRefIdeal.τ).loc Cert.AdamwGlaWOutRefIdeal.main_arg2) = m ((c.tc : Thread Cert.AdamwGlaWOutIdeal.nD Cert.AdamwGlaWOutIdeal.τ).loc Cert.AdamwGlaWOutIdeal.main_arg2)
      ∧ m' ((c.tc : Thread Cert.AdamwGlaWOutRefIdeal.nD Cert.AdamwGlaWOutRefIdeal.τ).loc Cert.AdamwGlaWOutRefIdeal.main_arg3) = m ((c.tc : Thread Cert.AdamwGlaWOutIdeal.nD Cert.AdamwGlaWOutIdeal.τ).loc Cert.AdamwGlaWOutIdeal.main_arg3)) →
    ∃ (v0 : (c : Dev Cert.AdamwGlaWOutIdeal.nD) → Buf (Elt Ideal) ((c.tc : Thread Cert.AdamwGlaWOutIdeal.nD Cert.AdamwGlaWOutIdeal.τ).loc Cert.AdamwGlaWOutIdeal.main_v5)) (v1 : (c : Dev Cert.AdamwGlaWOutIdeal.nD) → Buf (Elt Ideal) ((c.tc : Thread Cert.AdamwGlaWOutIdeal.nD Cert.AdamwGlaWOutIdeal.τ).loc Cert.AdamwGlaWOutIdeal.main_v6)) (v2 : (c : Dev Cert.AdamwGlaWOutIdeal.nD) → Buf (Elt Ideal) ((c.tc : Thread Cert.AdamwGlaWOutIdeal.nD Cert.AdamwGlaWOutIdeal.τ).loc Cert.AdamwGlaWOutIdeal.main_v7)),
      θ_run (Cert.AdamwGlaWOutIdeal.defs (F := Ideal)) (onTc (τ := Cert.AdamwGlaWOutIdeal.τ) (Cert.AdamwGlaWOutIdeal.main (F := Ideal))) ⟨m, fun _ => 0, g⟩ (fun r => ∀ c : Dev Cert.AdamwGlaWOutIdeal.nD,
          r.2.mem ((c.tc : Thread Cert.AdamwGlaWOutIdeal.nD Cert.AdamwGlaWOutIdeal.τ).loc Cert.AdamwGlaWOutIdeal.main_v5) = v0 c
          ∧ r.2.mem ((c.tc : Thread Cert.AdamwGlaWOutIdeal.nD Cert.AdamwGlaWOutIdeal.τ).loc Cert.AdamwGlaWOutIdeal.main_v6) = v1 c
          ∧ r.2.mem ((c.tc : Thread Cert.AdamwGlaWOutIdeal.nD Cert.AdamwGlaWOutIdeal.τ).loc Cert.AdamwGlaWOutIdeal.main_v7) = v2 c
          ∧ r.2.mem ((c.tc : Thread Cert.AdamwGlaWOutIdeal.nD Cert.AdamwGlaWOutIdeal.τ).loc Cert.AdamwGlaWOutIdeal.main_arg0) = m ((c.tc : Thread Cert.AdamwGlaWOutIdeal.nD Cert.AdamwGlaWOutIdeal.τ).loc Cert.AdamwGlaWOutIdeal.main_arg0)
          ∧ r.2.mem ((c.tc : Thread Cert.AdamwGlaWOutIdeal.nD Cert.AdamwGlaWOutIdeal.τ).loc Cert.AdamwGlaWOutIdeal.main_arg1) = m ((c.tc : Thread Cert.AdamwGlaWOutIdeal.nD Cert.AdamwGlaWOutIdeal.τ).loc Cert.AdamwGlaWOutIdeal.main_arg1)
          ∧ r.2.mem ((c.tc : Thread Cert.AdamwGlaWOutIdeal.nD Cert.AdamwGlaWOutIdeal.τ).loc Cert.AdamwGlaWOutIdeal.main_arg2) = m ((c.tc : Thread Cert.AdamwGlaWOutIdeal.nD Cert.AdamwGlaWOutIdeal.τ).loc Cert.AdamwGlaWOutIdeal.main_arg2)
          ∧ r.2.mem ((c.tc : Thread Cert.AdamwGlaWOutIdeal.nD Cert.AdamwGlaWOutIdeal.τ).loc Cert.AdamwGlaWOutIdeal.main_arg3) = m ((c.tc : Thread Cert.AdamwGlaWOutIdeal.nD Cert.AdamwGlaWOutIdeal.τ).loc Cert.AdamwGlaWOutIdeal.main_arg3))
      ∧ θ_run (Cert.AdamwGlaWOutRefIdeal.defs (F := Ideal)) (onTc (τ := Cert.AdamwGlaWOutRefIdeal.τ) (Cert.AdamwGlaWOutRefIdeal.main (F := Ideal))) ⟨m', fun _ => 0, g'⟩ (fun r => ∀ c : Dev Cert.AdamwGlaWOutRefIdeal.nD,
          r.2.mem ((c.tc : Thread Cert.AdamwGlaWOutRefIdeal.nD Cert.AdamwGlaWOutRefIdeal.τ).loc Cert.AdamwGlaWOutRefIdeal.main_v23) = v0 c
          ∧ r.2.mem ((c.tc : Thread Cert.AdamwGlaWOutRefIdeal.nD Cert.AdamwGlaWOutRefIdeal.τ).loc Cert.AdamwGlaWOutRefIdeal.main_v4) = v1 c
          ∧ r.2.mem ((c.tc : Thread Cert.AdamwGlaWOutRefIdeal.nD Cert.AdamwGlaWOutRefIdeal.τ).loc Cert.AdamwGlaWOutRefIdeal.main_v10) = v2 c
          ∧ r.2.mem ((c.tc : Thread Cert.AdamwGlaWOutRefIdeal.nD Cert.AdamwGlaWOutRefIdeal.τ).loc Cert.AdamwGlaWOutRefIdeal.main_arg0) = m' ((c.tc : Thread Cert.AdamwGlaWOutRefIdeal.nD Cert.AdamwGlaWOutRefIdeal.τ).loc Cert.AdamwGlaWOutRefIdeal.main_arg0)
          ∧ r.2.mem ((c.tc : Thread Cert.AdamwGlaWOutRefIdeal.nD Cert.AdamwGlaWOutRefIdeal.τ).loc Cert.AdamwGlaWOutRefIdeal.main_arg1) = m' ((c.tc : Thread Cert.AdamwGlaWOutRefIdeal.nD Cert.AdamwGlaWOutRefIdeal.τ).loc Cert.AdamwGlaWOutRefIdeal.main_arg1)
          ∧ r.2.mem ((c.tc : Thread Cert.AdamwGlaWOutRefIdeal.nD Cert.AdamwGlaWOutRefIdeal.τ).loc Cert.AdamwGlaWOutRefIdeal.main_arg2) = m' ((c.tc : Thread Cert.AdamwGlaWOutRefIdeal.nD Cert.AdamwGlaWOutRefIdeal.τ).loc Cert.AdamwGlaWOutRefIdeal.main_arg2)
          ∧ r.2.mem ((c.tc : Thread Cert.AdamwGlaWOutRefIdeal.nD Cert.AdamwGlaWOutRefIdeal.τ).loc Cert.AdamwGlaWOutRefIdeal.main_arg3) = m' ((c.tc : Thread Cert.AdamwGlaWOutRefIdeal.nD Cert.AdamwGlaWOutRefIdeal.τ).loc Cert.AdamwGlaWOutRefIdeal.main_arg3))

def preserves_AdamwAttWIn_AdamwAttWInIdeal : Prop :=
  True

def algebraic_AdamwAttWInIdeal_AdamwAttWInRefIdeal [hAdamwAttWInIdeal : Cert.AdamwAttWInIdeal.Facts] [hAdamwAttWInRefIdeal : Cert.AdamwAttWInRefIdeal.Facts] : Prop :=
  ∀ (m : (ℓ : Loc Cert.AdamwAttWInIdeal.nD Cert.AdamwAttWInIdeal.τ Cert.AdamwAttWInIdeal.sig) → Buf (Elt Ideal) ℓ) (g : Dev Cert.AdamwAttWInIdeal.nD → PrngReg)
    (m' : (ℓ : Loc Cert.AdamwAttWInRefIdeal.nD Cert.AdamwAttWInRefIdeal.τ Cert.AdamwAttWInRefIdeal.sig) → Buf (Elt Ideal) ℓ) (g' : Dev Cert.AdamwAttWInRefIdeal.nD → PrngReg), Pre_AdamwAttWInIdeal m →
    (∀ c : Dev Cert.AdamwAttWInIdeal.nD,
      m' ((c.tc : Thread Cert.AdamwAttWInRefIdeal.nD Cert.AdamwAttWInRefIdeal.τ).loc Cert.AdamwAttWInRefIdeal.main_arg0) = m ((c.tc : Thread Cert.AdamwAttWInIdeal.nD Cert.AdamwAttWInIdeal.τ).loc Cert.AdamwAttWInIdeal.main_arg0)
      ∧ m' ((c.tc : Thread Cert.AdamwAttWInRefIdeal.nD Cert.AdamwAttWInRefIdeal.τ).loc Cert.AdamwAttWInRefIdeal.main_arg1) = m ((c.tc : Thread Cert.AdamwAttWInIdeal.nD Cert.AdamwAttWInIdeal.τ).loc Cert.AdamwAttWInIdeal.main_arg1)
      ∧ m' ((c.tc : Thread Cert.AdamwAttWInRefIdeal.nD Cert.AdamwAttWInRefIdeal.τ).loc Cert.AdamwAttWInRefIdeal.main_arg2) = m ((c.tc : Thread Cert.AdamwAttWInIdeal.nD Cert.AdamwAttWInIdeal.τ).loc Cert.AdamwAttWInIdeal.main_arg2)
      ∧ m' ((c.tc : Thread Cert.AdamwAttWInRefIdeal.nD Cert.AdamwAttWInRefIdeal.τ).loc Cert.AdamwAttWInRefIdeal.main_arg3) = m ((c.tc : Thread Cert.AdamwAttWInIdeal.nD Cert.AdamwAttWInIdeal.τ).loc Cert.AdamwAttWInIdeal.main_arg3)) →
    ∃ (v0 : (c : Dev Cert.AdamwAttWInIdeal.nD) → Buf (Elt Ideal) ((c.tc : Thread Cert.AdamwAttWInIdeal.nD Cert.AdamwAttWInIdeal.τ).loc Cert.AdamwAttWInIdeal.main_v5)) (v1 : (c : Dev Cert.AdamwAttWInIdeal.nD) → Buf (Elt Ideal) ((c.tc : Thread Cert.AdamwAttWInIdeal.nD Cert.AdamwAttWInIdeal.τ).loc Cert.AdamwAttWInIdeal.main_v6)) (v2 : (c : Dev Cert.AdamwAttWInIdeal.nD) → Buf (Elt Ideal) ((c.tc : Thread Cert.AdamwAttWInIdeal.nD Cert.AdamwAttWInIdeal.τ).loc Cert.AdamwAttWInIdeal.main_v7)),
      θ_run (Cert.AdamwAttWInIdeal.defs (F := Ideal)) (onTc (τ := Cert.AdamwAttWInIdeal.τ) (Cert.AdamwAttWInIdeal.main (F := Ideal))) ⟨m, fun _ => 0, g⟩ (fun r => ∀ c : Dev Cert.AdamwAttWInIdeal.nD,
          r.2.mem ((c.tc : Thread Cert.AdamwAttWInIdeal.nD Cert.AdamwAttWInIdeal.τ).loc Cert.AdamwAttWInIdeal.main_v5) = v0 c
          ∧ r.2.mem ((c.tc : Thread Cert.AdamwAttWInIdeal.nD Cert.AdamwAttWInIdeal.τ).loc Cert.AdamwAttWInIdeal.main_v6) = v1 c
          ∧ r.2.mem ((c.tc : Thread Cert.AdamwAttWInIdeal.nD Cert.AdamwAttWInIdeal.τ).loc Cert.AdamwAttWInIdeal.main_v7) = v2 c
          ∧ r.2.mem ((c.tc : Thread Cert.AdamwAttWInIdeal.nD Cert.AdamwAttWInIdeal.τ).loc Cert.AdamwAttWInIdeal.main_arg0) = m ((c.tc : Thread Cert.AdamwAttWInIdeal.nD Cert.AdamwAttWInIdeal.τ).loc Cert.AdamwAttWInIdeal.main_arg0)
          ∧ r.2.mem ((c.tc : Thread Cert.AdamwAttWInIdeal.nD Cert.AdamwAttWInIdeal.τ).loc Cert.AdamwAttWInIdeal.main_arg1) = m ((c.tc : Thread Cert.AdamwAttWInIdeal.nD Cert.AdamwAttWInIdeal.τ).loc Cert.AdamwAttWInIdeal.main_arg1)
          ∧ r.2.mem ((c.tc : Thread Cert.AdamwAttWInIdeal.nD Cert.AdamwAttWInIdeal.τ).loc Cert.AdamwAttWInIdeal.main_arg2) = m ((c.tc : Thread Cert.AdamwAttWInIdeal.nD Cert.AdamwAttWInIdeal.τ).loc Cert.AdamwAttWInIdeal.main_arg2)
          ∧ r.2.mem ((c.tc : Thread Cert.AdamwAttWInIdeal.nD Cert.AdamwAttWInIdeal.τ).loc Cert.AdamwAttWInIdeal.main_arg3) = m ((c.tc : Thread Cert.AdamwAttWInIdeal.nD Cert.AdamwAttWInIdeal.τ).loc Cert.AdamwAttWInIdeal.main_arg3))
      ∧ θ_run (Cert.AdamwAttWInRefIdeal.defs (F := Ideal)) (onTc (τ := Cert.AdamwAttWInRefIdeal.τ) (Cert.AdamwAttWInRefIdeal.main (F := Ideal))) ⟨m', fun _ => 0, g'⟩ (fun r => ∀ c : Dev Cert.AdamwAttWInRefIdeal.nD,
          r.2.mem ((c.tc : Thread Cert.AdamwAttWInRefIdeal.nD Cert.AdamwAttWInRefIdeal.τ).loc Cert.AdamwAttWInRefIdeal.main_v23) = v0 c
          ∧ r.2.mem ((c.tc : Thread Cert.AdamwAttWInRefIdeal.nD Cert.AdamwAttWInRefIdeal.τ).loc Cert.AdamwAttWInRefIdeal.main_v4) = v1 c
          ∧ r.2.mem ((c.tc : Thread Cert.AdamwAttWInRefIdeal.nD Cert.AdamwAttWInRefIdeal.τ).loc Cert.AdamwAttWInRefIdeal.main_v10) = v2 c
          ∧ r.2.mem ((c.tc : Thread Cert.AdamwAttWInRefIdeal.nD Cert.AdamwAttWInRefIdeal.τ).loc Cert.AdamwAttWInRefIdeal.main_arg0) = m' ((c.tc : Thread Cert.AdamwAttWInRefIdeal.nD Cert.AdamwAttWInRefIdeal.τ).loc Cert.AdamwAttWInRefIdeal.main_arg0)
          ∧ r.2.mem ((c.tc : Thread Cert.AdamwAttWInRefIdeal.nD Cert.AdamwAttWInRefIdeal.τ).loc Cert.AdamwAttWInRefIdeal.main_arg1) = m' ((c.tc : Thread Cert.AdamwAttWInRefIdeal.nD Cert.AdamwAttWInRefIdeal.τ).loc Cert.AdamwAttWInRefIdeal.main_arg1)
          ∧ r.2.mem ((c.tc : Thread Cert.AdamwAttWInRefIdeal.nD Cert.AdamwAttWInRefIdeal.τ).loc Cert.AdamwAttWInRefIdeal.main_arg2) = m' ((c.tc : Thread Cert.AdamwAttWInRefIdeal.nD Cert.AdamwAttWInRefIdeal.τ).loc Cert.AdamwAttWInRefIdeal.main_arg2)
          ∧ r.2.mem ((c.tc : Thread Cert.AdamwAttWInRefIdeal.nD Cert.AdamwAttWInRefIdeal.τ).loc Cert.AdamwAttWInRefIdeal.main_arg3) = m' ((c.tc : Thread Cert.AdamwAttWInRefIdeal.nD Cert.AdamwAttWInRefIdeal.τ).loc Cert.AdamwAttWInRefIdeal.main_arg3))

def preserves_AdamwAttBIn_AdamwAttBInIdeal : Prop :=
  True

def algebraic_AdamwAttBInIdeal_AdamwAttBInRefIdeal [hAdamwAttBInIdeal : Cert.AdamwAttBInIdeal.Facts] [hAdamwAttBInRefIdeal : Cert.AdamwAttBInRefIdeal.Facts] : Prop :=
  ∀ (m : (ℓ : Loc Cert.AdamwAttBInIdeal.nD Cert.AdamwAttBInIdeal.τ Cert.AdamwAttBInIdeal.sig) → Buf (Elt Ideal) ℓ) (g : Dev Cert.AdamwAttBInIdeal.nD → PrngReg)
    (m' : (ℓ : Loc Cert.AdamwAttBInRefIdeal.nD Cert.AdamwAttBInRefIdeal.τ Cert.AdamwAttBInRefIdeal.sig) → Buf (Elt Ideal) ℓ) (g' : Dev Cert.AdamwAttBInRefIdeal.nD → PrngReg), Pre_AdamwAttBInIdeal m →
    (∀ c : Dev Cert.AdamwAttBInIdeal.nD,
      m' ((c.tc : Thread Cert.AdamwAttBInRefIdeal.nD Cert.AdamwAttBInRefIdeal.τ).loc Cert.AdamwAttBInRefIdeal.main_arg0) = m ((c.tc : Thread Cert.AdamwAttBInIdeal.nD Cert.AdamwAttBInIdeal.τ).loc Cert.AdamwAttBInIdeal.main_arg0)
      ∧ m' ((c.tc : Thread Cert.AdamwAttBInRefIdeal.nD Cert.AdamwAttBInRefIdeal.τ).loc Cert.AdamwAttBInRefIdeal.main_arg1) = m ((c.tc : Thread Cert.AdamwAttBInIdeal.nD Cert.AdamwAttBInIdeal.τ).loc Cert.AdamwAttBInIdeal.main_arg1)
      ∧ m' ((c.tc : Thread Cert.AdamwAttBInRefIdeal.nD Cert.AdamwAttBInRefIdeal.τ).loc Cert.AdamwAttBInRefIdeal.main_arg2) = m ((c.tc : Thread Cert.AdamwAttBInIdeal.nD Cert.AdamwAttBInIdeal.τ).loc Cert.AdamwAttBInIdeal.main_arg2)
      ∧ m' ((c.tc : Thread Cert.AdamwAttBInRefIdeal.nD Cert.AdamwAttBInRefIdeal.τ).loc Cert.AdamwAttBInRefIdeal.main_arg3) = m ((c.tc : Thread Cert.AdamwAttBInIdeal.nD Cert.AdamwAttBInIdeal.τ).loc Cert.AdamwAttBInIdeal.main_arg3)) →
    ∃ (v0 : (c : Dev Cert.AdamwAttBInIdeal.nD) → Buf (Elt Ideal) ((c.tc : Thread Cert.AdamwAttBInIdeal.nD Cert.AdamwAttBInIdeal.τ).loc Cert.AdamwAttBInIdeal.main_v0_0)) (v1 : (c : Dev Cert.AdamwAttBInIdeal.nD) → Buf (Elt Ideal) ((c.tc : Thread Cert.AdamwAttBInIdeal.nD Cert.AdamwAttBInIdeal.τ).loc Cert.AdamwAttBInIdeal.main_v0_1)) (v2 : (c : Dev Cert.AdamwAttBInIdeal.nD) → Buf (Elt Ideal) ((c.tc : Thread Cert.AdamwAttBInIdeal.nD Cert.AdamwAttBInIdeal.τ).loc Cert.AdamwAttBInIdeal.main_v0_2)),
      θ_run (Cert.AdamwAttBInIdeal.defs (F := Ideal)) (onTc (τ := Cert.AdamwAttBInIdeal.τ) (Cert.AdamwAttBInIdeal.main (F := Ideal))) ⟨m, fun _ => 0, g⟩ (fun r => ∀ c : Dev Cert.AdamwAttBInIdeal.nD,
          r.2.mem ((c.tc : Thread Cert.AdamwAttBInIdeal.nD Cert.AdamwAttBInIdeal.τ).loc Cert.AdamwAttBInIdeal.main_v0_0) = v0 c
          ∧ r.2.mem ((c.tc : Thread Cert.AdamwAttBInIdeal.nD Cert.AdamwAttBInIdeal.τ).loc Cert.AdamwAttBInIdeal.main_v0_1) = v1 c
          ∧ r.2.mem ((c.tc : Thread Cert.AdamwAttBInIdeal.nD Cert.AdamwAttBInIdeal.τ).loc Cert.AdamwAttBInIdeal.main_v0_2) = v2 c
          ∧ r.2.mem ((c.tc : Thread Cert.AdamwAttBInIdeal.nD Cert.AdamwAttBInIdeal.τ).loc Cert.AdamwAttBInIdeal.main_arg0) = m ((c.tc : Thread Cert.AdamwAttBInIdeal.nD Cert.AdamwAttBInIdeal.τ).loc Cert.AdamwAttBInIdeal.main_arg0)
          ∧ r.2.mem ((c.tc : Thread Cert.AdamwAttBInIdeal.nD Cert.AdamwAttBInIdeal.τ).loc Cert.AdamwAttBInIdeal.main_arg1) = m ((c.tc : Thread Cert.AdamwAttBInIdeal.nD Cert.AdamwAttBInIdeal.τ).loc Cert.AdamwAttBInIdeal.main_arg1)
          ∧ r.2.mem ((c.tc : Thread Cert.AdamwAttBInIdeal.nD Cert.AdamwAttBInIdeal.τ).loc Cert.AdamwAttBInIdeal.main_arg2) = m ((c.tc : Thread Cert.AdamwAttBInIdeal.nD Cert.AdamwAttBInIdeal.τ).loc Cert.AdamwAttBInIdeal.main_arg2)
          ∧ r.2.mem ((c.tc : Thread Cert.AdamwAttBInIdeal.nD Cert.AdamwAttBInIdeal.τ).loc Cert.AdamwAttBInIdeal.main_arg3) = m ((c.tc : Thread Cert.AdamwAttBInIdeal.nD Cert.AdamwAttBInIdeal.τ).loc Cert.AdamwAttBInIdeal.main_arg3))
      ∧ θ_run (Cert.AdamwAttBInRefIdeal.defs (F := Ideal)) (onTc (τ := Cert.AdamwAttBInRefIdeal.τ) (Cert.AdamwAttBInRefIdeal.main (F := Ideal))) ⟨m', fun _ => 0, g'⟩ (fun r => ∀ c : Dev Cert.AdamwAttBInRefIdeal.nD,
          r.2.mem ((c.tc : Thread Cert.AdamwAttBInRefIdeal.nD Cert.AdamwAttBInRefIdeal.τ).loc Cert.AdamwAttBInRefIdeal.main_v23) = v0 c
          ∧ r.2.mem ((c.tc : Thread Cert.AdamwAttBInRefIdeal.nD Cert.AdamwAttBInRefIdeal.τ).loc Cert.AdamwAttBInRefIdeal.main_v4) = v1 c
          ∧ r.2.mem ((c.tc : Thread Cert.AdamwAttBInRefIdeal.nD Cert.AdamwAttBInRefIdeal.τ).loc Cert.AdamwAttBInRefIdeal.main_v10) = v2 c
          ∧ r.2.mem ((c.tc : Thread Cert.AdamwAttBInRefIdeal.nD Cert.AdamwAttBInRefIdeal.τ).loc Cert.AdamwAttBInRefIdeal.main_arg0) = m' ((c.tc : Thread Cert.AdamwAttBInRefIdeal.nD Cert.AdamwAttBInRefIdeal.τ).loc Cert.AdamwAttBInRefIdeal.main_arg0)
          ∧ r.2.mem ((c.tc : Thread Cert.AdamwAttBInRefIdeal.nD Cert.AdamwAttBInRefIdeal.τ).loc Cert.AdamwAttBInRefIdeal.main_arg1) = m' ((c.tc : Thread Cert.AdamwAttBInRefIdeal.nD Cert.AdamwAttBInRefIdeal.τ).loc Cert.AdamwAttBInRefIdeal.main_arg1)
          ∧ r.2.mem ((c.tc : Thread Cert.AdamwAttBInRefIdeal.nD Cert.AdamwAttBInRefIdeal.τ).loc Cert.AdamwAttBInRefIdeal.main_arg2) = m' ((c.tc : Thread Cert.AdamwAttBInRefIdeal.nD Cert.AdamwAttBInRefIdeal.τ).loc Cert.AdamwAttBInRefIdeal.main_arg2)
          ∧ r.2.mem ((c.tc : Thread Cert.AdamwAttBInRefIdeal.nD Cert.AdamwAttBInRefIdeal.τ).loc Cert.AdamwAttBInRefIdeal.main_arg3) = m' ((c.tc : Thread Cert.AdamwAttBInRefIdeal.nD Cert.AdamwAttBInRefIdeal.τ).loc Cert.AdamwAttBInRefIdeal.main_arg3))

def preserves_AdamwAttRelBias_AdamwAttRelBiasIdeal : Prop :=
  True

def algebraic_AdamwAttRelBiasIdeal_AdamwAttRelBiasRefIdeal [hAdamwAttRelBiasIdeal : Cert.AdamwAttRelBiasIdeal.Facts] [hAdamwAttRelBiasRefIdeal : Cert.AdamwAttRelBiasRefIdeal.Facts] : Prop :=
  ∀ (m : (ℓ : Loc Cert.AdamwAttRelBiasIdeal.nD Cert.AdamwAttRelBiasIdeal.τ Cert.AdamwAttRelBiasIdeal.sig) → Buf (Elt Ideal) ℓ) (g : Dev Cert.AdamwAttRelBiasIdeal.nD → PrngReg)
    (m' : (ℓ : Loc Cert.AdamwAttRelBiasRefIdeal.nD Cert.AdamwAttRelBiasRefIdeal.τ Cert.AdamwAttRelBiasRefIdeal.sig) → Buf (Elt Ideal) ℓ) (g' : Dev Cert.AdamwAttRelBiasRefIdeal.nD → PrngReg), Pre_AdamwAttRelBiasIdeal m →
    (∀ c : Dev Cert.AdamwAttRelBiasIdeal.nD,
      m' ((c.tc : Thread Cert.AdamwAttRelBiasRefIdeal.nD Cert.AdamwAttRelBiasRefIdeal.τ).loc Cert.AdamwAttRelBiasRefIdeal.main_arg0) = m ((c.tc : Thread Cert.AdamwAttRelBiasIdeal.nD Cert.AdamwAttRelBiasIdeal.τ).loc Cert.AdamwAttRelBiasIdeal.main_arg0)
      ∧ m' ((c.tc : Thread Cert.AdamwAttRelBiasRefIdeal.nD Cert.AdamwAttRelBiasRefIdeal.τ).loc Cert.AdamwAttRelBiasRefIdeal.main_arg1) = m ((c.tc : Thread Cert.AdamwAttRelBiasIdeal.nD Cert.AdamwAttRelBiasIdeal.τ).loc Cert.AdamwAttRelBiasIdeal.main_arg1)
      ∧ m' ((c.tc : Thread Cert.AdamwAttRelBiasRefIdeal.nD Cert.AdamwAttRelBiasRefIdeal.τ).loc Cert.AdamwAttRelBiasRefIdeal.main_arg2) = m ((c.tc : Thread Cert.AdamwAttRelBiasIdeal.nD Cert.AdamwAttRelBiasIdeal.τ).loc Cert.AdamwAttRelBiasIdeal.main_arg2)
      ∧ m' ((c.tc : Thread Cert.AdamwAttRelBiasRefIdeal.nD Cert.AdamwAttRelBiasRefIdeal.τ).loc Cert.AdamwAttRelBiasRefIdeal.main_arg3) = m ((c.tc : Thread Cert.AdamwAttRelBiasIdeal.nD Cert.AdamwAttRelBiasIdeal.τ).loc Cert.AdamwAttRelBiasIdeal.main_arg3)) →
    ∃ (v0 : (c : Dev Cert.AdamwAttRelBiasIdeal.nD) → Buf (Elt Ideal) ((c.tc : Thread Cert.AdamwAttRelBiasIdeal.nD Cert.AdamwAttRelBiasIdeal.τ).loc Cert.AdamwAttRelBiasIdeal.main_v5)) (v1 : (c : Dev Cert.AdamwAttRelBiasIdeal.nD) → Buf (Elt Ideal) ((c.tc : Thread Cert.AdamwAttRelBiasIdeal.nD Cert.AdamwAttRelBiasIdeal.τ).loc Cert.AdamwAttRelBiasIdeal.main_v6)) (v2 : (c : Dev Cert.AdamwAttRelBiasIdeal.nD) → Buf (Elt Ideal) ((c.tc : Thread Cert.AdamwAttRelBiasIdeal.nD Cert.AdamwAttRelBiasIdeal.τ).loc Cert.AdamwAttRelBiasIdeal.main_v7)),
      θ_run (Cert.AdamwAttRelBiasIdeal.defs (F := Ideal)) (onTc (τ := Cert.AdamwAttRelBiasIdeal.τ) (Cert.AdamwAttRelBiasIdeal.main (F := Ideal))) ⟨m, fun _ => 0, g⟩ (fun r => ∀ c : Dev Cert.AdamwAttRelBiasIdeal.nD,
          r.2.mem ((c.tc : Thread Cert.AdamwAttRelBiasIdeal.nD Cert.AdamwAttRelBiasIdeal.τ).loc Cert.AdamwAttRelBiasIdeal.main_v5) = v0 c
          ∧ r.2.mem ((c.tc : Thread Cert.AdamwAttRelBiasIdeal.nD Cert.AdamwAttRelBiasIdeal.τ).loc Cert.AdamwAttRelBiasIdeal.main_v6) = v1 c
          ∧ r.2.mem ((c.tc : Thread Cert.AdamwAttRelBiasIdeal.nD Cert.AdamwAttRelBiasIdeal.τ).loc Cert.AdamwAttRelBiasIdeal.main_v7) = v2 c
          ∧ r.2.mem ((c.tc : Thread Cert.AdamwAttRelBiasIdeal.nD Cert.AdamwAttRelBiasIdeal.τ).loc Cert.AdamwAttRelBiasIdeal.main_arg0) = m ((c.tc : Thread Cert.AdamwAttRelBiasIdeal.nD Cert.AdamwAttRelBiasIdeal.τ).loc Cert.AdamwAttRelBiasIdeal.main_arg0)
          ∧ r.2.mem ((c.tc : Thread Cert.AdamwAttRelBiasIdeal.nD Cert.AdamwAttRelBiasIdeal.τ).loc Cert.AdamwAttRelBiasIdeal.main_arg1) = m ((c.tc : Thread Cert.AdamwAttRelBiasIdeal.nD Cert.AdamwAttRelBiasIdeal.τ).loc Cert.AdamwAttRelBiasIdeal.main_arg1)
          ∧ r.2.mem ((c.tc : Thread Cert.AdamwAttRelBiasIdeal.nD Cert.AdamwAttRelBiasIdeal.τ).loc Cert.AdamwAttRelBiasIdeal.main_arg2) = m ((c.tc : Thread Cert.AdamwAttRelBiasIdeal.nD Cert.AdamwAttRelBiasIdeal.τ).loc Cert.AdamwAttRelBiasIdeal.main_arg2)
          ∧ r.2.mem ((c.tc : Thread Cert.AdamwAttRelBiasIdeal.nD Cert.AdamwAttRelBiasIdeal.τ).loc Cert.AdamwAttRelBiasIdeal.main_arg3) = m ((c.tc : Thread Cert.AdamwAttRelBiasIdeal.nD Cert.AdamwAttRelBiasIdeal.τ).loc Cert.AdamwAttRelBiasIdeal.main_arg3))
      ∧ θ_run (Cert.AdamwAttRelBiasRefIdeal.defs (F := Ideal)) (onTc (τ := Cert.AdamwAttRelBiasRefIdeal.τ) (Cert.AdamwAttRelBiasRefIdeal.main (F := Ideal))) ⟨m', fun _ => 0, g'⟩ (fun r => ∀ c : Dev Cert.AdamwAttRelBiasRefIdeal.nD,
          r.2.mem ((c.tc : Thread Cert.AdamwAttRelBiasRefIdeal.nD Cert.AdamwAttRelBiasRefIdeal.τ).loc Cert.AdamwAttRelBiasRefIdeal.main_v23) = v0 c
          ∧ r.2.mem ((c.tc : Thread Cert.AdamwAttRelBiasRefIdeal.nD Cert.AdamwAttRelBiasRefIdeal.τ).loc Cert.AdamwAttRelBiasRefIdeal.main_v4) = v1 c
          ∧ r.2.mem ((c.tc : Thread Cert.AdamwAttRelBiasRefIdeal.nD Cert.AdamwAttRelBiasRefIdeal.τ).loc Cert.AdamwAttRelBiasRefIdeal.main_v10) = v2 c
          ∧ r.2.mem ((c.tc : Thread Cert.AdamwAttRelBiasRefIdeal.nD Cert.AdamwAttRelBiasRefIdeal.τ).loc Cert.AdamwAttRelBiasRefIdeal.main_arg0) = m' ((c.tc : Thread Cert.AdamwAttRelBiasRefIdeal.nD Cert.AdamwAttRelBiasRefIdeal.τ).loc Cert.AdamwAttRelBiasRefIdeal.main_arg0)
          ∧ r.2.mem ((c.tc : Thread Cert.AdamwAttRelBiasRefIdeal.nD Cert.AdamwAttRelBiasRefIdeal.τ).loc Cert.AdamwAttRelBiasRefIdeal.main_arg1) = m' ((c.tc : Thread Cert.AdamwAttRelBiasRefIdeal.nD Cert.AdamwAttRelBiasRefIdeal.τ).loc Cert.AdamwAttRelBiasRefIdeal.main_arg1)
          ∧ r.2.mem ((c.tc : Thread Cert.AdamwAttRelBiasRefIdeal.nD Cert.AdamwAttRelBiasRefIdeal.τ).loc Cert.AdamwAttRelBiasRefIdeal.main_arg2) = m' ((c.tc : Thread Cert.AdamwAttRelBiasRefIdeal.nD Cert.AdamwAttRelBiasRefIdeal.τ).loc Cert.AdamwAttRelBiasRefIdeal.main_arg2)
          ∧ r.2.mem ((c.tc : Thread Cert.AdamwAttRelBiasRefIdeal.nD Cert.AdamwAttRelBiasRefIdeal.τ).loc Cert.AdamwAttRelBiasRefIdeal.main_arg3) = m' ((c.tc : Thread Cert.AdamwAttRelBiasRefIdeal.nD Cert.AdamwAttRelBiasRefIdeal.τ).loc Cert.AdamwAttRelBiasRefIdeal.main_arg3))

def preserves_AdamwFfW1_AdamwFfW1Ideal : Prop :=
  True

def algebraic_AdamwFfW1Ideal_AdamwFfW1RefIdeal [hAdamwFfW1Ideal : Cert.AdamwFfW1Ideal.Facts] [hAdamwFfW1RefIdeal : Cert.AdamwFfW1RefIdeal.Facts] : Prop :=
  ∀ (m : (ℓ : Loc Cert.AdamwFfW1Ideal.nD Cert.AdamwFfW1Ideal.τ Cert.AdamwFfW1Ideal.sig) → Buf (Elt Ideal) ℓ) (g : Dev Cert.AdamwFfW1Ideal.nD → PrngReg)
    (m' : (ℓ : Loc Cert.AdamwFfW1RefIdeal.nD Cert.AdamwFfW1RefIdeal.τ Cert.AdamwFfW1RefIdeal.sig) → Buf (Elt Ideal) ℓ) (g' : Dev Cert.AdamwFfW1RefIdeal.nD → PrngReg), Pre_AdamwFfW1Ideal m →
    (∀ c : Dev Cert.AdamwFfW1Ideal.nD,
      m' ((c.tc : Thread Cert.AdamwFfW1RefIdeal.nD Cert.AdamwFfW1RefIdeal.τ).loc Cert.AdamwFfW1RefIdeal.main_arg0) = m ((c.tc : Thread Cert.AdamwFfW1Ideal.nD Cert.AdamwFfW1Ideal.τ).loc Cert.AdamwFfW1Ideal.main_arg0)
      ∧ m' ((c.tc : Thread Cert.AdamwFfW1RefIdeal.nD Cert.AdamwFfW1RefIdeal.τ).loc Cert.AdamwFfW1RefIdeal.main_arg1) = m ((c.tc : Thread Cert.AdamwFfW1Ideal.nD Cert.AdamwFfW1Ideal.τ).loc Cert.AdamwFfW1Ideal.main_arg1)
      ∧ m' ((c.tc : Thread Cert.AdamwFfW1RefIdeal.nD Cert.AdamwFfW1RefIdeal.τ).loc Cert.AdamwFfW1RefIdeal.main_arg2) = m ((c.tc : Thread Cert.AdamwFfW1Ideal.nD Cert.AdamwFfW1Ideal.τ).loc Cert.AdamwFfW1Ideal.main_arg2)
      ∧ m' ((c.tc : Thread Cert.AdamwFfW1RefIdeal.nD Cert.AdamwFfW1RefIdeal.τ).loc Cert.AdamwFfW1RefIdeal.main_arg3) = m ((c.tc : Thread Cert.AdamwFfW1Ideal.nD Cert.AdamwFfW1Ideal.τ).loc Cert.AdamwFfW1Ideal.main_arg3)) →
    ∃ (v0 : (c : Dev Cert.AdamwFfW1Ideal.nD) → Buf (Elt Ideal) ((c.tc : Thread Cert.AdamwFfW1Ideal.nD Cert.AdamwFfW1Ideal.τ).loc Cert.AdamwFfW1Ideal.main_v5)) (v1 : (c : Dev Cert.AdamwFfW1Ideal.nD) → Buf (Elt Ideal) ((c.tc : Thread Cert.AdamwFfW1Ideal.nD Cert.AdamwFfW1Ideal.τ).loc Cert.AdamwFfW1Ideal.main_v6)) (v2 : (c : Dev Cert.AdamwFfW1Ideal.nD) → Buf (Elt Ideal) ((c.tc : Thread Cert.AdamwFfW1Ideal.nD Cert.AdamwFfW1Ideal.τ).loc Cert.AdamwFfW1Ideal.main_v7)),
      θ_run (Cert.AdamwFfW1Ideal.defs (F := Ideal)) (onTc (τ := Cert.AdamwFfW1Ideal.τ) (Cert.AdamwFfW1Ideal.main (F := Ideal))) ⟨m, fun _ => 0, g⟩ (fun r => ∀ c : Dev Cert.AdamwFfW1Ideal.nD,
          r.2.mem ((c.tc : Thread Cert.AdamwFfW1Ideal.nD Cert.AdamwFfW1Ideal.τ).loc Cert.AdamwFfW1Ideal.main_v5) = v0 c
          ∧ r.2.mem ((c.tc : Thread Cert.AdamwFfW1Ideal.nD Cert.AdamwFfW1Ideal.τ).loc Cert.AdamwFfW1Ideal.main_v6) = v1 c
          ∧ r.2.mem ((c.tc : Thread Cert.AdamwFfW1Ideal.nD Cert.AdamwFfW1Ideal.τ).loc Cert.AdamwFfW1Ideal.main_v7) = v2 c
          ∧ r.2.mem ((c.tc : Thread Cert.AdamwFfW1Ideal.nD Cert.AdamwFfW1Ideal.τ).loc Cert.AdamwFfW1Ideal.main_arg0) = m ((c.tc : Thread Cert.AdamwFfW1Ideal.nD Cert.AdamwFfW1Ideal.τ).loc Cert.AdamwFfW1Ideal.main_arg0)
          ∧ r.2.mem ((c.tc : Thread Cert.AdamwFfW1Ideal.nD Cert.AdamwFfW1Ideal.τ).loc Cert.AdamwFfW1Ideal.main_arg1) = m ((c.tc : Thread Cert.AdamwFfW1Ideal.nD Cert.AdamwFfW1Ideal.τ).loc Cert.AdamwFfW1Ideal.main_arg1)
          ∧ r.2.mem ((c.tc : Thread Cert.AdamwFfW1Ideal.nD Cert.AdamwFfW1Ideal.τ).loc Cert.AdamwFfW1Ideal.main_arg2) = m ((c.tc : Thread Cert.AdamwFfW1Ideal.nD Cert.AdamwFfW1Ideal.τ).loc Cert.AdamwFfW1Ideal.main_arg2)
          ∧ r.2.mem ((c.tc : Thread Cert.AdamwFfW1Ideal.nD Cert.AdamwFfW1Ideal.τ).loc Cert.AdamwFfW1Ideal.main_arg3) = m ((c.tc : Thread Cert.AdamwFfW1Ideal.nD Cert.AdamwFfW1Ideal.τ).loc Cert.AdamwFfW1Ideal.main_arg3))
      ∧ θ_run (Cert.AdamwFfW1RefIdeal.defs (F := Ideal)) (onTc (τ := Cert.AdamwFfW1RefIdeal.τ) (Cert.AdamwFfW1RefIdeal.main (F := Ideal))) ⟨m', fun _ => 0, g'⟩ (fun r => ∀ c : Dev Cert.AdamwFfW1RefIdeal.nD,
          r.2.mem ((c.tc : Thread Cert.AdamwFfW1RefIdeal.nD Cert.AdamwFfW1RefIdeal.τ).loc Cert.AdamwFfW1RefIdeal.main_v23) = v0 c
          ∧ r.2.mem ((c.tc : Thread Cert.AdamwFfW1RefIdeal.nD Cert.AdamwFfW1RefIdeal.τ).loc Cert.AdamwFfW1RefIdeal.main_v4) = v1 c
          ∧ r.2.mem ((c.tc : Thread Cert.AdamwFfW1RefIdeal.nD Cert.AdamwFfW1RefIdeal.τ).loc Cert.AdamwFfW1RefIdeal.main_v10) = v2 c
          ∧ r.2.mem ((c.tc : Thread Cert.AdamwFfW1RefIdeal.nD Cert.AdamwFfW1RefIdeal.τ).loc Cert.AdamwFfW1RefIdeal.main_arg0) = m' ((c.tc : Thread Cert.AdamwFfW1RefIdeal.nD Cert.AdamwFfW1RefIdeal.τ).loc Cert.AdamwFfW1RefIdeal.main_arg0)
          ∧ r.2.mem ((c.tc : Thread Cert.AdamwFfW1RefIdeal.nD Cert.AdamwFfW1RefIdeal.τ).loc Cert.AdamwFfW1RefIdeal.main_arg1) = m' ((c.tc : Thread Cert.AdamwFfW1RefIdeal.nD Cert.AdamwFfW1RefIdeal.τ).loc Cert.AdamwFfW1RefIdeal.main_arg1)
          ∧ r.2.mem ((c.tc : Thread Cert.AdamwFfW1RefIdeal.nD Cert.AdamwFfW1RefIdeal.τ).loc Cert.AdamwFfW1RefIdeal.main_arg2) = m' ((c.tc : Thread Cert.AdamwFfW1RefIdeal.nD Cert.AdamwFfW1RefIdeal.τ).loc Cert.AdamwFfW1RefIdeal.main_arg2)
          ∧ r.2.mem ((c.tc : Thread Cert.AdamwFfW1RefIdeal.nD Cert.AdamwFfW1RefIdeal.τ).loc Cert.AdamwFfW1RefIdeal.main_arg3) = m' ((c.tc : Thread Cert.AdamwFfW1RefIdeal.nD Cert.AdamwFfW1RefIdeal.τ).loc Cert.AdamwFfW1RefIdeal.main_arg3))

def preserves_SumGrads_SumGradsIdeal : Prop :=
  True

def algebraic_SumGradsIdeal_SumGradsRefIdeal [hSumGradsIdeal : Cert.SumGradsIdeal.Facts] [hSumGradsRefIdeal : Cert.SumGradsRefIdeal.Facts] : Prop :=
  ∀ (m : (ℓ : Loc Cert.SumGradsIdeal.nD Cert.SumGradsIdeal.τ Cert.SumGradsIdeal.sig) → Buf (Elt Ideal) ℓ) (g : Dev Cert.SumGradsIdeal.nD → PrngReg)
    (m' : (ℓ : Loc Cert.SumGradsRefIdeal.nD Cert.SumGradsRefIdeal.τ Cert.SumGradsRefIdeal.sig) → Buf (Elt Ideal) ℓ) (g' : Dev Cert.SumGradsRefIdeal.nD → PrngReg), Pre_SumGradsIdeal m →
    (∀ c : Dev Cert.SumGradsIdeal.nD,
      m' ((c.tc : Thread Cert.SumGradsRefIdeal.nD Cert.SumGradsRefIdeal.τ).loc Cert.SumGradsRefIdeal.main_arg0) = m ((c.tc : Thread Cert.SumGradsIdeal.nD Cert.SumGradsIdeal.τ).loc Cert.SumGradsIdeal.main_arg0)) →
    ∃ (v0 : (c : Dev Cert.SumGradsIdeal.nD) → Buf (Elt Ideal) ((c.tc : Thread Cert.SumGradsIdeal.nD Cert.SumGradsIdeal.τ).loc Cert.SumGradsIdeal.main_v0)),
      θ_run (Cert.SumGradsIdeal.defs (F := Ideal)) (onTc (τ := Cert.SumGradsIdeal.τ) (Cert.SumGradsIdeal.main (F := Ideal))) ⟨m, fun _ => 0, g⟩ (fun r => ∀ c : Dev Cert.SumGradsIdeal.nD,
          r.2.mem ((c.tc : Thread Cert.SumGradsIdeal.nD Cert.SumGradsIdeal.τ).loc Cert.SumGradsIdeal.main_v0) = v0 c
          ∧ r.2.mem ((c.tc : Thread Cert.SumGradsIdeal.nD Cert.SumGradsIdeal.τ).loc Cert.SumGradsIdeal.main_arg0) = m ((c.tc : Thread Cert.SumGradsIdeal.nD Cert.SumGradsIdeal.τ).loc Cert.SumGradsIdeal.main_arg0))
      ∧ θ_run (Cert.SumGradsRefIdeal.defs (F := Ideal)) (onTc (τ := Cert.SumGradsRefIdeal.τ) (Cert.SumGradsRefIdeal.main (F := Ideal))) ⟨m', fun _ => 0, g'⟩ (fun r => ∀ c : Dev Cert.SumGradsRefIdeal.nD,
          r.2.mem ((c.tc : Thread Cert.SumGradsRefIdeal.nD Cert.SumGradsRefIdeal.τ).loc Cert.SumGradsRefIdeal.main_v0) = v0 c
          ∧ r.2.mem ((c.tc : Thread Cert.SumGradsRefIdeal.nD Cert.SumGradsRefIdeal.τ).loc Cert.SumGradsRefIdeal.main_arg0) = m' ((c.tc : Thread Cert.SumGradsRefIdeal.nD Cert.SumGradsRefIdeal.τ).loc Cert.SumGradsRefIdeal.main_arg0))

def preserves_AdaBwd_AdaBwdIdeal : Prop :=
  True

def algebraic_AdaBwdIdeal_AdaBwdRefIdeal [hAdaBwdIdeal : Cert.AdaBwdIdeal.Facts] [hAdaBwdRefIdeal : Cert.AdaBwdRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdRefIdeal.nD Cert.AdaBwdRefIdeal.τ Cert.AdaBwdRefIdeal.sig) → Buf (Elt Ideal) ℓ) (g' : Dev Cert.AdaBwdRefIdeal.nD → PrngReg), Pre_AdaBwdIdeal m →
    (∀ c : Dev Cert.AdaBwdIdeal.nD,
      m' ((c.tc : Thread Cert.AdaBwdRefIdeal.nD Cert.AdaBwdRefIdeal.τ).loc Cert.AdaBwdRefIdeal.main_arg0) = m ((c.tc : Thread Cert.AdaBwdIdeal.nD Cert.AdaBwdIdeal.τ).loc Cert.AdaBwdIdeal.main_arg0)
      ∧ m' ((c.tc : Thread Cert.AdaBwdRefIdeal.nD Cert.AdaBwdRefIdeal.τ).loc Cert.AdaBwdRefIdeal.main_arg1) = m ((c.tc : Thread Cert.AdaBwdIdeal.nD Cert.AdaBwdIdeal.τ).loc Cert.AdaBwdIdeal.main_arg1)) →
    ∃ (v0 : (c : Dev Cert.AdaBwdIdeal.nD) → Buf (Elt Ideal) ((c.tc : Thread Cert.AdaBwdIdeal.nD Cert.AdaBwdIdeal.τ).loc Cert.AdaBwdIdeal.main_v0)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0) = v0 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ θ_run (Cert.AdaBwdRefIdeal.defs (F := Ideal)) (onTc (τ := Cert.AdaBwdRefIdeal.τ) (Cert.AdaBwdRefIdeal.main (F := Ideal))) ⟨m', fun _ => 0, g'⟩ (fun r => ∀ c : Dev Cert.AdaBwdRefIdeal.nD,
          r.2.mem ((c.tc : Thread Cert.AdaBwdRefIdeal.nD Cert.AdaBwdRefIdeal.τ).loc Cert.AdaBwdRefIdeal.main_v3) = v0 c
          ∧ r.2.mem ((c.tc : Thread Cert.AdaBwdRefIdeal.nD Cert.AdaBwdRefIdeal.τ).loc Cert.AdaBwdRefIdeal.main_arg0) = m' ((c.tc : Thread Cert.AdaBwdRefIdeal.nD Cert.AdaBwdRefIdeal.τ).loc Cert.AdaBwdRefIdeal.main_arg0)
          ∧ r.2.mem ((c.tc : Thread Cert.AdaBwdRefIdeal.nD Cert.AdaBwdRefIdeal.τ).loc Cert.AdaBwdRefIdeal.main_arg1) = m' ((c.tc : Thread Cert.AdaBwdRefIdeal.nD Cert.AdaBwdRefIdeal.τ).loc Cert.AdaBwdRefIdeal.main_arg1))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v2) = v0 c
          ∧ r.2.mem ((c.tc : Thread Cert.LossHeadRefIdeal.nD Cert.LossHeadRefIdeal.τ).loc Cert.LossHeadRefIdeal.main_v5) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1))

def preserves_GradFfW2_GradFfW2Ideal : Prop :=
  True

def algebraic_GradFfW2Ideal_GradFfW2RefIdeal [hGradFfW2Ideal : Cert.GradFfW2Ideal.Facts] [hGradFfW2RefIdeal : Cert.GradFfW2RefIdeal.Facts] : Prop :=
  ∀ (m : (ℓ : Loc Cert.GradFfW2Ideal.nD Cert.GradFfW2Ideal.τ Cert.GradFfW2Ideal.sig) → Buf (Elt Ideal) ℓ) (g : Dev Cert.GradFfW2Ideal.nD → PrngReg)
    (m' : (ℓ : Loc Cert.GradFfW2RefIdeal.nD Cert.GradFfW2RefIdeal.τ Cert.GradFfW2RefIdeal.sig) → Buf (Elt Ideal) ℓ) (g' : Dev Cert.GradFfW2RefIdeal.nD → PrngReg), Pre_GradFfW2Ideal m →
    (∀ c : Dev Cert.GradFfW2Ideal.nD,
      m' ((c.tc : Thread Cert.GradFfW2RefIdeal.nD Cert.GradFfW2RefIdeal.τ).loc Cert.GradFfW2RefIdeal.main_arg0) = m ((c.tc : Thread Cert.GradFfW2Ideal.nD Cert.GradFfW2Ideal.τ).loc Cert.GradFfW2Ideal.main_arg0)
      ∧ m' ((c.tc : Thread Cert.GradFfW2RefIdeal.nD Cert.GradFfW2RefIdeal.τ).loc Cert.GradFfW2RefIdeal.main_arg1) = m ((c.tc : Thread Cert.GradFfW2Ideal.nD Cert.GradFfW2Ideal.τ).loc Cert.GradFfW2Ideal.main_arg1)) →
    ∃ (v0 : (c : Dev Cert.GradFfW2Ideal.nD) → Buf (Elt Ideal) ((c.tc : Thread Cert.GradFfW2Ideal.nD Cert.GradFfW2Ideal.τ).loc Cert.GradFfW2Ideal.main_v0)),
      θ_run (Cert.GradFfW2Ideal.defs (F := Ideal)) (onTc (τ := Cert.GradFfW2Ideal.τ) (Cert.GradFfW2Ideal.main (F := Ideal))) ⟨m, fun _ => 0, g⟩ (fun r => ∀ c : Dev Cert.GradFfW2Ideal.nD,
          r.2.mem ((c.tc : Thread Cert.GradFfW2Ideal.nD Cert.GradFfW2Ideal.τ).loc Cert.GradFfW2Ideal.main_v0) = v0 c
          ∧ r.2.mem ((c.tc : Thread Cert.GradFfW2Ideal.nD Cert.GradFfW2Ideal.τ).loc Cert.GradFfW2Ideal.main_arg0) = m ((c.tc : Thread Cert.GradFfW2Ideal.nD Cert.GradFfW2Ideal.τ).loc Cert.GradFfW2Ideal.main_arg0)
          ∧ r.2.mem ((c.tc : Thread Cert.GradFfW2Ideal.nD Cert.GradFfW2Ideal.τ).loc Cert.GradFfW2Ideal.main_arg1) = m ((c.tc : Thread Cert.GradFfW2Ideal.nD Cert.GradFfW2Ideal.τ).loc Cert.GradFfW2Ideal.main_arg1))
      ∧ θ_run (Cert.GradFfW2RefIdeal.defs (F := Ideal)) (onTc (τ := Cert.GradFfW2RefIdeal.τ) (Cert.GradFfW2RefIdeal.main (F := Ideal))) ⟨m', fun _ => 0, g'⟩ (fun r => ∀ c : Dev Cert.GradFfW2RefIdeal.nD,
          r.2.mem ((c.tc : Thread Cert.GradFfW2RefIdeal.nD Cert.GradFfW2RefIdeal.τ).loc Cert.GradFfW2RefIdeal.main_v3) = v0 c
          ∧ r.2.mem ((c.tc : Thread Cert.GradFfW2RefIdeal.nD Cert.GradFfW2RefIdeal.τ).loc Cert.GradFfW2RefIdeal.main_arg0) = m' ((c.tc : Thread Cert.GradFfW2RefIdeal.nD Cert.GradFfW2RefIdeal.τ).loc Cert.GradFfW2RefIdeal.main_arg0)
          ∧ r.2.mem ((c.tc : Thread Cert.GradFfW2RefIdeal.nD Cert.GradFfW2RefIdeal.τ).loc Cert.GradFfW2RefIdeal.main_arg1) = m' ((c.tc : Thread Cert.GradFfW2RefIdeal.nD Cert.GradFfW2RefIdeal.τ).loc Cert.GradFfW2RefIdeal.main_arg1))

def preserves_GradFfW1_GradFfW1Ideal : Prop :=
  True

def algebraic_GradFfW1Ideal_GradFfW1RefIdeal [hGradFfW1Ideal : Cert.GradFfW1Ideal.Facts] [hGradFfW1RefIdeal : Cert.GradFfW1RefIdeal.Facts] : Prop :=
  ∀ (m : (ℓ : Loc Cert.GradFfW1Ideal.nD Cert.GradFfW1Ideal.τ Cert.GradFfW1Ideal.sig) → Buf (Elt Ideal) ℓ) (g : Dev Cert.GradFfW1Ideal.nD → PrngReg)
    (m' : (ℓ : Loc Cert.GradFfW1RefIdeal.nD Cert.GradFfW1RefIdeal.τ Cert.GradFfW1RefIdeal.sig) → Buf (Elt Ideal) ℓ) (g' : Dev Cert.GradFfW1RefIdeal.nD → PrngReg), Pre_GradFfW1Ideal m →
    (∀ c : Dev Cert.GradFfW1Ideal.nD,
      m' ((c.tc : Thread Cert.GradFfW1RefIdeal.nD Cert.GradFfW1RefIdeal.τ).loc Cert.GradFfW1RefIdeal.main_arg0) = m ((c.tc : Thread Cert.GradFfW1Ideal.nD Cert.GradFfW1Ideal.τ).loc Cert.GradFfW1Ideal.main_arg0)
      ∧ m' ((c.tc : Thread Cert.GradFfW1RefIdeal.nD Cert.GradFfW1RefIdeal.τ).loc Cert.GradFfW1RefIdeal.main_arg1) = m ((c.tc : Thread Cert.GradFfW1Ideal.nD Cert.GradFfW1Ideal.τ).loc Cert.GradFfW1Ideal.main_arg1)) →
    ∃ (v0 : (c : Dev Cert.GradFfW1Ideal.nD) → Buf (Elt Ideal) ((c.tc : Thread Cert.GradFfW1Ideal.nD Cert.GradFfW1Ideal.τ).loc Cert.GradFfW1Ideal.main_v0)),
      θ_run (Cert.GradFfW1Ideal.defs (F := Ideal)) (onTc (τ := Cert.GradFfW1Ideal.τ) (Cert.GradFfW1Ideal.main (F := Ideal))) ⟨m, fun _ => 0, g⟩ (fun r => ∀ c : Dev Cert.GradFfW1Ideal.nD,
          r.2.mem ((c.tc : Thread Cert.GradFfW1Ideal.nD Cert.GradFfW1Ideal.τ).loc Cert.GradFfW1Ideal.main_v0) = v0 c
          ∧ r.2.mem ((c.tc : Thread Cert.GradFfW1Ideal.nD Cert.GradFfW1Ideal.τ).loc Cert.GradFfW1Ideal.main_arg0) = m ((c.tc : Thread Cert.GradFfW1Ideal.nD Cert.GradFfW1Ideal.τ).loc Cert.GradFfW1Ideal.main_arg0)
          ∧ r.2.mem ((c.tc : Thread Cert.GradFfW1Ideal.nD Cert.GradFfW1Ideal.τ).loc Cert.GradFfW1Ideal.main_arg1) = m ((c.tc : Thread Cert.GradFfW1Ideal.nD Cert.GradFfW1Ideal.τ).loc Cert.GradFfW1Ideal.main_arg1))
      ∧ θ_run (Cert.GradFfW1RefIdeal.defs (F := Ideal)) (onTc (τ := Cert.GradFfW1RefIdeal.τ) (Cert.GradFfW1RefIdeal.main (F := Ideal))) ⟨m', fun _ => 0, g'⟩ (fun r => ∀ c : Dev Cert.GradFfW1RefIdeal.nD,
          r.2.mem ((c.tc : Thread Cert.GradFfW1RefIdeal.nD Cert.GradFfW1RefIdeal.τ).loc Cert.GradFfW1RefIdeal.main_v3) = v0 c
          ∧ r.2.mem ((c.tc : Thread Cert.GradFfW1RefIdeal.nD Cert.GradFfW1RefIdeal.τ).loc Cert.GradFfW1RefIdeal.main_arg0) = m' ((c.tc : Thread Cert.GradFfW1RefIdeal.nD Cert.GradFfW1RefIdeal.τ).loc Cert.GradFfW1RefIdeal.main_arg0)
          ∧ r.2.mem ((c.tc : Thread Cert.GradFfW1RefIdeal.nD Cert.GradFfW1RefIdeal.τ).loc Cert.GradFfW1RefIdeal.main_arg1) = m' ((c.tc : Thread Cert.GradFfW1RefIdeal.nD Cert.GradFfW1RefIdeal.τ).loc Cert.GradFfW1RefIdeal.main_arg1))

def preserves_GradGlaWOut_GradGlaWOutIdeal : Prop :=
  True

def algebraic_GradGlaWOutIdeal_GradGlaWOutRefIdeal [hGradGlaWOutIdeal : Cert.GradGlaWOutIdeal.Facts] [hGradGlaWOutRefIdeal : Cert.GradGlaWOutRefIdeal.Facts] : Prop :=
  ∀ (m : (ℓ : Loc Cert.GradGlaWOutIdeal.nD Cert.GradGlaWOutIdeal.τ Cert.GradGlaWOutIdeal.sig) → Buf (Elt Ideal) ℓ) (g : Dev Cert.GradGlaWOutIdeal.nD → PrngReg)
    (m' : (ℓ : Loc Cert.GradGlaWOutRefIdeal.nD Cert.GradGlaWOutRefIdeal.τ Cert.GradGlaWOutRefIdeal.sig) → Buf (Elt Ideal) ℓ) (g' : Dev Cert.GradGlaWOutRefIdeal.nD → PrngReg), Pre_GradGlaWOutIdeal m →
    (∀ c : Dev Cert.GradGlaWOutIdeal.nD,
      m' ((c.tc : Thread Cert.GradGlaWOutRefIdeal.nD Cert.GradGlaWOutRefIdeal.τ).loc Cert.GradGlaWOutRefIdeal.main_arg0) = m ((c.tc : Thread Cert.GradGlaWOutIdeal.nD Cert.GradGlaWOutIdeal.τ).loc Cert.GradGlaWOutIdeal.main_arg0)
      ∧ m' ((c.tc : Thread Cert.GradGlaWOutRefIdeal.nD Cert.GradGlaWOutRefIdeal.τ).loc Cert.GradGlaWOutRefIdeal.main_arg1) = m ((c.tc : Thread Cert.GradGlaWOutIdeal.nD Cert.GradGlaWOutIdeal.τ).loc Cert.GradGlaWOutIdeal.main_arg1)) →
    ∃ (v0 : (c : Dev Cert.GradGlaWOutIdeal.nD) → Buf (Elt Ideal) ((c.tc : Thread Cert.GradGlaWOutIdeal.nD Cert.GradGlaWOutIdeal.τ).loc Cert.GradGlaWOutIdeal.main_v0)),
      θ_run (Cert.GradGlaWOutIdeal.defs (F := Ideal)) (onTc (τ := Cert.GradGlaWOutIdeal.τ) (Cert.GradGlaWOutIdeal.main (F := Ideal))) ⟨m, fun _ => 0, g⟩ (fun r => ∀ c : Dev Cert.GradGlaWOutIdeal.nD,
          r.2.mem ((c.tc : Thread Cert.GradGlaWOutIdeal.nD Cert.GradGlaWOutIdeal.τ).loc Cert.GradGlaWOutIdeal.main_v0) = v0 c
          ∧ r.2.mem ((c.tc : Thread Cert.GradGlaWOutIdeal.nD Cert.GradGlaWOutIdeal.τ).loc Cert.GradGlaWOutIdeal.main_arg0) = m ((c.tc : Thread Cert.GradGlaWOutIdeal.nD Cert.GradGlaWOutIdeal.τ).loc Cert.GradGlaWOutIdeal.main_arg0)
          ∧ r.2.mem ((c.tc : Thread Cert.GradGlaWOutIdeal.nD Cert.GradGlaWOutIdeal.τ).loc Cert.GradGlaWOutIdeal.main_arg1) = m ((c.tc : Thread Cert.GradGlaWOutIdeal.nD Cert.GradGlaWOutIdeal.τ).loc Cert.GradGlaWOutIdeal.main_arg1))
      ∧ θ_run (Cert.GradGlaWOutRefIdeal.defs (F := Ideal)) (onTc (τ := Cert.GradGlaWOutRefIdeal.τ) (Cert.GradGlaWOutRefIdeal.main (F := Ideal))) ⟨m', fun _ => 0, g'⟩ (fun r => ∀ c : Dev Cert.GradGlaWOutRefIdeal.nD,
          r.2.mem ((c.tc : Thread Cert.GradGlaWOutRefIdeal.nD Cert.GradGlaWOutRefIdeal.τ).loc Cert.GradGlaWOutRefIdeal.main_v3) = v0 c
          ∧ r.2.mem ((c.tc : Thread Cert.GradGlaWOutRefIdeal.nD Cert.GradGlaWOutRefIdeal.τ).loc Cert.GradGlaWOutRefIdeal.main_arg0) = m' ((c.tc : Thread Cert.GradGlaWOutRefIdeal.nD Cert.GradGlaWOutRefIdeal.τ).loc Cert.GradGlaWOutRefIdeal.main_arg0)
          ∧ r.2.mem ((c.tc : Thread Cert.GradGlaWOutRefIdeal.nD Cert.GradGlaWOutRefIdeal.τ).loc Cert.GradGlaWOutRefIdeal.main_arg1) = m' ((c.tc : Thread Cert.GradGlaWOutRefIdeal.nD Cert.GradGlaWOutRefIdeal.τ).loc Cert.GradGlaWOutRefIdeal.main_arg1))

def preserves_GradGlaWIn_GradGlaWInIdeal : Prop :=
  True

def algebraic_GradGlaWInIdeal_GradGlaWInRefIdeal [hGradGlaWInIdeal : Cert.GradGlaWInIdeal.Facts] [hGradGlaWInRefIdeal : Cert.GradGlaWInRefIdeal.Facts] : Prop :=
  ∀ (m : (ℓ : Loc Cert.GradGlaWInIdeal.nD Cert.GradGlaWInIdeal.τ Cert.GradGlaWInIdeal.sig) → Buf (Elt Ideal) ℓ) (g : Dev Cert.GradGlaWInIdeal.nD → PrngReg)
    (m' : (ℓ : Loc Cert.GradGlaWInRefIdeal.nD Cert.GradGlaWInRefIdeal.τ Cert.GradGlaWInRefIdeal.sig) → Buf (Elt Ideal) ℓ) (g' : Dev Cert.GradGlaWInRefIdeal.nD → PrngReg), Pre_GradGlaWInIdeal m →
    (∀ c : Dev Cert.GradGlaWInIdeal.nD,
      m' ((c.tc : Thread Cert.GradGlaWInRefIdeal.nD Cert.GradGlaWInRefIdeal.τ).loc Cert.GradGlaWInRefIdeal.main_arg0) = m ((c.tc : Thread Cert.GradGlaWInIdeal.nD Cert.GradGlaWInIdeal.τ).loc Cert.GradGlaWInIdeal.main_arg0)
      ∧ m' ((c.tc : Thread Cert.GradGlaWInRefIdeal.nD Cert.GradGlaWInRefIdeal.τ).loc Cert.GradGlaWInRefIdeal.main_arg1) = m ((c.tc : Thread Cert.GradGlaWInIdeal.nD Cert.GradGlaWInIdeal.τ).loc Cert.GradGlaWInIdeal.main_arg1)) →
    ∃ (v0 : (c : Dev Cert.GradGlaWInIdeal.nD) → Buf (Elt Ideal) ((c.tc : Thread Cert.GradGlaWInIdeal.nD Cert.GradGlaWInIdeal.τ).loc Cert.GradGlaWInIdeal.main_v0)),
      θ_run (Cert.GradGlaWInIdeal.defs (F := Ideal)) (onTc (τ := Cert.GradGlaWInIdeal.τ) (Cert.GradGlaWInIdeal.main (F := Ideal))) ⟨m, fun _ => 0, g⟩ (fun r => ∀ c : Dev Cert.GradGlaWInIdeal.nD,
          r.2.mem ((c.tc : Thread Cert.GradGlaWInIdeal.nD Cert.GradGlaWInIdeal.τ).loc Cert.GradGlaWInIdeal.main_v0) = v0 c
          ∧ r.2.mem ((c.tc : Thread Cert.GradGlaWInIdeal.nD Cert.GradGlaWInIdeal.τ).loc Cert.GradGlaWInIdeal.main_arg0) = m ((c.tc : Thread Cert.GradGlaWInIdeal.nD Cert.GradGlaWInIdeal.τ).loc Cert.GradGlaWInIdeal.main_arg0)
          ∧ r.2.mem ((c.tc : Thread Cert.GradGlaWInIdeal.nD Cert.GradGlaWInIdeal.τ).loc Cert.GradGlaWInIdeal.main_arg1) = m ((c.tc : Thread Cert.GradGlaWInIdeal.nD Cert.GradGlaWInIdeal.τ).loc Cert.GradGlaWInIdeal.main_arg1))
      ∧ θ_run (Cert.GradGlaWInRefIdeal.defs (F := Ideal)) (onTc (τ := Cert.GradGlaWInRefIdeal.τ) (Cert.GradGlaWInRefIdeal.main (F := Ideal))) ⟨m', fun _ => 0, g'⟩ (fun r => ∀ c : Dev Cert.GradGlaWInRefIdeal.nD,
          r.2.mem ((c.tc : Thread Cert.GradGlaWInRefIdeal.nD Cert.GradGlaWInRefIdeal.τ).loc Cert.GradGlaWInRefIdeal.main_v3) = v0 c
          ∧ r.2.mem ((c.tc : Thread Cert.GradGlaWInRefIdeal.nD Cert.GradGlaWInRefIdeal.τ).loc Cert.GradGlaWInRefIdeal.main_arg0) = m' ((c.tc : Thread Cert.GradGlaWInRefIdeal.nD Cert.GradGlaWInRefIdeal.τ).loc Cert.GradGlaWInRefIdeal.main_arg0)
          ∧ r.2.mem ((c.tc : Thread Cert.GradGlaWInRefIdeal.nD Cert.GradGlaWInRefIdeal.τ).loc Cert.GradGlaWInRefIdeal.main_arg1) = m' ((c.tc : Thread Cert.GradGlaWInRefIdeal.nD Cert.GradGlaWInRefIdeal.τ).loc Cert.GradGlaWInRefIdeal.main_arg1))

def preserves_GradAttWIn_GradAttWInIdeal : Prop :=
  True

def algebraic_GradAttWInIdeal_GradAttWInRefIdeal [hGradAttWInIdeal : Cert.GradAttWInIdeal.Facts] [hGradAttWInRefIdeal : Cert.GradAttWInRefIdeal.Facts] : Prop :=
  ∀ (m : (ℓ : Loc Cert.GradAttWInIdeal.nD Cert.GradAttWInIdeal.τ Cert.GradAttWInIdeal.sig) → Buf (Elt Ideal) ℓ) (g : Dev Cert.GradAttWInIdeal.nD → PrngReg)
    (m' : (ℓ : Loc Cert.GradAttWInRefIdeal.nD Cert.GradAttWInRefIdeal.τ Cert.GradAttWInRefIdeal.sig) → Buf (Elt Ideal) ℓ) (g' : Dev Cert.GradAttWInRefIdeal.nD → PrngReg), Pre_GradAttWInIdeal m →
    (∀ c : Dev Cert.GradAttWInIdeal.nD,
      m' ((c.tc : Thread Cert.GradAttWInRefIdeal.nD Cert.GradAttWInRefIdeal.τ).loc Cert.GradAttWInRefIdeal.main_arg0) = m ((c.tc : Thread Cert.GradAttWInIdeal.nD Cert.GradAttWInIdeal.τ).loc Cert.GradAttWInIdeal.main_arg0)
      ∧ m' ((c.tc : Thread Cert.GradAttWInRefIdeal.nD Cert.GradAttWInRefIdeal.τ).loc Cert.GradAttWInRefIdeal.main_arg1) = m ((c.tc : Thread Cert.GradAttWInIdeal.nD Cert.GradAttWInIdeal.τ).loc Cert.GradAttWInIdeal.main_arg1)) →
    ∃ (v0 : (c : Dev Cert.GradAttWInIdeal.nD) → Buf (Elt Ideal) ((c.tc : Thread Cert.GradAttWInIdeal.nD Cert.GradAttWInIdeal.τ).loc Cert.GradAttWInIdeal.main_v0)),
      θ_run (Cert.GradAttWInIdeal.defs (F := Ideal)) (onTc (τ := Cert.GradAttWInIdeal.τ) (Cert.GradAttWInIdeal.main (F := Ideal))) ⟨m, fun _ => 0, g⟩ (fun r => ∀ c : Dev Cert.GradAttWInIdeal.nD,
          r.2.mem ((c.tc : Thread Cert.GradAttWInIdeal.nD Cert.GradAttWInIdeal.τ).loc Cert.GradAttWInIdeal.main_v0) = v0 c
          ∧ r.2.mem ((c.tc : Thread Cert.GradAttWInIdeal.nD Cert.GradAttWInIdeal.τ).loc Cert.GradAttWInIdeal.main_arg0) = m ((c.tc : Thread Cert.GradAttWInIdeal.nD Cert.GradAttWInIdeal.τ).loc Cert.GradAttWInIdeal.main_arg0)
          ∧ r.2.mem ((c.tc : Thread Cert.GradAttWInIdeal.nD Cert.GradAttWInIdeal.τ).loc Cert.GradAttWInIdeal.main_arg1) = m ((c.tc : Thread Cert.GradAttWInIdeal.nD Cert.GradAttWInIdeal.τ).loc Cert.GradAttWInIdeal.main_arg1))
      ∧ θ_run (Cert.GradAttWInRefIdeal.defs (F := Ideal)) (onTc (τ := Cert.GradAttWInRefIdeal.τ) (Cert.GradAttWInRefIdeal.main (F := Ideal))) ⟨m', fun _ => 0, g'⟩ (fun r => ∀ c : Dev Cert.GradAttWInRefIdeal.nD,
          r.2.mem ((c.tc : Thread Cert.GradAttWInRefIdeal.nD Cert.GradAttWInRefIdeal.τ).loc Cert.GradAttWInRefIdeal.main_v3) = v0 c
          ∧ r.2.mem ((c.tc : Thread Cert.GradAttWInRefIdeal.nD Cert.GradAttWInRefIdeal.τ).loc Cert.GradAttWInRefIdeal.main_arg0) = m' ((c.tc : Thread Cert.GradAttWInRefIdeal.nD Cert.GradAttWInRefIdeal.τ).loc Cert.GradAttWInRefIdeal.main_arg0)
          ∧ r.2.mem ((c.tc : Thread Cert.GradAttWInRefIdeal.nD Cert.GradAttWInRefIdeal.τ).loc Cert.GradAttWInRefIdeal.main_arg1) = m' ((c.tc : Thread Cert.GradAttWInRefIdeal.nD Cert.GradAttWInRefIdeal.τ).loc Cert.GradAttWInRefIdeal.main_arg1))

def preserves_DxGla_DxGlaIdeal : Prop :=
  True

def algebraic_DxGlaIdeal_DxGlaRefIdeal [hDxGlaIdeal : Cert.DxGlaIdeal.Facts] [hDxGlaRefIdeal : Cert.DxGlaRefIdeal.Facts] : Prop :=
  ∀ (m : (ℓ : Loc Cert.DxGlaIdeal.nD Cert.DxGlaIdeal.τ Cert.DxGlaIdeal.sig) → Buf (Elt Ideal) ℓ) (g : Dev Cert.DxGlaIdeal.nD → PrngReg)
    (m' : (ℓ : Loc Cert.DxGlaRefIdeal.nD Cert.DxGlaRefIdeal.τ Cert.DxGlaRefIdeal.sig) → Buf (Elt Ideal) ℓ) (g' : Dev Cert.DxGlaRefIdeal.nD → PrngReg), Pre_DxGlaIdeal m →
    (∀ c : Dev Cert.DxGlaIdeal.nD,
      m' ((c.tc : Thread Cert.DxGlaRefIdeal.nD Cert.DxGlaRefIdeal.τ).loc Cert.DxGlaRefIdeal.main_arg0) = m ((c.tc : Thread Cert.DxGlaIdeal.nD Cert.DxGlaIdeal.τ).loc Cert.DxGlaIdeal.main_arg0)
      ∧ m' ((c.tc : Thread Cert.DxGlaRefIdeal.nD Cert.DxGlaRefIdeal.τ).loc Cert.DxGlaRefIdeal.main_arg1) = m ((c.tc : Thread Cert.DxGlaIdeal.nD Cert.DxGlaIdeal.τ).loc Cert.DxGlaIdeal.main_arg1)
      ∧ m' ((c.tc : Thread Cert.DxGlaRefIdeal.nD Cert.DxGlaRefIdeal.τ).loc Cert.DxGlaRefIdeal.main_arg2) = m ((c.tc : Thread Cert.DxGlaIdeal.nD Cert.DxGlaIdeal.τ).loc Cert.DxGlaIdeal.main_arg2)
      ∧ m' ((c.tc : Thread Cert.DxGlaRefIdeal.nD Cert.DxGlaRefIdeal.τ).loc Cert.DxGlaRefIdeal.main_arg3) = m ((c.tc : Thread Cert.DxGlaIdeal.nD Cert.DxGlaIdeal.τ).loc Cert.DxGlaIdeal.main_arg3)
      ∧ m' ((c.tc : Thread Cert.DxGlaRefIdeal.nD Cert.DxGlaRefIdeal.τ).loc Cert.DxGlaRefIdeal.main_arg4) = m ((c.tc : Thread Cert.DxGlaIdeal.nD Cert.DxGlaIdeal.τ).loc Cert.DxGlaIdeal.main_arg4)) →
    ∃ (v0 : (c : Dev Cert.DxGlaIdeal.nD) → Buf (Elt Ideal) ((c.tc : Thread Cert.DxGlaIdeal.nD Cert.DxGlaIdeal.τ).loc Cert.DxGlaIdeal.main_v0_0)) (v1 : (c : Dev Cert.DxGlaIdeal.nD) → Buf (Elt Ideal) ((c.tc : Thread Cert.DxGlaIdeal.nD Cert.DxGlaIdeal.τ).loc Cert.DxGlaIdeal.main_v0_1)),
      θ_run (Cert.DxGlaIdeal.defs (F := Ideal)) (onTc (τ := Cert.DxGlaIdeal.τ) (Cert.DxGlaIdeal.main (F := Ideal))) ⟨m, fun _ => 0, g⟩ (fun r => ∀ c : Dev Cert.DxGlaIdeal.nD,
          r.2.mem ((c.tc : Thread Cert.DxGlaIdeal.nD Cert.DxGlaIdeal.τ).loc Cert.DxGlaIdeal.main_v0_0) = v0 c
          ∧ r.2.mem ((c.tc : Thread Cert.DxGlaIdeal.nD Cert.DxGlaIdeal.τ).loc Cert.DxGlaIdeal.main_v0_1) = v1 c
          ∧ r.2.mem ((c.tc : Thread Cert.DxGlaIdeal.nD Cert.DxGlaIdeal.τ).loc Cert.DxGlaIdeal.main_arg0) = m ((c.tc : Thread Cert.DxGlaIdeal.nD Cert.DxGlaIdeal.τ).loc Cert.DxGlaIdeal.main_arg0)
          ∧ r.2.mem ((c.tc : Thread Cert.DxGlaIdeal.nD Cert.DxGlaIdeal.τ).loc Cert.DxGlaIdeal.main_arg1) = m ((c.tc : Thread Cert.DxGlaIdeal.nD Cert.DxGlaIdeal.τ).loc Cert.DxGlaIdeal.main_arg1)
          ∧ r.2.mem ((c.tc : Thread Cert.DxGlaIdeal.nD Cert.DxGlaIdeal.τ).loc Cert.DxGlaIdeal.main_arg2) = m ((c.tc : Thread Cert.DxGlaIdeal.nD Cert.DxGlaIdeal.τ).loc Cert.DxGlaIdeal.main_arg2)
          ∧ r.2.mem ((c.tc : Thread Cert.DxGlaIdeal.nD Cert.DxGlaIdeal.τ).loc Cert.DxGlaIdeal.main_arg3) = m ((c.tc : Thread Cert.DxGlaIdeal.nD Cert.DxGlaIdeal.τ).loc Cert.DxGlaIdeal.main_arg3)
          ∧ r.2.mem ((c.tc : Thread Cert.DxGlaIdeal.nD Cert.DxGlaIdeal.τ).loc Cert.DxGlaIdeal.main_arg4) = m ((c.tc : Thread Cert.DxGlaIdeal.nD Cert.DxGlaIdeal.τ).loc Cert.DxGlaIdeal.main_arg4))
      ∧ θ_run (Cert.DxGlaRefIdeal.defs (F := Ideal)) (onTc (τ := Cert.DxGlaRefIdeal.τ) (Cert.DxGlaRefIdeal.main (F := Ideal))) ⟨m', fun _ => 0, g'⟩ (fun r => ∀ c : Dev Cert.DxGlaRefIdeal.nD,
          r.2.mem ((c.tc : Thread Cert.DxGlaRefIdeal.nD Cert.DxGlaRefIdeal.τ).loc Cert.DxGlaRefIdeal.main_v13) = v0 c
          ∧ r.2.mem ((c.tc : Thread Cert.DxGlaRefIdeal.nD Cert.DxGlaRefIdeal.τ).loc Cert.DxGlaRefIdeal.main_v15) = v1 c
          ∧ r.2.mem ((c.tc : Thread Cert.DxGlaRefIdeal.nD Cert.DxGlaRefIdeal.τ).loc Cert.DxGlaRefIdeal.main_arg0) = m' ((c.tc : Thread Cert.DxGlaRefIdeal.nD Cert.DxGlaRefIdeal.τ).loc Cert.DxGlaRefIdeal.main_arg0)
          ∧ r.2.mem ((c.tc : Thread Cert.DxGlaRefIdeal.nD Cert.DxGlaRefIdeal.τ).loc Cert.DxGlaRefIdeal.main_arg1) = m' ((c.tc : Thread Cert.DxGlaRefIdeal.nD Cert.DxGlaRefIdeal.τ).loc Cert.DxGlaRefIdeal.main_arg1)
          ∧ r.2.mem ((c.tc : Thread Cert.DxGlaRefIdeal.nD Cert.DxGlaRefIdeal.τ).loc Cert.DxGlaRefIdeal.main_arg2) = m' ((c.tc : Thread Cert.DxGlaRefIdeal.nD Cert.DxGlaRefIdeal.τ).loc Cert.DxGlaRefIdeal.main_arg2)
          ∧ r.2.mem ((c.tc : Thread Cert.DxGlaRefIdeal.nD Cert.DxGlaRefIdeal.τ).loc Cert.DxGlaRefIdeal.main_arg3) = m' ((c.tc : Thread Cert.DxGlaRefIdeal.nD Cert.DxGlaRefIdeal.τ).loc Cert.DxGlaRefIdeal.main_arg3)
          ∧ r.2.mem ((c.tc : Thread Cert.DxGlaRefIdeal.nD Cert.DxGlaRefIdeal.τ).loc Cert.DxGlaRefIdeal.main_arg4) = m' ((c.tc : Thread Cert.DxGlaRefIdeal.nD Cert.DxGlaRefIdeal.τ).loc Cert.DxGlaRefIdeal.main_arg4))

def preserves_DxAtt_DxAttIdeal : Prop :=
  True

def algebraic_DxAttIdeal_DxAttRefIdeal [hDxAttIdeal : Cert.DxAttIdeal.Facts] [hDxAttRefIdeal : Cert.DxAttRefIdeal.Facts] : Prop :=
  ∀ (m : (ℓ : Loc Cert.DxAttIdeal.nD Cert.DxAttIdeal.τ Cert.DxAttIdeal.sig) → Buf (Elt Ideal) ℓ) (g : Dev Cert.DxAttIdeal.nD → PrngReg)
    (m' : (ℓ : Loc Cert.DxAttRefIdeal.nD Cert.DxAttRefIdeal.τ Cert.DxAttRefIdeal.sig) → Buf (Elt Ideal) ℓ) (g' : Dev Cert.DxAttRefIdeal.nD → PrngReg), Pre_DxAttIdeal m →
    (∀ c : Dev Cert.DxAttIdeal.nD,
      m' ((c.tc : Thread Cert.DxAttRefIdeal.nD Cert.DxAttRefIdeal.τ).loc Cert.DxAttRefIdeal.main_arg0) = m ((c.tc : Thread Cert.DxAttIdeal.nD Cert.DxAttIdeal.τ).loc Cert.DxAttIdeal.main_arg0)
      ∧ m' ((c.tc : Thread Cert.DxAttRefIdeal.nD Cert.DxAttRefIdeal.τ).loc Cert.DxAttRefIdeal.main_arg1) = m ((c.tc : Thread Cert.DxAttIdeal.nD Cert.DxAttIdeal.τ).loc Cert.DxAttIdeal.main_arg1)
      ∧ m' ((c.tc : Thread Cert.DxAttRefIdeal.nD Cert.DxAttRefIdeal.τ).loc Cert.DxAttRefIdeal.main_arg2) = m ((c.tc : Thread Cert.DxAttIdeal.nD Cert.DxAttIdeal.τ).loc Cert.DxAttIdeal.main_arg2)
      ∧ m' ((c.tc : Thread Cert.DxAttRefIdeal.nD Cert.DxAttRefIdeal.τ).loc Cert.DxAttRefIdeal.main_arg3) = m ((c.tc : Thread Cert.DxAttIdeal.nD Cert.DxAttIdeal.τ).loc Cert.DxAttIdeal.main_arg3)
      ∧ m' ((c.tc : Thread Cert.DxAttRefIdeal.nD Cert.DxAttRefIdeal.τ).loc Cert.DxAttRefIdeal.main_arg4) = m ((c.tc : Thread Cert.DxAttIdeal.nD Cert.DxAttIdeal.τ).loc Cert.DxAttIdeal.main_arg4)) →
    ∃ (v0 : (c : Dev Cert.DxAttIdeal.nD) → Buf (Elt Ideal) ((c.tc : Thread Cert.DxAttIdeal.nD Cert.DxAttIdeal.τ).loc Cert.DxAttIdeal.main_v0_0)) (v1 : (c : Dev Cert.DxAttIdeal.nD) → Buf (Elt Ideal) ((c.tc : Thread Cert.DxAttIdeal.nD Cert.DxAttIdeal.τ).loc Cert.DxAttIdeal.main_v0_1)),
      θ_run (Cert.DxAttIdeal.defs (F := Ideal)) (onTc (τ := Cert.DxAttIdeal.τ) (Cert.DxAttIdeal.main (F := Ideal))) ⟨m, fun _ => 0, g⟩ (fun r => ∀ c : Dev Cert.DxAttIdeal.nD,
          r.2.mem ((c.tc : Thread Cert.DxAttIdeal.nD Cert.DxAttIdeal.τ).loc Cert.DxAttIdeal.main_v0_0) = v0 c
          ∧ r.2.mem ((c.tc : Thread Cert.DxAttIdeal.nD Cert.DxAttIdeal.τ).loc Cert.DxAttIdeal.main_v0_1) = v1 c
          ∧ r.2.mem ((c.tc : Thread Cert.DxAttIdeal.nD Cert.DxAttIdeal.τ).loc Cert.DxAttIdeal.main_arg0) = m ((c.tc : Thread Cert.DxAttIdeal.nD Cert.DxAttIdeal.τ).loc Cert.DxAttIdeal.main_arg0)
          ∧ r.2.mem ((c.tc : Thread Cert.DxAttIdeal.nD Cert.DxAttIdeal.τ).loc Cert.DxAttIdeal.main_arg1) = m ((c.tc : Thread Cert.DxAttIdeal.nD Cert.DxAttIdeal.τ).loc Cert.DxAttIdeal.main_arg1)
          ∧ r.2.mem ((c.tc : Thread Cert.DxAttIdeal.nD Cert.DxAttIdeal.τ).loc Cert.DxAttIdeal.main_arg2) = m ((c.tc : Thread Cert.DxAttIdeal.nD Cert.DxAttIdeal.τ).loc Cert.DxAttIdeal.main_arg2)
          ∧ r.2.mem ((c.tc : Thread Cert.DxAttIdeal.nD Cert.DxAttIdeal.τ).loc Cert.DxAttIdeal.main_arg3) = m ((c.tc : Thread Cert.DxAttIdeal.nD Cert.DxAttIdeal.τ).loc Cert.DxAttIdeal.main_arg3)
          ∧ r.2.mem ((c.tc : Thread Cert.DxAttIdeal.nD Cert.DxAttIdeal.τ).loc Cert.DxAttIdeal.main_arg4) = m ((c.tc : Thread Cert.DxAttIdeal.nD Cert.DxAttIdeal.τ).loc Cert.DxAttIdeal.main_arg4))
      ∧ θ_run (Cert.DxAttRefIdeal.defs (F := Ideal)) (onTc (τ := Cert.DxAttRefIdeal.τ) (Cert.DxAttRefIdeal.main (F := Ideal))) ⟨m', fun _ => 0, g'⟩ (fun r => ∀ c : Dev Cert.DxAttRefIdeal.nD,
          r.2.mem ((c.tc : Thread Cert.DxAttRefIdeal.nD Cert.DxAttRefIdeal.τ).loc Cert.DxAttRefIdeal.main_v13) = v0 c
          ∧ r.2.mem ((c.tc : Thread Cert.DxAttRefIdeal.nD Cert.DxAttRefIdeal.τ).loc Cert.DxAttRefIdeal.main_v15) = v1 c
          ∧ r.2.mem ((c.tc : Thread Cert.DxAttRefIdeal.nD Cert.DxAttRefIdeal.τ).loc Cert.DxAttRefIdeal.main_arg0) = m' ((c.tc : Thread Cert.DxAttRefIdeal.nD Cert.DxAttRefIdeal.τ).loc Cert.DxAttRefIdeal.main_arg0)
          ∧ r.2.mem ((c.tc : Thread Cert.DxAttRefIdeal.nD Cert.DxAttRefIdeal.τ).loc Cert.DxAttRefIdeal.main_arg1) = m' ((c.tc : Thread Cert.DxAttRefIdeal.nD Cert.DxAttRefIdeal.τ).loc Cert.DxAttRefIdeal.main_arg1)
          ∧ r.2.mem ((c.tc : Thread Cert.DxAttRefIdeal.nD Cert.DxAttRefIdeal.τ).loc Cert.DxAttRefIdeal.main_arg2) = m' ((c.tc : Thread Cert.DxAttRefIdeal.nD Cert.DxAttRefIdeal.τ).loc Cert.DxAttRefIdeal.main_arg2)
          ∧ r.2.mem ((c.tc : Thread Cert.DxAttRefIdeal.nD Cert.DxAttRefIdeal.τ).loc Cert.DxAttRefIdeal.main_arg3) = m' ((c.tc : Thread Cert.DxAttRefIdeal.nD Cert.DxAttRefIdeal.τ).loc Cert.DxAttRefIdeal.main_arg3)
          ∧ r.2.mem ((c.tc : Thread Cert.DxAttRefIdeal.nD Cert.DxAttRefIdeal.τ).loc Cert.DxAttRefIdeal.main_arg4) = m' ((c.tc : Thread Cert.DxAttRefIdeal.nD Cert.DxAttRefIdeal.τ).loc Cert.DxAttRefIdeal.main_arg4))

def preserves_DxFf_DxFfIdeal : Prop :=
  True

def algebraic_DxFfIdeal_DxFfRefIdeal [hDxFfIdeal : Cert.DxFfIdeal.Facts] [hDxFfRefIdeal : Cert.DxFfRefIdeal.Facts] : Prop :=
  ∀ (m : (ℓ : Loc Cert.DxFfIdeal.nD Cert.DxFfIdeal.τ Cert.DxFfIdeal.sig) → Buf (Elt Ideal) ℓ) (g : Dev Cert.DxFfIdeal.nD → PrngReg)
    (m' : (ℓ : Loc Cert.DxFfRefIdeal.nD Cert.DxFfRefIdeal.τ Cert.DxFfRefIdeal.sig) → Buf (Elt Ideal) ℓ) (g' : Dev Cert.DxFfRefIdeal.nD → PrngReg), Pre_DxFfIdeal m →
    (∀ c : Dev Cert.DxFfIdeal.nD,
      m' ((c.tc : Thread Cert.DxFfRefIdeal.nD Cert.DxFfRefIdeal.τ).loc Cert.DxFfRefIdeal.main_arg0) = m ((c.tc : Thread Cert.DxFfIdeal.nD Cert.DxFfIdeal.τ).loc Cert.DxFfIdeal.main_arg0)
      ∧ m' ((c.tc : Thread Cert.DxFfRefIdeal.nD Cert.DxFfRefIdeal.τ).loc Cert.DxFfRefIdeal.main_arg1) = m ((c.tc : Thread Cert.DxFfIdeal.nD Cert.DxFfIdeal.τ).loc Cert.DxFfIdeal.main_arg1)
      ∧ m' ((c.tc : Thread Cert.DxFfRefIdeal.nD Cert.DxFfRefIdeal.τ).loc Cert.DxFfRefIdeal.main_arg2) = m ((c.tc : Thread Cert.DxFfIdeal.nD Cert.DxFfIdeal.τ).loc Cert.DxFfIdeal.main_arg2)
      ∧ m' ((c.tc : Thread Cert.DxFfRefIdeal.nD Cert.DxFfRefIdeal.τ).loc Cert.DxFfRefIdeal.main_arg3) = m ((c.tc : Thread Cert.DxFfIdeal.nD Cert.DxFfIdeal.τ).loc Cert.DxFfIdeal.main_arg3)
      ∧ m' ((c.tc : Thread Cert.DxFfRefIdeal.nD Cert.DxFfRefIdeal.τ).loc Cert.DxFfRefIdeal.main_arg4) = m ((c.tc : Thread Cert.DxFfIdeal.nD Cert.DxFfIdeal.τ).loc Cert.DxFfIdeal.main_arg4)) →
    ∃ (v0 : (c : Dev Cert.DxFfIdeal.nD) → Buf (Elt Ideal) ((c.tc : Thread Cert.DxFfIdeal.nD Cert.DxFfIdeal.τ).loc Cert.DxFfIdeal.main_v0_0)) (v1 : (c : Dev Cert.DxFfIdeal.nD) → Buf (Elt Ideal) ((c.tc : Thread Cert.DxFfIdeal.nD Cert.DxFfIdeal.τ).loc Cert.DxFfIdeal.main_v0_1)),
      θ_run (Cert.DxFfIdeal.defs (F := Ideal)) (onTc (τ := Cert.DxFfIdeal.τ) (Cert.DxFfIdeal.main (F := Ideal))) ⟨m, fun _ => 0, g⟩ (fun r => ∀ c : Dev Cert.DxFfIdeal.nD,
          r.2.mem ((c.tc : Thread Cert.DxFfIdeal.nD Cert.DxFfIdeal.τ).loc Cert.DxFfIdeal.main_v0_0) = v0 c
          ∧ r.2.mem ((c.tc : Thread Cert.DxFfIdeal.nD Cert.DxFfIdeal.τ).loc Cert.DxFfIdeal.main_v0_1) = v1 c
          ∧ r.2.mem ((c.tc : Thread Cert.DxFfIdeal.nD Cert.DxFfIdeal.τ).loc Cert.DxFfIdeal.main_arg0) = m ((c.tc : Thread Cert.DxFfIdeal.nD Cert.DxFfIdeal.τ).loc Cert.DxFfIdeal.main_arg0)
          ∧ r.2.mem ((c.tc : Thread Cert.DxFfIdeal.nD Cert.DxFfIdeal.τ).loc Cert.DxFfIdeal.main_arg1) = m ((c.tc : Thread Cert.DxFfIdeal.nD Cert.DxFfIdeal.τ).loc Cert.DxFfIdeal.main_arg1)
          ∧ r.2.mem ((c.tc : Thread Cert.DxFfIdeal.nD Cert.DxFfIdeal.τ).loc Cert.DxFfIdeal.main_arg2) = m ((c.tc : Thread Cert.DxFfIdeal.nD Cert.DxFfIdeal.τ).loc Cert.DxFfIdeal.main_arg2)
          ∧ r.2.mem ((c.tc : Thread Cert.DxFfIdeal.nD Cert.DxFfIdeal.τ).loc Cert.DxFfIdeal.main_arg3) = m ((c.tc : Thread Cert.DxFfIdeal.nD Cert.DxFfIdeal.τ).loc Cert.DxFfIdeal.main_arg3)
          ∧ r.2.mem ((c.tc : Thread Cert.DxFfIdeal.nD Cert.DxFfIdeal.τ).loc Cert.DxFfIdeal.main_arg4) = m ((c.tc : Thread Cert.DxFfIdeal.nD Cert.DxFfIdeal.τ).loc Cert.DxFfIdeal.main_arg4))
      ∧ θ_run (Cert.DxFfRefIdeal.defs (F := Ideal)) (onTc (τ := Cert.DxFfRefIdeal.τ) (Cert.DxFfRefIdeal.main (F := Ideal))) ⟨m', fun _ => 0, g'⟩ (fun r => ∀ c : Dev Cert.DxFfRefIdeal.nD,
          r.2.mem ((c.tc : Thread Cert.DxFfRefIdeal.nD Cert.DxFfRefIdeal.τ).loc Cert.DxFfRefIdeal.main_v13) = v0 c
          ∧ r.2.mem ((c.tc : Thread Cert.DxFfRefIdeal.nD Cert.DxFfRefIdeal.τ).loc Cert.DxFfRefIdeal.main_v15) = v1 c
          ∧ r.2.mem ((c.tc : Thread Cert.DxFfRefIdeal.nD Cert.DxFfRefIdeal.τ).loc Cert.DxFfRefIdeal.main_arg0) = m' ((c.tc : Thread Cert.DxFfRefIdeal.nD Cert.DxFfRefIdeal.τ).loc Cert.DxFfRefIdeal.main_arg0)
          ∧ r.2.mem ((c.tc : Thread Cert.DxFfRefIdeal.nD Cert.DxFfRefIdeal.τ).loc Cert.DxFfRefIdeal.main_arg1) = m' ((c.tc : Thread Cert.DxFfRefIdeal.nD Cert.DxFfRefIdeal.τ).loc Cert.DxFfRefIdeal.main_arg1)
          ∧ r.2.mem ((c.tc : Thread Cert.DxFfRefIdeal.nD Cert.DxFfRefIdeal.τ).loc Cert.DxFfRefIdeal.main_arg2) = m' ((c.tc : Thread Cert.DxFfRefIdeal.nD Cert.DxFfRefIdeal.τ).loc Cert.DxFfRefIdeal.main_arg2)
          ∧ r.2.mem ((c.tc : Thread Cert.DxFfRefIdeal.nD Cert.DxFfRefIdeal.τ).loc Cert.DxFfRefIdeal.main_arg3) = m' ((c.tc : Thread Cert.DxFfRefIdeal.nD Cert.DxFfRefIdeal.τ).loc Cert.DxFfRefIdeal.main_arg3)
          ∧ r.2.mem ((c.tc : Thread Cert.DxFfRefIdeal.nD Cert.DxFfRefIdeal.τ).loc Cert.DxFfRefIdeal.main_arg4) = m' ((c.tc : Thread Cert.DxFfRefIdeal.nD Cert.DxFfRefIdeal.τ).loc Cert.DxFfRefIdeal.main_arg4))

def preserves_Silu_SiluIdeal : Prop :=
  True

def algebraic_SiluIdeal_SiluRefIdeal [hSiluIdeal : Cert.SiluIdeal.Facts] [hSiluRefIdeal : Cert.SiluRefIdeal.Facts] : Prop :=
  ∀ (m : (ℓ : Loc Cert.SiluIdeal.nD Cert.SiluIdeal.τ Cert.SiluIdeal.sig) → Buf (Elt Ideal) ℓ) (g : Dev Cert.SiluIdeal.nD → PrngReg)
    (m' : (ℓ : Loc Cert.SiluRefIdeal.nD Cert.SiluRefIdeal.τ Cert.SiluRefIdeal.sig) → Buf (Elt Ideal) ℓ) (g' : Dev Cert.SiluRefIdeal.nD → PrngReg), Pre_SiluIdeal m →
    (∀ c : Dev Cert.SiluIdeal.nD,
      m' ((c.tc : Thread Cert.SiluRefIdeal.nD Cert.SiluRefIdeal.τ).loc Cert.SiluRefIdeal.main_arg0) = m ((c.tc : Thread Cert.SiluIdeal.nD Cert.SiluIdeal.τ).loc Cert.SiluIdeal.main_arg0)) →
    ∃ (v0 : (c : Dev Cert.SiluIdeal.nD) → Buf (Elt Ideal) ((c.tc : Thread Cert.SiluIdeal.nD Cert.SiluIdeal.τ).loc Cert.SiluIdeal.main_v0)),
      θ_run (Cert.SiluIdeal.defs (F := Ideal)) (onTc (τ := Cert.SiluIdeal.τ) (Cert.SiluIdeal.main (F := Ideal))) ⟨m, fun _ => 0, g⟩ (fun r => ∀ c : Dev Cert.SiluIdeal.nD,
          r.2.mem ((c.tc : Thread Cert.SiluIdeal.nD Cert.SiluIdeal.τ).loc Cert.SiluIdeal.main_v0) = v0 c
          ∧ r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0))
      ∧ θ_run (Cert.SiluRefIdeal.defs (F := Ideal)) (onTc (τ := Cert.SiluRefIdeal.τ) (Cert.SiluRefIdeal.main (F := Ideal))) ⟨m', fun _ => 0, g'⟩ (fun r => ∀ c : Dev Cert.SiluRefIdeal.nD,
          r.2.mem ((c.tc : Thread Cert.SiluRefIdeal.nD Cert.SiluRefIdeal.τ).loc Cert.SiluRefIdeal.main_v1) = v0 c
          ∧ r.2.mem ((c.tc : Thread Cert.SiluRefIdeal.nD Cert.SiluRefIdeal.τ).loc Cert.SiluRefIdeal.main_arg0) = m' ((c.tc : Thread Cert.SiluRefIdeal.nD Cert.SiluRefIdeal.τ).loc Cert.SiluRefIdeal.main_arg0))

def preserves_Modulate_ModulateIdeal : Prop :=
  True

def algebraic_ModulateIdeal_ModulateRefIdeal [hModulateIdeal : Cert.ModulateIdeal.Facts] [hModulateRefIdeal : Cert.ModulateRefIdeal.Facts] : Prop :=
  ∀ (m : (ℓ : Loc Cert.ModulateIdeal.nD Cert.ModulateIdeal.τ Cert.ModulateIdeal.sig) → Buf (Elt Ideal) ℓ) (g : Dev Cert.ModulateIdeal.nD → PrngReg)
    (m' : (ℓ : Loc Cert.ModulateRefIdeal.nD Cert.ModulateRefIdeal.τ Cert.ModulateRefIdeal.sig) → Buf (Elt Ideal) ℓ) (g' : Dev Cert.ModulateRefIdeal.nD → PrngReg), Pre_ModulateIdeal m →
    (∀ c : Dev Cert.ModulateIdeal.nD,
      m' ((c.tc : Thread Cert.ModulateRefIdeal.nD Cert.ModulateRefIdeal.τ).loc Cert.ModulateRefIdeal.main_arg0) = m ((c.tc : Thread Cert.ModulateIdeal.nD Cert.ModulateIdeal.τ).loc Cert.ModulateIdeal.main_arg0)
      ∧ m' ((c.tc : Thread Cert.ModulateRefIdeal.nD Cert.ModulateRefIdeal.τ).loc Cert.ModulateRefIdeal.main_arg1) = m ((c.tc : Thread Cert.ModulateIdeal.nD Cert.ModulateIdeal.τ).loc Cert.ModulateIdeal.main_arg1)
      ∧ m' ((c.tc : Thread Cert.ModulateRefIdeal.nD Cert.ModulateRefIdeal.τ).loc Cert.ModulateRefIdeal.main_arg2) = m ((c.tc : Thread Cert.ModulateIdeal.nD Cert.ModulateIdeal.τ).loc Cert.ModulateIdeal.main_arg2)) →
    ∃ (v0 : (c : Dev Cert.ModulateIdeal.nD) → Buf (Elt Ideal) ((c.tc : Thread Cert.ModulateIdeal.nD Cert.ModulateIdeal.τ).loc Cert.ModulateIdeal.main_v0)),
      θ_run (Cert.ModulateIdeal.defs (F := Ideal)) (onTc (τ := Cert.ModulateIdeal.τ) (Cert.ModulateIdeal.main (F := Ideal))) ⟨m, fun _ => 0, g⟩ (fun r => ∀ c : Dev Cert.ModulateIdeal.nD,
          r.2.mem ((c.tc : Thread Cert.ModulateIdeal.nD Cert.ModulateIdeal.τ).loc Cert.ModulateIdeal.main_v0) = v0 c
          ∧ r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
          ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
          ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2))
      ∧ θ_run (Cert.ModulateRefIdeal.defs (F := Ideal)) (onTc (τ := Cert.ModulateRefIdeal.τ) (Cert.ModulateRefIdeal.main (F := Ideal))) ⟨m', fun _ => 0, g'⟩ (fun r => ∀ c : Dev Cert.ModulateRefIdeal.nD,
          r.2.mem ((c.tc : Thread Cert.ModulateRefIdeal.nD Cert.ModulateRefIdeal.τ).loc Cert.ModulateRefIdeal.main_v6) = v0 c
          ∧ r.2.mem ((c.tc : Thread Cert.ModulateRefIdeal.nD Cert.ModulateRefIdeal.τ).loc Cert.ModulateRefIdeal.main_arg0) = m' ((c.tc : Thread Cert.ModulateRefIdeal.nD Cert.ModulateRefIdeal.τ).loc Cert.ModulateRefIdeal.main_arg0)
          ∧ r.2.mem ((c.tc : Thread Cert.ModulateRefIdeal.nD Cert.ModulateRefIdeal.τ).loc Cert.ModulateRefIdeal.main_arg1) = m' ((c.tc : Thread Cert.ModulateRefIdeal.nD Cert.ModulateRefIdeal.τ).loc Cert.ModulateRefIdeal.main_arg1)
          ∧ r.2.mem ((c.tc : Thread Cert.ModulateRefIdeal.nD Cert.ModulateRefIdeal.τ).loc Cert.ModulateRefIdeal.main_arg2) = m' ((c.tc : Thread Cert.ModulateRefIdeal.nD Cert.ModulateRefIdeal.τ).loc Cert.ModulateRefIdeal.main_arg2))

def preserves_ColSum_ColSumIdeal : Prop :=
  True

def algebraic_ColSumIdeal_ColSumRefIdeal [hColSumIdeal : Cert.ColSumIdeal.Facts] [hColSumRefIdeal : Cert.ColSumRefIdeal.Facts] : Prop :=
  ∀ (m : (ℓ : Loc Cert.ColSumIdeal.nD Cert.ColSumIdeal.τ Cert.ColSumIdeal.sig) → Buf (Elt Ideal) ℓ) (g : Dev Cert.ColSumIdeal.nD → PrngReg)
    (m' : (ℓ : Loc Cert.ColSumRefIdeal.nD Cert.ColSumRefIdeal.τ Cert.ColSumRefIdeal.sig) → Buf (Elt Ideal) ℓ) (g' : Dev Cert.ColSumRefIdeal.nD → PrngReg), Pre_ColSumIdeal m →
    (∀ c : Dev Cert.ColSumIdeal.nD,
      m' ((c.tc : Thread Cert.ColSumRefIdeal.nD Cert.ColSumRefIdeal.τ).loc Cert.ColSumRefIdeal.main_arg0) = m ((c.tc : Thread Cert.ColSumIdeal.nD Cert.ColSumIdeal.τ).loc Cert.ColSumIdeal.main_arg0)) →
    ∃ (v0 : (c : Dev Cert.ColSumIdeal.nD) → Buf (Elt Ideal) ((c.tc : Thread Cert.ColSumIdeal.nD Cert.ColSumIdeal.τ).loc Cert.ColSumIdeal.main_v0)),
      θ_run (Cert.ColSumIdeal.defs (F := Ideal)) (onTc (τ := Cert.ColSumIdeal.τ) (Cert.ColSumIdeal.main (F := Ideal))) ⟨m, fun _ => 0, g⟩ (fun r => ∀ c : Dev Cert.ColSumIdeal.nD,
          r.2.mem ((c.tc : Thread Cert.ColSumIdeal.nD Cert.ColSumIdeal.τ).loc Cert.ColSumIdeal.main_v0) = v0 c
          ∧ r.2.mem ((c.tc : Thread Cert.ColSumIdeal.nD Cert.ColSumIdeal.τ).loc Cert.ColSumIdeal.main_arg0) = m ((c.tc : Thread Cert.ColSumIdeal.nD Cert.ColSumIdeal.τ).loc Cert.ColSumIdeal.main_arg0))
      ∧ θ_run (Cert.ColSumRefIdeal.defs (F := Ideal)) (onTc (τ := Cert.ColSumRefIdeal.τ) (Cert.ColSumRefIdeal.main (F := Ideal))) ⟨m', fun _ => 0, g'⟩ (fun r => ∀ c : Dev Cert.ColSumRefIdeal.nD,
          r.2.mem ((c.tc : Thread Cert.ColSumRefIdeal.nD Cert.ColSumRefIdeal.τ).loc Cert.ColSumRefIdeal.main_v2) = v0 c
          ∧ r.2.mem ((c.tc : Thread Cert.ColSumRefIdeal.nD Cert.ColSumRefIdeal.τ).loc Cert.ColSumRefIdeal.main_arg0) = m' ((c.tc : Thread Cert.ColSumRefIdeal.nD Cert.ColSumRefIdeal.τ).loc Cert.ColSumRefIdeal.main_arg0))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)) →
    ∃ (v0 : (c : Dev Cert.AdaFwdIdeal.nD) → Buf (Elt Ideal) ((c.tc : Thread Cert.AdaFwdIdeal.nD Cert.AdaFwdIdeal.τ).loc Cert.AdaFwdIdeal.main_v0)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v0) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v2) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1))

def preserves_GlaIn_GlaInIdeal : Prop :=
  True

def algebraic_GlaInIdeal_GlaInRefIdeal [hGlaInIdeal : Cert.GlaInIdeal.Facts] [hGlaInRefIdeal : Cert.GlaInRefIdeal.Facts] : Prop :=
  ∀ (m : (ℓ : Loc Cert.GlaInIdeal.nD Cert.GlaInIdeal.τ Cert.GlaInIdeal.sig) → Buf (Elt Ideal) ℓ) (g : Dev Cert.GlaInIdeal.nD → PrngReg)
    (m' : (ℓ : Loc Cert.GlaInRefIdeal.nD Cert.GlaInRefIdeal.τ Cert.GlaInRefIdeal.sig) → Buf (Elt Ideal) ℓ) (g' : Dev Cert.GlaInRefIdeal.nD → PrngReg), Pre_GlaInIdeal m →
    (∀ c : Dev Cert.GlaInIdeal.nD,
      m' ((c.tc : Thread Cert.GlaInRefIdeal.nD Cert.GlaInRefIdeal.τ).loc Cert.GlaInRefIdeal.main_arg0) = m ((c.tc : Thread Cert.GlaInIdeal.nD Cert.GlaInIdeal.τ).loc Cert.GlaInIdeal.main_arg0)
      ∧ m' ((c.tc : Thread Cert.GlaInRefIdeal.nD Cert.GlaInRefIdeal.τ).loc Cert.GlaInRefIdeal.main_arg1) = m ((c.tc : Thread Cert.GlaInIdeal.nD Cert.GlaInIdeal.τ).loc Cert.GlaInIdeal.main_arg1)) →
    ∃ (v0 : (c : Dev Cert.GlaInIdeal.nD) → Buf (Elt Ideal) ((c.tc : Thread Cert.GlaInIdeal.nD Cert.GlaInIdeal.τ).loc Cert.GlaInIdeal.main_v0)),
      θ_run (Cert.GlaInIdeal.defs (F := Ideal)) (onTc (τ := Cert.GlaInIdeal.τ) (Cert.GlaInIdeal.main (F := Ideal))) ⟨m, fun _ => 0, g⟩ (fun r => ∀ c : Dev Cert.GlaInIdeal.nD,
          r.2.mem ((c.tc : Thread Cert.GlaInIdeal.nD Cert.GlaInIdeal.τ).loc Cert.GlaInIdeal.main_v0) = v0 c
          ∧ r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
          ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1))
      ∧ θ_run (Cert.GlaInRefIdeal.defs (F := Ideal)) (onTc (τ := Cert.GlaInRefIdeal.τ) (Cert.GlaInRefIdeal.main (F := Ideal))) ⟨m', fun _ => 0, g'⟩ (fun r => ∀ c : Dev Cert.GlaInRefIdeal.nD,
          r.2.mem ((c.tc : Thread Cert.GlaInRefIdeal.nD Cert.GlaInRefIdeal.τ).loc Cert.GlaInRefIdeal.main_v2) = v0 c
          ∧ r.2.mem ((c.tc : Thread Cert.GlaInRefIdeal.nD Cert.GlaInRefIdeal.τ).loc Cert.GlaInRefIdeal.main_arg0) = m' ((c.tc : Thread Cert.GlaInRefIdeal.nD Cert.GlaInRefIdeal.τ).loc Cert.GlaInRefIdeal.main_arg0)
          ∧ r.2.mem ((c.tc : Thread Cert.GlaInRefIdeal.nD Cert.GlaInRefIdeal.τ).loc Cert.GlaInRefIdeal.main_arg1) = m' ((c.tc : Thread Cert.GlaInRefIdeal.nD Cert.GlaInRefIdeal.τ).loc Cert.GlaInRefIdeal.main_arg1))

def preserves_GlaDz_GlaDzIdeal : Prop :=
  True

def algebraic_GlaDzIdeal_GlaDzRefIdeal [hGlaDzIdeal : Cert.GlaDzIdeal.Facts] [hGlaDzRefIdeal : Cert.GlaDzRefIdeal.Facts] : Prop :=
  ∀ (m : (ℓ : Loc Cert.GlaDzIdeal.nD Cert.GlaDzIdeal.τ Cert.GlaDzIdeal.sig) → Buf (Elt Ideal) ℓ) (g : Dev Cert.GlaDzIdeal.nD → PrngReg)
    (m' : (ℓ : Loc Cert.GlaDzRefIdeal.nD Cert.GlaDzRefIdeal.τ Cert.GlaDzRefIdeal.sig) → Buf (Elt Ideal) ℓ) (g' : Dev Cert.GlaDzRefIdeal.nD → PrngReg), Pre_GlaDzIdeal m →
    (∀ c : Dev Cert.GlaDzIdeal.nD,
      m' ((c.tc : Thread Cert.GlaDzRefIdeal.nD Cert.GlaDzRefIdeal.τ).loc Cert.GlaDzRefIdeal.main_arg0) = m ((c.tc : Thread Cert.GlaDzIdeal.nD Cert.GlaDzIdeal.τ).loc Cert.GlaDzIdeal.main_arg0)
      ∧ m' ((c.tc : Thread Cert.GlaDzRefIdeal.nD Cert.GlaDzRefIdeal.τ).loc Cert.GlaDzRefIdeal.main_arg1) = m ((c.tc : Thread Cert.GlaDzIdeal.nD Cert.GlaDzIdeal.τ).loc Cert.GlaDzIdeal.main_arg1)) →
    ∃ (v0 : (c : Dev Cert.GlaDzIdeal.nD) → Buf (Elt Ideal) ((c.tc : Thread Cert.GlaDzIdeal.nD Cert.GlaDzIdeal.τ).loc Cert.GlaDzIdeal.main_v0)),
      θ_run (Cert.GlaDzIdeal.defs (F := Ideal)) (onTc (τ := Cert.GlaDzIdeal.τ) (Cert.GlaDzIdeal.main (F := Ideal))) ⟨m, fun _ => 0, g⟩ (fun r => ∀ c : Dev Cert.GlaDzIdeal.nD,
          r.2.mem ((c.tc : Thread Cert.GlaDzIdeal.nD Cert.GlaDzIdeal.τ).loc Cert.GlaDzIdeal.main_v0) = v0 c
          ∧ r.2.mem ((c.tc : Thread Cert.GlaDzIdeal.nD Cert.GlaDzIdeal.τ).loc Cert.GlaDzIdeal.main_arg0) = m ((c.tc : Thread Cert.GlaDzIdeal.nD Cert.GlaDzIdeal.τ).loc Cert.GlaDzIdeal.main_arg0)
          ∧ r.2.mem ((c.tc : Thread Cert.GlaDzIdeal.nD Cert.GlaDzIdeal.τ).loc Cert.GlaDzIdeal.main_arg1) = m ((c.tc : Thread Cert.GlaDzIdeal.nD Cert.GlaDzIdeal.τ).loc Cert.GlaDzIdeal.main_arg1))
      ∧ θ_run (Cert.GlaDzRefIdeal.defs (F := Ideal)) (onTc (τ := Cert.GlaDzRefIdeal.τ) (Cert.GlaDzRefIdeal.main (F := Ideal))) ⟨m', fun _ => 0, g'⟩ (fun r => ∀ c : Dev Cert.GlaDzRefIdeal.nD,
          r.2.mem ((c.tc : Thread Cert.GlaDzRefIdeal.nD Cert.GlaDzRefIdeal.τ).loc Cert.GlaDzRefIdeal.main_v2) = v0 c
          ∧ r.2.mem ((c.tc : Thread Cert.GlaDzRefIdeal.nD Cert.GlaDzRefIdeal.τ).loc Cert.GlaDzRefIdeal.main_arg0) = m' ((c.tc : Thread Cert.GlaDzRefIdeal.nD Cert.GlaDzRefIdeal.τ).loc Cert.GlaDzRefIdeal.main_arg0)
          ∧ r.2.mem ((c.tc : Thread Cert.GlaDzRefIdeal.nD Cert.GlaDzRefIdeal.τ).loc Cert.GlaDzRefIdeal.main_arg1) = m' ((c.tc : Thread Cert.GlaDzRefIdeal.nD Cert.GlaDzRefIdeal.τ).loc Cert.GlaDzRefIdeal.main_arg1))

def preserves_AttIn_AttInIdeal : Prop :=
  True

def algebraic_AttInIdeal_AttInRefIdeal [hAttInIdeal : Cert.AttInIdeal.Facts] [hAttInRefIdeal : Cert.AttInRefIdeal.Facts] : Prop :=
  ∀ (m : (ℓ : Loc Cert.AttInIdeal.nD Cert.AttInIdeal.τ Cert.AttInIdeal.sig) → Buf (Elt Ideal) ℓ) (g : Dev Cert.AttInIdeal.nD → PrngReg)
    (m' : (ℓ : Loc Cert.AttInRefIdeal.nD Cert.AttInRefIdeal.τ Cert.AttInRefIdeal.sig) → Buf (Elt Ideal) ℓ) (g' : Dev Cert.AttInRefIdeal.nD → PrngReg), Pre_AttInIdeal m →
    (∀ c : Dev Cert.AttInIdeal.nD,
      m' ((c.tc : Thread Cert.AttInRefIdeal.nD Cert.AttInRefIdeal.τ).loc Cert.AttInRefIdeal.main_arg0) = m ((c.tc : Thread Cert.AttInIdeal.nD Cert.AttInIdeal.τ).loc Cert.AttInIdeal.main_arg0)
      ∧ m' ((c.tc : Thread Cert.AttInRefIdeal.nD Cert.AttInRefIdeal.τ).loc Cert.AttInRefIdeal.main_arg1) = m ((c.tc : Thread Cert.AttInIdeal.nD Cert.AttInIdeal.τ).loc Cert.AttInIdeal.main_arg1)
      ∧ m' ((c.tc : Thread Cert.AttInRefIdeal.nD Cert.AttInRefIdeal.τ).loc Cert.AttInRefIdeal.main_arg2) = m ((c.tc : Thread Cert.AttInIdeal.nD Cert.AttInIdeal.τ).loc Cert.AttInIdeal.main_arg2)) →
    ∃ (v0 : (c : Dev Cert.AttInIdeal.nD) → Buf (Elt Ideal) ((c.tc : Thread Cert.AttInIdeal.nD Cert.AttInIdeal.τ).loc Cert.AttInIdeal.main_v0)),
      θ_run (Cert.AttInIdeal.defs (F := Ideal)) (onTc (τ := Cert.AttInIdeal.τ) (Cert.AttInIdeal.main (F := Ideal))) ⟨m, fun _ => 0, g⟩ (fun r => ∀ c : Dev Cert.AttInIdeal.nD,
          r.2.mem ((c.tc : Thread Cert.AttInIdeal.nD Cert.AttInIdeal.τ).loc Cert.AttInIdeal.main_v0) = v0 c
          ∧ r.2.mem ((c.tc : Thread Cert.AttInIdeal.nD Cert.AttInIdeal.τ).loc Cert.AttInIdeal.main_arg0) = m ((c.tc : Thread Cert.AttInIdeal.nD Cert.AttInIdeal.τ).loc Cert.AttInIdeal.main_arg0)
          ∧ r.2.mem ((c.tc : Thread Cert.AttInIdeal.nD Cert.AttInIdeal.τ).loc Cert.AttInIdeal.main_arg1) = m ((c.tc : Thread Cert.AttInIdeal.nD Cert.AttInIdeal.τ).loc Cert.AttInIdeal.main_arg1)
          ∧ r.2.mem ((c.tc : Thread Cert.AttInIdeal.nD Cert.AttInIdeal.τ).loc Cert.AttInIdeal.main_arg2) = m ((c.tc : Thread Cert.AttInIdeal.nD Cert.AttInIdeal.τ).loc Cert.AttInIdeal.main_arg2))
      ∧ θ_run (Cert.AttInRefIdeal.defs (F := Ideal)) (onTc (τ := Cert.AttInRefIdeal.τ) (Cert.AttInRefIdeal.main (F := Ideal))) ⟨m', fun _ => 0, g'⟩ (fun r => ∀ c : Dev Cert.AttInRefIdeal.nD,
          r.2.mem ((c.tc : Thread Cert.AttInRefIdeal.nD Cert.AttInRefIdeal.τ).loc Cert.AttInRefIdeal.main_v4) = v0 c
          ∧ r.2.mem ((c.tc : Thread Cert.AttInRefIdeal.nD Cert.AttInRefIdeal.τ).loc Cert.AttInRefIdeal.main_arg0) = m' ((c.tc : Thread Cert.AttInRefIdeal.nD Cert.AttInRefIdeal.τ).loc Cert.AttInRefIdeal.main_arg0)
          ∧ r.2.mem ((c.tc : Thread Cert.AttInRefIdeal.nD Cert.AttInRefIdeal.τ).loc Cert.AttInRefIdeal.main_arg1) = m' ((c.tc : Thread Cert.AttInRefIdeal.nD Cert.AttInRefIdeal.τ).loc Cert.AttInRefIdeal.main_arg1)
          ∧ r.2.mem ((c.tc : Thread Cert.AttInRefIdeal.nD Cert.AttInRefIdeal.τ).loc Cert.AttInRefIdeal.main_arg2) = m' ((c.tc : Thread Cert.AttInRefIdeal.nD Cert.AttInRefIdeal.τ).loc Cert.AttInRefIdeal.main_arg2))

def preserves_FfUp_FfUpIdeal : Prop :=
  True

def algebraic_FfUpIdeal_FfUpRefIdeal [hFfUpIdeal : Cert.FfUpIdeal.Facts] [hFfUpRefIdeal : Cert.FfUpRefIdeal.Facts] : Prop :=
  ∀ (m : (ℓ : Loc Cert.FfUpIdeal.nD Cert.FfUpIdeal.τ Cert.FfUpIdeal.sig) → Buf (Elt Ideal) ℓ) (g : Dev Cert.FfUpIdeal.nD → PrngReg)
    (m' : (ℓ : Loc Cert.FfUpRefIdeal.nD Cert.FfUpRefIdeal.τ Cert.FfUpRefIdeal.sig) → Buf (Elt Ideal) ℓ) (g' : Dev Cert.FfUpRefIdeal.nD → PrngReg), Pre_FfUpIdeal m →
    (∀ c : Dev Cert.FfUpIdeal.nD,
      m' ((c.tc : Thread Cert.FfUpRefIdeal.nD Cert.FfUpRefIdeal.τ).loc Cert.FfUpRefIdeal.main_arg0) = m ((c.tc : Thread Cert.FfUpIdeal.nD Cert.FfUpIdeal.τ).loc Cert.FfUpIdeal.main_arg0)
      ∧ m' ((c.tc : Thread Cert.FfUpRefIdeal.nD Cert.FfUpRefIdeal.τ).loc Cert.FfUpRefIdeal.main_arg1) = m ((c.tc : Thread Cert.FfUpIdeal.nD Cert.FfUpIdeal.τ).loc Cert.FfUpIdeal.main_arg1)) →
    ∃ (v0 : (c : Dev Cert.FfUpIdeal.nD) → Buf (Elt Ideal) ((c.tc : Thread Cert.FfUpIdeal.nD Cert.FfUpIdeal.τ).loc Cert.FfUpIdeal.main_v0_0)) (v1 : (c : Dev Cert.FfUpIdeal.nD) → Buf (Elt Ideal) ((c.tc : Thread Cert.FfUpIdeal.nD Cert.FfUpIdeal.τ).loc Cert.FfUpIdeal.main_v0_1)),
      θ_run (Cert.FfUpIdeal.defs (F := Ideal)) (onTc (τ := Cert.FfUpIdeal.τ) (Cert.FfUpIdeal.main (F := Ideal))) ⟨m, fun _ => 0, g⟩ (fun r => ∀ c : Dev Cert.FfUpIdeal.nD,
          r.2.mem ((c.tc : Thread Cert.FfUpIdeal.nD Cert.FfUpIdeal.τ).loc Cert.FfUpIdeal.main_v0_0) = v0 c
          ∧ r.2.mem ((c.tc : Thread Cert.FfUpIdeal.nD Cert.FfUpIdeal.τ).loc Cert.FfUpIdeal.main_v0_1) = v1 c
          ∧ r.2.mem ((c.tc : Thread Cert.FfUpIdeal.nD Cert.FfUpIdeal.τ).loc Cert.FfUpIdeal.main_arg0) = m ((c.tc : Thread Cert.FfUpIdeal.nD Cert.FfUpIdeal.τ).loc Cert.FfUpIdeal.main_arg0)
          ∧ r.2.mem ((c.tc : Thread Cert.FfUpIdeal.nD Cert.FfUpIdeal.τ).loc Cert.FfUpIdeal.main_arg1) = m ((c.tc : Thread Cert.FfUpIdeal.nD Cert.FfUpIdeal.τ).loc Cert.FfUpIdeal.main_arg1))
      ∧ θ_run (Cert.FfUpRefIdeal.defs (F := Ideal)) (onTc (τ := Cert.FfUpRefIdeal.τ) (Cert.FfUpRefIdeal.main (F := Ideal))) ⟨m', fun _ => 0, g'⟩ (fun r => ∀ c : Dev Cert.FfUpRefIdeal.nD,
          r.2.mem ((c.tc : Thread Cert.FfUpRefIdeal.nD Cert.FfUpRefIdeal.τ).loc Cert.FfUpRefIdeal.main_v2) = v0 c
          ∧ r.2.mem ((c.tc : Thread Cert.FfUpRefIdeal.nD Cert.FfUpRefIdeal.τ).loc Cert.FfUpRefIdeal.main_v6) = v1 c
          ∧ r.2.mem ((c.tc : Thread Cert.FfUpRefIdeal.nD Cert.FfUpRefIdeal.τ).loc Cert.FfUpRefIdeal.main_arg0) = m' ((c.tc : Thread Cert.FfUpRefIdeal.nD Cert.FfUpRefIdeal.τ).loc Cert.FfUpRefIdeal.main_arg0)
          ∧ r.2.mem ((c.tc : Thread Cert.FfUpRefIdeal.nD Cert.FfUpRefIdeal.τ).loc Cert.FfUpRefIdeal.main_arg1) = m' ((c.tc : Thread Cert.FfUpRefIdeal.nD Cert.FfUpRefIdeal.τ).loc Cert.FfUpRefIdeal.main_arg1))

def preserves_FfDn_FfDnIdeal : Prop :=
  True

def algebraic_FfDnIdeal_FfDnRefIdeal [hFfDnIdeal : Cert.FfDnIdeal.Facts] [hFfDnRefIdeal : Cert.FfDnRefIdeal.Facts] : Prop :=
  ∀ (m : (ℓ : Loc Cert.FfDnIdeal.nD Cert.FfDnIdeal.τ Cert.FfDnIdeal.sig) → Buf (Elt Ideal) ℓ) (g : Dev Cert.FfDnIdeal.nD → PrngReg)
    (m' : (ℓ : Loc Cert.FfDnRefIdeal.nD Cert.FfDnRefIdeal.τ Cert.FfDnRefIdeal.sig) → Buf (Elt Ideal) ℓ) (g' : Dev Cert.FfDnRefIdeal.nD → PrngReg), Pre_FfDnIdeal m →
    (∀ c : Dev Cert.FfDnIdeal.nD,
      m' ((c.tc : Thread Cert.FfDnRefIdeal.nD Cert.FfDnRefIdeal.τ).loc Cert.FfDnRefIdeal.main_arg0) = m ((c.tc : Thread Cert.FfDnIdeal.nD Cert.FfDnIdeal.τ).loc Cert.FfDnIdeal.main_arg0)
      ∧ m' ((c.tc : Thread Cert.FfDnRefIdeal.nD Cert.FfDnRefIdeal.τ).loc Cert.FfDnRefIdeal.main_arg1) = m ((c.tc : Thread Cert.FfDnIdeal.nD Cert.FfDnIdeal.τ).loc Cert.FfDnIdeal.main_arg1)
      ∧ m' ((c.tc : Thread Cert.FfDnRefIdeal.nD Cert.FfDnRefIdeal.τ).loc Cert.FfDnRefIdeal.main_arg2) = m ((c.tc : Thread Cert.FfDnIdeal.nD Cert.FfDnIdeal.τ).loc Cert.FfDnIdeal.main_arg2)) →
    ∃ (v0 : (c : Dev Cert.FfDnIdeal.nD) → Buf (Elt Ideal) ((c.tc : Thread Cert.FfDnIdeal.nD Cert.FfDnIdeal.τ).loc Cert.FfDnIdeal.main_v0)),
      θ_run (Cert.FfDnIdeal.defs (F := Ideal)) (onTc (τ := Cert.FfDnIdeal.τ) (Cert.FfDnIdeal.main (F := Ideal))) ⟨m, fun _ => 0, g⟩ (fun r => ∀ c : Dev Cert.FfDnIdeal.nD,
          r.2.mem ((c.tc : Thread Cert.FfDnIdeal.nD Cert.FfDnIdeal.τ).loc Cert.FfDnIdeal.main_v0) = v0 c
          ∧ r.2.mem ((c.tc : Thread Cert.FfDnIdeal.nD Cert.FfDnIdeal.τ).loc Cert.FfDnIdeal.main_arg0) = m ((c.tc : Thread Cert.FfDnIdeal.nD Cert.FfDnIdeal.τ).loc Cert.FfDnIdeal.main_arg0)
          ∧ r.2.mem ((c.tc : Thread Cert.FfDnIdeal.nD Cert.FfDnIdeal.τ).loc Cert.FfDnIdeal.main_arg1) = m ((c.tc : Thread Cert.FfDnIdeal.nD Cert.FfDnIdeal.τ).loc Cert.FfDnIdeal.main_arg1)
          ∧ r.2.mem ((c.tc : Thread Cert.FfDnIdeal.nD Cert.FfDnIdeal.τ).loc Cert.FfDnIdeal.main_arg2) = m ((c.tc : Thread Cert.FfDnIdeal.nD Cert.FfDnIdeal.τ).loc Cert.FfDnIdeal.main_arg2))
      ∧ θ_run (Cert.FfDnRefIdeal.defs (F := Ideal)) (onTc (τ := Cert.FfDnRefIdeal.τ) (Cert.FfDnRefIdeal.main (F := Ideal))) ⟨m', fun _ => 0, g'⟩ (fun r => ∀ c : Dev Cert.FfDnRefIdeal.nD,
          r.2.mem ((c.tc : Thread Cert.FfDnRefIdeal.nD Cert.FfDnRefIdeal.τ).loc Cert.FfDnRefIdeal.main_v8) = v0 c
          ∧ r.2.mem ((c.tc : Thread Cert.FfDnRefIdeal.nD Cert.FfDnRefIdeal.τ).loc Cert.FfDnRefIdeal.main_arg0) = m' ((c.tc : Thread Cert.FfDnRefIdeal.nD Cert.FfDnRefIdeal.τ).loc Cert.FfDnRefIdeal.main_arg0)
          ∧ r.2.mem ((c.tc : Thread Cert.FfDnRefIdeal.nD Cert.FfDnRefIdeal.τ).loc Cert.FfDnRefIdeal.main_arg1) = m' ((c.tc : Thread Cert.FfDnRefIdeal.nD Cert.FfDnRefIdeal.τ).loc Cert.FfDnRefIdeal.main_arg1)
          ∧ r.2.mem ((c.tc : Thread Cert.FfDnRefIdeal.nD Cert.FfDnRefIdeal.τ).loc Cert.FfDnRefIdeal.main_arg2) = m' ((c.tc : Thread Cert.FfDnRefIdeal.nD Cert.FfDnRefIdeal.τ).loc Cert.FfDnRefIdeal.main_arg2))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)) →
    ∃ (v0 : (c : Dev Cert.MixOutIdeal.nD) → Buf (Elt Ideal) ((c.tc : Thread Cert.MixOutIdeal.nD Cert.MixOutIdeal.τ).loc Cert.MixOutIdeal.main_v0_0)) (v1 : (c : Dev Cert.MixOutIdeal.nD) → Buf (Elt Ideal) ((c.tc : Thread Cert.MixOutIdeal.nD Cert.MixOutIdeal.τ).loc Cert.MixOutIdeal.main_v0_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0_0) = v0 c
          ∧ r.2.mem ((c.tc : Thread Cert.MixOutIdeal.nD Cert.MixOutIdeal.τ).loc Cert.MixOutIdeal.main_v0_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v2) = v0 c
          ∧ r.2.mem ((c.tc : Thread Cert.MixOutRefIdeal.nD Cert.MixOutRefIdeal.τ).loc Cert.MixOutRefIdeal.main_v29) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5))

def preserves_FfOut_FfOutIdeal : Prop :=
  True

def algebraic_FfOutIdeal_FfOutRefIdeal [hFfOutIdeal : Cert.FfOutIdeal.Facts] [hFfOutRefIdeal : Cert.FfOutRefIdeal.Facts] : Prop :=
  ∀ (m : (ℓ : Loc Cert.FfOutIdeal.nD Cert.FfOutIdeal.τ Cert.FfOutIdeal.sig) → Buf (Elt Ideal) ℓ) (g : Dev Cert.FfOutIdeal.nD → PrngReg)
    (m' : (ℓ : Loc Cert.FfOutRefIdeal.nD Cert.FfOutRefIdeal.τ Cert.FfOutRefIdeal.sig) → Buf (Elt Ideal) ℓ) (g' : Dev Cert.FfOutRefIdeal.nD → PrngReg), Pre_FfOutIdeal m →
    (∀ c : Dev Cert.FfOutIdeal.nD,
      m' ((c.tc : Thread Cert.FfOutRefIdeal.nD Cert.FfOutRefIdeal.τ).loc Cert.FfOutRefIdeal.main_arg0) = m ((c.tc : Thread Cert.FfOutIdeal.nD Cert.FfOutIdeal.τ).loc Cert.FfOutIdeal.main_arg0)
      ∧ m' ((c.tc : Thread Cert.FfOutRefIdeal.nD Cert.FfOutRefIdeal.τ).loc Cert.FfOutRefIdeal.main_arg1) = m ((c.tc : Thread Cert.FfOutIdeal.nD Cert.FfOutIdeal.τ).loc Cert.FfOutIdeal.main_arg1)
      ∧ m' ((c.tc : Thread Cert.FfOutRefIdeal.nD Cert.FfOutRefIdeal.τ).loc Cert.FfOutRefIdeal.main_arg2) = m ((c.tc : Thread Cert.FfOutIdeal.nD Cert.FfOutIdeal.τ).loc Cert.FfOutIdeal.main_arg2)
      ∧ m' ((c.tc : Thread Cert.FfOutRefIdeal.nD Cert.FfOutRefIdeal.τ).loc Cert.FfOutRefIdeal.main_arg3) = m ((c.tc : Thread Cert.FfOutIdeal.nD Cert.FfOutIdeal.τ).loc Cert.FfOutIdeal.main_arg3)
      ∧ m' ((c.tc : Thread Cert.FfOutRefIdeal.nD Cert.FfOutRefIdeal.τ).loc Cert.FfOutRefIdeal.main_arg4) = m ((c.tc : Thread Cert.FfOutIdeal.nD Cert.FfOutIdeal.τ).loc Cert.FfOutIdeal.main_arg4)
      ∧ m' ((c.tc : Thread Cert.FfOutRefIdeal.nD Cert.FfOutRefIdeal.τ).loc Cert.FfOutRefIdeal.main_arg5) = m ((c.tc : Thread Cert.FfOutIdeal.nD Cert.FfOutIdeal.τ).loc Cert.FfOutIdeal.main_arg5)) →
    ∃ (v0 : (c : Dev Cert.FfOutIdeal.nD) → Buf (Elt Ideal) ((c.tc : Thread Cert.FfOutIdeal.nD Cert.FfOutIdeal.τ).loc Cert.FfOutIdeal.main_v0_0)) (v1 : (c : Dev Cert.FfOutIdeal.nD) → Buf (Elt Ideal) ((c.tc : Thread Cert.FfOutIdeal.nD Cert.FfOutIdeal.τ).loc Cert.FfOutIdeal.main_v0_1)),
      θ_run (Cert.FfOutIdeal.defs (F := Ideal)) (onTc (τ := Cert.FfOutIdeal.τ) (Cert.FfOutIdeal.main (F := Ideal))) ⟨m, fun _ => 0, g⟩ (fun r => ∀ c : Dev Cert.FfOutIdeal.nD,
          r.2.mem ((c.tc : Thread Cert.FfOutIdeal.nD Cert.FfOutIdeal.τ).loc Cert.FfOutIdeal.main_v0_0) = v0 c
          ∧ r.2.mem ((c.tc : Thread Cert.FfOutIdeal.nD Cert.FfOutIdeal.τ).loc Cert.FfOutIdeal.main_v0_1) = v1 c
          ∧ r.2.mem ((c.tc : Thread Cert.FfOutIdeal.nD Cert.FfOutIdeal.τ).loc Cert.FfOutIdeal.main_arg0) = m ((c.tc : Thread Cert.FfOutIdeal.nD Cert.FfOutIdeal.τ).loc Cert.FfOutIdeal.main_arg0)
          ∧ r.2.mem ((c.tc : Thread Cert.FfOutIdeal.nD Cert.FfOutIdeal.τ).loc Cert.FfOutIdeal.main_arg1) = m ((c.tc : Thread Cert.FfOutIdeal.nD Cert.FfOutIdeal.τ).loc Cert.FfOutIdeal.main_arg1)
          ∧ r.2.mem ((c.tc : Thread Cert.FfOutIdeal.nD Cert.FfOutIdeal.τ).loc Cert.FfOutIdeal.main_arg2) = m ((c.tc : Thread Cert.FfOutIdeal.nD Cert.FfOutIdeal.τ).loc Cert.FfOutIdeal.main_arg2)
          ∧ r.2.mem ((c.tc : Thread Cert.FfOutIdeal.nD Cert.FfOutIdeal.τ).loc Cert.FfOutIdeal.main_arg3) = m ((c.tc : Thread Cert.FfOutIdeal.nD Cert.FfOutIdeal.τ).loc Cert.FfOutIdeal.main_arg3)
          ∧ r.2.mem ((c.tc : Thread Cert.FfOutIdeal.nD Cert.FfOutIdeal.τ).loc Cert.FfOutIdeal.main_arg4) = m ((c.tc : Thread Cert.FfOutIdeal.nD Cert.FfOutIdeal.τ).loc Cert.FfOutIdeal.main_arg4)
          ∧ r.2.mem ((c.tc : Thread Cert.FfOutIdeal.nD Cert.FfOutIdeal.τ).loc Cert.FfOutIdeal.main_arg5) = m ((c.tc : Thread Cert.FfOutIdeal.nD Cert.FfOutIdeal.τ).loc Cert.FfOutIdeal.main_arg5))
      ∧ θ_run (Cert.FfOutRefIdeal.defs (F := Ideal)) (onTc (τ := Cert.FfOutRefIdeal.τ) (Cert.FfOutRefIdeal.main (F := Ideal))) ⟨m', fun _ => 0, g'⟩ (fun r => ∀ c : Dev Cert.FfOutRefIdeal.nD,
          r.2.mem ((c.tc : Thread Cert.FfOutRefIdeal.nD Cert.FfOutRefIdeal.τ).loc Cert.FfOutRefIdeal.main_v2) = v0 c
          ∧ r.2.mem ((c.tc : Thread Cert.FfOutRefIdeal.nD Cert.FfOutRefIdeal.τ).loc Cert.FfOutRefIdeal.main_v29) = v1 c
          ∧ r.2.mem ((c.tc : Thread Cert.FfOutRefIdeal.nD Cert.FfOutRefIdeal.τ).loc Cert.FfOutRefIdeal.main_arg0) = m' ((c.tc : Thread Cert.FfOutRefIdeal.nD Cert.FfOutRefIdeal.τ).loc Cert.FfOutRefIdeal.main_arg0)
          ∧ r.2.mem ((c.tc : Thread Cert.FfOutRefIdeal.nD Cert.FfOutRefIdeal.τ).loc Cert.FfOutRefIdeal.main_arg1) = m' ((c.tc : Thread Cert.FfOutRefIdeal.nD Cert.FfOutRefIdeal.τ).loc Cert.FfOutRefIdeal.main_arg1)
          ∧ r.2.mem ((c.tc : Thread Cert.FfOutRefIdeal.nD Cert.FfOutRefIdeal.τ).loc Cert.FfOutRefIdeal.main_arg2) = m' ((c.tc : Thread Cert.FfOutRefIdeal.nD Cert.FfOutRefIdeal.τ).loc Cert.FfOutRefIdeal.main_arg2)
          ∧ r.2.mem ((c.tc : Thread Cert.FfOutRefIdeal.nD Cert.FfOutRefIdeal.τ).loc Cert.FfOutRefIdeal.main_arg3) = m' ((c.tc : Thread Cert.FfOutRefIdeal.nD Cert.FfOutRefIdeal.τ).loc Cert.FfOutRefIdeal.main_arg3)
          ∧ r.2.mem ((c.tc : Thread Cert.FfOutRefIdeal.nD Cert.FfOutRefIdeal.τ).loc Cert.FfOutRefIdeal.main_arg4) = m' ((c.tc : Thread Cert.FfOutRefIdeal.nD Cert.FfOutRefIdeal.τ).loc Cert.FfOutRefIdeal.main_arg4)
          ∧ r.2.mem ((c.tc : Thread Cert.FfOutRefIdeal.nD Cert.FfOutRefIdeal.τ).loc Cert.FfOutRefIdeal.main_arg5) = m' ((c.tc : Thread Cert.FfOutRefIdeal.nD Cert.FfOutRefIdeal.τ).loc Cert.FfOutRefIdeal.main_arg5))

def preserves_LnBwd_LnBwdIdeal : Prop :=
  True

def algebraic_LnBwdIdeal_LnBwdRefIdeal [hLnBwdIdeal : Cert.LnBwdIdeal.Facts] [hLnBwdRefIdeal : Cert.LnBwdRefIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)
      ∧ m' ((c.tc : Thread Cert.LnBwdRefIdeal.nD Cert.LnBwdRefIdeal.τ).loc Cert.LnBwdRefIdeal.main_arg3) = m ((c.tc : Thread Cert.LnBwdIdeal.nD Cert.LnBwdIdeal.τ).loc Cert.LnBwdIdeal.main_arg3)
      ∧ m' ((c.tc : Thread Cert.LnBwdRefIdeal.nD Cert.LnBwdRefIdeal.τ).loc Cert.LnBwdRefIdeal.main_arg4) = m ((c.tc : Thread Cert.LnBwdIdeal.nD Cert.LnBwdIdeal.τ).loc Cert.LnBwdIdeal.main_arg4)) →
    ∃ (v0 : (c : Dev Cert.LnBwdIdeal.nD) → Buf (Elt Ideal) ((c.tc : Thread Cert.LnBwdIdeal.nD Cert.LnBwdIdeal.τ).loc Cert.LnBwdIdeal.main_v0_0)) (v1 : (c : Dev Cert.LnBwdIdeal.nD) → Buf (Elt Ideal) ((c.tc : Thread Cert.LnBwdIdeal.nD Cert.LnBwdIdeal.τ).loc Cert.LnBwdIdeal.main_v0_1)) (v2 : (c : Dev Cert.LnBwdIdeal.nD) → Buf (Elt Ideal) ((c.tc : Thread Cert.LnBwdIdeal.nD Cert.LnBwdIdeal.τ).loc Cert.LnBwdIdeal.main_v0_2)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v0_0) = v0 c
          ∧ r.2.mem ((c.tc : Thread Cert.LnBwdIdeal.nD Cert.LnBwdIdeal.τ).loc Cert.LnBwdIdeal.main_v0_1) = v1 c
          ∧ r.2.mem ((c.tc : Thread Cert.LnBwdIdeal.nD Cert.LnBwdIdeal.τ).loc Cert.LnBwdIdeal.main_v0_2) = v2 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
          ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v38) = v0 c
          ∧ r.2.mem ((c.tc : Thread Cert.LnBwdRefIdeal.nD Cert.LnBwdRefIdeal.τ).loc Cert.LnBwdRefIdeal.main_v50) = v1 c
          ∧ r.2.mem ((c.tc : Thread Cert.LnBwdRefIdeal.nD Cert.LnBwdRefIdeal.τ).loc Cert.LnBwdRefIdeal.main_v52) = v2 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2)
          ∧ r.2.mem ((c.tc : Thread Cert.LnBwdRefIdeal.nD Cert.LnBwdRefIdeal.τ).loc Cert.LnBwdRefIdeal.main_arg3) = m' ((c.tc : Thread Cert.LnBwdRefIdeal.nD Cert.LnBwdRefIdeal.τ).loc Cert.LnBwdRefIdeal.main_arg3)
          ∧ r.2.mem ((c.tc : Thread Cert.LnBwdRefIdeal.nD Cert.LnBwdRefIdeal.τ).loc Cert.LnBwdRefIdeal.main_arg4) = m' ((c.tc : Thread Cert.LnBwdRefIdeal.nD Cert.LnBwdRefIdeal.τ).loc Cert.LnBwdRefIdeal.main_arg4))

def preserves_Diag_DiagIdeal : Prop :=
  True

def algebraic_DiagIdeal_DiagRefIdeal [hDiagIdeal : Cert.DiagIdeal.Facts] [hDiagRefIdeal : Cert.DiagRefIdeal.Facts] : Prop :=
  ∀ (m : (ℓ : Loc Cert.DiagIdeal.nD Cert.DiagIdeal.τ Cert.DiagIdeal.sig) → Buf (Elt Ideal) ℓ) (g : Dev Cert.DiagIdeal.nD → PrngReg)
    (m' : (ℓ : Loc Cert.DiagRefIdeal.nD Cert.DiagRefIdeal.τ Cert.DiagRefIdeal.sig) → Buf (Elt Ideal) ℓ) (g' : Dev Cert.DiagRefIdeal.nD → PrngReg), Pre_DiagIdeal m →
    (∀ c : Dev Cert.DiagIdeal.nD,
      m' ((c.tc : Thread Cert.DiagRefIdeal.nD Cert.DiagRefIdeal.τ).loc Cert.DiagRefIdeal.main_arg0) = m ((c.tc : Thread Cert.DiagIdeal.nD Cert.DiagIdeal.τ).loc Cert.DiagIdeal.main_arg0)) →
    ∃ (v0 : (c : Dev Cert.DiagIdeal.nD) → Buf (Elt Ideal) ((c.tc : Thread Cert.DiagIdeal.nD Cert.DiagIdeal.τ).loc Cert.DiagIdeal.main_v0)),
      θ_run (Cert.DiagIdeal.defs (F := Ideal)) (onTc (τ := Cert.DiagIdeal.τ) (Cert.DiagIdeal.main (F := Ideal))) ⟨m, fun _ => 0, g⟩ (fun r => ∀ c : Dev Cert.DiagIdeal.nD,
          r.2.mem ((c.tc : Thread Cert.DiagIdeal.nD Cert.DiagIdeal.τ).loc Cert.DiagIdeal.main_v0) = v0 c
          ∧ r.2.mem ((c.tc : Thread Cert.DiagIdeal.nD Cert.DiagIdeal.τ).loc Cert.DiagIdeal.main_arg0) = m ((c.tc : Thread Cert.DiagIdeal.nD Cert.DiagIdeal.τ).loc Cert.DiagIdeal.main_arg0))
      ∧ θ_run (Cert.DiagRefIdeal.defs (F := Ideal)) (onTc (τ := Cert.DiagRefIdeal.τ) (Cert.DiagRefIdeal.main (F := Ideal))) ⟨m', fun _ => 0, g'⟩ (fun r => ∀ c : Dev Cert.DiagRefIdeal.nD,
          r.2.mem ((c.tc : Thread Cert.DiagRefIdeal.nD Cert.DiagRefIdeal.τ).loc Cert.DiagRefIdeal.main_v0) = v0 c
          ∧ r.2.mem ((c.tc : Thread Cert.DiagRefIdeal.nD Cert.DiagRefIdeal.τ).loc Cert.DiagRefIdeal.main_arg0) = m' ((c.tc : Thread Cert.DiagRefIdeal.nD Cert.DiagRefIdeal.τ).loc Cert.DiagRefIdeal.main_arg0))

def preserves_Bins_BinsIdeal : Prop :=
  True

def algebraic_BinsIdeal_BinsRefIdeal [hBinsIdeal : Cert.BinsIdeal.Facts] [hBinsRefIdeal : Cert.BinsRefIdeal.Facts] : Prop :=
  ∀ (m : (ℓ : Loc Cert.BinsIdeal.nD Cert.BinsIdeal.τ Cert.BinsIdeal.sig) → Buf (Elt Ideal) ℓ) (g : Dev Cert.BinsIdeal.nD → PrngReg)
    (m' : (ℓ : Loc Cert.BinsRefIdeal.nD Cert.BinsRefIdeal.τ Cert.BinsRefIdeal.sig) → Buf (Elt Ideal) ℓ) (g' : Dev Cert.BinsRefIdeal.nD → PrngReg), Pre_BinsIdeal m →
    (∀ c : Dev Cert.BinsIdeal.nD,
      m' ((c.tc : Thread Cert.BinsRefIdeal.nD Cert.BinsRefIdeal.τ).loc Cert.BinsRefIdeal.main_arg0) = m ((c.tc : Thread Cert.BinsIdeal.nD Cert.BinsIdeal.τ).loc Cert.BinsIdeal.main_arg0)
      ∧ m' ((c.tc : Thread Cert.BinsRefIdeal.nD Cert.BinsRefIdeal.τ).loc Cert.BinsRefIdeal.main_arg1) = m ((c.tc : Thread Cert.BinsIdeal.nD Cert.BinsIdeal.τ).loc Cert.BinsIdeal.main_arg1)) →
    ∃ (v0 : (c : Dev Cert.BinsIdeal.nD) → Buf (Elt Ideal) ((c.tc : Thread Cert.BinsIdeal.nD Cert.BinsIdeal.τ).loc Cert.BinsIdeal.main_v0)),
      θ_run (Cert.BinsIdeal.defs (F := Ideal)) (onTc (τ := Cert.BinsIdeal.τ) (Cert.BinsIdeal.main (F := Ideal))) ⟨m, fun _ => 0, g⟩ (fun r => ∀ c : Dev Cert.BinsIdeal.nD,
          r.2.mem ((c.tc : Thread Cert.BinsIdeal.nD Cert.BinsIdeal.τ).loc Cert.BinsIdeal.main_v0) = v0 c
          ∧ r.2.mem ((c.tc : Thread Cert.BinsIdeal.nD Cert.BinsIdeal.τ).loc Cert.BinsIdeal.main_arg0) = m ((c.tc : Thread Cert.BinsIdeal.nD Cert.BinsIdeal.τ).loc Cert.BinsIdeal.main_arg0)
          ∧ r.2.mem ((c.tc : Thread Cert.BinsIdeal.nD Cert.BinsIdeal.τ).loc Cert.BinsIdeal.main_arg1) = m ((c.tc : Thread Cert.BinsIdeal.nD Cert.BinsIdeal.τ).loc Cert.BinsIdeal.main_arg1))
      ∧ θ_run (Cert.BinsRefIdeal.defs (F := Ideal)) (onTc (τ := Cert.BinsRefIdeal.τ) (Cert.BinsRefIdeal.main (F := Ideal))) ⟨m', fun _ => 0, g'⟩ (fun r => ∀ c : Dev Cert.BinsRefIdeal.nD,
          r.2.mem ((c.tc : Thread Cert.BinsRefIdeal.nD Cert.BinsRefIdeal.τ).loc Cert.BinsRefIdeal.main_v0) = v0 c
          ∧ r.2.mem ((c.tc : Thread Cert.BinsRefIdeal.nD Cert.BinsRefIdeal.τ).loc Cert.BinsRefIdeal.main_arg0) = m' ((c.tc : Thread Cert.BinsRefIdeal.nD Cert.BinsRefIdeal.τ).loc Cert.BinsRefIdeal.main_arg0)
          ∧ r.2.mem ((c.tc : Thread Cert.BinsRefIdeal.nD Cert.BinsRefIdeal.τ).loc Cert.BinsRefIdeal.main_arg1) = m' ((c.tc : Thread Cert.BinsRefIdeal.nD Cert.BinsRefIdeal.τ).loc Cert.BinsRefIdeal.main_arg1))

def Claim : Prop :=
  ∃ (hSwap : Cert.Swap.Facts) (hSwapIdeal : Cert.SwapIdeal.Facts) (hSwapRefIdeal : Cert.SwapRefIdeal.Facts) (hSwapRef : Cert.SwapRef.Facts) (hExchange : Cert.Exchange.Facts) (hExchangeIdeal : Cert.ExchangeIdeal.Facts) (hExchangeRefIdeal : Cert.ExchangeRefIdeal.Facts) (hExchangeRef : Cert.ExchangeRef.Facts) (hJoin : Cert.Join.Facts) (hJoinIdeal : Cert.JoinIdeal.Facts) (hJoinRefIdeal : Cert.JoinRefIdeal.Facts) (hJoinRef : Cert.JoinRef.Facts) (hGather : Cert.Gather.Facts) (hGatherIdeal : Cert.GatherIdeal.Facts) (hGatherRefIdeal : Cert.GatherRefIdeal.Facts) (hGatherRef : Cert.GatherRef.Facts) (hAdamwWAda : Cert.AdamwWAda.Facts) (hAdamwWAdaIdeal : Cert.AdamwWAdaIdeal.Facts) (hAdamwWAdaRefIdeal : Cert.AdamwWAdaRefIdeal.Facts) (hAdamwBAda : Cert.AdamwBAda.Facts) (hAdamwBAdaIdeal : Cert.AdamwBAdaIdeal.Facts) (hAdamwBAdaRefIdeal : Cert.AdamwBAdaRefIdeal.Facts) (hAdamwLnG : Cert.AdamwLnG.Facts) (hAdamwLnGIdeal : Cert.AdamwLnGIdeal.Facts) (hAdamwLnGRefIdeal : Cert.AdamwLnGRefIdeal.Facts) (hAdamwGlaWIn : Cert.AdamwGlaWIn.Facts) (hAdamwGlaWInIdeal : Cert.AdamwGlaWInIdeal.Facts) (hAdamwGlaWInRefIdeal : Cert.AdamwGlaWInRefIdeal.Facts) (hAdamwGlaWGk2 : Cert.AdamwGlaWGk2.Facts) (hAdamwGlaWGk2Ideal : Cert.AdamwGlaWGk2Ideal.Facts) (hAdamwGlaWGk2RefIdeal : Cert.AdamwGlaWGk2RefIdeal.Facts) (hAdamwGlaBGk : Cert.AdamwGlaBGk.Facts) (hAdamwGlaBGkIdeal : Cert.AdamwGlaBGkIdeal.Facts) (hAdamwGlaBGkRefIdeal : Cert.AdamwGlaBGkRefIdeal.Facts) (hAdamwGlaGNorm : Cert.AdamwGlaGNorm.Facts) (hAdamwGlaGNormIdeal : Cert.AdamwGlaGNormIdeal.Facts) (hAdamwGlaGNormRefIdeal : Cert.AdamwGlaGNormRefIdeal.Facts) (hAdamwGlaWOut : Cert.AdamwGlaWOut.Facts) (hAdamwGlaWOutIdeal : Cert.AdamwGlaWOutIdeal.Facts) (hAdamwGlaWOutRefIdeal : Cert.AdamwGlaWOutRefIdeal.Facts) (hAdamwAttWIn : Cert.AdamwAttWIn.Facts) (hAdamwAttWInIdeal : Cert.AdamwAttWInIdeal.Facts) (hAdamwAttWInRefIdeal : Cert.AdamwAttWInRefIdeal.Facts) (hAdamwAttBIn : Cert.AdamwAttBIn.Facts) (hAdamwAttBInIdeal : Cert.AdamwAttBInIdeal.Facts) (hAdamwAttBInRefIdeal : Cert.AdamwAttBInRefIdeal.Facts) (hAdamwAttRelBias : Cert.AdamwAttRelBias.Facts) (hAdamwAttRelBiasIdeal : Cert.AdamwAttRelBiasIdeal.Facts) (hAdamwAttRelBiasRefIdeal : Cert.AdamwAttRelBiasRefIdeal.Facts) (hAdamwFfW1 : Cert.AdamwFfW1.Facts) (hAdamwFfW1Ideal : Cert.AdamwFfW1Ideal.Facts) (hAdamwFfW1RefIdeal : Cert.AdamwFfW1RefIdeal.Facts) (hSumGrads : Cert.SumGrads.Facts) (hSumGradsIdeal : Cert.SumGradsIdeal.Facts) (hSumGradsRefIdeal : Cert.SumGradsRefIdeal.Facts) (hAdaBwd : Cert.AdaBwd.Facts) (hAdaBwdIdeal : Cert.AdaBwdIdeal.Facts) (hAdaBwdRefIdeal : Cert.AdaBwdRefIdeal.Facts) (hLossHead : Cert.LossHead.Facts) (hLossHeadIdeal : Cert.LossHeadIdeal.Facts) (hLossHeadRefIdeal : Cert.LossHeadRefIdeal.Facts) (hGradFfW2 : Cert.GradFfW2.Facts) (hGradFfW2Ideal : Cert.GradFfW2Ideal.Facts) (hGradFfW2RefIdeal : Cert.GradFfW2RefIdeal.Facts) (hGradFfW1 : Cert.GradFfW1.Facts) (hGradFfW1Ideal : Cert.GradFfW1Ideal.Facts) (hGradFfW1RefIdeal : Cert.GradFfW1RefIdeal.Facts) (hGradGlaWOut : Cert.GradGlaWOut.Facts) (hGradGlaWOutIdeal : Cert.GradGlaWOutIdeal.Facts) (hGradGlaWOutRefIdeal : Cert.GradGlaWOutRefIdeal.Facts) (hGradGlaWIn : Cert.GradGlaWIn.Facts) (hGradGlaWInIdeal : Cert.GradGlaWInIdeal.Facts) (hGradGlaWInRefIdeal : Cert.GradGlaWInRefIdeal.Facts) (hGradAttWIn : Cert.GradAttWIn.Facts) (hGradAttWInIdeal : Cert.GradAttWInIdeal.Facts) (hGradAttWInRefIdeal : Cert.GradAttWInRefIdeal.Facts) (hDxGla : Cert.DxGla.Facts) (hDxGlaIdeal : Cert.DxGlaIdeal.Facts) (hDxGlaRefIdeal : Cert.DxGlaRefIdeal.Facts) (hDxAtt : Cert.DxAtt.Facts) (hDxAttIdeal : Cert.DxAttIdeal.Facts) (hDxAttRefIdeal : Cert.DxAttRefIdeal.Facts) (hDxFf : Cert.DxFf.Facts) (hDxFfIdeal : Cert.DxFfIdeal.Facts) (hDxFfRefIdeal : Cert.DxFfRefIdeal.Facts) (hSilu : Cert.Silu.Facts) (hSiluIdeal : Cert.SiluIdeal.Facts) (hSiluRefIdeal : Cert.SiluRefIdeal.Facts) (hModulate : Cert.Modulate.Facts) (hModulateIdeal : Cert.ModulateIdeal.Facts) (hModulateRefIdeal : Cert.ModulateRefIdeal.Facts) (hColSum : Cert.ColSum.Facts) (hColSumIdeal : Cert.ColSumIdeal.Facts) (hColSumRefIdeal : Cert.ColSumRefIdeal.Facts) (hAdaFwd : Cert.AdaFwd.Facts) (hAdaFwdIdeal : Cert.AdaFwdIdeal.Facts) (hAdaFwdRefIdeal : Cert.AdaFwdRefIdeal.Facts) (hGlaIn : Cert.GlaIn.Facts) (hGlaInIdeal : Cert.GlaInIdeal.Facts) (hGlaInRefIdeal : Cert.GlaInRefIdeal.Facts) (hGlaDz : Cert.GlaDz.Facts) (hGlaDzIdeal : Cert.GlaDzIdeal.Facts) (hGlaDzRefIdeal : Cert.GlaDzRefIdeal.Facts) (hAttIn : Cert.AttIn.Facts) (hAttInIdeal : Cert.AttInIdeal.Facts) (hAttInRefIdeal : Cert.AttInRefIdeal.Facts) (hFfUp : Cert.FfUp.Facts) (hFfUpIdeal : Cert.FfUpIdeal.Facts) (hFfUpRefIdeal : Cert.FfUpRefIdeal.Facts) (hFfDn : Cert.FfDn.Facts) (hFfDnIdeal : Cert.FfDnIdeal.Facts) (hFfDnRefIdeal : Cert.FfDnRefIdeal.Facts) (hMixOut : Cert.MixOut.Facts) (hMixOutIdeal : Cert.MixOutIdeal.Facts) (hMixOutRefIdeal : Cert.MixOutRefIdeal.Facts) (hFfOut : Cert.FfOut.Facts) (hFfOutIdeal : Cert.FfOutIdeal.Facts) (hFfOutRefIdeal : Cert.FfOutRefIdeal.Facts) (hLnBwd : Cert.LnBwd.Facts) (hLnBwdIdeal : Cert.LnBwdIdeal.Facts) (hLnBwdRefIdeal : Cert.LnBwdRefIdeal.Facts) (hDiag : Cert.Diag.Facts) (hDiagIdeal : Cert.DiagIdeal.Facts) (hDiagRefIdeal : Cert.DiagRefIdeal.Facts) (hBins : Cert.Bins.Facts) (hBinsIdeal : Cert.BinsIdeal.Facts) (hBinsRefIdeal : Cert.BinsRefIdeal.Facts),
    quiescent_Swap (hSwap := hSwap)
    ∧ quiescent_SwapIdeal (hSwapIdeal := hSwapIdeal)
    ∧ quiescent_SwapRefIdeal (hSwapRefIdeal := hSwapRefIdeal)
    ∧ quiescent_SwapRef (hSwapRef := hSwapRef)
    ∧ quiescent_Exchange (hExchange := hExchange)
    ∧ quiescent_ExchangeIdeal (hExchangeIdeal := hExchangeIdeal)
    ∧ quiescent_ExchangeRefIdeal (hExchangeRefIdeal := hExchangeRefIdeal)
    ∧ quiescent_ExchangeRef (hExchangeRef := hExchangeRef)
    ∧ quiescent_Join (hJoin := hJoin)
    ∧ quiescent_JoinIdeal (hJoinIdeal := hJoinIdeal)
    ∧ quiescent_JoinRefIdeal (hJoinRefIdeal := hJoinRefIdeal)
    ∧ quiescent_JoinRef (hJoinRef := hJoinRef)
    ∧ quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_AdamwWAda (hAdamwWAda := hAdamwWAda)
    ∧ quiescent_AdamwWAdaIdeal (hAdamwWAdaIdeal := hAdamwWAdaIdeal)
    ∧ quiescent_AdamwWAdaRefIdeal (hAdamwWAdaRefIdeal := hAdamwWAdaRefIdeal)
    ∧ quiescent_AdamwBAda (hAdamwBAda := hAdamwBAda)
    ∧ quiescent_AdamwBAdaIdeal (hAdamwBAdaIdeal := hAdamwBAdaIdeal)
    ∧ quiescent_AdamwBAdaRefIdeal (hAdamwBAdaRefIdeal := hAdamwBAdaRefIdeal)
    ∧ quiescent_AdamwLnG (hAdamwLnG := hAdamwLnG)
    ∧ quiescent_AdamwLnGIdeal (hAdamwLnGIdeal := hAdamwLnGIdeal)
    ∧ quiescent_AdamwLnGRefIdeal (hAdamwLnGRefIdeal := hAdamwLnGRefIdeal)
    ∧ quiescent_AdamwGlaWIn (hAdamwGlaWIn := hAdamwGlaWIn)
    ∧ quiescent_AdamwGlaWInIdeal (hAdamwGlaWInIdeal := hAdamwGlaWInIdeal)
    ∧ quiescent_AdamwGlaWInRefIdeal (hAdamwGlaWInRefIdeal := hAdamwGlaWInRefIdeal)
    ∧ quiescent_AdamwGlaWGk2 (hAdamwGlaWGk2 := hAdamwGlaWGk2)
    ∧ quiescent_AdamwGlaWGk2Ideal (hAdamwGlaWGk2Ideal := hAdamwGlaWGk2Ideal)
    ∧ quiescent_AdamwGlaWGk2RefIdeal (hAdamwGlaWGk2RefIdeal := hAdamwGlaWGk2RefIdeal)
    ∧ quiescent_AdamwGlaBGk (hAdamwGlaBGk := hAdamwGlaBGk)
    ∧ quiescent_AdamwGlaBGkIdeal (hAdamwGlaBGkIdeal := hAdamwGlaBGkIdeal)
    ∧ quiescent_AdamwGlaBGkRefIdeal (hAdamwGlaBGkRefIdeal := hAdamwGlaBGkRefIdeal)
    ∧ quiescent_AdamwGlaGNorm (hAdamwGlaGNorm := hAdamwGlaGNorm)
    ∧ quiescent_AdamwGlaGNormIdeal (hAdamwGlaGNormIdeal := hAdamwGlaGNormIdeal)
    ∧ quiescent_AdamwGlaGNormRefIdeal (hAdamwGlaGNormRefIdeal := hAdamwGlaGNormRefIdeal)
    ∧ quiescent_AdamwGlaWOut (hAdamwGlaWOut := hAdamwGlaWOut)
    ∧ quiescent_AdamwGlaWOutIdeal (hAdamwGlaWOutIdeal := hAdamwGlaWOutIdeal)
    ∧ quiescent_AdamwGlaWOutRefIdeal (hAdamwGlaWOutRefIdeal := hAdamwGlaWOutRefIdeal)
    ∧ quiescent_AdamwAttWIn (hAdamwAttWIn := hAdamwAttWIn)
    ∧ quiescent_AdamwAttWInIdeal (hAdamwAttWInIdeal := hAdamwAttWInIdeal)
    ∧ quiescent_AdamwAttWInRefIdeal (hAdamwAttWInRefIdeal := hAdamwAttWInRefIdeal)
    ∧ quiescent_AdamwAttBIn (hAdamwAttBIn := hAdamwAttBIn)
    ∧ quiescent_AdamwAttBInIdeal (hAdamwAttBInIdeal := hAdamwAttBInIdeal)
    ∧ quiescent_AdamwAttBInRefIdeal (hAdamwAttBInRefIdeal := hAdamwAttBInRefIdeal)
    ∧ quiescent_AdamwAttRelBias (hAdamwAttRelBias := hAdamwAttRelBias)
    ∧ quiescent_AdamwAttRelBiasIdeal (hAdamwAttRelBiasIdeal := hAdamwAttRelBiasIdeal)
    ∧ quiescent_AdamwAttRelBiasRefIdeal (hAdamwAttRelBiasRefIdeal := hAdamwAttRelBiasRefIdeal)
    ∧ quiescent_AdamwFfW1 (hAdamwFfW1 := hAdamwFfW1)
    ∧ quiescent_AdamwFfW1Ideal (hAdamwFfW1Ideal := hAdamwFfW1Ideal)
    ∧ quiescent_AdamwFfW1RefIdeal (hAdamwFfW1RefIdeal := hAdamwFfW1RefIdeal)
    ∧ quiescent_SumGrads (hSumGrads := hSumGrads)
    ∧ quiescent_SumGradsIdeal (hSumGradsIdeal := hSumGradsIdeal)
    ∧ quiescent_SumGradsRefIdeal (hSumGradsRefIdeal := hSumGradsRefIdeal)
    ∧ quiescent_AdaBwd (hAdaBwd := hAdaBwd)
    ∧ quiescent_AdaBwdIdeal (hAdaBwdIdeal := hAdaBwdIdeal)
    ∧ quiescent_AdaBwdRefIdeal (hAdaBwdRefIdeal := hAdaBwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_GradFfW2 (hGradFfW2 := hGradFfW2)
    ∧ quiescent_GradFfW2Ideal (hGradFfW2Ideal := hGradFfW2Ideal)
    ∧ quiescent_GradFfW2RefIdeal (hGradFfW2RefIdeal := hGradFfW2RefIdeal)
    ∧ quiescent_GradFfW1 (hGradFfW1 := hGradFfW1)
    ∧ quiescent_GradFfW1Ideal (hGradFfW1Ideal := hGradFfW1Ideal)
    ∧ quiescent_GradFfW1RefIdeal (hGradFfW1RefIdeal := hGradFfW1RefIdeal)
    ∧ quiescent_GradGlaWOut (hGradGlaWOut := hGradGlaWOut)
    ∧ quiescent_GradGlaWOutIdeal (hGradGlaWOutIdeal := hGradGlaWOutIdeal)
    ∧ quiescent_GradGlaWOutRefIdeal (hGradGlaWOutRefIdeal := hGradGlaWOutRefIdeal)
    ∧ quiescent_GradGlaWIn (hGradGlaWIn := hGradGlaWIn)
    ∧ quiescent_GradGlaWInIdeal (hGradGlaWInIdeal := hGradGlaWInIdeal)
    ∧ quiescent_GradGlaWInRefIdeal (hGradGlaWInRefIdeal := hGradGlaWInRefIdeal)
    ∧ quiescent_GradAttWIn (hGradAttWIn := hGradAttWIn)
    ∧ quiescent_GradAttWInIdeal (hGradAttWInIdeal := hGradAttWInIdeal)
    ∧ quiescent_GradAttWInRefIdeal (hGradAttWInRefIdeal := hGradAttWInRefIdeal)
    ∧ quiescent_DxGla (hDxGla := hDxGla)
    ∧ quiescent_DxGlaIdeal (hDxGlaIdeal := hDxGlaIdeal)
    ∧ quiescent_DxGlaRefIdeal (hDxGlaRefIdeal := hDxGlaRefIdeal)
    ∧ quiescent_DxAtt (hDxAtt := hDxAtt)
    ∧ quiescent_DxAttIdeal (hDxAttIdeal := hDxAttIdeal)
    ∧ quiescent_DxAttRefIdeal (hDxAttRefIdeal := hDxAttRefIdeal)
    ∧ quiescent_DxFf (hDxFf := hDxFf)
    ∧ quiescent_DxFfIdeal (hDxFfIdeal := hDxFfIdeal)
    ∧ quiescent_DxFfRefIdeal (hDxFfRefIdeal := hDxFfRefIdeal)
    ∧ quiescent_Silu (hSilu := hSilu)
    ∧ quiescent_SiluIdeal (hSiluIdeal := hSiluIdeal)
    ∧ quiescent_SiluRefIdeal (hSiluRefIdeal := hSiluRefIdeal)
    ∧ quiescent_Modulate (hModulate := hModulate)
    ∧ quiescent_ModulateIdeal (hModulateIdeal := hModulateIdeal)
    ∧ quiescent_ModulateRefIdeal (hModulateRefIdeal := hModulateRefIdeal)
    ∧ quiescent_ColSum (hColSum := hColSum)
    ∧ quiescent_ColSumIdeal (hColSumIdeal := hColSumIdeal)
    ∧ quiescent_ColSumRefIdeal (hColSumRefIdeal := hColSumRefIdeal)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ quiescent_GlaIn (hGlaIn := hGlaIn)
    ∧ quiescent_GlaInIdeal (hGlaInIdeal := hGlaInIdeal)
    ∧ quiescent_GlaInRefIdeal (hGlaInRefIdeal := hGlaInRefIdeal)
    ∧ quiescent_GlaDz (hGlaDz := hGlaDz)
    ∧ quiescent_GlaDzIdeal (hGlaDzIdeal := hGlaDzIdeal)
    ∧ quiescent_GlaDzRefIdeal (hGlaDzRefIdeal := hGlaDzRefIdeal)
    ∧ quiescent_AttIn (hAttIn := hAttIn)
    ∧ quiescent_AttInIdeal (hAttInIdeal := hAttInIdeal)
    ∧ quiescent_AttInRefIdeal (hAttInRefIdeal := hAttInRefIdeal)
    ∧ quiescent_FfUp (hFfUp := hFfUp)
    ∧ quiescent_FfUpIdeal (hFfUpIdeal := hFfUpIdeal)
    ∧ quiescent_FfUpRefIdeal (hFfUpRefIdeal := hFfUpRefIdeal)
    ∧ quiescent_FfDn (hFfDn := hFfDn)
    ∧ quiescent_FfDnIdeal (hFfDnIdeal := hFfDnIdeal)
    ∧ quiescent_FfDnRefIdeal (hFfDnRefIdeal := hFfDnRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_FfOut (hFfOut := hFfOut)
    ∧ quiescent_FfOutIdeal (hFfOutIdeal := hFfOutIdeal)
    ∧ quiescent_FfOutRefIdeal (hFfOutRefIdeal := hFfOutRefIdeal)
    ∧ quiescent_LnBwd (hLnBwd := hLnBwd)
    ∧ quiescent_LnBwdIdeal (hLnBwdIdeal := hLnBwdIdeal)
    ∧ quiescent_LnBwdRefIdeal (hLnBwdRefIdeal := hLnBwdRefIdeal)
    ∧ quiescent_Diag (hDiag := hDiag)
    ∧ quiescent_DiagIdeal (hDiagIdeal := hDiagIdeal)
    ∧ quiescent_DiagRefIdeal (hDiagRefIdeal := hDiagRefIdeal)
    ∧ quiescent_Bins (hBins := hBins)
    ∧ quiescent_BinsIdeal (hBinsIdeal := hBinsIdeal)
    ∧ quiescent_BinsRefIdeal (hBinsRefIdeal := hBinsRefIdeal)
    ∧ preserves_Swap_SwapIdeal
    ∧ algebraic_SwapIdeal_SwapRefIdeal (hSwapIdeal := hSwapIdeal) (hSwapRefIdeal := hSwapRefIdeal)
    ∧ bitexact_Swap_SwapRef (hSwap := hSwap) (hSwapRef := hSwapRef)
    ∧ preserves_Exchange_ExchangeIdeal
    ∧ algebraic_ExchangeIdeal_ExchangeRefIdeal (hExchangeIdeal := hExchangeIdeal) (hExchangeRefIdeal := hExchangeRefIdeal)
    ∧ bitexact_Exchange_ExchangeRef (hExchange := hExchange) (hExchangeRef := hExchangeRef)
    ∧ preserves_Join_JoinIdeal
    ∧ algebraic_JoinIdeal_JoinRefIdeal (hJoinIdeal := hJoinIdeal) (hJoinRefIdeal := hJoinRefIdeal)
    ∧ bitexact_Join_JoinRef (hJoin := hJoin) (hJoinRef := hJoinRef)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_AdamwWAda_AdamwWAdaIdeal
    ∧ algebraic_AdamwWAdaIdeal_AdamwWAdaRefIdeal (hAdamwWAdaIdeal := hAdamwWAdaIdeal) (hAdamwWAdaRefIdeal := hAdamwWAdaRefIdeal)
    ∧ preserves_AdamwBAda_AdamwBAdaIdeal
    ∧ algebraic_AdamwBAdaIdeal_AdamwBAdaRefIdeal (hAdamwBAdaIdeal := hAdamwBAdaIdeal) (hAdamwBAdaRefIdeal := hAdamwBAdaRefIdeal)
    ∧ preserves_AdamwLnG_AdamwLnGIdeal
    ∧ algebraic_AdamwLnGIdeal_AdamwLnGRefIdeal (hAdamwLnGIdeal := hAdamwLnGIdeal) (hAdamwLnGRefIdeal := hAdamwLnGRefIdeal)
    ∧ preserves_AdamwGlaWIn_AdamwGlaWInIdeal
    ∧ algebraic_AdamwGlaWInIdeal_AdamwGlaWInRefIdeal (hAdamwGlaWInIdeal := hAdamwGlaWInIdeal) (hAdamwGlaWInRefIdeal := hAdamwGlaWInRefIdeal)
    ∧ preserves_AdamwGlaWGk2_AdamwGlaWGk2Ideal
    ∧ algebraic_AdamwGlaWGk2Ideal_AdamwGlaWGk2RefIdeal (hAdamwGlaWGk2Ideal := hAdamwGlaWGk2Ideal) (hAdamwGlaWGk2RefIdeal := hAdamwGlaWGk2RefIdeal)
    ∧ preserves_AdamwGlaBGk_AdamwGlaBGkIdeal
    ∧ algebraic_AdamwGlaBGkIdeal_AdamwGlaBGkRefIdeal (hAdamwGlaBGkIdeal := hAdamwGlaBGkIdeal) (hAdamwGlaBGkRefIdeal := hAdamwGlaBGkRefIdeal)
    ∧ preserves_AdamwGlaGNorm_AdamwGlaGNormIdeal
    ∧ algebraic_AdamwGlaGNormIdeal_AdamwGlaGNormRefIdeal (hAdamwGlaGNormIdeal := hAdamwGlaGNormIdeal) (hAdamwGlaGNormRefIdeal := hAdamwGlaGNormRefIdeal)
    ∧ preserves_AdamwGlaWOut_AdamwGlaWOutIdeal
    ∧ algebraic_AdamwGlaWOutIdeal_AdamwGlaWOutRefIdeal (hAdamwGlaWOutIdeal := hAdamwGlaWOutIdeal) (hAdamwGlaWOutRefIdeal := hAdamwGlaWOutRefIdeal)
    ∧ preserves_AdamwAttWIn_AdamwAttWInIdeal
    ∧ algebraic_AdamwAttWInIdeal_AdamwAttWInRefIdeal (hAdamwAttWInIdeal := hAdamwAttWInIdeal) (hAdamwAttWInRefIdeal := hAdamwAttWInRefIdeal)
    ∧ preserves_AdamwAttBIn_AdamwAttBInIdeal
    ∧ algebraic_AdamwAttBInIdeal_AdamwAttBInRefIdeal (hAdamwAttBInIdeal := hAdamwAttBInIdeal) (hAdamwAttBInRefIdeal := hAdamwAttBInRefIdeal)
    ∧ preserves_AdamwAttRelBias_AdamwAttRelBiasIdeal
    ∧ algebraic_AdamwAttRelBiasIdeal_AdamwAttRelBiasRefIdeal (hAdamwAttRelBiasIdeal := hAdamwAttRelBiasIdeal) (hAdamwAttRelBiasRefIdeal := hAdamwAttRelBiasRefIdeal)
    ∧ preserves_AdamwFfW1_AdamwFfW1Ideal
    ∧ algebraic_AdamwFfW1Ideal_AdamwFfW1RefIdeal (hAdamwFfW1Ideal := hAdamwFfW1Ideal) (hAdamwFfW1RefIdeal := hAdamwFfW1RefIdeal)
    ∧ preserves_SumGrads_SumGradsIdeal
    ∧ algebraic_SumGradsIdeal_SumGradsRefIdeal (hSumGradsIdeal := hSumGradsIdeal) (hSumGradsRefIdeal := hSumGradsRefIdeal)
    ∧ preserves_AdaBwd_AdaBwdIdeal
    ∧ algebraic_AdaBwdIdeal_AdaBwdRefIdeal (hAdaBwdIdeal := hAdaBwdIdeal) (hAdaBwdRefIdeal := hAdaBwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_GradFfW2_GradFfW2Ideal
    ∧ algebraic_GradFfW2Ideal_GradFfW2RefIdeal (hGradFfW2Ideal := hGradFfW2Ideal) (hGradFfW2RefIdeal := hGradFfW2RefIdeal)
    ∧ preserves_GradFfW1_GradFfW1Ideal
    ∧ algebraic_GradFfW1Ideal_GradFfW1RefIdeal (hGradFfW1Ideal := hGradFfW1Ideal) (hGradFfW1RefIdeal := hGradFfW1RefIdeal)
    ∧ preserves_GradGlaWOut_GradGlaWOutIdeal
    ∧ algebraic_GradGlaWOutIdeal_GradGlaWOutRefIdeal (hGradGlaWOutIdeal := hGradGlaWOutIdeal) (hGradGlaWOutRefIdeal := hGradGlaWOutRefIdeal)
    ∧ preserves_GradGlaWIn_GradGlaWInIdeal
    ∧ algebraic_GradGlaWInIdeal_GradGlaWInRefIdeal (hGradGlaWInIdeal := hGradGlaWInIdeal) (hGradGlaWInRefIdeal := hGradGlaWInRefIdeal)
    ∧ preserves_GradAttWIn_GradAttWInIdeal
    ∧ algebraic_GradAttWInIdeal_GradAttWInRefIdeal (hGradAttWInIdeal := hGradAttWInIdeal) (hGradAttWInRefIdeal := hGradAttWInRefIdeal)
    ∧ preserves_DxGla_DxGlaIdeal
    ∧ algebraic_DxGlaIdeal_DxGlaRefIdeal (hDxGlaIdeal := hDxGlaIdeal) (hDxGlaRefIdeal := hDxGlaRefIdeal)
    ∧ preserves_DxAtt_DxAttIdeal
    ∧ algebraic_DxAttIdeal_DxAttRefIdeal (hDxAttIdeal := hDxAttIdeal) (hDxAttRefIdeal := hDxAttRefIdeal)
    ∧ preserves_DxFf_DxFfIdeal
    ∧ algebraic_DxFfIdeal_DxFfRefIdeal (hDxFfIdeal := hDxFfIdeal) (hDxFfRefIdeal := hDxFfRefIdeal)
    ∧ preserves_Silu_SiluIdeal
    ∧ algebraic_SiluIdeal_SiluRefIdeal (hSiluIdeal := hSiluIdeal) (hSiluRefIdeal := hSiluRefIdeal)
    ∧ preserves_Modulate_ModulateIdeal
    ∧ algebraic_ModulateIdeal_ModulateRefIdeal (hModulateIdeal := hModulateIdeal) (hModulateRefIdeal := hModulateRefIdeal)
    ∧ preserves_ColSum_ColSumIdeal
    ∧ algebraic_ColSumIdeal_ColSumRefIdeal (hColSumIdeal := hColSumIdeal) (hColSumRefIdeal := hColSumRefIdeal)
    ∧ preserves_AdaFwd_AdaFwdIdeal
    ∧ algebraic_AdaFwdIdeal_AdaFwdRefIdeal (hAdaFwdIdeal := hAdaFwdIdeal) (hAdaFwdRefIdeal := hAdaFwdRefIdeal)
    ∧ preserves_GlaIn_GlaInIdeal
    ∧ algebraic_GlaInIdeal_GlaInRefIdeal (hGlaInIdeal := hGlaInIdeal) (hGlaInRefIdeal := hGlaInRefIdeal)
    ∧ preserves_GlaDz_GlaDzIdeal
    ∧ algebraic_GlaDzIdeal_GlaDzRefIdeal (hGlaDzIdeal := hGlaDzIdeal) (hGlaDzRefIdeal := hGlaDzRefIdeal)
    ∧ preserves_AttIn_AttInIdeal
    ∧ algebraic_AttInIdeal_AttInRefIdeal (hAttInIdeal := hAttInIdeal) (hAttInRefIdeal := hAttInRefIdeal)
    ∧ preserves_FfUp_FfUpIdeal
    ∧ algebraic_FfUpIdeal_FfUpRefIdeal (hFfUpIdeal := hFfUpIdeal) (hFfUpRefIdeal := hFfUpRefIdeal)
    ∧ preserves_FfDn_FfDnIdeal
    ∧ algebraic_FfDnIdeal_FfDnRefIdeal (hFfDnIdeal := hFfDnIdeal) (hFfDnRefIdeal := hFfDnRefIdeal)
    ∧ preserves_MixOut_MixOutIdeal
    ∧ algebraic_MixOutIdeal_MixOutRefIdeal (hMixOutIdeal := hMixOutIdeal) (hMixOutRefIdeal := hMixOutRefIdeal)
    ∧ preserves_FfOut_FfOutIdeal
    ∧ algebraic_FfOutIdeal_FfOutRefIdeal (hFfOutIdeal := hFfOutIdeal) (hFfOutRefIdeal := hFfOutRefIdeal)
    ∧ preserves_LnBwd_LnBwdIdeal
    ∧ algebraic_LnBwdIdeal_LnBwdRefIdeal (hLnBwdIdeal := hLnBwdIdeal) (hLnBwdRefIdeal := hLnBwdRefIdeal)
    ∧ preserves_Diag_DiagIdeal
    ∧ algebraic_DiagIdeal_DiagRefIdeal (hDiagIdeal := hDiagIdeal) (hDiagRefIdeal := hDiagRefIdeal)
    ∧ preserves_Bins_BinsIdeal
    ∧ algebraic_BinsIdeal_BinsRefIdeal (hBinsIdeal := hBinsIdeal) (hBinsRefIdeal := hBinsRefIdeal)
-- ==== Swap.lean ====
abbrev S4x12320x1024 : Shape := ⟨3, ![4, 12320, 1024]⟩
abbrev S4x6160x1024 : Shape := ⟨3, ![4, 6160, 1024]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S4x12320x1024, .f32⟩
  | .hbm, ⟨1, _⟩ => ⟨S4x6160x1024, .f32⟩
  | _, _ => ⟨S4x12320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c0_i32_8 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c6160_i32 : BitVec 32 := 6160#32
  let v10 : BitVec 32 := Scalar.muli v9 c6160_i32
  let c0_i32_9 : BitVec 32 := 0#32
  ![0, v10.toNat, 0]
def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v14 : BitVec 32 := Scalar.muli v5 c2_i32_6
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_7 : BitVec 32 := 1#32
  let v16 : BitVec 32 := Scalar.muli v11 c1_i32_7
  let v17 : BitVec 32 := Scalar.addi v15 v16
  v17.toNat
-- ==== SwapIdeal.lean ====
abbrev S4x12320x1024 : Shape := ⟨3, ![4, 12320, 1024]⟩
abbrev S4x6160x1024 : Shape := ⟨3, ![4, 6160, 1024]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S4x12320x1024, .f32⟩
  | .hbm, ⟨1, _⟩ => ⟨S4x6160x1024, .f32⟩
  | _, _ => ⟨S4x12320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c0_i32_8 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c6160_i32 : BitVec 32 := 6160#32
  let v10 : BitVec 32 := Scalar.muli v9 c6160_i32
  let c0_i32_9 : BitVec 32 := 0#32
  ![0, v10.toNat, 0]
def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v14 : BitVec 32 := Scalar.muli v5 c2_i32_6
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_7 : BitVec 32 := 1#32
  let v16 : BitVec 32 := Scalar.muli v11 c1_i32_7
  let v17 : BitVec 32 := Scalar.addi v15 v16
  v17.toNat
-- ==== SwapRef.lean ====
abbrev S32x12320x1024 : Shape := ⟨3, ![32, 12320, 1024]⟩
abbrev S4x2x4x2x6160x1024 : Shape := ⟨6, ![4, 2, 4, 2, 6160, 1024]⟩
abbrev S4x1x4x1x6160x1024 : Shape := ⟨6, ![4, 1, 4, 1, 6160, 1024]⟩
abbrev S4x4x6160x1024 : Shape := ⟨4, ![4, 4, 6160, 1024]⟩
abbrev S4x1x4x6160x1024 : Shape := ⟨5, ![4, 1, 4, 6160, 1024]⟩
abbrev S4x2x4x6160x1024 : Shape := ⟨5, ![4, 2, 4, 6160, 1024]⟩
abbrev S32x6160x1024 : Shape := ⟨3, ![32, 6160, 1024]⟩

abbrev nBuf : Space → Nat
  | .hbm => 10
  | .vmem => 0
  | .smem => 0
  | _ => 0

abbrev bufTy : (tb : Table) → Fin (tcTables nBuf tb) → BufTy
  | .hbm, ⟨0, _⟩ => ⟨S32x12320x1024, .f32⟩
  | .hbm, ⟨1, _⟩ => ⟨S4x2x4x2x6160x1024, .f32⟩
  | .hbm, ⟨2, _⟩ => ⟨S4x1x4x1x6160x1024, .f32⟩
  | .hbm, ⟨3, _⟩ => ⟨S4x4x6160x1024, .f32⟩
  | .hbm, ⟨4, _⟩ => ⟨S4x1x4x1x6160x1024, .f32⟩
  | .hbm, ⟨5, _⟩ => ⟨S4x4x6160x1024, .f32⟩
  | .hbm, ⟨6, _⟩ => ⟨S4x1x4x6160x1024, .f32⟩
  | .hbm, ⟨7, _⟩ => ⟨S4x1x4x6160x1024, .f32⟩
  | .hbm, ⟨8, _⟩ => ⟨S4x2x4x6160x1024, .f32⟩
  | .hbm, ⟨9, _⟩ => ⟨S32x6160x1024, .f32⟩
  | _, _ => ⟨S32x12320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== Exchange.lean ====
abbrev S4x6160x1024 : Shape := ⟨3, ![4, 6160, 1024]⟩
abbrev S3x6160x1024 : Shape := ⟨3, ![3, 6160, 1024]⟩
abbrev S3 : Shape := ⟨1, ![3]⟩
abbrev S1 : Shape := ⟨1, ![1]⟩
abbrev S_ : Shape := ⟨0, ![]⟩
abbrev S1x6160x1024 : Shape := ⟨3, ![1, 6160, 1024]⟩
abbrev S6160x1024 : Shape := ⟨2, ![6160, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4x6160x1024, .f32⟩
  | .hbm, ⟨1, _⟩ => ⟨S3x6160x1024, .f32⟩
  | _, _ => ⟨S4x6160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v13 : BitVec 32 := Scalar.muli c2_i32_7 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_18 : BitVec 32 := 0#32
  let c0_i32_19 : BitVec 32 := 0#32
  ![v14.toNat, 0, 0]
def k0_dev1 (d0 : Dev nD) : Nat :=
  let c0_i32_13 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_12 : BitVec 32 := 4#32
  let v19 : BitVec 32 := Scalar.muli v9 c4_i32_12
  let v20 : BitVec 32 := Scalar.addi c0_i32_13 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v21 : BitVec 32 := Scalar.muli v5 c2_i32_14
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_15 : BitVec 32 := 1#32
  let v23 : BitVec 32 := Scalar.muli v8 c1_i32_15
  let v24 : BitVec 32 := Scalar.addi v22 v23
  v24.toNat
def k0_off2 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v16 : BitVec 32 := Scalar.addi v15 v10
  let c0_i32_29 : BitVec 32 := 0#32
  let c0_i32_30 : BitVec 32 := 0#32
  ![v16.toNat, 0, 0]
def k0_dev2 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v33 : BitVec 32 := Scalar.muli v2 c4_i32_23
  let v34 : BitVec 32 := Scalar.addi c0_i32_24 v33
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_25 : BitVec 32 := 2#32
  let v35 : BitVec 32 := Scalar.muli v10 c2_i32_25
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v37 : BitVec 32 := Scalar.muli v8 c1_i32_26
  let v38 : BitVec 32 := Scalar.addi v36 v37
  v38.toNat
def k0_off3 (d0 : Dev nD) : Fin 3 → Nat :=
  let c2_i32_9 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v17 : BitVec 32 := Scalar.muli c2_i32_9 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v18 : BitVec 32 := Scalar.addi v17 v12
  let c0_i32_40 : BitVec 32 := 0#32
  let c0_i32_41 : BitVec 32 := 0#32
  ![v18.toNat, 0, 0]
def k0_dev3 (d0 : Dev nD) : Nat :=
  let c0_i32_35 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_34 : BitVec 32 := 4#32
  let v47 : BitVec 32 := Scalar.muli v11 c4_i32_34
  let v48 : BitVec 32 := Scalar.addi c0_i32_35 v47
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_36 : BitVec 32 := 2#32
  let v49 : BitVec 32 := Scalar.muli v12 c2_i32_36
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v51 : BitVec 32 := Scalar.muli v8 c1_i32_37
  let v52 : BitVec 32 := Scalar.addi v50 v51
  v52.toNat
-- ==== ExchangeIdeal.lean ====
abbrev S4x6160x1024 : Shape := ⟨3, ![4, 6160, 1024]⟩
abbrev S3x6160x1024 : Shape := ⟨3, ![3, 6160, 1024]⟩
abbrev S3 : Shape := ⟨1, ![3]⟩
abbrev S1 : Shape := ⟨1, ![1]⟩
abbrev S_ : Shape := ⟨0, ![]⟩
abbrev S1x6160x1024 : Shape := ⟨3, ![1, 6160, 1024]⟩
abbrev S6160x1024 : Shape := ⟨2, ![6160, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4x6160x1024, .f32⟩
  | .hbm, ⟨1, _⟩ => ⟨S3x6160x1024, .f32⟩
  | _, _ => ⟨S4x6160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v13 : BitVec 32 := Scalar.muli c2_i32_7 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_18 : BitVec 32 := 0#32
  let c0_i32_19 : BitVec 32 := 0#32
  ![v14.toNat, 0, 0]
def k0_dev1 (d0 : Dev nD) : Nat :=
  let c0_i32_13 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_12 : BitVec 32 := 4#32
  let v19 : BitVec 32 := Scalar.muli v9 c4_i32_12
  let v20 : BitVec 32 := Scalar.addi c0_i32_13 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v21 : BitVec 32 := Scalar.muli v5 c2_i32_14
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_15 : BitVec 32 := 1#32
  let v23 : BitVec 32 := Scalar.muli v8 c1_i32_15
  let v24 : BitVec 32 := Scalar.addi v22 v23
  v24.toNat
def k0_off2 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v16 : BitVec 32 := Scalar.addi v15 v10
  let c0_i32_29 : BitVec 32 := 0#32
  let c0_i32_30 : BitVec 32 := 0#32
  ![v16.toNat, 0, 0]
def k0_dev2 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v33 : BitVec 32 := Scalar.muli v2 c4_i32_23
  let v34 : BitVec 32 := Scalar.addi c0_i32_24 v33
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_25 : BitVec 32 := 2#32
  let v35 : BitVec 32 := Scalar.muli v10 c2_i32_25
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v37 : BitVec 32 := Scalar.muli v8 c1_i32_26
  let v38 : BitVec 32 := Scalar.addi v36 v37
  v38.toNat
def k0_off3 (d0 : Dev nD) : Fin 3 → Nat :=
  let c2_i32_9 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v17 : BitVec 32 := Scalar.muli c2_i32_9 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v18 : BitVec 32 := Scalar.addi v17 v12
  let c0_i32_40 : BitVec 32 := 0#32
  let c0_i32_41 : BitVec 32 := 0#32
  ![v18.toNat, 0, 0]
def k0_dev3 (d0 : Dev nD) : Nat :=
  let c0_i32_35 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_34 : BitVec 32 := 4#32
  let v47 : BitVec 32 := Scalar.muli v11 c4_i32_34
  let v48 : BitVec 32 := Scalar.addi c0_i32_35 v47
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_36 : BitVec 32 := 2#32
  let v49 : BitVec 32 := Scalar.muli v12 c2_i32_36
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v51 : BitVec 32 := Scalar.muli v8 c1_i32_37
  let v52 : BitVec 32 := Scalar.addi v50 v51
  v52.toNat
-- ==== ExchangeRef.lean ====
abbrev S32x6160x1024 : Shape := ⟨3, ![32, 6160, 1024]⟩
abbrev S4x2x4x6160x1024 : Shape := ⟨5, ![4, 2, 4, 6160, 1024]⟩
abbrev S1x2x1x6160x1024 : Shape := ⟨5, ![1, 2, 1, 6160, 1024]⟩
abbrev S2x6160x1024 : Shape := ⟨3, ![2, 6160, 1024]⟩
abbrev S2x1x6160x1024 : Shape := ⟨4, ![2, 1, 6160, 1024]⟩
abbrev S2x3x6160x1024 : Shape := ⟨4, ![2, 3, 6160, 1024]⟩
abbrev S1x2x3x6160x1024 : Shape := ⟨5, ![1, 2, 3, 6160, 1024]⟩
abbrev S4x2x3x6160x1024 : Shape := ⟨5, ![4, 2, 3, 6160, 1024]⟩
abbrev S24x6160x1024 : Shape := ⟨3, ![24, 6160, 1024]⟩

abbrev nBuf : Space → Nat
  | .hbm => 48
  | .vmem => 0
  | .smem => 0
  | _ => 0

abbrev bufTy : (tb : Table) → Fin (tcTables nBuf tb) → BufTy
  | .hbm, ⟨0, _⟩ => ⟨S32x6160x1024, .f32⟩
  | .hbm, ⟨1, _⟩ => ⟨S4x2x4x6160x1024, .f32⟩
  | .hbm, ⟨2, _⟩ => ⟨S1x2x1x6160x1024, .f32⟩
  | .hbm, ⟨3, _⟩ => ⟨S2x6160x1024, .f32⟩
  | .hbm, ⟨4, _⟩ => ⟨S1x2x1x6160x1024, .f32⟩
  | .hbm, ⟨5, _⟩ => ⟨S2x6160x1024, .f32⟩
  | .hbm, ⟨6, _⟩ => ⟨S1x2x1x6160x1024, .f32⟩
  | .hbm, ⟨7, _⟩ => ⟨S2x6160x1024, .f32⟩
  | .hbm, ⟨8, _⟩ => ⟨S2x1x6160x1024, .f32⟩
  | .hbm, ⟨9, _⟩ => ⟨S2x1x6160x1024, .f32⟩
  | .hbm, ⟨10, _⟩ => ⟨S2x1x6160x1024, .f32⟩
  | .hbm, ⟨11, _⟩ => ⟨S2x3x6160x1024, .f32⟩
  | .hbm, ⟨12, _⟩ => ⟨S1x2x1x6160x1024, .f32⟩
  | .hbm, ⟨13, _⟩ => ⟨S2x6160x1024, .f32⟩
  | .hbm, ⟨14, _⟩ => ⟨S1x2x1x6160x1024, .f32⟩
  | .hbm, ⟨15, _⟩ => ⟨S2x6160x1024, .f32⟩
  | .hbm, ⟨16, _⟩ => ⟨S1x2x1x6160x1024, .f32⟩
  | .hbm, ⟨17, _⟩ => ⟨S2x6160x1024, .f32⟩
  | .hbm, ⟨18, _⟩ => ⟨S2x1x6160x1024, .f32⟩
  | .hbm, ⟨19, _⟩ => ⟨S2x1x6160x1024, .f32⟩
  | .hbm, ⟨20, _⟩ => ⟨S2x1x6160x1024, .f32⟩
  | .hbm, ⟨21, _⟩ => ⟨S2x3x6160x1024, .f32⟩
  | .hbm, ⟨22, _⟩ => ⟨S1x2x1x6160x1024, .f32⟩
  | .hbm, ⟨23, _⟩ => ⟨S2x6160x1024, .f32⟩
  | .hbm, ⟨24, _⟩ => ⟨S1x2x1x6160x1024, .f32⟩
  | .hbm, ⟨25, _⟩ => ⟨S2x6160x1024, .f32⟩
  | .hbm, ⟨26, _⟩ => ⟨S1x2x1x6160x1024, .f32⟩
  | .hbm, ⟨27, _⟩ => ⟨S2x6160x1024, .f32⟩
  | .hbm, ⟨28, _⟩ => ⟨S2x1x6160x1024, .f32⟩
  | .hbm, ⟨29, _⟩ => ⟨S2x1x6160x1024, .f32⟩
  | .hbm, ⟨30, _⟩ => ⟨S2x1x6160x1024, .f32⟩
  | .hbm, ⟨31, _⟩ => ⟨S2x3x6160x1024, .f32⟩
  | .hbm, ⟨32, _⟩ => ⟨S1x2x1x6160x1024, .f32⟩
  | .hbm, ⟨33, _⟩ => ⟨S2x6160x1024, .f32⟩
  | .hbm, ⟨34, _⟩ => ⟨S1x2x1x6160x1024, .f32⟩
  | .hbm, ⟨35, _⟩ => ⟨S2x6160x1024, .f32⟩
  | .hbm, ⟨36, _⟩ => ⟨S1x2x1x6160x1024, .f32⟩
  | .hbm, ⟨37, _⟩ => ⟨S2x6160x1024, .f32⟩
  | .hbm, ⟨38, _⟩ => ⟨S2x1x6160x1024, .f32⟩
  | .hbm, ⟨39, _⟩ => ⟨S2x1x6160x1024, .f32⟩
  | .hbm, ⟨40, _⟩ => ⟨S2x1x6160x1024, .f32⟩
  | .hbm, ⟨41, _⟩ => ⟨S2x3x6160x1024, .f32⟩
  | .hbm, ⟨42, _⟩ => ⟨S1x2x3x6160x1024, .f32⟩
  | .hbm, ⟨43, _⟩ => ⟨S1x2x3x6160x1024, .f32⟩
  | .hbm, ⟨44, _⟩ => ⟨S1x2x3x6160x1024, .f32⟩
  | .hbm, ⟨45, _⟩ => ⟨S1x2x3x6160x1024, .f32⟩
  | .hbm, ⟨46, _⟩ => ⟨S4x2x3x6160x1024, .f32⟩
  | .hbm, ⟨47, _⟩ => ⟨S24x6160x1024, .f32⟩
  | _, _ => ⟨S32x6160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩

abbrev nD : Nat := 1
abbrev τ : Topo := Topo.v7x

variable {F : FTy → Type} [FloatOps F]
-- ==== Join.lean ====
abbrev S6160x1024 : Shape := ⟨2, ![6160, 1024]⟩
abbrev S12320x1024 : Shape := ⟨2, ![12320, 1024]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S6160x1024, .f32⟩
  | .hbm, ⟨1, _⟩ => ⟨S12320x1024, .f32⟩
  | _, _ => ⟨S6160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c6160_i32 : BitVec 32 := 6160#32
  let v9 : BitVec 32 := Scalar.muli v8 c6160_i32
  let c0_i32 : BitVec 32 := 0#32
  ![v9.toNat, 0]
def k0_dev1 (d0 : Dev nD) : Nat :=
  let c0_i32_5 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_4 : BitVec 32 := 4#32
  let v12 : BitVec 32 := Scalar.muli v2 c4_i32_4
  let v13 : BitVec 32 := Scalar.addi c0_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v14 : BitVec 32 := Scalar.muli v5 c2_i32_6
  let v15 : BitVec 32 := Scalar.addi v13 v14
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_3 v8
  let c1_i32_7 : BitVec 32 := 1#32
  let v16 : BitVec 32 := Scalar.muli v11 c1_i32_7
  let v17 : BitVec 32 := Scalar.addi v15 v16
  v17.toNat
def k0_off2 (d0 : Dev nD) : Fin 2 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let c6160_i32_12 : BitVec 32 := 6160#32
  let v21 : BitVec 32 := Scalar.muli v20 c6160_i32_12
  let c0_i32_18 : BitVec 32 := 0#32
  ![v21.toNat, 0]
-- ==== JoinIdeal.lean ====
abbrev S6160x1024 : Shape := ⟨2, ![6160, 1024]⟩
abbrev S12320x1024 : Shape := ⟨2, ![12320, 1024]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S6160x1024, .f32⟩
  | .hbm, ⟨1, _⟩ => ⟨S12320x1024, .f32⟩
  | _, _ => ⟨S6160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c6160_i32 : BitVec 32 := 6160#32
  let v9 : BitVec 32 := Scalar.muli v8 c6160_i32
  let c0_i32 : BitVec 32 := 0#32
  ![v9.toNat, 0]
def k0_dev1 (d0 : Dev nD) : Nat :=
  let c0_i32_5 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_4 : BitVec 32 := 4#32
  let v12 : BitVec 32 := Scalar.muli v2 c4_i32_4
  let v13 : BitVec 32 := Scalar.addi c0_i32_5 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v14 : BitVec 32 := Scalar.muli v5 c2_i32_6
  let v15 : BitVec 32 := Scalar.addi v13 v14
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_3 v8
  let c1_i32_7 : BitVec 32 := 1#32
  let v16 : BitVec 32 := Scalar.muli v11 c1_i32_7
  let v17 : BitVec 32 := Scalar.addi v15 v16
  v17.toNat
def k0_off2 (d0 : Dev nD) : Fin 2 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let c6160_i32_12 : BitVec 32 := 6160#32
  let v21 : BitVec 32 := Scalar.muli v20 c6160_i32_12
  let c0_i32_18 : BitVec 32 := 0#32
  ![v21.toNat, 0]
-- ==== JoinRef.lean ====
abbrev S49280x1024 : Shape := ⟨2, ![49280, 1024]⟩
abbrev S4x2x6160x1024 : Shape := ⟨4, ![4, 2, 6160, 1024]⟩
abbrev S4x1x6160x1024 : Shape := ⟨4, ![4, 1, 6160, 1024]⟩
abbrev S4x6160x1024 : Shape := ⟨3, ![4, 6160, 1024]⟩
abbrev S4x12320x1024 : Shape := ⟨3, ![4, 12320, 1024]⟩

abbrev nBuf : Space → Nat
  | .hbm => 8
  | .vmem => 0
  | .smem => 0
  | _ => 0

abbrev bufTy : (tb : Table) → Fin (tcTables nBuf tb) → BufTy
  | .hbm, ⟨0, _⟩ => ⟨S49280x1024, .f32⟩
  | .hbm, ⟨1, _⟩ => ⟨S4x2x6160x1024, .f32⟩
  | .hbm, ⟨2, _⟩ => ⟨S4x1x6160x1024, .f32⟩
  | .hbm, ⟨3, _⟩ => ⟨S4x6160x1024, .f32⟩
  | .hbm, ⟨4, _⟩ => ⟨S4x1x6160x1024, .f32⟩
  | .hbm, ⟨5, _⟩ => ⟨S4x6160x1024, .f32⟩
  | .hbm, ⟨6, _⟩ => ⟨S4x12320x1024, .f32⟩
  | .hbm, ⟨7, _⟩ => ⟨S49280x1024, .f32⟩
  | _, _ => ⟨S49280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩

abbrev nD : Nat := 1
abbrev τ : Topo := Topo.v7x

variable {F : FTy → Type} [FloatOps F]
-- ==== Gather.lean ====
abbrev S12320x1024 : Shape := ⟨2, ![12320, 1024]⟩
abbrev S4x12320x1024 : Shape := ⟨3, ![4, 12320, 1024]⟩
abbrev S6 : Shape := ⟨1, ![6]⟩
abbrev S_ : Shape := ⟨0, ![]⟩
abbrev S1x12320x1024 : Shape := ⟨3, ![1, 12320, 1024]⟩
abbrev S1 : Shape := ⟨1, ![1]⟩
abbrev S1x6160x1024 : Shape := ⟨3, ![1, 6160, 1024]⟩
abbrev S6160x1024 : Shape := ⟨2, ![6160, 1024]⟩

abbrev nBuf : Space → Nat
  | .hbm => 2
  | .vmem => 0
  | .smem => 0
  | _ => 0

abbrev bufTy : (tb : Table) → Fin (tcTables nBuf tb) → BufTy
  | .hbm, ⟨0, _⟩ => ⟨S12320x1024, .bf16⟩
  | .hbm, ⟨1, _⟩ => ⟨S4x12320x1024, .bf16⟩
  | _, _ => ⟨S12320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_10 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_10 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.addi v17 v5
  let c0_i32 : BitVec 32 := 0#32
  let c0_i32_11 : BitVec 32 := 0#32
  ![v18.toNat, 0, 0]
def k0_off2 (d0 : Dev nD) : Fin 3 → Nat :=
  let c2_i32_12 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c2_i32_12 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.addi v21 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c6160_i32 : BitVec 32 := 6160#32
  let v14 : BitVec 32 := Scalar.muli v8 c6160_i32
  let c0_i32_21 : BitVec 32 := 0#32
  ![v22.toNat, v14.toNat, 0]
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c6160_i32 : BitVec 32 := 6160#32
  let v14 : BitVec 32 := Scalar.muli v8 c6160_i32
  let c0_i32_22 : BitVec 32 := 0#32
  ![v14.toNat, 0]
def k0_dev1 (d0 : Dev nD) : Nat :=
  let c0_i32_18 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_17 : BitVec 32 := 4#32
  let v27 : BitVec 32 := Scalar.muli v10 c4_i32_17
  let v28 : BitVec 32 := Scalar.addi c0_i32_18 v27
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v29 : BitVec 32 := Scalar.muli v5 c2_i32_19
  let v30 : BitVec 32 := Scalar.addi v28 v29
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v31 : BitVec 32 := Scalar.muli v8 c1_i32_20
  let v32 : BitVec 32 := Scalar.addi v30 v31
  v32.toNat
def k0_dev2 (d0 : Dev nD) : Nat :=
  let c0_i32_26 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_25 : BitVec 32 := 4#32
  let v40 : BitVec 32 := Scalar.muli v2 c4_i32_25
  let v41 : BitVec 32 := Scalar.addi c0_i32_26 v40
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_27 : BitVec 32 := 2#32
  let v42 : BitVec 32 := Scalar.muli v11 c2_i32_27
  let v43 : BitVec 32 := Scalar.addi v41 v42
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v44 : BitVec 32 := Scalar.muli v8 c1_i32_28
  let v45 : BitVec 32 := Scalar.addi v43 v44
  v45.toNat
def k0_dev3 (d0 : Dev nD) : Nat :=
  let c0_i32_34 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_33 : BitVec 32 := 4#32
  let v53 : BitVec 32 := Scalar.muli v12 c4_i32_33
  let v54 : BitVec 32 := Scalar.addi c0_i32_34 v53
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_35 : BitVec 32 := 2#32
  let v55 : BitVec 32 := Scalar.muli v13 c2_i32_35
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v57 : BitVec 32 := Scalar.muli v8 c1_i32_36
  let v58 : BitVec 32 := Scalar.addi v56 v57
  v58.toNat
def k0_off4 (d0 : Dev nD) : Fin 3 → Nat :=
  let c2_i32_46 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v80 : BitVec 32 := Scalar.muli c2_i32_46 v10
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v81 : BitVec 32 := Scalar.addi v80 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c6160_i32 : BitVec 32 := 6160#32
  let v14 : BitVec 32 := Scalar.muli v8 c6160_i32
  let c0_i32_53 : BitVec 32 := 0#32
  ![v81.toNat, v14.toNat, 0]
def k0_dev4 (d0 : Dev nD) : Nat :=
  let c0_i32_57 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_56 : BitVec 32 := 4#32
  let v94 : BitVec 32 := Scalar.muli v2 c4_i32_56
  let v95 : BitVec 32 := Scalar.addi c0_i32_57 v94
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_58 : BitVec 32 := 2#32
  let v96 : BitVec 32 := Scalar.muli v5 c2_i32_58
  let v97 : BitVec 32 := Scalar.addi v95 v96
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_59 : BitVec 32 := 1#32
  let v98 : BitVec 32 := Scalar.muli v9 c1_i32_59
  let v99 : BitVec 32 := Scalar.addi v97 v98
  v99.toNat
def k0_off5 (d0 : Dev nD) : Fin 3 → Nat :=
  let c2_i32_63 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v110 : BitVec 32 := Scalar.muli c2_i32_63 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v111 : BitVec 32 := Scalar.addi v110 v11
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c6160_i32 : BitVec 32 := 6160#32
  let v14 : BitVec 32 := Scalar.muli v8 c6160_i32
  let c0_i32_70 : BitVec 32 := 0#32
  ![v111.toNat, v14.toNat, 0]
def k0_dev5 (d0 : Dev nD) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_74 : BitVec 32 := 4#32
  let v124 : BitVec 32 := Scalar.muli v2 c4_i32_74
  let v125 : BitVec 32 := Scalar.addi c0_i32_75 v124
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_76 : BitVec 32 := 2#32
  let v126 : BitVec 32 := Scalar.muli v5 c2_i32_76
  let v127 : BitVec 32 := Scalar.addi v125 v126
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_77 : BitVec 32 := 1#32
  let v128 : BitVec 32 := Scalar.muli v9 c1_i32_77
  let v129 : BitVec 32 := Scalar.addi v127 v128
  v129.toNat
def k0_off6 (d0 : Dev nD) : Fin 3 → Nat :=
  let c2_i32_81 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v140 : BitVec 32 := Scalar.muli c2_i32_81 v12
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v141 : BitVec 32 := Scalar.addi v140 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c6160_i32 : BitVec 32 := 6160#32
  let v14 : BitVec 32 := Scalar.muli v8 c6160_i32
  let c0_i32_88 : BitVec 32 := 0#32
  ![v141.toNat, v14.toNat, 0]
def k0_dev6 (d0 : Dev nD) : Nat :=
  let c0_i32_92 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_91 : BitVec 32 := 4#32
  let v154 : BitVec 32 := Scalar.muli v2 c4_i32_91
  let v155 : BitVec 32 := Scalar.addi c0_i32_92 v154
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_93 : BitVec 32 := 2#32
  let v156 : BitVec 32 := Scalar.muli v5 c2_i32_93
  let v157 : BitVec 32 := Scalar.addi v155 v156
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_94 : BitVec 32 := 1#32
  let v158 : BitVec 32 := Scalar.muli v9 c1_i32_94
  let v159 : BitVec 32 := Scalar.addi v157 v158
  v159.toNat
def k0_off7 (d0 : Dev nD) : Fin 3 → Nat :=
  let c2_i32_98 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let v170 : BitVec 32 := Scalar.muli c2_i32_98 v10
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v171 : BitVec 32 := Scalar.addi v170 v5
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c6160_i32_9 : BitVec 32 := 6160#32
  let v16 : BitVec 32 := Scalar.muli v15 c6160_i32_9
  let c0_i32_105 : BitVec 32 := 0#32
  ![v171.toNat, v16.toNat, 0]
def k0_off8 (d0 : Dev nD) : Fin 3 → Nat :=
  let c2_i32_108 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v186 : BitVec 32 := Scalar.muli c2_i32_108 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let v187 : BitVec 32 := Scalar.addi v186 v11
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c6160_i32_9 : BitVec 32 := 6160#32
  let v16 : BitVec 32 := Scalar.muli v15 c6160_i32_9
  let c0_i32_115 : BitVec 32 := 0#32
  ![v187.toNat, v16.toNat, 0]
def k0_off9 (d0 : Dev nD) : Fin 3 → Nat :=
  let c2_i32_118 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let v202 : BitVec 32 := Scalar.muli c2_i32_118 v12
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let v203 : BitVec 32 := Scalar.addi v202 v13
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c6160_i32_9 : BitVec 32 := 6160#32
  let v16 : BitVec 32 := Scalar.muli v15 c6160_i32_9
  let c0_i32_125 : BitVec 32 := 0#32
  ![v203.toNat, v16.toNat, 0]
-- ==== GatherRef.lean ====
abbrev S49280x1024 : Shape := ⟨2, ![49280, 1024]⟩
abbrev S4x12320x1024 : Shape := ⟨3, ![4, 12320, 1024]⟩

abbrev nBuf : Space → Nat
  | .hbm => 2
  | .vmem => 0
  | .smem => 0
  | _ => 0

abbrev bufTy : (tb : Table) → Fin (tcTables nBuf tb) → BufTy
  | .hbm, ⟨0, _⟩ => ⟨S49280x1024, .bf16⟩
  | .hbm, ⟨1, _⟩ => ⟨S4x12320x1024, .bf16⟩
  | _, _ => ⟨S49280x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== AdamwWAda.lean ====
abbrev S4x1024x1536 : Shape := ⟨3, ![4, 1024, 1536]⟩
abbrev S4096x1536 : Shape := ⟨2, ![4096, 1536]⟩
abbrev S128x1536 : Shape := ⟨2, ![128, 1536]⟩

abbrev nBuf : Space → Nat
  | .hbm => 14
  | .vmem => 14
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .hbm, ⟨8, _⟩ => ⟨S4096x1536, .f32⟩
  | .hbm, ⟨9, _⟩ => ⟨S4096x1536, .f32⟩
  | .hbm, ⟨10, _⟩ => ⟨S4096x1536, .f32⟩
  | .hbm, ⟨11, _⟩ => ⟨S4x1024x1536, .f32⟩
  | .hbm, ⟨12, _⟩ => ⟨S4x1024x1536, .f32⟩
  | .hbm, ⟨13, _⟩ => ⟨S4x1024x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | _, _ => ⟨S4x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwWAdaIdeal.lean ====
abbrev S4x1024x1536 : Shape := ⟨3, ![4, 1024, 1536]⟩
abbrev S4096x1536 : Shape := ⟨2, ![4096, 1536]⟩
abbrev S128x1536 : Shape := ⟨2, ![128, 1536]⟩

abbrev nBuf : Space → Nat
  | .hbm => 14
  | .vmem => 14
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .hbm, ⟨8, _⟩ => ⟨S4096x1536, .f32⟩
  | .hbm, ⟨9, _⟩ => ⟨S4096x1536, .f32⟩
  | .hbm, ⟨10, _⟩ => ⟨S4096x1536, .f32⟩
  | .hbm, ⟨11, _⟩ => ⟨S4x1024x1536, .f32⟩
  | .hbm, ⟨12, _⟩ => ⟨S4x1024x1536, .f32⟩
  | .hbm, ⟨13, _⟩ => ⟨S4x1024x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | _, _ => ⟨S4x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwWAdaRefIdeal.lean ====
abbrev S4x1024x1536 : Shape := ⟨3, ![4, 1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S_, .f32⟩
  | .hbm, ⟨5, _⟩ => ⟨S4x1024x1536, .f32⟩
  | .hbm, ⟨6, _⟩ => ⟨S4x1024x1536, .f32⟩
  | .hbm, ⟨7, _⟩ => ⟨S_, .f32⟩
  | .hbm, ⟨8, _⟩ => ⟨S4x1024x1536, .f32⟩
  | .hbm, ⟨9, _⟩ => ⟨S4x1024x1536, .f32⟩
  | .hbm, ⟨10, _⟩ => ⟨S4x1024x1536, .f32⟩
  | .hbm, ⟨11, _⟩ => ⟨S_, .f32⟩
  | .hbm, ⟨12, _⟩ => ⟨S4x1024x1536, .f32⟩
  | .hbm, ⟨13, _⟩ => ⟨S4x1024x1536, .f32⟩
  | .hbm, ⟨14, _⟩ => ⟨S4x1024x1536, .f32⟩
  | .hbm, ⟨15, _⟩ => ⟨S_, .f32⟩
  | .hbm, ⟨16, _⟩ => ⟨S4x1024x1536, .f32⟩
  | .hbm, ⟨17, _⟩ => ⟨S4x1024x1536, .f32⟩
  | .hbm, ⟨18, _⟩ => ⟨S4x1024x1536, .f32⟩
  | .hbm, ⟨19, _⟩ => ⟨S_, .f32⟩
  | .hbm, ⟨20, _⟩ => ⟨S4x1024x1536, .f32⟩
  | .hbm, ⟨21, _⟩ => ⟨S4x1024x1536, .f32⟩
  | .hbm, ⟨22, _⟩ => ⟨S_, .f32⟩
  | .hbm, ⟨23, _⟩ => ⟨S4x1024x1536, .f32⟩
  | .hbm, ⟨24, _⟩ => ⟨S4x1024x1536, .f32⟩
  | .hbm, ⟨25, _⟩ => ⟨S4x1024x1536, .f32⟩
  | .hbm, ⟨26, _⟩ => ⟨S_, .f32⟩
  | .hbm, ⟨27, _⟩ => ⟨S4x1024x1536, .f32⟩
  | .hbm, ⟨28, _⟩ => ⟨S4x1024x1536, .f32⟩
  | .hbm, ⟨29, _⟩ => ⟨S4x1024x1536, .f32⟩
  | .hbm, ⟨30, _⟩ => ⟨S_, .f32⟩
  | .hbm, ⟨31, _⟩ => ⟨S4x1024x1536, .f32⟩
  | .hbm, ⟨32, _⟩ => ⟨S4x1024x1536, .f32⟩
  | .hbm, ⟨33, _⟩ => ⟨S4x1024x1536, .f32⟩
  | .hbm, ⟨34, _⟩ => ⟨S_, .f32⟩
  | .hbm, ⟨35, _⟩ => ⟨S4x1024x1536, .f32⟩
  | .hbm, ⟨36, _⟩ => ⟨S4x1024x1536, .f32⟩
  | _, _ => ⟨S4x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwBAda.lean ====
abbrev S4x6144 : Shape := ⟨2, ![4, 6144]⟩

abbrev nBuf : Space → Nat
  | .hbm => 7
  | .vmem => 7
  | .smem => 0
  | _ => 0

abbrev bufTy : (tb : Table) → Fin (tcTables nBuf tb) → BufTy
  | .hbm, ⟨0, _⟩ => ⟨S4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S4x6144, .f32⟩
  | .hbm, ⟨5, _⟩ => ⟨S4x6144, .f32⟩
  | .hbm, ⟨6, _⟩ => ⟨S4x6144, .f32⟩
  | .local _ .vmem, ⟨0, _⟩ => ⟨S4x6144, .f32⟩
  | .local _ .vmem, ⟨1, _⟩ => ⟨S4x6144, .f32⟩
  | .local _ .vmem, ⟨2, _⟩ => ⟨S4x6144, .f32⟩
  | .local _ .vmem, ⟨3, _⟩ => ⟨S4x6144, .f32⟩
  | .local _ .vmem, ⟨4, _⟩ => ⟨S4x6144, .f32⟩
  | .local _ .vmem, ⟨5, _⟩ => ⟨S4x6144, .f32⟩
  | .local _ .vmem, ⟨6, _⟩ => ⟨S4x6144, .f32⟩
  | _, _ => ⟨S4x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwBAdaIdeal.lean ====
abbrev S4x6144 : Shape := ⟨2, ![4, 6144]⟩

abbrev nBuf : Space → Nat
  | .hbm => 7
  | .vmem => 7
  | .smem => 0
  | _ => 0

abbrev bufTy : (tb : Table) → Fin (tcTables nBuf tb) → BufTy
  | .hbm, ⟨0, _⟩ => ⟨S4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S4x6144, .f32⟩
  | .hbm, ⟨5, _⟩ => ⟨S4x6144, .f32⟩
  | .hbm, ⟨6, _⟩ => ⟨S4x6144, .f32⟩
  | .local _ .vmem, ⟨0, _⟩ => ⟨S4x6144, .f32⟩
  | .local _ .vmem, ⟨1, _⟩ => ⟨S4x6144, .f32⟩
  | .local _ .vmem, ⟨2, _⟩ => ⟨S4x6144, .f32⟩
  | .local _ .vmem, ⟨3, _⟩ => ⟨S4x6144, .f32⟩
  | .local _ .vmem, ⟨4, _⟩ => ⟨S4x6144, .f32⟩
  | .local _ .vmem, ⟨5, _⟩ => ⟨S4x6144, .f32⟩
  | .local _ .vmem, ⟨6, _⟩ => ⟨S4x6144, .f32⟩
  | _, _ => ⟨S4x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwBAdaRefIdeal.lean ====
abbrev S4x6144 : Shape := ⟨2, ![4, 6144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S_, .f32⟩
  | .hbm, ⟨5, _⟩ => ⟨S4x6144, .f32⟩
  | .hbm, ⟨6, _⟩ => ⟨S4x6144, .f32⟩
  | .hbm, ⟨7, _⟩ => ⟨S_, .f32⟩
  | .hbm, ⟨8, _⟩ => ⟨S4x6144, .f32⟩
  | .hbm, ⟨9, _⟩ => ⟨S4x6144, .f32⟩
  | .hbm, ⟨10, _⟩ => ⟨S4x6144, .f32⟩
  | .hbm, ⟨11, _⟩ => ⟨S_, .f32⟩
  | .hbm, ⟨12, _⟩ => ⟨S4x6144, .f32⟩
  | .hbm, ⟨13, _⟩ => ⟨S4x6144, .f32⟩
  | .hbm, ⟨14, _⟩ => ⟨S4x6144, .f32⟩
  | .hbm, ⟨15, _⟩ => ⟨S_, .f32⟩
  | .hbm, ⟨16, _⟩ => ⟨S4x6144, .f32⟩
  | .hbm, ⟨17, _⟩ => ⟨S4x6144, .f32⟩
  | .hbm, ⟨18, _⟩ => ⟨S4x6144, .f32⟩
  | .hbm, ⟨19, _⟩ => ⟨S_, .f32⟩
  | .hbm, ⟨20, _⟩ => ⟨S4x6144, .f32⟩
  | .hbm, ⟨21, _⟩ => ⟨S4x6144, .f32⟩
  | .hbm, ⟨22, _⟩ => ⟨S_, .f32⟩
  | .hbm, ⟨23, _⟩ => ⟨S4x6144, .f32⟩
  | .hbm, ⟨24, _⟩ => ⟨S4x6144, .f32⟩
  | .hbm, ⟨25, _⟩ => ⟨S4x6144, .f32⟩
  | .hbm, ⟨26, _⟩ => ⟨S_, .f32⟩
  | .hbm, ⟨27, _⟩ => ⟨S4x6144, .f32⟩
  | .hbm, ⟨28, _⟩ => ⟨S4x6144, .f32⟩
  | .hbm, ⟨29, _⟩ => ⟨S4x6144, .f32⟩
  | .hbm, ⟨30, _⟩ => ⟨S_, .f32⟩
  | .hbm, ⟨31, _⟩ => ⟨S4x6144, .f32⟩
  | .hbm, ⟨32, _⟩ => ⟨S4x6144, .f32⟩
  | .hbm, ⟨33, _⟩ => ⟨S4x6144, .f32⟩
  | .hbm, ⟨34, _⟩ => ⟨S_, .f32⟩
  | .hbm, ⟨35, _⟩ => ⟨S4x6144, .f32⟩
  | .hbm, ⟨36, _⟩ => ⟨S4x6144, .f32⟩
  | _, _ => ⟨S4x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwLnG.lean ====
abbrev S4x2x256 : Shape := ⟨3, ![4, 2, 256]⟩
abbrev S8x256 : Shape := ⟨2, ![8, 256]⟩

abbrev nBuf : Space → Nat
  | .hbm => 14
  | .vmem => 7
  | .smem => 0
  | _ => 0

abbrev bufTy : (tb : Table) → Fin (tcTables nBuf tb) → BufTy
  | .hbm, ⟨0, _⟩ => ⟨S4x2x256, .f32⟩
  | .hbm, ⟨1, _⟩ => ⟨S4x2x256, .f32⟩
  | .hbm, ⟨2, _⟩ => ⟨S4x2x256, .f32⟩
  | .hbm, ⟨3, _⟩ => ⟨S4x2x256, .f32⟩
  | .hbm, ⟨4, _⟩ => ⟨S8x256, .f32⟩
  | .hbm, ⟨5, _⟩ => ⟨S8x256, .f32⟩
  | .hbm, ⟨6, _⟩ => ⟨S8x256, .f32⟩
  | .hbm, ⟨7, _⟩ => ⟨S8x256, .f32⟩
  | .hbm, ⟨8, _⟩ => ⟨S8x256, .f32⟩
  | .hbm, ⟨9, _⟩ => ⟨S8x256, .f32⟩
  | .hbm, ⟨10, _⟩ => ⟨S8x256, .f32⟩
  | .hbm, ⟨11, _⟩ => ⟨S4x2x256, .f32⟩
  | .hbm, ⟨12, _⟩ => ⟨S4x2x256, .f32⟩
  | .hbm, ⟨13, _⟩ => ⟨S4x2x256, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | _, _ => ⟨S4x2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwLnGIdeal.lean ====
abbrev S4x2x256 : Shape := ⟨3, ![4, 2, 256]⟩
abbrev S8x256 : Shape := ⟨2, ![8, 256]⟩

abbrev nBuf : Space → Nat
  | .hbm => 14
  | .vmem => 7
  | .smem => 0
  | _ => 0

abbrev bufTy : (tb : Table) → Fin (tcTables nBuf tb) → BufTy
  | .hbm, ⟨0, _⟩ => ⟨S4x2x256, .f32⟩
  | .hbm, ⟨1, _⟩ => ⟨S4x2x256, .f32⟩
  | .hbm, ⟨2, _⟩ => ⟨S4x2x256, .f32⟩
  | .hbm, ⟨3, _⟩ => ⟨S4x2x256, .f32⟩
  | .hbm, ⟨4, _⟩ => ⟨S8x256, .f32⟩
  | .hbm, ⟨5, _⟩ => ⟨S8x256, .f32⟩
  | .hbm, ⟨6, _⟩ => ⟨S8x256, .f32⟩
  | .hbm, ⟨7, _⟩ => ⟨S8x256, .f32⟩
  | .hbm, ⟨8, _⟩ => ⟨S8x256, .f32⟩
  | .hbm, ⟨9, _⟩ => ⟨S8x256, .f32⟩
  | .hbm, ⟨10, _⟩ => ⟨S8x256, .f32⟩
  | .hbm, ⟨11, _⟩ => ⟨S4x2x256, .f32⟩
  | .hbm, ⟨12, _⟩ => ⟨S4x2x256, .f32⟩
  | .hbm, ⟨13, _⟩ => ⟨S4x2x256, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | _, _ => ⟨S4x2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwLnGRefIdeal.lean ====
abbrev S4x2x256 : Shape := ⟨3, ![4, 2, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2x256, .f32⟩
  | .hbm, ⟨1, _⟩ => ⟨S4x2x256, .f32⟩
  | .hbm, ⟨2, _⟩ => ⟨S4x2x256, .f32⟩
  | .hbm, ⟨3, _⟩ => ⟨S4x2x256, .f32⟩
  | .hbm, ⟨4, _⟩ => ⟨S_, .f32⟩
  | .hbm, ⟨5, _⟩ => ⟨S4x2x256, .f32⟩
  | .hbm, ⟨6, _⟩ => ⟨S4x2x256, .f32⟩
  | .hbm, ⟨7, _⟩ => ⟨S_, .f32⟩
  | .hbm, ⟨8, _⟩ => ⟨S4x2x256, .f32⟩
  | .hbm, ⟨9, _⟩ => ⟨S4x2x256, .f32⟩
  | .hbm, ⟨10, _⟩ => ⟨S4x2x256, .f32⟩
  | .hbm, ⟨11, _⟩ => ⟨S_, .f32⟩
  | .hbm, ⟨12, _⟩ => ⟨S4x2x256, .f32⟩
  | .hbm, ⟨13, _⟩ => ⟨S4x2x256, .f32⟩
  | .hbm, ⟨14, _⟩ => ⟨S4x2x256, .f32⟩
  | .hbm, ⟨15, _⟩ => ⟨S_, .f32⟩
  | .hbm, ⟨16, _⟩ => ⟨S4x2x256, .f32⟩
  | .hbm, ⟨17, _⟩ => ⟨S4x2x256, .f32⟩
  | .hbm, ⟨18, _⟩ => ⟨S4x2x256, .f32⟩
  | .hbm, ⟨19, _⟩ => ⟨S_, .f32⟩
  | .hbm, ⟨20, _⟩ => ⟨S4x2x256, .f32⟩
  | .hbm, ⟨21, _⟩ => ⟨S4x2x256, .f32⟩
  | .hbm, ⟨22, _⟩ => ⟨S_, .f32⟩
  | .hbm, ⟨23, _⟩ => ⟨S4x2x256, .f32⟩
  | .hbm, ⟨24, _⟩ => ⟨S4x2x256, .f32⟩
  | .hbm, ⟨25, _⟩ => ⟨S4x2x256, .f32⟩
  | .hbm, ⟨26, _⟩ => ⟨S_, .f32⟩
  | .hbm, ⟨27, _⟩ => ⟨S4x2x256, .f32⟩
  | .hbm, ⟨28, _⟩ => ⟨S4x2x256, .f32⟩
  | .hbm, ⟨29, _⟩ => ⟨S4x2x256, .f32⟩
  | .hbm, ⟨30, _⟩ => ⟨S_, .f32⟩
  | .hbm, ⟨31, _⟩ => ⟨S4x2x256, .f32⟩
  | .hbm, ⟨32, _⟩ => ⟨S4x2x256, .f32⟩
  | .hbm, ⟨33, _⟩ => ⟨S4x2x256, .f32⟩
  | .hbm, ⟨34, _⟩ => ⟨S_, .f32⟩
  | .hbm, ⟨35, _⟩ => ⟨S4x2x256, .f32⟩
  | .hbm, ⟨36, _⟩ => ⟨S4x2x256, .f32⟩
  | _, _ => ⟨S4x2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwGlaWIn.lean ====
abbrev S2x1024x772 : Shape := ⟨3, ![2, 1024, 772]⟩
abbrev S2048x772 : Shape := ⟨2, ![2048, 772]⟩
abbrev S256x772 : Shape := ⟨2, ![256, 772]⟩

abbrev nBuf : Space → Nat
  | .hbm => 14
  | .vmem => 14
  | .smem => 0
  | _ => 0

abbrev bufTy : (tb : Table) → Fin (tcTables nBuf tb) → BufTy
  | .hbm, ⟨0, _⟩ => ⟨S2x1024x772, .f32⟩
  | .hbm, ⟨1, _⟩ => ⟨S2x1024x772, .f32⟩
  | .hbm, ⟨2, _⟩ => ⟨S2x1024x772, .f32⟩
  | .hbm, ⟨3, _⟩ => ⟨S2x1024x772, .f32⟩
  | .hbm, ⟨4, _⟩ => ⟨S2048x772, .f32⟩
  | .hbm, ⟨5, _⟩ => ⟨S2048x772, .f32⟩
  | .hbm, ⟨6, _⟩ => ⟨S2048x772, .f32⟩
  | .hbm, ⟨7, _⟩ => ⟨S2048x772, .f32⟩
  | .hbm, ⟨8, _⟩ => ⟨S2048x772, .f32⟩
  | .hbm, ⟨9, _⟩ => ⟨S2048x772, .f32⟩
  | .hbm, ⟨10, _⟩ => ⟨S2048x772, .f32⟩
  | .hbm, ⟨11, _⟩ => ⟨S2x1024x772, .f32⟩
  | .hbm, ⟨12, _⟩ => ⟨S2x1024x772, .f32⟩
  | .hbm, ⟨13, _⟩ => ⟨S2x1024x772, .f32⟩
  | .local _ .vmem, ⟨0, _⟩ => ⟨S256x772, .f32⟩
  | .local _ .vmem, ⟨1, _⟩ => ⟨S256x772, .f32⟩
  | .local _ .vmem, ⟨2, _⟩ => ⟨S256x772, .f32⟩
  | .local _ .vmem, ⟨3, _⟩ => ⟨S256x772, .f32⟩
  | .local _ .vmem, ⟨4, _⟩ => ⟨S256x772, .f32⟩
  | .local _ .vmem, ⟨5, _⟩ => ⟨S256x772, .f32⟩
  | .local _ .vmem, ⟨6, _⟩ => ⟨S256x772, .f32⟩
  | .local _ .vmem, ⟨7, _⟩ => ⟨S256x772, .f32⟩
  | .local _ .vmem, ⟨8, _⟩ => ⟨S256x772, .f32⟩
  | .local _ .vmem, ⟨9, _⟩ => ⟨S256x772, .f32⟩
  | .local _ .vmem, ⟨10, _⟩ => ⟨S256x772, .f32⟩
  | .local _ .vmem, ⟨11, _⟩ => ⟨S256x772, .f32⟩
  | .local _ .vmem, ⟨12, _⟩ => ⟨S256x772, .f32⟩
  | .local _ .vmem, ⟨13, _⟩ => ⟨S256x772, .f32⟩
  | _, _ => ⟨S2x1024x772, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x772 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x772 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x772 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x772 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x772 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x772 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x772 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwGlaWInIdeal.lean ====
abbrev S2x1024x772 : Shape := ⟨3, ![2, 1024, 772]⟩
abbrev S2048x772 : Shape := ⟨2, ![2048, 772]⟩
abbrev S256x772 : Shape := ⟨2, ![256, 772]⟩

abbrev nBuf : Space → Nat
  | .hbm => 14
  | .vmem => 14
  | .smem => 0
  | _ => 0

abbrev bufTy : (tb : Table) → Fin (tcTables nBuf tb) → BufTy
  | .hbm, ⟨0, _⟩ => ⟨S2x1024x772, .f32⟩
  | .hbm, ⟨1, _⟩ => ⟨S2x1024x772, .f32⟩
  | .hbm, ⟨2, _⟩ => ⟨S2x1024x772, .f32⟩
  | .hbm, ⟨3, _⟩ => ⟨S2x1024x772, .f32⟩
  | .hbm, ⟨4, _⟩ => ⟨S2048x772, .f32⟩
  | .hbm, ⟨5, _⟩ => ⟨S2048x772, .f32⟩
  | .hbm, ⟨6, _⟩ => ⟨S2048x772, .f32⟩
  | .hbm, ⟨7, _⟩ => ⟨S2048x772, .f32⟩
  | .hbm, ⟨8, _⟩ => ⟨S2048x772, .f32⟩
  | .hbm, ⟨9, _⟩ => ⟨S2048x772, .f32⟩
  | .hbm, ⟨10, _⟩ => ⟨S2048x772, .f32⟩
  | .hbm, ⟨11, _⟩ => ⟨S2x1024x772, .f32⟩
  | .hbm, ⟨12, _⟩ => ⟨S2x1024x772, .f32⟩
  | .hbm, ⟨13, _⟩ => ⟨S2x1024x772, .f32⟩
  | .local _ .vmem, ⟨0, _⟩ => ⟨S256x772, .f32⟩
  | .local _ .vmem, ⟨1, _⟩ => ⟨S256x772, .f32⟩
  | .local _ .vmem, ⟨2, _⟩ => ⟨S256x772, .f32⟩
  | .local _ .vmem, ⟨3, _⟩ => ⟨S256x772, .f32⟩
  | .local _ .vmem, ⟨4, _⟩ => ⟨S256x772, .f32⟩
  | .local _ .vmem, ⟨5, _⟩ => ⟨S256x772, .f32⟩
  | .local _ .vmem, ⟨6, _⟩ => ⟨S256x772, .f32⟩
  | .local _ .vmem, ⟨7, _⟩ => ⟨S256x772, .f32⟩
  | .local _ .vmem, ⟨8, _⟩ => ⟨S256x772, .f32⟩
  | .local _ .vmem, ⟨9, _⟩ => ⟨S256x772, .f32⟩
  | .local _ .vmem, ⟨10, _⟩ => ⟨S256x772, .f32⟩
  | .local _ .vmem, ⟨11, _⟩ => ⟨S256x772, .f32⟩
  | .local _ .vmem, ⟨12, _⟩ => ⟨S256x772, .f32⟩
  | .local _ .vmem, ⟨13, _⟩ => ⟨S256x772, .f32⟩
  | _, _ => ⟨S2x1024x772, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x772 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x772 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x772 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x772 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x772 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x772 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x772 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwGlaWInRefIdeal.lean ====
abbrev S2x1024x772 : Shape := ⟨3, ![2, 1024, 772]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x772, .f32⟩
  | .hbm, ⟨1, _⟩ => ⟨S2x1024x772, .f32⟩
  | .hbm, ⟨2, _⟩ => ⟨S2x1024x772, .f32⟩
  | .hbm, ⟨3, _⟩ => ⟨S2x1024x772, .f32⟩
  | .hbm, ⟨4, _⟩ => ⟨S_, .f32⟩
  | .hbm, ⟨5, _⟩ => ⟨S2x1024x772, .f32⟩
  | .hbm, ⟨6, _⟩ => ⟨S2x1024x772, .f32⟩
  | .hbm, ⟨7, _⟩ => ⟨S_, .f32⟩
  | .hbm, ⟨8, _⟩ => ⟨S2x1024x772, .f32⟩
  | .hbm, ⟨9, _⟩ => ⟨S2x1024x772, .f32⟩
  | .hbm, ⟨10, _⟩ => ⟨S2x1024x772, .f32⟩
  | .hbm, ⟨11, _⟩ => ⟨S_, .f32⟩
  | .hbm, ⟨12, _⟩ => ⟨S2x1024x772, .f32⟩
  | .hbm, ⟨13, _⟩ => ⟨S2x1024x772, .f32⟩
  | .hbm, ⟨14, _⟩ => ⟨S2x1024x772, .f32⟩
  | .hbm, ⟨15, _⟩ => ⟨S_, .f32⟩
  | .hbm, ⟨16, _⟩ => ⟨S2x1024x772, .f32⟩
  | .hbm, ⟨17, _⟩ => ⟨S2x1024x772, .f32⟩
  | .hbm, ⟨18, _⟩ => ⟨S2x1024x772, .f32⟩
  | .hbm, ⟨19, _⟩ => ⟨S_, .f32⟩
  | .hbm, ⟨20, _⟩ => ⟨S2x1024x772, .f32⟩
  | .hbm, ⟨21, _⟩ => ⟨S2x1024x772, .f32⟩
  | .hbm, ⟨22, _⟩ => ⟨S_, .f32⟩
  | .hbm, ⟨23, _⟩ => ⟨S2x1024x772, .f32⟩
  | .hbm, ⟨24, _⟩ => ⟨S2x1024x772, .f32⟩
  | .hbm, ⟨25, _⟩ => ⟨S2x1024x772, .f32⟩
  | .hbm, ⟨26, _⟩ => ⟨S_, .f32⟩
  | .hbm, ⟨27, _⟩ => ⟨S2x1024x772, .f32⟩
  | .hbm, ⟨28, _⟩ => ⟨S2x1024x772, .f32⟩
  | .hbm, ⟨29, _⟩ => ⟨S2x1024x772, .f32⟩
  | .hbm, ⟨30, _⟩ => ⟨S_, .f32⟩
  | .hbm, ⟨31, _⟩ => ⟨S2x1024x772, .f32⟩
  | .hbm, ⟨32, _⟩ => ⟨S2x1024x772, .f32⟩
  | .hbm, ⟨33, _⟩ => ⟨S2x1024x772, .f32⟩
  | .hbm, ⟨34, _⟩ => ⟨S_, .f32⟩
  | .hbm, ⟨35, _⟩ => ⟨S2x1024x772, .f32⟩
  | .hbm, ⟨36, _⟩ => ⟨S2x1024x772, .f32⟩
  | _, _ => ⟨S2x1024x772, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwGlaWGk2.lean ====
abbrev S2x16x128 : Shape := ⟨3, ![2, 16, 128]⟩
abbrev S32x128 : Shape := ⟨2, ![32, 128]⟩

abbrev nBuf : Space → Nat
  | .hbm => 14
  | .vmem => 7
  | .smem => 0
  | _ => 0

abbrev bufTy : (tb : Table) → Fin (tcTables nBuf tb) → BufTy
  | .hbm, ⟨0, _⟩ => ⟨S2x16x128, .f32⟩
  | .hbm, ⟨1, _⟩ => ⟨S2x16x128, .f32⟩
  | .hbm, ⟨2, _⟩ => ⟨S2x16x128, .f32⟩
  | .hbm, ⟨3, _⟩ => ⟨S2x16x128, .f32⟩
  | .hbm, ⟨4, _⟩ => ⟨S32x128, .f32⟩
  | .hbm, ⟨5, _⟩ => ⟨S32x128, .f32⟩
  | .hbm, ⟨6, _⟩ => ⟨S32x128, .f32⟩
  | .hbm, ⟨7, _⟩ => ⟨S32x128, .f32⟩
  | .hbm, ⟨8, _⟩ => ⟨S32x128, .f32⟩
  | .hbm, ⟨9, _⟩ => ⟨S32x128, .f32⟩
  | .hbm, ⟨10, _⟩ => ⟨S32x128, .f32⟩
  | .hbm, ⟨11, _⟩ => ⟨S2x16x128, .f32⟩
  | .hbm, ⟨12, _⟩ => ⟨S2x16x128, .f32⟩
  | .hbm, ⟨13, _⟩ => ⟨S2x16x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | _, _ => ⟨S2x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwGlaWGk2Ideal.lean ====
abbrev S2x16x128 : Shape := ⟨3, ![2, 16, 128]⟩
abbrev S32x128 : Shape := ⟨2, ![32, 128]⟩

abbrev nBuf : Space → Nat
  | .hbm => 14
  | .vmem => 7
  | .smem => 0
  | _ => 0

abbrev bufTy : (tb : Table) → Fin (tcTables nBuf tb) → BufTy
  | .hbm, ⟨0, _⟩ => ⟨S2x16x128, .f32⟩
  | .hbm, ⟨1, _⟩ => ⟨S2x16x128, .f32⟩
  | .hbm, ⟨2, _⟩ => ⟨S2x16x128, .f32⟩
  | .hbm, ⟨3, _⟩ => ⟨S2x16x128, .f32⟩
  | .hbm, ⟨4, _⟩ => ⟨S32x128, .f32⟩
  | .hbm, ⟨5, _⟩ => ⟨S32x128, .f32⟩
  | .hbm, ⟨6, _⟩ => ⟨S32x128, .f32⟩
  | .hbm, ⟨7, _⟩ => ⟨S32x128, .f32⟩
  | .hbm, ⟨8, _⟩ => ⟨S32x128, .f32⟩
  | .hbm, ⟨9, _⟩ => ⟨S32x128, .f32⟩
  | .hbm, ⟨10, _⟩ => ⟨S32x128, .f32⟩
  | .hbm, ⟨11, _⟩ => ⟨S2x16x128, .f32⟩
  | .hbm, ⟨12, _⟩ => ⟨S2x16x128, .f32⟩
  | .hbm, ⟨13, _⟩ => ⟨S2x16x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | _, _ => ⟨S2x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwGlaWGk2RefIdeal.lean ====
abbrev S2x16x128 : Shape := ⟨3, ![2, 16, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x16x128, .f32⟩
  | .hbm, ⟨1, _⟩ => ⟨S2x16x128, .f32⟩
  | .hbm, ⟨2, _⟩ => ⟨S2x16x128, .f32⟩
  | .hbm, ⟨3, _⟩ => ⟨S2x16x128, .f32⟩
  | .hbm, ⟨4, _⟩ => ⟨S_, .f32⟩
  | .hbm, ⟨5, _⟩ => ⟨S2x16x128, .f32⟩
  | .hbm, ⟨6, _⟩ => ⟨S2x16x128, .f32⟩
  | .hbm, ⟨7, _⟩ => ⟨S_, .f32⟩
  | .hbm, ⟨8, _⟩ => ⟨S2x16x128, .f32⟩
  | .hbm, ⟨9, _⟩ => ⟨S2x16x128, .f32⟩
  | .hbm, ⟨10, _⟩ => ⟨S2x16x128, .f32⟩
  | .hbm, ⟨11, _⟩ => ⟨S_, .f32⟩
  | .hbm, ⟨12, _⟩ => ⟨S2x16x128, .f32⟩
  | .hbm, ⟨13, _⟩ => ⟨S2x16x128, .f32⟩
  | .hbm, ⟨14, _⟩ => ⟨S2x16x128, .f32⟩
  | .hbm, ⟨15, _⟩ => ⟨S_, .f32⟩
  | .hbm, ⟨16, _⟩ => ⟨S2x16x128, .f32⟩
  | .hbm, ⟨17, _⟩ => ⟨S2x16x128, .f32⟩
  | .hbm, ⟨18, _⟩ => ⟨S2x16x128, .f32⟩
  | .hbm, ⟨19, _⟩ => ⟨S_, .f32⟩
  | .hbm, ⟨20, _⟩ => ⟨S2x16x128, .f32⟩
  | .hbm, ⟨21, _⟩ => ⟨S2x16x128, .f32⟩
  | .hbm, ⟨22, _⟩ => ⟨S_, .f32⟩
  | .hbm, ⟨23, _⟩ => ⟨S2x16x128, .f32⟩
  | .hbm, ⟨24, _⟩ => ⟨S2x16x128, .f32⟩
  | .hbm, ⟨25, _⟩ => ⟨S2x16x128, .f32⟩
  | .hbm, ⟨26, _⟩ => ⟨S_, .f32⟩
  | .hbm, ⟨27, _⟩ => ⟨S2x16x128, .f32⟩
  | .hbm, ⟨28, _⟩ => ⟨S2x16x128, .f32⟩
  | .hbm, ⟨29, _⟩ => ⟨S2x16x128, .f32⟩
  | .hbm, ⟨30, _⟩ => ⟨S_, .f32⟩
  | .hbm, ⟨31, _⟩ => ⟨S2x16x128, .f32⟩
  | .hbm, ⟨32, _⟩ => ⟨S2x16x128, .f32⟩
  | .hbm, ⟨33, _⟩ => ⟨S2x16x128, .f32⟩
  | .hbm, ⟨34, _⟩ => ⟨S_, .f32⟩
  | .hbm, ⟨35, _⟩ => ⟨S2x16x128, .f32⟩
  | .hbm, ⟨36, _⟩ => ⟨S2x16x128, .f32⟩
  | _, _ => ⟨S2x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwGlaBGk.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwGlaBGkIdeal.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwGlaBGkRefIdeal.lean ====
abbrev S2x512 : Shape := ⟨2, ![2, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwGlaGNorm.lean ====
abbrev S2x4x64 : Shape := ⟨3, ![2, 4, 64]⟩
abbrev S8x64 : Shape := ⟨2, ![8, 64]⟩

abbrev nBuf : Space → Nat
  | .hbm => 14
  | .vmem => 7
  | .smem => 0
  | _ => 0

abbrev bufTy : (tb : Table) → Fin (tcTables nBuf tb) → BufTy
  | .hbm, ⟨0, _⟩ => ⟨S2x4x64, .f32⟩
  | .hbm, ⟨1, _⟩ => ⟨S2x4x64, .f32⟩
  | .hbm, ⟨2, _⟩ => ⟨S2x4x64, .f32⟩
  | .hbm, ⟨3, _⟩ => ⟨S2x4x64, .f32⟩
  | .hbm, ⟨4, _⟩ => ⟨S8x64, .f32⟩
  | .hbm, ⟨5, _⟩ => ⟨S8x64, .f32⟩
  | .hbm, ⟨6, _⟩ => ⟨S8x64, .f32⟩
  | .hbm, ⟨7, _⟩ => ⟨S8x64, .f32⟩
  | .hbm, ⟨8, _⟩ => ⟨S8x64, .f32⟩
  | .hbm, ⟨9, _⟩ => ⟨S8x64, .f32⟩
  | .hbm, ⟨10, _⟩ => ⟨S8x64, .f32⟩
  | .hbm, ⟨11, _⟩ => ⟨S2x4x64, .f32⟩
  | .hbm, ⟨12, _⟩ => ⟨S2x4x64, .f32⟩
  | .hbm, ⟨13, _⟩ => ⟨S2x4x64, .f32⟩
  | .local _ .vmem, ⟨0, _⟩ => ⟨S8x64, .f32⟩
  | .local _ .vmem, ⟨1, _⟩ => ⟨S8x64, .f32⟩
  | .local _ .vmem, ⟨2, _⟩ => ⟨S8x64, .f32⟩
  | .local _ .vmem, ⟨3, _⟩ => ⟨S8x64, .f32⟩
  | .local _ .vmem, ⟨4, _⟩ => ⟨S8x64, .f32⟩
  | .local _ .vmem, ⟨5, _⟩ => ⟨S8x64, .f32⟩
  | .local _ .vmem, ⟨6, _⟩ => ⟨S8x64, .f32⟩
  | _, _ => ⟨S2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwGlaGNormIdeal.lean ====
abbrev S2x4x64 : Shape := ⟨3, ![2, 4, 64]⟩
abbrev S8x64 : Shape := ⟨2, ![8, 64]⟩

abbrev nBuf : Space → Nat
  | .hbm => 14
  | .vmem => 7
  | .smem => 0
  | _ => 0

abbrev bufTy : (tb : Table) → Fin (tcTables nBuf tb) → BufTy
  | .hbm, ⟨0, _⟩ => ⟨S2x4x64, .f32⟩
  | .hbm, ⟨1, _⟩ => ⟨S2x4x64, .f32⟩
  | .hbm, ⟨2, _⟩ => ⟨S2x4x64, .f32⟩
  | .hbm, ⟨3, _⟩ => ⟨S2x4x64, .f32⟩
  | .hbm, ⟨4, _⟩ => ⟨S8x64, .f32⟩
  | .hbm, ⟨5, _⟩ => ⟨S8x64, .f32⟩
  | .hbm, ⟨6, _⟩ => ⟨S8x64, .f32⟩
  | .hbm, ⟨7, _⟩ => ⟨S8x64, .f32⟩
  | .hbm, ⟨8, _⟩ => ⟨S8x64, .f32⟩
  | .hbm, ⟨9, _⟩ => ⟨S8x64, .f32⟩
  | .hbm, ⟨10, _⟩ => ⟨S8x64, .f32⟩
  | .hbm, ⟨11, _⟩ => ⟨S2x4x64, .f32⟩
  | .hbm, ⟨12, _⟩ => ⟨S2x4x64, .f32⟩
  | .hbm, ⟨13, _⟩ => ⟨S2x4x64, .f32⟩
  | .local _ .vmem, ⟨0, _⟩ => ⟨S8x64, .f32⟩
  | .local _ .vmem, ⟨1, _⟩ => ⟨S8x64, .f32⟩
  | .local _ .vmem, ⟨2, _⟩ => ⟨S8x64, .f32⟩
  | .local _ .vmem, ⟨3, _⟩ => ⟨S8x64, .f32⟩
  | .local _ .vmem, ⟨4, _⟩ => ⟨S8x64, .f32⟩
  | .local _ .vmem, ⟨5, _⟩ => ⟨S8x64, .f32⟩
  | .local _ .vmem, ⟨6, _⟩ => ⟨S8x64, .f32⟩
  | _, _ => ⟨S2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwGlaGNormRefIdeal.lean ====
abbrev S2x4x64 : Shape := ⟨3, ![2, 4, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x4x64, .f32⟩
  | .hbm, ⟨1, _⟩ => ⟨S2x4x64, .f32⟩
  | .hbm, ⟨2, _⟩ => ⟨S2x4x64, .f32⟩
  | .hbm, ⟨3, _⟩ => ⟨S2x4x64, .f32⟩
  | .hbm, ⟨4, _⟩ => ⟨S_, .f32⟩
  | .hbm, ⟨5, _⟩ => ⟨S2x4x64, .f32⟩
  | .hbm, ⟨6, _⟩ => ⟨S2x4x64, .f32⟩
  | .hbm, ⟨7, _⟩ => ⟨S_, .f32⟩
  | .hbm, ⟨8, _⟩ => ⟨S2x4x64, .f32⟩
  | .hbm, ⟨9, _⟩ => ⟨S2x4x64, .f32⟩
  | .hbm, ⟨10, _⟩ => ⟨S2x4x64, .f32⟩
  | .hbm, ⟨11, _⟩ => ⟨S_, .f32⟩
  | .hbm, ⟨12, _⟩ => ⟨S2x4x64, .f32⟩
  | .hbm, ⟨13, _⟩ => ⟨S2x4x64, .f32⟩
  | .hbm, ⟨14, _⟩ => ⟨S2x4x64, .f32⟩
  | .hbm, ⟨15, _⟩ => ⟨S_, .f32⟩
  | .hbm, ⟨16, _⟩ => ⟨S2x4x64, .f32⟩
  | .hbm, ⟨17, _⟩ => ⟨S2x4x64, .f32⟩
  | .hbm, ⟨18, _⟩ => ⟨S2x4x64, .f32⟩
  | .hbm, ⟨19, _⟩ => ⟨S_, .f32⟩
  | .hbm, ⟨20, _⟩ => ⟨S2x4x64, .f32⟩
  | .hbm, ⟨21, _⟩ => ⟨S2x4x64, .f32⟩
  | .hbm, ⟨22, _⟩ => ⟨S_, .f32⟩
  | .hbm, ⟨23, _⟩ => ⟨S2x4x64, .f32⟩
  | .hbm, ⟨24, _⟩ => ⟨S2x4x64, .f32⟩
  | .hbm, ⟨25, _⟩ => ⟨S2x4x64, .f32⟩
  | .hbm, ⟨26, _⟩ => ⟨S_, .f32⟩
  | .hbm, ⟨27, _⟩ => ⟨S2x4x64, .f32⟩
  | .hbm, ⟨28, _⟩ => ⟨S2x4x64, .f32⟩
  | .hbm, ⟨29, _⟩ => ⟨S2x4x64, .f32⟩
  | .hbm, ⟨30, _⟩ => ⟨S_, .f32⟩
  | .hbm, ⟨31, _⟩ => ⟨S2x4x64, .f32⟩
  | .hbm, ⟨32, _⟩ => ⟨S2x4x64, .f32⟩
  | .hbm, ⟨33, _⟩ => ⟨S2x4x64, .f32⟩
  | .hbm, ⟨34, _⟩ => ⟨S_, .f32⟩
  | .hbm, ⟨35, _⟩ => ⟨S2x4x64, .f32⟩
  | .hbm, ⟨36, _⟩ => ⟨S2x4x64, .f32⟩
  | _, _ => ⟨S2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwGlaWOut.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 14
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S2x256x1024, .f32⟩
  | .hbm, ⟨12, _⟩ => ⟨S2x256x1024, .f32⟩
  | .hbm, ⟨13, _⟩ => ⟨S2x256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwGlaWOutIdeal.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 14
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S2x256x1024, .f32⟩
  | .hbm, ⟨12, _⟩ => ⟨S2x256x1024, .f32⟩
  | .hbm, ⟨13, _⟩ => ⟨S2x256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwGlaWOutRefIdeal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwAttWIn.lean ====
abbrev S2x1024x768 : Shape := ⟨3, ![2, 1024, 768]⟩
abbrev S2048x768 : Shape := ⟨2, ![2048, 768]⟩
abbrev S256x768 : Shape := ⟨2, ![256, 768]⟩

abbrev nBuf : Space → Nat
  | .hbm => 14
  | .vmem => 14
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S2x1024x768, .f32⟩
  | .hbm, ⟨12, _⟩ => ⟨S2x1024x768, .f32⟩
  | .hbm, ⟨13, _⟩ => ⟨S2x1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwAttWInIdeal.lean ====
abbrev S2x1024x768 : Shape := ⟨3, ![2, 1024, 768]⟩
abbrev S2048x768 : Shape := ⟨2, ![2048, 768]⟩
abbrev S256x768 : Shape := ⟨2, ![256, 768]⟩

abbrev nBuf : Space → Nat
  | .hbm => 14
  | .vmem => 14
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S2x1024x768, .f32⟩
  | .hbm, ⟨12, _⟩ => ⟨S2x1024x768, .f32⟩
  | .hbm, ⟨13, _⟩ => ⟨S2x1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwAttWInRefIdeal.lean ====
abbrev S2x1024x768 : Shape := ⟨3, ![2, 1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S_, .f32⟩
  | .hbm, ⟨5, _⟩ => ⟨S2x1024x768, .f32⟩
  | .hbm, ⟨6, _⟩ => ⟨S2x1024x768, .f32⟩
  | .hbm, ⟨7, _⟩ => ⟨S_, .f32⟩
  | .hbm, ⟨8, _⟩ => ⟨S2x1024x768, .f32⟩
  | .hbm, ⟨9, _⟩ => ⟨S2x1024x768, .f32⟩
  | .hbm, ⟨10, _⟩ => ⟨S2x1024x768, .f32⟩
  | .hbm, ⟨11, _⟩ => ⟨S_, .f32⟩
  | .hbm, ⟨12, _⟩ => ⟨S2x1024x768, .f32⟩
  | .hbm, ⟨13, _⟩ => ⟨S2x1024x768, .f32⟩
  | .hbm, ⟨14, _⟩ => ⟨S2x1024x768, .f32⟩
  | .hbm, ⟨15, _⟩ => ⟨S_, .f32⟩
  | .hbm, ⟨16, _⟩ => ⟨S2x1024x768, .f32⟩
  | .hbm, ⟨17, _⟩ => ⟨S2x1024x768, .f32⟩
  | .hbm, ⟨18, _⟩ => ⟨S2x1024x768, .f32⟩
  | .hbm, ⟨19, _⟩ => ⟨S_, .f32⟩
  | .hbm, ⟨20, _⟩ => ⟨S2x1024x768, .f32⟩
  | .hbm, ⟨21, _⟩ => ⟨S2x1024x768, .f32⟩
  | .hbm, ⟨22, _⟩ => ⟨S_, .f32⟩
  | .hbm, ⟨23, _⟩ => ⟨S2x1024x768, .f32⟩
  | .hbm, ⟨24, _⟩ => ⟨S2x1024x768, .f32⟩
  | .hbm, ⟨25, _⟩ => ⟨S2x1024x768, .f32⟩
  | .hbm, ⟨26, _⟩ => ⟨S_, .f32⟩
  | .hbm, ⟨27, _⟩ => ⟨S2x1024x768, .f32⟩
  | .hbm, ⟨28, _⟩ => ⟨S2x1024x768, .f32⟩
  | .hbm, ⟨29, _⟩ => ⟨S2x1024x768, .f32⟩
  | .hbm, ⟨30, _⟩ => ⟨S_, .f32⟩
  | .hbm, ⟨31, _⟩ => ⟨S2x1024x768, .f32⟩
  | .hbm, ⟨32, _⟩ => ⟨S2x1024x768, .f32⟩
  | .hbm, ⟨33, _⟩ => ⟨S2x1024x768, .f32⟩
  | .hbm, ⟨34, _⟩ => ⟨S_, .f32⟩
  | .hbm, ⟨35, _⟩ => ⟨S2x1024x768, .f32⟩
  | .hbm, ⟨36, _⟩ => ⟨S2x1024x768, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwAttBIn.lean ====
abbrev S2x768 : Shape := ⟨2, ![2, 768]⟩

abbrev nBuf : Space → Nat
  | .hbm => 7
  | .vmem => 7
  | .smem => 0
  | _ => 0

abbrev bufTy : (tb : Table) → Fin (tcTables nBuf tb) → BufTy
  | .hbm, ⟨0, _⟩ => ⟨S2x768, .f32⟩
  | .hbm, ⟨1, _⟩ => ⟨S2x768, .f32⟩
  | .hbm, ⟨2, _⟩ => ⟨S2x768, .f32⟩
  | .hbm, ⟨3, _⟩ => ⟨S2x768, .f32⟩
  | .hbm, ⟨4, _⟩ => ⟨S2x768, .f32⟩
  | .hbm, ⟨5, _⟩ => ⟨S2x768, .f32⟩
  | .hbm, ⟨6, _⟩ => ⟨S2x768, .f32⟩
  | .local _ .vmem, ⟨0, _⟩ => ⟨S2x768, .f32⟩
  | .local _ .vmem, ⟨1, _⟩ => ⟨S2x768, .f32⟩
  | .local _ .vmem, ⟨2, _⟩ => ⟨S2x768, .f32⟩
  | .local _ .vmem, ⟨3, _⟩ => ⟨S2x768, .f32⟩
  | .local _ .vmem, ⟨4, _⟩ => ⟨S2x768, .f32⟩
  | .local _ .vmem, ⟨5, _⟩ => ⟨S2x768, .f32⟩
  | .local _ .vmem, ⟨6, _⟩ => ⟨S2x768, .f32⟩
  | _, _ => ⟨S2x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwAttBInIdeal.lean ====
abbrev S2x768 : Shape := ⟨2, ![2, 768]⟩

abbrev nBuf : Space → Nat
  | .hbm => 7
  | .vmem => 7
  | .smem => 0
  | _ => 0

abbrev bufTy : (tb : Table) → Fin (tcTables nBuf tb) → BufTy
  | .hbm, ⟨0, _⟩ => ⟨S2x768, .f32⟩
  | .hbm, ⟨1, _⟩ => ⟨S2x768, .f32⟩
  | .hbm, ⟨2, _⟩ => ⟨S2x768, .f32⟩
  | .hbm, ⟨3, _⟩ => ⟨S2x768, .f32⟩
  | .hbm, ⟨4, _⟩ => ⟨S2x768, .f32⟩
  | .hbm, ⟨5, _⟩ => ⟨S2x768, .f32⟩
  | .hbm, ⟨6, _⟩ => ⟨S2x768, .f32⟩
  | .local _ .vmem, ⟨0, _⟩ => ⟨S2x768, .f32⟩
  | .local _ .vmem, ⟨1, _⟩ => ⟨S2x768, .f32⟩
  | .local _ .vmem, ⟨2, _⟩ => ⟨S2x768, .f32⟩
  | .local _ .vmem, ⟨3, _⟩ => ⟨S2x768, .f32⟩
  | .local _ .vmem, ⟨4, _⟩ => ⟨S2x768, .f32⟩
  | .local _ .vmem, ⟨5, _⟩ => ⟨S2x768, .f32⟩
  | .local _ .vmem, ⟨6, _⟩ => ⟨S2x768, .f32⟩
  | _, _ => ⟨S2x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwAttBInRefIdeal.lean ====
abbrev S2x768 : Shape := ⟨2, ![2, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x768, .f32⟩
  | .hbm, ⟨1, _⟩ => ⟨S2x768, .f32⟩
  | .hbm, ⟨2, _⟩ => ⟨S2x768, .f32⟩
  | .hbm, ⟨3, _⟩ => ⟨S2x768, .f32⟩
  | .hbm, ⟨4, _⟩ => ⟨S_, .f32⟩
  | .hbm, ⟨5, _⟩ => ⟨S2x768, .f32⟩
  | .hbm, ⟨6, _⟩ => ⟨S2x768, .f32⟩
  | .hbm, ⟨7, _⟩ => ⟨S_, .f32⟩
  | .hbm, ⟨8, _⟩ => ⟨S2x768, .f32⟩
  | .hbm, ⟨9, _⟩ => ⟨S2x768, .f32⟩
  | .hbm, ⟨10, _⟩ => ⟨S2x768, .f32⟩
  | .hbm, ⟨11, _⟩ => ⟨S_, .f32⟩
  | .hbm, ⟨12, _⟩ => ⟨S2x768, .f32⟩
  | .hbm, ⟨13, _⟩ => ⟨S2x768, .f32⟩
  | .hbm, ⟨14, _⟩ => ⟨S2x768, .f32⟩
  | .hbm, ⟨15, _⟩ => ⟨S_, .f32⟩
  | .hbm, ⟨16, _⟩ => ⟨S2x768, .f32⟩
  | .hbm, ⟨17, _⟩ => ⟨S2x768, .f32⟩
  | .hbm, ⟨18, _⟩ => ⟨S2x768, .f32⟩
  | .hbm, ⟨19, _⟩ => ⟨S_, .f32⟩
  | .hbm, ⟨20, _⟩ => ⟨S2x768, .f32⟩
  | .hbm, ⟨21, _⟩ => ⟨S2x768, .f32⟩
  | .hbm, ⟨22, _⟩ => ⟨S_, .f32⟩
  | .hbm, ⟨23, _⟩ => ⟨S2x768, .f32⟩
  | .hbm, ⟨24, _⟩ => ⟨S2x768, .f32⟩
  | .hbm, ⟨25, _⟩ => ⟨S2x768, .f32⟩
  | .hbm, ⟨26, _⟩ => ⟨S_, .f32⟩
  | .hbm, ⟨27, _⟩ => ⟨S2x768, .f32⟩
  | .hbm, ⟨28, _⟩ => ⟨S2x768, .f32⟩
  | .hbm, ⟨29, _⟩ => ⟨S2x768, .f32⟩
  | .hbm, ⟨30, _⟩ => ⟨S_, .f32⟩
  | .hbm, ⟨31, _⟩ => ⟨S2x768, .f32⟩
  | .hbm, ⟨32, _⟩ => ⟨S2x768, .f32⟩
  | .hbm, ⟨33, _⟩ => ⟨S2x768, .f32⟩
  | .hbm, ⟨34, _⟩ => ⟨S_, .f32⟩
  | .hbm, ⟨35, _⟩ => ⟨S2x768, .f32⟩
  | .hbm, ⟨36, _⟩ => ⟨S2x768, .f32⟩
  | _, _ => ⟨S2x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwAttRelBias.lean ====
abbrev S2x16x257 : Shape := ⟨3, ![2, 16, 257]⟩
abbrev S32x257 : Shape := ⟨2, ![32, 257]⟩

abbrev nBuf : Space → Nat
  | .hbm => 14
  | .vmem => 7
  | .smem => 0
  | _ => 0

abbrev bufTy : (tb : Table) → Fin (tcTables nBuf tb) → BufTy
  | .hbm, ⟨0, _⟩ => ⟨S2x16x257, .f32⟩
  | .hbm, ⟨1, _⟩ => ⟨S2x16x257, .f32⟩
  | .hbm, ⟨2, _⟩ => ⟨S2x16x257, .f32⟩
  | .hbm, ⟨3, _⟩ => ⟨S2x16x257, .f32⟩
  | .hbm, ⟨4, _⟩ => ⟨S32x257, .f32⟩
  | .hbm, ⟨5, _⟩ => ⟨S32x257, .f32⟩
  | .hbm, ⟨6, _⟩ => ⟨S32x257, .f32⟩
  | .hbm, ⟨7, _⟩ => ⟨S32x257, .f32⟩
  | .hbm, ⟨8, _⟩ => ⟨S32x257, .f32⟩
  | .hbm, ⟨9, _⟩ => ⟨S32x257, .f32⟩
  | .hbm, ⟨10, _⟩ => ⟨S32x257, .f32⟩
  | .hbm, ⟨11, _⟩ => ⟨S2x16x257, .f32⟩
  | .hbm, ⟨12, _⟩ => ⟨S2x16x257, .f32⟩
  | .hbm, ⟨13, _⟩ => ⟨S2x16x257, .f32⟩
  | .local _ .vmem, ⟨0, _⟩ => ⟨S32x257, .f32⟩
  | .local _ .vmem, ⟨1, _⟩ => ⟨S32x257, .f32⟩
  | .local _ .vmem, ⟨2, _⟩ => ⟨S32x257, .f32⟩
  | .local _ .vmem, ⟨3, _⟩ => ⟨S32x257, .f32⟩
  | .local _ .vmem, ⟨4, _⟩ => ⟨S32x257, .f32⟩
  | .local _ .vmem, ⟨5, _⟩ => ⟨S32x257, .f32⟩
  | .local _ .vmem, ⟨6, _⟩ => ⟨S32x257, .f32⟩
  | _, _ => ⟨S2x16x257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x257 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x257 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x257 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x257 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x257 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x257 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x257 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwAttRelBiasIdeal.lean ====
abbrev S2x16x257 : Shape := ⟨3, ![2, 16, 257]⟩
abbrev S32x257 : Shape := ⟨2, ![32, 257]⟩

abbrev nBuf : Space → Nat
  | .hbm => 14
  | .vmem => 7
  | .smem => 0
  | _ => 0

abbrev bufTy : (tb : Table) → Fin (tcTables nBuf tb) → BufTy
  | .hbm, ⟨0, _⟩ => ⟨S2x16x257, .f32⟩
  | .hbm, ⟨1, _⟩ => ⟨S2x16x257, .f32⟩
  | .hbm, ⟨2, _⟩ => ⟨S2x16x257, .f32⟩
  | .hbm, ⟨3, _⟩ => ⟨S2x16x257, .f32⟩
  | .hbm, ⟨4, _⟩ => ⟨S32x257, .f32⟩
  | .hbm, ⟨5, _⟩ => ⟨S32x257, .f32⟩
  | .hbm, ⟨6, _⟩ => ⟨S32x257, .f32⟩
  | .hbm, ⟨7, _⟩ => ⟨S32x257, .f32⟩
  | .hbm, ⟨8, _⟩ => ⟨S32x257, .f32⟩
  | .hbm, ⟨9, _⟩ => ⟨S32x257, .f32⟩
  | .hbm, ⟨10, _⟩ => ⟨S32x257, .f32⟩
  | .hbm, ⟨11, _⟩ => ⟨S2x16x257, .f32⟩
  | .hbm, ⟨12, _⟩ => ⟨S2x16x257, .f32⟩
  | .hbm, ⟨13, _⟩ => ⟨S2x16x257, .f32⟩
  | .local _ .vmem, ⟨0, _⟩ => ⟨S32x257, .f32⟩
  | .local _ .vmem, ⟨1, _⟩ => ⟨S32x257, .f32⟩
  | .local _ .vmem, ⟨2, _⟩ => ⟨S32x257, .f32⟩
  | .local _ .vmem, ⟨3, _⟩ => ⟨S32x257, .f32⟩
  | .local _ .vmem, ⟨4, _⟩ => ⟨S32x257, .f32⟩
  | .local _ .vmem, ⟨5, _⟩ => ⟨S32x257, .f32⟩
  | .local _ .vmem, ⟨6, _⟩ => ⟨S32x257, .f32⟩
  | _, _ => ⟨S2x16x257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x257 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x257 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x257 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x257 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x257 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x257 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x257 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwAttRelBiasRefIdeal.lean ====
abbrev S2x16x257 : Shape := ⟨3, ![2, 16, 257]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x16x257, .f32⟩
  | .hbm, ⟨1, _⟩ => ⟨S2x16x257, .f32⟩
  | .hbm, ⟨2, _⟩ => ⟨S2x16x257, .f32⟩
  | .hbm, ⟨3, _⟩ => ⟨S2x16x257, .f32⟩
  | .hbm, ⟨4, _⟩ => ⟨S_, .f32⟩
  | .hbm, ⟨5, _⟩ => ⟨S2x16x257, .f32⟩
  | .hbm, ⟨6, _⟩ => ⟨S2x16x257, .f32⟩
  | .hbm, ⟨7, _⟩ => ⟨S_, .f32⟩
  | .hbm, ⟨8, _⟩ => ⟨S2x16x257, .f32⟩
  | .hbm, ⟨9, _⟩ => ⟨S2x16x257, .f32⟩
  | .hbm, ⟨10, _⟩ => ⟨S2x16x257, .f32⟩
  | .hbm, ⟨11, _⟩ => ⟨S_, .f32⟩
  | .hbm, ⟨12, _⟩ => ⟨S2x16x257, .f32⟩
  | .hbm, ⟨13, _⟩ => ⟨S2x16x257, .f32⟩
  | .hbm, ⟨14, _⟩ => ⟨S2x16x257, .f32⟩
  | .hbm, ⟨15, _⟩ => ⟨S_, .f32⟩
  | .hbm, ⟨16, _⟩ => ⟨S2x16x257, .f32⟩
  | .hbm, ⟨17, _⟩ => ⟨S2x16x257, .f32⟩
  | .hbm, ⟨18, _⟩ => ⟨S2x16x257, .f32⟩
  | .hbm, ⟨19, _⟩ => ⟨S_, .f32⟩
  | .hbm, ⟨20, _⟩ => ⟨S2x16x257, .f32⟩
  | .hbm, ⟨21, _⟩ => ⟨S2x16x257, .f32⟩
  | .hbm, ⟨22, _⟩ => ⟨S_, .f32⟩
  | .hbm, ⟨23, _⟩ => ⟨S2x16x257, .f32⟩
  | .hbm, ⟨24, _⟩ => ⟨S2x16x257, .f32⟩
  | .hbm, ⟨25, _⟩ => ⟨S2x16x257, .f32⟩
  | .hbm, ⟨26, _⟩ => ⟨S_, .f32⟩
  | .hbm, ⟨27, _⟩ => ⟨S2x16x257, .f32⟩
  | .hbm, ⟨28, _⟩ => ⟨S2x16x257, .f32⟩
  | .hbm, ⟨29, _⟩ => ⟨S2x16x257, .f32⟩
  | .hbm, ⟨30, _⟩ => ⟨S_, .f32⟩
  | .hbm, ⟨31, _⟩ => ⟨S2x16x257, .f32⟩
  | .hbm, ⟨32, _⟩ => ⟨S2x16x257, .f32⟩
  | .hbm, ⟨33, _⟩ => ⟨S2x16x257, .f32⟩
  | .hbm, ⟨34, _⟩ => ⟨S_, .f32⟩
  | .hbm, ⟨35, _⟩ => ⟨S2x16x257, .f32⟩
  | .hbm, ⟨36, _⟩ => ⟨S2x16x257, .f32⟩
  | _, _ => ⟨S2x16x257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwFfW1.lean ====
abbrev S4x1024x1024 : Shape := ⟨3, ![4, 1024, 1024]⟩
abbrev S4096x1024 : Shape := ⟨2, ![4096, 1024]⟩
abbrev S256x1024 : Shape := ⟨2, ![256, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4x1024x1024, .f32⟩
  | .hbm, ⟨12, _⟩ => ⟨S4x1024x1024, .f32⟩
  | .hbm, ⟨13, _⟩ => ⟨S4x1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwFfW1Ideal.lean ====
abbrev S4x1024x1024 : Shape := ⟨3, ![4, 1024, 1024]⟩
abbrev S4096x1024 : Shape := ⟨2, ![4096, 1024]⟩
abbrev S256x1024 : Shape := ⟨2, ![256, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4x1024x1024, .f32⟩
  | .hbm, ⟨12, _⟩ => ⟨S4x1024x1024, .f32⟩
  | .hbm, ⟨13, _⟩ => ⟨S4x1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwFfW1RefIdeal.lean ====
abbrev S4x1024x1024 : Shape := ⟨3, ![4, 1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S4x1024x1024, .f32⟩
  | .hbm, ⟨4, _⟩ => ⟨S_, .f32⟩
  | .hbm, ⟨5, _⟩ => ⟨S4x1024x1024, .f32⟩
  | .hbm, ⟨6, _⟩ => ⟨S4x1024x1024, .f32⟩
  | .hbm, ⟨7, _⟩ => ⟨S_, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .hbm, ⟨11, _⟩ => ⟨S_, .f32⟩
  | .hbm, ⟨12, _⟩ => ⟨S4x1024x1024, .f32⟩
  | .hbm, ⟨13, _⟩ => ⟨S4x1024x1024, .f32⟩
  | .hbm, ⟨14, _⟩ => ⟨S4x1024x1024, .f32⟩
  | .hbm, ⟨15, _⟩ => ⟨S_, .f32⟩
  | .hbm, ⟨16, _⟩ => ⟨S4x1024x1024, .f32⟩
  | .hbm, ⟨17, _⟩ => ⟨S4x1024x1024, .f32⟩
  | .hbm, ⟨18, _⟩ => ⟨S4x1024x1024, .f32⟩
  | .hbm, ⟨19, _⟩ => ⟨S_, .f32⟩
  | .hbm, ⟨20, _⟩ => ⟨S4x1024x1024, .f32⟩
  | .hbm, ⟨21, _⟩ => ⟨S4x1024x1024, .f32⟩
  | .hbm, ⟨22, _⟩ => ⟨S_, .f32⟩
  | .hbm, ⟨23, _⟩ => ⟨S4x1024x1024, .f32⟩
  | .hbm, ⟨24, _⟩ => ⟨S4x1024x1024, .f32⟩
  | .hbm, ⟨25, _⟩ => ⟨S4x1024x1024, .f32⟩
  | .hbm, ⟨26, _⟩ => ⟨S_, .f32⟩
  | .hbm, ⟨27, _⟩ => ⟨S4x1024x1024, .f32⟩
  | .hbm, ⟨28, _⟩ => ⟨S4x1024x1024, .f32⟩
  | .hbm, ⟨29, _⟩ => ⟨S4x1024x1024, .f32⟩
  | .hbm, ⟨30, _⟩ => ⟨S_, .f32⟩
  | .hbm, ⟨31, _⟩ => ⟨S4x1024x1024, .f32⟩
  | .hbm, ⟨32, _⟩ => ⟨S4x1024x1024, .f32⟩
  | .hbm, ⟨33, _⟩ => ⟨S4x1024x1024, .f32⟩
  | .hbm, ⟨34, _⟩ => ⟨S_, .f32⟩
  | .hbm, ⟨35, _⟩ => ⟨S4x1024x1024, .f32⟩
  | .hbm, ⟨36, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumGrads.lean ====
abbrev S8x80x1024 : Shape := ⟨3, ![8, 80, 1024]⟩
abbrev S80x1024 : Shape := ⟨2, ![80, 1024]⟩
abbrev S1x80x1024 : Shape := ⟨3, ![1, 80, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x80x1024, .f32⟩
  | .hbm, ⟨1, _⟩ => ⟨S80x1024, .f32⟩
  | .local _ .vmem, ⟨0, _⟩ => ⟨S8x80x1024, .f32⟩
  | .local _ .vmem, ⟨1, _⟩ => ⟨S80x1024, .f32⟩
  | _, _ => ⟨S8x80x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x80x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S80x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumGradsIdeal.lean ====
abbrev S8x80x1024 : Shape := ⟨3, ![8, 80, 1024]⟩
abbrev S80x1024 : Shape := ⟨2, ![80, 1024]⟩
abbrev S1x80x1024 : Shape := ⟨3, ![1, 80, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x80x1024, .f32⟩
  | .hbm, ⟨1, _⟩ => ⟨S80x1024, .f32⟩
  | .local _ .vmem, ⟨0, _⟩ => ⟨S8x80x1024, .f32⟩
  | .local _ .vmem, ⟨1, _⟩ => ⟨S80x1024, .f32⟩
  | _, _ => ⟨S8x80x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x80x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S80x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumGradsRefIdeal.lean ====
abbrev S8x80x1024 : Shape := ⟨3, ![8, 80, 1024]⟩
abbrev S_ : Shape := ⟨0, ![]⟩
abbrev S80x1024 : Shape := ⟨2, ![80, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x80x1024, .f32⟩
  | .hbm, ⟨1, _⟩ => ⟨S_, .f32⟩
  | .hbm, ⟨2, _⟩ => ⟨S80x1024, .f32⟩
  | _, _ => ⟨S8x80x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdaBwd.lean ====
abbrev S128x1024 : Shape := ⟨2, ![128, 1024]⟩
abbrev S128x6144 : Shape := ⟨2, ![128, 6144]⟩
abbrev S1024x6144 : Shape := ⟨2, ![1024, 6144]⟩
abbrev S128x512 : Shape := ⟨2, ![128, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S128x1024, .bf16⟩
  | .hbm, ⟨1, _⟩ => ⟨S128x6144, .bf16⟩
  | .hbm, ⟨2, _⟩ => ⟨S1024x6144, .f32⟩
  | .local _ .vmem, ⟨0, _⟩ => ⟨S128x512, .bf16⟩
  | .local _ .vmem, ⟨1, _⟩ => ⟨S128x512, .bf16⟩
  | .local _ .vmem, ⟨2, _⟩ => ⟨S128x1024, .bf16⟩
  | .local _ .vmem, ⟨3, _⟩ => ⟨S128x1024, .bf16⟩
  | .local _ .vmem, ⟨4, _⟩ => ⟨S512x1024, .f32⟩
  | .local _ .vmem, ⟨5, _⟩ => ⟨S512x1024, .f32⟩
  | _, _ => ⟨S128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AdaBwdIdeal.lean ====
abbrev S128x1024 : Shape := ⟨2, ![128, 1024]⟩
abbrev S128x6144 : Shape := ⟨2, ![128, 6144]⟩
abbrev S1024x6144 : Shape := ⟨2, ![1024, 6144]⟩
abbrev S128x512 : Shape := ⟨2, ![128, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S128x1024, .bf16⟩
  | .hbm, ⟨1, _⟩ => ⟨S128x6144, .bf16⟩
  | .hbm, ⟨2, _⟩ => ⟨S1024x6144, .f32⟩
  | .local _ .vmem, ⟨0, _⟩ => ⟨S128x512, .bf16⟩
  | .local _ .vmem, ⟨1, _⟩ => ⟨S128x512, .bf16⟩
  | .local _ .vmem, ⟨2, _⟩ => ⟨S128x1024, .bf16⟩
  | .local _ .vmem, ⟨3, _⟩ => ⟨S128x1024, .bf16⟩
  | .local _ .vmem, ⟨4, _⟩ => ⟨S512x1024, .f32⟩
  | .local _ .vmem, ⟨5, _⟩ => ⟨S512x1024, .f32⟩
  | _, _ => ⟨S128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AdaBwdRefIdeal.lean ====
abbrev S128x1024 : Shape := ⟨2, ![128, 1024]⟩
abbrev S128x6144 : Shape := ⟨2, ![128, 6144]⟩
abbrev S1024x128 : Shape := ⟨2, ![1024, 128]⟩
abbrev S1024x6144 : Shape := ⟨2, ![1024, 6144]⟩

abbrev nBuf : Space → Nat
  | .hbm => 6
  | .vmem => 0
  | .smem => 0
  | _ => 0

abbrev bufTy : (tb : Table) → Fin (tcTables nBuf tb) → BufTy
  | .hbm, ⟨0, _⟩ => ⟨S128x1024, .bf16⟩
  | .hbm, ⟨1, _⟩ => ⟨S128x6144, .bf16⟩
  | .hbm, ⟨2, _⟩ => ⟨S128x1024, .f32⟩
  | .hbm, ⟨3, _⟩ => ⟨S1024x128, .f32⟩
  | .hbm, ⟨4, _⟩ => ⟨S128x6144, .f32⟩
  | .hbm, ⟨5, _⟩ => ⟨S1024x6144, .f32⟩
  | _, _ => ⟨S128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== LossHead.lean ====
abbrev S8192x1024 : Shape := ⟨2, ![8192, 1024]⟩
abbrev S8x128 : Shape := ⟨2, ![8, 128]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossHeadIdeal.lean ====
abbrev S8192x1024 : Shape := ⟨2, ![8192, 1024]⟩
abbrev S8x128 : Shape := ⟨2, ![8, 128]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossHeadRefIdeal.lean ====
abbrev S8192x1024 : Shape := ⟨2, ![8192, 1024]⟩
abbrev S_ : Shape := ⟨0, ![]⟩
abbrev S8x128 : Shape := ⟨2, ![8, 128]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S_, .f32⟩
  | .hbm, ⟨9, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== GradFfW2.lean ====
abbrev S8192x4096 : Shape := ⟨2, ![8192, 4096]⟩
abbrev S8192x1024 : Shape := ⟨2, ![8192, 1024]⟩
abbrev S4096x1024 : Shape := ⟨2, ![4096, 1024]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradFfW2Ideal.lean ====
abbrev S8192x4096 : Shape := ⟨2, ![8192, 4096]⟩
abbrev S8192x1024 : Shape := ⟨2, ![8192, 1024]⟩
abbrev S4096x1024 : Shape := ⟨2, ![4096, 1024]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradFfW2RefIdeal.lean ====
abbrev S8192x4096 : Shape := ⟨2, ![8192, 4096]⟩
abbrev S8192x1024 : Shape := ⟨2, ![8192, 1024]⟩
abbrev S4096x8192 : Shape := ⟨2, ![4096, 8192]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x4096, .f32⟩
  | .hbm, ⟨3, _⟩ => ⟨S4096x8192, .f32⟩
  | .hbm, ⟨4, _⟩ => ⟨S8192x1024, .f32⟩
  | .hbm, ⟨5, _⟩ => ⟨S4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradFfW1.lean ====
abbrev S8192x1024 : Shape := ⟨2, ![8192, 1024]⟩
abbrev S8192x4096 : Shape := ⟨2, ![8192, 4096]⟩
abbrev S1024x4096 : Shape := ⟨2, ![1024, 4096]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradFfW1Ideal.lean ====
abbrev S8192x1024 : Shape := ⟨2, ![8192, 1024]⟩
abbrev S8192x4096 : Shape := ⟨2, ![8192, 4096]⟩
abbrev S1024x4096 : Shape := ⟨2, ![1024, 4096]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradFfW1RefIdeal.lean ====
abbrev S8192x1024 : Shape := ⟨2, ![8192, 1024]⟩
abbrev S8192x4096 : Shape := ⟨2, ![8192, 4096]⟩
abbrev S1024x8192 : Shape := ⟨2, ![1024, 8192]⟩
abbrev S1024x4096 : Shape := ⟨2, ![1024, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8192x1024, .f32⟩
  | .hbm, ⟨3, _⟩ => ⟨S1024x8192, .f32⟩
  | .hbm, ⟨4, _⟩ => ⟨S8192x4096, .f32⟩
  | .hbm, ⟨5, _⟩ => ⟨S1024x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradGlaWOut.lean ====
abbrev S8192x1024 : Shape := ⟨2, ![8192, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradGlaWOutIdeal.lean ====
abbrev S8192x1024 : Shape := ⟨2, ![8192, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradGlaWOutRefIdeal.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S1024x8192, .f32⟩
  | .hbm, ⟨4, _⟩ => ⟨S8192x1024, .f32⟩
  | .hbm, ⟨5, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradGlaWIn.lean ====
abbrev S8192x1024 : Shape := ⟨2, ![8192, 1024]⟩
abbrev S8192x3200 : Shape := ⟨2, ![8192, 3200]⟩
abbrev S1024x3200 : Shape := ⟨2, ![1024, 3200]⟩
abbrev S1024x512 : Shape := ⟨2, ![1024, 512]⟩
abbrev S1024x640 : Shape := ⟨2, ![1024, 640]⟩
abbrev S512x640 : Shape := ⟨2, ![512, 640]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3200, .bf16⟩
  | .hbm, ⟨2, _⟩ => ⟨S1024x3200, .f32⟩
  | .local _ .vmem, ⟨0, _⟩ => ⟨S1024x512, .bf16⟩
  | .local _ .vmem, ⟨1, _⟩ => ⟨S1024x512, .bf16⟩
  | .local _ .vmem, ⟨2, _⟩ => ⟨S1024x640, .bf16⟩
  | .local _ .vmem, ⟨3, _⟩ => ⟨S1024x640, .bf16⟩
  | .local _ .vmem, ⟨4, _⟩ => ⟨S512x640, .f32⟩
  | .local _ .vmem, ⟨5, _⟩ => ⟨S512x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradGlaWInIdeal.lean ====
abbrev S8192x1024 : Shape := ⟨2, ![8192, 1024]⟩
abbrev S8192x3200 : Shape := ⟨2, ![8192, 3200]⟩
abbrev S1024x3200 : Shape := ⟨2, ![1024, 3200]⟩
abbrev S1024x512 : Shape := ⟨2, ![1024, 512]⟩
abbrev S1024x640 : Shape := ⟨2, ![1024, 640]⟩
abbrev S512x640 : Shape := ⟨2, ![512, 640]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3200, .bf16⟩
  | .hbm, ⟨2, _⟩ => ⟨S1024x3200, .f32⟩
  | .local _ .vmem, ⟨0, _⟩ => ⟨S1024x512, .bf16⟩
  | .local _ .vmem, ⟨1, _⟩ => ⟨S1024x512, .bf16⟩
  | .local _ .vmem, ⟨2, _⟩ => ⟨S1024x640, .bf16⟩
  | .local _ .vmem, ⟨3, _⟩ => ⟨S1024x640, .bf16⟩
  | .local _ .vmem, ⟨4, _⟩ => ⟨S512x640, .f32⟩
  | .local _ .vmem, ⟨5, _⟩ => ⟨S512x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradGlaWInRefIdeal.lean ====
abbrev S8192x1024 : Shape := ⟨2, ![8192, 1024]⟩
abbrev S8192x3200 : Shape := ⟨2, ![8192, 3200]⟩
abbrev S1024x8192 : Shape := ⟨2, ![1024, 8192]⟩
abbrev S1024x3200 : Shape := ⟨2, ![1024, 3200]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3200, .bf16⟩
  | .hbm, ⟨2, _⟩ => ⟨S8192x1024, .f32⟩
  | .hbm, ⟨3, _⟩ => ⟨S1024x8192, .f32⟩
  | .hbm, ⟨4, _⟩ => ⟨S8192x3200, .f32⟩
  | .hbm, ⟨5, _⟩ => ⟨S1024x3200, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradAttWIn.lean ====
abbrev S8192x1024 : Shape := ⟨2, ![8192, 1024]⟩
abbrev S8192x3072 : Shape := ⟨2, ![8192, 3072]⟩
abbrev S1024x3072 : Shape := ⟨2, ![1024, 3072]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradAttWInIdeal.lean ====
abbrev S8192x1024 : Shape := ⟨2, ![8192, 1024]⟩
abbrev S8192x3072 : Shape := ⟨2, ![8192, 3072]⟩
abbrev S1024x3072 : Shape := ⟨2, ![1024, 3072]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradAttWInRefIdeal.lean ====
abbrev S8192x1024 : Shape := ⟨2, ![8192, 1024]⟩
abbrev S8192x3072 : Shape := ⟨2, ![8192, 3072]⟩
abbrev S1024x8192 : Shape := ⟨2, ![1024, 8192]⟩
abbrev S1024x3072 : Shape := ⟨2, ![1024, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x1024, .f32⟩
  | .hbm, ⟨3, _⟩ => ⟨S1024x8192, .f32⟩
  | .hbm, ⟨4, _⟩ => ⟨S8192x3072, .f32⟩
  | .hbm, ⟨5, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DxGla.lean ====
abbrev S8192x3200 : Shape := ⟨2, ![8192, 3200]⟩
abbrev S3200x1024 : Shape := ⟨2, ![3200, 1024]⟩
abbrev S8192x1024 : Shape := ⟨2, ![8192, 1024]⟩
abbrev S1x1024 : Shape := ⟨2, ![1, 1024]⟩
abbrev S8x1024 : Shape := ⟨2, ![8, 1024]⟩
abbrev S256x3200 : Shape := ⟨2, ![256, 3200]⟩
abbrev S256x1024 : Shape := ⟨2, ![256, 1024]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x3200, .bf16⟩
  | .hbm, ⟨1, _⟩ => ⟨S3200x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8x1024, .f32⟩
  | .local _ .vmem, ⟨0, _⟩ => ⟨S256x3200, .bf16⟩
  | .local _ .vmem, ⟨1, _⟩ => ⟨S256x3200, .bf16⟩
  | .local _ .vmem, ⟨2, _⟩ => ⟨S3200x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | _, _ => ⟨S8192x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3200x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DxGlaIdeal.lean ====
abbrev S8192x3200 : Shape := ⟨2, ![8192, 3200]⟩
abbrev S3200x1024 : Shape := ⟨2, ![3200, 1024]⟩
abbrev S8192x1024 : Shape := ⟨2, ![8192, 1024]⟩
abbrev S1x1024 : Shape := ⟨2, ![1, 1024]⟩
abbrev S8x1024 : Shape := ⟨2, ![8, 1024]⟩
abbrev S256x3200 : Shape := ⟨2, ![256, 3200]⟩
abbrev S256x1024 : Shape := ⟨2, ![256, 1024]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x3200, .bf16⟩
  | .hbm, ⟨1, _⟩ => ⟨S3200x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8x1024, .f32⟩
  | .local _ .vmem, ⟨0, _⟩ => ⟨S256x3200, .bf16⟩
  | .local _ .vmem, ⟨1, _⟩ => ⟨S256x3200, .bf16⟩
  | .local _ .vmem, ⟨2, _⟩ => ⟨S3200x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | _, _ => ⟨S8192x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3200x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DxGlaRefIdeal.lean ====
abbrev S8192x3200 : Shape := ⟨2, ![8192, 3200]⟩
abbrev S3200x1024 : Shape := ⟨2, ![3200, 1024]⟩
abbrev S8192x1024 : Shape := ⟨2, ![8192, 1024]⟩
abbrev S1x1024 : Shape := ⟨2, ![1, 1024]⟩
abbrev S_ : Shape := ⟨0, ![]⟩
abbrev S1024 : Shape := ⟨1, ![1024]⟩
abbrev S2x1024 : Shape := ⟨2, ![2, 1024]⟩
abbrev S6x1024 : Shape := ⟨2, ![6, 1024]⟩
abbrev S8x1024 : Shape := ⟨2, ![8, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x3200, .bf16⟩
  | .hbm, ⟨1, _⟩ => ⟨S3200x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x3200, .f32⟩
  | .hbm, ⟨6, _⟩ => ⟨S3200x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S2x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S6x1024, .f32⟩
  | .hbm, ⟨24, _⟩ => ⟨S8x1024, .f32⟩
  | _, _ => ⟨S8192x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== DxAtt.lean ====
abbrev S8192x3072 : Shape := ⟨2, ![8192, 3072]⟩
abbrev S3072x1024 : Shape := ⟨2, ![3072, 1024]⟩
abbrev S8192x1024 : Shape := ⟨2, ![8192, 1024]⟩
abbrev S1x1024 : Shape := ⟨2, ![1, 1024]⟩
abbrev S8x1024 : Shape := ⟨2, ![8, 1024]⟩
abbrev S256x3072 : Shape := ⟨2, ![256, 3072]⟩
abbrev S256x1024 : Shape := ⟨2, ![256, 1024]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8x1024, .f32⟩
  | .local _ .vmem, ⟨0, _⟩ => ⟨S256x3072, .bf16⟩
  | .local _ .vmem, ⟨1, _⟩ => ⟨S256x3072, .bf16⟩
  | .local _ .vmem, ⟨2, _⟩ => ⟨S3072x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DxAttIdeal.lean ====
abbrev S8192x3072 : Shape := ⟨2, ![8192, 3072]⟩
abbrev S3072x1024 : Shape := ⟨2, ![3072, 1024]⟩
abbrev S8192x1024 : Shape := ⟨2, ![8192, 1024]⟩
abbrev S1x1024 : Shape := ⟨2, ![1, 1024]⟩
abbrev S8x1024 : Shape := ⟨2, ![8, 1024]⟩
abbrev S256x3072 : Shape := ⟨2, ![256, 3072]⟩
abbrev S256x1024 : Shape := ⟨2, ![256, 1024]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8x1024, .f32⟩
  | .local _ .vmem, ⟨0, _⟩ => ⟨S256x3072, .bf16⟩
  | .local _ .vmem, ⟨1, _⟩ => ⟨S256x3072, .bf16⟩
  | .local _ .vmem, ⟨2, _⟩ => ⟨S3072x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DxAttRefIdeal.lean ====
abbrev S8192x3072 : Shape := ⟨2, ![8192, 3072]⟩
abbrev S3072x1024 : Shape := ⟨2, ![3072, 1024]⟩
abbrev S8192x1024 : Shape := ⟨2, ![8192, 1024]⟩
abbrev S1x1024 : Shape := ⟨2, ![1, 1024]⟩
abbrev S_ : Shape := ⟨0, ![]⟩
abbrev S1024 : Shape := ⟨1, ![1024]⟩
abbrev S2x1024 : Shape := ⟨2, ![2, 1024]⟩
abbrev S6x1024 : Shape := ⟨2, ![6, 1024]⟩
abbrev S8x1024 : Shape := ⟨2, ![8, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x3072, .f32⟩
  | .hbm, ⟨6, _⟩ => ⟨S3072x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S2x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S6x1024, .f32⟩
  | .hbm, ⟨24, _⟩ => ⟨S8x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== DxFf.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S8x1024 : Shape := ⟨2, ![8, 1024]⟩
abbrev S256x4096 : Shape := ⟨2, ![256, 4096]⟩
abbrev S256x1024 : Shape := ⟨2, ![256, 1024]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8x1024, .f32⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DxFfIdeal.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S8x1024 : Shape := ⟨2, ![8, 1024]⟩
abbrev S256x4096 : Shape := ⟨2, ![256, 4096]⟩
abbrev S256x1024 : Shape := ⟨2, ![256, 1024]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8x1024, .f32⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DxFfRefIdeal.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S_ : Shape := ⟨0, ![]⟩
abbrev S1024 : Shape := ⟨1, ![1024]⟩
abbrev S2x1024 : Shape := ⟨2, ![2, 1024]⟩
abbrev S6x1024 : Shape := ⟨2, ![6, 1024]⟩
abbrev S8x1024 : Shape := ⟨2, ![8, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x4096, .f32⟩
  | .hbm, ⟨6, _⟩ => ⟨S4096x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S2x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S6x1024, .f32⟩
  | .hbm, ⟨24, _⟩ => ⟨S8x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Silu.lean ====
abbrev S128x1024 : Shape := ⟨2, ![128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S128x1024, .f32⟩
  | .hbm, ⟨1, _⟩ => ⟨S128x1024, .bf16⟩
  | .local _ .vmem, ⟨0, _⟩ => ⟨S128x1024, .f32⟩
  | .local _ .vmem, ⟨1, _⟩ => ⟨S128x1024, .bf16⟩
  | _, _ => ⟨S128x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SiluIdeal.lean ====
abbrev S128x1024 : Shape := ⟨2, ![128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S128x1024, .f32⟩
  | .hbm, ⟨1, _⟩ => ⟨S128x1024, .bf16⟩
  | .local _ .vmem, ⟨0, _⟩ => ⟨S128x1024, .f32⟩
  | .local _ .vmem, ⟨1, _⟩ => ⟨S128x1024, .bf16⟩
  | _, _ => ⟨S128x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SiluRefIdeal.lean ====
abbrev S128x1024 : Shape := ⟨2, ![128, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S_, .f32⟩
  | .hbm, ⟨4, _⟩ => ⟨S128x1024, .f32⟩
  | .hbm, ⟨5, _⟩ => ⟨S128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .bf16⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_cst : Ref sig .tc := ⟨.hbm, 3, rfl⟩
abbrev main_call0_v2 : Ref sig .tc := ⟨.hbm, 4, rfl⟩
abbrev main_call0_v3 : Ref sig .tc := ⟨.hbm, 5, rfl⟩
abbrev main_call0_cst_0 : Ref sig .tc := ⟨.hbm, 6, rfl⟩
abbrev main_call0_v4 : Ref sig .tc := ⟨.hbm, 7, rfl⟩
abbrev main_call0_v5 : Ref sig .tc := ⟨.hbm, 8, rfl⟩
abbrev main_v0 : Ref sig .tc := ⟨.hbm, 9, rfl⟩
abbrev main_v1 : Ref sig .tc := ⟨.hbm, 10, rfl⟩

abbrev nD : Nat := 1
abbrev τ : Topo := Topo.v7x

variable {F : FTy → Type} [FloatOps F]
-- ==== Modulate.lean ====
abbrev S8192x1024 : Shape := ⟨2, ![8192, 1024]⟩
abbrev S1x1024 : Shape := ⟨2, ![1, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulateIdeal.lean ====
abbrev S8192x1024 : Shape := ⟨2, ![8192, 1024]⟩
abbrev S1x1024 : Shape := ⟨2, ![1, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulateRefIdeal.lean ====
abbrev S8192x1024 : Shape := ⟨2, ![8192, 1024]⟩
abbrev S1x1024 : Shape := ⟨2, ![1, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S_, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== ColSum.lean ====
abbrev S8192x3072 : Shape := ⟨2, ![8192, 3072]⟩
abbrev S1x3072 : Shape := ⟨2, ![1, 3072]⟩
abbrev S512x3072 : Shape := ⟨2, ![512, 3072]⟩
abbrev S3072 : Shape := ⟨1, ![3072]⟩

abbrev nBuf : Space → Nat
  | .hbm => 2
  | .vmem => 3
  | .smem => 0
  | _ => 0

abbrev bufTy : (tb : Table) → Fin (tcTables nBuf tb) → BufTy
  | .hbm, ⟨0, _⟩ => ⟨S8192x3072, .bf16⟩
  | .hbm, ⟨1, _⟩ => ⟨S1x3072, .f32⟩
  | .local _ .vmem, ⟨0, _⟩ => ⟨S512x3072, .bf16⟩
  | .local _ .vmem, ⟨1, _⟩ => ⟨S512x3072, .bf16⟩
  | .local _ .vmem, ⟨2, _⟩ => ⟨S1x3072, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ColSumIdeal.lean ====
abbrev S8192x3072 : Shape := ⟨2, ![8192, 3072]⟩
abbrev S1x3072 : Shape := ⟨2, ![1, 3072]⟩
abbrev S512x3072 : Shape := ⟨2, ![512, 3072]⟩
abbrev S3072 : Shape := ⟨1, ![3072]⟩

abbrev nBuf : Space → Nat
  | .hbm => 2
  | .vmem => 3
  | .smem => 0
  | _ => 0

abbrev bufTy : (tb : Table) → Fin (tcTables nBuf tb) → BufTy
  | .hbm, ⟨0, _⟩ => ⟨S8192x3072, .bf16⟩
  | .hbm, ⟨1, _⟩ => ⟨S1x3072, .f32⟩
  | .local _ .vmem, ⟨0, _⟩ => ⟨S512x3072, .bf16⟩
  | .local _ .vmem, ⟨1, _⟩ => ⟨S512x3072, .bf16⟩
  | .local _ .vmem, ⟨2, _⟩ => ⟨S1x3072, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ColSumRefIdeal.lean ====
abbrev S8192x3072 : Shape := ⟨2, ![8192, 3072]⟩
abbrev S_ : Shape := ⟨0, ![]⟩
abbrev S3072 : Shape := ⟨1, ![3072]⟩
abbrev S1x3072 : Shape := ⟨2, ![1, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .f32⟩
  | .hbm, ⟨2, _⟩ => ⟨S_, .f32⟩
  | .hbm, ⟨3, _⟩ => ⟨S3072, .f32⟩
  | .hbm, ⟨4, _⟩ => ⟨S1x3072, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AdaFwd.lean ====
abbrev S128x1024 : Shape := ⟨2, ![128, 1024]⟩
abbrev S1024x6144 : Shape := ⟨2, ![1024, 6144]⟩
abbrev S128x6144 : Shape := ⟨2, ![128, 6144]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S128x1024, .bf16⟩
  | .hbm, ⟨1, _⟩ => ⟨S1024x6144, .bf16⟩
  | .hbm, ⟨2, _⟩ => ⟨S128x6144, .f32⟩
  | .local _ .vmem, ⟨0, _⟩ => ⟨S128x1024, .bf16⟩
  | .local _ .vmem, ⟨1, _⟩ => ⟨S1024x1024, .bf16⟩
  | .local _ .vmem, ⟨2, _⟩ => ⟨S1024x1024, .bf16⟩
  | .local _ .vmem, ⟨3, _⟩ => ⟨S128x1024, .f32⟩
  | .local _ .vmem, ⟨4, _⟩ => ⟨S128x1024, .f32⟩
  | _, _ => ⟨S128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AdaFwdIdeal.lean ====
abbrev S128x1024 : Shape := ⟨2, ![128, 1024]⟩
abbrev S1024x6144 : Shape := ⟨2, ![1024, 6144]⟩
abbrev S128x6144 : Shape := ⟨2, ![128, 6144]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S128x1024, .bf16⟩
  | .hbm, ⟨1, _⟩ => ⟨S1024x6144, .bf16⟩
  | .hbm, ⟨2, _⟩ => ⟨S128x6144, .f32⟩
  | .local _ .vmem, ⟨0, _⟩ => ⟨S128x1024, .bf16⟩
  | .local _ .vmem, ⟨1, _⟩ => ⟨S1024x1024, .bf16⟩
  | .local _ .vmem, ⟨2, _⟩ => ⟨S1024x1024, .bf16⟩
  | .local _ .vmem, ⟨3, _⟩ => ⟨S128x1024, .f32⟩
  | .local _ .vmem, ⟨4, _⟩ => ⟨S128x1024, .f32⟩
  | _, _ => ⟨S128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AdaFwdRefIdeal.lean ====
abbrev S128x1024 : Shape := ⟨2, ![128, 1024]⟩
abbrev S1024x6144 : Shape := ⟨2, ![1024, 6144]⟩
abbrev S128x6144 : Shape := ⟨2, ![128, 6144]⟩

abbrev nBuf : Space → Nat
  | .hbm => 5
  | .vmem => 0
  | .smem => 0
  | _ => 0

abbrev bufTy : (tb : Table) → Fin (tcTables nBuf tb) → BufTy
  | .hbm, ⟨0, _⟩ => ⟨S128x1024, .bf16⟩
  | .hbm, ⟨1, _⟩ => ⟨S1024x6144, .bf16⟩
  | .hbm, ⟨2, _⟩ => ⟨S128x1024, .f32⟩
  | .hbm, ⟨3, _⟩ => ⟨S1024x6144, .f32⟩
  | .hbm, ⟨4, _⟩ => ⟨S128x6144, .f32⟩
  | _, _ => ⟨S128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GlaIn.lean ====
abbrev S8192x1024 : Shape := ⟨2, ![8192, 1024]⟩
abbrev S1024x3200 : Shape := ⟨2, ![1024, 3200]⟩
abbrev S8192x3200 : Shape := ⟨2, ![8192, 3200]⟩
abbrev S512x1024 : Shape := ⟨2, ![512, 1024]⟩
abbrev S1024x640 : Shape := ⟨2, ![1024, 640]⟩
abbrev S512x640 : Shape := ⟨2, ![512, 640]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3200, .bf16⟩
  | .hbm, ⟨2, _⟩ => ⟨S8192x3200, .f32⟩
  | .local _ .vmem, ⟨0, _⟩ => ⟨S512x1024, .bf16⟩
  | .local _ .vmem, ⟨1, _⟩ => ⟨S512x1024, .bf16⟩
  | .local _ .vmem, ⟨2, _⟩ => ⟨S1024x640, .bf16⟩
  | .local _ .vmem, ⟨3, _⟩ => ⟨S1024x640, .bf16⟩
  | .local _ .vmem, ⟨4, _⟩ => ⟨S512x640, .f32⟩
  | .local _ .vmem, ⟨5, _⟩ => ⟨S512x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GlaInIdeal.lean ====
abbrev S8192x1024 : Shape := ⟨2, ![8192, 1024]⟩
abbrev S1024x3200 : Shape := ⟨2, ![1024, 3200]⟩
abbrev S8192x3200 : Shape := ⟨2, ![8192, 3200]⟩
abbrev S512x1024 : Shape := ⟨2, ![512, 1024]⟩
abbrev S1024x640 : Shape := ⟨2, ![1024, 640]⟩
abbrev S512x640 : Shape := ⟨2, ![512, 640]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3200, .bf16⟩
  | .hbm, ⟨2, _⟩ => ⟨S8192x3200, .f32⟩
  | .local _ .vmem, ⟨0, _⟩ => ⟨S512x1024, .bf16⟩
  | .local _ .vmem, ⟨1, _⟩ => ⟨S512x1024, .bf16⟩
  | .local _ .vmem, ⟨2, _⟩ => ⟨S1024x640, .bf16⟩
  | .local _ .vmem, ⟨3, _⟩ => ⟨S1024x640, .bf16⟩
  | .local _ .vmem, ⟨4, _⟩ => ⟨S512x640, .f32⟩
  | .local _ .vmem, ⟨5, _⟩ => ⟨S512x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GlaInRefIdeal.lean ====
abbrev S8192x1024 : Shape := ⟨2, ![8192, 1024]⟩
abbrev S1024x3200 : Shape := ⟨2, ![1024, 3200]⟩
abbrev S8192x3200 : Shape := ⟨2, ![8192, 3200]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3200, .bf16⟩
  | .hbm, ⟨2, _⟩ => ⟨S8192x1024, .f32⟩
  | .hbm, ⟨3, _⟩ => ⟨S1024x3200, .f32⟩
  | .hbm, ⟨4, _⟩ => ⟨S8192x3200, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GlaDz.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GlaDzIdeal.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GlaDzRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AttIn.lean ====
abbrev S8192x1024 : Shape := ⟨2, ![8192, 1024]⟩
abbrev S1024x3072 : Shape := ⟨2, ![1024, 3072]⟩
abbrev S1x3072 : Shape := ⟨2, ![1, 3072]⟩
abbrev S8192x3072 : Shape := ⟨2, ![8192, 3072]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S1x3072, .f32⟩
  | .hbm, ⟨3, _⟩ => ⟨S8192x3072, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttInIdeal.lean ====
abbrev S8192x1024 : Shape := ⟨2, ![8192, 1024]⟩
abbrev S1024x3072 : Shape := ⟨2, ![1024, 3072]⟩
abbrev S1x3072 : Shape := ⟨2, ![1, 3072]⟩
abbrev S8192x3072 : Shape := ⟨2, ![8192, 3072]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S1x3072, .f32⟩
  | .hbm, ⟨3, _⟩ => ⟨S8192x3072, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttInRefIdeal.lean ====
abbrev S8192x1024 : Shape := ⟨2, ![8192, 1024]⟩
abbrev S1024x3072 : Shape := ⟨2, ![1024, 3072]⟩
abbrev S1x3072 : Shape := ⟨2, ![1, 3072]⟩
abbrev S8192x3072 : Shape := ⟨2, ![8192, 3072]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S1x3072, .f32⟩
  | .hbm, ⟨3, _⟩ => ⟨S8192x1024, .f32⟩
  | .hbm, ⟨4, _⟩ => ⟨S1024x3072, .f32⟩
  | .hbm, ⟨5, _⟩ => ⟨S8192x3072, .f32⟩
  | .hbm, ⟨6, _⟩ => ⟨S8192x3072, .f32⟩
  | .hbm, ⟨7, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfUp.lean ====
abbrev S8192x1024 : Shape := ⟨2, ![8192, 1024]⟩
abbrev S1024x4096 : Shape := ⟨2, ![1024, 4096]⟩
abbrev S8192x4096 : Shape := ⟨2, ![8192, 4096]⟩
abbrev S512x1024 : Shape := ⟨2, ![512, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .f32⟩
  | .hbm, ⟨3, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfUpIdeal.lean ====
abbrev S8192x1024 : Shape := ⟨2, ![8192, 1024]⟩
abbrev S1024x4096 : Shape := ⟨2, ![1024, 4096]⟩
abbrev S8192x4096 : Shape := ⟨2, ![8192, 4096]⟩
abbrev S512x1024 : Shape := ⟨2, ![512, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .f32⟩
  | .hbm, ⟨3, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfUpRefIdeal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfDn.lean ====
abbrev S8192x1024 : Shape := ⟨2, ![8192, 1024]⟩
abbrev S1024x4096 : Shape := ⟨2, ![1024, 4096]⟩
abbrev S8192x4096 : Shape := ⟨2, ![8192, 4096]⟩
abbrev S512x1024 : Shape := ⟨2, ![512, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .f32⟩
  | .hbm, ⟨3, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfDnRefIdeal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .f32⟩
  | .hbm, ⟨3, _⟩ => ⟨S8192x1024, .f32⟩
  | .hbm, ⟨4, _⟩ => ⟨S1024x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== MixOut.lean ====
abbrev S8192x1024 : Shape := ⟨2, ![8192, 1024]⟩
abbrev S1024x1024 : Shape := ⟨2, ![1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixOutIdeal.lean ====
abbrev S8192x1024 : Shape := ⟨2, ![8192, 1024]⟩
abbrev S1024x1024 : Shape := ⟨2, ![1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixOutRefIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S1024x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== FfOut.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfOutIdeal.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfOutRefIdeal.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 42
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x4096, .f32⟩
  | .hbm, ⟨7, _⟩ => ⟨S4096x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== LnBwd.lean ====
abbrev S8192x1024 : Shape := ⟨2, ![8192, 1024]⟩
abbrev S1x1024 : Shape := ⟨2, ![1, 1024]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LnBwdIdeal.lean ====
abbrev S8192x1024 : Shape := ⟨2, ![8192, 1024]⟩
abbrev S1x1024 : Shape := ⟨2, ![1, 1024]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LnBwdRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S3x1024 : Shape := ⟨2, ![3, 1024]⟩
abbrev S5x1024 : Shape := ⟨2, ![5, 1024]⟩
abbrev S8x1024 : Shape := ⟨2, ![8, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S_, .f32⟩
  | .hbm, ⟨58, _⟩ => ⟨S1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S3x1024, .f32⟩
  | .hbm, ⟨66, _⟩ => ⟨S8192x1024, .f32⟩
  | .hbm, ⟨67, _⟩ => ⟨S8192x1024, .f32⟩
  | .hbm, ⟨68, _⟩ => ⟨S8192x1024, .bf16⟩
  | .hbm, ⟨69, _⟩ => ⟨S_, .f32⟩
  | .hbm, ⟨70, _⟩ => ⟨S5x1024, .f32⟩
  | .hbm, ⟨71, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== Diag.lean ====
abbrev S48x264x1024 : Shape := ⟨3, ![48, 264, 1024]⟩
abbrev S48x1024 : Shape := ⟨2, ![48, 1024]⟩
abbrev S8x264x1024 : Shape := ⟨3, ![8, 264, 1024]⟩
abbrev S8x1024 : Shape := ⟨2, ![8, 1024]⟩

abbrev nBuf : Space → Nat
  | .hbm => 2
  | .vmem => 4
  | .smem => 0
  | _ => 0

abbrev bufTy : (tb : Table) → Fin (tcTables nBuf tb) → BufTy
  | .hbm, ⟨0, _⟩ => ⟨S48x264x1024, .f32⟩
  | .hbm, ⟨1, _⟩ => ⟨S48x1024, .f32⟩
  | .local _ .vmem, ⟨0, _⟩ => ⟨S8x264x1024, .f32⟩
  | .local _ .vmem, ⟨1, _⟩ => ⟨S8x264x1024, .f32⟩
  | .local _ .vmem, ⟨2, _⟩ => ⟨S8x1024, .f32⟩
  | .local _ .vmem, ⟨3, _⟩ => ⟨S8x1024, .f32⟩
  | _, _ => ⟨S48x264x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x264x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== DiagIdeal.lean ====
abbrev S48x264x1024 : Shape := ⟨3, ![48, 264, 1024]⟩
abbrev S48x1024 : Shape := ⟨2, ![48, 1024]⟩
abbrev S8x264x1024 : Shape := ⟨3, ![8, 264, 1024]⟩
abbrev S8x1024 : Shape := ⟨2, ![8, 1024]⟩

abbrev nBuf : Space → Nat
  | .hbm => 2
  | .vmem => 4
  | .smem => 0
  | _ => 0

abbrev bufTy : (tb : Table) → Fin (tcTables nBuf tb) → BufTy
  | .hbm, ⟨0, _⟩ => ⟨S48x264x1024, .f32⟩
  | .hbm, ⟨1, _⟩ => ⟨S48x1024, .f32⟩
  | .local _ .vmem, ⟨0, _⟩ => ⟨S8x264x1024, .f32⟩
  | .local _ .vmem, ⟨1, _⟩ => ⟨S8x264x1024, .f32⟩
  | .local _ .vmem, ⟨2, _⟩ => ⟨S8x1024, .f32⟩
  | .local _ .vmem, ⟨3, _⟩ => ⟨S8x1024, .f32⟩
  | _, _ => ⟨S48x264x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x264x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== DiagRefIdeal.lean ====
abbrev S48x264x1024 : Shape := ⟨3, ![48, 264, 1024]⟩
abbrev S_ : Shape := ⟨0, ![]⟩
abbrev S48x1024 : Shape := ⟨2, ![48, 1024]⟩

abbrev nBuf : Space → Nat
  | .hbm => 3
  | .vmem => 0
  | .smem => 0
  | _ => 0

abbrev bufTy : (tb : Table) → Fin (tcTables nBuf tb) → BufTy
  | .hbm, ⟨0, _⟩ => ⟨S48x264x1024, .f32⟩
  | .hbm, ⟨1, _⟩ => ⟨S_, .f32⟩
  | .hbm, ⟨2, _⟩ => ⟨S48x1024, .f32⟩
  | _, _ => ⟨S48x264x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Bins.lean ====
abbrev S16x3072 : Shape := ⟨2, ![16, 3072]⟩
abbrev S3072x384 : Shape := ⟨2, ![3072, 384]⟩
abbrev S16x384 : Shape := ⟨2, ![16, 384]⟩

abbrev nBuf : Space → Nat
  | .hbm => 3
  | .vmem => 3
  | .smem => 0
  | _ => 0

abbrev bufTy : (tb : Table) → Fin (tcTables nBuf tb) → BufTy
  | .hbm, ⟨0, _⟩ => ⟨S16x3072, .f32⟩
  | .hbm, ⟨1, _⟩ => ⟨S3072x384, .f32⟩
  | .hbm, ⟨2, _⟩ => ⟨S16x384, .f32⟩
  | .local _ .vmem, ⟨0, _⟩ => ⟨S16x3072, .f32⟩
  | .local _ .vmem, ⟨1, _⟩ => ⟨S3072x384, .f32⟩
  | .local _ .vmem, ⟨2, _⟩ => ⟨S16x384, .f32⟩
  | _, _ => ⟨S16x3072, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== BinsRefIdeal.lean ====
abbrev S16x3072 : Shape := ⟨2, ![16, 3072]⟩
abbrev S3072x384 : Shape := ⟨2, ![3072, 384]⟩
abbrev S16x384 : Shape := ⟨2, ![16, 384]⟩

abbrev nBuf : Space → Nat
  | .hbm => 3
  | .vmem => 0
  | .smem => 0
  | _ => 0

abbrev bufTy : (tb : Table) → Fin (tcTables nBuf tb) → BufTy
  | .hbm, ⟨0, _⟩ => ⟨S16x3072, .f32⟩
  | .hbm, ⟨1, _⟩ => ⟨S3072x384, .f32⟩
  | .hbm, ⟨2, _⟩ => ⟨S16x384, .f32⟩
  | _, _ => ⟨S16x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Talk.Launch.lean ====
/-
# Launching a call whose devices exchange data without a barrier

A kernel without grid and without windows: its operands and results stay in HBM and every byte is moved by the
kernel's own transfers. Such a call starts to send before any device has heard of another one, so the buffer a device
writes on its neighbour must be in its hands from the launch on. The launch theorem here deals the machine ONCE: all
devices' buffers, all devices' own semaphores at zero and the credit for what every device owes go through one global
step (`hdeal`), which may hand any part of them to any device.
-/
module

public import Idealize.ShloMosaic.Lib.Pipeline.Launch
public import Idealize.ShloMosaic.Lib.Pipeline.Kit
public import Idealize.ShloMosaic.Lib.Pipeline.RegionArrays
public import Idealize.ShloMosaic.Lib.Tactic

@[expose] public section

set_option Elab.async false

noncomputable section

namespace Cert.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} {Λ₀ : Labels}
variable {Ix : Type} [DecidableEq Ix] {Name : Type} [DecidableEq Name] {U : Type} [URA U] {Lvl : Type}

local notation "𝕄" => MT nD τ sig Ix Val Name U Lvl

/-- The proof data of a kernel of one point without windows: `X` is held before the point, `Z` after it, and the
    device owes `O` before it and nothing after it. -/
def dat {cfg : Cfg sig Λ₀} (hW : cfg.W = 0) (c : Dev nD) (X Z : sProp 𝕄) (O : CellTallies nD τ sig Ix) :
    Dat τ Val Ix Name U Lvl cfg c where
  A w := (Fin.cast hW w).elim0
  after w := (Fin.cast hW w).elim0
  Φ t := if t.val = 0 then X else Z
  q _ := fullShare
  owed t := if t.val = 0 then O else 0

theorem owesWithin_intro {c : Dev nD} {O : CellTallies nD τ sig Ix} {W : Waits sig Ix} {S : Set (SemLoc sig × Ix)} (h : Set.univ ⊆ S) :
    (owes (c.tc : Thread nD τ) O W : sProp 𝕄) ⊢ owesWithin c O S := by
  unfold owesWithin
  iintro H
  iexists W
  isplitr
  · ipureintro; exact (Set.subset_univ _).trans h
  · iexact H

/-- The body obligation of `dat`, from the kernel's run at its single point. -/
theorem obligation [Preorder Lvl] {cfg : Cfg sig Λ₀} (hW : cfg.W = 0) (hN : cfg.N = 1) (c : Dev nD) (X Z : sProp 𝕄)
    (O : CellTallies nD τ sig Ix) (defs₀ : Defs nD τ sig Val Λ₀) (𝒱₀ : Variants) (ι : Ix)
    (h : ∀ (t : Fin cfg.N) (W : Waits sig Ix), iprop(X ∗ owes (c.tc : Thread nD τ) O W)
      ⊢ wp frame (wpE defs₀ 𝒱₀ c none) Set.univ (defs₀ .tc cfg.body (cfg.bodyArgs t (cfg.slots t))) fun _ =>
          iprop(Z ∗ ∃ W', owes (c.tc : Thread nD τ) (0 : CellTallies nD τ sig Ix) W')) :
    BodyObligationLoose (dat hW c X Z O) defs₀ 𝒱₀ ι Set.univ := by
  intro t
  have hemp : IsEmpty (Fin cfg.W) := by rw [hW]; infer_instance
  have ht0 : t.val = 0 := by have := t.isLt; omega
  rw [show (Finset.univ : Finset (Fin cfg.W)) = ∅ from Finset.univ_eq_empty]
  simp only [BI.bigSep_empty]
  have hΦ0 : (dat hW c X Z O).Φ t.castSucc = X := if_pos ht0
  have hs1 : ¬ t.succ.val = 0 := by rw [Fin.val_succ]; omega
  have hΦ1 : (dat hW c X Z O).Φ t.succ = Z :=
    show (if t.succ.val = 0 then X else Z) = Z from if_neg hs1
  have hO0 : (dat hW c X Z O).owed t.castSucc = O := if_pos ht0
  have hO1 : (dat hW c X Z O).owed t.succ = 0 :=
    show (if t.succ.val = 0 then O else 0) = 0 from if_neg hs1
  unfold Dat.owesAt
  rw [hΦ0, hΦ1, hO0, hO1]
  have hb : ∀ u, Set.univ ⊆ (dat hW c X Z O).bound ι u := fun u => Set.subset_union_left
  iintro ⟨HX, HO, -⟩
  unfold owesWithin
  icases HO with ⟨%W, -, HO⟩
  iapply ((h t W).trans (wp_mono _ _ _ fun _ => ?_))
  · iintro ⟨HZ, ⟨%W', HO⟩⟩
    isplitl [HZ]; · iexact HZ
    isplitl [HO]
    · iexists W'
      isplitr
      · ipureintro; exact (Set.subset_univ _).trans (hb _)
      · iexact HO
    · iempintro
  · isplitl [HX] <;> iassumption

variable {K : Type} [Fintype K] {osem : K → SemLoc sig}

variable (cfgs : Fin 1 → Cfg sig Λ₀) (hinj : Function.Injective (cellOf (nD := nD) (τ := τ) cfgs))
  (ho : OwnSemFacts (cfgs 0).spec osem)

/-- The levels are assigned once for the machine. -/
theorem assign_levels (L : GSem nD τ sig → Finset Ix) (lv : GSem nD τ sig → Ix → Lvl) (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  classical
  have hoff : ∀ (d : Dev nD) (q : Proc τ), q ∈ Finset.univ.erase Proc.tc →
      (coreLevAts ((d, q) : Thread nD τ) L lv : sProp 𝕄) = BI.emp := fun d q hq => by
    unfold coreLevAts
    rw [bigSep_congr (Ψ := fun _ : SemLoc sig => (BI.emp : sProp 𝕄)) fun sm _ => by
      rw [hL (((d, q) : Thread nD τ), sm) (Finset.ne_of_mem_erase hq), BI.bigSep_empty]]
    exact BI.bigSep_emp_const _
  have hall : (levAts L lv : sProp 𝕄) = bigSep Finset.univ fun d : Dev nD => coreLevAts (d.tc : Thread nD τ) L lv := by
    rw [show (levAts L lv : sProp 𝕄) = bigSep Finset.univ fun c : Thread nD τ => coreLevAts c L lv
        from (bigSep_univ_prod fun g : GSem nD τ sig => bigSep (L g) fun ι => levAt g ι (lv g ι)),
      bigSep_threads (fun c : Thread nD τ => coreLevAts c L lv),
      bigSep_congr (s := Finset.univ) (Ψ := fun _ : Dev nD => (BI.emp : sProp 𝕄)) fun d _ =>
        (bigSep_congr fun q hq => hoff d q hq).trans (BI.bigSep_emp_const _),
      BI.bigSep_emp_const]
    exact BI.Entails.antisymm (sep_emp (PROP := sProp 𝕄)).1 (sep_emp (PROP := sProp 𝕄)).2
  rw [hall]
  refine (bigSep_mono fun c _ => lev_assign_cells (c.tc : Thread nD τ) L lv).trans ((BI.bigSep_bupd _ _).trans (BI.bupd_mono ?_))
  have hdrop (c : Dev nD) : iprop((bigSep Finset.univ fun sm : SemLoc sig => levels ((c.tc : Thread nD τ), sm) (L ((c.tc : Thread nD τ), sm))) ∗ coreLevAts (c.tc : Thread nD τ) L lv)
      ⊢ (coreLevAts (c.tc : Thread nD τ) L lv : sProp 𝕄) := by
    iintro ⟨-, H⟩
    iexact H
  exact bigSep_mono fun c _ => hdrop c

include hinj ho in
/-- The launch of a call that is one kernel without grid and windows on every device, all of whose devices' unscoped
    buffers and own semaphores pass through one global step. -/
theorem θ_run_dealt [Preorder Lvl] [∀ e, Nonempty (Val e)] [Infinite Name]
    (EP : Emb (URounds (GSem nD τ sig) Unit) 𝕄) [EP.LandsIn (upEmb : UEmb _ 𝕄)]
    (hW : (cfgs 0).W = 0) (hN : (cfgs 0).N = 1)
    (hw : WinFacts₀ (cfgs 0).spec)
    (hrest : ∀ c : Dev nD, (scopedRest (Ix := Ix) (Name := Name) (U := U) (Lvl := Lvl) (Val := Val) (cfgs 0).spec c : sProp 𝕄) = BI.emp)
    (defs₀ : Defs nD τ sig Val Λ₀) (𝒱₀ : Variants) (ι : Ix)
    (m : (ℓ : Loc nD τ sig) → Buf Val ℓ) (g : Dev nD → PrngReg)
    (main : Dev nD → Prog (TpuEff nD τ sig Val (Sig Λ₀ (Fin 1) fun p => ((cfgs p).toPCfg (Val := Val)).Adm) .tc) PUnit)
    (hmain : ∀ c, main c = .op (.customCall (entry 0) ()) fun _ => .ret ⟨⟩)
    (O₀ : Dev nD → CellTallies nD τ sig Ix)
    (L : GSem nD τ sig → Finset Ix) (lv : GSem nD τ sig → Ix → Lvl) (hL : ∀ g : GSem nD τ sig, g.1.2 ≠ .tc → L g = ∅)
    (X Y : Dev nD → sProp 𝕄)
    (hbody : ∀ (c : Dev nD) (t : Fin (cfgs 0).N) (W : Waits sig Ix), iprop((X c ∗ levAts L lv) ∗ owes (c.tc : Thread nD τ) (O₀ c) W)
      ⊢ wp frame (wpE defs₀ 𝒱₀ c none) Set.univ (defs₀ .tc (cfgs 0).body ((cfgs 0).bodyArgs t ((cfgs 0).slots t))) fun _ =>
          iprop((Y c ∗ ownSems0 osem c) ∗ ∃ W', owes (c.tc : Thread nD τ) (0 : CellTallies nD τ sig Ix) W'))
    (u₀ : U)
    (hdeal : iprop((bigSep Finset.univ fun c : Dev nD => unscopedBufs c (fun b => m ((c.tc : Thread nD τ).loc b)))
        ∗ (bigSep Finset.univ fun c : Dev nD => ownSems0 osem c)
        ∗ (bigSep Finset.univ fun c : Dev nD => launchCred O₀ c)
        ∗ ownU u₀) ⊢ |={Set.univ}=> bigSep Finset.univ X)
    (QY : Dev nD → MemSt nD τ sig Val → Prop)
    (hY : ∀ c (s' : Phys nD τ sig Val), iprop(Y c ∗ SI s') ⊢ |={Set.univ}=> iprop(⌜QY c s'.mem⌝ ∗ SI s'))
    {Q : PUnit × MemSt nD τ sig Val → Prop}
    (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run (Pipeline.defs (fun p => (cfgs p).toPCfg) defs₀) (onTc main) ⟨m, fun _ => 0, g⟩ Q := by
  classical
  have hemp : IsEmpty (Fin (cfgs 0).W) := by rw [hW]; infer_instance
  have huniv : (Finset.univ : Finset (Fin (cfgs 0).W)) = ∅ := Finset.univ_eq_empty
  let a : (p : Fin 1) → ((cfgs p).toPCfg (Val := Val)).Adm := fun p => (cfgs p).toPCfg_adm
  let dats : (p : Fin 1) → (c : Dev nD) → Dat τ Val Ix Name U Lvl (cfgs p) c := fun p c =>
    match p with
    | 0 => dat hW c iprop(X c ∗ levAts L lv) iprop(Y c ∗ ownSems0 osem c) (O₀ c)
  have hob : ∀ c, BodyObligationLoose (dats 0 c) defs₀ 𝒱₀ ι Set.univ := fun c =>
    obligation hW hN c _ _ (O₀ c) defs₀ 𝒱₀ ι (hbody c)
  have hcells : ∀ c : Dev nD, (Pipeline.cellsSems0 cfgs 0 c : sProp 𝕄) = BI.emp := fun c => by
    show (PerCore.cellsSems0 (fun _ : Dev nD => cfgs) 0 c : sProp 𝕄) = BI.emp
    unfold PerCore.cellsSems0; rw [huniv, BI.bigSep_empty]
  have hstaging : ∀ c : Dev nD, (Dat.staging (cfgs 0) c : sProp 𝕄) = BI.emp := fun c => by
    unfold Dat.staging; rw [huniv, BI.bigSep_empty]
  have hss : ∀ c : Dev nD, (scopedSems0 (c.tc : Thread nD τ) : sProp 𝕄) = iprop(ownSems0 osem c ∗ idleSems0 cfgs hinj 0 ho c) := fun c => by
    have h := scopedSems0_split (Ix := Ix) (Val := Val) (Name := Name) (U := U) (Lvl := Lvl) cfgs hinj 0 hw ho c
    rw [hcells c] at h
    exact h.trans (congrArg (fun P : sProp 𝕄 => iprop(P ∗ idleSems0 cfgs hinj 0 ho c))
      (BI.Entails.antisymm (emp_sep (PROP := sProp 𝕄)).1 (emp_sep (PROP := sProp 𝕄)).2))
  have hsb : ∀ c : Dev nD, (scopedBufs (c.tc : Thread nD τ) : sProp 𝕄) = BI.emp := fun c => by
    rw [scopedBufs_split cfgs 0 hw.stage_scoped hw.stage_inj (fun w => (hemp.false w).elim) c, hstaging c, hrest c]
    exact BI.Entails.antisymm (emp_sep (PROP := sProp 𝕄)).1 (emp_sep (PROP := sProp 𝕄)).2
  let pre : Dev nD → sProp 𝕄 := fun c => iprop(idleSems0 cfgs hinj 0 ho c ∗ owes (c.tc : Thread nD τ) (O₀ c) ∅ ∗ levAts L lv ∗ X c)
  let fin : Dev nD → sProp 𝕄 := fun c => iprop(Y c ∗ scopedSems0 (c.tc : Thread nD τ))
  refine (θ_run (Pipeline.defs (fun p => (cfgs p).toPCfg) defs₀) _ _).mono
    (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu _ _ _ _
    (reflect_intro_fupd_tc_sems (X := Unit) (Variants.lift 𝒱₀) (owing O₀) 0 (noBookings fun _ => le_rfl) (owing_of_ne O₀) u₀ (fun _ => pre) (fun _ => fin)
      (fun _ => iprop(emp)) Set.univ ?_ (fun _ c => ?_) fun _ => ?_))
  · -- the launch: what every core starts with, gathered over the machine, and the global step
    have hone (c : Dev nD) :
        coreInit (Ix := Ix) (Name := Name) (U := U) (Lvl := Lvl) (owing O₀) 0 (⟨m, fun _ => 0, g⟩ : MemSt nD τ sig Val) (c.tc : Thread nD τ)
          ⊢ iprop(idleSems0 cfgs hinj 0 ho c ∗ owes (c.tc : Thread nD τ) (O₀ c) ∅ ∗ levels0 c
              ∗ unscopedBufs c (fun b => m ((c.tc : Thread nD τ).loc b)) ∗ ownSems0 osem c ∗ launchCred O₀ c) := by
      refine (coreInit_boundary_owing O₀ m g c).trans ?_
      unfold boundary
      rw [hss c]
      iintro ⟨⟨-, ⟨Hos, Hid⟩, -⟩, Hb, -, HO, Hl, -, Hc⟩
      isplitl [Hid]; · iexact Hid
      isplitl [HO]; · iexact HO
      isplitl [Hl]; · iexact Hl
      isplitl [Hb]; · iexact Hb
      isplitl [Hos] <;> iassumption
    have hall : (bigSep Finset.univ fun d : Dev nD =>
          coreInit (Ix := Ix) (Name := Name) (U := U) (Lvl := Lvl) (owing O₀) 0 (⟨m, fun _ => 0, g⟩ : MemSt nD τ sig Val) (d.tc : Thread nD τ))
        ⊢ iprop((bigSep Finset.univ fun c : Dev nD => idleSems0 cfgs hinj 0 ho c)
            ∗ (bigSep Finset.univ fun c : Dev nD => owes (c.tc : Thread nD τ) (O₀ c) ∅)
            ∗ (bigSep Finset.univ fun c : Dev nD => levels0 (Ix := Ix) (Val := Val) (Name := Name) (U := U) (Lvl := Lvl) (τ := τ) (sig := sig) c)
            ∗ (bigSep Finset.univ fun c : Dev nD => unscopedBufs c fun b => m ((c.tc : Thread nD τ).loc b))
            ∗ (bigSep Finset.univ fun c : Dev nD => ownSems0 (Ix := Ix) (Name := Name) (U := U) (Lvl := Lvl) (Val := Val) (τ := τ) osem c)
            ∗ (bigSep Finset.univ fun c : Dev nD => launchCred (Name := Name) (U := U) (Lvl := Lvl) (Val := Val) O₀ c) : sProp 𝕄) := by
      refine (bigSep_mono fun c _ => hone c).trans ?_
      simp only [bigSep_sep']
      exact BI.Entails.refl _
    iintro ⟨Hcores, Hu⟩
    ihave Hc := hall $$ Hcores
    icases Hc with ⟨Hid, HO, Hl, Hb, Hos, Hc⟩
    imod (assign_levels L lv hL) $$ Hl with Hla
    imod hdeal $$ [Hb Hos Hc Hu] with HX
    · isplitl [Hb]; · iexact Hb
      isplitl [Hos]; · iexact Hos
      isplitl [Hc] <;> iassumption
    imodintro
    iexists ()
    isplitr []
    · simp only [pre, bigSep_sep']
      isplitl [Hid]; · iexact Hid
      isplitl [HO]; · iexact HO
      isplitl [Hla]; · iapply (BI.bigSep_intro_persistent (S := Finset.univ) fun (c : Dev nD) _ => (BI.Entails.refl (levAts L lv : sProp 𝕄))); iexact Hla
      iexact HX
    · iempintro
  · -- one core's run: the call, then the return
    simp only [pre]
    rw [hmain c]
    iintro ⟨Hid, HO, #Hla, HX⟩
    have hbufs : (scopedBufs (c.tc : Thread nD τ) : sProp 𝕄) ⊢ iprop(Dat.staging (cfgs 0) c ∗ BI.emp) := by
      rw [hsb c, hstaging c]; exact (emp_sep (PROP := sProp 𝕄)).2
    have hin : iprop(iprop(X c ∗ levAts L lv) ∗ prefHeld ((cfgs 0).toPCfg (Val := Val)).pre c (fun _ => fullShare) (a 0).1 ∗ BI.emp) ⊢ (dats 0 c).Φ 0 := by
      show _ ⊢ iprop(X c ∗ levAts L lv)
      iintro ⟨H, -⟩
      iexact H
    have hN0 : ¬ (Fin.last (cfgs 0).N).val = 0 := by rw [Fin.val_last]; omega
    have hlast : (dats 0 c).Φ (Fin.last (cfgs 0).N) = iprop(Y c ∗ ownSems0 osem c) :=
      show (if (Fin.last (cfgs 0).N).val = 0 then _ else _) = _ from if_neg hN0
    have hlastO : (dats 0 c).owed (Fin.last (cfgs 0).N) = 0 :=
      show (if (Fin.last (cfgs 0).N).val = 0 then O₀ c else 0) = 0 from if_neg hN0
    have hout : iprop((dats 0 c).Φ (Fin.last (cfgs 0).N) ∗ cellsSems0 cfgs 0 c ∗ Dat.staging (cfgs 0) c ∗ idleSems0 cfgs hinj 0 ho c)
        ⊢ iprop(Y c ∗ scopedSems0 (c.tc : Thread nD τ) ∗ scopedBufs (c.tc : Thread nD τ)) := by
      rw [hlast, hsb c, hss c]
      iintro ⟨⟨HY, Hos⟩, -, -, Hid⟩
      isplitl [HY]; · iexact HY
      isplitl [Hos Hid]
      · isplitl [Hos] <;> iassumption
      · iempintro
    have hpref : (prefHeld ((cfgs 0).toPCfg (Val := Val)).pre c (fun _ => fullShare) (a 0).1 : sProp 𝕄) = BI.emp := prefHeld_of_none _ rfl _ _ _
    have hpre : iprop(owes (c.tc : Thread nD τ) (O₀ c) ∅) ⊢ EntryPre cfgs dats ι EP (fun _ => Classical.arbitrary Name) 0 c := by
      show _ ⊢ PerCore.EntryPre (fun _ : Dev nD => cfgs) dats ι EP (fun _ => Classical.arbitrary Name) 0 c
      unfold PerCore.EntryPre Dat.arrays PerCore.cellsWaits PerCore.cellsInit PerCore.RDat.cellsWaits PerCore.RDat.cellsInit PerCore.toksInit
      rw [huniv]
      simp only [BI.bigSep_empty]
      iintro HO
      isplitr; · iempintro
      isplitl [HO]
      · iapply (owesWithin_intro (S := (dats 0 c).bound ι 0) Set.subset_union_left); iexact HO
      isplitr; · iempintro
      isplitr; · iempintro
      iempintro
    have hpost : EntryPost cfgs dats ι 0 c ⊢ iprop(∃ W, owes (c.tc : Thread nD τ) (0 : CellTallies nD τ sig Ix) W) := by
      show PerCore.EntryPost (fun _ : Dev nD => cfgs) dats ι 0 c ⊢ _
      unfold PerCore.EntryPost Dat.owesAt owesWithin
      rw [hlastO]
      iintro ⟨-, ⟨%W, -, HO⟩⟩
      iexists W
      iexact HO
    iapply (wp_customCall_entry_frame (fun p => (cfgs p).toPCfg) a dats ι EP (fun _ => Classical.arbitrary Name) hinj 0 defs₀ 𝒱₀ (fun _ => fullShare) c Set.univ
        (fun _ _ => Set.mem_univ _) (hob c) (fun w => (hemp.false w).elim) none (fun u h => nomatch h)
        (X := iprop(X c ∗ levAts L lv)) (Y := iprop(Y c)) (R := BI.emp) (I := idleSems0 cfgs hinj 0 ho c)
        hbufs hin hout (k := fun _ => .ret ⟨⟩) (Q := fun _ => post (liftTc fin BI.emp) (c.tc : Thread nD τ))) $$ [Hid HO HX]
    · isplitl [HO]; · iapply hpre; iexact HO
      isplitr; · iapply (Entails.of_eq hpref.symm); iempintro
      isplitl [HX]
      · isplitl [HX]; · iexact HX
        iexact Hla
      isplitl [Hid]; · iexact Hid
      iapply (Entails.of_eq (hsb c).symm); iempintro
    iintro ⟨Hpost, HY, Hss, -⟩
    rw [wp_ret]; imodintro
    unfold post; simp only [liftTc_tc, fin]
    isplitl [HY Hss]
    · isplitl [HY] <;> iassumption
    · iapply hpost; iexact Hpost
  · have hread (c : Dev nD) (s' : Phys nD τ sig Val) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨HY, Hss⟩, HSI⟩
      ihave %hz := (tcScoped_read_pers c s') $$ [Hss HSI]
      · isplitl [Hss] <;> iassumption
      imod (hY c s') $$ [HY HSI] with ⟨%hy, HSI⟩
      · isplitl [HY] <;> iassumption
      imodintro
      isplitr
      · ipureintro; exact ⟨hy, hz⟩
      · iexact HSI
    iintro ⟨H, -, Hsc⟩ %s' HSI
    ihave %hsc := (scSems_read_zero m g s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc⟩

end Cert.Talk

end
-- ==== Proof.Talk.Kit.lean ====
/-
# The protocol of a one-shot exchange

Every semaphore of the kernels here is used once: exactly one transfer credits it, by the whole of what it moves, and
its owner waits for that whole once. `Proto` says it: per semaphore `k` of a device the amount, what the completed
transfer hands to the waiting device (`pay`), and which device pays whose semaphore (`dst k`, a permutation of the
devices; the identity for a semaphore the device's own transfer credits). `run` is the launch of a call under such a
protocol, `send`, `copy` and `await` the three operations of its body.
-/
module

public import proofs.«01_k».proof.Proof.Talk.Launch

@[expose] public section

set_option Elab.async false

noncomputable section

namespace Cert.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} {Λ₀ : Labels}

local notation "𝕄" => MT nD τ sig Unit Val ℕ (URounds (GSem nD τ sig) Unit) ℕ

/-- The rounds library's ghost algebra in the machine's. -/
def En : Emb (URounds (GSem nD τ sig) Unit) (MT nD τ sig Unit Val ℕ (URounds (GSem nD τ sig) Unit) ℕ) :=
  (Emb.refl _).trans (uEmb (nD := nD) (sig := sig) (Ix := Unit) (Val := Val) (Name := ℕ) (U := URounds (GSem nD τ sig) Unit) (Lvl := ℕ)).toEmb

instance En_landsIn : (En : Emb (URounds (GSem nD τ sig) Unit) 𝕄).LandsIn (upEmb : UEmb _ 𝕄) := by unfold En; infer_instance

/-! ## Separating conjunctions over a list -/

section Lists
variable {K : Type}

/-- `Φ` at every member of the list, in the list's order. -/
def sepL (Φ : K → sProp 𝕄) : List K → sProp 𝕄
  | [] => iprop(emp)
  | k :: l => iprop(Φ k ∗ sepL Φ l)

theorem bigSep_toFinset [DecidableEq K] (Φ : K → sProp 𝕄) (l : List K) (h : l.Nodup) : bigSep l.toFinset Φ = sepL Φ l := by
  induction l with
  | nil => rfl
  | cons k l ih =>
    rw [List.toFinset_cons, bigSep_insert (by rw [List.mem_toFinset]; exact (List.nodup_cons.mp h).1), ih (List.nodup_cons.mp h).2]
    rfl

theorem bigSep_all [DecidableEq K] [Fintype K] (Φ : K → sProp 𝕄) (l : List K) (h : l.Nodup) (hl : ∀ k, k ∈ l) :
    bigSep Finset.univ Φ = sepL Φ l := by
  rw [← bigSep_toFinset Φ l h]
  exact congrArg (fun s => bigSep s Φ) (Finset.eq_univ_of_forall fun k => List.mem_toFinset.mpr (hl k)).symm

theorem sepL_mono (Φ Ψ : K → sProp 𝕄) (h : ∀ k, Φ k ⊢ Ψ k) (l : List K) : sepL Φ l ⊢ sepL Ψ l := by
  induction l with
  | nil => exact .rfl
  | cons k l ih => exact Idealize.SL.BI.BIBase.Entails.trans (BIClass.sep_mono (h k) ih) .rfl

end Lists

/-! ## The protocol -/

/-- A one-shot exchange over the semaphores `K` of every device. -/
structure Proto (nD : Nat) (τ : Topo) (sig : RefSig) (Val : EltTy → Type) (K : Type) where
  /-- The semaphores. -/
  osem : K → SemLoc sig
  inj : Function.Injective osem
  /-- What is credited, and waited for, in all. -/
  amt : K → ℕ
  pos : ∀ k, 0 < amt k
  /-- What the waiting device gets. -/
  pay : Dev nD → K → sProp (MT nD τ sig Unit Val ℕ (URounds (GSem nD τ sig) Unit) ℕ)
  stor : ∀ c k, Storable (upEmb : UEmb _ (MT nD τ sig Unit Val ℕ (URounds (GSem nD τ sig) Unit) ℕ)) (pay c k)
  /-- Whose semaphore a device credits. -/
  dst : K → Dev nD ≃ Dev nD
  /-- The order in which the semaphores can be waited for. -/
  rank : SemLoc sig → ℕ

namespace Proto

variable {K : Type} (P : Proto nD τ sig Val K)

/-- The semaphore `k` of device `c`. -/
abbrev cell (c : Dev nD) (k : K) : GSem nD τ sig := ((c.tc : Thread nD τ), P.osem k)

/-- The protocol's semaphore at a location, if it is one. -/
def at? (s : SemLoc sig) : Option K := Function.partialInv P.osem s

theorem at?_osem (k : K) : P.at? (P.osem k) = some k := Function.partialInv_left P.inj k

/-- The schedule: one round, one duty. -/
def sched : Schedule (GSem nD τ sig) Unit (MT nD τ sig Unit Val ℕ (URounds (GSem nD τ sig) Unit) ℕ) where
  duties g r := if r = 0 ∧ (P.at? g.2).isSome then {()} else ∅
  amount g _ _ := (P.at? g.2).elim 1 P.amt
  payload g _ _ := (P.at? g.2).elim iprop(emp) (P.pay g.1.1)
  amount_pos g r d _ := by
    show 0 < (P.at? g.2).elim 1 P.amt
    cases P.at? g.2 with
    | none => exact Nat.one_pos
    | some k => exact P.pos k

instance sched_storable (g : GSem nD τ sig) (r : ℕ) (d : Unit) : Storable (upEmb : UEmb _ 𝕄) (P.sched.payload g r d) := by
  show Storable (upEmb : UEmb _ 𝕄) ((P.at? g.2).elim iprop(emp) (P.pay g.1.1))
  cases P.at? g.2 with
  | none => exact (inferInstance : Storable (upEmb : UEmb _ 𝕄) iprop(emp))
  | some k => exact P.stor _ _

theorem duties_cell (c : Dev nD) (k : K) : P.sched.duties (P.cell c k) 0 = {()} :=
  show (if _ ∧ (P.at? (P.osem k)).isSome then ({()} : Finset Unit) else ∅) = {()} from by rw [P.at?_osem]; rfl
theorem duties_later (g : GSem nD τ sig) (r : ℕ) (h : 1 ≤ r) : P.sched.duties g r = ∅ := if_neg fun h' => by have := h'.1; omega
theorem amount_cell (c : Dev nD) (k : K) (r : ℕ) (d : Unit) : P.sched.amount (P.cell c k) r d = P.amt k := by
  show (P.at? (P.osem k)).elim 1 P.amt = _
  rw [P.at?_osem]; rfl
theorem payload_cell (c : Dev nD) (k : K) (r : ℕ) (d : Unit) : P.sched.payload (P.cell c k) r d = P.pay c k := by
  show (P.at? (P.osem k)).elim iprop(emp) (P.pay c) = _
  rw [P.at?_osem]; rfl
theorem expect_cell (c : Dev nD) (k : K) : P.sched.expect (P.cell c k) 0 = P.amt k := by
  unfold Schedule.expect Schedule.amountOf
  rw [P.duties_cell, Finset.sum_singleton, P.amount_cell]

/-! ## What a device owes, and is owed -/

/-- The credit device `c` has still to pay: the semaphores of the list, each on the device it pays. -/
def owed (c : Dev nD) : List K → CellTallies nD τ sig Unit
  | [] => 0
  | k :: l => owed c l + tallyAt (P.cell (P.dst k c) k) () (P.amt k)

theorem owed_pos {c : Dev nD} {l : List K} {g : GSem nD τ sig} {i : Unit} (h : 0 < P.owed c l g i) :
    ∃ k ∈ l, g = P.cell (P.dst k c) k := by
  induction l with
  | nil => exact absurd h (Nat.lt_irrefl 0)
  | cons k l ih =>
    rcases add_pos_cases h with h | h
    · obtain ⟨k', hk', e⟩ := ih h
      exact ⟨k', List.mem_cons_of_mem _ hk', e⟩
    · exact ⟨k, List.mem_cons_self, (tallyAt_pos h).1⟩

theorem credits (c : Dev nD) (l : List K) :
    (launchCred (fun d => P.owed d l) c : sProp 𝕄) ⊢ sepL (fun k => cred (tallyAt (P.cell c k) () (P.amt k))) l := by
  induction l with
  | nil => exact Entails.of_eq (launchCred_zero c)
  | cons k l ih =>
    show launchCred (fun d => P.owed d l + tallyAt (P.cell (P.dst k d) k) () (P.amt k)) c
      ⊢ iprop(cred (tallyAt (P.cell c k) () (P.amt k)) ∗ sepL (fun k => cred (tallyAt (P.cell c k) () (P.amt k))) l)
    rw [launchCred_add]
    have h1 := launchCred_tallyAt (τ := τ) (Val := Val) (Name := ℕ) (U := URounds (GSem nD τ sig) Unit) (Lvl := ℕ)
      (P.osem k) (P.dst k) (P.dst k).symm (fun c => (P.dst k).apply_symm_apply c) (fun d => (P.dst k).symm_apply_apply d) () (P.amt k) c
    iintro ⟨Ha, Hb⟩
    isplitl [Hb]; · iapply h1; iexact Hb
    iapply ih; iexact Ha

/-- Every semaphore of a TensorCore has the one index, its level the protocol's rank. -/
def lvls (g : GSem nD τ sig) : Finset Unit := if g.1.2 = .tc then {()} else ∅
def lvl (g : GSem nD τ sig) (_ : Unit) : ℕ := P.rank g.2

theorem mayWait (c : Dev nD) (k : K) (l : List K) (h : ∀ k' ∈ l, P.rank (P.osem k) < P.rank (P.osem k')) :
    (levAts lvls P.lvl : sProp 𝕄) ⊢ MayWait (c.tc : Thread nD τ) (P.osem k) () (P.owed c l) :=
  mayWait_of_levAts (L := lvls) (lev := P.lvl) (Finset.mem_singleton_self _) fun g i hg => by
    obtain ⟨k', hk', rfl⟩ := P.owed_pos hg
    exact ⟨Finset.mem_singleton_self _, h k' hk'⟩

/-! ## The cells' records, dealt to every device -/

section Records
variable [Fintype K]

/-- Every cell's record and that its round is open, for all devices. -/
def facts (κ : GSem nD τ sig → ℕ) : sProp 𝕄 :=
  bigSep Finset.univ fun ck : Dev nD × K => iprop(cellInv En P.sched (κ (P.cell ck.1 ck.2)) (P.cell ck.1 ck.2) ∗ reached En (P.cell ck.1 ck.2) 0)

instance facts_persistent (κ : GSem nD τ sig → ℕ) : BI.Persistent (P.facts κ) := by unfold facts; infer_instance

theorem fact [DecidableEq K] (κ : GSem nD τ sig → ℕ) (c : Dev nD) (k : K) :
    P.facts κ ⊢ iprop(cellInv En P.sched (κ (P.cell c k)) (P.cell c k) ∗ reached En (P.cell c k) 0) := by
  unfold facts
  exact bigSep_elim (Finset.mem_univ (c, k))

/-- The right to make the transfer crediting `k`, held by the device that makes it. -/
abbrev tok (c : Dev nD) (k : K) : sProp 𝕄 := dutyTok En (P.cell (P.dst k c) k) 0 ()
/-- The device's position at its own semaphore. -/
abbrev pos₀ (c : Dev nD) (k : K) : sProp 𝕄 := atPos En (P.cell c k) 0 ∅ 0
abbrev pos₁ (c : Dev nD) (k : K) : sProp 𝕄 := atPos En (P.cell c k) 1 ∅ 0
/-- The credit for what another device pays. -/
abbrev due (c : Dev nD) (k : K) : sProp 𝕄 := cred (tallyAt (P.cell c k) () (P.amt k))

theorem cell_inj : Function.Injective fun ck : Dev nD × K => P.cell ck.1 ck.2 := by
  rintro ⟨c, k⟩ ⟨c', k'⟩ h
  have hc : c = c' := congrArg (fun g : GSem nD τ sig => g.1.1) h
  have hk : k = k' := P.inj (congrArg (fun g : GSem nD τ sig => g.2) h)
  rw [hc, hk]

def cells : Finset (GSem nD τ sig) := Finset.univ.map ⟨fun ck : Dev nD × K => P.cell ck.1 ck.2, P.cell_inj⟩
def toks : Finset (GSem nD τ sig × ℕ × Unit) :=
  Finset.univ.map ⟨fun ck : Dev nD × K => (P.cell ck.1 ck.2, 0, ()), fun a b h => P.cell_inj (Prod.mk.inj h).1⟩

/-- The launch's ghost element. -/
abbrev start : URounds (GSem nD τ sig) Unit := launchOf P.cells ∅ P.toks

/-- Which device makes the transfer crediting a cell, over all cells. -/
def shift : Dev nD × K ≃ Dev nD × K where
  toFun ck := (P.dst ck.2 ck.1, ck.2)
  invFun ck := ((P.dst ck.2).symm ck.1, ck.2)
  left_inv ck := by simp
  right_inv ck := by simp

/-- What a device starts with: every cell's record, the rights to its own transfers, its positions, the credit for what
    the others pay it, and its buffers. -/
def dealt (all rem : List K) (B : Dev nD → sProp 𝕄) (c : Dev nD) : sProp 𝕄 :=
  iprop(∃ κ, P.facts κ ∗ sepL (P.tok c) all ∗ sepL (P.pos₀ c) all ∗ sepL (P.due c) rem ∗ B c)

theorem fund [DecidableEq K] :
    iprop((bigSep Finset.univ fun c : Dev nD => (ownSems0 P.osem c : sProp 𝕄)) ∗ ownU P.start)
      ⊢ |={Set.univ}=> iprop(∃ κ, P.facts κ ∗ (bigSep Finset.univ fun c => bigSep Finset.univ fun k => P.pos₀ c k)
          ∗ bigSep Finset.univ fun c => bigSep Finset.univ fun k => P.tok c k) := by
  have h0 : (bigSep P.cells fun g => (semVal g 0 : sProp 𝕄)) = bigSep Finset.univ fun c : Dev nD => (ownSems0 P.osem c : sProp 𝕄) := by
    unfold cells ownSems0
    rw [BI.bigSep_map, BI.bigSep_univ_prod]; rfl
  have h := fund_launch (En : Emb _ 𝕄) P.sched (S := P.cells) (Sd := ∅) (Finset.disjoint_empty_right _)
    (fun g hg => absurd hg (Finset.notMem_empty g)) P.toks (∅ : Finset ℕ) (Es := Set.univ)
  rw [h0] at h
  have h' : iprop((bigSep Finset.univ fun c : Dev nD => (ownSems0 P.osem c : sProp 𝕄)) ∗ ownU P.start)
    ⊢ |={Set.univ}=> iprop(∃ κ : GSem nD τ sig → ℕ, ⌜Set.InjOn κ (P.cells ∪ ∅ : Finset (GSem nD τ sig)) ∧ ∀ g ∈ P.cells ∪ ∅, κ g ∉ (∅ : Finset ℕ)⌝
          ∗ bigSep (P.cells ∪ ∅) (fun g => cellInv En P.sched (κ g) g)
          ∗ bigSep P.cells (fun g => reached En g 0) ∗ bigSep P.cells (fun g => atPos En g 0 ∅ 0)
          ∗ bigSep ∅ (fun g => openTok En g)
          ∗ bigSep P.toks (fun x => dutyTok En x.1 x.2.1 x.2.2)) := h
  iintro H
  imod h' $$ H with ⟨%κ, -, Hc, Hr, Ha, -, Ht⟩
  imodintro
  iexists κ
  have e1 : iprop(bigSep (P.cells ∪ ∅) (fun g => cellInv En P.sched (κ g) g) ∗ bigSep P.cells (fun g => (reached En g 0 : sProp 𝕄))) = P.facts κ := by
    rw [Finset.union_empty]
    unfold facts cells
    rw [BI.bigSep_map, BI.bigSep_map, bigSep_sep']; rfl
  have e2 : (bigSep P.cells (fun g => (atPos En g 0 ∅ 0 : sProp 𝕄))) = bigSep Finset.univ fun c => bigSep Finset.univ fun k => P.pos₀ c k := by
    unfold cells
    rw [BI.bigSep_map, BI.bigSep_univ_prod]; rfl
  have e3 : (bigSep P.toks (fun x => (dutyTok En x.1 x.2.1 x.2.2 : sProp 𝕄))) = bigSep Finset.univ fun c => bigSep Finset.univ fun k => P.tok c k := by
    unfold toks
    rw [BI.bigSep_map, BI.bigSep_univ_equiv P.shift, BI.bigSep_univ_prod]; rfl
  rw [← e1, ← e2, ← e3]
  isplitl [Hc Hr]
  · isplitl [Hc]; · iexact Hc
    iexact Hr
  isplitl [Ha]; · iexact Ha
  iexact Ht

theorem deal [DecidableEq K] (all rem : List K) (hn : all.Nodup) (ha : ∀ k, k ∈ all)
    (A B : Dev nD → sProp 𝕄) (hB : bigSep Finset.univ A ⊢ bigSep Finset.univ B) :
    iprop(bigSep Finset.univ A ∗ (bigSep Finset.univ fun c : Dev nD => ownSems0 P.osem c)
        ∗ (bigSep Finset.univ fun c : Dev nD => launchCred (fun d => P.owed d rem) c) ∗ ownU P.start)
      ⊢ |={Set.univ}=> bigSep Finset.univ (P.dealt all rem B) := by
  have hc : (bigSep Finset.univ fun c : Dev nD => (launchCred (fun d => P.owed d rem) c : sProp 𝕄))
      ⊢ bigSep Finset.univ fun c : Dev nD => sepL (P.due c) rem := bigSep_mono fun c _ => P.credits c rem
  have e1 : (bigSep Finset.univ fun c : Dev nD => bigSep Finset.univ fun k => P.pos₀ c k) = bigSep Finset.univ fun c => sepL (P.pos₀ c) all :=
    bigSep_congr fun c _ => bigSep_all _ all hn ha
  have e2 : (bigSep Finset.univ fun c : Dev nD => bigSep Finset.univ fun k => P.tok c k) = bigSep Finset.univ fun c => sepL (P.tok c) all :=
    bigSep_congr fun c _ => bigSep_all _ all hn ha
  have hf := P.fund
  rw [e1, e2] at hf
  iintro ⟨HA, Hs, Hcr, Hu⟩
  imod hf $$ [Hs Hu] with ⟨%κ, #Hf, Hp, Ht⟩
  · isplitl [Hs]; · iexact Hs
    iexact Hu
  imodintro
  have hfin : iprop((bigSep Finset.univ fun _ : Dev nD => P.facts κ) ∗ (bigSep Finset.univ fun c => sepL (P.tok c) all)
      ∗ (bigSep Finset.univ fun c => sepL (P.pos₀ c) all) ∗ (bigSep Finset.univ fun c => sepL (P.due c) rem) ∗ bigSep Finset.univ B)
      ⊢ bigSep Finset.univ (P.dealt all rem B) := by
    rw [← bigSep_sep', ← bigSep_sep', ← bigSep_sep', ← bigSep_sep']
    have h1 : ∀ c : Dev nD, iprop(P.facts κ ∗ sepL (P.tok c) all ∗ sepL (P.pos₀ c) all ∗ sepL (P.due c) rem ∗ B c) ⊢ P.dealt all rem B c := fun c => by
      unfold dealt
      iintro H; iexists κ; iexact H
    exact bigSep_mono fun c _ => h1 c
  have hcopy : P.facts κ ⊢ bigSep Finset.univ fun _ : Dev nD => P.facts κ :=
    BI.bigSep_intro_persistent (S := Finset.univ) fun (c : Dev nD) _ => (BI.Entails.refl (P.facts κ))
  iapply hfin
  isplitr; · iapply hcopy; iexact Hf
  isplitl [Ht]; · iexact Ht
  isplitl [Hp]; · iexact Hp
  isplitl [Hcr]; · iapply hc; iexact Hcr
  iapply hB; iexact HA

/-! ## A device's closing -/

/-- What a device knows throughout. -/
abbrev know (κ : GSem nD τ sig → ℕ) : sProp 𝕄 := iprop(P.facts κ ∗ levAts lvls P.lvl)

theorem close_list [DecidableEq K] (κ : GSem nD τ sig → ℕ) (c : Dev nD) (l : List K) :
    iprop(P.facts κ ∗ sepL (P.pos₁ c) l) ⊢ |={Set.univ}=> sepL (fun k => semVal (P.cell c k) 0) l := by
  induction l with
  | nil => iintro -; imodintro; exact .rfl
  | cons k l ih =>
    show iprop(P.facts κ ∗ P.pos₁ c k ∗ sepL (P.pos₁ c) l) ⊢ |={Set.univ}=> iprop(semVal (P.cell c k) 0 ∗ sepL (fun k => semVal (P.cell c k) 0) l)
    have h1 := cell_close (En : Emb _ 𝕄) P.sched (g := P.cell c k) (κ := κ (P.cell c k)) (Es := Set.univ) (Set.mem_univ _) (fun h => h)
      (R := 1) (P.duties_later (P.cell c k))
    iintro ⟨#Hf, Hp, Hl⟩
    ihave H := (P.fact κ c k) $$ Hf
    icases H with ⟨#Hi, -⟩
    imod h1 $$ [Hp] with Hv
    · isplitr; · iexact Hi
      iexact Hp
    imod ih $$ [Hl] with Hl
    · isplitr; · iexact Hf
      iexact Hl
    imodintro
    isplitl [Hv]; · iexact Hv
    iexact Hl

theorem close [DecidableEq K] (κ : GSem nD τ sig → ℕ) (c : Dev nD) (all : List K) (hn : all.Nodup) (ha : ∀ k, k ∈ all) :
    iprop(P.facts κ ∗ sepL (P.pos₁ c) all) ⊢ |={Set.univ}=> ownSems0 P.osem c := by
  unfold ownSems0
  rw [bigSep_all _ all hn ha]
  exact P.close_list κ c all

/-- What the device owes, whatever it has waited for. -/
abbrev owing (c : Dev nD) (l : List K) : sProp 𝕄 := iprop(∃ W, owes (c.tc : Thread nD τ) (P.owed c l) W)

end Records

end Proto

/-! ## The operations -/

section Operations

variable {K : Type} [Fintype K] [DecidableEq K] (P : Proto nD τ sig Val K) {Λ : Labels} {defs : Defs nD τ sig Val Λ} {𝒱 : Variants}
  {sp sp' : Space} {s : Shape} {e : EltTy}

/-- A send to the device the semaphore `kR` is for: the payer's right and debt go, the source comes back with the wait at
    `kS`, and the destination, written, is what the receiver's wait at `kR` hands over. -/
theorem send {α : Type} {Q : α → sProp 𝕄} (c n : Dev nD) (kS kR : K) (hn : n = P.dst kR c) (hS : P.dst kS c = c)
    {src : Memref sig (c.tc : Thread nD τ).2.kind sp s e} {dst : Memref sig (n.tc : Thread nD τ).2.kind sp' s e} {hsc : dst.view.ref.isScScratch = false} {sS sR : SemLoc sig}
    (hsS : sS = P.osem kS) (hsR : sR = P.osem kR)
    {hsrc : src.view.WordExact} {hdst : dst.view.WordExact} {hsem : DmaTarget.Typed sp sR (.remote (n.tc : Thread nD τ) dst sS hsc)}
    {k : PUnit → Prog (TpuEff nD τ sig Val Λ (c.tc : Thread nD τ).2) α} {q : PosShare TreeShare}
    {fs : Buf Val (src.view.loc (c.tc : Thread nD τ))} {fd : Buf Val (dst.view.loc (n.tc : Thread nD τ))}
    (hN : dst.view.amount sR = P.amt kR) (hNS : P.amt kS = P.amt kR)
    (hpS : (src.view.loc (c.tc : Thread nD τ) ↦[src.view.set]{q} fs) ⊢ P.pay c kS)
    (hpR : (dst.view.loc (n.tc : Thread nD τ) ↦[dst.view.set]{fullShare} (dst.view.write Val fd (src.view.read Val fs) Finset.univ)) ⊢ P.pay n kR)
    (κ : GSem nD τ sig → ℕ) (l : List K) (hr : τ.routes (c.tc : Thread nD τ) (n.tc : Thread nD τ) = true := by routes) :
    iprop(P.know κ ∗ (src.view.loc (c.tc : Thread nD τ) ↦[src.view.set]{q} fs) ∗ (dst.view.loc (n.tc : Thread nD τ) ↦[dst.view.set]{fullShare} fd)
        ∗ P.owing c (kR :: l) ∗ P.tok c kS ∗ P.tok c kR)
      ⊢ iprop(((P.due c kS ∗ P.owing c l) -∗ wp frame (wpE defs 𝒱 (c.tc : Thread nD τ) none) Set.univ (k ⟨⟩) Q)
          -∗ wp frame (wpE defs 𝒱 (c.tc : Thread nD τ) none) Set.univ (.op (.enqueueDma src (.remote (n.tc : Thread nD τ) dst sS hsc) sR hsrc hdst hsem) k) Q) := by
  subst hn hsS hsR
  have hpS' : (src.view.loc (c.tc : Thread nD τ) ↦[src.view.set]{q} fs) ⊢ P.sched.payload (P.cell c kS) 0 () := by rw [P.payload_cell]; exact hpS
  have hpR' : (dst.view.loc ((P.dst kR c).tc : Thread nD τ) ↦[dst.view.set]{fullShare} (dst.view.write Val fd (src.view.read Val fs) Finset.univ))
      ⊢ P.sched.payload (P.cell (P.dst kR c) kR) 0 () := by rw [P.payload_cell]; exact hpR
  have hrule := fun W => wp_send_pointsTo (defs := defs) 𝒱 (En : Emb _ 𝕄) P.sched (c.tc : Thread nD τ) none (Γ := .empty) (src := src) (dst := dst) (hsc := hsc) (hsrc := hsrc) (hdst := hdst)
    (hsem := hsem) (k := k) (Q := Q) (q := q) (fs := fs) (fd := fd) (r₁ := 0) (r₂ := 0) (d₁ := ()) (d₂ := ()) (κ₁ := κ (P.cell c kS)) (κ₂ := κ (P.cell (P.dst kR c) kR))
    (by rw [P.duties_cell]; exact Finset.mem_singleton_self _) (by rw [P.duties_cell]; exact Finset.mem_singleton_self _)
    () () (P.amt kR) hN ((P.amount_cell c kS 0 ()).trans hNS) (P.amount_cell (P.dst kR c) kR 0 ())
    (O₀ := P.owed c (kR :: l)) (P.owed c l) rfl (W := W) hpS' hpR' (Es := Set.univ) hr
  have htS : P.tok c kS = dutyTok En (P.cell c kS) 0 () := by unfold Proto.tok; rw [hS]
  rw [htS]
  unfold Proto.due
  rw [hNS]
  iintro ⟨⟨#Hf, -⟩, Hs, Hd, ⟨%W, Ho⟩, HtS, HtR⟩ Hk
  ihave H := (P.fact κ c kS) $$ Hf
  icases H with ⟨#HiS, #HrS⟩
  ihave H := (P.fact κ (P.dst kR c) kR) $$ Hf
  icases H with ⟨#HiR, #HrR⟩
  iapply (hrule W) $$ [Hs Hd Ho HtS HtR]
  · isplitr; · iexact HiS
    isplitr; · iexact HiR
    isplitl [Hs]; · iexact Hs
    isplitl [Hd]; · iexact Hd
    isplitl [Ho]; · iexact Ho
    isplitl [HtS]; · iexact HtS
    isplitr; · iexact HrS
    isplitl [HtR]; · iexact HtR
    iexact HrR
  · iintro ⟨Hc, Ho⟩
    iapply Hk
    isplitl [Hc]; · iexact Hc
    iexists W; iexact Ho

/-- A copy within the device. -/
theorem copy {α : Type} {Q : α → sProp 𝕄} (c : Dev nD) (kL : K) (hL : P.dst kL c = c)
    {src : Memref sig (c.tc : Thread nD τ).2.kind sp s e} {dst : Memref sig (c.tc : Thread nD τ).2.kind sp' s e} {sL : SemLoc sig} (hsL : sL = P.osem kL)
    {hsrc : src.view.WordExact} {hdst : dst.view.WordExact} {hsem : DmaTarget.Typed (nD := nD) (τ := τ) sp sL (.here dst)}
    {k : PUnit → Prog (TpuEff nD τ sig Val Λ (c.tc : Thread nD τ).2) α} {q : PosShare TreeShare}
    {fs : Buf Val (src.view.loc (c.tc : Thread nD τ))} {fd : Buf Val (dst.view.loc (c.tc : Thread nD τ))}
    (hN : dst.view.amount sL = P.amt kL)
    (hp : iprop((dst.view.loc (c.tc : Thread nD τ) ↦[dst.view.set]{fullShare} (dst.view.write Val fd (src.view.read Val fs) Finset.univ))
      ∗ (src.view.loc (c.tc : Thread nD τ) ↦[src.view.set]{q} fs)) ⊢ P.pay c kL)
    (κ : GSem nD τ sig → ℕ) :
    iprop(P.know κ ∗ (src.view.loc (c.tc : Thread nD τ) ↦[src.view.set]{q} fs) ∗ (dst.view.loc (c.tc : Thread nD τ) ↦[dst.view.set]{fullShare} fd) ∗ P.tok c kL)
      ⊢ iprop((P.due c kL -∗ wp frame (wpE defs 𝒱 (c.tc : Thread nD τ) none) Set.univ (k ⟨⟩) Q)
          -∗ wp frame (wpE defs 𝒱 (c.tc : Thread nD τ) none) Set.univ (.op (.enqueueDma src (.here dst) sL hsrc hdst hsem) k) Q) := by
  subst hsL
  have hp' : iprop((dst.view.loc (c.tc : Thread nD τ) ↦[dst.view.set]{fullShare} (dst.view.write Val fd (src.view.read Val fs) Finset.univ))
      ∗ (src.view.loc (c.tc : Thread nD τ) ↦[src.view.set]{q} fs)) ⊢ P.sched.payload (P.cell c kL) 0 () := by rw [P.payload_cell]; exact hp
  have hrule := wp_copy_pointsTo (defs := defs) 𝒱 (En : Emb _ 𝕄) P.sched (c.tc : Thread nD τ) none (Γ := .empty) (src := src) (dst := dst) (hsrc := hsrc) (hdst := hdst)
    (hsem := hsem) (k := k) (Q := Q) (q := q) (fs := fs) (fd := fd) (r := 0) (d := ()) (κ := κ (P.cell c kL))
    (by rw [P.duties_cell]; exact Finset.mem_singleton_self _) () (P.amt kL) hN (P.amount_cell c kL 0 ()) hp' (Es := Set.univ)
  have htL : P.tok c kL = dutyTok En (P.cell c kL) 0 () := by unfold Proto.tok; rw [hL]
  rw [htL]
  iintro ⟨⟨#Hf, -⟩, Hs, Hd, Ht⟩ Hk
  ihave H := (P.fact κ c kL) $$ Hf
  icases H with ⟨#Hi, #Hr⟩
  iapply hrule $$ [Hs Hd Ht]
  · isplitr; · iexact Hi
    isplitl [Hs]; · iexact Hs
    isplitl [Hd]; · iexact Hd
    isplitl [Ht]; · iexact Ht
    iexact Hr
  · iexact Hk

/-- A wait for the whole of what a semaphore is credited. -/
theorem await {α : Type} {Q : α → sProp 𝕄} (c : Dev nD) (kW : K) {sm : DmaSem sig} (hs : (.dma sm : SemLoc sig) = P.osem kW) {s' : Shape} {e' : EltTy}
    {src : Memref sig (c.tc : Thread nD τ).2.kind sp' s' e'} {dst : Memref sig (c.tc : Thread nD τ).2.kind sp s e} {hsrc : src.view.WordExact} {hdst : dst.view.WordExact}
    (hN : dst.view.dmaCredit = P.amt kW)
    {k : PUnit → Prog (TpuEff nD τ sig Val Λ (c.tc : Thread nD τ).2) α} (κ : GSem nD τ sig → ℕ) (l : List K)
    (hl : ∀ k' ∈ l, P.rank (P.osem kW) < P.rank (P.osem k')) :
    iprop(P.know κ ∗ P.due c kW ∗ P.owing c l ∗ P.pos₀ c kW)
      ⊢ iprop(((P.owing c l ∗ P.pos₁ c kW ∗ P.pay c kW) -∗ wp frame (wpE defs 𝒱 (c.tc : Thread nD τ) none) Set.univ (k ⟨⟩) Q)
          -∗ wp frame (wpE defs 𝒱 (c.tc : Thread nD τ) none) Set.univ (.op (.waitDma2 sm src dst hsrc hdst) k) Q) := by
  have hexp : 0 + dst.view.dmaCredit = P.sched.expect ((c.tc : Thread nD τ), .dma sm) 0 := by
    rw [hs, Nat.zero_add, hN]; exact (P.expect_cell c kW).symm
  have hrule := fun W => wp_wait_rest_token (defs := defs) 𝒱 (En : Emb _ 𝕄) P.sched (c.tc : Thread nD τ) none (Γ := .empty) (κ := κ (P.cell c kW)) (sm := .dma sm) (k := k) (Q := Q)
    (wpE_waitDma2_eq 𝒱 (c.tc : Thread nD τ) none Set.univ (src := src) (dst := dst) (hsrc := hsrc) (hdst := hdst) (sem := sm)) (Set.mem_univ _) ()
    (O := P.owed c l) (W := W) (R := 0) (m := 0) (T := ∅) hexp
  have hpay : (bigSep (P.sched.duties (P.cell c kW) 0 \ ∅) fun d => P.sched.payload (P.cell c kW) 0 d) = P.pay c kW := by
    rw [P.duties_cell, Finset.sdiff_empty, bigSep_singleton, P.payload_cell]
  rw [hs, hpay, hN] at hrule
  iintro ⟨⟨#Hf, #Hl⟩, Hc, ⟨%W, Ho⟩, Hp⟩ Hk
  ihave H := (P.fact κ c kW) $$ Hf
  icases H with ⟨#Hi, -⟩
  iapply (hrule W) $$ [Hc Ho Hp]
  · isplitr; · iexact Hi
    isplitl [Hc]; · iexact Hc
    isplitl [Ho]; · iexact Ho
    isplitr; · iapply (P.mayWait c kW l hl); iexact Hl
    iexact Hp
  · iintro ⟨Ho, Hp, -, HP⟩
    iapply Hk
    isplitl [Ho]; · iexists _; iexact Ho
    isplitl [Hp]; · iexact Hp
    iexact HP

end Operations

/-! ## The launch of a call -/

/-- **A call under a one-shot protocol.** From what it is dealt every device's body makes its transfers, waits at each of
    its semaphores once and gets to `Y`. -/
theorem run [∀ e, Nonempty (Val e)] {K : Type} [Fintype K] [DecidableEq K] (P : Proto nD τ sig Val K)
    (cfgs : Fin 1 → Cfg sig Λ₀) (hinj : Function.Injective (cellOf (nD := nD) (τ := τ) cfgs)) (ho : OwnSemFacts (cfgs 0).spec P.osem)
    (hW : (cfgs 0).W = 0) (hN : (cfgs 0).N = 1) (hw : WinFacts₀ (cfgs 0).spec)
    (hrest : ∀ c, (scopedRest (cfgs 0).spec c : sProp 𝕄) = BI.emp)
    (defs₀ : Defs nD τ sig Val Λ₀) (m : (ℓ : Loc nD τ sig) → Buf Val ℓ) (g : Dev nD → PrngReg)
    (main : Dev nD → Prog (TpuEff nD τ sig Val (Sig Λ₀ (Fin 1) fun p => ((cfgs p).toPCfg (Val := Val)).Adm) .tc) PUnit)
    (hmain : ∀ c, main c = .op (.customCall (entry 0) ()) fun _ => .ret ⟨⟩)
    (all rem : List K) (hn : all.Nodup) (ha : ∀ k, k ∈ all) (B Y : Dev nD → sProp 𝕄)
    (hB : bigSep Finset.univ (fun c : Dev nD => unscopedBufs c (fun b => m ((c.tc : Thread nD τ).loc b))) ⊢ bigSep Finset.univ B)
    (hbody : ∀ c (t : Fin (cfgs 0).N) (κ : GSem nD τ sig → ℕ),
      iprop(P.know κ ∗ sepL (P.tok c) all ∗ sepL (P.pos₀ c) all ∗ sepL (P.due c) rem ∗ B c ∗ P.owing c rem)
        ⊢ wp frame (wpE defs₀ Variants.none (c.tc : Thread nD τ) none) Set.univ
            (defs₀ .tc (cfgs 0).body ((cfgs 0).bodyArgs t ((cfgs 0).slots t))) fun _ =>
            iprop(Y c ∗ sepL (P.pos₁ c) all ∗ P.owing c []))
    (QY : Dev nD → MemSt nD τ sig Val → Prop)
    (hY : ∀ c (s' : Phys nD τ sig Val), iprop(Y c ∗ SI s') ⊢ |={Set.univ}=> iprop(⌜QY c s'.mem⌝ ∗ SI s'))
    (hsem : ∀ sm : SemLoc sig, sm.isScoped .tc = true) :
    θ_run (Pipeline.defs (fun p => (cfgs p).toPCfg) defs₀) (onTc main) ⟨m, fun _ => 0, g⟩
      fun r => (∀ c, QY c r.2) ∧ r.2.sem = fun _ => 0 := by
  refine θ_run_dealt cfgs hinj ho (En : Emb _ 𝕄) hW hN hw hrest defs₀ Variants.none () m g main hmain
    (fun c => P.owed c rem) Proto.lvls P.lvl (fun g hg => if_neg hg) (P.dealt all rem B) Y (fun c t W => ?_) P.start
    (P.deal all rem hn ha _ B hB) QY hY fun s h1 h2 => ⟨h1, ?_⟩
  · refine .trans ?_ (wp_fupd _ _ _ _ _)
    unfold Proto.dealt
    iintro ⟨⟨⟨%κ, #Hf, Ht, Hp, Hd, HB⟩, #Hl⟩, Ho⟩
    iapply (wp_wand frame (wpE defs₀ Variants.none (c.tc : Thread nD τ) none) Set.univ (Q := fun _ => iprop(Y c ∗ sepL (P.pos₁ c) all ∗ P.owing c []))) $$ [Ht Hp Hd HB Ho]
    · iapply (hbody c t κ)
      isplitr
      · isplitr; · iexact Hf
        iexact Hl
      isplitl [Ht]; · iexact Ht
      isplitl [Hp]; · iexact Hp
      isplitl [Hd]; · iexact Hd
      isplitl [HB]; · iexact HB
      iexists W; iexact Ho
    · iintro %_ ⟨HY, Hp, Ho⟩
      imod (P.close κ c all hn ha) $$ [Hp] with Hs
      · isplitr; · iexact Hf
        iexact Hp
      imodintro
      isplitl [HY Hs]
      · isplitl [HY]; · iexact HY
        iexact Hs
      iexact Ho
  · exact funext fun g' => h2 g' (by
      by_cases h : g'.1.2 = .tc
      · exact Or.inr (hsem g'.2)
      · exact Or.inl h)

section Whole
variable (c : Thread nD τ) (b : Ref sig c.2.kind) (q : PosShare TreeShare)

/-- A whole buffer held as its view. -/
theorem pts_whole (f : Buf Val (c.loc b)) :
    (((Memref.whole b).view.loc c ↦[(Memref.whole b).view.set]{q} f) : sProp 𝕄) = iprop((c.loc b) ↦{q} f) :=
  congrArg (fun I => (((c.loc b) ↦[I]{q} f) : sProp 𝕄)) (View.set_whole b)

/-- A whole buffer after a transfer into it. -/
theorem pts_whole_write (f w : Buf Val (c.loc b)) :
    (((Memref.whole b).view.loc c ↦[(Memref.whole b).view.set]{q} (Memref.whole b).view.write Val f w Finset.univ) : sProp 𝕄)
      = iprop((c.loc b) ↦{q} w) :=
  (pts_whole c b q _).trans (congrArg (fun g : Buf Val (c.loc b) => (((c.loc b) ↦{q} g) : sProp 𝕄)) (View.write_whole_univ b f w))

end Whole

/-- A call's one operand and one result, as the launch finds them. -/
theorem bufs_two {nD : Nat} {τ : Topo} {sig : RefSig} {Val : EltTy → Type} (a b : Ref sig .tc) (hab : a ≠ b)
    (h : ∀ x : Ref sig .tc, ¬ x.isScoped ↔ x = a ∨ x = b) (c : Dev nD) (V : (x : Ref sig .tc) → Buf Val ((c.tc : Thread nD τ).loc x)) :
    (unscopedBufs c V : sProp (MT nD τ sig Unit Val ℕ (URounds (GSem nD τ sig) Unit) ℕ))
      ⊢ iprop((((c.tc : Thread nD τ).loc a) ↦{fullShare} V a) ∗ (((c.tc : Thread nD τ).loc b) ↦{fullShare} V b)) := by
  classical
  unfold unscopedBufs
  have e : (Finset.univ.filter fun x : Ref sig .tc => ¬ x.isScoped) = insert a {b} := by
    ext x; simp only [Finset.mem_filter, Finset.mem_univ, true_and, Finset.mem_insert, Finset.mem_singleton]; exact h x
  rw [e, bigSep_insert (by rw [Finset.mem_singleton]; exact hab), bigSep_singleton]
  exact Entails.of_eq rfl

/-- The memory at the end, read off what a device holds of its operand and its result. -/
theorem read_two {nD : Nat} {τ : Topo} {sig : RefSig} {Val : EltTy → Type} (a b : Loc nD τ sig) (fa : Buf Val a) (fb : Buf Val b)
    (s' : Phys nD τ sig Val) :
    (iprop(((a ↦{fullShare} fa) ∗ (b ↦{fullShare} fb)) ∗ SI s') : sProp (MT nD τ sig Unit Val ℕ (URounds (GSem nD τ sig) Unit) ℕ))
      ⊢ |={Set.univ}=> iprop(⌜s'.mem.mem b = fb ∧ s'.mem.mem a = fa⌝ ∗ SI s') := by
  iintro ⟨⟨Ha, Hb⟩, HSI⟩
  icombine HSI Ha gives %ha
  icombine HSI Hb gives %hb
  imodintro
  isplitr
  · ipureintro; exact ⟨Buf.eq_of_forall_mem_univ hb, Buf.eq_of_forall_mem_univ ha⟩
  iexact HSI

end Cert.Talk

end
-- ==== Proof.Talk.Swap.lean ====
/-
# The exchange between a chip's two cores

Device `c` sends the half of its operand that its sibling reduces, and gets the sibling's. Two semaphores per device:
`0`, credited by the device's own transfer, hands the sent half of the operand back; `1`, credited by the sibling's
transfer, hands over the result buffer holding the sibling's half. A device owes its sibling one transfer from the start.
-/
module

public import proofs.«01_k».proof.Proof.Talk.Kit
public import proofs.«01_k».proof.Proof.Gen.SwapIdeal
public import proofs.«01_k».proof.Proof.Gen.SwapIdeal.Skeleton
public import proofs.«01_k».proof.Proof.Gen.SwapIdeal.Launch
public import proofs.«01_k».proof.Proof.Gen.SwapIdeal.Points

@[expose] public section

set_option Elab.async false

noncomputable section

namespace Cert.Talk.Swap

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.SwapIdeal Cert.SwapIdeal.Gen

variable {F : FTy → Type} [FloatOps F]

local notation "𝕄" => MT nD τ sig Unit (Elt F) ℕ (URounds (GSem nD τ sig) Unit) ℕ

/-- The other core of the chip. -/
def peer (c : Dev nD) : Dev nD := ⟨k0_dev1 c, k0_dev1_lt c⟩
theorem peer_peer (c : Dev nD) : peer (peer c) = c := by revert c; decide
def swap : Dev nD ≃ Dev nD := ⟨peer, peer, peer_peer, peer_peer⟩

/-- The half a device sends. -/
abbrev half (c : Dev nD) : Memref sig .tc .hbm S4x6160x1024 .f32 :=
  (Memref.whole main_arg0).slice (Rect.unit (s := S4x12320x1024) (k0_off1 c) S4x6160x1024.size (k0_off1_inb c)) (fun _ => rfl)

abbrev arg (c : Dev nD) : Loc nD τ sig := (c.tc : Thread nD τ).loc main_arg0
abbrev res (c : Dev nD) : Loc nD τ sig := (c.tc : Thread nD τ).loc main_v1

variable (m : (ℓ : Loc nD τ sig) → Buf (Elt F) ℓ) (ρ : Dev nD → PrngReg)

/-- What a device ends with: its sibling's half. -/
def got (c : Dev nD) : Buf (Elt F) (res c) := (half (peer c)).view.read (Elt F) (m (arg (peer c)))

def sems : Fin 2 → SemLoc sig
  | 0 => .dma cc0_scratch0.sem
  | 1 => .dma cc0_scratch1.sem

/-- The protocol. -/
def proto : Proto nD τ sig (Elt F) (Fin 2) where
  osem := sems
  inj := by decide
  amt _ := (Memref.whole main_v1 : Memref sig .tc _ _ _).view.dmaCredit
  pos _ := View.dmaCredit_pos _ (by decide)
  pay c k := match k with
    | 0 => iprop(arg c ↦[(half c).view.set]{fullShare} m (arg c))
    | 1 => iprop(res c ↦{fullShare} got m c)
  stor c k := by
    match k with
    | 0 => exact (inferInstance : Storable (upEmb : UEmb _ 𝕄) iprop(arg c ↦[(half c).view.set]{fullShare} m (arg c)))
    | 1 => exact (inferInstance : Storable (upEmb : UEmb _ 𝕄) iprop(res c ↦{fullShare} got m c))
  dst k := match k with
    | 0 => Equiv.refl _
    | 1 => swap
  rank _ := 0

theorem pay_sent (c : Dev nD) : (proto m).pay c 0 ⊢ iprop(arg c ↦[(half c).view.set]{fullShare} m (arg c)) := BI.Entails.refl _
theorem pay_got (c : Dev nD) : (proto m).pay c 1 ⊢ iprop(res c ↦{fullShare} got m c) := BI.Entails.refl _

/-- What a device is dealt: its operand, and its sibling's result buffer to write. -/
def before (c : Dev nD) : sProp 𝕄 := iprop((arg c ↦{fullShare} m (arg c)) ∗ (res (peer c) ↦{fullShare} m (res (peer c))))
def after (c : Dev nD) : sProp 𝕄 := iprop((arg c ↦{fullShare} m (arg c)) ∗ (res c ↦{fullShare} got m c))

theorem bufs : bigSep Finset.univ (fun c : Dev nD => (unscopedBufs c (fun b => m ((c.tc : Thread nD τ).loc b)) : sProp 𝕄))
    ⊢ bigSep Finset.univ (before m) := by
  have h : ∀ c : Dev nD, (unscopedBufs c (fun b => m ((c.tc : Thread nD τ).loc b)) : sProp 𝕄)
      ⊢ iprop((arg c ↦{fullShare} m (arg c)) ∗ (res c ↦{fullShare} m (res c))) := fun c =>
    bufs_two main_arg0 main_v1 (by decide) (by decide) c _
  refine (bigSep_mono fun c _ => h c).trans ?_
  unfold before
  rw [bigSep_sep', bigSep_sep', bigSep_univ_equiv swap (fun c : Dev nD => iprop(res c ↦{fullShare} m (res c)))]
  exact BI.Entails.refl _

/-- The operand as the half to send and the rest. -/
theorem carve (c : Dev nD) : (arg c ↦{fullShare} m (arg c) : sProp 𝕄)
    ⊣⊢ iprop((arg c ↦[(half c).view.set]{fullShare} m (arg c)) ∗ arg c ↦[Finset.univ \ (half c).view.set]{fullShare} m (arg c)) :=
  pointsTo_split_subset (ℓ := arg c) (I := (half c).view.set) (Finset.subset_univ _)

theorem landed (c : Dev nD) :
    ((Memref.whole main_v1).view.loc ((peer c).tc : Thread nD τ) ↦[(Memref.whole main_v1).view.set]{fullShare}
        (Memref.whole main_v1).view.write (Elt F) (m (res (peer c))) ((half c).view.read (Elt F) (m (arg c))) Finset.univ : sProp 𝕄)
      ⊢ (proto m).pay (peer c) 1 := by
  have h : iprop(res (peer c) ↦{fullShare} (half c).view.read (Elt F) (m (arg c))) = (iprop(res (peer c) ↦{fullShare} got m (peer c)) : sProp 𝕄) := by
    unfold got; rw [peer_peer]
  exact Entails.of_eq ((pts_whole_write ((peer c).tc : Thread nD τ) main_v1 fullShare _ _).trans h)

set_option maxHeartbeats 800000 in
theorem body (c : Dev nD) (κ : GSem nD τ sig → ℕ) :
    iprop((proto m).know κ ∗ sepL ((proto m).tok c) [0, 1] ∗ sepL ((proto m).pos₀ c) [0, 1] ∗ sepL ((proto m).due c) [1] ∗ before m c ∗ (proto m).owing c [1])
      ⊢ wp frame (wpE (defs₀ (F := F)) Variants.none (c.tc : Thread nD τ) none) Set.univ
          (cc0_rs_swap (Memref.whole main_arg0) (Memref.isWhole_whole _) (Memref.whole main_v1) (Memref.isWhole_whole _) cc0_scratch0 cc0_scratch1) fun _ =>
          iprop(after m c ∗ sepL ((proto m).pos₁ c) [0, 1] ∗ (proto m).owing c []) := by
  simp only [cc0_rs_swap_eq_skeleton]; unfold cc0_rs_swap_skel
  simp only [Prog.lift, Prog.bind_op, Prog.bind_ret, Prog.pure_eq_ret, wp_deviceId]
  unfold before after
  simp only [sepL]
  iintro ⟨#Hk, ⟨Ht0, Ht1, -⟩, ⟨Hp0, Hp1, -⟩, ⟨Hd1, -⟩, ⟨Ha, Hr⟩, Ho⟩
  ihave Ha' := (carve m c).1 $$ Ha
  icases Ha' with ⟨Ha, Hrest⟩
  iapply (send (proto m) c ⟨k0_dev1 c, k0_dev1_lt c⟩ 0 1 rfl rfl (src := half c) (dst := Memref.whole main_v1) rfl rfl rfl rfl (.rfl : iprop(arg c ↦[(half c).view.set]{fullShare} m (arg c)) ⊢ _)
    (landed m c) κ []) $$ [Ha Hr Ho Ht0 Ht1]
  · isplitr; · iexact Hk
    isplitl [Ha]; · iexact Ha
    isplitl [Hr]; · iapply (Entails.of_eq (pts_whole ((peer c).tc : Thread nD τ) main_v1 fullShare _).symm); iexact Hr
    isplitl [Ho]; · iexact Ho
    isplitl [Ht0]; · iexact Ht0
    iexact Ht1
  iintro ⟨Hd0, Ho⟩
  iapply (await (proto m) c 0 rfl rfl κ [] (by simp)) $$ [Hd0 Ho Hp0]
  · isplitr; · iexact Hk
    isplitl [Hd0]; · iexact Hd0
    isplitl [Ho]; · iexact Ho
    iexact Hp0
  iintro ⟨Ho, Hp0, Ha⟩
  iapply (await (proto m) c 1 rfl rfl κ [] (by simp)) $$ [Hd1 Ho Hp1]
  · isplitr; · iexact Hk
    isplitl [Hd1]; · iexact Hd1
    isplitl [Ho]; · iexact Ho
    iexact Hp1
  iintro ⟨Ho, Hp1, Hr⟩
  ihave Ha := (pay_sent m c) $$ Ha
  ihave Hr := (pay_got m c) $$ Hr
  ihave Ha := (carve m c).2 $$ [Ha Hrest]
  · isplitl [Ha]; · iexact Ha
    iexact Hrest
  rw [wp_ret]
  imodintro
  isplitl [Ha Hr]
  · isplitl [Ha]; · iexact Ha
    iexact Hr
  isplitl [Hp0 Hp1]
  · isplitl [Hp0]; · iexact Hp0
    isplitl [Hp1]; · iexact Hp1
    iempintro
  iexact Ho

theorem ownSems : Pipeline.OwnSemFacts cfg0.spec sems := by decide

/-- Every device ends with its sibling's half in its result, its operand as it was, and every semaphore at zero. -/
theorem run_main : θ_run (defs (F := F)) (onTc (τ := τ) main) ⟨m, fun _ => 0, ρ⟩
    fun r => (∀ c : Dev nD, r.2.mem (res c) = got m c ∧ r.2.mem (arg c) = m (arg c)) ∧ r.2.sem = fun _ => 0 :=
  run (proto m) cfgs cellOf_inj ownSems rfl N_0 winFacts0.to₀ (fun c => scopedRest0_eq c) defs₀ m ρ main (fun c => (main_chain c).trans rfl)
    [0, 1] [1] (by decide) (by decide) (before m) (after m) (bufs m) (fun c t κ => body m c κ)
    (fun c s => s.mem (res c) = got m c ∧ s.mem (arg c) = m (arg c)) (fun c s' => read_two (arg c) (res c) _ _ s') (by decide)

end Cert.Talk.Swap

end
-- ==== Proof.Talk.Index.lean ====
/-
# A device's block, by coordinates

Block `d` of an array cut along its first axis, at a position given by its coordinates.
-/
module

public import Idealize.ShloMosaic.Lib.ValueIdx
public import Idealize.ShloMosaic.Lib.Layout
public import Idealize.ShloMosaic.Lib.Pipeline.Value

@[expose] public section

set_option Elab.async false

namespace Cert.Talk

open Idealize.ShloMosaic Idealize.ShloMosaic.ValueIdx

theorem block_at_three {α : Type} {n a A b c : ℕ} (X : (⟨3, ![A, b, c]⟩ : Shape).Idx → α)
    (h : Layout.Tiles ⟨3, ![a, b, c]⟩ ⟨3, ![A, b, c]⟩ 0 n) (d : Fin n) (i : Fin a) (j : Fin b) (l : Fin c) (hi : d.val * a + i.val < A) :
    Layout.block ⟨3, ![a, b, c]⟩ ⟨3, ![A, b, c]⟩ 0 n d X h (ix3 i j l) = X (ix3 ⟨d.val * a + i.val, hi⟩ j l) := by
  rw [Layout.block_apply]
  refine congrArg X (funext fun x => Fin.ext ((Layout.Tiles.idx_val _ _ _ _).trans ?_))
  match x with
  | ⟨0, _⟩ => exact if_pos rfl
  | ⟨1, _⟩ => exact if_neg (show ¬ (1 : ℕ) = 0 by decide)
  | ⟨2, _⟩ => exact if_neg (show ¬ (2 : ℕ) = 0 by decide)

theorem block_at_two {α : Type} {n a A b : ℕ} (X : (⟨2, ![A, b]⟩ : Shape).Idx → α)
    (h : Layout.Tiles ⟨2, ![a, b]⟩ ⟨2, ![A, b]⟩ 0 n) (d : Fin n) (i : Fin a) (j : Fin b) (hi : d.val * a + i.val < A) :
    Layout.block ⟨2, ![a, b]⟩ ⟨2, ![A, b]⟩ 0 n d X h (ix2 i j) = X (ix2 ⟨d.val * a + i.val, hi⟩ j) := by
  rw [Layout.block_apply]
  refine congrArg X (funext fun x => Fin.ext ((Layout.Tiles.idx_val _ _ _ _).trans ?_))
  match x with
  | ⟨0, _⟩ => exact if_pos rfl
  | ⟨1, _⟩ => exact if_neg (show ¬ (1 : ℕ) = 0 by decide)

/-- A chip's block of a matrix cut by chip, at a position: both its cores `c` hold block `c / 2`. -/
theorem block_by_chip {α : Type} {a A b : ℕ} (X : (⟨2, ![A, b]⟩ : Shape).Idx → α) (c : Fin 8)
    (h : Layout.TilesN ⟨2, ![a, b]⟩ ⟨2, ![A, b]⟩ fun x => Layout.cutSize [2, 2, 2] ((![[0, 1], []] : Fin 2 → List ℕ) x))
    (i : Fin a) (j : Fin b) (hi : c.val / 2 * a + i.val < A) :
    Layout.blockN ⟨2, ![a, b]⟩ ⟨2, ![A, b]⟩ (Layout.meshBlock [2, 2, 2] ![[0, 1], []] c) X h (ix2 i j) = X (ix2 ⟨c.val / 2 * a + i.val, hi⟩ j) := by
  rw [Layout.blockN_apply]
  refine congrArg X (funext fun x => Fin.ext ((Layout.TilesN.idx_val _ _ _ _).trans ?_))
  have hl : Layout.meshLin [2, 2, 2] c.val [0, 1] = c.val / 2 := (by decide : ∀ c : Fin 8, Layout.meshLin [2, 2, 2] c.val [0, 1] = c.val / 2) c
  match x with
  | ⟨0, _⟩ => exact congrArg (· * a + i.val) hl
  | ⟨1, _⟩ => exact (congrArg (· + j.val) (Nat.zero_mul b)).trans (Nat.zero_add _)

/-- A position of a unit-stride part of a rank-3 array. -/
theorem emb_three {a b c a' b' c' : ℕ} (off : Fin 3 → ℕ) (inb : ∀ x, off x + (![a', b', c'] : Fin 3 → ℕ) x ≤ (![a, b, c] : Fin 3 → ℕ) x)
    (i : Fin a') (j : Fin b') (l : Fin c') (i' : Fin a) (j' : Fin b) (l' : Fin c)
    (h0 : i'.val = off 0 + i.val) (h1 : j'.val = off 1 + j.val) (h2 : l'.val = off 2 + l.val) :
    (Rect.unit (s := ⟨3, ![a, b, c]⟩) off ![a', b', c'] inb).emb (ix3 i j l) = ix3 i' j' l' := by
  refine funext fun x => Fin.ext ((Rect.emb_apply _ _ _).trans ?_)
  match x with
  | ⟨0, _⟩ => exact (congrArg (off 0 + ·) (Nat.one_mul _)).trans h0.symm
  | ⟨1, _⟩ => exact (congrArg (off 1 + ·) (Nat.one_mul _)).trans h1.symm
  | ⟨2, _⟩ => exact (congrArg (off 2 + ·) (Nat.one_mul _)).trans h2.symm

theorem emb_two {a b a' b' : ℕ} (off : Fin 2 → ℕ) (inb : ∀ x, off x + (![a', b'] : Fin 2 → ℕ) x ≤ (![a, b] : Fin 2 → ℕ) x)
    (i : Fin a') (j : Fin b') (i' : Fin a) (j' : Fin b) (h0 : i'.val = off 0 + i.val) (h1 : j'.val = off 1 + j.val) :
    (Rect.unit (s := ⟨2, ![a, b]⟩) off ![a', b'] inb).emb (ix2 i j) = ix2 i' j' := by
  refine funext fun x => Fin.ext ((Rect.emb_apply _ _ _).trans ?_)
  match x with
  | ⟨0, _⟩ => exact (congrArg (off 0 + ·) (Nat.one_mul _)).trans h0.symm
  | ⟨1, _⟩ => exact (congrArg (off 1 + ·) (Nat.one_mul _)).trans h1.symm

end Cert.Talk
-- ==== Proof.Talk.SwapValue.lean ====
/-
# What the exchange between a chip's two cores computes

The reference's result, element by element, and that a device's block of it is the half its sibling sends.
-/
module

public import proofs.«01_k».proof.Proof.Talk.Swap
public import proofs.«01_k».proof.Proof.Gen.SwapRefIdeal
public import proofs.«01_k».proof.Proof.Gen.SwapRefIdeal.Run
public import Idealize.ShloMosaic.Lib.ValueIdx
public import Idealize.ShloMosaic.Lib.ValueIdxRank6
public import proofs.«01_k».proof.Proof.Talk.Index
public import Idealize.ShloMosaic.Lib.Pipeline.Value

@[expose] public section

set_option Elab.async false

noncomputable section

namespace Cert.Talk.Swap

open Idealize.ShloMosaic Idealize.ShloMosaic.ValueIdx
open Idealize.ShloMosaic.TcCoe
open Idealize.SL.Sem
open Cert.SwapRefIdeal Cert.SwapRefIdeal.Gen

section Reference
variable {α : Type} (X : S32x12320x1024.Idx → α)

/-- The array cut by chip, core, gradient block and half. -/
def cut : S4x2x4x2x6160x1024.Idx → α := shapeCast _ X shapeCasts_S32x12320x1024_S4x2x4x2x6160x1024
/-- What the first cores end with: the second cores' first halves. -/
def first : S4x4x6160x1024.Idx → α :=
  shapeCast _ (extractStridedSlice S4x1x4x1x6160x1024 ![0, 1, 0, 0, 0, 0] (cut X) slices_S4x2x4x2x6160x1024_S4x1x4x1x6160x1024_0_1_0_0_0_0) shapeCasts_S4x1x4x1x6160x1024_S4x4x6160x1024
/-- What the second cores end with: the first cores' second halves. -/
def second : S4x4x6160x1024.Idx → α :=
  shapeCast _ (extractStridedSlice S4x1x4x1x6160x1024 ![0, 0, 0, 1, 0, 0] (cut X) slices_S4x2x4x2x6160x1024_S4x1x4x1x6160x1024_0_0_0_1_0_0) shapeCasts_S4x1x4x1x6160x1024_S4x4x6160x1024
/-- The two, by core. -/
def both : S4x2x4x6160x1024.Idx → α :=
  concatenate S4x2x4x6160x1024 1 [⟨S4x1x4x6160x1024, broadcastInDim S4x1x4x6160x1024 ![0, 2, 3, 4] bcast_S4x4x6160x1024_S4x1x4x6160x1024_0_2_3_4 (first X)⟩,
    ⟨S4x1x4x6160x1024, broadcastInDim S4x1x4x6160x1024 ![0, 2, 3, 4] bcast_S4x4x6160x1024_S4x1x4x6160x1024_0_2_3_4 (second X)⟩]
    concatenates_S4x1x4x6160x1024_S4x1x4x6160x1024_S4x2x4x6160x1024_d1
/-- The reference's result. -/
def out : S32x6160x1024.Idx → α := shapeCast _ (both X) shapeCasts_S4x2x4x6160x1024_S32x6160x1024

theorem cut_apply (p : Fin 4) (q : Fin 2) (k : Fin 4) (h : Fin 2) (r : Fin 6160) (l : Fin 1024) :
    cut X (ix6 p q k h r l) = X (ix3 ⟨(p.val * 2 + q.val) * 4 + k.val, by omega⟩ ⟨h.val * 6160 + r.val, by omega⟩ l) := by
  refine shapeCast_apply X _ _ _ ?_
  rw [Shape.rowMajor_val_three, Shape.rowMajor_val_six]
  show (((p.val * 2 + q.val) * 4 + k.val) * 12320 + (h.val * 6160 + r.val)) * 1024 + l.val
    = (((((p.val * 2 + q.val) * 4 + k.val) * 2 + h.val) * 6160 + r.val) * 1024) + l.val
  omega

theorem first_apply (p : Fin 4) (k : Fin 4) (r : Fin 6160) (l : Fin 1024) :
    first X (ix4 p k r l) = cut X (ix6 p 1 k 0 r l) := by
  refine (shapeCast_apply _ _ _ (ix6 p 0 k 0 r l) ?_).trans (extractStridedSlice_apply _ _ _ _ _ ?_)
  · rw [Shape.rowMajor_val_four, Shape.rowMajor_val_six]
    show (((((p.val * 1 + 0) * 4 + k.val) * 1 + 0) * 6160 + r.val) * 1024) + l.val = ((p.val * 4 + k.val) * 6160 + r.val) * 1024 + l.val
    omega
  · intro a
    match a with
    | ⟨0, _⟩ => exact (Nat.zero_add _).symm
    | ⟨1, _⟩ => rfl
    | ⟨2, _⟩ => exact (Nat.zero_add _).symm
    | ⟨3, _⟩ => rfl
    | ⟨4, _⟩ => exact (Nat.zero_add _).symm
    | ⟨5, _⟩ => exact (Nat.zero_add _).symm

theorem second_apply (p : Fin 4) (k : Fin 4) (r : Fin 6160) (l : Fin 1024) :
    second X (ix4 p k r l) = cut X (ix6 p 0 k 1 r l) := by
  refine (shapeCast_apply _ _ _ (ix6 p 0 k 0 r l) ?_).trans (extractStridedSlice_apply _ _ _ _ _ ?_)
  · rw [Shape.rowMajor_val_four, Shape.rowMajor_val_six]
    show (((((p.val * 1 + 0) * 4 + k.val) * 1 + 0) * 6160 + r.val) * 1024) + l.val = ((p.val * 4 + k.val) * 6160 + r.val) * 1024 + l.val
    omega
  · intro a
    match a with
    | ⟨0, _⟩ => exact (Nat.zero_add _).symm
    | ⟨1, _⟩ => rfl
    | ⟨2, _⟩ => exact (Nat.zero_add _).symm
    | ⟨3, _⟩ => rfl
    | ⟨4, _⟩ => exact (Nat.zero_add _).symm
    | ⟨5, _⟩ => exact (Nat.zero_add _).symm

theorem widened (Y : S4x4x6160x1024.Idx → α) (p : Fin 4) (k : Fin 4) (r : Fin 6160) (l : Fin 1024) :
    broadcastInDim S4x1x4x6160x1024 ![0, 2, 3, 4] bcast_S4x4x6160x1024_S4x1x4x6160x1024_0_2_3_4 Y (ix5 p 0 k r l) = Y (ix4 p k r l) := by
  refine broadcastInDim_apply _ _ _ _ _ fun a => ?_
  match a with
  | ⟨0, _⟩ => exact (if_neg (show ¬ (4 : ℕ) = 1 by decide)).symm
  | ⟨1, _⟩ => exact (if_neg (show ¬ (4 : ℕ) = 1 by decide)).symm
  | ⟨2, _⟩ => exact (if_neg (show ¬ (6160 : ℕ) = 1 by decide)).symm
  | ⟨3, _⟩ => exact (if_neg (show ¬ (1024 : ℕ) = 1 by decide)).symm

theorem both_apply (p : Fin 4) (q : Fin 2) (k : Fin 4) (r : Fin 6160) (l : Fin 1024) :
    both X (ix5 p q k r l) = X (ix3 ⟨(p.val * 2 + (1 - q.val)) * 4 + k.val, by omega⟩ ⟨q.val * 6160 + r.val, by omega⟩ l) := by
  match q with
  | ⟨0, _⟩ =>
    have h := concatenate_pair_apply_left (s₁ := S4x1x4x6160x1024) (s₂ := S4x1x4x6160x1024) 1
      (broadcastInDim S4x1x4x6160x1024 ![0, 2, 3, 4] bcast_S4x4x6160x1024_S4x1x4x6160x1024_0_2_3_4 (first X))
      (broadcastInDim S4x1x4x6160x1024 ![0, 2, 3, 4] bcast_S4x4x6160x1024_S4x1x4x6160x1024_0_2_3_4 (second X))
      concatenates_S4x1x4x6160x1024_S4x1x4x6160x1024_S4x2x4x6160x1024_d1 (ix5 p 0 k r l) rfl (ix5 p 0 k r l) fun b => by
        match b with
        | ⟨0, _⟩ => rfl
        | ⟨1, _⟩ => rfl
        | ⟨2, _⟩ => rfl
        | ⟨3, _⟩ => rfl
        | ⟨4, _⟩ => rfl
    exact h.trans ((widened (first X) p k r l).trans ((first_apply X p k r l).trans (cut_apply X p 1 k 0 r l)))
  | ⟨1, _⟩ =>
    have h := concatenate_pair_apply_right (s₁ := S4x1x4x6160x1024) (s₂ := S4x1x4x6160x1024) 1
      (broadcastInDim S4x1x4x6160x1024 ![0, 2, 3, 4] bcast_S4x4x6160x1024_S4x1x4x6160x1024_0_2_3_4 (first X))
      (broadcastInDim S4x1x4x6160x1024 ![0, 2, 3, 4] bcast_S4x4x6160x1024_S4x1x4x6160x1024_0_2_3_4 (second X))
      concatenates_S4x1x4x6160x1024_S4x1x4x6160x1024_S4x2x4x6160x1024_d1 (ix5 p 1 k r l) rfl rfl (ix5 p 0 k r l) (fun b hb => by
        match b with
        | ⟨0, _⟩ => rfl
        | ⟨1, _⟩ => exact absurd rfl hb
        | ⟨2, _⟩ => rfl
        | ⟨3, _⟩ => rfl
        | ⟨4, _⟩ => rfl) rfl
    exact h.trans ((widened (second X) p k r l).trans ((second_apply X p k r l).trans (cut_apply X p 0 k 1 r l)))

/-- The reference's result at block `k` of device `c`: its sibling's, at the half device `c` reduces. -/
theorem out_apply (c : Fin 8) (k : Fin 4) (r : Fin 6160) (l : Fin 1024) :
    out X (ix3 ⟨c.val * 4 + k.val, by omega⟩ r l)
      = X (ix3 ⟨(c.val / 2 * 2 + (1 - c.val % 2)) * 4 + k.val, by omega⟩ ⟨c.val % 2 * 6160 + r.val, by omega⟩ l) := by
  refine (shapeCast_apply _ _ _ (ix5 ⟨c.val / 2, by omega⟩ ⟨c.val % 2, by omega⟩ k r l) ?_).trans (both_apply X _ _ k r l)
  rw [Shape.rowMajor_val_three, Shape.rowMajor_val_five]
  show ((((c.val / 2) * 2 + c.val % 2) * 4 + k.val) * 6160 + r.val) * 1024 + l.val = ((c.val * 4 + k.val) * 6160 + r.val) * 1024 + l.val
  omega

end Reference

section Blocks
open Cert.SwapIdeal (S4x12320x1024 S4x6160x1024)
variable {F : FTy → Type} [FloatOps F]

/-- What device `c` sends, position by position. -/
theorem half_apply (c : Dev Cert.SwapIdeal.nD) (f : S4x12320x1024.Idx → Elt F .f32) (k : Fin 4) (r : Fin 6160) (l : Fin 1024) (r' : Fin 12320)
    (hr : r'.val = 6160 - 6160 * (c.val % 2) + r.val) :
    (half c).view.read (Elt F) f (ix3 k r l) = f (ix3 k r' l) := by
  have ho := Cert.SwapIdeal.Gen.k0_off1_eq c
  refine Eq.trans (b := f ((Rect.unit (s := S4x12320x1024) (Cert.SwapIdeal.k0_off1 c) S4x6160x1024.size (Cert.SwapIdeal.Gen.k0_off1_inb c)).emb (ix3 k r l))) rfl ?_
  refine congrArg f (emb_three (Cert.SwapIdeal.k0_off1 c) _ k r l k r' l ?_ ?_ ?_)
  · rw [ho]; exact (Nat.zero_add _).symm
  · rw [ho]; exact hr
  · rw [ho]; exact (Nat.zero_add _).symm

/-- **Device `c`'s block of the reference's result is what its sibling sends it**, the devices' operands being their blocks of
    the reference's. -/
theorem value (m : (ℓ : Loc Cert.SwapIdeal.nD Cert.SwapIdeal.τ Cert.SwapIdeal.sig) → Buf (Elt F) ℓ)
    (X : S32x12320x1024.Idx → Elt F .f32) (h8 : Layout.Tiles S4x12320x1024 S32x12320x1024 0 8) (h8' : Layout.Tiles S4x6160x1024 S32x6160x1024 0 8)
    (hX : ∀ c : Fin 8, m (arg c) = Layout.block S4x12320x1024 S32x12320x1024 0 8 c X h8) (c : Fin 8) :
    got m c = Layout.block S4x6160x1024 S32x6160x1024 0 8 c (out X) h8' := by
  funext i
  obtain ⟨k, r, l, rfl⟩ : ∃ (k : Fin 4) (r : Fin 6160) (l : Fin 1024), i = ix3 k r l := ⟨i 0, i 1, i 2, eq_ix3 i⟩
  have hp : (peer c).val = c.val / 2 * 2 + (1 - c.val % 2) := by revert c; decide
  have hL := half_apply (peer c) (m (arg (peer c))) k r l ⟨c.val % 2 * 6160 + r.val, by omega⟩ (by rw [hp]; show c.val % 2 * 6160 + r.val = _; omega)
  refine hL.trans ?_
  rw [hX (peer c)]
  refine (block_at_three X h8 (peer c) k ⟨c.val % 2 * 6160 + r.val, by omega⟩ l (by rw [hp]; omega)).trans ?_
  refine Eq.trans ?_ ((out_apply X c k r l).symm.trans (block_at_three (out X) h8' c k r l (by omega)).symm)
  congr 3
  rw [hp]

/-- Both programs run, and the devices' results are their blocks of the reference's, over any floats. -/
theorem agree (m : (ℓ : Loc Cert.SwapIdeal.nD Cert.SwapIdeal.τ Cert.SwapIdeal.sig) → Buf (Elt F) ℓ) (g : Dev Cert.SwapIdeal.nD → PrngReg)
    (m' : (ℓ : Loc nD τ sig) → Buf (Elt F) ℓ) (g' : Dev nD → PrngReg)
    (hX : ∀ c : Fin 8, m (arg c) = Layout.block S4x12320x1024 S32x12320x1024 0 8 c (m' (((0 : Dev nD).tc : Thread nD τ).loc main_arg0))) :
    ∃ v0 : Buf (Elt F) (((0 : Dev nD).tc : Thread nD τ).loc main_v8),
      θ_run (Cert.SwapIdeal.defs (F := F)) (onTc (τ := Cert.SwapIdeal.τ) (Cert.SwapIdeal.main (F := F))) ⟨m, fun _ => 0, g⟩ (fun r => ∀ c : Fin 8,
          r.2.mem (res c) = Layout.block S4x6160x1024 S32x6160x1024 0 8 c v0 ∧ r.2.mem (arg c) = m (arg c))
      ∧ θ_run (defs (F := F)) (onTc (τ := τ) (main (F := F))) ⟨m', fun _ => 0, g'⟩ (fun r =>
          r.2.mem (((0 : Dev nD).tc : Thread nD τ).loc main_v8) = v0
          ∧ r.2.mem (((0 : Dev nD).tc : Thread nD τ).loc main_arg0) = m' (((0 : Dev nD).tc : Thread nD τ).loc main_arg0)) := by
  refine ⟨out (m' (((0 : Dev nD).tc : Thread nD τ).loc main_arg0)), ?_, ?_⟩
  · refine (θ_run _ _ _).mono (fun r h c => ⟨?_, (h.1 c).2⟩) (run_main m g)
    exact (h.1 c).1.trans (value m _ _ _ hX c)
  · exact (θ_run _ _ _).mono (fun r h => h 0) (Cert.SwapRefIdeal.Value.run (F := F) m' g')

end Blocks

end Cert.Talk.Swap

end
-- ==== Proof.Talk.Parts.lean ====
/-
# A buffer in parts

A result written part by part: a part written by a transfer holds the final contents once the transfer's payload is what
the final contents hold there, a buffer held whole is held part by part, and which positions a part has.
-/
module

public import proofs.«01_k».proof.Proof.Talk.Kit
public import proofs.«01_k».proof.Proof.Talk.Index
public import Idealize.ShloMosaic.Lib.Ring

@[expose] public section

set_option Elab.async false

noncomputable section

namespace Cert.Talk

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

section Held
variable {nD : Nat} {τ : Topo} {sig : RefSig} {Val : EltTy → Type}

local notation "𝕄" => MT nD τ sig Unit Val ℕ (URounds (GSem nD τ sig) Unit) ℕ

/-- A part after a transfer into it, when the payload is what `G` holds there. -/
theorem pts_written (c : Thread nD τ) {sp : Space} {s : Shape} {e : EltTy} (v : View sig c.2.kind sp s e) (q : PosShare TreeShare)
    (f G : Buf Val (v.loc c)) (w : s.Idx → Val e) (h : v.read Val G = w) :
    ((v.loc c ↦[v.set]{q} v.write Val f w Finset.univ) : sProp 𝕄) = iprop(v.loc c ↦[v.set]{q} G) := by
  refine pointsTo_congr fun i hi => ?_
  obtain ⟨x, -, rfl⟩ := Finset.mem_map.mp hi
  rw [View.write_emb_of_mem _ _ (Finset.mem_univ x), ← h, View.read_apply, cast_cast, cast_eq]

/-- A buffer held whole, as its parts in a list's order. -/
theorem pts_parts {B : Type} [Fintype B] [DecidableEq B] (ℓ : Loc nD τ sig) (I : B → Finset (Idx ℓ))
    (hd : ∀ b b', b ≠ b' → Disjoint (I b) (I b')) (hc : ∀ i, ∃ b, i ∈ I b) (q : PosShare TreeShare) (f : Buf Val ℓ)
    (l : List B) (hn : l.Nodup) (ha : ∀ b, b ∈ l) :
    ((ℓ ↦{q} f) : sProp 𝕄) = sepL (fun b => iprop(ℓ ↦[I b]{q} f)) l := by
  rw [← bigSep_all _ l hn ha]
  refine Ring.pointsTo_blocks I hd ?_ f
  ext i
  simp only [Finset.mem_biUnion, Finset.mem_univ, true_and, iff_true]
  exact hc i

/-- Some disjoint parts carved out of a buffer held whole. -/
theorem pts_carve {B : Type} [Fintype B] [DecidableEq B] (ℓ : Loc nD τ sig) (I : B → Finset (Idx ℓ))
    (hd : ∀ b b', b ≠ b' → Disjoint (I b) (I b')) (q : PosShare TreeShare) (f : Buf Val ℓ)
    (l : List B) (hn : l.Nodup) (ha : ∀ b, b ∈ l) :
    ((ℓ ↦{q} f) : sProp 𝕄) ⊣⊢ iprop(sepL (fun b => iprop(ℓ ↦[I b]{q} f)) l ∗ ℓ ↦[Finset.univ \ Finset.univ.biUnion I]{q} f) := by
  rw [← bigSep_all _ l hn ha, ← Ring.pointsTo_sub_blocks I hd (Finset.univ.biUnion I) rfl f]
  exact pointsTo_split_subset (Finset.subset_univ _)

/-- A buffer held whole, as two half shares of it. -/
theorem pts_halves (ℓ : Loc nD τ sig) (I : Finset (Idx ℓ)) (q : PosShare TreeShare) (f : Buf Val ℓ) :
    ((ℓ ↦[I]{q} f) : sProp 𝕄) ⊣⊢ iprop((ℓ ↦[I]{q.left} f) ∗ ℓ ↦[I]{q.right} f) :=
  pointsTo_share (PosShare.mem_left_op_right q)

end Held

/-! ## Positions of a part -/

theorem mem_two {a b a' : ℕ} (off : Fin 2 → ℕ) (inb : ∀ x, off x + (![a', b] : Fin 2 → ℕ) x ≤ (![a, b] : Fin 2 → ℕ) x) (o : ℕ) (h0 : off 0 = o) (h1 : off 1 = 0)
    (i : (⟨2, ![a, b]⟩ : Shape).Idx) :
    i ∈ (Rect.unit (s := ⟨2, ![a, b]⟩) off ![a', b] inb).set ↔ o ≤ (i 0).val ∧ (i 0).val < o + a' := by
  subst h0
  rw [Rect.mem_set_unit]
  refine ⟨fun h => h 0, fun h x => ?_⟩
  match x with
  | ⟨0, _⟩ => exact h
  | ⟨1, _⟩ => exact ⟨(le_of_eq h1).trans (Nat.zero_le _), lt_of_lt_of_le (i 1).isLt (by rw [show off ⟨1, by decide⟩ = 0 from h1]; exact (Nat.zero_add _).ge)⟩

theorem mem_three {n a b a' : ℕ} (off : Fin 3 → ℕ) (inb : ∀ x, off x + (![1, a', b] : Fin 3 → ℕ) x ≤ (![n, a, b] : Fin 3 → ℕ) x) (o p : ℕ) (h0 : off 0 = o) (h1 : off 1 = p) (h2 : off 2 = 0)
    (i : (⟨3, ![n, a, b]⟩ : Shape).Idx) :
    i ∈ (Rect.unit (s := ⟨3, ![n, a, b]⟩) off ![1, a', b] inb).set ↔ (i 0).val = o ∧ p ≤ (i 1).val ∧ (i 1).val < p + a' := by
  subst h0 h1
  rw [Rect.mem_set_unit]
  refine ⟨fun h => ⟨?_, h 1⟩, fun h x => ?_⟩
  · have h0 : off 0 ≤ (i 0).val ∧ (i 0).val < off 0 + 1 := h 0
    omega
  · match x with
    | ⟨0, _⟩ => exact ⟨h.1.ge, lt_of_le_of_lt h.1.le (Nat.lt_succ_self _)⟩
    | ⟨1, _⟩ => exact h.2
    | ⟨2, _⟩ => exact ⟨(le_of_eq h2).trans (Nat.zero_le _), lt_of_lt_of_le (i 2).isLt (by rw [show off ⟨2, by decide⟩ = 0 from h2]; exact (Nat.zero_add _).ge)⟩

/-- A position of a matrix, in the array of one such matrix. -/
theorem squeezed {a b : ℕ} (h : (⟨2, ![a, b]⟩ : Shape).numel = (⟨3, ![1, a, b]⟩ : Shape).numel) (i : Fin a) (j : Fin b) :
    Shape.reshapeEquiv h (ix2 i j) = ix3 0 i j := by
  refine Shape.reshapeEquiv_eq_of_rowMajor h ?_
  rw [Shape.rowMajor_val_three, Shape.rowMajor_val_two]
  show ((0 : ℕ) * a + i.val) * b + j.val = i.val * b + j.val
  rw [Nat.zero_mul, Nat.zero_add]

end Cert.Talk

end
-- ==== Proof.Talk.Exchange.lean ====
/-
# The exchange between the chips

Device `c` sends the block of its operand that each of the three other chips reduces to the device of that chip with its own
core index, into the slab of the result that names the axis between them. Six semaphores per device: `0`, `1`, `2` hand the
sent blocks back, `3`, `4`, `5` hand over the slabs the three others wrote.
-/
module

public import proofs.«01_k».proof.Proof.Talk.Parts
public import proofs.«01_k».proof.Proof.Gen.ExchangeIdeal
public import proofs.«01_k».proof.Proof.Gen.ExchangeIdeal.Skeleton
public import proofs.«01_k».proof.Proof.Gen.ExchangeIdeal.Launch
public import proofs.«01_k».proof.Proof.Gen.ExchangeIdeal.Points

@[expose] public section

set_option Elab.async false

noncomputable section

namespace Cert.Talk.Exchange

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ExchangeIdeal Cert.ExchangeIdeal.Gen

variable {F : FTy → Type} [FloatOps F]

local notation "𝕄" => MT nD τ sig Unit (Elt F) ℕ (URounds (GSem nD τ sig) Unit) ℕ

/-- A device's chip. -/
def chip (c : Dev nD) : Fin 4 := ⟨c.val / 2, by have h : c.val < 8 := c.isLt; omega⟩

/-- The device of the same core index on the chip across the first axis, across the second, across both. -/
def peer : Fin 3 → Dev nD → Dev nD
  | 0, c => ⟨k0_dev1 c, k0_dev1_lt c⟩
  | 1, c => ⟨k0_dev2 c, k0_dev2_lt c⟩
  | 2, c => ⟨k0_dev3 c, k0_dev3_lt c⟩
theorem peer_peer (j : Fin 3) (c : Dev nD) : peer j (peer j c) = c := by revert j c; decide
def across (j : Fin 3) : Dev nD ≃ Dev nD := ⟨peer j, peer j, peer_peer j, peer_peer j⟩

/-- The three blocks a device sends. -/
abbrev src0 (c : Dev nD) : Memref sig .tc .hbm S6160x1024 .f32 :=
  ((Memref.whole main_arg0).slice (Rect.unit (s := S4x6160x1024) (k0_off1 c) S1x6160x1024.size (k0_off1_inb c)) (fun _ => rfl)).squeeze S6160x1024 squeezes_S1x6160x1024_S6160x1024
abbrev src1 (c : Dev nD) : Memref sig .tc .hbm S6160x1024 .f32 :=
  ((Memref.whole main_arg0).slice (Rect.unit (s := S4x6160x1024) (k0_off2 c) S1x6160x1024.size (k0_off2_inb c)) (fun _ => rfl)).squeeze S6160x1024 squeezes_S1x6160x1024_S6160x1024
abbrev src2 (c : Dev nD) : Memref sig .tc .hbm S6160x1024 .f32 :=
  ((Memref.whole main_arg0).slice (Rect.unit (s := S4x6160x1024) (k0_off3 c) S1x6160x1024.size (k0_off3_inb c)) (fun _ => rfl)).squeeze S6160x1024 squeezes_S1x6160x1024_S6160x1024
/-- The three slabs of a result. -/
abbrev slab0 : Memref sig .tc .hbm S6160x1024 .f32 :=
  ((Memref.whole main_v1).slice (Rect.unit (s := S3x6160x1024) ![0, 0, 0] S1x6160x1024.size inb_S3x6160x1024_S1x6160x1024_0_0_0) (fun _ => rfl)).squeeze S6160x1024 squeezes_S1x6160x1024_S6160x1024
abbrev slab1 : Memref sig .tc .hbm S6160x1024 .f32 :=
  ((Memref.whole main_v1).slice (Rect.unit (s := S3x6160x1024) ![1, 0, 0] S1x6160x1024.size inb_S3x6160x1024_S1x6160x1024_1_0_0) (fun _ => rfl)).squeeze S6160x1024 squeezes_S1x6160x1024_S6160x1024
abbrev slab2 : Memref sig .tc .hbm S6160x1024 .f32 :=
  ((Memref.whole main_v1).slice (Rect.unit (s := S3x6160x1024) ![2, 0, 0] S1x6160x1024.size inb_S3x6160x1024_S1x6160x1024_2_0_0) (fun _ => rfl)).squeeze S6160x1024 squeezes_S1x6160x1024_S6160x1024

abbrev arg (c : Dev nD) : Loc nD τ sig := (c.tc : Thread nD τ).loc main_arg0
abbrev res (c : Dev nD) : Loc nD τ sig := (c.tc : Thread nD τ).loc main_v1

def srcs (c : Dev nD) : Fin 3 → Finset S4x6160x1024.Idx
  | 0 => (src0 c).view.set
  | 1 => (src1 c).view.set
  | 2 => (src2 c).view.set
def slabs : Fin 3 → Finset S3x6160x1024.Idx
  | 0 => slab0.view.set
  | 1 => slab1.view.set
  | 2 => slab2.view.set

theorem mem_block (n : ℕ) (b : Ref sig .tc) (off : Fin 3 → ℕ) (inb : ∀ x, off x + (![1, 6160, 1024] : Fin 3 → ℕ) x ≤ (![n, 6160, 1024] : Fin 3 → ℕ) x)
    (o : ℕ) (h0 : off 0 = o) (h1 : off 1 = 0) (h2 : off 2 = 0) (i : (⟨3, ![n, 6160, 1024]⟩ : Shape).Idx) :
    i ∈ (Rect.unit (s := ⟨3, ![n, 6160, 1024]⟩) off ![1, 6160, 1024] inb).set ↔ (i 0).val = o := by
  refine (mem_three (a := 6160) (b := 1024) (a' := 6160) off inb o 0 h0 h1 h2 i).trans ⟨fun h => h.1, fun h => ⟨h, Nat.zero_le _, ?_⟩⟩
  rw [Nat.zero_add]; exact (i 1).isLt

theorem mem_srcs (c : Dev nD) (j : Fin 3) (i : S4x6160x1024.Idx) : i ∈ srcs c j ↔ (i 0).val = (chip (peer j c)).val := by
  match j with
  | 0 =>
    refine (Eq.to_iff (congrArg (i ∈ ·) ((View.set_reshape _ _).trans (View.set_slice_whole main_arg0 (Rect.unit (s := S4x6160x1024) (k0_off1 c) S1x6160x1024.size (k0_off1_inb c)))))).trans ?_
    exact mem_block 4 main_arg0 (k0_off1 c) (k0_off1_inb c) _ (by revert c; decide) (by rw [k0_off1_eq]; rfl) (by rw [k0_off1_eq]; rfl) i
  | 1 =>
    refine (Eq.to_iff (congrArg (i ∈ ·) ((View.set_reshape _ _).trans (View.set_slice_whole main_arg0 (Rect.unit (s := S4x6160x1024) (k0_off2 c) S1x6160x1024.size (k0_off2_inb c)))))).trans ?_
    exact mem_block 4 main_arg0 (k0_off2 c) (k0_off2_inb c) _ (by revert c; decide) (by rw [k0_off2_eq]; rfl) (by rw [k0_off2_eq]; rfl) i
  | 2 =>
    refine (Eq.to_iff (congrArg (i ∈ ·) ((View.set_reshape _ _).trans (View.set_slice_whole main_arg0 (Rect.unit (s := S4x6160x1024) (k0_off3 c) S1x6160x1024.size (k0_off3_inb c)))))).trans ?_
    exact mem_block 4 main_arg0 (k0_off3 c) (k0_off3_inb c) _ (by revert c; decide) (by rw [k0_off3_eq]; rfl) (by rw [k0_off3_eq]; rfl) i

theorem mem_slabs (j : Fin 3) (i : S3x6160x1024.Idx) : i ∈ slabs j ↔ (i 0).val = j.val := by
  match j with
  | 0 =>
    refine (Eq.to_iff (congrArg (i ∈ ·) ((View.set_reshape _ _).trans (View.set_slice_whole main_v1 (Rect.unit (s := S3x6160x1024) ![0, 0, 0] S1x6160x1024.size inb_S3x6160x1024_S1x6160x1024_0_0_0))))).trans ?_
    exact mem_block 3 main_v1 ![0, 0, 0] inb_S3x6160x1024_S1x6160x1024_0_0_0 _ rfl rfl rfl i
  | 1 =>
    refine (Eq.to_iff (congrArg (i ∈ ·) ((View.set_reshape _ _).trans (View.set_slice_whole main_v1 (Rect.unit (s := S3x6160x1024) ![1, 0, 0] S1x6160x1024.size inb_S3x6160x1024_S1x6160x1024_1_0_0))))).trans ?_
    exact mem_block 3 main_v1 ![1, 0, 0] inb_S3x6160x1024_S1x6160x1024_1_0_0 _ rfl rfl rfl i
  | 2 =>
    refine (Eq.to_iff (congrArg (i ∈ ·) ((View.set_reshape _ _).trans (View.set_slice_whole main_v1 (Rect.unit (s := S3x6160x1024) ![2, 0, 0] S1x6160x1024.size inb_S3x6160x1024_S1x6160x1024_2_0_0))))).trans ?_
    exact mem_block 3 main_v1 ![2, 0, 0] inb_S3x6160x1024_S1x6160x1024_2_0_0 _ rfl rfl rfl i

theorem srcs_apart (c : Dev nD) (j k : Fin 3) (h : j ≠ k) : Disjoint (srcs c j) (srcs c k) := by
  refine Finset.disjoint_left.mpr fun i hj hk => ?_
  rw [mem_srcs] at hj hk
  exact (by decide : ∀ (c : Dev nD) (j k : Fin 3), j ≠ k → (chip (peer j c)).val ≠ (chip (peer k c)).val) c j k h (hj.symm.trans hk)
theorem slabs_apart (j k : Fin 3) (h : j ≠ k) : Disjoint (slabs j) (slabs k) := by
  refine Finset.disjoint_left.mpr fun i hj hk => ?_
  rw [mem_slabs] at hj hk
  exact h (Fin.ext (hj.symm.trans hk))
theorem slabs_all (i : S3x6160x1024.Idx) : ∃ j, i ∈ slabs j := ⟨(i 0 : Fin 3), (mem_slabs _ i).mpr rfl⟩

variable (m : (ℓ : Loc nD τ sig) → Buf (Elt F) ℓ) (ρ : Dev nD → PrngReg)

/-- What a device ends with: from each of its three peers the block meant for its own chip. -/
def got (c : Dev nD) : Buf (Elt F) (res c) := fun i : S3x6160x1024.Idx =>
  m (arg (peer (i 0) c)) (ix3 (chip c) (i 1 : Fin 6160) (i 2 : Fin 1024))

theorem read_got0 (c : Dev nD) : slab0.view.read (Elt F) (got m (peer 0 c)) = (src0 c).view.read (Elt F) (m (arg c)) := by
  funext x
  obtain ⟨r, l, rfl⟩ : ∃ (r : Fin 6160) (l : Fin 1024), x = ix2 r l := ⟨x 0, x 1, eq_ix2 x⟩
  have hd : slab0.view.emb (ix2 r l) = ix3 (0 : Fin 3) r l :=
    (congrArg (Rect.unit (s := S3x6160x1024) ![0, 0, 0] S1x6160x1024.size inb_S3x6160x1024_S1x6160x1024_0_0_0).emb (squeezed _ r l)).trans
      (emb_three (a := 3) (b := 6160) (c := 1024) ![0, 0, 0] inb_S3x6160x1024_S1x6160x1024_0_0_0 (0 : Fin 1) r l _ r l rfl (Nat.zero_add _).symm (Nat.zero_add _).symm)
  have hs : (src0 c).view.emb (ix2 r l) = ix3 (chip (peer 0 c)) r l :=
    (congrArg (Rect.unit (s := S4x6160x1024) (k0_off1 c) S1x6160x1024.size (k0_off1_inb c)).emb (squeezed _ r l)).trans
      (emb_three (a := 4) (b := 6160) (c := 1024) (k0_off1 c) (k0_off1_inb c) (0 : Fin 1) r l _ r l (by revert c; decide)
        (by rw [k0_off1_eq]; exact (Nat.zero_add _).symm) (by rw [k0_off1_eq]; exact (Nat.zero_add _).symm))
  refine (congrArg (got m (peer 0 c)) hd).trans (Eq.trans ?_ (congrArg (m (arg c)) hs).symm)
  exact congrArg (fun d => m (arg d) (ix3 (chip (peer 0 c)) r l)) (peer_peer 0 c)

theorem read_got1 (c : Dev nD) : slab1.view.read (Elt F) (got m (peer 1 c)) = (src1 c).view.read (Elt F) (m (arg c)) := by
  funext x
  obtain ⟨r, l, rfl⟩ : ∃ (r : Fin 6160) (l : Fin 1024), x = ix2 r l := ⟨x 0, x 1, eq_ix2 x⟩
  have hd : slab1.view.emb (ix2 r l) = ix3 (1 : Fin 3) r l :=
    (congrArg (Rect.unit (s := S3x6160x1024) ![1, 0, 0] S1x6160x1024.size inb_S3x6160x1024_S1x6160x1024_1_0_0).emb (squeezed _ r l)).trans
      (emb_three (a := 3) (b := 6160) (c := 1024) ![1, 0, 0] inb_S3x6160x1024_S1x6160x1024_1_0_0 (0 : Fin 1) r l _ r l rfl (Nat.zero_add _).symm (Nat.zero_add _).symm)
  have hs : (src1 c).view.emb (ix2 r l) = ix3 (chip (peer 1 c)) r l :=
    (congrArg (Rect.unit (s := S4x6160x1024) (k0_off2 c) S1x6160x1024.size (k0_off2_inb c)).emb (squeezed _ r l)).trans
      (emb_three (a := 4) (b := 6160) (c := 1024) (k0_off2 c) (k0_off2_inb c) (0 : Fin 1) r l _ r l (by revert c; decide)
        (by rw [k0_off2_eq]; exact (Nat.zero_add _).symm) (by rw [k0_off2_eq]; exact (Nat.zero_add _).symm))
  refine (congrArg (got m (peer 1 c)) hd).trans (Eq.trans ?_ (congrArg (m (arg c)) hs).symm)
  exact congrArg (fun d => m (arg d) (ix3 (chip (peer 1 c)) r l)) (peer_peer 1 c)

theorem read_got2 (c : Dev nD) : slab2.view.read (Elt F) (got m (peer 2 c)) = (src2 c).view.read (Elt F) (m (arg c)) := by
  funext x
  obtain ⟨r, l, rfl⟩ : ∃ (r : Fin 6160) (l : Fin 1024), x = ix2 r l := ⟨x 0, x 1, eq_ix2 x⟩
  have hd : slab2.view.emb (ix2 r l) = ix3 (2 : Fin 3) r l :=
    (congrArg (Rect.unit (s := S3x6160x1024) ![2, 0, 0] S1x6160x1024.size inb_S3x6160x1024_S1x6160x1024_2_0_0).emb (squeezed _ r l)).trans
      (emb_three (a := 3) (b := 6160) (c := 1024) ![2, 0, 0] inb_S3x6160x1024_S1x6160x1024_2_0_0 (0 : Fin 1) r l _ r l rfl (Nat.zero_add _).symm (Nat.zero_add _).symm)
  have hs : (src2 c).view.emb (ix2 r l) = ix3 (chip (peer 2 c)) r l :=
    (congrArg (Rect.unit (s := S4x6160x1024) (k0_off3 c) S1x6160x1024.size (k0_off3_inb c)).emb (squeezed _ r l)).trans
      (emb_three (a := 4) (b := 6160) (c := 1024) (k0_off3 c) (k0_off3_inb c) (0 : Fin 1) r l _ r l (by revert c; decide)
        (by rw [k0_off3_eq]; exact (Nat.zero_add _).symm) (by rw [k0_off3_eq]; exact (Nat.zero_add _).symm))
  refine (congrArg (got m (peer 2 c)) hd).trans (Eq.trans ?_ (congrArg (m (arg c)) hs).symm)
  exact congrArg (fun d => m (arg d) (ix3 (chip (peer 2 c)) r l)) (peer_peer 2 c)

def sems : Fin 6 → SemLoc sig
  | 0 => .dma ((cc0_scratch0.slice (Rect.unit (s := S3) ![0] S1.size inb_S3_S1_0)).squeeze S_ squeezes_S1_S_).sem
  | 1 => .dma ((cc0_scratch0.slice (Rect.unit (s := S3) ![1] S1.size inb_S3_S1_1)).squeeze S_ squeezes_S1_S_).sem
  | 2 => .dma ((cc0_scratch0.slice (Rect.unit (s := S3) ![2] S1.size inb_S3_S1_2)).squeeze S_ squeezes_S1_S_).sem
  | 3 => .dma ((cc0_scratch1.slice (Rect.unit (s := S3) ![0] S1.size inb_S3_S1_0)).squeeze S_ squeezes_S1_S_).sem
  | 4 => .dma ((cc0_scratch1.slice (Rect.unit (s := S3) ![1] S1.size inb_S3_S1_1)).squeeze S_ squeezes_S1_S_).sem
  | 5 => .dma ((cc0_scratch1.slice (Rect.unit (s := S3) ![2] S1.size inb_S3_S1_2)).squeeze S_ squeezes_S1_S_).sem

/-- The protocol. -/
def proto : Proto nD τ sig (Elt F) (Fin 6) where
  osem := sems
  inj := by decide
  amt _ := slab0.view.dmaCredit
  pos _ := View.dmaCredit_pos _ (by decide)
  pay c k := match k with
    | 0 => iprop(arg c ↦[srcs c 0]{fullShare} m (arg c))
    | 1 => iprop(arg c ↦[srcs c 1]{fullShare} m (arg c))
    | 2 => iprop(arg c ↦[srcs c 2]{fullShare} m (arg c))
    | 3 => iprop(res c ↦[slabs 0]{fullShare} got m c)
    | 4 => iprop(res c ↦[slabs 1]{fullShare} got m c)
    | 5 => iprop(res c ↦[slabs 2]{fullShare} got m c)
  stor c k := by
    match k with
    | 0 => exact (inferInstance : Storable (upEmb : UEmb _ 𝕄) iprop(arg c ↦[srcs c 0]{fullShare} m (arg c)))
    | 1 => exact (inferInstance : Storable (upEmb : UEmb _ 𝕄) iprop(arg c ↦[srcs c 1]{fullShare} m (arg c)))
    | 2 => exact (inferInstance : Storable (upEmb : UEmb _ 𝕄) iprop(arg c ↦[srcs c 2]{fullShare} m (arg c)))
    | 3 => exact (inferInstance : Storable (upEmb : UEmb _ 𝕄) iprop(res c ↦[slabs 0]{fullShare} got m c))
    | 4 => exact (inferInstance : Storable (upEmb : UEmb _ 𝕄) iprop(res c ↦[slabs 1]{fullShare} got m c))
    | 5 => exact (inferInstance : Storable (upEmb : UEmb _ 𝕄) iprop(res c ↦[slabs 2]{fullShare} got m c))
  dst k := match k with
    | 0 => Equiv.refl _
    | 1 => Equiv.refl _
    | 2 => Equiv.refl _
    | 3 => across 0
    | 4 => across 1
    | 5 => across 2
  rank _ := 0

/-- What a device is dealt: its operand, and the slab of each peer's result that it writes. -/
def before (c : Dev nD) : sProp 𝕄 := iprop((arg c ↦{fullShare} m (arg c)) ∗ (res (peer 0 c) ↦[slabs 0]{fullShare} m (res (peer 0 c)))
  ∗ (res (peer 1 c) ↦[slabs 1]{fullShare} m (res (peer 1 c))) ∗ (res (peer 2 c) ↦[slabs 2]{fullShare} m (res (peer 2 c))))
def after (c : Dev nD) : sProp 𝕄 := iprop((arg c ↦{fullShare} m (arg c)) ∗ (res c ↦{fullShare} got m c))

/-- A result as its three slabs. -/
theorem parts (c : Dev nD) (f : Buf (Elt F) (res c)) : (res c ↦{fullShare} f : sProp 𝕄)
    = iprop((res c ↦[slabs 0]{fullShare} f) ∗ (res c ↦[slabs 1]{fullShare} f) ∗ (res c ↦[slabs 2]{fullShare} f) ∗ emp) :=
  pts_parts (res c) slabs slabs_apart slabs_all fullShare f [0, 1, 2] (by decide) (by decide)

/-- The operand as the three blocks to send and the rest. -/
theorem carve (c : Dev nD) : (arg c ↦{fullShare} m (arg c) : sProp 𝕄)
    ⊣⊢ iprop(((arg c ↦[srcs c 0]{fullShare} m (arg c)) ∗ (arg c ↦[srcs c 1]{fullShare} m (arg c)) ∗ (arg c ↦[srcs c 2]{fullShare} m (arg c)) ∗ emp)
      ∗ arg c ↦[Finset.univ \ Finset.univ.biUnion (srcs c)]{fullShare} m (arg c)) :=
  pts_carve (arg c) (srcs c) (srcs_apart c) fullShare (m (arg c)) [0, 1, 2] (by decide) (by decide)

theorem bufs : bigSep Finset.univ (fun c : Dev nD => (unscopedBufs c (fun b => m ((c.tc : Thread nD τ).loc b)) : sProp 𝕄))
    ⊢ bigSep Finset.univ (before m) := by
  have h : ∀ c : Dev nD, (unscopedBufs c (fun b => m ((c.tc : Thread nD τ).loc b)) : sProp 𝕄)
      ⊢ iprop((arg c ↦{fullShare} m (arg c)) ∗ (res c ↦[slabs 0]{fullShare} m (res c)) ∗ (res c ↦[slabs 1]{fullShare} m (res c)) ∗ (res c ↦[slabs 2]{fullShare} m (res c))) := fun c => by
    refine (bufs_two main_arg0 main_v1 (by decide) (by decide) c _).trans (BIClass.sep_mono (BI.Entails.refl _) ((Entails.of_eq (parts c _)).trans ?_))
    iintro ⟨H0, H1, H2, -⟩
    isplitl [H0]; · iexact H0
    isplitl [H1]; · iexact H1
    iexact H2
  refine (bigSep_mono fun c _ => h c).trans ?_
  unfold before
  rw [bigSep_sep', bigSep_sep', bigSep_sep', bigSep_sep', bigSep_sep', bigSep_sep',
    bigSep_univ_equiv (across 0) (fun c : Dev nD => iprop(res c ↦[slabs 0]{fullShare} m (res c))),
    bigSep_univ_equiv (across 1) (fun c : Dev nD => iprop(res c ↦[slabs 1]{fullShare} m (res c))),
    bigSep_univ_equiv (across 2) (fun c : Dev nD => iprop(res c ↦[slabs 2]{fullShare} m (res c)))]
  exact BI.Entails.refl _

theorem landed0 (c : Dev nD) :
    (slab0.view.loc ((peer 0 c).tc : Thread nD τ) ↦[slab0.view.set]{fullShare}
        slab0.view.write (Elt F) (m (res (peer 0 c))) ((src0 c).view.read (Elt F) (m (arg c))) Finset.univ : sProp 𝕄)
      ⊢ (proto m).pay (peer 0 c) 3 :=
  Entails.of_eq (pts_written ((peer 0 c).tc : Thread nD τ) slab0.view fullShare (m (res (peer 0 c))) (got m (peer 0 c)) _ (read_got0 m c))
theorem landed1 (c : Dev nD) :
    (slab1.view.loc ((peer 1 c).tc : Thread nD τ) ↦[slab1.view.set]{fullShare}
        slab1.view.write (Elt F) (m (res (peer 1 c))) ((src1 c).view.read (Elt F) (m (arg c))) Finset.univ : sProp 𝕄)
      ⊢ (proto m).pay (peer 1 c) 4 :=
  Entails.of_eq (pts_written ((peer 1 c).tc : Thread nD τ) slab1.view fullShare (m (res (peer 1 c))) (got m (peer 1 c)) _ (read_got1 m c))
theorem landed2 (c : Dev nD) :
    (slab2.view.loc ((peer 2 c).tc : Thread nD τ) ↦[slab2.view.set]{fullShare}
        slab2.view.write (Elt F) (m (res (peer 2 c))) ((src2 c).view.read (Elt F) (m (arg c))) Finset.univ : sProp 𝕄)
      ⊢ (proto m).pay (peer 2 c) 5 :=
  Entails.of_eq (pts_written ((peer 2 c).tc : Thread nD τ) slab2.view fullShare (m (res (peer 2 c))) (got m (peer 2 c)) _ (read_got2 m c))
theorem pay0 (c : Dev nD) : (proto m).pay c 0 ⊢ iprop(arg c ↦[srcs c 0]{fullShare} m (arg c)) := BI.Entails.refl _
theorem pay1 (c : Dev nD) : (proto m).pay c 1 ⊢ iprop(arg c ↦[srcs c 1]{fullShare} m (arg c)) := BI.Entails.refl _
theorem pay2 (c : Dev nD) : (proto m).pay c 2 ⊢ iprop(arg c ↦[srcs c 2]{fullShare} m (arg c)) := BI.Entails.refl _
theorem pay3 (c : Dev nD) : (proto m).pay c 3 ⊢ iprop(res c ↦[slabs 0]{fullShare} got m c) := BI.Entails.refl _
theorem pay4 (c : Dev nD) : (proto m).pay c 4 ⊢ iprop(res c ↦[slabs 1]{fullShare} got m c) := BI.Entails.refl _
theorem pay5 (c : Dev nD) : (proto m).pay c 5 ⊢ iprop(res c ↦[slabs 2]{fullShare} got m c) := BI.Entails.refl _

set_option maxHeartbeats 1600000 in
theorem body (c : Dev nD) (κ : GSem nD τ sig → ℕ) :
    iprop((proto m).know κ ∗ sepL ((proto m).tok c) [0, 1, 2, 3, 4, 5] ∗ sepL ((proto m).pos₀ c) [0, 1, 2, 3, 4, 5] ∗ sepL ((proto m).due c) [3, 4, 5] ∗ before m c ∗ (proto m).owing c [3, 4, 5])
      ⊢ wp frame (wpE (defs₀ (F := F)) Variants.none (c.tc : Thread nD τ) none) Set.univ
          (cc0_rs_xchg (Memref.whole main_arg0) (Memref.isWhole_whole _) (Memref.whole main_v1) (Memref.isWhole_whole _) cc0_scratch0 cc0_scratch1) fun _ =>
          iprop(after m c ∗ sepL ((proto m).pos₁ c) [0, 1, 2, 3, 4, 5] ∗ (proto m).owing c []) := by
  simp only [cc0_rs_xchg_eq_skeleton]; unfold cc0_rs_xchg_skel
  simp only [k0_part1_eq_skeleton, k0_part2_eq_skeleton, k0_part3_eq_skeleton]; unfold k0_part1_skel k0_part2_skel k0_part3_skel
  simp only [Prog.lift, Prog.bind_op, Prog.bind_ret, Prog.pure_eq_ret, wp_deviceId]
  unfold before after
  simp only [sepL]
  iintro ⟨#Hk, ⟨Ht0, Ht1, Ht2, Ht3, Ht4, Ht5, -⟩, ⟨Hp0, Hp1, Hp2, Hp3, Hp4, Hp5, -⟩, ⟨Hd3, Hd4, Hd5, -⟩, ⟨Ha, Hr0, Hr1, Hr2⟩, Ho⟩
  ihave Ha' := (carve m c).1 $$ Ha
  icases Ha' with ⟨⟨Ha0, Ha1, Ha2, -⟩, Hrest⟩
  iapply (send (proto m) c ⟨k0_dev1 c, k0_dev1_lt c⟩ 0 3 rfl rfl (src := src0 c) (dst := slab0) rfl rfl rfl rfl
    (.rfl : iprop(arg c ↦[srcs c 0]{fullShare} m (arg c)) ⊢ _) (landed0 m c) κ [4, 5]) $$ [Ha0 Hr0 Ho Ht0 Ht3]
  · isplitr; · iexact Hk
    isplitl [Ha0]; · iexact Ha0
    isplitl [Hr0]; · iexact Hr0
    isplitl [Ho]; · iexact Ho
    isplitl [Ht0]; · iexact Ht0
    iexact Ht3
  iintro ⟨Hd0, Ho⟩
  iapply (send (proto m) c ⟨k0_dev2 c, k0_dev2_lt c⟩ 1 4 rfl rfl (src := src1 c) (dst := slab1) rfl rfl rfl rfl
    (.rfl : iprop(arg c ↦[srcs c 1]{fullShare} m (arg c)) ⊢ _) (landed1 m c) κ [5]) $$ [Ha1 Hr1 Ho Ht1 Ht4]
  · isplitr; · iexact Hk
    isplitl [Ha1]; · iexact Ha1
    isplitl [Hr1]; · iexact Hr1
    isplitl [Ho]; · iexact Ho
    isplitl [Ht1]; · iexact Ht1
    iexact Ht4
  iintro ⟨Hd1, Ho⟩
  iapply (send (proto m) c ⟨k0_dev3 c, k0_dev3_lt c⟩ 2 5 rfl rfl (src := src2 c) (dst := slab2) rfl rfl rfl rfl
    (.rfl : iprop(arg c ↦[srcs c 2]{fullShare} m (arg c)) ⊢ _) (landed2 m c) κ []) $$ [Ha2 Hr2 Ho Ht2 Ht5]
  · isplitr; · iexact Hk
    isplitl [Ha2]; · iexact Ha2
    isplitl [Hr2]; · iexact Hr2
    isplitl [Ho]; · iexact Ho
    isplitl [Ht2]; · iexact Ht2
    iexact Ht5
  iintro ⟨Hd2, Ho⟩
  iapply (await (proto m) c 0 rfl rfl κ [] (by simp)) $$ [Hd0 Ho Hp0]
  · isplitr; · iexact Hk
    isplitl [Hd0]; · iexact Hd0
    isplitl [Ho]; · iexact Ho
    iexact Hp0
  iintro ⟨Ho, Hp0, Ha0⟩
  ihave Ha0 := (pay0 m c) $$ Ha0
  iapply (await (proto m) c 3 rfl rfl κ [] (by simp)) $$ [Hd3 Ho Hp3]
  · isplitr; · iexact Hk
    isplitl [Hd3]; · iexact Hd3
    isplitl [Ho]; · iexact Ho
    iexact Hp3
  iintro ⟨Ho, Hp3, Hr0⟩
  ihave Hr0 := (pay3 m c) $$ Hr0
  iapply (await (proto m) c 1 rfl rfl κ [] (by simp)) $$ [Hd1 Ho Hp1]
  · isplitr; · iexact Hk
    isplitl [Hd1]; · iexact Hd1
    isplitl [Ho]; · iexact Ho
    iexact Hp1
  iintro ⟨Ho, Hp1, Ha1⟩
  ihave Ha1 := (pay1 m c) $$ Ha1
  iapply (await (proto m) c 4 rfl rfl κ [] (by simp)) $$ [Hd4 Ho Hp4]
  · isplitr; · iexact Hk
    isplitl [Hd4]; · iexact Hd4
    isplitl [Ho]; · iexact Ho
    iexact Hp4
  iintro ⟨Ho, Hp4, Hr1⟩
  ihave Hr1 := (pay4 m c) $$ Hr1
  iapply (await (proto m) c 2 rfl rfl κ [] (by simp)) $$ [Hd2 Ho Hp2]
  · isplitr; · iexact Hk
    isplitl [Hd2]; · iexact Hd2
    isplitl [Ho]; · iexact Ho
    iexact Hp2
  iintro ⟨Ho, Hp2, Ha2⟩
  ihave Ha2 := (pay2 m c) $$ Ha2
  iapply (await (proto m) c 5 rfl rfl κ [] (by simp)) $$ [Hd5 Ho Hp5]
  · isplitr; · iexact Hk
    isplitl [Hd5]; · iexact Hd5
    isplitl [Ho]; · iexact Ho
    iexact Hp5
  iintro ⟨Ho, Hp5, Hr2⟩
  ihave Hr2 := (pay5 m c) $$ Hr2
  ihave Ha := (carve m c).2 $$ [Ha0 Ha1 Ha2 Hrest]
  · isplitr [Hrest]
    · isplitl [Ha0]; · iexact Ha0
      isplitl [Ha1]; · iexact Ha1
      isplitl [Ha2]; · iexact Ha2
      iempintro
    iexact Hrest
  ihave Hr := (Entails.of_eq (parts c (got m c)).symm) $$ [Hr0 Hr1 Hr2]
  · isplitl [Hr0]; · iexact Hr0
    isplitl [Hr1]; · iexact Hr1
    isplitl [Hr2]; · iexact Hr2
    iempintro
  rw [wp_ret]
  imodintro
  isplitl [Ha Hr]
  · isplitl [Ha]; · iexact Ha
    iexact Hr
  isplitl [Hp0 Hp1 Hp2 Hp3 Hp4 Hp5]
  · isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    iempintro
  iexact Ho

theorem ownSems : Pipeline.OwnSemFacts cfg0.spec sems := by decide

/-- Every device ends with its three peers' blocks in its result, its operand as it was, and every semaphore at zero. -/
theorem run_main : θ_run (defs (F := F)) (onTc (τ := τ) main) ⟨m, fun _ => 0, ρ⟩
    fun r => (∀ c : Dev nD, r.2.mem (res c) = got m c ∧ r.2.mem (arg c) = m (arg c)) ∧ r.2.sem = fun _ => 0 :=
  run (proto m) cfgs cellOf_inj ownSems rfl N_0 winFacts0.to₀ (fun c => scopedRest0_eq c) defs₀ m ρ main (fun c => (main_chain c).trans rfl)
    [0, 1, 2, 3, 4, 5] [3, 4, 5] (by decide) (by decide) (before m) (after m) (bufs m) (fun c t κ => body m c κ)
    (fun c s => s.mem (res c) = got m c ∧ s.mem (arg c) = m (arg c)) (fun c s' => read_two (arg c) (res c) _ _ s') (by decide)

end Cert.Talk.Exchange

end
-- ==== Proof.Talk.ExchangeValue.lean ====
/-
# What the exchange between the chips computes

The reference's result, element by element, and that a device's block of it is what its three peers send it.
-/
module

public import proofs.«01_k».proof.Proof.Talk.Exchange
public import proofs.«01_k».proof.Proof.Gen.ExchangeRefIdeal
public import proofs.«01_k».proof.Proof.Gen.ExchangeRefIdeal.Run

@[expose] public section

set_option Elab.async false

noncomputable section

namespace Cert.Talk.Exchange

open Idealize.ShloMosaic Idealize.ShloMosaic.ValueIdx
open Idealize.ShloMosaic.TcCoe
open Idealize.SL.Sem
open Cert.ExchangeRefIdeal Cert.ExchangeRefIdeal.Gen

section Reference
variable {α : Type} (X : S32x6160x1024.Idx → α)

/-- The blocks cut by sending chip, core and receiving chip. -/
def cut : S4x2x4x6160x1024.Idx → α := shapeCast _ X shapeCasts_S32x6160x1024_S4x2x4x6160x1024
/-- What the two cores of chip `o` send chip `q`. -/
def sent (o q : ℕ) (h : S4x2x4x6160x1024.Slices ![o, 0, q, 0, 0] S1x2x1x6160x1024) : S2x1x6160x1024.Idx → α :=
  broadcastInDim S2x1x6160x1024 ![0, 2, 3] bcast_S2x6160x1024_S2x1x6160x1024_0_2_3
    (shapeCast _ (extractStridedSlice S1x2x1x6160x1024 ![o, 0, q, 0, 0] (cut X) h) shapeCasts_S1x2x1x6160x1024_S2x6160x1024)
/-- A chip's three senders, side by side. -/
def three (u : Fin 3 → S2x1x6160x1024.Idx → α) : S2x3x6160x1024.Idx → α :=
  concatenate S2x3x6160x1024 1 [⟨S2x1x6160x1024, u 0⟩, ⟨S2x1x6160x1024, u 1⟩, ⟨S2x1x6160x1024, u 2⟩]
    concatenates_S2x1x6160x1024_S2x1x6160x1024_S2x1x6160x1024_S2x3x6160x1024_d1
/-- The four chips' results, in order. -/
def four (v : Fin 4 → S2x3x6160x1024.Idx → α) : S4x2x3x6160x1024.Idx → α :=
  concatenate S4x2x3x6160x1024 0 [⟨S1x2x3x6160x1024, broadcastInDim S1x2x3x6160x1024 ![1, 2, 3, 4] bcast_S2x3x6160x1024_S1x2x3x6160x1024_1_2_3_4 (v 0)⟩, ⟨S1x2x3x6160x1024, broadcastInDim S1x2x3x6160x1024 ![1, 2, 3, 4] bcast_S2x3x6160x1024_S1x2x3x6160x1024_1_2_3_4 (v 1)⟩, ⟨S1x2x3x6160x1024, broadcastInDim S1x2x3x6160x1024 ![1, 2, 3, 4] bcast_S2x3x6160x1024_S1x2x3x6160x1024_1_2_3_4 (v 2)⟩, ⟨S1x2x3x6160x1024, broadcastInDim S1x2x3x6160x1024 ![1, 2, 3, 4] bcast_S2x3x6160x1024_S1x2x3x6160x1024_1_2_3_4 (v 3)⟩]
    concatenates_S1x2x3x6160x1024_S1x2x3x6160x1024_S1x2x3x6160x1024_S1x2x3x6160x1024_S4x2x3x6160x1024_d0
/-- Who sends chip `q` its block `j`. -/
def sends : Fin 4 → Fin 3 → S2x1x6160x1024.Idx → α
  | 0, 0 => sent X 2 0 slices_S4x2x4x6160x1024_S1x2x1x6160x1024_2_0_0_0_0
  | 0, 1 => sent X 1 0 slices_S4x2x4x6160x1024_S1x2x1x6160x1024_1_0_0_0_0
  | 0, 2 => sent X 3 0 slices_S4x2x4x6160x1024_S1x2x1x6160x1024_3_0_0_0_0
  | 1, 0 => sent X 3 1 slices_S4x2x4x6160x1024_S1x2x1x6160x1024_3_0_1_0_0
  | 1, 1 => sent X 0 1 slices_S4x2x4x6160x1024_S1x2x1x6160x1024_0_0_1_0_0
  | 1, 2 => sent X 2 1 slices_S4x2x4x6160x1024_S1x2x1x6160x1024_2_0_1_0_0
  | 2, 0 => sent X 0 2 slices_S4x2x4x6160x1024_S1x2x1x6160x1024_0_0_2_0_0
  | 2, 1 => sent X 3 2 slices_S4x2x4x6160x1024_S1x2x1x6160x1024_3_0_2_0_0
  | 2, 2 => sent X 1 2 slices_S4x2x4x6160x1024_S1x2x1x6160x1024_1_0_2_0_0
  | 3, 0 => sent X 1 3 slices_S4x2x4x6160x1024_S1x2x1x6160x1024_1_0_3_0_0
  | 3, 1 => sent X 2 3 slices_S4x2x4x6160x1024_S1x2x1x6160x1024_2_0_3_0_0
  | 3, 2 => sent X 0 3 slices_S4x2x4x6160x1024_S1x2x1x6160x1024_0_0_3_0_0

/-- The reference's result. -/
def out : S24x6160x1024.Idx → α := shapeCast _ (four fun q => three (sends X q)) shapeCasts_S4x2x3x6160x1024_S24x6160x1024

theorem cut_apply (o : Fin 4) (k : Fin 2) (q : Fin 4) (r : Fin 6160) (l : Fin 1024) (w : Fin 32) (hw : w.val = (o.val * 2 + k.val) * 4 + q.val) :
    cut X (ix5 o k q r l) = X (ix3 w r l) := by
  refine shapeCast_apply X _ _ _ ?_
  rw [Shape.rowMajor_val_three, Shape.rowMajor_val_five]
  show (w.val * 6160 + r.val) * 1024 + l.val = ((((o.val * 2 + k.val) * 4 + q.val) * 6160 + r.val) * 1024) + l.val
  rw [hw]

theorem sent_apply (o q : Fin 4) (h : S4x2x4x6160x1024.Slices ![o.val, 0, q.val, 0, 0] S1x2x1x6160x1024) (k : Fin 2) (r : Fin 6160) (l : Fin 1024)
    (w : Fin 32) (hw : w.val = (o.val * 2 + k.val) * 4 + q.val) : sent X o.val q.val h (ix4 k 0 r l) = X (ix3 w r l) := by
  refine (broadcastInDim_apply _ _ _ _ (ix3 k r l) fun a => ?_).trans ((shapeCast_apply _ _ _ (ix5 0 k 0 r l) ?_).trans
    ((extractStridedSlice_apply _ _ _ _ (ix5 o k q r l) fun a => ?_).trans (cut_apply X o k q r l w hw)))
  · match a with
    | ⟨0, _⟩ => exact (if_neg (show ¬ (2 : ℕ) = 1 by decide)).symm
    | ⟨1, _⟩ => exact (if_neg (show ¬ (6160 : ℕ) = 1 by decide)).symm
    | ⟨2, _⟩ => exact (if_neg (show ¬ (1024 : ℕ) = 1 by decide)).symm
  · rw [Shape.rowMajor_val_three, Shape.rowMajor_val_five]
    show ((((0 * 2 + k.val) * 1 + 0) * 6160 + r.val) * 1024) + l.val = (k.val * 6160 + r.val) * 1024 + l.val
    rw [Nat.zero_mul, Nat.zero_add, Nat.mul_one, Nat.add_zero]
  · match a with
    | ⟨0, _⟩ => rfl
    | ⟨1, _⟩ => exact (Nat.zero_add _).symm
    | ⟨2, _⟩ => rfl
    | ⟨3, _⟩ => exact (Nat.zero_add _).symm
    | ⟨4, _⟩ => exact (Nat.zero_add _).symm

theorem three_apply (u : Fin 3 → S2x1x6160x1024.Idx → α) (k : Fin 2) (j : Fin 3) (r : Fin 6160) (l : Fin 1024) :
    three u (ix4 k j r l) = u j (ix4 k 0 r l) := by
  refine concatenate_ofFn_unit_apply (s₁ := S2x1x6160x1024) (t := S2x3x6160x1024) 1 u
    concatenates_S2x1x6160x1024_S2x1x6160x1024_S2x1x6160x1024_S2x3x6160x1024_d1 rfl rfl (ix4 k j r l) j rfl (ix4 k 0 r l) fun b hb => ?_
  match b with
  | ⟨0, _⟩ => rfl
  | ⟨1, _⟩ => exact absurd rfl hb
  | ⟨2, _⟩ => rfl
  | ⟨3, _⟩ => rfl

theorem widened (v : S2x3x6160x1024.Idx → α) (k : Fin 2) (j : Fin 3) (r : Fin 6160) (l : Fin 1024) :
    broadcastInDim S1x2x3x6160x1024 ![1, 2, 3, 4] bcast_S2x3x6160x1024_S1x2x3x6160x1024_1_2_3_4 v (ix5 0 k j r l) = v (ix4 k j r l) := by
  refine broadcastInDim_apply _ _ _ _ _ fun a => ?_
  match a with
  | ⟨0, _⟩ => exact (if_neg (show ¬ (2 : ℕ) = 1 by decide)).symm
  | ⟨1, _⟩ => exact (if_neg (show ¬ (3 : ℕ) = 1 by decide)).symm
  | ⟨2, _⟩ => exact (if_neg (show ¬ (6160 : ℕ) = 1 by decide)).symm
  | ⟨3, _⟩ => exact (if_neg (show ¬ (1024 : ℕ) = 1 by decide)).symm

theorem four_apply (v : Fin 4 → S2x3x6160x1024.Idx → α) (q : Fin 4) (k : Fin 2) (j : Fin 3) (r : Fin 6160) (l : Fin 1024) :
    four v (ix5 q k j r l) = v q (ix4 k j r l) := by
  refine (concatenate_ofFn_unit_apply (s₁ := S1x2x3x6160x1024) (t := S4x2x3x6160x1024) 0
    (fun q => broadcastInDim S1x2x3x6160x1024 ![1, 2, 3, 4] bcast_S2x3x6160x1024_S1x2x3x6160x1024_1_2_3_4 (v q))
    concatenates_S1x2x3x6160x1024_S1x2x3x6160x1024_S1x2x3x6160x1024_S1x2x3x6160x1024_S4x2x3x6160x1024_d0 rfl rfl (ix5 q k j r l) q rfl (ix5 0 k j r l) fun b hb => ?_).trans
    (widened (v q) k j r l)
  match b with
  | ⟨0, _⟩ => exact absurd rfl hb
  | ⟨1, _⟩ => rfl
  | ⟨2, _⟩ => rfl
  | ⟨3, _⟩ => rfl
  | ⟨4, _⟩ => rfl

/-- The chip that sends chip `q` its block `j`. -/
def sender : Fin 4 → Fin 3 → Fin 4
  | 0, 0 => 2
  | 0, 1 => 1
  | 0, 2 => 3
  | 1, 0 => 3
  | 1, 1 => 0
  | 1, 2 => 2
  | 2, 0 => 0
  | 2, 1 => 3
  | 2, 2 => 1
  | 3, 0 => 1
  | 3, 1 => 2
  | 3, 2 => 0

theorem sends_apply (q : Fin 4) (j : Fin 3) (k : Fin 2) (r : Fin 6160) (l : Fin 1024) (w : Fin 32) (hw : w.val = ((sender q j).val * 2 + k.val) * 4 + q.val) :
    sends X q j (ix4 k 0 r l) = X (ix3 w r l) := by
  match q, j, hw with
  | 0, 0, hw => exact sent_apply X 2 0 slices_S4x2x4x6160x1024_S1x2x1x6160x1024_2_0_0_0_0 k r l w hw
  | 0, 1, hw => exact sent_apply X 1 0 slices_S4x2x4x6160x1024_S1x2x1x6160x1024_1_0_0_0_0 k r l w hw
  | 0, 2, hw => exact sent_apply X 3 0 slices_S4x2x4x6160x1024_S1x2x1x6160x1024_3_0_0_0_0 k r l w hw
  | 1, 0, hw => exact sent_apply X 3 1 slices_S4x2x4x6160x1024_S1x2x1x6160x1024_3_0_1_0_0 k r l w hw
  | 1, 1, hw => exact sent_apply X 0 1 slices_S4x2x4x6160x1024_S1x2x1x6160x1024_0_0_1_0_0 k r l w hw
  | 1, 2, hw => exact sent_apply X 2 1 slices_S4x2x4x6160x1024_S1x2x1x6160x1024_2_0_1_0_0 k r l w hw
  | 2, 0, hw => exact sent_apply X 0 2 slices_S4x2x4x6160x1024_S1x2x1x6160x1024_0_0_2_0_0 k r l w hw
  | 2, 1, hw => exact sent_apply X 3 2 slices_S4x2x4x6160x1024_S1x2x1x6160x1024_3_0_2_0_0 k r l w hw
  | 2, 2, hw => exact sent_apply X 1 2 slices_S4x2x4x6160x1024_S1x2x1x6160x1024_1_0_2_0_0 k r l w hw
  | 3, 0, hw => exact sent_apply X 1 3 slices_S4x2x4x6160x1024_S1x2x1x6160x1024_1_0_3_0_0 k r l w hw
  | 3, 1, hw => exact sent_apply X 2 3 slices_S4x2x4x6160x1024_S1x2x1x6160x1024_2_0_3_0_0 k r l w hw
  | 3, 2, hw => exact sent_apply X 0 3 slices_S4x2x4x6160x1024_S1x2x1x6160x1024_0_0_3_0_0 k r l w hw

/-- The reference's result at block `j` of core `k` of chip `q`. -/
theorem out_apply (q : Fin 4) (k : Fin 2) (j : Fin 3) (r : Fin 6160) (l : Fin 1024) (z : Fin 24) (hz : z.val = (q.val * 2 + k.val) * 3 + j.val)
    (w : Fin 32) (hw : w.val = ((sender q j).val * 2 + k.val) * 4 + q.val) :
    out X (ix3 z r l) = X (ix3 w r l) := by
  refine (shapeCast_apply _ _ _ (ix5 q k j r l) ?_).trans ((four_apply _ q k j r l).trans ((three_apply _ k j r l).trans (sends_apply X q j k r l w hw)))
  rw [Shape.rowMajor_val_three, Shape.rowMajor_val_five]
  show ((((q.val * 2 + k.val) * 3 + j.val) * 6160 + r.val) * 1024) + l.val = (z.val * 6160 + r.val) * 1024 + l.val
  rw [hz]

end Reference

section Blocks
open Cert.ExchangeIdeal (S4x6160x1024 S3x6160x1024)
variable {F : FTy → Type} [FloatOps F]

/-- **A device's block of the reference's result is what it ends with**, the devices' operands being their blocks of the
    reference's. -/
theorem value (m : (ℓ : Loc Cert.ExchangeIdeal.nD Cert.ExchangeIdeal.τ Cert.ExchangeIdeal.sig) → Buf (Elt F) ℓ)
    (X : S32x6160x1024.Idx → Elt F .f32) (h8 : Layout.Tiles S4x6160x1024 S32x6160x1024 0 8) (h8' : Layout.Tiles S3x6160x1024 S24x6160x1024 0 8)
    (hX : ∀ c : Fin 8, m (arg c) = Layout.block S4x6160x1024 S32x6160x1024 0 8 c X h8) (c : Fin 8) :
    got m c = Layout.block S3x6160x1024 S24x6160x1024 0 8 c (out X) h8' := by
  funext i
  obtain ⟨j, r, l, rfl⟩ : ∃ (j : Fin 3) (r : Fin 6160) (l : Fin 1024), i = ix3 j r l := ⟨i 0, i 1, i 2, eq_ix3 i⟩
  have hj : c.val * 3 + j.val < 24 := by omega
  have hp : (peer j c).val * 4 + (chip c).val < 32 := by
    have h : (peer j c).val < 8 := (peer j c).isLt
    omega
  refine Eq.trans ?_ (block_at_three (n := 8) (a := 3) (A := 24) (b := 6160) (c := 1024) (out X) h8' c j r l hj).symm
  refine Eq.trans ?_ (out_apply X (chip c) ⟨c.val % 2, Nat.mod_lt _ (by decide)⟩ j r l ⟨c.val * 3 + j.val, hj⟩ ?_ ⟨(peer j c).val * 4 + (chip c).val, hp⟩ ?_).symm
  · have h := block_at_three (n := 8) (a := 4) (A := 32) (b := 6160) (c := 1024) X h8 (peer j c) (chip c) r l hp
    exact (congrFun (hX (peer j c)) (ix3 (chip c) r l)).trans h
  · exact (by decide : ∀ (c : Fin 8) (j : Fin 3), c.val * 3 + j.val = ((chip c).val * 2 + c.val % 2) * 3 + j.val) c j
  · exact (by decide : ∀ (c : Fin 8) (j : Fin 3), (peer j c).val * 4 + (chip c).val = ((sender (chip c) j).val * 2 + c.val % 2) * 4 + (chip c).val) c j

/-- Both programs run, and the devices' results are their blocks of the reference's, over any floats. -/
theorem agree (m : (ℓ : Loc Cert.ExchangeIdeal.nD Cert.ExchangeIdeal.τ Cert.ExchangeIdeal.sig) → Buf (Elt F) ℓ) (g : Dev Cert.ExchangeIdeal.nD → PrngReg)
    (m' : (ℓ : Loc nD τ sig) → Buf (Elt F) ℓ) (g' : Dev nD → PrngReg)
    (hX : ∀ c : Fin 8, m (arg c) = Layout.block S4x6160x1024 S32x6160x1024 0 8 c (m' (((0 : Dev nD).tc : Thread nD τ).loc main_arg0))) :
    ∃ v0 : Buf (Elt F) (((0 : Dev nD).tc : Thread nD τ).loc main_v46),
      θ_run (Cert.ExchangeIdeal.defs (F := F)) (onTc (τ := Cert.ExchangeIdeal.τ) (Cert.ExchangeIdeal.main (F := F))) ⟨m, fun _ => 0, g⟩ (fun r => ∀ c : Fin 8,
          r.2.mem (res c) = Layout.block S3x6160x1024 S24x6160x1024 0 8 c v0 ∧ r.2.mem (arg c) = m (arg c))
      ∧ θ_run (defs (F := F)) (onTc (τ := τ) (main (F := F))) ⟨m', fun _ => 0, g'⟩ (fun r =>
          r.2.mem (((0 : Dev nD).tc : Thread nD τ).loc main_v46) = v0
          ∧ r.2.mem (((0 : Dev nD).tc : Thread nD τ).loc main_arg0) = m' (((0 : Dev nD).tc : Thread nD τ).loc main_arg0)) := by
  refine ⟨out (m' (((0 : Dev nD).tc : Thread nD τ).loc main_arg0)), ?_, ?_⟩
  · refine (θ_run _ _ _).mono (fun r h c => ⟨?_, (h.1 c).2⟩) (run_main m g)
    exact (h.1 c).1.trans (value m _ _ _ hX c)
  · exact (θ_run _ _ _).mono (fun r h => h 0) (Cert.ExchangeRefIdeal.Value.run (F := F) m' g')

end Blocks

end Cert.Talk.Exchange

end
-- ==== Proof.Talk.Join.lean ====
/-
# The joining of a chip's two halves

Device `c` copies its operand into its own half of its result and sends it to the same half of its sibling's. Three
semaphores per device: `0` hands back the share of the operand the transfer read, `1` hands over the half the sibling
wrote, `2` the half the device's own copy wrote and the share that copy read.
-/
module

public import proofs.«01_k».proof.Proof.Talk.Parts
public import proofs.«01_k».proof.Proof.Gen.JoinIdeal
public import proofs.«01_k».proof.Proof.Gen.JoinIdeal.Skeleton
public import proofs.«01_k».proof.Proof.Gen.JoinIdeal.Launch
public import proofs.«01_k».proof.Proof.Gen.JoinIdeal.Points

@[expose] public section

set_option Elab.async false

noncomputable section

namespace Cert.Talk.Join

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.JoinIdeal Cert.JoinIdeal.Gen

variable {F : FTy → Type} [FloatOps F]

local notation "𝕄" => MT nD τ sig Unit (Elt F) ℕ (URounds (GSem nD τ sig) Unit) ℕ

/-- The other core of the chip. -/
def peer (c : Dev nD) : Dev nD := ⟨k0_dev1 c, k0_dev1_lt c⟩
theorem peer_peer (c : Dev nD) : peer (peer c) = c := by revert c; decide
def swap : Dev nD ≃ Dev nD := ⟨peer, peer, peer_peer, peer_peer⟩
theorem peer_val (c : Dev nD) : (peer c).val = c.val / 2 * 2 + (1 - c.val % 2) := by revert c; decide

/-- The half of the result a device fills, and the half its sibling fills. -/
abbrev mine (c : Dev nD) : Memref sig .tc .hbm S6160x1024 .f32 :=
  (Memref.whole main_v1).slice (Rect.unit (s := S12320x1024) (k0_off1 c) S6160x1024.size (k0_off1_inb c)) (fun _ => rfl)
abbrev other (c : Dev nD) : Memref sig .tc .hbm S6160x1024 .f32 :=
  (Memref.whole main_v1).slice (Rect.unit (s := S12320x1024) (k0_off2 c) S6160x1024.size (k0_off2_inb c)) (fun _ => rfl)

abbrev arg (c : Dev nD) : Loc nD τ sig := (c.tc : Thread nD τ).loc main_arg0
abbrev res (c : Dev nD) : Loc nD τ sig := (c.tc : Thread nD τ).loc main_v1

theorem mem_mine (c : Dev nD) (i : S12320x1024.Idx) : i ∈ (mine c).view.set ↔ 6160 * (c.val % 2) ≤ (i 0).val ∧ (i 0).val < 6160 * (c.val % 2) + 6160 := by
  have h := mem_two (a := 12320) (b := 1024) (a' := 6160) (k0_off1 c) (k0_off1_inb c) (6160 * (c.val % 2)) (by rw [k0_off1_eq]; rfl) (by rw [k0_off1_eq]; rfl) i
  exact Eq.to_iff (congrArg (i ∈ ·) (View.set_slice_whole main_v1 (Rect.unit (s := S12320x1024) (k0_off1 c) S6160x1024.size (k0_off1_inb c)))) |>.trans h

theorem mem_other (c : Dev nD) (i : S12320x1024.Idx) : i ∈ (other c).view.set ↔ 6160 - 6160 * (c.val % 2) ≤ (i 0).val ∧ (i 0).val < 6160 - 6160 * (c.val % 2) + 6160 := by
  have h := mem_two (a := 12320) (b := 1024) (a' := 6160) (k0_off2 c) (k0_off2_inb c) (6160 - 6160 * (c.val % 2)) (by rw [k0_off2_eq]; rfl) (by rw [k0_off2_eq]; rfl) i
  exact Eq.to_iff (congrArg (i ∈ ·) (View.set_slice_whole main_v1 (Rect.unit (s := S12320x1024) (k0_off2 c) S6160x1024.size (k0_off2_inb c)))) |>.trans h

theorem other_peer (c : Dev nD) : (other (peer c)).view.set = (mine c).view.set := by
  ext i
  rw [mem_mine, mem_other, peer_val]
  constructor <;> (intro h; omega)

theorem apart (c : Dev nD) : Disjoint (mine c).view.set (other c).view.set := by
  refine Finset.disjoint_left.mpr fun i h h' => ?_
  rw [mem_mine] at h; rw [mem_other] at h'; omega

theorem filled (c : Dev nD) (i : S12320x1024.Idx) : i ∈ (mine c).view.set ∨ i ∈ (other c).view.set := by
  rw [mem_mine, mem_other]
  have : (i 0).val < 12320 := (i 0).isLt
  omega

variable (m : (ℓ : Loc nD τ sig) → Buf (Elt F) ℓ) (ρ : Dev nD → PrngReg)

/-- The device whose operand fills row `r` of the results of `c`'s chip. -/
def owner (c : Dev nD) (r : Fin 12320) : Dev nD := ⟨c.val / 2 * 2 + r.val / 6160, by have h : c.val < 8 := c.isLt; show _ < 8; omega⟩

/-- What a device ends with: its chip's first core's operand, then the second's. -/
def got (c : Dev nD) : Buf (Elt F) (res c) := fun i : S12320x1024.Idx =>
  m (arg (owner c (i 0))) (ix2 (⟨(i 0).val % 6160, Nat.mod_lt _ (by decide)⟩ : Fin 6160) (i 1 : Fin 1024))

/-- What the two devices of a chip end with, in the half device `c` fills, is `c`'s operand. -/
theorem read_got (c d : Dev nD) (h : d.val / 2 = c.val / 2) :
    (mine c).view.read (Elt F) (got m d) = (Memref.whole main_arg0).view.read (Elt F) (m (arg c)) := by
  refine Eq.trans (funext fun x => ?_) (View.read_whole main_arg0 (m (arg c))).symm
  obtain ⟨r, l, rfl⟩ : ∃ (r : Fin 6160) (l : Fin 1024), x = ix2 r l := ⟨x 0, x 1, eq_ix2 x⟩
  have hr : 6160 * (c.val % 2) + r.val < 12320 := by omega
  have he := emb_two (a := 12320) (b := 1024) (k0_off1 c) (k0_off1_inb c) r l ⟨6160 * (c.val % 2) + r.val, hr⟩ l
    (by rw [k0_off1_eq]; rfl) (by rw [k0_off1_eq]; exact (Nat.zero_add _).symm)
  refine (congrArg (got m d) he).trans ?_
  have ho : owner d ⟨6160 * (c.val % 2) + r.val, hr⟩ = c := Fin.ext (by show d.val / 2 * 2 + (6160 * (c.val % 2) + r.val) / 6160 = c.val; omega)
  have hq : (⟨(6160 * (c.val % 2) + r.val) % 6160, Nat.mod_lt _ (by decide)⟩ : Fin 6160) = r := Fin.ext (by show (6160 * (c.val % 2) + r.val) % 6160 = r.val; omega)
  have := congrArg₂ (fun (d : Dev nD) (q : Fin 6160) => m (arg d) (ix2 q l)) ho hq
  exact this

def sems : Fin 3 → SemLoc sig
  | 0 => .dma cc0_scratch0.sem
  | 1 => .dma cc0_scratch1.sem
  | 2 => .dma cc0_scratch2.sem

/-- The protocol. -/
def proto : Proto nD τ sig (Elt F) (Fin 3) where
  osem := sems
  inj := by decide
  amt _ := (Memref.whole main_arg0 : Memref sig .tc _ _ _).view.dmaCredit
  pos _ := View.dmaCredit_pos _ (by decide)
  pay c k := match k with
    | 0 => iprop(arg c ↦{fullShare.right} m (arg c))
    | 1 => iprop(res c ↦[(other c).view.set]{fullShare} got m c)
    | 2 => iprop((res c ↦[(mine c).view.set]{fullShare} got m c) ∗ (arg c ↦{fullShare.left} m (arg c)))
  stor c k := by
    match k with
    | 0 => exact (inferInstance : Storable (upEmb : UEmb _ 𝕄) iprop(arg c ↦{fullShare.right} m (arg c)))
    | 1 => exact (inferInstance : Storable (upEmb : UEmb _ 𝕄) iprop(res c ↦[(other c).view.set]{fullShare} got m c))
    | 2 => exact (inferInstance : Storable (upEmb : UEmb _ 𝕄) iprop((res c ↦[(mine c).view.set]{fullShare} got m c) ∗ (arg c ↦{fullShare.left} m (arg c))))
  dst k := match k with
    | 0 => Equiv.refl _
    | 1 => swap
    | 2 => Equiv.refl _
  rank _ := 0

theorem pay_sent (c : Dev nD) : (proto m).pay c 0 ⊢ iprop(arg c ↦{fullShare.right} m (arg c)) := BI.Entails.refl _
theorem pay_got (c : Dev nD) : (proto m).pay c 1 ⊢ iprop(res c ↦[(other c).view.set]{fullShare} got m c) := BI.Entails.refl _
theorem pay_own (c : Dev nD) : (proto m).pay c 2 ⊢ iprop((res c ↦[(mine c).view.set]{fullShare} got m c) ∗ (arg c ↦{fullShare.left} m (arg c))) := BI.Entails.refl _

/-- What a device is dealt: its operand, and its half of its own and of its sibling's result to write. -/
def before (c : Dev nD) : sProp 𝕄 := iprop((arg c ↦{fullShare} m (arg c)) ∗ (res c ↦[(mine c).view.set]{fullShare} m (res c))
  ∗ (res (peer c) ↦[(mine c).view.set]{fullShare} m (res (peer c))))
def after (c : Dev nD) : sProp 𝕄 := iprop((arg c ↦{fullShare} m (arg c)) ∗ (res c ↦{fullShare} got m c))

/-- A result as its two halves. -/
theorem halves (c : Dev nD) (f : Buf (Elt F) (res c)) : (res c ↦{fullShare} f : sProp 𝕄)
    = iprop((res c ↦[(mine c).view.set]{fullShare} f) ∗ (res c ↦[(other c).view.set]{fullShare} f)) := by
  have h : (mine c).view.set ∪ (other c).view.set = Finset.univ := by
    ext i; simp only [Finset.mem_union, Finset.mem_univ, iff_true]; exact filled c i
  have := pointsTo_union (ℓ := res c) (q := fullShare) (f := f) (apart c) (nD := nD) (τ := τ) (sig := sig) (Val := Elt F) (Ix := Unit) (Name := ℕ) (U := URounds (GSem nD τ sig) Unit) (Lvl := ℕ)
  rw [h] at this
  exact BI.Entails.antisymm this.1 this.2

theorem bufs : bigSep Finset.univ (fun c : Dev nD => (unscopedBufs c (fun b => m ((c.tc : Thread nD τ).loc b)) : sProp 𝕄))
    ⊢ bigSep Finset.univ (before m) := by
  have h : ∀ c : Dev nD, (unscopedBufs c (fun b => m ((c.tc : Thread nD τ).loc b)) : sProp 𝕄)
      ⊢ iprop((arg c ↦{fullShare} m (arg c)) ∗ (res c ↦[(mine c).view.set]{fullShare} m (res c)) ∗ (res c ↦[(other c).view.set]{fullShare} m (res c))) := fun c =>
    (bufs_two main_arg0 main_v1 (by decide) (by decide) c _).trans (BIClass.sep_mono (BI.Entails.refl _) (Entails.of_eq (halves c _)))
  refine (bigSep_mono fun c _ => h c).trans ?_
  have e : ∀ c : Dev nD, (iprop(res (peer c) ↦[(mine c).view.set]{fullShare} m (res (peer c))) : sProp 𝕄)
      = iprop(res (peer c) ↦[(other (peer c)).view.set]{fullShare} m (res (peer c))) := fun c => by rw [other_peer]
  unfold before
  simp only [e]
  rw [bigSep_sep', bigSep_sep', bigSep_sep', bigSep_sep', bigSep_univ_equiv swap (fun c : Dev nD => iprop(res c ↦[(other c).view.set]{fullShare} m (res c)))]
  exact BI.Entails.refl _

theorem landed (c : Dev nD) :
    ((mine c).view.loc ((peer c).tc : Thread nD τ) ↦[(mine c).view.set]{fullShare}
        (mine c).view.write (Elt F) (m (res (peer c))) ((Memref.whole main_arg0).view.read (Elt F) (m (arg c))) Finset.univ : sProp 𝕄)
      ⊢ (proto m).pay (peer c) 1 := by
  refine (Entails.of_eq (pts_written ((peer c).tc : Thread nD τ) (mine c).view fullShare (m (res (peer c))) (got m (peer c)) _
    (read_got m c (peer c) (by rw [peer_val]; omega)))).trans ?_
  exact Entails.of_eq (congrArg (fun I => (iprop(res (peer c) ↦[I]{fullShare} got m (peer c)) : sProp 𝕄)) (other_peer c).symm)

theorem copied (c : Dev nD) :
    iprop(((mine c).view.loc (c.tc : Thread nD τ) ↦[(mine c).view.set]{fullShare}
        (mine c).view.write (Elt F) (m (res c)) ((Memref.whole main_arg0).view.read (Elt F) (m (arg c))) Finset.univ)
      ∗ ((Memref.whole main_arg0).view.loc (c.tc : Thread nD τ) ↦[(Memref.whole main_arg0).view.set]{fullShare.left} m (arg c)))
      ⊢ (proto m).pay c 2 :=
  BIClass.sep_mono (Entails.of_eq (pts_written (c.tc : Thread nD τ) (mine c).view fullShare (m (res c)) (got m c) _ (read_got m c c rfl)))
    (Entails.of_eq (pts_whole (c.tc : Thread nD τ) main_arg0 fullShare.left (m (arg c))))

set_option maxHeartbeats 800000 in
theorem body (c : Dev nD) (κ : GSem nD τ sig → ℕ) :
    iprop((proto m).know κ ∗ sepL ((proto m).tok c) [0, 1, 2] ∗ sepL ((proto m).pos₀ c) [0, 1, 2] ∗ sepL ((proto m).due c) [1] ∗ before m c ∗ (proto m).owing c [1])
      ⊢ wp frame (wpE (defs₀ (F := F)) Variants.none (c.tc : Thread nD τ) none) Set.univ
          (cc0_rs_join (Memref.whole main_arg0) (Memref.isWhole_whole _) (Memref.whole main_v1) (Memref.isWhole_whole _) cc0_scratch0 cc0_scratch1 cc0_scratch2) fun _ =>
          iprop(after m c ∗ sepL ((proto m).pos₁ c) [0, 1, 2] ∗ (proto m).owing c []) := by
  simp only [cc0_rs_join_eq_skeleton, k0_part1_eq_skeleton]; unfold cc0_rs_join_skel; simp only [k0_part1_eq_skeleton]; unfold k0_part1_skel
  simp only [Prog.lift, Prog.bind_op, Prog.bind_ret, Prog.pure_eq_ret, wp_deviceId]
  unfold before after
  simp only [sepL]
  iintro ⟨#Hk, ⟨Ht0, Ht1, Ht2, -⟩, ⟨Hp0, Hp1, Hp2, -⟩, ⟨Hd1, -⟩, ⟨Ha, Hm, Hr⟩, Ho⟩
  ihave Ha' := (pts_halves (arg c) Finset.univ fullShare (m (arg c))).1 $$ Ha
  icases Ha' with ⟨Hl, Ha⟩
  iapply (copy (proto m) c 2 rfl (src := Memref.whole main_arg0) (dst := mine c) rfl rfl (copied m c) κ) $$ [Hl Hm Ht2]
  · isplitr; · iexact Hk
    isplitl [Hl]; · iapply (Entails.of_eq (pts_whole (c.tc : Thread nD τ) main_arg0 fullShare.left _).symm); iexact Hl
    isplitl [Hm]; · iexact Hm
    iexact Ht2
  iintro Hd2
  iapply (send (proto m) c ⟨k0_dev1 c, k0_dev1_lt c⟩ 0 1 rfl rfl (src := Memref.whole main_arg0) (dst := mine c) rfl rfl rfl rfl
    (Entails.of_eq (pts_whole (c.tc : Thread nD τ) main_arg0 fullShare.right (m (arg c)))) (landed m c) κ []) $$ [Ha Hr Ho Ht0 Ht1]
  · isplitr; · iexact Hk
    isplitl [Ha]; · iapply (Entails.of_eq (pts_whole (c.tc : Thread nD τ) main_arg0 fullShare.right _).symm); iexact Ha
    isplitl [Hr]; · iexact Hr
    isplitl [Ho]; · iexact Ho
    isplitl [Ht0]; · iexact Ht0
    iexact Ht1
  iintro ⟨Hd0, Ho⟩
  iapply (await (proto m) c 0 rfl rfl κ [] (by simp)) $$ [Hd0 Ho Hp0]
  · isplitr; · iexact Hk
    isplitl [Hd0]; · iexact Hd0
    isplitl [Ho]; · iexact Ho
    iexact Hp0
  iintro ⟨Ho, Hp0, Ha⟩
  iapply (await (proto m) c 1 rfl rfl κ [] (by simp)) $$ [Hd1 Ho Hp1]
  · isplitr; · iexact Hk
    isplitl [Hd1]; · iexact Hd1
    isplitl [Ho]; · iexact Ho
    iexact Hp1
  iintro ⟨Ho, Hp1, Hr⟩
  iapply (await (proto m) c 2 rfl rfl κ [] (by simp)) $$ [Hd2 Ho Hp2]
  · isplitr; · iexact Hk
    isplitl [Hd2]; · iexact Hd2
    isplitl [Ho]; · iexact Ho
    iexact Hp2
  iintro ⟨Ho, Hp2, Hm⟩
  ihave Ha := (pay_sent m c) $$ Ha
  ihave Hr := (pay_got m c) $$ Hr
  ihave Hm := (pay_own m c) $$ Hm
  icases Hm with ⟨Hm, Hl⟩
  ihave Ha := (pts_halves (arg c) Finset.univ fullShare (m (arg c))).2 $$ [Hl Ha]
  · isplitl [Hl]; · iexact Hl
    iexact Ha
  ihave Hr := (Entails.of_eq (halves c (got m c)).symm) $$ [Hm Hr]
  · isplitl [Hm]; · iexact Hm
    iexact Hr
  rw [wp_ret]
  imodintro
  isplitl [Ha Hr]
  · isplitl [Ha]; · iexact Ha
    iexact Hr
  isplitl [Hp0 Hp1 Hp2]
  · isplitl [Hp0]; · iexact Hp0
    isplitl [Hp1]; · iexact Hp1
    isplitl [Hp2]; · iexact Hp2
    iempintro
  iexact Ho

theorem ownSems : Pipeline.OwnSemFacts cfg0.spec sems := by decide

/-- Every device ends with both halves of its chip in its result, its operand as it was, and every semaphore at zero. -/
theorem run_main : θ_run (defs (F := F)) (onTc (τ := τ) main) ⟨m, fun _ => 0, ρ⟩
    fun r => (∀ c : Dev nD, r.2.mem (res c) = got m c ∧ r.2.mem (arg c) = m (arg c)) ∧ r.2.sem = fun _ => 0 :=
  run (proto m) cfgs cellOf_inj ownSems rfl N_0 winFacts0.to₀ (fun c => scopedRest0_eq c) defs₀ m ρ main (fun c => (main_chain c).trans rfl)
    [0, 1, 2] [1] (by decide) (by decide) (before m) (after m) (bufs m) (fun c t κ => body m c κ)
    (fun c s => s.mem (res c) = got m c ∧ s.mem (arg c) = m (arg c)) (fun c s' => read_two (arg c) (res c) _ _ s') (by decide)

end Cert.Talk.Join

end
-- ==== Proof.Talk.JoinValue.lean ====
/-
# What the joining of a chip's two halves computes

The reference's result, element by element, and that a chip's block of it is its first core's operand above its second's.
-/
module

public import proofs.«01_k».proof.Proof.Talk.Join
public import proofs.«01_k».proof.Proof.Gen.JoinRefIdeal
public import proofs.«01_k».proof.Proof.Gen.JoinRefIdeal.Run

@[expose] public section

set_option Elab.async false

noncomputable section

namespace Cert.Talk.Join

open Idealize.ShloMosaic Idealize.ShloMosaic.ValueIdx
open Idealize.ShloMosaic.TcCoe
open Idealize.SL.Sem
open Cert.JoinRefIdeal Cert.JoinRefIdeal.Gen

section Reference
variable {α : Type} (X : S49280x1024.Idx → α)

/-- The rows cut by chip and core. -/
def cut : S4x2x6160x1024.Idx → α := shapeCast _ X shapeCasts_S49280x1024_S4x2x6160x1024
/-- The first cores' rows. -/
def first : S4x6160x1024.Idx → α :=
  shapeCast _ (extractStridedSlice S4x1x6160x1024 ![0, 0, 0, 0] (cut X) slices_S4x2x6160x1024_S4x1x6160x1024_0_0_0_0) shapeCasts_S4x1x6160x1024_S4x6160x1024
/-- The second cores' rows. -/
def second : S4x6160x1024.Idx → α :=
  shapeCast _ (extractStridedSlice S4x1x6160x1024 ![0, 1, 0, 0] (cut X) slices_S4x2x6160x1024_S4x1x6160x1024_0_1_0_0) shapeCasts_S4x1x6160x1024_S4x6160x1024
/-- A chip's rows, the first core's above the second's. -/
def both : S4x12320x1024.Idx → α :=
  concatenate S4x12320x1024 1 [⟨S4x6160x1024, first X⟩, ⟨S4x6160x1024, second X⟩] concatenates_S4x6160x1024_S4x6160x1024_S4x12320x1024_d1
/-- The reference's result. -/
def out : S49280x1024.Idx → α := shapeCast _ (both X) shapeCasts_S4x12320x1024_S49280x1024

theorem cut_apply (p : Fin 4) (q : Fin 2) (r : Fin 6160) (l : Fin 1024) :
    cut X (ix4 p q r l) = X (ix2 ⟨(p.val * 2 + q.val) * 6160 + r.val, by omega⟩ l) := by
  refine shapeCast_apply X _ _ _ ?_
  rw [Shape.rowMajor_val_two, Shape.rowMajor_val_four]
  show ((p.val * 2 + q.val) * 6160 + r.val) * 1024 + l.val = ((p.val * 2 + q.val) * 6160 + r.val) * 1024 + l.val
  rfl

theorem first_apply (p : Fin 4) (r : Fin 6160) (l : Fin 1024) : first X (ix3 p r l) = cut X (ix4 p 0 r l) := by
  refine (shapeCast_apply _ _ _ (ix4 p 0 r l) ?_).trans (extractStridedSlice_apply _ _ _ _ _ ?_)
  · rw [Shape.rowMajor_val_three, Shape.rowMajor_val_four]
    show ((p.val * 1 + 0) * 6160 + r.val) * 1024 + l.val = (p.val * 6160 + r.val) * 1024 + l.val
    omega
  · intro a
    match a with
    | ⟨0, _⟩ => exact (Nat.zero_add _).symm
    | ⟨1, _⟩ => rfl
    | ⟨2, _⟩ => exact (Nat.zero_add _).symm
    | ⟨3, _⟩ => exact (Nat.zero_add _).symm

theorem second_apply (p : Fin 4) (r : Fin 6160) (l : Fin 1024) : second X (ix3 p r l) = cut X (ix4 p 1 r l) := by
  refine (shapeCast_apply _ _ _ (ix4 p 0 r l) ?_).trans (extractStridedSlice_apply _ _ _ _ _ ?_)
  · rw [Shape.rowMajor_val_three, Shape.rowMajor_val_four]
    show ((p.val * 1 + 0) * 6160 + r.val) * 1024 + l.val = (p.val * 6160 + r.val) * 1024 + l.val
    omega
  · intro a
    match a with
    | ⟨0, _⟩ => exact (Nat.zero_add _).symm
    | ⟨1, _⟩ => rfl
    | ⟨2, _⟩ => exact (Nat.zero_add _).symm
    | ⟨3, _⟩ => exact (Nat.zero_add _).symm

theorem both_first (p : Fin 4) (r : Fin 6160) (l : Fin 1024) (r' : Fin 12320) (hr : r.val = r'.val) :
    both X (ix3 p r' l) = X (ix2 ⟨p.val * 2 * 6160 + r.val, by omega⟩ l) := by
  have h := concatenate_pair_apply_left (s₁ := S4x6160x1024) (s₂ := S4x6160x1024) 1 (first X) (second X)
    concatenates_S4x6160x1024_S4x6160x1024_S4x12320x1024_d1 (ix3 p r' l) rfl (ix3 p r l) fun b => by
      match b with
      | ⟨0, _⟩ => rfl
      | ⟨1, _⟩ => exact hr
      | ⟨2, _⟩ => rfl
  exact h.trans ((first_apply X p r l).trans (cut_apply X p 0 r l))

theorem both_second (p : Fin 4) (r : Fin 6160) (l : Fin 1024) (r' : Fin 12320) (hr : r.val + 6160 = r'.val) :
    both X (ix3 p r' l) = X (ix2 ⟨(p.val * 2 + 1) * 6160 + r.val, by omega⟩ l) := by
  have h := concatenate_pair_apply_right (s₁ := S4x6160x1024) (s₂ := S4x6160x1024) 1 (first X) (second X)
    concatenates_S4x6160x1024_S4x6160x1024_S4x12320x1024_d1 (ix3 p r' l) rfl rfl (ix3 p r l) (fun b hb => by
      match b with
      | ⟨0, _⟩ => rfl
      | ⟨1, _⟩ => exact absurd rfl hb
      | ⟨2, _⟩ => rfl) hr
  exact h.trans ((second_apply X p r l).trans (cut_apply X p 1 r l))

theorem both_apply (p : Fin 4) (q : ℕ) (hq : q < 2) (r : Fin 6160) (l : Fin 1024) (r' : Fin 12320) (hr : r'.val = q * 6160 + r.val)
    (ho : (p.val * 2 + q) * 6160 + r.val < 49280) :
    both X (ix3 p r' l) = X (ix2 ⟨(p.val * 2 + q) * 6160 + r.val, ho⟩ l) := by
  rcases (show q = 0 ∨ q = 1 by omega) with h | h
  · subst h
    exact both_first X p r l r' (by omega)
  · subst h
    exact both_second X p r l r' (by omega)

/-- The reference's result at row `r` of the half that core `q` of chip `p` holds. -/
theorem out_apply (p : Fin 4) (q : ℕ) (hq : q < 2) (r : Fin 6160) (l : Fin 1024) (r' : Fin 12320) (hr : r'.val = q * 6160 + r.val)
    (hi : p.val * 12320 + r'.val < 49280) (ho : (p.val * 2 + q) * 6160 + r.val < 49280) :
    out X (ix2 ⟨p.val * 12320 + r'.val, hi⟩ l) = X (ix2 ⟨(p.val * 2 + q) * 6160 + r.val, ho⟩ l) := by
  refine (shapeCast_apply _ _ _ (ix3 p r' l) ?_).trans (both_apply X p q hq r l r' hr ho)
  rw [Shape.rowMajor_val_three, Shape.rowMajor_val_two]
  show (p.val * 12320 + r'.val) * 1024 + l.val = (p.val * 12320 + r'.val) * 1024 + l.val
  rfl

end Reference

section Blocks
open Cert.JoinIdeal (S6160x1024 S12320x1024)
variable {F : FTy → Type} [FloatOps F]

theorem within {a q s : ℕ} (ha : a < 4) (hq : q < 2) (hs : s < 6160) : (a * 2 + q) * 6160 + s < 49280 := by omega

/-- **A chip's block of the reference's result is what its devices end with**, the devices' operands being their blocks of
    the reference's. -/
theorem value (m : (ℓ : Loc Cert.JoinIdeal.nD Cert.JoinIdeal.τ Cert.JoinIdeal.sig) → Buf (Elt F) ℓ)
    (X : S49280x1024.Idx → Elt F .f32) (h8 : Layout.Tiles S6160x1024 S49280x1024 0 8)
    (h4 : Layout.TilesN ⟨2, ![12320, 1024]⟩ ⟨2, ![49280, 1024]⟩ fun x => Layout.cutSize [2, 2, 2] ((![[0, 1], []] : Fin 2 → List ℕ) x))
    (hX : ∀ c : Fin 8, m (arg c) = Layout.block S6160x1024 S49280x1024 0 8 c X h8) (c : Fin 8) :
    got m c = Layout.blockN ⟨2, ![12320, 1024]⟩ ⟨2, ![49280, 1024]⟩ (Layout.meshBlock [2, 2, 2] ![[0, 1], []] c) (out X) h4 := by
  funext i
  obtain ⟨r, l, rfl⟩ : ∃ (r : Fin 12320) (l : Fin 1024), i = ix2 r l := ⟨i 0, i 1, eq_ix2 i⟩
  have hc : c.val < 8 := c.isLt
  have hr : r.val < 12320 := r.isLt
  have hq : r.val % 6160 < 6160 := Nat.mod_lt _ (by decide)
  have hi : c.val / 2 * 12320 + r.val < 49280 := by omega
  refine Eq.trans ?_ (block_by_chip (a := 12320) (A := 49280) (b := 1024) (out X) c h4 r l hi).symm
  refine Eq.trans ?_ (out_apply X ⟨c.val / 2, by omega⟩ (r.val / 6160) (by omega) ⟨r.val % 6160, hq⟩ l r (by show r.val = r.val / 6160 * 6160 + r.val % 6160; omega) hi
    (within (by omega) (by omega) hq)).symm
  have ho : (owner c r).val * 6160 + r.val % 6160 < 49280 := within (by omega) (by omega) hq
  have h := block_at_two (n := 8) (a := 6160) (A := 49280) (b := 1024) X h8 (owner c r) ⟨r.val % 6160, hq⟩ l ho
  exact (congrFun (hX (owner c r)) (ix2 (⟨r.val % 6160, hq⟩ : Fin 6160) l)).trans h

/-- Both programs run, and the devices' results are their blocks of the reference's, over any floats. -/
theorem agree (m : (ℓ : Loc Cert.JoinIdeal.nD Cert.JoinIdeal.τ Cert.JoinIdeal.sig) → Buf (Elt F) ℓ) (g : Dev Cert.JoinIdeal.nD → PrngReg)
    (m' : (ℓ : Loc nD τ sig) → Buf (Elt F) ℓ) (g' : Dev nD → PrngReg)
    (hX : ∀ c : Fin 8, m (arg c) = Layout.block S6160x1024 S49280x1024 0 8 c (m' (((0 : Dev nD).tc : Thread nD τ).loc main_arg0))) :
    ∃ v0 : Buf (Elt F) (((0 : Dev nD).tc : Thread nD τ).loc main_v6),
      θ_run (Cert.JoinIdeal.defs (F := F)) (onTc (τ := Cert.JoinIdeal.τ) (Cert.JoinIdeal.main (F := F))) ⟨m, fun _ => 0, g⟩ (fun r => ∀ c : Fin 8,
          r.2.mem (res c) = Layout.blockN ⟨2, ![12320, 1024]⟩ ⟨2, ![49280, 1024]⟩ (Layout.meshBlock [2, 2, 2] ![[0, 1], []] c) v0 ∧ r.2.mem (arg c) = m (arg c))
      ∧ θ_run (defs (F := F)) (onTc (τ := τ) (main (F := F))) ⟨m', fun _ => 0, g'⟩ (fun r =>
          r.2.mem (((0 : Dev nD).tc : Thread nD τ).loc main_v6) = v0
          ∧ r.2.mem (((0 : Dev nD).tc : Thread nD τ).loc main_arg0) = m' (((0 : Dev nD).tc : Thread nD τ).loc main_arg0)) := by
  refine ⟨out (m' (((0 : Dev nD).tc : Thread nD τ).loc main_arg0)), ?_, ?_⟩
  · refine (θ_run _ _ _).mono (fun r h c => ⟨?_, (h.1 c).2⟩) (run_main m g)
    exact (h.1 c).1.trans (value m _ _ _ hX c)
  · exact (θ_run _ _ _).mono (fun r h => h 0) (Cert.JoinRefIdeal.Value.run (F := F) m' g')

end Blocks

end Cert.Talk.Join

end
-- ==== Proof.Talk.Gather.lean ====
/-
# The gathering of the chips' weights

Device `c` holds its chip's block, as its sibling does. It copies the block to its own slab of the result, and sends the half
of it that its core index names to the device of the same core index on each other chip; when such a half arrives from another
chip it passes it on to its sibling. Thirteen semaphores per device: `0`, `1`, `2` hand back what was sent to the other chips,
`3`, `4`, `5` what was passed on, `6`, `7`, `8` hand over the halves the other chips sent, `9`, `10`, `11` those the sibling
passed on, `12` the device's own slab. What is passed on is owed while the other chips' halves are waited for, so the
semaphores `9`, `10`, `11` rank above the rest.
-/
module

public import proofs.«01_k».proof.Proof.Talk.Parts
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points

@[expose] public section

set_option Elab.async false

noncomputable section

namespace Cert.Talk.Gather

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.GatherIdeal Cert.GatherIdeal.Gen

variable {F : FTy → Type} [FloatOps F]

local notation "𝕄" => MT nD τ sig Unit (Elt F) ℕ (URounds (GSem nD τ sig) Unit) ℕ

/-- A device's chip. -/
def chip (c : Dev nD) : Fin 4 := ⟨c.val / 2, by have h : c.val < 8 := c.isLt; omega⟩

/-- The device of the same core index on the chip across the first axis, across the second, across both. -/
def peer : Fin 3 → Dev nD → Dev nD
  | 0, c => ⟨k0_dev1 c, k0_dev1_lt c⟩
  | 1, c => ⟨k0_dev2 c, k0_dev2_lt c⟩
  | 2, c => ⟨k0_dev3 c, k0_dev3_lt c⟩
theorem peer_peer (j : Fin 3) (c : Dev nD) : peer j (peer j c) = c := by revert j c; decide
def across (j : Fin 3) : Dev nD ≃ Dev nD := ⟨peer j, peer j, peer_peer j, peer_peer j⟩

/-- The other core of the chip, as each of the three halves passed on names it. -/
def sib : Fin 3 → Dev nD → Dev nD
  | 0, c => ⟨k0_dev4 c, k0_dev4_lt c⟩
  | 1, c => ⟨k0_dev5 c, k0_dev5_lt c⟩
  | 2, c => ⟨k0_dev6 c, k0_dev6_lt c⟩
theorem sib_sib (j : Fin 3) (c : Dev nD) : sib j (sib j c) = c := by revert j c; decide
def swap (j : Fin 3) : Dev nD ≃ Dev nD := ⟨sib j, sib j, sib_sib j, sib_sib j⟩

theorem chip_peer (j : Fin 3) (c : Dev nD) : chip c ≠ chip (peer j c) := by revert j c; decide
theorem chip_sib (j : Fin 3) (c : Dev nD) : chip (sib j c) = chip c := by revert j c; decide

/-- A device's own slab of a result. -/
abbrev slab (c : Dev nD) : Memref sig .tc .hbm S12320x1024 .bf16 :=
  ((Memref.whole main_v1).slice (Rect.unit (s := S4x12320x1024) (k0_off1 c) S1x12320x1024.size (k0_off1_inb c)) (fun _ => rfl)).squeeze S12320x1024 squeezes_S1x12320x1024_S12320x1024
/-- The half a device sends, and where it goes. -/
abbrev half (c : Dev nD) : Memref sig .tc .hbm S6160x1024 .bf16 :=
  (Memref.whole main_arg0).slice (Rect.unit (s := S12320x1024) (k0_off3 c) S6160x1024.size (k0_off3_inb c)) (fun _ => rfl)
abbrev dest (c : Dev nD) : Memref sig .tc .hbm S6160x1024 .bf16 :=
  ((Memref.whole main_v1).slice (Rect.unit (s := S4x12320x1024) (k0_off2 c) S1x6160x1024.size (k0_off2_inb c)) (fun _ => rfl)).squeeze S6160x1024 squeezes_S1x6160x1024_S6160x1024
/-- The three halves a device passes on. -/
abbrev pass0 (c : Dev nD) : Memref sig .tc .hbm S6160x1024 .bf16 :=
  ((Memref.whole main_v1).slice (Rect.unit (s := S4x12320x1024) (k0_off4 c) S1x6160x1024.size (k0_off4_inb c)) (fun _ => rfl)).squeeze S6160x1024 squeezes_S1x6160x1024_S6160x1024
abbrev pass1 (c : Dev nD) : Memref sig .tc .hbm S6160x1024 .bf16 :=
  ((Memref.whole main_v1).slice (Rect.unit (s := S4x12320x1024) (k0_off5 c) S1x6160x1024.size (k0_off5_inb c)) (fun _ => rfl)).squeeze S6160x1024 squeezes_S1x6160x1024_S6160x1024
abbrev pass2 (c : Dev nD) : Memref sig .tc .hbm S6160x1024 .bf16 :=
  ((Memref.whole main_v1).slice (Rect.unit (s := S4x12320x1024) (k0_off6 c) S1x6160x1024.size (k0_off6_inb c)) (fun _ => rfl)).squeeze S6160x1024 squeezes_S1x6160x1024_S6160x1024

abbrev arg (c : Dev nD) : Loc nD τ sig := (c.tc : Thread nD τ).loc main_arg0
abbrev res (c : Dev nD) : Loc nD τ sig := (c.tc : Thread nD τ).loc main_v1

/-! ## The parts of a result

A result of device `c` is its own slab (`0`), the halves the three other chips send it (`1`, `2`, `3`) and those its sibling
passes on (`4`, `5`, `6`). -/

/-- The part that half `h` of chip `q`'s slab is. -/
def which (c : Dev nD) (q : Fin 4) (h : Fin 2) : Fin 7 :=
  if q = chip c then 0
  else if q = chip (peer 0 c) then (if h.val = c.val % 2 then 1 else 4)
  else if q = chip (peer 1 c) then (if h.val = c.val % 2 then 2 else 5)
  else (if h.val = c.val % 2 then 3 else 6)

/-- The half a row is in. -/
def side (r : Fin 12320) : Fin 2 := ⟨r.val / 6160, by omega⟩

theorem side_iff (r : Fin 12320) (h : ℕ) : (6160 * h ≤ r.val ∧ r.val < 6160 * h + 6160) ↔ (side r).val = h := by
  show _ ↔ r.val / 6160 = h
  omega

def region (c : Dev nD) (b : Fin 7) : Finset S4x12320x1024.Idx :=
  Finset.univ.filter fun i => which c (i 0 : Fin 4) (side (i 1 : Fin 12320)) = b

theorem mem_region (c : Dev nD) (b : Fin 7) (i : S4x12320x1024.Idx) : i ∈ region c b ↔ which c (i 0 : Fin 4) (side (i 1 : Fin 12320)) = b := by
  unfold region; rw [Finset.mem_filter]; exact and_iff_right (Finset.mem_univ i)

theorem region_apart (c : Dev nD) (b b' : Fin 7) (h : b ≠ b') : Disjoint (region c b) (region c b') := by
  refine Finset.disjoint_left.mpr fun i hb hb' => ?_
  rw [mem_region] at hb hb'
  exact h (hb.symm.trans hb')
theorem region_all (c : Dev nD) (i : S4x12320x1024.Idx) : ∃ b, i ∈ region c b := ⟨_, (mem_region c _ i).mpr rfl⟩

/-- Half a slab is a part, where the numbers say so. -/
theorem half_region (off : Fin 3 → ℕ) (inb : ∀ x, off x + (![1, 6160, 1024] : Fin 3 → ℕ) x ≤ (![4, 12320, 1024] : Fin 3 → ℕ) x) (q h : ℕ)
    (h0 : off 0 = q) (h1 : off 1 = 6160 * h) (h2 : off 2 = 0) (d : Dev nD) (b : Fin 7)
    (hw : ∀ (q' : Fin 4) (h' : Fin 2), (q'.val = q ∧ h'.val = h) ↔ which d q' h' = b) :
    (Rect.unit (s := ⟨3, ![4, 12320, 1024]⟩) off ![1, 6160, 1024] inb).set = region d b := by
  ext i
  refine (mem_three (n := 4) (a := 12320) (b := 1024) (a' := 6160) off inb q (6160 * h) h0 h1 h2 i).trans ?_
  rw [mem_region]
  exact (and_congr_right fun _ => side_iff (i 1) h).trans (hw (i 0) (side (i 1)))

theorem slab_set (c : Dev nD) : (slab c).view.set = region c 0 := by
  refine ((View.set_reshape _ _).trans (View.set_slice_whole main_v1 (Rect.unit (s := S4x12320x1024) (k0_off1 c) S1x12320x1024.size (k0_off1_inb c)))).trans ?_
  ext i
  refine (mem_three (n := 4) (a := 12320) (b := 1024) (a' := 12320) (k0_off1 c) (k0_off1_inb c) (chip c).val 0 (by revert c; decide) (by rw [k0_off1_eq]; rfl) (by rw [k0_off1_eq]; rfl) i).trans ?_
  rw [mem_region]
  have hw : ∀ (q' : Fin 4) (h' : Fin 2), q'.val = (chip c).val ↔ which c q' h' = 0 := by revert c; decide
  refine Iff.trans ⟨fun h => h.1, fun h => ⟨h, Nat.zero_le _, ?_⟩⟩ (hw (i 0) (side (i 1)))
  rw [Nat.zero_add]; exact (i 1).isLt
theorem dest_set0 (c : Dev nD) : (dest c).view.set = region (peer 0 c) 1 :=
  ((View.set_reshape _ _).trans (View.set_slice_whole main_v1 (Rect.unit (s := S4x12320x1024) (k0_off2 c) S1x6160x1024.size (k0_off2_inb c)))).trans
    (half_region (k0_off2 c) (k0_off2_inb c) (chip c).val (c.val % 2) (by revert c; decide) (by rw [k0_off2_eq]; rfl) (by rw [k0_off2_eq]; rfl) (peer 0 c) 1 (by revert c; decide))
theorem pass_set0 (c : Dev nD) : (pass0 c).view.set = region c 1 :=
  ((View.set_reshape _ _).trans (View.set_slice_whole main_v1 (Rect.unit (s := S4x12320x1024) (k0_off4 c) S1x6160x1024.size (k0_off4_inb c)))).trans
    (half_region (k0_off4 c) (k0_off4_inb c) (chip (peer 0 c)).val (c.val % 2) (by revert c; decide) (by rw [k0_off4_eq]; rfl) (by rw [k0_off4_eq]; rfl) c 1 (by revert c; decide))
theorem pass_sib0 (c : Dev nD) : (pass0 c).view.set = region (sib 0 c) 4 :=
  ((View.set_reshape _ _).trans (View.set_slice_whole main_v1 (Rect.unit (s := S4x12320x1024) (k0_off4 c) S1x6160x1024.size (k0_off4_inb c)))).trans
    (half_region (k0_off4 c) (k0_off4_inb c) (chip (peer 0 c)).val (c.val % 2) (by revert c; decide) (by rw [k0_off4_eq]; rfl) (by rw [k0_off4_eq]; rfl) (sib 0 c) 4 (by revert c; decide))
theorem dest_set1 (c : Dev nD) : (dest c).view.set = region (peer 1 c) 2 :=
  ((View.set_reshape _ _).trans (View.set_slice_whole main_v1 (Rect.unit (s := S4x12320x1024) (k0_off2 c) S1x6160x1024.size (k0_off2_inb c)))).trans
    (half_region (k0_off2 c) (k0_off2_inb c) (chip c).val (c.val % 2) (by revert c; decide) (by rw [k0_off2_eq]; rfl) (by rw [k0_off2_eq]; rfl) (peer 1 c) 2 (by revert c; decide))
theorem pass_set1 (c : Dev nD) : (pass1 c).view.set = region c 2 :=
  ((View.set_reshape _ _).trans (View.set_slice_whole main_v1 (Rect.unit (s := S4x12320x1024) (k0_off5 c) S1x6160x1024.size (k0_off5_inb c)))).trans
    (half_region (k0_off5 c) (k0_off5_inb c) (chip (peer 1 c)).val (c.val % 2) (by revert c; decide) (by rw [k0_off5_eq]; rfl) (by rw [k0_off5_eq]; rfl) c 2 (by revert c; decide))
theorem pass_sib1 (c : Dev nD) : (pass1 c).view.set = region (sib 1 c) 5 :=
  ((View.set_reshape _ _).trans (View.set_slice_whole main_v1 (Rect.unit (s := S4x12320x1024) (k0_off5 c) S1x6160x1024.size (k0_off5_inb c)))).trans
    (half_region (k0_off5 c) (k0_off5_inb c) (chip (peer 1 c)).val (c.val % 2) (by revert c; decide) (by rw [k0_off5_eq]; rfl) (by rw [k0_off5_eq]; rfl) (sib 1 c) 5 (by revert c; decide))
theorem dest_set2 (c : Dev nD) : (dest c).view.set = region (peer 2 c) 3 :=
  ((View.set_reshape _ _).trans (View.set_slice_whole main_v1 (Rect.unit (s := S4x12320x1024) (k0_off2 c) S1x6160x1024.size (k0_off2_inb c)))).trans
    (half_region (k0_off2 c) (k0_off2_inb c) (chip c).val (c.val % 2) (by revert c; decide) (by rw [k0_off2_eq]; rfl) (by rw [k0_off2_eq]; rfl) (peer 2 c) 3 (by revert c; decide))
theorem pass_set2 (c : Dev nD) : (pass2 c).view.set = region c 3 :=
  ((View.set_reshape _ _).trans (View.set_slice_whole main_v1 (Rect.unit (s := S4x12320x1024) (k0_off6 c) S1x6160x1024.size (k0_off6_inb c)))).trans
    (half_region (k0_off6 c) (k0_off6_inb c) (chip (peer 2 c)).val (c.val % 2) (by revert c; decide) (by rw [k0_off6_eq]; rfl) (by rw [k0_off6_eq]; rfl) c 3 (by revert c; decide))
theorem pass_sib2 (c : Dev nD) : (pass2 c).view.set = region (sib 2 c) 6 :=
  ((View.set_reshape _ _).trans (View.set_slice_whole main_v1 (Rect.unit (s := S4x12320x1024) (k0_off6 c) S1x6160x1024.size (k0_off6_inb c)))).trans
    (half_region (k0_off6 c) (k0_off6_inb c) (chip (peer 2 c)).val (c.val % 2) (by revert c; decide) (by rw [k0_off6_eq]; rfl) (by rw [k0_off6_eq]; rfl) (sib 2 c) 6 (by revert c; decide))

variable (m : (ℓ : Loc nD τ sig) → Buf (Elt F) ℓ) (ρ : Dev nD → PrngReg)

/-- The device whose operand fills row `r` of slab `q` of `c`'s result. -/
def owner (c : Dev nD) (q : Fin 4) (r : Fin 12320) : Dev nD :=
  if q = chip c then c else ⟨q.val * 2 + (side r).val, by have h := (side r).isLt; show _ < 8; omega⟩

/-- What a device ends with: every chip's block. -/
def got (c : Dev nD) : Buf (Elt F) (res c) := fun i : S4x12320x1024.Idx =>
  m (arg (owner c (i 0 : Fin 4) (i 1 : Fin 12320))) (ix2 (i 1 : Fin 12320) (i 2 : Fin 1024))

theorem got_at (c : Dev nD) (q : Fin 4) (r : Fin 12320) (l : Fin 1024) : got m c (ix3 q r l) = m (arg (owner c q r)) (ix2 r l) := rfl

/-- The row `r` of the half named by `c`'s core index. -/
def row (c : Dev nD) (r : Fin 6160) : Fin 12320 := ⟨6160 * (c.val % 2) + r.val, by omega⟩
theorem side_row (c : Dev nD) (r : Fin 6160) : (side (row c r)).val = c.val % 2 := by
  show (6160 * (c.val % 2) + r.val) / 6160 = c.val % 2
  omega

theorem emb_half (off : Fin 3 → ℕ) (inb : ∀ x, off x + (![1, 6160, 1024] : Fin 3 → ℕ) x ≤ (![4, 12320, 1024] : Fin 3 → ℕ) x) (c : Dev nD) (q : Fin 4)
    (h0 : off 0 = q.val) (h1 : off 1 = 6160 * (c.val % 2)) (h2 : off 2 = 0) (r : Fin 6160) (l : Fin 1024)
    (hs : (⟨2, ![6160, 1024]⟩ : Shape).numel = (⟨3, ![1, 6160, 1024]⟩ : Shape).numel) :
    (Rect.unit (s := ⟨3, ![4, 12320, 1024]⟩) off ![1, 6160, 1024] inb).emb (Shape.reshapeEquiv hs (ix2 r l)) = ix3 q (row c r) l := by
  rw [squeezed]
  exact emb_three off inb (0 : Fin 1) r l q (row c r) l (by rw [h0]; rfl) (by rw [h1]; rfl) (by rw [h2, Nat.zero_add])

/-- What device `d` of another chip ends with where `c`'s half goes is `c`'s half. -/
theorem read_dest (c d : Dev nD) (hd : chip c ≠ chip d) : (dest c).view.read (Elt F) (got m d) = (half c).view.read (Elt F) (m (arg c)) := by
  funext x
  obtain ⟨r, l, rfl⟩ : ∃ (r : Fin 6160) (l : Fin 1024), x = ix2 r l := ⟨x 0, x 1, eq_ix2 x⟩
  have he : (dest c).view.emb (ix2 r l) = ix3 (chip c) (row c r) l :=
    emb_half (k0_off2 c) (k0_off2_inb c) c (chip c) ((by decide : ∀ c : Dev nD, k0_off2 c 0 = (chip c).val) c) (by rw [k0_off2_eq]; rfl) (by rw [k0_off2_eq]; rfl) r l _
  have hs : (half c).view.emb (ix2 r l) = ix2 (row c r) l :=
    emb_two (a := 12320) (b := 1024) (k0_off3 c) (k0_off3_inb c) r l (row c r) l (by rw [k0_off3_eq]; rfl) (by rw [k0_off3_eq]; exact (Nat.zero_add _).symm)
  refine (congrArg (got m d) he).trans (Eq.trans ?_ (congrArg (m (arg c)) hs).symm)
  have ho : owner d (chip c) (row c r) = c := by
    unfold owner
    rw [if_neg hd]
    refine Fin.ext ?_
    show (chip c).val * 2 + (side (row c r)).val = c.val
    rw [side_row]
    show c.val / 2 * 2 + c.val % 2 = c.val
    omega
  exact congrArg (fun e => m (arg e) (ix2 (row c r) l)) ho

/-- What device `c` copies to its own slab is what it ends with there. -/
theorem read_slab (c : Dev nD) : (slab c).view.read (Elt F) (got m c) = (Memref.whole main_arg0).view.read (Elt F) (m (arg c)) := by
  refine Eq.trans (funext fun x => ?_) (View.read_whole main_arg0 (m (arg c))).symm
  obtain ⟨r, l, rfl⟩ : ∃ (r : Fin 12320) (l : Fin 1024), x = ix2 r l := ⟨x 0, x 1, eq_ix2 x⟩
  have he : (slab c).view.emb (ix2 r l) = ix3 (chip c) r l :=
    (congrArg (Rect.unit (s := S4x12320x1024) (k0_off1 c) S1x12320x1024.size (k0_off1_inb c)).emb (squeezed _ r l)).trans
      (emb_three (a := 4) (b := 12320) (c := 1024) (k0_off1 c) (k0_off1_inb c) (0 : Fin 1) r l (chip c) r l (by revert c; decide)
        (by rw [k0_off1_eq]; exact (Nat.zero_add _).symm) (by rw [k0_off1_eq]; exact (Nat.zero_add _).symm))
  refine (congrArg (got m c) he).trans ?_
  exact congrArg (fun e => m (arg e) (ix2 r l)) (if_pos rfl : owner c (chip c) r = c)

/-- The two devices of a chip end with the same in what one passes on to the other. -/
theorem read_pass0 (c : Dev nD) : (pass0 c).view.read (Elt F) (got m (sib 0 c)) = (pass0 c).view.read (Elt F) (got m c) := by
  funext x
  obtain ⟨r, l, rfl⟩ : ∃ (r : Fin 6160) (l : Fin 1024), x = ix2 r l := ⟨x 0, x 1, eq_ix2 x⟩
  have he : (pass0 c).view.emb (ix2 r l) = ix3 (chip (peer 0 c)) (row c r) l :=
    emb_half (k0_off4 c) (k0_off4_inb c) c (chip (peer 0 c)) (by revert c; decide) (by rw [k0_off4_eq]; rfl) (by rw [k0_off4_eq]; rfl) r l _
  refine (congrArg (got m (sib 0 c)) he).trans (Eq.trans ?_ (congrArg (got m c) he).symm)
  have ho : owner (sib 0 c) (chip (peer 0 c)) (row c r) = owner c (chip (peer 0 c)) (row c r) := by
    unfold owner
    rw [chip_sib, if_neg (chip_peer 0 c).symm, if_neg (chip_peer 0 c).symm]
  exact congrArg (fun e => m (arg e) (ix2 (row c r) l)) ho

/-- The two devices of a chip end with the same in what one passes on to the other. -/
theorem read_pass1 (c : Dev nD) : (pass1 c).view.read (Elt F) (got m (sib 1 c)) = (pass1 c).view.read (Elt F) (got m c) := by
  funext x
  obtain ⟨r, l, rfl⟩ : ∃ (r : Fin 6160) (l : Fin 1024), x = ix2 r l := ⟨x 0, x 1, eq_ix2 x⟩
  have he : (pass1 c).view.emb (ix2 r l) = ix3 (chip (peer 1 c)) (row c r) l :=
    emb_half (k0_off5 c) (k0_off5_inb c) c (chip (peer 1 c)) (by revert c; decide) (by rw [k0_off5_eq]; rfl) (by rw [k0_off5_eq]; rfl) r l _
  refine (congrArg (got m (sib 1 c)) he).trans (Eq.trans ?_ (congrArg (got m c) he).symm)
  have ho : owner (sib 1 c) (chip (peer 1 c)) (row c r) = owner c (chip (peer 1 c)) (row c r) := by
    unfold owner
    rw [chip_sib, if_neg (chip_peer 1 c).symm, if_neg (chip_peer 1 c).symm]
  exact congrArg (fun e => m (arg e) (ix2 (row c r) l)) ho

/-- The two devices of a chip end with the same in what one passes on to the other. -/
theorem read_pass2 (c : Dev nD) : (pass2 c).view.read (Elt F) (got m (sib 2 c)) = (pass2 c).view.read (Elt F) (got m c) := by
  funext x
  obtain ⟨r, l, rfl⟩ : ∃ (r : Fin 6160) (l : Fin 1024), x = ix2 r l := ⟨x 0, x 1, eq_ix2 x⟩
  have he : (pass2 c).view.emb (ix2 r l) = ix3 (chip (peer 2 c)) (row c r) l :=
    emb_half (k0_off6 c) (k0_off6_inb c) c (chip (peer 2 c)) (by revert c; decide) (by rw [k0_off6_eq]; rfl) (by rw [k0_off6_eq]; rfl) r l _
  refine (congrArg (got m (sib 2 c)) he).trans (Eq.trans ?_ (congrArg (got m c) he).symm)
  have ho : owner (sib 2 c) (chip (peer 2 c)) (row c r) = owner c (chip (peer 2 c)) (row c r) := by
    unfold owner
    rw [chip_sib, if_neg (chip_peer 2 c).symm, if_neg (chip_peer 2 c).symm]
  exact congrArg (fun e => m (arg e) (ix2 (row c r) l)) ho

def sems : Fin 13 → SemLoc sig
  | 0 => .dma ((cc0_scratch0.slice (Rect.unit (s := S6) ![0] S1.size inb_S6_S1_0)).squeeze S_ squeezes_S1_S_).sem
  | 1 => .dma ((cc0_scratch0.slice (Rect.unit (s := S6) ![1] S1.size inb_S6_S1_1)).squeeze S_ squeezes_S1_S_).sem
  | 2 => .dma ((cc0_scratch0.slice (Rect.unit (s := S6) ![2] S1.size inb_S6_S1_2)).squeeze S_ squeezes_S1_S_).sem
  | 3 => .dma ((cc0_scratch0.slice (Rect.unit (s := S6) ![3] S1.size inb_S6_S1_3)).squeeze S_ squeezes_S1_S_).sem
  | 4 => .dma ((cc0_scratch0.slice (Rect.unit (s := S6) ![4] S1.size inb_S6_S1_4)).squeeze S_ squeezes_S1_S_).sem
  | 5 => .dma ((cc0_scratch0.slice (Rect.unit (s := S6) ![5] S1.size inb_S6_S1_5)).squeeze S_ squeezes_S1_S_).sem
  | 6 => .dma ((cc0_scratch1.slice (Rect.unit (s := S6) ![0] S1.size inb_S6_S1_0)).squeeze S_ squeezes_S1_S_).sem
  | 7 => .dma ((cc0_scratch1.slice (Rect.unit (s := S6) ![1] S1.size inb_S6_S1_1)).squeeze S_ squeezes_S1_S_).sem
  | 8 => .dma ((cc0_scratch1.slice (Rect.unit (s := S6) ![2] S1.size inb_S6_S1_2)).squeeze S_ squeezes_S1_S_).sem
  | 9 => .dma ((cc0_scratch1.slice (Rect.unit (s := S6) ![3] S1.size inb_S6_S1_3)).squeeze S_ squeezes_S1_S_).sem
  | 10 => .dma ((cc0_scratch1.slice (Rect.unit (s := S6) ![4] S1.size inb_S6_S1_4)).squeeze S_ squeezes_S1_S_).sem
  | 11 => .dma ((cc0_scratch1.slice (Rect.unit (s := S6) ![5] S1.size inb_S6_S1_5)).squeeze S_ squeezes_S1_S_).sem
  | 12 => .dma cc0_scratch2.sem

/-- What each semaphore is credited. -/
def amount (k : Fin 13) : ℕ := match k with
  | 0 => (half 0).view.dmaCredit
  | 1 => (half 0).view.dmaCredit
  | 2 => (half 0).view.dmaCredit
  | 3 => (half 0).view.dmaCredit
  | 4 => (half 0).view.dmaCredit
  | 5 => (half 0).view.dmaCredit
  | 6 => (half 0).view.dmaCredit
  | 7 => (half 0).view.dmaCredit
  | 8 => (half 0).view.dmaCredit
  | 9 => (half 0).view.dmaCredit
  | 10 => (half 0).view.dmaCredit
  | 11 => (half 0).view.dmaCredit
  | 12 => (Memref.whole main_arg0 : Memref sig .tc _ _ _).view.dmaCredit

theorem amount_pos (k : Fin 13) : 0 < amount k := by
  have h : 0 < (half 0).view.dmaCredit := View.dmaCredit_pos _ (by decide)
  match k with
  | 0 => exact h
  | 1 => exact h
  | 2 => exact h
  | 3 => exact h
  | 4 => exact h
  | 5 => exact h
  | 6 => exact h
  | 7 => exact h
  | 8 => exact h
  | 9 => exact h
  | 10 => exact h
  | 11 => exact h
  | 12 => exact View.dmaCredit_pos _ (by decide)

/-- Whose semaphore a device credits. -/
def target (k : Fin 13) : Dev nD ≃ Dev nD := match k with
  | 0 => Equiv.refl _
  | 1 => Equiv.refl _
  | 2 => Equiv.refl _
  | 3 => Equiv.refl _
  | 4 => Equiv.refl _
  | 5 => Equiv.refl _
  | 6 => across 0
  | 7 => across 1
  | 8 => across 2
  | 9 => swap 0
  | 10 => swap 1
  | 11 => swap 2
  | 12 => Equiv.refl _

def level (s : SemLoc sig) : ℕ := if s = sems 9 ∨ s = sems 10 ∨ s = sems 11 then 1 else 0
theorem level_first : ∀ k ∈ ([9, 10, 11] : List (Fin 13)), level (sems 6) < level (sems k) := by decide
theorem level_second : ∀ k ∈ ([10, 11] : List (Fin 13)), level (sems 7) < level (sems k) := by decide
theorem level_third : ∀ k ∈ ([11] : List (Fin 13)), level (sems 8) < level (sems k) := by decide

def pays (c : Dev nD) (k : Fin 13) : sProp 𝕄 := match k with
  | 0 => iprop(arg c ↦[(half c).view.set]{fullShare.left.right} m (arg c))
  | 1 => iprop(arg c ↦[(half c).view.set]{fullShare.right.left} m (arg c))
  | 2 => iprop(arg c ↦[(half c).view.set]{fullShare.right.right} m (arg c))
  | 3 => iprop(res c ↦[region c 1]{fullShare} got m c)
  | 4 => iprop(res c ↦[region c 2]{fullShare} got m c)
  | 5 => iprop(res c ↦[region c 3]{fullShare} got m c)
  | 6 => iprop(res c ↦[region c 1]{fullShare} got m c)
  | 7 => iprop(res c ↦[region c 2]{fullShare} got m c)
  | 8 => iprop(res c ↦[region c 3]{fullShare} got m c)
  | 9 => iprop(res c ↦[region c 4]{fullShare} got m c)
  | 10 => iprop(res c ↦[region c 5]{fullShare} got m c)
  | 11 => iprop(res c ↦[region c 6]{fullShare} got m c)
  | 12 => iprop((res c ↦[region c 0]{fullShare} got m c) ∗ (arg c ↦{fullShare.left.left} m (arg c)))

theorem pays_stor (c : Dev nD) (k : Fin 13) : Storable (upEmb : UEmb _ 𝕄) (pays m c k) := by
  match k with
  | 0 => exact (inferInstance : Storable (upEmb : UEmb _ 𝕄) iprop(arg c ↦[(half c).view.set]{fullShare.left.right} m (arg c)))
  | 1 => exact (inferInstance : Storable (upEmb : UEmb _ 𝕄) iprop(arg c ↦[(half c).view.set]{fullShare.right.left} m (arg c)))
  | 2 => exact (inferInstance : Storable (upEmb : UEmb _ 𝕄) iprop(arg c ↦[(half c).view.set]{fullShare.right.right} m (arg c)))
  | 3 => exact (inferInstance : Storable (upEmb : UEmb _ 𝕄) iprop(res c ↦[region c 1]{fullShare} got m c))
  | 4 => exact (inferInstance : Storable (upEmb : UEmb _ 𝕄) iprop(res c ↦[region c 2]{fullShare} got m c))
  | 5 => exact (inferInstance : Storable (upEmb : UEmb _ 𝕄) iprop(res c ↦[region c 3]{fullShare} got m c))
  | 6 => exact (inferInstance : Storable (upEmb : UEmb _ 𝕄) iprop(res c ↦[region c 1]{fullShare} got m c))
  | 7 => exact (inferInstance : Storable (upEmb : UEmb _ 𝕄) iprop(res c ↦[region c 2]{fullShare} got m c))
  | 8 => exact (inferInstance : Storable (upEmb : UEmb _ 𝕄) iprop(res c ↦[region c 3]{fullShare} got m c))
  | 9 => exact (inferInstance : Storable (upEmb : UEmb _ 𝕄) iprop(res c ↦[region c 4]{fullShare} got m c))
  | 10 => exact (inferInstance : Storable (upEmb : UEmb _ 𝕄) iprop(res c ↦[region c 5]{fullShare} got m c))
  | 11 => exact (inferInstance : Storable (upEmb : UEmb _ 𝕄) iprop(res c ↦[region c 6]{fullShare} got m c))
  | 12 => exact (inferInstance : Storable (upEmb : UEmb _ 𝕄) iprop((res c ↦[region c 0]{fullShare} got m c) ∗ (arg c ↦{fullShare.left.left} m (arg c))))

/-- The protocol. -/
def proto : Proto nD τ sig (Elt F) (Fin 13) where
  osem := sems
  inj := by decide
  amt := amount
  pos := amount_pos
  pay := pays m
  stor := pays_stor m
  dst := target
  rank := level

/-- What a device is dealt: its operand, its own slab, its place in each peer's result and the places in its sibling's where it
    passes on. -/
def before (c : Dev nD) : sProp 𝕄 := iprop((arg c ↦{fullShare} m (arg c)) ∗ (res c ↦[region c 0]{fullShare} m (res c))
  ∗ (res (peer 0 c) ↦[region (peer 0 c) 1]{fullShare} m (res (peer 0 c)))
  ∗ (res (peer 1 c) ↦[region (peer 1 c) 2]{fullShare} m (res (peer 1 c)))
  ∗ (res (peer 2 c) ↦[region (peer 2 c) 3]{fullShare} m (res (peer 2 c)))
  ∗ (res (sib 0 c) ↦[region (sib 0 c) 4]{fullShare} m (res (sib 0 c)))
  ∗ (res (sib 1 c) ↦[region (sib 1 c) 5]{fullShare} m (res (sib 1 c)))
  ∗ (res (sib 2 c) ↦[region (sib 2 c) 6]{fullShare} m (res (sib 2 c))))
def after (c : Dev nD) : sProp 𝕄 := iprop((arg c ↦{fullShare} m (arg c)) ∗ (res c ↦{fullShare} got m c))

/-- A result as its seven parts. -/
theorem parts (c : Dev nD) (f : Buf (Elt F) (res c)) : (res c ↦{fullShare} f : sProp 𝕄)
    = iprop((res c ↦[region c 0]{fullShare} f) ∗ (res c ↦[region c 1]{fullShare} f) ∗ (res c ↦[region c 2]{fullShare} f) ∗ (res c ↦[region c 3]{fullShare} f) ∗ (res c ↦[region c 4]{fullShare} f) ∗ (res c ↦[region c 5]{fullShare} f) ∗ (res c ↦[region c 6]{fullShare} f) ∗ emp) :=
  pts_parts (res c) (region c) (region_apart c) (region_all c) fullShare f [0, 1, 2, 3, 4, 5, 6] (by decide) (by decide)

/-- A share of the operand as the half to send and the rest. -/
theorem carve (c : Dev nD) (q : PosShare TreeShare) : (arg c ↦{q} m (arg c) : sProp 𝕄)
    ⊣⊢ iprop((arg c ↦[(half c).view.set]{q} m (arg c)) ∗ arg c ↦[Finset.univ \ (half c).view.set]{q} m (arg c)) :=
  pointsTo_split_subset (ℓ := arg c) (I := (half c).view.set) (Finset.subset_univ _)

/-- The operand in four shares: one for the own slab, one for each other chip. -/
theorem shares (c : Dev nD) : (arg c ↦{fullShare} m (arg c) : sProp 𝕄)
    ⊢ iprop((arg c ↦{fullShare.left.left} m (arg c)) ∗ (arg c ↦{fullShare.left.right} m (arg c)) ∗ (arg c ↦{fullShare.right.left} m (arg c)) ∗ (arg c ↦{fullShare.right.right} m (arg c))) := by
  iintro H
  ihave H := (pts_halves (arg c) Finset.univ fullShare (m (arg c))).1 $$ H
  icases H with ⟨Hl, Hr⟩
  ihave Hl := (pts_halves (arg c) Finset.univ fullShare.left (m (arg c))).1 $$ Hl
  icases Hl with ⟨H0, H1⟩
  ihave Hr := (pts_halves (arg c) Finset.univ fullShare.right (m (arg c))).1 $$ Hr
  icases Hr with ⟨H2, H3⟩
  isplitl [H0]; · iexact H0
  isplitl [H1]; · iexact H1
  isplitl [H2]; · iexact H2
  iexact H3

theorem together (c : Dev nD) : (iprop((arg c ↦{fullShare.left.left} m (arg c)) ∗ (arg c ↦{fullShare.left.right} m (arg c)) ∗ (arg c ↦{fullShare.right.left} m (arg c)) ∗ (arg c ↦{fullShare.right.right} m (arg c))) : sProp 𝕄)
    ⊢ iprop(arg c ↦{fullShare} m (arg c)) := by
  iintro ⟨H0, H1, H2, H3⟩
  ihave Hl := (pts_halves (arg c) Finset.univ fullShare.left (m (arg c))).2 $$ [H0 H1]
  · isplitl [H0]; · iexact H0
    iexact H1
  ihave Hr := (pts_halves (arg c) Finset.univ fullShare.right (m (arg c))).2 $$ [H2 H3]
  · isplitl [H2]; · iexact H2
    iexact H3
  ihave H := (pts_halves (arg c) Finset.univ fullShare (m (arg c))).2 $$ [Hl Hr]
  · isplitl [Hl]; · iexact Hl
    iexact Hr
  iexact H

theorem bufs : bigSep Finset.univ (fun c : Dev nD => (unscopedBufs c (fun b => m ((c.tc : Thread nD τ).loc b)) : sProp 𝕄))
    ⊢ bigSep Finset.univ (before m) := by
  have h : ∀ c : Dev nD, (unscopedBufs c (fun b => m ((c.tc : Thread nD τ).loc b)) : sProp 𝕄)
      ⊢ iprop((arg c ↦{fullShare} m (arg c)) ∗ (res c ↦[region c 0]{fullShare} m (res c)) ∗ (res c ↦[region c 1]{fullShare} m (res c)) ∗ (res c ↦[region c 2]{fullShare} m (res c)) ∗ (res c ↦[region c 3]{fullShare} m (res c)) ∗ (res c ↦[region c 4]{fullShare} m (res c)) ∗ (res c ↦[region c 5]{fullShare} m (res c)) ∗ (res c ↦[region c 6]{fullShare} m (res c))) := fun c => by
    refine (bufs_two main_arg0 main_v1 (by decide) (by decide) c _).trans (BIClass.sep_mono (BI.Entails.refl _) ((Entails.of_eq (parts c _)).trans ?_))
    iintro ⟨H0, H1, H2, H3, H4, H5, H6, -⟩
    isplitl [H0]; · iexact H0
    isplitl [H1]; · iexact H1
    isplitl [H2]; · iexact H2
    isplitl [H3]; · iexact H3
    isplitl [H4]; · iexact H4
    isplitl [H5]; · iexact H5
    iexact H6
  refine (bigSep_mono fun c _ => h c).trans ?_
  unfold before
  rw [bigSep_sep', bigSep_sep', bigSep_sep', bigSep_sep', bigSep_sep', bigSep_sep', bigSep_sep', bigSep_sep', bigSep_sep', bigSep_sep', bigSep_sep', bigSep_sep', bigSep_sep', bigSep_sep',
    bigSep_univ_equiv (across 0) (fun c : Dev nD => iprop(res c ↦[region c 1]{fullShare} m (res c))),
    bigSep_univ_equiv (across 1) (fun c : Dev nD => iprop(res c ↦[region c 2]{fullShare} m (res c))),
    bigSep_univ_equiv (across 2) (fun c : Dev nD => iprop(res c ↦[region c 3]{fullShare} m (res c))),
    bigSep_univ_equiv (swap 0) (fun c : Dev nD => iprop(res c ↦[region c 4]{fullShare} m (res c))),
    bigSep_univ_equiv (swap 1) (fun c : Dev nD => iprop(res c ↦[region c 5]{fullShare} m (res c))),
    bigSep_univ_equiv (swap 2) (fun c : Dev nD => iprop(res c ↦[region c 6]{fullShare} m (res c)))]
  exact BI.Entails.refl _

/-! ## The parts as the operations name them -/

/-- The same buffer held at two names of one set. -/
theorem at_set (ℓ : Loc nD τ sig) {I I' : Finset (Idx ℓ)} (h : I = I') (q : PosShare TreeShare) (f : Buf (Elt F) ℓ) : (ℓ ↦[I]{q} f : sProp 𝕄) ⊢ iprop(ℓ ↦[I']{q} f) :=
  Entails.of_eq (congrArg (fun I => (iprop(ℓ ↦[I]{q} f) : sProp 𝕄)) h)

theorem copied (c : Dev nD) :
    iprop(((slab c).view.loc (c.tc : Thread nD τ) ↦[(slab c).view.set]{fullShare}
        (slab c).view.write (Elt F) (m (res c)) ((Memref.whole main_arg0).view.read (Elt F) (m (arg c))) Finset.univ)
      ∗ ((Memref.whole main_arg0).view.loc (c.tc : Thread nD τ) ↦[(Memref.whole main_arg0).view.set]{fullShare.left.left} m (arg c)))
      ⊢ (proto m).pay c 12 :=
  BIClass.sep_mono ((Entails.of_eq (pts_written (c.tc : Thread nD τ) (slab c).view fullShare (m (res c)) (got m c) _ (read_slab m c))).trans
      (at_set (res c) (slab_set c) fullShare (got m c)))
    (Entails.of_eq (pts_whole (c.tc : Thread nD τ) main_arg0 fullShare.left.left (m (arg c))))
theorem landed0 (c : Dev nD) :
    ((dest c).view.loc ((peer 0 c).tc : Thread nD τ) ↦[(dest c).view.set]{fullShare}
        (dest c).view.write (Elt F) (m (res (peer 0 c))) ((half c).view.read (Elt F) (m (arg c))) Finset.univ : sProp 𝕄)
      ⊢ (proto m).pay (peer 0 c) 6 :=
  (Entails.of_eq (pts_written ((peer 0 c).tc : Thread nD τ) (dest c).view fullShare (m (res (peer 0 c))) (got m (peer 0 c)) _ (read_dest m c (peer 0 c) (chip_peer 0 c)))).trans
    (at_set (res (peer 0 c)) (dest_set0 c) fullShare (got m (peer 0 c)))
theorem passed0 (c : Dev nD) :
    ((pass0 c).view.loc ((sib 0 c).tc : Thread nD τ) ↦[(pass0 c).view.set]{fullShare}
        (pass0 c).view.write (Elt F) (m (res (sib 0 c))) ((pass0 c).view.read (Elt F) (got m c)) Finset.univ : sProp 𝕄)
      ⊢ (proto m).pay (sib 0 c) 9 :=
  (Entails.of_eq (pts_written ((sib 0 c).tc : Thread nD τ) (pass0 c).view fullShare (m (res (sib 0 c))) (got m (sib 0 c)) _ (read_pass0 m c))).trans
    (at_set (res (sib 0 c)) (pass_sib0 c) fullShare (got m (sib 0 c)))
theorem kept0 (c : Dev nD) : ((pass0 c).view.loc (c.tc : Thread nD τ) ↦[(pass0 c).view.set]{fullShare} got m c : sProp 𝕄) ⊢ (proto m).pay c 3 :=
  at_set (res c) (pass_set0 c) fullShare (got m c)
theorem landed1 (c : Dev nD) :
    ((dest c).view.loc ((peer 1 c).tc : Thread nD τ) ↦[(dest c).view.set]{fullShare}
        (dest c).view.write (Elt F) (m (res (peer 1 c))) ((half c).view.read (Elt F) (m (arg c))) Finset.univ : sProp 𝕄)
      ⊢ (proto m).pay (peer 1 c) 7 :=
  (Entails.of_eq (pts_written ((peer 1 c).tc : Thread nD τ) (dest c).view fullShare (m (res (peer 1 c))) (got m (peer 1 c)) _ (read_dest m c (peer 1 c) (chip_peer 1 c)))).trans
    (at_set (res (peer 1 c)) (dest_set1 c) fullShare (got m (peer 1 c)))
theorem passed1 (c : Dev nD) :
    ((pass1 c).view.loc ((sib 1 c).tc : Thread nD τ) ↦[(pass1 c).view.set]{fullShare}
        (pass1 c).view.write (Elt F) (m (res (sib 1 c))) ((pass1 c).view.read (Elt F) (got m c)) Finset.univ : sProp 𝕄)
      ⊢ (proto m).pay (sib 1 c) 10 :=
  (Entails.of_eq (pts_written ((sib 1 c).tc : Thread nD τ) (pass1 c).view fullShare (m (res (sib 1 c))) (got m (sib 1 c)) _ (read_pass1 m c))).trans
    (at_set (res (sib 1 c)) (pass_sib1 c) fullShare (got m (sib 1 c)))
theorem kept1 (c : Dev nD) : ((pass1 c).view.loc (c.tc : Thread nD τ) ↦[(pass1 c).view.set]{fullShare} got m c : sProp 𝕄) ⊢ (proto m).pay c 4 :=
  at_set (res c) (pass_set1 c) fullShare (got m c)
theorem landed2 (c : Dev nD) :
    ((dest c).view.loc ((peer 2 c).tc : Thread nD τ) ↦[(dest c).view.set]{fullShare}
        (dest c).view.write (Elt F) (m (res (peer 2 c))) ((half c).view.read (Elt F) (m (arg c))) Finset.univ : sProp 𝕄)
      ⊢ (proto m).pay (peer 2 c) 8 :=
  (Entails.of_eq (pts_written ((peer 2 c).tc : Thread nD τ) (dest c).view fullShare (m (res (peer 2 c))) (got m (peer 2 c)) _ (read_dest m c (peer 2 c) (chip_peer 2 c)))).trans
    (at_set (res (peer 2 c)) (dest_set2 c) fullShare (got m (peer 2 c)))
theorem passed2 (c : Dev nD) :
    ((pass2 c).view.loc ((sib 2 c).tc : Thread nD τ) ↦[(pass2 c).view.set]{fullShare}
        (pass2 c).view.write (Elt F) (m (res (sib 2 c))) ((pass2 c).view.read (Elt F) (got m c)) Finset.univ : sProp 𝕄)
      ⊢ (proto m).pay (sib 2 c) 11 :=
  (Entails.of_eq (pts_written ((sib 2 c).tc : Thread nD τ) (pass2 c).view fullShare (m (res (sib 2 c))) (got m (sib 2 c)) _ (read_pass2 m c))).trans
    (at_set (res (sib 2 c)) (pass_sib2 c) fullShare (got m (sib 2 c)))
theorem kept2 (c : Dev nD) : ((pass2 c).view.loc (c.tc : Thread nD τ) ↦[(pass2 c).view.set]{fullShare} got m c : sProp 𝕄) ⊢ (proto m).pay c 5 :=
  at_set (res c) (pass_set2 c) fullShare (got m c)
theorem pay0 (c : Dev nD) : (proto m).pay c 0 ⊢ iprop(arg c ↦[(half c).view.set]{fullShare.left.right} m (arg c)) := BI.Entails.refl _
theorem pay1 (c : Dev nD) : (proto m).pay c 1 ⊢ iprop(arg c ↦[(half c).view.set]{fullShare.right.left} m (arg c)) := BI.Entails.refl _
theorem pay2 (c : Dev nD) : (proto m).pay c 2 ⊢ iprop(arg c ↦[(half c).view.set]{fullShare.right.right} m (arg c)) := BI.Entails.refl _
theorem pay3 (c : Dev nD) : (proto m).pay c 3 ⊢ iprop(res c ↦[region c 1]{fullShare} got m c) := BI.Entails.refl _
theorem pay4 (c : Dev nD) : (proto m).pay c 4 ⊢ iprop(res c ↦[region c 2]{fullShare} got m c) := BI.Entails.refl _
theorem pay5 (c : Dev nD) : (proto m).pay c 5 ⊢ iprop(res c ↦[region c 3]{fullShare} got m c) := BI.Entails.refl _
theorem pay6 (c : Dev nD) : (proto m).pay c 6 ⊢ iprop(res c ↦[region c 1]{fullShare} got m c) := BI.Entails.refl _
theorem pay7 (c : Dev nD) : (proto m).pay c 7 ⊢ iprop(res c ↦[region c 2]{fullShare} got m c) := BI.Entails.refl _
theorem pay8 (c : Dev nD) : (proto m).pay c 8 ⊢ iprop(res c ↦[region c 3]{fullShare} got m c) := BI.Entails.refl _
theorem pay9 (c : Dev nD) : (proto m).pay c 9 ⊢ iprop(res c ↦[region c 4]{fullShare} got m c) := BI.Entails.refl _
theorem pay10 (c : Dev nD) : (proto m).pay c 10 ⊢ iprop(res c ↦[region c 5]{fullShare} got m c) := BI.Entails.refl _
theorem pay11 (c : Dev nD) : (proto m).pay c 11 ⊢ iprop(res c ↦[region c 6]{fullShare} got m c) := BI.Entails.refl _
theorem pay12 (c : Dev nD) : (proto m).pay c 12 ⊢ iprop((res c ↦[region c 0]{fullShare} got m c) ∗ (arg c ↦{fullShare.left.left} m (arg c))) := BI.Entails.refl _

set_option maxHeartbeats 3200000 in
theorem body (c : Dev nD) (κ : GSem nD τ sig → ℕ) :
    iprop((proto m).know κ ∗ sepL ((proto m).tok c) [0, 1, 2, 3, 4, 5, 6, 7, 8, 9, 10, 11, 12] ∗ sepL ((proto m).pos₀ c) [0, 1, 2, 3, 4, 5, 6, 7, 8, 9, 10, 11, 12] ∗ sepL ((proto m).due c) [6, 7, 8, 9, 10, 11] ∗ before m c ∗ (proto m).owing c [6, 7, 8, 9, 10, 11])
      ⊢ wp frame (wpE (defs₀ (F := F)) Variants.none (c.tc : Thread nD τ) none) Set.univ
          (cc0_gather_weights (Memref.whole main_arg0) (Memref.isWhole_whole _) (Memref.whole main_v1) (Memref.isWhole_whole _) cc0_scratch0 cc0_scratch1 cc0_scratch2) fun _ =>
          iprop(after m c ∗ sepL ((proto m).pos₁ c) [0, 1, 2, 3, 4, 5, 6, 7, 8, 9, 10, 11, 12] ∗ (proto m).owing c []) := by
  simp only [cc0_gather_weights_eq_skeleton]; unfold cc0_gather_weights_skel
  simp only [k0_part1_eq_skeleton, k0_part2_eq_skeleton, k0_part3_eq_skeleton, k0_part4_eq_skeleton, k0_part5_eq_skeleton, k0_part6_eq_skeleton, k0_part7_eq_skeleton]; unfold k0_part1_skel k0_part2_skel k0_part3_skel k0_part4_skel k0_part5_skel k0_part6_skel k0_part7_skel
  simp only [Prog.lift, Prog.bind_op, Prog.bind_ret, Prog.pure_eq_ret, wp_deviceId]
  unfold before after
  simp only [sepL]
  iintro ⟨#Hk, ⟨Ht0, Ht1, Ht2, Ht3, Ht4, Ht5, Ht6, Ht7, Ht8, Ht9, Ht10, Ht11, Ht12, -⟩, ⟨Hp0, Hp1, Hp2, Hp3, Hp4, Hp5, Hp6, Hp7, Hp8, Hp9, Hp10, Hp11, Hp12, -⟩, ⟨Hd6, Hd7, Hd8, Hd9, Hd10, Hd11, -⟩, ⟨Ha, Hr0, Hq0, Hq1, Hq2, Hs0, Hs1, Hs2⟩, Ho⟩
  ihave Ha := (shares m c) $$ Ha
  icases Ha with ⟨Hl, Ha0, Ha1, Ha2⟩
  ihave Ha0 := (carve m c fullShare.left.right).1 $$ Ha0
  icases Ha0 with ⟨Ha0, Hx0⟩
  ihave Ha1 := (carve m c fullShare.right.left).1 $$ Ha1
  icases Ha1 with ⟨Ha1, Hx1⟩
  ihave Ha2 := (carve m c fullShare.right.right).1 $$ Ha2
  icases Ha2 with ⟨Ha2, Hx2⟩
  iapply (copy (proto m) c 12 rfl (src := Memref.whole main_arg0) (dst := slab c) rfl rfl (copied m c) κ) $$ [Hl Hr0 Ht12]
  · isplitr; · iexact Hk
    isplitl [Hl]; · iapply (Entails.of_eq (pts_whole (c.tc : Thread nD τ) main_arg0 fullShare.left.left _).symm); iexact Hl
    isplitl [Hr0]; · iapply (at_set (res c) (slab_set c).symm fullShare (m (res c))); iexact Hr0
    iexact Ht12
  iintro Hd12
  iapply (send (proto m) c ⟨k0_dev1 c, k0_dev1_lt c⟩ 0 6 rfl rfl (src := half c) (dst := dest c) rfl rfl rfl rfl
    (.rfl : iprop(arg c ↦[(half c).view.set]{fullShare.left.right} m (arg c)) ⊢ _) (landed0 m c) κ [7, 8, 9, 10, 11]) $$ [Ha0 Hq0 Ho Ht0 Ht6]
  · isplitr; · iexact Hk
    isplitl [Ha0]; · iexact Ha0
    isplitl [Hq0]; · iapply (at_set (res (peer 0 c)) (dest_set0 c).symm fullShare (m (res (peer 0 c)))); iexact Hq0
    isplitl [Ho]; · iexact Ho
    isplitl [Ht0]; · iexact Ht0
    iexact Ht6
  iintro ⟨Hd0, Ho⟩
  iapply (send (proto m) c ⟨k0_dev2 c, k0_dev2_lt c⟩ 1 7 rfl rfl (src := half c) (dst := dest c) rfl rfl rfl rfl
    (.rfl : iprop(arg c ↦[(half c).view.set]{fullShare.right.left} m (arg c)) ⊢ _) (landed1 m c) κ [8, 9, 10, 11]) $$ [Ha1 Hq1 Ho Ht1 Ht7]
  · isplitr; · iexact Hk
    isplitl [Ha1]; · iexact Ha1
    isplitl [Hq1]; · iapply (at_set (res (peer 1 c)) (dest_set1 c).symm fullShare (m (res (peer 1 c)))); iexact Hq1
    isplitl [Ho]; · iexact Ho
    isplitl [Ht1]; · iexact Ht1
    iexact Ht7
  iintro ⟨Hd1, Ho⟩
  iapply (send (proto m) c ⟨k0_dev3 c, k0_dev3_lt c⟩ 2 8 rfl rfl (src := half c) (dst := dest c) rfl rfl rfl rfl
    (.rfl : iprop(arg c ↦[(half c).view.set]{fullShare.right.right} m (arg c)) ⊢ _) (landed2 m c) κ [9, 10, 11]) $$ [Ha2 Hq2 Ho Ht2 Ht8]
  · isplitr; · iexact Hk
    isplitl [Ha2]; · iexact Ha2
    isplitl [Hq2]; · iapply (at_set (res (peer 2 c)) (dest_set2 c).symm fullShare (m (res (peer 2 c)))); iexact Hq2
    isplitl [Ho]; · iexact Ho
    isplitl [Ht2]; · iexact Ht2
    iexact Ht8
  iintro ⟨Hd2, Ho⟩
  iapply (await (proto m) c 6 rfl rfl κ [9, 10, 11] level_first) $$ [Hd6 Ho Hp6]
  · isplitr; · iexact Hk
    isplitl [Hd6]; · iexact Hd6
    isplitl [Ho]; · iexact Ho
    iexact Hp6
  iintro ⟨Ho, Hp6, Hr1⟩
  ihave Hr1 := (pay6 m c) $$ Hr1
  iapply (send (proto m) c ⟨k0_dev4 c, k0_dev4_lt c⟩ 3 9 rfl rfl (src := pass0 c) (dst := pass0 c) rfl rfl rfl rfl
    (kept0 m c) (passed0 m c) κ [10, 11]) $$ [Hr1 Hs0 Ho Ht3 Ht9]
  · isplitr; · iexact Hk
    isplitl [Hr1]; · iapply (at_set (res c) (pass_set0 c).symm fullShare (got m c)); iexact Hr1
    isplitl [Hs0]; · iapply (at_set (res (sib 0 c)) (pass_sib0 c).symm fullShare (m (res (sib 0 c)))); iexact Hs0
    isplitl [Ho]; · iexact Ho
    isplitl [Ht3]; · iexact Ht3
    iexact Ht9
  iintro ⟨Hd3, Ho⟩
  iapply (await (proto m) c 7 rfl rfl κ [10, 11] level_second) $$ [Hd7 Ho Hp7]
  · isplitr; · iexact Hk
    isplitl [Hd7]; · iexact Hd7
    isplitl [Ho]; · iexact Ho
    iexact Hp7
  iintro ⟨Ho, Hp7, Hr2⟩
  ihave Hr2 := (pay7 m c) $$ Hr2
  iapply (send (proto m) c ⟨k0_dev5 c, k0_dev5_lt c⟩ 4 10 rfl rfl (src := pass1 c) (dst := pass1 c) rfl rfl rfl rfl
    (kept1 m c) (passed1 m c) κ [11]) $$ [Hr2 Hs1 Ho Ht4 Ht10]
  · isplitr; · iexact Hk
    isplitl [Hr2]; · iapply (at_set (res c) (pass_set1 c).symm fullShare (got m c)); iexact Hr2
    isplitl [Hs1]; · iapply (at_set (res (sib 1 c)) (pass_sib1 c).symm fullShare (m (res (sib 1 c)))); iexact Hs1
    isplitl [Ho]; · iexact Ho
    isplitl [Ht4]; · iexact Ht4
    iexact Ht10
  iintro ⟨Hd4, Ho⟩
  iapply (await (proto m) c 8 rfl rfl κ [11] level_third) $$ [Hd8 Ho Hp8]
  · isplitr; · iexact Hk
    isplitl [Hd8]; · iexact Hd8
    isplitl [Ho]; · iexact Ho
    iexact Hp8
  iintro ⟨Ho, Hp8, Hr3⟩
  ihave Hr3 := (pay8 m c) $$ Hr3
  iapply (send (proto m) c ⟨k0_dev6 c, k0_dev6_lt c⟩ 5 11 rfl rfl (src := pass2 c) (dst := pass2 c) rfl rfl rfl rfl
    (kept2 m c) (passed2 m c) κ []) $$ [Hr3 Hs2 Ho Ht5 Ht11]
  · isplitr; · iexact Hk
    isplitl [Hr3]; · iapply (at_set (res c) (pass_set2 c).symm fullShare (got m c)); iexact Hr3
    isplitl [Hs2]; · iapply (at_set (res (sib 2 c)) (pass_sib2 c).symm fullShare (m (res (sib 2 c)))); iexact Hs2
    isplitl [Ho]; · iexact Ho
    isplitl [Ht5]; · iexact Ht5
    iexact Ht11
  iintro ⟨Hd5, Ho⟩
  iapply (await (proto m) c 9 rfl rfl κ [] (by simp)) $$ [Hd9 Ho Hp9]
  · isplitr; · iexact Hk
    isplitl [Hd9]; · iexact Hd9
    isplitl [Ho]; · iexact Ho
    iexact Hp9
  iintro ⟨Ho, Hp9, Hr4⟩
  ihave Hr4 := (pay9 m c) $$ Hr4
  iapply (await (proto m) c 10 rfl rfl κ [] (by simp)) $$ [Hd10 Ho Hp10]
  · isplitr; · iexact Hk
    isplitl [Hd10]; · iexact Hd10
    isplitl [Ho]; · iexact Ho
    iexact Hp10
  iintro ⟨Ho, Hp10, Hr5⟩
  ihave Hr5 := (pay10 m c) $$ Hr5
  iapply (await (proto m) c 11 rfl rfl κ [] (by simp)) $$ [Hd11 Ho Hp11]
  · isplitr; · iexact Hk
    isplitl [Hd11]; · iexact Hd11
    isplitl [Ho]; · iexact Ho
    iexact Hp11
  iintro ⟨Ho, Hp11, Hr6⟩
  ihave Hr6 := (pay11 m c) $$ Hr6
  iapply (await (proto m) c 0 rfl rfl κ [] (by simp)) $$ [Hd0 Ho Hp0]
  · isplitr; · iexact Hk
    isplitl [Hd0]; · iexact Hd0
    isplitl [Ho]; · iexact Ho
    iexact Hp0
  iintro ⟨Ho, Hp0, Ha0⟩
  ihave Ha0 := (pay0 m c) $$ Ha0
  iapply (await (proto m) c 1 rfl rfl κ [] (by simp)) $$ [Hd1 Ho Hp1]
  · isplitr; · iexact Hk
    isplitl [Hd1]; · iexact Hd1
    isplitl [Ho]; · iexact Ho
    iexact Hp1
  iintro ⟨Ho, Hp1, Ha1⟩
  ihave Ha1 := (pay1 m c) $$ Ha1
  iapply (await (proto m) c 2 rfl rfl κ [] (by simp)) $$ [Hd2 Ho Hp2]
  · isplitr; · iexact Hk
    isplitl [Hd2]; · iexact Hd2
    isplitl [Ho]; · iexact Ho
    iexact Hp2
  iintro ⟨Ho, Hp2, Ha2⟩
  ihave Ha2 := (pay2 m c) $$ Ha2
  iapply (await (proto m) c 3 rfl rfl κ [] (by simp)) $$ [Hd3 Ho Hp3]
  · isplitr; · iexact Hk
    isplitl [Hd3]; · iexact Hd3
    isplitl [Ho]; · iexact Ho
    iexact Hp3
  iintro ⟨Ho, Hp3, Hr1⟩
  ihave Hr1 := (pay3 m c) $$ Hr1
  iapply (await (proto m) c 4 rfl rfl κ [] (by simp)) $$ [Hd4 Ho Hp4]
  · isplitr; · iexact Hk
    isplitl [Hd4]; · iexact Hd4
    isplitl [Ho]; · iexact Ho
    iexact Hp4
  iintro ⟨Ho, Hp4, Hr2⟩
  ihave Hr2 := (pay4 m c) $$ Hr2
  iapply (await (proto m) c 5 rfl rfl κ [] (by simp)) $$ [Hd5 Ho Hp5]
  · isplitr; · iexact Hk
    isplitl [Hd5]; · iexact Hd5
    isplitl [Ho]; · iexact Ho
    iexact Hp5
  iintro ⟨Ho, Hp5, Hr3⟩
  ihave Hr3 := (pay5 m c) $$ Hr3
  iapply (await (proto m) c 12 rfl rfl κ [] (by simp)) $$ [Hd12 Ho Hp12]
  · isplitr; · iexact Hk
    isplitl [Hd12]; · iexact Hd12
    isplitl [Ho]; · iexact Ho
    iexact Hp12
  iintro ⟨Ho, Hp12, Hr0⟩
  ihave Hr0 := (pay12 m c) $$ Hr0
  icases Hr0 with ⟨Hr0, Hl⟩
  ihave Ha0 := (carve m c fullShare.left.right).2 $$ [Ha0 Hx0]
  · isplitl [Ha0]; · iexact Ha0
    iexact Hx0
  ihave Ha1 := (carve m c fullShare.right.left).2 $$ [Ha1 Hx1]
  · isplitl [Ha1]; · iexact Ha1
    iexact Hx1
  ihave Ha2 := (carve m c fullShare.right.right).2 $$ [Ha2 Hx2]
  · isplitl [Ha2]; · iexact Ha2
    iexact Hx2
  ihave Ha := (together m c) $$ [Hl Ha0 Ha1 Ha2]
  · isplitl [Hl]; · iexact Hl
    isplitl [Ha0]; · iexact Ha0
    isplitl [Ha1]; · iexact Ha1
    iexact Ha2
  ihave Hr := (Entails.of_eq (parts c (got m c)).symm) $$ [Hr0 Hr1 Hr2 Hr3 Hr4 Hr5 Hr6]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iempintro
  rw [wp_ret]
  imodintro
  isplitl [Ha Hr]
  · isplitl [Ha]; · iexact Ha
    iexact Hr
  isplitl [Hp0 Hp1 Hp2 Hp3 Hp4 Hp5 Hp6 Hp7 Hp8 Hp9 Hp10 Hp11 Hp12]
  · isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    isplitl [Hp6]; · iexact Hp6
    isplitl [Hp7]; · iexact Hp7
    isplitl [Hp8]; · iexact Hp8
    isplitl [Hp9]; · iexact Hp9
    isplitl [Hp10]; · iexact Hp10
    isplitl [Hp11]; · iexact Hp11
    isplitl [Hp12]; · iexact Hp12
    iempintro
  iexact Ho

theorem ownSems : Pipeline.OwnSemFacts cfg0.spec sems := by decide

/-- Every device ends with every chip's block in its result, its operand as it was, and every semaphore at zero. -/
theorem run_main : θ_run (defs (F := F)) (onTc (τ := τ) main) ⟨m, fun _ => 0, ρ⟩
    fun r => (∀ c : Dev nD, r.2.mem (res c) = got m c ∧ r.2.mem (arg c) = m (arg c)) ∧ r.2.sem = fun _ => 0 :=
  run (proto m) cfgs cellOf_inj ownSems rfl N_0 winFacts0.to₀ (fun c => scopedRest0_eq c) defs₀ m ρ main (fun c => (main_chain c).trans rfl)
    [0, 1, 2, 3, 4, 5, 6, 7, 8, 9, 10, 11, 12] [6, 7, 8, 9, 10, 11] (by decide) (by decide) (before m) (after m) (bufs m) (fun c t κ => body m c κ)
    (fun c s => s.mem (res c) = got m c ∧ s.mem (arg c) = m (arg c)) (fun c s' => read_two (arg c) (res c) _ _ s') (by decide)

end Cert.Talk.Gather

end
-- ==== Proof.Talk.GatherValue.lean ====
/-
# What the gathering of the chips' weights computes

Every device ends with the reference's result: the four chips' blocks, in order.
-/
module

public import proofs.«01_k».proof.Proof.Talk.Gather
public import proofs.«01_k».proof.Proof.Talk.Index
public import proofs.«01_k».proof.Proof.Gen.GatherRefIdeal
public import proofs.«01_k».proof.Proof.Gen.GatherRefIdeal.Run

@[expose] public section

set_option Elab.async false

noncomputable section

namespace Cert.Talk.Gather

open Idealize.ShloMosaic Idealize.ShloMosaic.ValueIdx
open Idealize.ShloMosaic.TcCoe
open Idealize.SL.Sem
open Cert.GatherRefIdeal Cert.GatherRefIdeal.Gen

section Reference
variable {α : Type} (X : S49280x1024.Idx → α)

/-- The reference's result. -/
def out : S4x12320x1024.Idx → α := shapeCast _ X shapeCasts_S49280x1024_S4x12320x1024

theorem out_apply (q : Fin 4) (r : Fin 12320) (l : Fin 1024) (w : Fin 49280) (hw : w.val = q.val * 12320 + r.val) : out X (ix3 q r l) = X (ix2 w l) := by
  refine shapeCast_apply _ _ _ _ ?_
  rw [Shape.rowMajor_val_two, Shape.rowMajor_val_three]
  show w.val * 1024 + l.val = (q.val * 12320 + r.val) * 1024 + l.val
  rw [hw]

end Reference

section Blocks
open Cert.GatherIdeal (S12320x1024)
variable {F : FTy → Type} [FloatOps F]

theorem owner_chip (c : Dev Cert.GatherIdeal.nD) (q : Fin 4) (r : Fin 12320) : (owner c q r).val / 2 = q.val := by
  have h : ∀ (c : Dev Cert.GatherIdeal.nD) (q : Fin 4) (s : Fin 2) (hs : q.val * 2 + s.val < 8), (if q = chip c then c else (⟨q.val * 2 + s.val, hs⟩ : Fin 8)).val / 2 = q.val := by decide
  exact h c q (side r) _

theorem within {q r : ℕ} (hq : q < 4) (hr : r < 12320) : q * 12320 + r < 49280 := by omega

/-- **Every device ends with the reference's result**, the devices' operands being their chips' blocks of the reference's. -/
theorem value (m : (ℓ : Loc Cert.GatherIdeal.nD Cert.GatherIdeal.τ Cert.GatherIdeal.sig) → Buf (Elt F) ℓ)
    (X : S49280x1024.Idx → Elt F .bf16)
    (h4 : Layout.TilesN ⟨2, ![12320, 1024]⟩ ⟨2, ![49280, 1024]⟩ fun x => Layout.cutSize [2, 2, 2] ((![[0, 1], []] : Fin 2 → List ℕ) x))
    (hX : ∀ c : Fin 8, m (arg c) = Layout.blockN ⟨2, ![12320, 1024]⟩ ⟨2, ![49280, 1024]⟩ (Layout.meshBlock [2, 2, 2] ![[0, 1], []] c) X h4) (c : Fin 8) :
    got m c = out X := by
  funext i
  obtain ⟨q, r, l, rfl⟩ : ∃ (q : Fin 4) (r : Fin 12320) (l : Fin 1024), i = ix3 q r l := ⟨i 0, i 1, i 2, eq_ix3 i⟩
  have hw := within q.isLt r.isLt
  have hd : (owner c q r).val / 2 * 12320 + r.val < 49280 := by rw [owner_chip]; exact hw
  refine Eq.trans ?_ (out_apply X q r l ⟨q.val * 12320 + r.val, hw⟩ rfl).symm
  refine (congrFun (hX (owner c q r)) (ix2 r l)).trans ((block_by_chip (a := 12320) (A := 49280) (b := 1024) X (owner c q r) h4 r l hd).trans ?_)
  exact congrArg (fun w => X (ix2 w l)) (Fin.ext (congrArg (fun n => n * 12320 + r.val) (owner_chip c q r)))

/-- Both programs run, and every device's result is the reference's, over any floats. -/
theorem agree (m : (ℓ : Loc Cert.GatherIdeal.nD Cert.GatherIdeal.τ Cert.GatherIdeal.sig) → Buf (Elt F) ℓ) (g : Dev Cert.GatherIdeal.nD → PrngReg)
    (m' : (ℓ : Loc nD τ sig) → Buf (Elt F) ℓ) (g' : Dev nD → PrngReg)
    (hX : ∀ c : Fin 8, m (arg c) = Layout.blockN ⟨2, ![12320, 1024]⟩ ⟨2, ![49280, 1024]⟩ (Layout.meshBlock [2, 2, 2] ![[0, 1], []] c)
      (m' (((0 : Dev nD).tc : Thread nD τ).loc main_arg0))) :
    ∃ v0 : Buf (Elt F) (((0 : Dev nD).tc : Thread nD τ).loc main_v0),
      θ_run (Cert.GatherIdeal.defs (F := F)) (onTc (τ := Cert.GatherIdeal.τ) (Cert.GatherIdeal.main (F := F))) ⟨m, fun _ => 0, g⟩ (fun r => ∀ c : Fin 8,
          r.2.mem (res c) = v0 ∧ r.2.mem (arg c) = m (arg c))
      ∧ θ_run (defs (F := F)) (onTc (τ := τ) (main (F := F))) ⟨m', fun _ => 0, g'⟩ (fun r =>
          r.2.mem (((0 : Dev nD).tc : Thread nD τ).loc main_v0) = v0
          ∧ r.2.mem (((0 : Dev nD).tc : Thread nD τ).loc main_arg0) = m' (((0 : Dev nD).tc : Thread nD τ).loc main_arg0)) := by
  refine ⟨out (m' (((0 : Dev nD).tc : Thread nD τ).loc main_arg0)), ?_, ?_⟩
  · refine (θ_run _ _ _).mono (fun r h c => ⟨?_, (h.1 c).2⟩) (run_main m g)
    exact (h.1 c).1.trans (value m _ _ hX c)
  · exact (θ_run _ _ _).mono (fun r h => h 0) (Cert.GatherRefIdeal.Value.run (F := F) m' g')

end Blocks

end Cert.Talk.Gather

end
-- ==== Proof.Talk.Step.lean ====
/-
# One AdamW step of one number

What the update computes of one weight, its gradient and its two moments, and the facts about whole arrays of them: a
reshaped update is the update of the reshaped arrays, and the reference's lines are the same update over the extended reals.
-/
module

public import Idealize.ShloMosaic.Lib.Pipeline.Value
public import Idealize.ShloMosaic.Lib.Pipeline.FrameSuffix
public import Idealize.ShloMosaic.Lib.StableHlo.Run
public import Idealize.ShloMosaic.PureOps.Ideal.Laws

@[expose] public section

set_option Elab.async false

noncomputable section

namespace Cert.Talk

open Idealize.ShloMosaic

variable {F : FTy → Type} [FloatOps F]

/-- The new first moment. -/
def newM (g m : F .f32) : F .f32 :=
  FloatOps.addf (FloatOps.mulf (Scalar.ofBits .f32 0x3F666666#32) m) (FloatOps.mulf (Scalar.ofBits .f32 0x3DCCCCCD#32) g)

/-- The new second moment. -/
def newV (g v : F .f32) : F .f32 :=
  FloatOps.addf (FloatOps.mulf (Scalar.ofBits .f32 0x3F7FBE77#32) v) (FloatOps.mulf (Scalar.ofBits .f32 0x3A83126F#32) (FloatOps.mulf g g))

/-- The change of the weight, by the vector unit's division and square root. -/
def delta (w g m v : F .f32) : F .f32 :=
  FloatOps.mulf (Scalar.ofBits .f32 0xBA83126F#32) (FloatOps.addf
    (FloatOps.divf (FloatOps.divf (newM g m) (Scalar.ofBits .f32 0x3F26BD02#32))
      (FloatOps.addf (FloatOps.sqrt (FloatOps.divf (newV g v) (Scalar.ofBits .f32 0x3C231ACC#32))) (Scalar.ofBits .f32 0x322BCC77#32)))
    (FloatOps.mulf (Scalar.ofBits .f32 0x3C23D70A#32) w))

/-- The three arrays are the update, number by number, of the weights `w`, the gradient `g` and the moments `m` and `v`. -/
def Steps {s : Shape} (w g m v dw m' v' : s.Idx → F .f32) : Prop :=
  dw = (fun i => delta (w i) (g i) (m i) (v i)) ∧ m' = (fun i => newM (g i) (m i)) ∧ v' = fun i => newV (g i) (v i)

/-- Reshaping four arrays, updating them, and reshaping back is updating them. -/
theorem Steps.back {s t : Shape} {w g m v : s.Idx → F .f32} {dw m' v' : t.Idx → F .f32} (h : s.ShapeCasts t) (h' : t.ShapeCasts s)
    (k : Steps (shapeCast t w h) (shapeCast t g h) (shapeCast t m h) (shapeCast t v h) dw m' v') :
    Steps w g m v (shapeCast s dw h') (shapeCast s m' h') (shapeCast s v' h') := by
  obtain ⟨rfl, rfl, rfl⟩ := k
  have e : ∀ (x : s.Idx → F .f32) (i : s.Idx), shapeCast t x h (Shape.reshapeEquiv h' i) = x i :=
    fun x i => congrFun (shapeCast_shapeCast x h h') i
  exact ⟨funext fun i => congr (congr (congr (congrArg delta (e w i)) (e g i)) (e m i)) (e v i),
    funext fun i => congr (congrArg newM (e g i)) (e m i), funext fun i => congr (congrArg newV (e g i)) (e v i)⟩

/-- Two updates of the same arrays are equal. -/
theorem Steps.unique {s : Shape} {w g m v dw m' v' dw' m'' v'' : s.Idx → F .f32} (k : Steps w g m v dw m' v') (k' : Steps w g m v dw' m'' v'') :
    dw = dw' ∧ m' = m'' ∧ v' = v'' := ⟨k.1.trans k'.1.symm, k.2.1.trans k'.2.1.symm, k.2.2.trans k'.2.2.symm⟩

end Cert.Talk

end
-- ==== Proof.Talk.StepWAda.lean ====
/-
# The update of `w_ada`

The blocked call updates every number of one device's part of the weight as the reference does.
-/
module

public import proofs.«01_k».proof.Defs
public import proofs.«01_k».proof.Proof.Talk.Step
public import proofs.«01_k».proof.Proof.Gen.AdamwWAdaIdeal.Frame
public import proofs.«01_k».proof.Proof.Gen.AdamwWAdaRefIdeal.Run
public import Idealize.ShloMosaic.Lib.Pipeline.ValueKit.Geometry
public import Idealize.ShloMosaic.Lib.Pipeline.ValueKit.Acc

@[expose] public section

set_option Elab.async false

noncomputable section

namespace Cert.Talk.WAda

open Cert.AdamwWAdaIdeal Cert.AdamwWAdaIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The call's three arrays end as the update of the four it reads: each block is the update of theirs. -/
theorem arrays (c : Dev nD) : Steps (s := S4096x1536) (V m c main_v0) (V m c main_v1) (V m c main_v2) (V m c main_v3)
    ((dats m 0 c).arrAt 4 cfg0.N) ((dats m 0 c).arrAt 5 cfg0.N) ((dats m 0 c).arrAt 6 cfg0.N) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;>
  · blk_simp
    first | rw [after0_4] | rw [after0_5] | rw [after0_6]
    frame_out
    simp only [k0_pay4, k0_pay3, k0_pay2, k0_pay1, shapeCast_self]
    blk_simp [iblk]
    rfl

/-- The results are the call's arrays in the arguments' shape, and so the update of the arguments. -/
theorem results (c : Dev nD) : let W := Pipeline.afterTail₀ cfgs (dats m) 0 (V0 m) [hostOps1] c
    let a := fun b : Ref sig .tc => m ((c.tc : Thread nD τ).loc b)
    Steps (s := S4x1024x1536) (a main_arg0) (a main_arg1) (a main_arg2) (a main_arg3) (W main_v5) (W main_v6) (W main_v7) := by
  intro W a
  have h := Pipeline.withArrays_arr cfg0.spec (by decide) c (V0 m c) (fun w => (dats m 0 c).arrAt w cfg0.N)
  obtain ⟨b0, b1, b2, b3⟩ : V m c main_v0 = shapeCast S4096x1536 (a main_arg0) shapeCasts_S4x1024x1536_S4096x1536
      ∧ V m c main_v1 = shapeCast S4096x1536 (a main_arg1) shapeCasts_S4x1024x1536_S4096x1536
      ∧ V m c main_v2 = shapeCast S4096x1536 (a main_arg2) shapeCasts_S4x1024x1536_S4096x1536
      ∧ V m c main_v3 = shapeCast S4096x1536 (a main_arg3) shapeCasts_S4x1024x1536_S4096x1536 := by
    refine ⟨?_, ?_, ?_, ?_⟩ <;> (show StableHlo.after hostOps0 _ (Proc.devRef .tc _) = _; after_results; rfl)
  have k := arrays m c
  rw [b0, b1, b2, b3, ← h 4, ← h 5, ← h 6] at k
  convert k.back shapeCasts_S4x1024x1536_S4096x1536 shapeCasts_S4096x1536_S4x1024x1536 using 1 <;>
    (show StableHlo.after hostOps1 (Pipeline.withArrays _ _ _ _) (Proc.devRef .tc _) = _
     generalize Pipeline.withArrays _ _ _ _ = W
     after_results
     rfl)

/-- Kernel and reference end with the same update of the same arguments. -/
theorem agree : Cert.algebraic_AdamwWAdaIdeal_AdamwWAdaRefIdeal := fun m ρ m' ρ' _ h =>
  ⟨_, _, _, (θ_run defs _ _).mono (fun r h c => ⟨(h.1 c).2 main_v5 (Pipeline.mem_restRefs_of main_v5 (by decide) (by decide)),
      (h.1 c).2 main_v6 (Pipeline.mem_restRefs_of main_v6 (by decide) (by decide)),
      (h.1 c).2 main_v7 (Pipeline.mem_restRefs_of main_v7 (by decide) (by decide)), h.2.1 c⟩)
      (θ_run_and (run_main (F := Ideal) m ρ) (frame (F := Ideal) m ρ)),
    (θ_run Cert.AdamwWAdaRefIdeal.defs _ _).mono (fun r k c => by
      obtain ⟨kd, km, kv, k⟩ := k c
      obtain ⟨e0, e1, e2, e3⟩ := h c
      rw [e0, e1, e2, e3] at kd
      rw [e1, e2] at km
      rw [e1, e3] at kv
      obtain ⟨d, n, u⟩ := Steps.unique ⟨kd, km, kv⟩ (results m c)
      exact ⟨d, n, u, k⟩)
      (Cert.AdamwWAdaRefIdeal.Value.run (F := Ideal) m' ρ')⟩

end Cert.Talk.WAda

end
-- ==== Proof.Talk.StepBAda.lean ====
/-
# The update of `b_ada`

The blocked call updates every number of one device's part of the weight as the reference does.
-/
module

public import proofs.«01_k».proof.Defs
public import proofs.«01_k».proof.Proof.Talk.Step
public import proofs.«01_k».proof.Proof.Gen.AdamwBAdaIdeal.Frame
public import proofs.«01_k».proof.Proof.Gen.AdamwBAdaRefIdeal.Run
public import Idealize.ShloMosaic.Lib.Pipeline.ValueKit.Geometry
public import Idealize.ShloMosaic.Lib.Pipeline.ValueKit.Acc

@[expose] public section

set_option Elab.async false

noncomputable section

namespace Cert.Talk.BAda

open Cert.AdamwBAdaIdeal Cert.AdamwBAdaIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The call's three arrays end as the update of the four it reads: each block is the update of theirs. -/
theorem arrays (c : Dev nD) : Steps (s := S4x6144) (V m c main_arg0) (V m c main_arg1) (V m c main_arg2) (V m c main_arg3)
    ((dats m 0 c).arrAt 4 cfg0.N) ((dats m 0 c).arrAt 5 cfg0.N) ((dats m 0 c).arrAt 6 cfg0.N) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;>
  · blk_simp
    first | rw [after0_4] | rw [after0_5] | rw [after0_6]
    frame_out
    simp only [k0_pay3, k0_pay2, k0_pay1]
    blk_simp [iblk]
    rfl

/-- The call reads the arguments themselves. -/
theorem results (c : Dev nD) : let a := fun b : Ref sig .tc => m ((c.tc : Thread nD τ).loc b)
    Steps (s := S4x6144) (a main_arg0) (a main_arg1) (a main_arg2) (a main_arg3)
      ((dats m 0 c).arrAt 4 cfg0.N) ((dats m 0 c).arrAt 5 cfg0.N) ((dats m 0 c).arrAt 6 cfg0.N) := by
  have k := arrays m c
  rw [V_main_arg0, V_main_arg1, V_main_arg2, V_main_arg3] at k
  exact k

/-- Kernel and reference end with the same update of the same arguments. -/
theorem agree : Cert.algebraic_AdamwBAdaIdeal_AdamwBAdaRefIdeal := fun m ρ m' ρ' _ h =>
  ⟨_, _, _, (θ_run defs _ _).mono (fun r h c => ⟨(h.1 c).1 4,
      (h.1 c).1 5,
      (h.1 c).1 6, h.2.1 c⟩)
      (θ_run_and (run_main (F := Ideal) m ρ) (frame (F := Ideal) m ρ)),
    (θ_run Cert.AdamwBAdaRefIdeal.defs _ _).mono (fun r k c => by
      obtain ⟨kd, km, kv, k⟩ := k c
      obtain ⟨e0, e1, e2, e3⟩ := h c
      rw [e0, e1, e2, e3] at kd
      rw [e1, e2] at km
      rw [e1, e3] at kv
      obtain ⟨d, n, u⟩ := Steps.unique ⟨kd, km, kv⟩ (results m c)
      exact ⟨d, n, u, k⟩)
      (Cert.AdamwBAdaRefIdeal.Value.run (F := Ideal) m' ρ')⟩

end Cert.Talk.BAda

end
-- ==== Proof.Talk.StepLnG.lean ====
/-
# The update of `ln_g`

The blocked call updates every number of one device's part of the weight as the reference does.
-/
module

public import proofs.«01_k».proof.Defs
public import proofs.«01_k».proof.Proof.Talk.Step
public import proofs.«01_k».proof.Proof.Gen.AdamwLnGIdeal.Frame
public import proofs.«01_k».proof.Proof.Gen.AdamwLnGRefIdeal.Run
public import Idealize.ShloMosaic.Lib.Pipeline.ValueKit.Geometry
public import Idealize.ShloMosaic.Lib.Pipeline.ValueKit.Acc

@[expose] public section

set_option Elab.async false

noncomputable section

namespace Cert.Talk.LnG

open Cert.AdamwLnGIdeal Cert.AdamwLnGIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The call's three arrays end as the update of the four it reads: each block is the update of theirs. -/
theorem arrays (c : Dev nD) : Steps (s := S8x256) (V m c main_v0) (V m c main_v1) (V m c main_v2) (V m c main_v3)
    ((dats m 0 c).arrAt 4 cfg0.N) ((dats m 0 c).arrAt 5 cfg0.N) ((dats m 0 c).arrAt 6 cfg0.N) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;>
  · blk_simp
    first | rw [after0_4] | rw [after0_5] | rw [after0_6]
    frame_out
    simp only [k0_pay4, k0_pay3, k0_pay2, k0_pay1, shapeCast_self]
    blk_simp [iblk]
    rfl

/-- The results are the call's arrays in the arguments' shape, and so the update of the arguments. -/
theorem results (c : Dev nD) : let W := Pipeline.afterTail₀ cfgs (dats m) 0 (V0 m) [hostOps1] c
    let a := fun b : Ref sig .tc => m ((c.tc : Thread nD τ).loc b)
    Steps (s := S4x2x256) (a main_arg0) (a main_arg1) (a main_arg2) (a main_arg3) (W main_v5) (W main_v6) (W main_v7) := by
  intro W a
  have h := Pipeline.withArrays_arr cfg0.spec (by decide) c (V0 m c) (fun w => (dats m 0 c).arrAt w cfg0.N)
  obtain ⟨b0, b1, b2, b3⟩ : V m c main_v0 = shapeCast S8x256 (a main_arg0) shapeCasts_S4x2x256_S8x256
      ∧ V m c main_v1 = shapeCast S8x256 (a main_arg1) shapeCasts_S4x2x256_S8x256
      ∧ V m c main_v2 = shapeCast S8x256 (a main_arg2) shapeCasts_S4x2x256_S8x256
      ∧ V m c main_v3 = shapeCast S8x256 (a main_arg3) shapeCasts_S4x2x256_S8x256 := by
    refine ⟨?_, ?_, ?_, ?_⟩ <;> (show StableHlo.after hostOps0 _ (Proc.devRef .tc _) = _; after_results; rfl)
  have k := arrays m c
  rw [b0, b1, b2, b3, ← h 4, ← h 5, ← h 6] at k
  convert k.back shapeCasts_S4x2x256_S8x256 shapeCasts_S8x256_S4x2x256 using 1 <;>
    (show StableHlo.after hostOps1 (Pipeline.withArrays _ _ _ _) (Proc.devRef .tc _) = _
     generalize Pipeline.withArrays _ _ _ _ = W
     after_results
     rfl)

/-- Kernel and reference end with the same update of the same arguments. -/
theorem agree : Cert.algebraic_AdamwLnGIdeal_AdamwLnGRefIdeal := fun m ρ m' ρ' _ h =>
  ⟨_, _, _, (θ_run defs _ _).mono (fun r h c => ⟨(h.1 c).2 main_v5 (Pipeline.mem_restRefs_of main_v5 (by decide) (by decide)),
      (h.1 c).2 main_v6 (Pipeline.mem_restRefs_of main_v6 (by decide) (by decide)),
      (h.1 c).2 main_v7 (Pipeline.mem_restRefs_of main_v7 (by decide) (by decide)), h.2.1 c⟩)
      (θ_run_and (run_main (F := Ideal) m ρ) (frame (F := Ideal) m ρ)),
    (θ_run Cert.AdamwLnGRefIdeal.defs _ _).mono (fun r k c => by
      obtain ⟨kd, km, kv, k⟩ := k c
      obtain ⟨e0, e1, e2, e3⟩ := h c
      rw [e0, e1, e2, e3] at kd
      rw [e1, e2] at km
      rw [e1, e3] at kv
      obtain ⟨d, n, u⟩ := Steps.unique ⟨kd, km, kv⟩ (results m c)
      exact ⟨d, n, u, k⟩)
      (Cert.AdamwLnGRefIdeal.Value.run (F := Ideal) m' ρ')⟩

end Cert.Talk.LnG

end
-- ==== Proof.Talk.StepGlaWIn.lean ====
/-
# The update of `gla_w_in`

The blocked call updates every number of one device's part of the weight as the reference does.
-/
module

public import proofs.«01_k».proof.Defs
public import proofs.«01_k».proof.Proof.Talk.Step
public import proofs.«01_k».proof.Proof.Gen.AdamwGlaWInIdeal.Frame
public import proofs.«01_k».proof.Proof.Gen.AdamwGlaWInRefIdeal.Run
public import Idealize.ShloMosaic.Lib.Pipeline.ValueKit.Geometry
public import Idealize.ShloMosaic.Lib.Pipeline.ValueKit.Acc

@[expose] public section

set_option Elab.async false

noncomputable section

namespace Cert.Talk.GlaWIn

open Cert.AdamwGlaWInIdeal Cert.AdamwGlaWInIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The call's three arrays end as the update of the four it reads: each block is the update of theirs. -/
theorem arrays (c : Dev nD) : Steps (s := S2048x772) (V m c main_v0) (V m c main_v1) (V m c main_v2) (V m c main_v3)
    ((dats m 0 c).arrAt 4 cfg0.N) ((dats m 0 c).arrAt 5 cfg0.N) ((dats m 0 c).arrAt 6 cfg0.N) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;>
  · blk_simp
    first | rw [after0_4] | rw [after0_5] | rw [after0_6]
    frame_out
    simp only [k0_pay4, k0_pay3, k0_pay2, k0_pay1, shapeCast_self]
    blk_simp [iblk]
    rfl

/-- The results are the call's arrays in the arguments' shape, and so the update of the arguments. -/
theorem results (c : Dev nD) : let W := Pipeline.afterTail₀ cfgs (dats m) 0 (V0 m) [hostOps1] c
    let a := fun b : Ref sig .tc => m ((c.tc : Thread nD τ).loc b)
    Steps (s := S2x1024x772) (a main_arg0) (a main_arg1) (a main_arg2) (a main_arg3) (W main_v5) (W main_v6) (W main_v7) := by
  intro W a
  have h := Pipeline.withArrays_arr cfg0.spec (by decide) c (V0 m c) (fun w => (dats m 0 c).arrAt w cfg0.N)
  obtain ⟨b0, b1, b2, b3⟩ : V m c main_v0 = shapeCast S2048x772 (a main_arg0) shapeCasts_S2x1024x772_S2048x772
      ∧ V m c main_v1 = shapeCast S2048x772 (a main_arg1) shapeCasts_S2x1024x772_S2048x772
      ∧ V m c main_v2 = shapeCast S2048x772 (a main_arg2) shapeCasts_S2x1024x772_S2048x772
      ∧ V m c main_v3 = shapeCast S2048x772 (a main_arg3) shapeCasts_S2x1024x772_S2048x772 := by
    refine ⟨?_, ?_, ?_, ?_⟩ <;> (show StableHlo.after hostOps0 _ (Proc.devRef .tc _) = _; after_results; rfl)
  have k := arrays m c
  rw [b0, b1, b2, b3, ← h 4, ← h 5, ← h 6] at k
  convert k.back shapeCasts_S2x1024x772_S2048x772 shapeCasts_S2048x772_S2x1024x772 using 1 <;>
    (show StableHlo.after hostOps1 (Pipeline.withArrays _ _ _ _) (Proc.devRef .tc _) = _
     generalize Pipeline.withArrays _ _ _ _ = W
     after_results
     rfl)

/-- Kernel and reference end with the same update of the same arguments. -/
theorem agree : Cert.algebraic_AdamwGlaWInIdeal_AdamwGlaWInRefIdeal := fun m ρ m' ρ' _ h =>
  ⟨_, _, _, (θ_run defs _ _).mono (fun r h c => ⟨(h.1 c).2 main_v5 (Pipeline.mem_restRefs_of main_v5 (by decide) (by decide)),
      (h.1 c).2 main_v6 (Pipeline.mem_restRefs_of main_v6 (by decide) (by decide)),
      (h.1 c).2 main_v7 (Pipeline.mem_restRefs_of main_v7 (by decide) (by decide)), h.2.1 c⟩)
      (θ_run_and (run_main (F := Ideal) m ρ) (frame (F := Ideal) m ρ)),
    (θ_run Cert.AdamwGlaWInRefIdeal.defs _ _).mono (fun r k c => by
      obtain ⟨kd, km, kv, k⟩ := k c
      obtain ⟨e0, e1, e2, e3⟩ := h c
      rw [e0, e1, e2, e3] at kd
      rw [e1, e2] at km
      rw [e1, e3] at kv
      obtain ⟨d, n, u⟩ := Steps.unique ⟨kd, km, kv⟩ (results m c)
      exact ⟨d, n, u, k⟩)
      (Cert.AdamwGlaWInRefIdeal.Value.run (F := Ideal) m' ρ')⟩

end Cert.Talk.GlaWIn

end
-- ==== Proof.Talk.StepGlaWGk2.lean ====
/-
# The update of `gla_w_gk2`

The blocked call updates every number of one device's part of the weight as the reference does.
-/
module

public import proofs.«01_k».proof.Defs
public import proofs.«01_k».proof.Proof.Talk.Step
public import proofs.«01_k».proof.Proof.Gen.AdamwGlaWGk2Ideal.Frame
public import proofs.«01_k».proof.Proof.Gen.AdamwGlaWGk2RefIdeal.Run
public import Idealize.ShloMosaic.Lib.Pipeline.ValueKit.Geometry
public import Idealize.ShloMosaic.Lib.Pipeline.ValueKit.Acc

@[expose] public section

set_option Elab.async false

noncomputable section

namespace Cert.Talk.GlaWGk2

open Cert.AdamwGlaWGk2Ideal Cert.AdamwGlaWGk2Ideal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The call's three arrays end as the update of the four it reads: each block is the update of theirs. -/
theorem arrays (c : Dev nD) : Steps (s := S32x128) (V m c main_v0) (V m c main_v1) (V m c main_v2) (V m c main_v3)
    ((dats m 0 c).arrAt 4 cfg0.N) ((dats m 0 c).arrAt 5 cfg0.N) ((dats m 0 c).arrAt 6 cfg0.N) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;>
  · blk_simp
    first | rw [after0_4] | rw [after0_5] | rw [after0_6]
    frame_out
    simp only [k0_pay4, k0_pay3, k0_pay2, k0_pay1, shapeCast_self]
    blk_simp [iblk]
    rfl

/-- The results are the call's arrays in the arguments' shape, and so the update of the arguments. -/
theorem results (c : Dev nD) : let W := Pipeline.afterTail₀ cfgs (dats m) 0 (V0 m) [hostOps1] c
    let a := fun b : Ref sig .tc => m ((c.tc : Thread nD τ).loc b)
    Steps (s := S2x16x128) (a main_arg0) (a main_arg1) (a main_arg2) (a main_arg3) (W main_v5) (W main_v6) (W main_v7) := by
  intro W a
  have h := Pipeline.withArrays_arr cfg0.spec (by decide) c (V0 m c) (fun w => (dats m 0 c).arrAt w cfg0.N)
  obtain ⟨b0, b1, b2, b3⟩ : V m c main_v0 = shapeCast S32x128 (a main_arg0) shapeCasts_S2x16x128_S32x128
      ∧ V m c main_v1 = shapeCast S32x128 (a main_arg1) shapeCasts_S2x16x128_S32x128
      ∧ V m c main_v2 = shapeCast S32x128 (a main_arg2) shapeCasts_S2x16x128_S32x128
      ∧ V m c main_v3 = shapeCast S32x128 (a main_arg3) shapeCasts_S2x16x128_S32x128 := by
    refine ⟨?_, ?_, ?_, ?_⟩ <;> (show StableHlo.after hostOps0 _ (Proc.devRef .tc _) = _; after_results; rfl)
  have k := arrays m c
  rw [b0, b1, b2, b3, ← h 4, ← h 5, ← h 6] at k
  convert k.back shapeCasts_S2x16x128_S32x128 shapeCasts_S32x128_S2x16x128 using 1 <;>
    (show StableHlo.after hostOps1 (Pipeline.withArrays _ _ _ _) (Proc.devRef .tc _) = _
     generalize Pipeline.withArrays _ _ _ _ = W
     after_results
     rfl)

/-- Kernel and reference end with the same update of the same arguments. -/
theorem agree : Cert.algebraic_AdamwGlaWGk2Ideal_AdamwGlaWGk2RefIdeal := fun m ρ m' ρ' _ h =>
  ⟨_, _, _, (θ_run defs _ _).mono (fun r h c => ⟨(h.1 c).2 main_v5 (Pipeline.mem_restRefs_of main_v5 (by decide) (by decide)),
      (h.1 c).2 main_v6 (Pipeline.mem_restRefs_of main_v6 (by decide) (by decide)),
      (h.1 c).2 main_v7 (Pipeline.mem_restRefs_of main_v7 (by decide) (by decide)), h.2.1 c⟩)
      (θ_run_and (run_main (F := Ideal) m ρ) (frame (F := Ideal) m ρ)),
    (θ_run Cert.AdamwGlaWGk2RefIdeal.defs _ _).mono (fun r k c => by
      obtain ⟨kd, km, kv, k⟩ := k c
      obtain ⟨e0, e1, e2, e3⟩ := h c
      rw [e0, e1, e2, e3] at kd
      rw [e1, e2] at km
      rw [e1, e3] at kv
      obtain ⟨d, n, u⟩ := Steps.unique ⟨kd, km, kv⟩ (results m c)
      exact ⟨d, n, u, k⟩)
      (Cert.AdamwGlaWGk2RefIdeal.Value.run (F := Ideal) m' ρ')⟩

end Cert.Talk.GlaWGk2

end
-- ==== Proof.Talk.StepGlaBGk.lean ====
/-
# The update of `gla_b_gk`

The blocked call updates every number of one device's part of the weight as the reference does.
-/
module

public import proofs.«01_k».proof.Defs
public import proofs.«01_k».proof.Proof.Talk.Step
public import proofs.«01_k».proof.Proof.Gen.AdamwGlaBGkIdeal.Frame
public import proofs.«01_k».proof.Proof.Gen.AdamwGlaBGkRefIdeal.Run
public import Idealize.ShloMosaic.Lib.Pipeline.ValueKit.Geometry
public import Idealize.ShloMosaic.Lib.Pipeline.ValueKit.Acc

@[expose] public section

set_option Elab.async false

noncomputable section

namespace Cert.Talk.GlaBGk

open Cert.AdamwGlaBGkIdeal Cert.AdamwGlaBGkIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The call's three arrays end as the update of the four it reads: each block is the update of theirs. -/
theorem arrays (c : Dev nD) : Steps (s := S2x512) (V m c main_arg0) (V m c main_arg1) (V m c main_arg2) (V m c main_arg3)
    ((dats m 0 c).arrAt 4 cfg0.N) ((dats m 0 c).arrAt 5 cfg0.N) ((dats m 0 c).arrAt 6 cfg0.N) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;>
  · blk_simp
    first | rw [after0_4] | rw [after0_5] | rw [after0_6]
    frame_out
    simp only [k0_pay3, k0_pay2, k0_pay1]
    blk_simp [iblk]
    rfl

/-- The call reads the arguments themselves. -/
theorem results (c : Dev nD) : let a := fun b : Ref sig .tc => m ((c.tc : Thread nD τ).loc b)
    Steps (s := S2x512) (a main_arg0) (a main_arg1) (a main_arg2) (a main_arg3)
      ((dats m 0 c).arrAt 4 cfg0.N) ((dats m 0 c).arrAt 5 cfg0.N) ((dats m 0 c).arrAt 6 cfg0.N) := by
  have k := arrays m c
  rw [V_main_arg0, V_main_arg1, V_main_arg2, V_main_arg3] at k
  exact k

/-- Kernel and reference end with the same update of the same arguments. -/
theorem agree : Cert.algebraic_AdamwGlaBGkIdeal_AdamwGlaBGkRefIdeal := fun m ρ m' ρ' _ h =>
  ⟨_, _, _, (θ_run defs _ _).mono (fun r h c => ⟨(h.1 c).1 4,
      (h.1 c).1 5,
      (h.1 c).1 6, h.2.1 c⟩)
      (θ_run_and (run_main (F := Ideal) m ρ) (frame (F := Ideal) m ρ)),
    (θ_run Cert.AdamwGlaBGkRefIdeal.defs _ _).mono (fun r k c => by
      obtain ⟨kd, km, kv, k⟩ := k c
      obtain ⟨e0, e1, e2, e3⟩ := h c
      rw [e0, e1, e2, e3] at kd
      rw [e1, e2] at km
      rw [e1, e3] at kv
      obtain ⟨d, n, u⟩ := Steps.unique ⟨kd, km, kv⟩ (results m c)
      exact ⟨d, n, u, k⟩)
      (Cert.AdamwGlaBGkRefIdeal.Value.run (F := Ideal) m' ρ')⟩

end Cert.Talk.GlaBGk

end
-- ==== Proof.Talk.StepGlaGNorm.lean ====
/-
# The update of `gla_g_norm`

The blocked call updates every number of one device's part of the weight as the reference does.
-/
module

public import proofs.«01_k».proof.Defs
public import proofs.«01_k».proof.Proof.Talk.Step
public import proofs.«01_k».proof.Proof.Gen.AdamwGlaGNormIdeal.Frame
public import proofs.«01_k».proof.Proof.Gen.AdamwGlaGNormRefIdeal.Run
public import Idealize.ShloMosaic.Lib.Pipeline.ValueKit.Geometry
public import Idealize.ShloMosaic.Lib.Pipeline.ValueKit.Acc

@[expose] public section

set_option Elab.async false

noncomputable section

namespace Cert.Talk.GlaGNorm

open Cert.AdamwGlaGNormIdeal Cert.AdamwGlaGNormIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The call's three arrays end as the update of the four it reads: each block is the update of theirs. -/
theorem arrays (c : Dev nD) : Steps (s := S8x64) (V m c main_v0) (V m c main_v1) (V m c main_v2) (V m c main_v3)
    ((dats m 0 c).arrAt 4 cfg0.N) ((dats m 0 c).arrAt 5 cfg0.N) ((dats m 0 c).arrAt 6 cfg0.N) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;>
  · blk_simp
    first | rw [after0_4] | rw [after0_5] | rw [after0_6]
    frame_out
    simp only [k0_pay4, k0_pay3, k0_pay2, k0_pay1, shapeCast_self]
    blk_simp [iblk]
    rfl

/-- The results are the call's arrays in the arguments' shape, and so the update of the arguments. -/
theorem results (c : Dev nD) : let W := Pipeline.afterTail₀ cfgs (dats m) 0 (V0 m) [hostOps1] c
    let a := fun b : Ref sig .tc => m ((c.tc : Thread nD τ).loc b)
    Steps (s := S2x4x64) (a main_arg0) (a main_arg1) (a main_arg2) (a main_arg3) (W main_v5) (W main_v6) (W main_v7) := by
  intro W a
  have h := Pipeline.withArrays_arr cfg0.spec (by decide) c (V0 m c) (fun w => (dats m 0 c).arrAt w cfg0.N)
  obtain ⟨b0, b1, b2, b3⟩ : V m c main_v0 = shapeCast S8x64 (a main_arg0) shapeCasts_S2x4x64_S8x64
      ∧ V m c main_v1 = shapeCast S8x64 (a main_arg1) shapeCasts_S2x4x64_S8x64
      ∧ V m c main_v2 = shapeCast S8x64 (a main_arg2) shapeCasts_S2x4x64_S8x64
      ∧ V m c main_v3 = shapeCast S8x64 (a main_arg3) shapeCasts_S2x4x64_S8x64 := by
    refine ⟨?_, ?_, ?_, ?_⟩ <;> (show StableHlo.after hostOps0 _ (Proc.devRef .tc _) = _; after_results; rfl)
  have k := arrays m c
  rw [b0, b1, b2, b3, ← h 4, ← h 5, ← h 6] at k
  convert k.back shapeCasts_S2x4x64_S8x64 shapeCasts_S8x64_S2x4x64 using 1 <;>
    (show StableHlo.after hostOps1 (Pipeline.withArrays _ _ _ _) (Proc.devRef .tc _) = _
     generalize Pipeline.withArrays _ _ _ _ = W
     after_results
     rfl)

/-- Kernel and reference end with the same update of the same arguments. -/
theorem agree : Cert.algebraic_AdamwGlaGNormIdeal_AdamwGlaGNormRefIdeal := fun m ρ m' ρ' _ h =>
  ⟨_, _, _, (θ_run defs _ _).mono (fun r h c => ⟨(h.1 c).2 main_v5 (Pipeline.mem_restRefs_of main_v5 (by decide) (by decide)),
      (h.1 c).2 main_v6 (Pipeline.mem_restRefs_of main_v6 (by decide) (by decide)),
      (h.1 c).2 main_v7 (Pipeline.mem_restRefs_of main_v7 (by decide) (by decide)), h.2.1 c⟩)
      (θ_run_and (run_main (F := Ideal) m ρ) (frame (F := Ideal) m ρ)),
    (θ_run Cert.AdamwGlaGNormRefIdeal.defs _ _).mono (fun r k c => by
      obtain ⟨kd, km, kv, k⟩ := k c
      obtain ⟨e0, e1, e2, e3⟩ := h c
      rw [e0, e1, e2, e3] at kd
      rw [e1, e2] at km
      rw [e1, e3] at kv
      obtain ⟨d, n, u⟩ := Steps.unique ⟨kd, km, kv⟩ (results m c)
      exact ⟨d, n, u, k⟩)
      (Cert.AdamwGlaGNormRefIdeal.Value.run (F := Ideal) m' ρ')⟩

end Cert.Talk.GlaGNorm

end
-- ==== Proof.Talk.StepGlaWOut.lean ====
/-
# The update of `gla_w_out`

The blocked call updates every number of one device's part of the weight as the reference does.
-/
module

public import proofs.«01_k».proof.Defs
public import proofs.«01_k».proof.Proof.Talk.Step
public import proofs.«01_k».proof.Proof.Gen.AdamwGlaWOutIdeal.Frame
public import proofs.«01_k».proof.Proof.Gen.AdamwGlaWOutRefIdeal.Run
public import Idealize.ShloMosaic.Lib.Pipeline.ValueKit.Geometry
public import Idealize.ShloMosaic.Lib.Pipeline.ValueKit.Acc

@[expose] public section

set_option Elab.async false

noncomputable section

namespace Cert.Talk.GlaWOut

open Cert.AdamwGlaWOutIdeal Cert.AdamwGlaWOutIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The call's three arrays end as the update of the four it reads: each block is the update of theirs. -/
theorem arrays (c : Dev nD) : Steps (s := S512x1024) (V m c main_v0) (V m c main_v1) (V m c main_v2) (V m c main_v3)
    ((dats m 0 c).arrAt 4 cfg0.N) ((dats m 0 c).arrAt 5 cfg0.N) ((dats m 0 c).arrAt 6 cfg0.N) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;>
  · blk_simp
    first | rw [after0_4] | rw [after0_5] | rw [after0_6]
    frame_out
    simp only [k0_pay4, k0_pay3, k0_pay2, k0_pay1, shapeCast_self]
    blk_simp [iblk]
    rfl

/-- The results are the call's arrays in the arguments' shape, and so the update of the arguments. -/
theorem results (c : Dev nD) : let W := Pipeline.afterTail₀ cfgs (dats m) 0 (V0 m) [hostOps1] c
    let a := fun b : Ref sig .tc => m ((c.tc : Thread nD τ).loc b)
    Steps (s := S2x256x1024) (a main_arg0) (a main_arg1) (a main_arg2) (a main_arg3) (W main_v5) (W main_v6) (W main_v7) := by
  intro W a
  have h := Pipeline.withArrays_arr cfg0.spec (by decide) c (V0 m c) (fun w => (dats m 0 c).arrAt w cfg0.N)
  obtain ⟨b0, b1, b2, b3⟩ : V m c main_v0 = shapeCast S512x1024 (a main_arg0) shapeCasts_S2x256x1024_S512x1024
      ∧ V m c main_v1 = shapeCast S512x1024 (a main_arg1) shapeCasts_S2x256x1024_S512x1024
      ∧ V m c main_v2 = shapeCast S512x1024 (a main_arg2) shapeCasts_S2x256x1024_S512x1024
      ∧ V m c main_v3 = shapeCast S512x1024 (a main_arg3) shapeCasts_S2x256x1024_S512x1024 := by
    refine ⟨?_, ?_, ?_, ?_⟩ <;> (show StableHlo.after hostOps0 _ (Proc.devRef .tc _) = _; after_results; rfl)
  have k := arrays m c
  rw [b0, b1, b2, b3, ← h 4, ← h 5, ← h 6] at k
  convert k.back shapeCasts_S2x256x1024_S512x1024 shapeCasts_S512x1024_S2x256x1024 using 1 <;>
    (show StableHlo.after hostOps1 (Pipeline.withArrays _ _ _ _) (Proc.devRef .tc _) = _
     generalize Pipeline.withArrays _ _ _ _ = W
     after_results
     rfl)

/-- Kernel and reference end with the same update of the same arguments. -/
theorem agree : Cert.algebraic_AdamwGlaWOutIdeal_AdamwGlaWOutRefIdeal := fun m ρ m' ρ' _ h =>
  ⟨_, _, _, (θ_run defs _ _).mono (fun r h c => ⟨(h.1 c).2 main_v5 (Pipeline.mem_restRefs_of main_v5 (by decide) (by decide)),
      (h.1 c).2 main_v6 (Pipeline.mem_restRefs_of main_v6 (by decide) (by decide)),
      (h.1 c).2 main_v7 (Pipeline.mem_restRefs_of main_v7 (by decide) (by decide)), h.2.1 c⟩)
      (θ_run_and (run_main (F := Ideal) m ρ) (frame (F := Ideal) m ρ)),
    (θ_run Cert.AdamwGlaWOutRefIdeal.defs _ _).mono (fun r k c => by
      obtain ⟨kd, km, kv, k⟩ := k c
      obtain ⟨e0, e1, e2, e3⟩ := h c
      rw [e0, e1, e2, e3] at kd
      rw [e1, e2] at km
      rw [e1, e3] at kv
      obtain ⟨d, n, u⟩ := Steps.unique ⟨kd, km, kv⟩ (results m c)
      exact ⟨d, n, u, k⟩)
      (Cert.AdamwGlaWOutRefIdeal.Value.run (F := Ideal) m' ρ')⟩

end Cert.Talk.GlaWOut

end
-- ==== Proof.Talk.StepAttWIn.lean ====
/-
# The update of `att_w_in`

The blocked call updates every number of one device's part of the weight as the reference does.
-/
module

public import proofs.«01_k».proof.Defs
public import proofs.«01_k».proof.Proof.Talk.Step
public import proofs.«01_k».proof.Proof.Gen.AdamwAttWInIdeal.Frame
public import proofs.«01_k».proof.Proof.Gen.AdamwAttWInRefIdeal.Run
public import Idealize.ShloMosaic.Lib.Pipeline.ValueKit.Geometry
public import Idealize.ShloMosaic.Lib.Pipeline.ValueKit.Acc

@[expose] public section

set_option Elab.async false

noncomputable section

namespace Cert.Talk.AttWIn

open Cert.AdamwAttWInIdeal Cert.AdamwAttWInIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The call's three arrays end as the update of the four it reads: each block is the update of theirs. -/
theorem arrays (c : Dev nD) : Steps (s := S2048x768) (V m c main_v0) (V m c main_v1) (V m c main_v2) (V m c main_v3)
    ((dats m 0 c).arrAt 4 cfg0.N) ((dats m 0 c).arrAt 5 cfg0.N) ((dats m 0 c).arrAt 6 cfg0.N) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;>
  · blk_simp
    first | rw [after0_4] | rw [after0_5] | rw [after0_6]
    frame_out
    simp only [k0_pay4, k0_pay3, k0_pay2, k0_pay1, shapeCast_self]
    blk_simp [iblk]
    rfl

/-- The results are the call's arrays in the arguments' shape, and so the update of the arguments. -/
theorem results (c : Dev nD) : let W := Pipeline.afterTail₀ cfgs (dats m) 0 (V0 m) [hostOps1] c
    let a := fun b : Ref sig .tc => m ((c.tc : Thread nD τ).loc b)
    Steps (s := S2x1024x768) (a main_arg0) (a main_arg1) (a main_arg2) (a main_arg3) (W main_v5) (W main_v6) (W main_v7) := by
  intro W a
  have h := Pipeline.withArrays_arr cfg0.spec (by decide) c (V0 m c) (fun w => (dats m 0 c).arrAt w cfg0.N)
  obtain ⟨b0, b1, b2, b3⟩ : V m c main_v0 = shapeCast S2048x768 (a main_arg0) shapeCasts_S2x1024x768_S2048x768
      ∧ V m c main_v1 = shapeCast S2048x768 (a main_arg1) shapeCasts_S2x1024x768_S2048x768
      ∧ V m c main_v2 = shapeCast S2048x768 (a main_arg2) shapeCasts_S2x1024x768_S2048x768
      ∧ V m c main_v3 = shapeCast S2048x768 (a main_arg3) shapeCasts_S2x1024x768_S2048x768 := by
    refine ⟨?_, ?_, ?_, ?_⟩ <;> (show StableHlo.after hostOps0 _ (Proc.devRef .tc _) = _; after_results; rfl)
  have k := arrays m c
  rw [b0, b1, b2, b3, ← h 4, ← h 5, ← h 6] at k
  convert k.back shapeCasts_S2x1024x768_S2048x768 shapeCasts_S2048x768_S2x1024x768 using 1 <;>
    (show StableHlo.after hostOps1 (Pipeline.withArrays _ _ _ _) (Proc.devRef .tc _) = _
     generalize Pipeline.withArrays _ _ _ _ = W
     after_results
     rfl)

/-- Kernel and reference end with the same update of the same arguments. -/
theorem agree : Cert.algebraic_AdamwAttWInIdeal_AdamwAttWInRefIdeal := fun m ρ m' ρ' _ h =>
  ⟨_, _, _, (θ_run defs _ _).mono (fun r h c => ⟨(h.1 c).2 main_v5 (Pipeline.mem_restRefs_of main_v5 (by decide) (by decide)),
      (h.1 c).2 main_v6 (Pipeline.mem_restRefs_of main_v6 (by decide) (by decide)),
      (h.1 c).2 main_v7 (Pipeline.mem_restRefs_of main_v7 (by decide) (by decide)), h.2.1 c⟩)
      (θ_run_and (run_main (F := Ideal) m ρ) (frame (F := Ideal) m ρ)),
    (θ_run Cert.AdamwAttWInRefIdeal.defs _ _).mono (fun r k c => by
      obtain ⟨kd, km, kv, k⟩ := k c
      obtain ⟨e0, e1, e2, e3⟩ := h c
      rw [e0, e1, e2, e3] at kd
      rw [e1, e2] at km
      rw [e1, e3] at kv
      obtain ⟨d, n, u⟩ := Steps.unique ⟨kd, km, kv⟩ (results m c)
      exact ⟨d, n, u, k⟩)
      (Cert.AdamwAttWInRefIdeal.Value.run (F := Ideal) m' ρ')⟩

end Cert.Talk.AttWIn

end
-- ==== Proof.Talk.StepAttBIn.lean ====
/-
# The update of `att_b_in`

The blocked call updates every number of one device's part of the weight as the reference does.
-/
module

public import proofs.«01_k».proof.Defs
public import proofs.«01_k».proof.Proof.Talk.Step
public import proofs.«01_k».proof.Proof.Gen.AdamwAttBInIdeal.Frame
public import proofs.«01_k».proof.Proof.Gen.AdamwAttBInRefIdeal.Run
public import Idealize.ShloMosaic.Lib.Pipeline.ValueKit.Geometry
public import Idealize.ShloMosaic.Lib.Pipeline.ValueKit.Acc

@[expose] public section

set_option Elab.async false

noncomputable section

namespace Cert.Talk.AttBIn

open Cert.AdamwAttBInIdeal Cert.AdamwAttBInIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The call's three arrays end as the update of the four it reads: each block is the update of theirs. -/
theorem arrays (c : Dev nD) : Steps (s := S2x768) (V m c main_arg0) (V m c main_arg1) (V m c main_arg2) (V m c main_arg3)
    ((dats m 0 c).arrAt 4 cfg0.N) ((dats m 0 c).arrAt 5 cfg0.N) ((dats m 0 c).arrAt 6 cfg0.N) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;>
  · blk_simp
    first | rw [after0_4] | rw [after0_5] | rw [after0_6]
    frame_out
    simp only [k0_pay3, k0_pay2, k0_pay1]
    blk_simp [iblk]
    rfl

/-- The call reads the arguments themselves. -/
theorem results (c : Dev nD) : let a := fun b : Ref sig .tc => m ((c.tc : Thread nD τ).loc b)
    Steps (s := S2x768) (a main_arg0) (a main_arg1) (a main_arg2) (a main_arg3)
      ((dats m 0 c).arrAt 4 cfg0.N) ((dats m 0 c).arrAt 5 cfg0.N) ((dats m 0 c).arrAt 6 cfg0.N) := by
  have k := arrays m c
  rw [V_main_arg0, V_main_arg1, V_main_arg2, V_main_arg3] at k
  exact k

/-- Kernel and reference end with the same update of the same arguments. -/
theorem agree : Cert.algebraic_AdamwAttBInIdeal_AdamwAttBInRefIdeal := fun m ρ m' ρ' _ h =>
  ⟨_, _, _, (θ_run defs _ _).mono (fun r h c => ⟨(h.1 c).1 4,
      (h.1 c).1 5,
      (h.1 c).1 6, h.2.1 c⟩)
      (θ_run_and (run_main (F := Ideal) m ρ) (frame (F := Ideal) m ρ)),
    (θ_run Cert.AdamwAttBInRefIdeal.defs _ _).mono (fun r k c => by
      obtain ⟨kd, km, kv, k⟩ := k c
      obtain ⟨e0, e1, e2, e3⟩ := h c
      rw [e0, e1, e2, e3] at kd
      rw [e1, e2] at km
      rw [e1, e3] at kv
      obtain ⟨d, n, u⟩ := Steps.unique ⟨kd, km, kv⟩ (results m c)
      exact ⟨d, n, u, k⟩)
      (Cert.AdamwAttBInRefIdeal.Value.run (F := Ideal) m' ρ')⟩

end Cert.Talk.AttBIn

end
-- ==== Proof.Talk.StepAttRelBias.lean ====
/-
# The update of `att_rel_bias`

The blocked call updates every number of one device's part of the weight as the reference does.
-/
module

public import proofs.«01_k».proof.Defs
public import proofs.«01_k».proof.Proof.Talk.Step
public import proofs.«01_k».proof.Proof.Gen.AdamwAttRelBiasIdeal.Frame
public import proofs.«01_k».proof.Proof.Gen.AdamwAttRelBiasRefIdeal.Run
public import Idealize.ShloMosaic.Lib.Pipeline.ValueKit.Geometry
public import Idealize.ShloMosaic.Lib.Pipeline.ValueKit.Acc

@[expose] public section

set_option Elab.async false

noncomputable section

namespace Cert.Talk.AttRelBias

open Cert.AdamwAttRelBiasIdeal Cert.AdamwAttRelBiasIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The call's three arrays end as the update of the four it reads: each block is the update of theirs. -/
theorem arrays (c : Dev nD) : Steps (s := S32x257) (V m c main_v0) (V m c main_v1) (V m c main_v2) (V m c main_v3)
    ((dats m 0 c).arrAt 4 cfg0.N) ((dats m 0 c).arrAt 5 cfg0.N) ((dats m 0 c).arrAt 6 cfg0.N) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;>
  · blk_simp
    first | rw [after0_4] | rw [after0_5] | rw [after0_6]
    frame_out
    simp only [k0_pay4, k0_pay3, k0_pay2, k0_pay1, shapeCast_self]
    blk_simp [iblk]
    rfl

/-- The results are the call's arrays in the arguments' shape, and so the update of the arguments. -/
theorem results (c : Dev nD) : let W := Pipeline.afterTail₀ cfgs (dats m) 0 (V0 m) [hostOps1] c
    let a := fun b : Ref sig .tc => m ((c.tc : Thread nD τ).loc b)
    Steps (s := S2x16x257) (a main_arg0) (a main_arg1) (a main_arg2) (a main_arg3) (W main_v5) (W main_v6) (W main_v7) := by
  intro W a
  have h := Pipeline.withArrays_arr cfg0.spec (by decide) c (V0 m c) (fun w => (dats m 0 c).arrAt w cfg0.N)
  obtain ⟨b0, b1, b2, b3⟩ : V m c main_v0 = shapeCast S32x257 (a main_arg0) shapeCasts_S2x16x257_S32x257
      ∧ V m c main_v1 = shapeCast S32x257 (a main_arg1) shapeCasts_S2x16x257_S32x257
      ∧ V m c main_v2 = shapeCast S32x257 (a main_arg2) shapeCasts_S2x16x257_S32x257
      ∧ V m c main_v3 = shapeCast S32x257 (a main_arg3) shapeCasts_S2x16x257_S32x257 := by
    refine ⟨?_, ?_, ?_, ?_⟩ <;> (show StableHlo.after hostOps0 _ (Proc.devRef .tc _) = _; after_results; rfl)
  have k := arrays m c
  rw [b0, b1, b2, b3, ← h 4, ← h 5, ← h 6] at k
  convert k.back shapeCasts_S2x16x257_S32x257 shapeCasts_S32x257_S2x16x257 using 1 <;>
    (show StableHlo.after hostOps1 (Pipeline.withArrays _ _ _ _) (Proc.devRef .tc _) = _
     generalize Pipeline.withArrays _ _ _ _ = W
     after_results
     rfl)

/-- Kernel and reference end with the same update of the same arguments. -/
theorem agree : Cert.algebraic_AdamwAttRelBiasIdeal_AdamwAttRelBiasRefIdeal := fun m ρ m' ρ' _ h =>
  ⟨_, _, _, (θ_run defs _ _).mono (fun r h c => ⟨(h.1 c).2 main_v5 (Pipeline.mem_restRefs_of main_v5 (by decide) (by decide)),
      (h.1 c).2 main_v6 (Pipeline.mem_restRefs_of main_v6 (by decide) (by decide)),
      (h.1 c).2 main_v7 (Pipeline.mem_restRefs_of main_v7 (by decide) (by decide)), h.2.1 c⟩)
      (θ_run_and (run_main (F := Ideal) m ρ) (frame (F := Ideal) m ρ)),
    (θ_run Cert.AdamwAttRelBiasRefIdeal.defs _ _).mono (fun r k c => by
      obtain ⟨kd, km, kv, k⟩ := k c
      obtain ⟨e0, e1, e2, e3⟩ := h c
      rw [e0, e1, e2, e3] at kd
      rw [e1, e2] at km
      rw [e1, e3] at kv
      obtain ⟨d, n, u⟩ := Steps.unique ⟨kd, km, kv⟩ (results m c)
      exact ⟨d, n, u, k⟩)
      (Cert.AdamwAttRelBiasRefIdeal.Value.run (F := Ideal) m' ρ')⟩

end Cert.Talk.AttRelBias

end
-- ==== Proof.Talk.StepFfW1.lean ====
/-
# The update of `ff_w1`

The blocked call updates every number of one device's part of the weight as the reference does.
-/
module

public import proofs.«01_k».proof.Defs
public import proofs.«01_k».proof.Proof.Talk.Step
public import proofs.«01_k».proof.Proof.Gen.AdamwFfW1Ideal.Frame
public import proofs.«01_k».proof.Proof.Gen.AdamwFfW1RefIdeal.Run
public import Idealize.ShloMosaic.Lib.Pipeline.ValueKit.Geometry
public import Idealize.ShloMosaic.Lib.Pipeline.ValueKit.Acc

@[expose] public section

set_option Elab.async false

noncomputable section

namespace Cert.Talk.FfW1

open Cert.AdamwFfW1Ideal Cert.AdamwFfW1Ideal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The call's three arrays end as the update of the four it reads: each block is the update of theirs. -/
theorem arrays (c : Dev nD) : Steps (s := S4096x1024) (V m c main_v0) (V m c main_v1) (V m c main_v2) (V m c main_v3)
    ((dats m 0 c).arrAt 4 cfg0.N) ((dats m 0 c).arrAt 5 cfg0.N) ((dats m 0 c).arrAt 6 cfg0.N) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩ <;>
  · blk_simp
    first | rw [after0_4] | rw [after0_5] | rw [after0_6]
    frame_out
    simp only [k0_pay4, k0_pay3, k0_pay2, k0_pay1, shapeCast_self]
    blk_simp [iblk]
    rfl

/-- The results are the call's arrays in the arguments' shape, and so the update of the arguments. -/
theorem results (c : Dev nD) : let W := Pipeline.afterTail₀ cfgs (dats m) 0 (V0 m) [hostOps1] c
    let a := fun b : Ref sig .tc => m ((c.tc : Thread nD τ).loc b)
    Steps (s := S4x1024x1024) (a main_arg0) (a main_arg1) (a main_arg2) (a main_arg3) (W main_v5) (W main_v6) (W main_v7) := by
  intro W a
  have h := Pipeline.withArrays_arr cfg0.spec (by decide) c (V0 m c) (fun w => (dats m 0 c).arrAt w cfg0.N)
  obtain ⟨b0, b1, b2, b3⟩ : V m c main_v0 = shapeCast S4096x1024 (a main_arg0) shapeCasts_S4x1024x1024_S4096x1024
      ∧ V m c main_v1 = shapeCast S4096x1024 (a main_arg1) shapeCasts_S4x1024x1024_S4096x1024
      ∧ V m c main_v2 = shapeCast S4096x1024 (a main_arg2) shapeCasts_S4x1024x1024_S4096x1024
      ∧ V m c main_v3 = shapeCast S4096x1024 (a main_arg3) shapeCasts_S4x1024x1024_S4096x1024 := by
    refine ⟨?_, ?_, ?_, ?_⟩ <;> (show StableHlo.after hostOps0 _ (Proc.devRef .tc _) = _; after_results; rfl)
  have k := arrays m c
  rw [b0, b1, b2, b3, ← h 4, ← h 5, ← h 6] at k
  convert k.back shapeCasts_S4x1024x1024_S4096x1024 shapeCasts_S4096x1024_S4x1024x1024 using 1 <;>
    (show StableHlo.after hostOps1 (Pipeline.withArrays _ _ _ _) (Proc.devRef .tc _) = _
     generalize Pipeline.withArrays _ _ _ _ = W
     after_results
     rfl)

/-- Kernel and reference end with the same update of the same arguments. -/
theorem agree : Cert.algebraic_AdamwFfW1Ideal_AdamwFfW1RefIdeal := fun m ρ m' ρ' _ h =>
  ⟨_, _, _, (θ_run defs _ _).mono (fun r h c => ⟨(h.1 c).2 main_v5 (Pipeline.mem_restRefs_of main_v5 (by decide) (by decide)),
      (h.1 c).2 main_v6 (Pipeline.mem_restRefs_of main_v6 (by decide) (by decide)),
      (h.1 c).2 main_v7 (Pipeline.mem_restRefs_of main_v7 (by decide) (by decide)), h.2.1 c⟩)
      (θ_run_and (run_main (F := Ideal) m ρ) (frame (F := Ideal) m ρ)),
    (θ_run Cert.AdamwFfW1RefIdeal.defs _ _).mono (fun r k c => by
      obtain ⟨kd, km, kv, k⟩ := k c
      obtain ⟨e0, e1, e2, e3⟩ := h c
      rw [e0, e1, e2, e3] at kd
      rw [e1, e2] at km
      rw [e1, e3] at kv
      obtain ⟨d, n, u⟩ := Steps.unique ⟨kd, km, kv⟩ (results m c)
      exact ⟨d, n, u, k⟩)
      (Cert.AdamwFfW1RefIdeal.Value.run (F := Ideal) m' ρ')⟩

end Cert.Talk.FfW1

end
-- ==== Proof.Talk.SumGrads.lean ====
/-
# The sum of the small gradients over the devices

The call adds the eight devices' packed gradients one after the other; over the extended reals that is their sum.
-/
module

public import proofs.«01_k».proof.Defs
public import proofs.«01_k».proof.Proof.Gen.SumGradsIdeal.Value
public import proofs.«01_k».proof.Proof.Gen.SumGradsRefIdeal.Run
public import Idealize.ShloMosaic.Lib.Pointwise

@[expose] public section

set_option Elab.async false

noncomputable section

namespace Cert.Talk.SumGrads

open Cert.SumGradsIdeal Cert.SumGradsIdeal.Gen Idealize.ShloMosaic Idealize.ShloMosaic.TcCoe Idealize.SL.Sem

/-- Eight additions are the sum along the first axis. -/
theorem sum_eq (a : Vec Ideal S8x80x1024 .f32) :
    Host.reduceAdd (φ := .f32) a (constant (F := Ideal) Cert.SumGradsRefIdeal.S_ .f32 0x00000000#32)
      Cert.SumGradsRefIdeal.Gen.facts.reducesTo_S8x80x1024_S80x1024_d0 Cert.SumGradsRefIdeal.Gen.facts.h_S_
    = Value.G1 (F := Ideal) a := by
  funext j
  idx_vars j
  unfold Value.G1 k0_pay1
  pointwise [r0_0, r0_1, r0_2, r0_3, r0_4, r0_5, r0_6, r0_7]
  exact Fin.sum_univ_eight _

/-- Kernel and reference end with the same sum of the same argument. -/
theorem agree : Cert.algebraic_SumGradsIdeal_SumGradsRefIdeal := fun m ρ m' ρ' _ h =>
  ⟨_, Value.run (F := Ideal) m ρ,
    (θ_run Cert.SumGradsRefIdeal.defs _ _).mono (fun r k c => by
      obtain ⟨k, kept⟩ := k c
      rw [h c] at k
      exact ⟨k.trans (sum_eq _), kept⟩)
      (Cert.SumGradsRefIdeal.Value.run (F := Ideal) m' ρ')⟩

end Cert.Talk.SumGrads

end
-- ==== Proof.Talk.AdaBwd.lean ====
/-
# The gradient of the modulation weights

Every grid point stores one block of columns of the product; over the extended reals the array is the whole product.
-/
module

public import proofs.«01_k».proof.Defs
public import proofs.«01_k».proof.Proof.Gen.AdaBwdIdeal.Value
public import proofs.«01_k».proof.Proof.Gen.AdaBwdRefIdeal.Run
public import Idealize.ShloMosaic.Lib.Pipeline.ValueKit.Geometry
public import Idealize.ShloMosaic.Lib.Pipeline.ValueKit.Acc
public import Idealize.ShloMosaic.Lib.Pointwise

@[expose] public section

set_option Elab.async false

noncomputable section

namespace Cert.Talk.AdaBwd

open Cert.AdaBwdIdeal Cert.AdaBwdIdeal.Gen Idealize.ShloMosaic Idealize.ShloMosaic.TcCoe Idealize.SL.Sem

variable (m : (ℓ : Loc nD τ sig) → Buf (Elt Ideal) ℓ)

/-- The product as the reference states it. -/
def Prod (a : FVec Ideal S128x1024 .bf16) (b : FVec Ideal S128x6144 .bf16) : FVec Ideal S1024x6144 .f32 :=
  Host.dotGeneral Cert.AdaBwdRefIdeal.dot_S1024x128_S128x6144_S1024x6144_1_0_0_1_n_n none
    (transpose Cert.AdaBwdRefIdeal.S1024x128 [1, 0] (extf .f32 a Cert.AdaBwdRefIdeal.Gen.facts.bitsLt_bf16_f32)
      Cert.AdaBwdRefIdeal.Gen.facts.transposes_S128x1024_S1024x128_1_0)
    (extf .f32 b Cert.AdaBwdRefIdeal.Gen.facts.bitsLt_bf16_f32)

/-- Point `t`'s blocks: rows of the result are columns of the left side, columns those of the right. -/
theorem places : ∀ t : Fin cfg0.N, win0_0.index t 0 = 0 ∧ win0_0.index t 1 = win0_2.index t 0
    ∧ win0_1.index t 0 = 0 ∧ win0_1.index t 1 = win0_2.index t 1 :=
  (by decide +kernel : ∀ t : Fin grid0.N, _)

/-- The array after the last point is the product. -/
theorem array (c : Dev nD) : (dats m 0 c).arrAt 2 cfg0.N = Prod (V m c main_arg0) (V m c main_arg1) := by
  refine (dats m 0 c).arrAt_eq_of_covers 2 _ (by decide +kernel) fun t hf y => ?_
  blk_simp [iblk]
  rw [after0_2]
  unfold outsAt0
  frame_out
  unfold Prod k0_pay2 k0_pay1
  idx_vars y
  blk_simp [iblk]
  pointwise
  have e := places t
  refine Finset.sum_congr (M := EReal) rfl fun k _ => congrArg₂ (fun u v : EReal => u * v) (congrArg (V m c main_arg0) (funext fun i => ?_))
    (congrArg (V m c main_arg1) (funext fun i => ?_)) <;>
  fin_cases i <;> apply Fin.ext <;> blk_simp [e.1, e.2.1, e.2.2.1, e.2.2.2]
  · rfl
  · exact (show ((win0_2.blk t).view.emb (ix2 y0 y1) 0 : ℕ) = win0_2.index t 0 * 512 + y0 by blk_simp).symm
  · rfl
  · exact (show ((win0_2.blk t).view.emb (ix2 y0 y1) 1 : ℕ) = win0_2.index t 1 * 1024 + y1 by blk_simp).symm

/-- Kernel and reference end with the same product of the same arguments. -/
theorem agree : Cert.algebraic_AdaBwdIdeal_AdaBwdRefIdeal := fun m ρ m' ρ' _ h =>
  ⟨_, Value.run_blocks (F := Ideal) m ρ,
    (θ_run Cert.AdaBwdRefIdeal.defs _ _).mono (fun r k c => by
      obtain ⟨k, kept⟩ := k c
      rw [(h c).1, (h c).2] at k
      have e := array m c
      rw [V_main_arg0, V_main_arg1] at e
      exact ⟨k.trans e.symm, kept⟩)
      (Cert.AdaBwdRefIdeal.Value.run (F := Ideal) m' ρ')⟩

end Cert.Talk.AdaBwd

end
-- ==== Proof.Talk.LossHead.lean ====
/-
# The loss and the error's gradient

Every grid point stores its rows of the scaled error and adds the sum of its squares to one scalar, broadcast over a block.
-/
module

public import proofs.«01_k».proof.Defs
public import proofs.«01_k».proof.Proof.Gen.LossHeadIdeal.Value
public import proofs.«01_k».proof.Proof.Gen.LossHeadRefIdeal.Run
public import Idealize.ShloMosaic.Lib.Pipeline.ValueKit.Geometry
public import Idealize.ShloMosaic.Lib.Pipeline.ValueKit.Acc
public import Idealize.ShloMosaic.Lib.Pointwise

@[expose] public section

set_option Elab.async false

noncomputable section

namespace Cert.Talk.LossHead

open Cert.LossHeadIdeal Cert.LossHeadIdeal.Gen Idealize.ShloMosaic Idealize.ShloMosaic.TcCoe Idealize.SL.Sem

variable (m : (ℓ : Loc nD τ sig) → Buf (Elt Ideal) ℓ)

/-- The scaled error as the reference states it. -/
def Err (x t : FVec Ideal S8192x1024 .f32) : FVec Ideal S8192x1024 .f32 :=
  Host.divf (subf x t) (broadcastInDim S8192x1024 ![] Cert.LossHeadRefIdeal.Gen.facts.bcast_S_S8192x1024
    (constant (F := Ideal) Cert.LossHeadRefIdeal.S_ .f32 0x44800000#32))

/-- The summed squares as the reference states them. -/
def Squares (x t : FVec Ideal S8192x1024 .f32) : FVec Ideal S8x128 .f32 :=
  broadcastInDim S8x128 ![] Cert.LossHeadRefIdeal.Gen.facts.bcast_S_S8x128
    (Host.reduceAdd (mulf (subf x t) (subf x t)) (constant (F := Ideal) Cert.LossHeadRefIdeal.S_ .f32 0x00000000#32)
      Cert.LossHeadRefIdeal.Gen.facts.reducesTo_S8192x1024_S_d0_1 Cert.LossHeadRefIdeal.Gen.facts.h_S_)

/-- The divisor, and its reciprocal. -/
theorem thousand : Ideal.ofBits .f32 0x44800000#32 = ((1024 : ℝ) : EReal) := by
  simp [Ideal.ofBits, Ideal.ieee, -EReal.coe_mul]; norm_num
theorem thousandth : Ideal.ofBits .f32 0x3A800000#32 = ((1 / 1024 : ℝ) : EReal) := by
  simp [Ideal.ofBits, Ideal.ieee, -EReal.coe_mul]; norm_num

/-- The first array after the last point is the scaled error. -/
theorem errors (c : Dev nD) : (dats m 0 c).arrAt 2 cfg0.N = Err (V m c main_arg0) (V m c main_arg1) := by
  refine (dats m 0 c).arrAt_eq_of_covers 2 _ (by decide +kernel) fun t hf y => ?_
  have e : (outsAt0 m c t.val t.isLt).1 = k0_pay3 (iblk m c 0 t) (iblk m c 1 t) := by
    by_cases h0 : t.val % 16 = 0
    · rw [outsAt0_A m c t h0]
      frame_out
    · rw [outsAt0_B m c t h0]
      frame_out
  blk_simp [iblk]
  rw [after0_2, e]
  unfold Err k0_pay3 k0_pay2
  idx_vars y
  pointwise
  rw [thousandth, thousand, Ideal.div_coe (by norm_num : (1024 : ℝ) ≠ 0)]
  refine congrArg (fun u : EReal => u * ((1 / 1024 : ℝ) : EReal)) ?_
  blk_simp [iblk]
  rfl

/-- One row's sum of squares. -/
def row (x t : FVec Ideal S8192x1024 .f32) (r : Fin 8192) : EReal :=
  ∑ l : Fin 1024, (x (ix2 r l) - t (ix2 r l)) * (x (ix2 r l) - t (ix2 r l))

/-- One grid point's sum of squares. -/
def term (x t : FVec Ideal S8192x1024 .f32) (p : Fin 16) : EReal :=
  ∑ r : Fin 512, row x t ⟨p.val * 512 + r.val, by omega⟩

/-- The sum of squares is the sum of the grid points' sums. -/
theorem squares_eq (x t : FVec Ideal S8192x1024 .f32) (i : S8x128.Idx) : Squares x t i = 0 + ∑ p, term x t p := by
  unfold Squares
  idx_vars i
  pointwise
  unfold term
  rw [← Fintype.sum_prod_type' fun (p : Fin 16) (r : Fin 512) => row x t ⟨p.val * 512 + r.val, by omega⟩]
  exact (Fintype.sum_equiv (finProdFinEquiv (m := 16) (n := 512)) _ (row x t) fun p =>
    congrArg (row x t) (Fin.ext (show _ = p.2.val + 512 * p.1.val by dsimp only; omega))).symm

/-- Point `t`'s blocks are its rows. -/
theorem places : ∀ t : Fin cfg0.N, win0_0.index t 0 = t.val ∧ win0_0.index t 1 = 0
    ∧ win0_1.index t 0 = t.val ∧ win0_1.index t 1 = 0 :=
  (by decide +kernel : ∀ t : Fin grid0.N, _)
theorem left (t : Fin cfg0.N) (r : Fin 512) (k : Fin 1024) : (win0_0.blk t).view.emb (ix2 r k)
    = (ix2 (⟨t.val * 512 + r.val, by have := t.isLt; change t.val < 16 at this; omega⟩ : Fin 8192) k : S8192x1024.Idx) := by
  have e := places t
  funext i
  fin_cases i <;> apply Fin.ext <;> blk_simp [e.1, e.2.1] <;> rfl
theorem right (t : Fin cfg0.N) (r : Fin 512) (k : Fin 1024) : (win0_1.blk t).view.emb (ix2 r k)
    = (ix2 (⟨t.val * 512 + r.val, by have := t.isLt; change t.val < 16 at this; omega⟩ : Fin 8192) k : S8192x1024.Idx) := by
  have e := places t
  funext i
  fin_cases i <;> apply Fin.ext <;> blk_simp [e.2.2.1, e.2.2.2] <;> rfl

/-- What a point adds to the block. -/
theorem step (c : Dev nD) (t : Fin cfg0.N) (o : Vec Ideal S8x128 .f32) (i : S8x128.Idx) :
    k0_pay4 (F := Ideal) (iblk m c 0 t) (iblk m c 1 t) o i
      = o i + term (V m c main_arg0) (V m c main_arg1) t := by
  unfold k0_pay4 k0_pay2
  idx_vars i
  pointwise
  blk_simp [iblk]
  refine congrArg (fun u : EReal => o (ix2 i0 i1) + u) ?_
  unfold term row
  have l := fun (r : Fin 512) (k : Fin 1024) => congrArg (V m c main_arg0) (left t r k)
  have n := fun (r : Fin 512) (k : Fin 1024) => congrArg (V m c main_arg1) (right t r k)
  exact Finset.sum_congr rfl fun r _ => Finset.sum_congr rfl fun k _ =>
    congrArg₂ (fun u v : EReal => (u - v) * (u - v)) (l r k) (n r k)

/-- The block starts at zero. -/
theorem zeros {i : S8x128.Idx} : k0_pay1 (F := Ideal) i = (0 : EReal) := by
  unfold k0_pay1
  pointwise

/-- The second array after the last point is the sum of squares. -/
theorem squares (c : Dev nD) : (dats m 0 c).arrAt 3 cfg0.N = Squares (V m c main_arg0) (V m c main_arg1) := by
  refine (dats m 0 c).arrAt_eq_of_covers 3 _ (by decide +kernel) fun t hf y => ?_
  have last : t.val % 16 = 15 := (flush0_3 t).mp hf
  have e := fun i => Pipeline.eq_sum_fin_of_reset_step_apply_last (M := EReal) (N := cfg0.N) (fun n hn => (outsAt0 m c n hn).2) 16 (fun _ => 0)
    (fun p _ => term (V m c main_arg0) (V m c main_arg1) p)
    (fun t h0 i => by
      show (outsAt0 m c t.val t.isLt).2 i = _
      rw [outsAt0_A m c t h0]
      frame_out
      exact (step m c t _ i).trans (congrArg (fun u : EReal => u + term (V m c main_arg0) (V m c main_arg1) t) zeros))
    (fun t h0 i => by
      show (outsAt0 m c t.val t.isLt).2 i = _
      rw [outsAt0_B m c t h0]
      frame_out
      exact step m c t _ i)
    (Nat.le_refl _) t (show t.val + 1 = 16 by have := t.isLt; change t.val < 16 at this; omega) i
  blk_simp [iblk]
  rw [after0_3]
  exact (e _).trans (squares_eq _ _ _).symm

/-- Kernel and reference end with the same two arrays of the same arguments. -/
theorem agree : Cert.algebraic_LossHeadIdeal_LossHeadRefIdeal := fun m ρ m' ρ' _ h =>
  ⟨_, _, Value.run_blocks (F := Ideal) m ρ,
    (θ_run Cert.LossHeadRefIdeal.defs _ _).mono (fun r k c => by
      obtain ⟨ke, ks, kept⟩ := k c
      rw [(h c).1, (h c).2] at ke ks
      have e := errors m c
      have s := squares m c
      rw [V_main_arg0, V_main_arg1] at e s
      exact ⟨ke.trans e.symm, ks.trans s.symm, kept⟩)
      (Cert.LossHeadRefIdeal.Value.run (F := Ideal) m' ρ')⟩

end Cert.Talk.LossHead

end
-- ==== Proof.Talk.Tiles.lean ====
/-
# Sums over rows, tile by tile

What a call that adds up one tile of rows per grid point needs: the tiles' sums add up to the sum over all rows.
-/
module

public import Idealize.ShloMosaic.PureOps.Ideal
public import Mathlib.Algebra.BigOperators.Fin

@[expose] public section

namespace Cert.Talk

/-- The sums over `A` tiles of `B` rows are the sum over the rows. -/
theorem sum_tiles {N : ℕ} (A B : ℕ) (h : A * B = N) (f : Fin N → EReal)
    (inb : ∀ (p : Fin A) (r : Fin B), p.val * B + r.val < N) :
    ∑ p : Fin A, ∑ r : Fin B, f ⟨p.val * B + r.val, inb p r⟩ = ∑ k, f k := by
  subst h
  rw [← Fintype.sum_prod_type' fun (p : Fin A) (r : Fin B) => f ⟨p.val * B + r.val, inb p r⟩]
  exact Fintype.sum_equiv finProdFinEquiv _ f fun p =>
    congrArg f (Fin.ext (show p.1.val * B + p.2.val = p.2.val + B * p.1.val by rw [Nat.mul_comm, Nat.add_comm]))

end Cert.Talk

end
-- ==== Proof.Talk.Rows.lean ====
/-
# A block written row by row

What stores of single rows leave in a block, and what a load of a row reads: at every entry, the newest store of its row.
-/
module

public import Idealize.ShloMosaic.Lib.Pipeline.ValueKit.Geometry
public import Idealize.ShloMosaic.Lib.WritesUnit
public import Idealize.ShloMosaic.Lib.Pointwise

@[expose] public section

namespace Cert.Talk

open Idealize.ShloMosaic

variable {Val : EltTy → Type} {m n : ℕ} {e : EltTy} {o : ℕ}

/-- Where a row's entry lies in the block. -/
theorem row_emb (inb : ∀ a, (![o, 0] : Fin 2 → ℕ) a + (![1, n] : Fin 2 → ℕ) a ≤ (⟨2, ![m, n]⟩ : Shape).size a) (i : Fin m) (j : Fin n) (h : i.val = o) :
    (Rect.unit (s := ⟨2, ![m, n]⟩) ![o, 0] ![1, n] inb).emb (ix2 (0 : Fin 1) j) = ix2 i j := by
  funext a
  fin_cases a <;> apply Fin.ext
  · exact (show o + 1 * 0 = i.val by omega)
  · exact (show 0 + 1 * j.val = j.val by omega)

/-- An entry of another row lies outside. -/
theorem row_miss (inb : ∀ a, (![o, 0] : Fin 2 → ℕ) a + (![1, n] : Fin 2 → ℕ) a ≤ (⟨2, ![m, n]⟩ : Shape).size a) (i : Fin m) (j : Fin n) (h : i.val ≠ o) :
    ix2 i j ∉ (Rect.unit (s := ⟨2, ![m, n]⟩) ![o, 0] ![1, n] inb).set := by
  rw [Rect.mem_set_unit]
  intro k
  have k0 := k 0
  change o ≤ i.val ∧ i.val < o + 1 at k0
  omega

section
variable [∀ e, Nonempty (Val e)]

theorem canon_hit (inb : ∀ a, (![o, 0] : Fin 2 → ℕ) a + (![1, n] : Fin 2 → ℕ) a ≤ (⟨2, ![m, n]⟩ : Shape).size a)
    (w : (Rect.unit (s := ⟨2, ![m, n]⟩) ![o, 0] ![1, n] inb).shape.Idx → Val e) (L : List (View.Piece Val ⟨2, ![m, n]⟩ e)) (i : Fin m) (j : Fin n) (h : i.val = o) :
    View.canon (⟨Rect.unit (s := ⟨2, ![m, n]⟩) ![o, 0] ![1, n] inb, w⟩ :: L) (ix2 i j) = w (ix2 (0 : Fin 1) j) := by
  rw [← row_emb inb i j h]
  exact View.canon_cons_emb _ w L _

theorem canon_miss (inb : ∀ a, (![o, 0] : Fin 2 → ℕ) a + (![1, n] : Fin 2 → ℕ) a ≤ (⟨2, ![m, n]⟩ : Shape).size a)
    (w : (Rect.unit (s := ⟨2, ![m, n]⟩) ![o, 0] ![1, n] inb).shape.Idx → Val e) (L : List (View.Piece Val ⟨2, ![m, n]⟩ e)) (i : Fin m) (j : Fin n) (h : i.val ≠ o) :
    View.canon (⟨Rect.unit (s := ⟨2, ![m, n]⟩) ![o, 0] ![1, n] inb, w⟩ :: L) (ix2 i j) = View.canon L (ix2 i j) :=
  View.canon_cons_of_not_mem _ L (row_miss inb i j h)

theorem load_written {sig : RefSig} {κ : Kind} {sp : Space} (v : View sig κ sp ⟨2, ![m, n]⟩ e) (L : List (View.Piece Val ⟨2, ![m, n]⟩ e))
    (inb : ∀ a, (![o, 0] : Fin 2 → ℕ) a + (![1, n] : Fin 2 → ℕ) a ≤ (⟨2, ![m, n]⟩ : Shape).size a) (i : Fin m) (j : Fin n) (h : i.val = o) :
    v.readCov L (Rect.unit (s := ⟨2, ![m, n]⟩) ![o, 0] ![1, n] inb).toLoadRect (ix2 (0 : Fin 1) j) = View.canon L (ix2 i j) := by
  rw [View.readCov_eq_canon']
  exact congrArg (View.canon L) (row_emb inb i j h)
end

theorem load_row (X : (⟨2, ![m, n]⟩ : Shape).Idx → Val e)
    (inb : ∀ a, (![o, 0] : Fin 2 → ℕ) a + (![1, n] : Fin 2 → ℕ) a ≤ (⟨2, ![m, n]⟩ : Shape).size a) (i : Fin m) (j : Fin n) (h : i.val = o) :
    View.ld X (Rect.unit (s := ⟨2, ![m, n]⟩) ![o, 0] ![1, n] inb) (ix2 (0 : Fin 1) j) = X (ix2 i j) :=
  congrArg X (row_emb inb i j h)

section
variable {sig : RefSig} {κ : Kind} {sp : Space} (v : View sig κ sp ⟨2, ![m, n]⟩ e) (f : v.ty.Contents Val)

theorem read_hit (inb : ∀ a, (![o, 0] : Fin 2 → ℕ) a + (![1, n] : Fin 2 → ℕ) a ≤ (⟨2, ![m, n]⟩ : Shape).size a)
    (w : (Rect.unit (s := ⟨2, ![m, n]⟩) ![o, 0] ![1, n] inb).shape.Idx → Val e) (L : List (View.Piece Val ⟨2, ![m, n]⟩ e)) (i : Fin m) (j : Fin n) (h : i.val = o) :
    v.read Val (v.writes Val f (⟨Rect.unit (s := ⟨2, ![m, n]⟩) ![o, 0] ![1, n] inb, w⟩ :: L)) (ix2 i j) = w (ix2 (0 : Fin 1) j) :=
  View.read_writes_cons_rows_of_mem v f inb w L (ix2 i j) (ix2 (0 : Fin 1) j) rfl (show i.val = o + 0 by omega) rfl

theorem read_miss (inb : ∀ a, (![o, 0] : Fin 2 → ℕ) a + (![1, n] : Fin 2 → ℕ) a ≤ (⟨2, ![m, n]⟩ : Shape).size a)
    (w : (Rect.unit (s := ⟨2, ![m, n]⟩) ![o, 0] ![1, n] inb).shape.Idx → Val e) (L : List (View.Piece Val ⟨2, ![m, n]⟩ e)) (i : Fin m) (j : Fin n) (h : i.val ≠ o) :
    v.read Val (v.writes Val f (⟨Rect.unit (s := ⟨2, ![m, n]⟩) ![o, 0] ![1, n] inb, w⟩ :: L)) (ix2 i j) = v.read Val (v.writes Val f L) (ix2 i j) :=
  View.read_writes_cons_rows_of_not_mem v f inb w L (ix2 i j) rfl rfl (show i.val < o ∨ o + 1 ≤ i.val by omega)
end

/-- Two rows, then zeros. -/
noncomputable def pick (i : Fin 8) (u v : EReal) : EReal := if i.val = 0 then u else if i.val = 1 then v else 0

/-- The sum of such blocks. -/
theorem sum_pick {N : ℕ} (i : Fin 8) (u v : Fin N → EReal) : ∑ t, pick i (u t) (v t) = pick i (∑ t, u t) (∑ t, v t) := by
  unfold pick
  split_ifs <;> simp

end Cert.Talk

end
-- ==== Proof.Talk.Back.lean ====
/-
# Products and their row sums, tile by tile

The mathematics that the calls back through a matrix and the calls for a matrix's gradient share: what one grid point adds to its
block, and that the points' parts add up to the whole.
-/
module

public import proofs.«01_k».proof.Proof.Talk.Tiles
public import proofs.«01_k».proof.Proof.Talk.Rows
public import Idealize.ShloMosaic.Lib.Pipeline.ValueKit.Acc

@[expose] public section

noncomputable section

namespace Cert.Talk

open Idealize.ShloMosaic

/-- An array of extended reals. -/
abbrev Arr (m n : ℕ) := (⟨2, ![m, n]⟩ : Shape).Idx → EReal

/-- The entry of a matrix product. -/
def mul {R K N : ℕ} (a : Arr R K) (b : Arr K N) (y : (⟨2, ![R, N]⟩ : Shape).Idx) : EReal :=
  ∑ k : Fin K, a (ix2 (y 0 : Fin R) k) * b (ix2 k (y 1 : Fin N))

/-- A block of rows of the product is the product of the block. -/
theorem mul_block {R R' K N : ℕ} (a : Arr R K) (b : Arr K N) (a' : Arr R' K) (b' : Arr K N) (r : Fin R') (i : Fin R) (j : Fin N)
    (ha : ∀ k, a' (ix2 r k) = a (ix2 i k)) (hb : ∀ k, b' (ix2 k j) = b (ix2 k j)) : mul a' b' (ix2 r j) = mul a b (ix2 i j) :=
  Finset.sum_congr rfl fun k _ => congrArg₂ (fun u v : EReal => u * v) (ha k) (hb k)

/-- The entry of a product with the first matrix transposed. -/
def mulT {K R N : ℕ} (a : Arr K R) (b : Arr K N) (y : (⟨2, ![R, N]⟩ : Shape).Idx) : EReal :=
  ∑ k : Fin K, a (ix2 k (y 0 : Fin R)) * b (ix2 k (y 1 : Fin N))

/-- Eight blocks of 1024 rows each: the products of the blocks add up to the product. -/
theorem mulT_tiles {M R N C : ℕ} (a : Arr 8192 M) (b : Arr 8192 N) (a' : Fin 8 → Arr 1024 R) (b' : Fin 8 → Arr 1024 C)
    (i : Fin M) (j : Fin N) (u : Fin R) (v : Fin C)
    (ha : ∀ s k, a' s (ix2 k u) = a (ix2 (⟨s.val * 1024 + k.val, by omega⟩ : Fin 8192) i))
    (hb : ∀ s k, b' s (ix2 k v) = b (ix2 (⟨s.val * 1024 + k.val, by omega⟩ : Fin 8192) j)) :
    ∑ s, mulT (a' s) (b' s) (ix2 u v) = ∑ k : Fin 8192, a (ix2 k i) * b (ix2 k j) :=
  (Finset.sum_congr rfl fun s _ => Finset.sum_congr rfl fun k _ => congrArg₂ (fun u v : EReal => u * v) (ha s k) (hb s k)).trans
    (sum_tiles 8 1024 rfl (fun k => a (ix2 k i) * b (ix2 k j)) fun s k => by omega)

/-- Two rows, then zeros: the sums of `d · x` and of `d` over the rows. -/
def rows {R : ℕ} (d x : Arr R 1024) (i : (⟨2, ![8, 1024]⟩ : Shape).Idx) : EReal :=
  pick (i 0) (∑ r : Fin R, d (ix2 r (i 1 : Fin 1024)) * x (ix2 r (i 1 : Fin 1024))) (∑ r : Fin R, d (ix2 r (i 1 : Fin 1024)))

/-- The other rows stay. -/
theorem rows_other {R : ℕ} (d x : Arr R 1024) (i : Fin 8) (j : Fin 1024) (h0 : i.val ≠ 0) (h1 : i.val ≠ 1) (u : EReal) :
    u = u + rows d x (ix2 i j) :=
  ((congrArg (fun z : EReal => u + z) ((if_neg h0).trans (if_neg h1))).trans (add_zero u)).symm

/-- The sums over 32 blocks of 256 rows add up to the sums over all rows. -/
theorem rows_tiles (d x : Arr 8192 1024) (d' x' : Fin 32 → Arr 256 1024)
    (hd : ∀ p r j, d' p (ix2 r j) = d (ix2 (⟨p.val * 256 + r.val, by omega⟩ : Fin 8192) j))
    (hx : ∀ p r j, x' p (ix2 r j) = x (ix2 (⟨p.val * 256 + r.val, by omega⟩ : Fin 8192) j)) (i : (⟨2, ![8, 1024]⟩ : Shape).Idx) :
    ∑ p, rows (d' p) (x' p) i = rows d x i := by
  refine (sum_pick _ _ _).trans (congrArg₂ (pick _) ?_ ?_)
  · exact (Finset.sum_congr rfl fun p _ => Finset.sum_congr rfl fun r _ =>
      congrArg₂ (fun u v : EReal => u * v) (hd p r _) (hx p r _)).trans
      (sum_tiles 32 256 rfl (fun r => d (ix2 r (i 1 : Fin 1024)) * x (ix2 r (i 1 : Fin 1024))) fun p r => by omega)
  · exact (Finset.sum_congr rfl fun p _ => Finset.sum_congr rfl fun r _ => hd p r _).trans
      (sum_tiles 32 256 rfl (fun r => d (ix2 r (i 1 : Fin 1024))) fun p r => by omega)

section
variable (d x : Arr 256 1024) (i : Fin 8) (j : Fin 1024)
variable (i0 : ∀ a, (![0, 0] : Fin 2 → ℕ) a + (![1, 1024] : Fin 2 → ℕ) a ≤ (⟨2, ![8, 1024]⟩ : Shape).size a)
variable (i1 : ∀ a, (![1, 0] : Fin 2 → ℕ) a + (![1, 1024] : Fin 2 → ℕ) a ≤ (⟨2, ![8, 1024]⟩ : Shape).size a)
variable (iw : ∀ a, (![0, 0] : Fin 2 → ℕ) a + (⟨2, ![8, 1024]⟩ : Shape).size a ≤ (⟨2, ![8, 1024]⟩ : Shape).size a)
variable (u v : (⟨2, ![1, 1024]⟩ : Shape).Idx → Elt Ideal .f32)

/-- A block filled and then raised in its two rows. -/
theorem rows_begin (z : (⟨2, ![8, 1024]⟩ : Shape).Idx → Elt Ideal .f32) (hz : z (ix2 i j) = (0 : EReal))
    (hu : u (ix2 0 j) = (0 : EReal) + rows d x (ix2 0 j)) (hv : v (ix2 0 j) = (0 : EReal) + rows d x (ix2 1 j)) :
    View.canon (Val := Elt Ideal) (s := ⟨2, ![8, 1024]⟩) (e := .f32) [⟨Rect.unit ![1, 0] ![1, 1024] i1, v⟩,
      ⟨Rect.unit ![0, 0] ![1, 1024] i0, u⟩, ⟨Rect.unit ![0, 0] ![8, 1024] iw, z⟩] (ix2 i j) = (0 : EReal) + rows d x (ix2 i j) := by
  by_cases e1 : i.val = 1
  · obtain rfl : i = 1 := Fin.ext e1
    rw [canon_hit _ _ _ _ _ e1]
    exact hv
  · rw [canon_miss _ _ _ _ _ e1]
    by_cases e0 : i.val = 0
    · obtain rfl : i = 0 := Fin.ext e0
      rw [canon_hit _ _ _ _ _ e0]
      exact hu
    · rw [canon_miss _ _ _ _ _ e0, View.canon_cons_unit_lit' _ _ _ (by decide)]
      exact hz.trans (rows_other d x i j e0 e1 _)

/-- A block kept and raised in its two rows. -/
theorem rows_go {sig : RefSig} {κ : Kind} {sp : Space} (w : View sig κ sp ⟨2, ![8, 1024]⟩ .f32) (f : w.ty.Contents (Elt Ideal))
    (o : (⟨2, ![8, 1024]⟩ : Shape).Idx → EReal) (ho : w.read (Elt Ideal) f = o)
    (hu : u (ix2 0 j) = o (ix2 0 j) + rows d x (ix2 0 j)) (hv : v (ix2 0 j) = o (ix2 1 j) + rows d x (ix2 1 j)) :
    w.read (Elt Ideal) (w.writes (Elt Ideal) f [⟨Rect.unit ![1, 0] ![1, 1024] i1, v⟩, ⟨Rect.unit ![0, 0] ![1, 1024] i0, u⟩]) (ix2 i j)
      = o (ix2 i j) + rows d x (ix2 i j) := by
  by_cases e1 : i.val = 1
  · obtain rfl : i = 1 := Fin.ext e1
    rw [read_hit _ _ _ _ _ _ _ e1]
    exact hv
  · rw [read_miss _ _ _ _ _ _ _ e1]
    by_cases e0 : i.val = 0
    · obtain rfl : i = 0 := Fin.ext e0
      rw [read_hit _ _ _ _ _ _ _ e0]
      exact hu
    · rw [read_miss _ _ _ _ _ _ _ e0, View.writes_nil, ho]
      exact rows_other d x i j e0 e1 _
end

end Cert.Talk

end
-- ==== Proof.Talk.GradFfW2.lean ====
/-
# The gradient of `ff_w2`

Eight grid points add eight blocks of rows' products to one block; over the extended reals the array is the whole product.
-/
module

public import proofs.«01_k».proof.Defs
public import proofs.«01_k».proof.Proof.Talk.Back
public import proofs.«01_k».proof.Proof.Gen.GradFfW2Ideal.Value
public import proofs.«01_k».proof.Proof.Gen.GradFfW2RefIdeal.Run
public import Idealize.ShloMosaic.Lib.Pipeline.ValueKit.Geometry
public import Idealize.ShloMosaic.Lib.Pipeline.ValueKit.Acc
public import Idealize.ShloMosaic.Lib.Pointwise

@[expose] public section

set_option Elab.async false

noncomputable section

namespace Cert.Talk.GradFfW2

open Cert.GradFfW2Ideal Cert.GradFfW2Ideal.Gen Idealize.ShloMosaic Idealize.ShloMosaic.TcCoe Idealize.SL.Sem

variable (m : (ℓ : Loc nD τ sig) → Buf (Elt Ideal) ℓ)

/-- The product as the reference states it. -/
def Prod (a : FVec Ideal S8192x4096 .bf16) (b : FVec Ideal S8192x1024 .bf16) : FVec Ideal S4096x1024 .f32 :=
  Host.dotGeneral Cert.GradFfW2RefIdeal.dot_S4096x8192_S8192x1024_S4096x1024_1_0_0_1_n_n none
    (transpose Cert.GradFfW2RefIdeal.S4096x8192 [1, 0] (extf .f32 a Cert.GradFfW2RefIdeal.Gen.facts.bitsLt_bf16_f32)
      Cert.GradFfW2RefIdeal.Gen.facts.transposes_S8192x4096_S4096x8192_1_0)
    (extf .f32 b Cert.GradFfW2RefIdeal.Gen.facts.bitsLt_bf16_f32)

/-- Point `t`'s blocks: rows in turn; the result's rows are columns of the left side, its columns those of the right. -/
theorem places : ∀ t : Fin cfg0.N, win0_0.index t 0 = t.val % 8 ∧ win0_0.index t 1 = win0_2.index t 0
    ∧ win0_1.index t 0 = t.val % 8 ∧ win0_1.index t 1 = win0_2.index t 1 :=
  (by decide +kernel : ∀ t : Fin grid0.N, _)

/-- The eight points that add to one block. -/
theorem together : ∀ t p : Fin cfg0.N, t.val / 8 = p.val / 8 → win0_2.index t 0 = win0_2.index p 0 ∧ win0_2.index t 1 = win0_2.index p 1 :=
  (by decide +kernel : ∀ t p : Fin grid0.N, t.val / 8 = p.val / 8 → _)

/-- One point's product. -/
def term (c : Dev nD) (p : Fin cfg0.N) (y : S512x1024.Idx) : EReal := mulT (iblk m c 0 p) (iblk m c 1 p) y

/-- What a point adds to the block. -/
theorem step (c : Dev nD) (t : Fin cfg0.N) (o : Vec Ideal S512x1024 .f32) (y : S512x1024.Idx) :
    k0_pay2 (F := Ideal) o (iblk m c 0 t) (iblk m c 1 t) y = o y + term m c t y := by
  unfold k0_pay2 term mulT
  idx_vars y
  pointwise

/-- The block starts at zero. -/
theorem zeros {y : S512x1024.Idx} : k0_pay1 (F := Ideal) y = (0 : EReal) := by
  unfold k0_pay1
  pointwise

/-- A point's blocks, read in the arrays. -/
theorem left (c : Dev nD) (t p : Fin cfg0.N) (h : p.val / 8 = t.val / 8) (k : Fin 1024) (y0 : Fin 512) (y1 : Fin 1024) :
    (iblk m c 0 p : Vec Ideal S1024x512 .bf16) (ix2 k y0)
      = V m c main_arg0 (ix2 (⟨p.val % 8 * 1024 + k.val, by omega⟩ : Fin 8192) ((win0_2.blk t).view.emb (ix2 y0 y1) 0)) := by
  have e := places p
  have g := together p t h
  refine congrArg (V m c main_arg0) (funext fun i => ?_)
  fin_cases i <;> apply Fin.ext <;> blk_simp [e.1, e.2.1, g.1]
  · rfl
  · exact (show ((win0_2.blk t).view.emb (ix2 y0 y1) 0 : ℕ) = win0_2.index t 0 * 512 + y0 by blk_simp).symm
theorem right (c : Dev nD) (t p : Fin cfg0.N) (h : p.val / 8 = t.val / 8) (k : Fin 1024) (y0 : Fin 512) (y1 : Fin 1024) :
    (iblk m c 1 p : Vec Ideal S1024x1024 .bf16) (ix2 k y1)
      = V m c main_arg1 (ix2 (⟨p.val % 8 * 1024 + k.val, by omega⟩ : Fin 8192) ((win0_2.blk t).view.emb (ix2 y0 y1) 1)) := by
  have e := places p
  have g := together p t h
  refine congrArg (V m c main_arg1) (funext fun i => ?_)
  fin_cases i <;> apply Fin.ext <;> blk_simp [e.2.2.1, e.2.2.2, g.2]
  · rfl
  · exact (show ((win0_2.blk t).view.emb (ix2 y0 y1) 1 : ℕ) = win0_2.index t 1 * 1024 + y1 by blk_simp).symm

/-- The array after the last point is the product. -/
theorem array (c : Dev nD) : (dats m 0 c).arrAt 2 cfg0.N = Prod (V m c main_arg0) (V m c main_arg1) := by
  refine (dats m 0 c).arrAt_eq_of_covers 2 _ (by decide +kernel) fun t hf y => ?_
  have last : t.val % 8 = 8 - 1 := (flush0_2 t).mp hf
  have e := Pipeline.eq_sum_fin_of_reset_step_apply_of_flush (M := EReal) (N := cfg0.N) (outsAt0 m c) 8
    (fun _ => 0) (term m c)
    (fun t h0 i => by
      rw [outsAt0_A m c t h0]
      frame_out
      exact (step m c t _ i).trans (congrArg (fun u : EReal => u + term m c t i) zeros))
    (fun t h0 i => by
      rw [outsAt0_B m c t h0]
      frame_out
      exact step m c t _ i) t last
  blk_simp [iblk]
  rw [after0_2]
  refine (e _).trans ?_
  idx_vars y
  unfold Prod
  pointwise
  have d (s : Fin 8) : (8 * (t.val / 8) + s.val) / 8 = t.val / 8 := by omega
  have r (s : Fin 8) : (8 * (t.val / 8) + s.val) % 8 = s.val := by omega
  refine mulT_tiles _ _ (fun s => iblk m c 0 ⟨8 * (t.val / 8) + s.val, Pipeline.run_point_lt_of_flush t last s⟩)
    (fun s => iblk m c 1 ⟨8 * (t.val / 8) + s.val, Pipeline.run_point_lt_of_flush t last s⟩) _ _ y0 y1 (fun s k => ?_) fun s k => ?_
  · have l := left m c t ⟨8 * (t.val / 8) + s.val, Pipeline.run_point_lt_of_flush t last s⟩ (d s) k y0 y1
    simp only [r] at l
    exact l
  · have n := right m c t ⟨8 * (t.val / 8) + s.val, Pipeline.run_point_lt_of_flush t last s⟩ (d s) k y0 y1
    simp only [r] at n
    exact n

/-- Kernel and reference end with the same product of the same arguments. -/
theorem agree : Cert.algebraic_GradFfW2Ideal_GradFfW2RefIdeal := fun m ρ m' ρ' _ h =>
  ⟨_, Value.run_blocks (F := Ideal) m ρ,
    (θ_run Cert.GradFfW2RefIdeal.defs _ _).mono (fun r k c => by
      obtain ⟨k, kept⟩ := k c
      rw [(h c).1, (h c).2] at k
      have e := array m c
      rw [V_main_arg0, V_main_arg1] at e
      exact ⟨k.trans e.symm, kept⟩)
      (Cert.GradFfW2RefIdeal.Value.run (F := Ideal) m' ρ')⟩

end Cert.Talk.GradFfW2

end
-- ==== Proof.Talk.GradFfW1.lean ====
/-
# The gradient of `ff_w1`

Eight grid points add eight blocks of rows' products to one block; over the extended reals the array is the whole product.
-/
module

public import proofs.«01_k».proof.Defs
public import proofs.«01_k».proof.Proof.Talk.Back
public import proofs.«01_k».proof.Proof.Gen.GradFfW1Ideal.Value
public import proofs.«01_k».proof.Proof.Gen.GradFfW1RefIdeal.Run
public import Idealize.ShloMosaic.Lib.Pipeline.ValueKit.Geometry
public import Idealize.ShloMosaic.Lib.Pipeline.ValueKit.Acc
public import Idealize.ShloMosaic.Lib.Pointwise

@[expose] public section

set_option Elab.async false

noncomputable section

namespace Cert.Talk.GradFfW1

open Cert.GradFfW1Ideal Cert.GradFfW1Ideal.Gen Idealize.ShloMosaic Idealize.ShloMosaic.TcCoe Idealize.SL.Sem

variable (m : (ℓ : Loc nD τ sig) → Buf (Elt Ideal) ℓ)

/-- The product as the reference states it. -/
def Prod (a : FVec Ideal S8192x1024 .bf16) (b : FVec Ideal S8192x4096 .bf16) : FVec Ideal S1024x4096 .f32 :=
  Host.dotGeneral Cert.GradFfW1RefIdeal.dot_S1024x8192_S8192x4096_S1024x4096_1_0_0_1_n_n none
    (transpose Cert.GradFfW1RefIdeal.S1024x8192 [1, 0] (extf .f32 a Cert.GradFfW1RefIdeal.Gen.facts.bitsLt_bf16_f32)
      Cert.GradFfW1RefIdeal.Gen.facts.transposes_S8192x1024_S1024x8192_1_0)
    (extf .f32 b Cert.GradFfW1RefIdeal.Gen.facts.bitsLt_bf16_f32)

/-- Point `t`'s blocks: rows in turn; the result's rows are columns of the left side, its columns those of the right. -/
theorem places : ∀ t : Fin cfg0.N, win0_0.index t 0 = t.val % 8 ∧ win0_0.index t 1 = win0_2.index t 0
    ∧ win0_1.index t 0 = t.val % 8 ∧ win0_1.index t 1 = win0_2.index t 1 :=
  (by decide +kernel : ∀ t : Fin grid0.N, _)

/-- The eight points that add to one block. -/
theorem together : ∀ t p : Fin cfg0.N, t.val / 8 = p.val / 8 → win0_2.index t 0 = win0_2.index p 0 ∧ win0_2.index t 1 = win0_2.index p 1 :=
  (by decide +kernel : ∀ t p : Fin grid0.N, t.val / 8 = p.val / 8 → _)

/-- One point's product. -/
def term (c : Dev nD) (p : Fin cfg0.N) (y : S512x1024.Idx) : EReal := mulT (iblk m c 0 p) (iblk m c 1 p) y

/-- What a point adds to the block. -/
theorem step (c : Dev nD) (t : Fin cfg0.N) (o : Vec Ideal S512x1024 .f32) (y : S512x1024.Idx) :
    k0_pay2 (F := Ideal) o (iblk m c 0 t) (iblk m c 1 t) y = o y + term m c t y := by
  unfold k0_pay2 term mulT
  idx_vars y
  pointwise

/-- The block starts at zero. -/
theorem zeros {y : S512x1024.Idx} : k0_pay1 (F := Ideal) y = (0 : EReal) := by
  unfold k0_pay1
  pointwise

/-- A point's blocks, read in the arrays. -/
theorem left (c : Dev nD) (t p : Fin cfg0.N) (h : p.val / 8 = t.val / 8) (k : Fin 1024) (y0 : Fin 512) (y1 : Fin 1024) :
    (iblk m c 0 p : Vec Ideal S1024x512 .bf16) (ix2 k y0)
      = V m c main_arg0 (ix2 (⟨p.val % 8 * 1024 + k.val, by omega⟩ : Fin 8192) ((win0_2.blk t).view.emb (ix2 y0 y1) 0)) := by
  have e := places p
  have g := together p t h
  refine congrArg (V m c main_arg0) (funext fun i => ?_)
  fin_cases i <;> apply Fin.ext <;> blk_simp [e.1, e.2.1, g.1]
  · rfl
  · exact (show ((win0_2.blk t).view.emb (ix2 y0 y1) 0 : ℕ) = win0_2.index t 0 * 512 + y0 by blk_simp).symm
theorem right (c : Dev nD) (t p : Fin cfg0.N) (h : p.val / 8 = t.val / 8) (k : Fin 1024) (y0 : Fin 512) (y1 : Fin 1024) :
    (iblk m c 1 p : Vec Ideal S1024x1024 .bf16) (ix2 k y1)
      = V m c main_arg1 (ix2 (⟨p.val % 8 * 1024 + k.val, by omega⟩ : Fin 8192) ((win0_2.blk t).view.emb (ix2 y0 y1) 1)) := by
  have e := places p
  have g := together p t h
  refine congrArg (V m c main_arg1) (funext fun i => ?_)
  fin_cases i <;> apply Fin.ext <;> blk_simp [e.2.2.1, e.2.2.2, g.2]
  · rfl
  · exact (show ((win0_2.blk t).view.emb (ix2 y0 y1) 1 : ℕ) = win0_2.index t 1 * 1024 + y1 by blk_simp).symm

/-- The array after the last point is the product. -/
theorem array (c : Dev nD) : (dats m 0 c).arrAt 2 cfg0.N = Prod (V m c main_arg0) (V m c main_arg1) := by
  refine (dats m 0 c).arrAt_eq_of_covers 2 _ (by decide +kernel) fun t hf y => ?_
  have last : t.val % 8 = 8 - 1 := (flush0_2 t).mp hf
  have e := Pipeline.eq_sum_fin_of_reset_step_apply_of_flush (M := EReal) (N := cfg0.N) (outsAt0 m c) 8
    (fun _ => 0) (term m c)
    (fun t h0 i => by
      rw [outsAt0_A m c t h0]
      frame_out
      exact (step m c t _ i).trans (congrArg (fun u : EReal => u + term m c t i) zeros))
    (fun t h0 i => by
      rw [outsAt0_B m c t h0]
      frame_out
      exact step m c t _ i) t last
  blk_simp [iblk]
  rw [after0_2]
  refine (e _).trans ?_
  idx_vars y
  unfold Prod
  pointwise
  have d (s : Fin 8) : (8 * (t.val / 8) + s.val) / 8 = t.val / 8 := by omega
  have r (s : Fin 8) : (8 * (t.val / 8) + s.val) % 8 = s.val := by omega
  refine mulT_tiles _ _ (fun s => iblk m c 0 ⟨8 * (t.val / 8) + s.val, Pipeline.run_point_lt_of_flush t last s⟩)
    (fun s => iblk m c 1 ⟨8 * (t.val / 8) + s.val, Pipeline.run_point_lt_of_flush t last s⟩) _ _ y0 y1 (fun s k => ?_) fun s k => ?_
  · have l := left m c t ⟨8 * (t.val / 8) + s.val, Pipeline.run_point_lt_of_flush t last s⟩ (d s) k y0 y1
    simp only [r] at l
    exact l
  · have n := right m c t ⟨8 * (t.val / 8) + s.val, Pipeline.run_point_lt_of_flush t last s⟩ (d s) k y0 y1
    simp only [r] at n
    exact n

/-- Kernel and reference end with the same product of the same arguments. -/
theorem agree : Cert.algebraic_GradFfW1Ideal_GradFfW1RefIdeal := fun m ρ m' ρ' _ h =>
  ⟨_, Value.run_blocks (F := Ideal) m ρ,
    (θ_run Cert.GradFfW1RefIdeal.defs _ _).mono (fun r k c => by
      obtain ⟨k, kept⟩ := k c
      rw [(h c).1, (h c).2] at k
      have e := array m c
      rw [V_main_arg0, V_main_arg1] at e
      exact ⟨k.trans e.symm, kept⟩)
      (Cert.GradFfW1RefIdeal.Value.run (F := Ideal) m' ρ')⟩

end Cert.Talk.GradFfW1

end
-- ==== Proof.Talk.GradGlaWOut.lean ====
/-
# The gradient of `gla_w_out`

Eight grid points add eight blocks of rows' products to one block; over the extended reals the array is the whole product.
-/
module

public import proofs.«01_k».proof.Defs
public import proofs.«01_k».proof.Proof.Talk.Back
public import proofs.«01_k».proof.Proof.Gen.GradGlaWOutIdeal.Value
public import proofs.«01_k».proof.Proof.Gen.GradGlaWOutRefIdeal.Run
public import Idealize.ShloMosaic.Lib.Pipeline.ValueKit.Geometry
public import Idealize.ShloMosaic.Lib.Pipeline.ValueKit.Acc
public import Idealize.ShloMosaic.Lib.Pointwise

@[expose] public section

set_option Elab.async false

noncomputable section

namespace Cert.Talk.GradGlaWOut

open Cert.GradGlaWOutIdeal Cert.GradGlaWOutIdeal.Gen Idealize.ShloMosaic Idealize.ShloMosaic.TcCoe Idealize.SL.Sem

variable (m : (ℓ : Loc nD τ sig) → Buf (Elt Ideal) ℓ)

/-- The product as the reference states it. -/
def Prod (a : FVec Ideal S8192x1024 .bf16) (b : FVec Ideal S8192x1024 .bf16) : FVec Ideal S1024x1024 .f32 :=
  Host.dotGeneral Cert.GradGlaWOutRefIdeal.dot_S1024x8192_S8192x1024_S1024x1024_1_0_0_1_n_n none
    (transpose Cert.GradGlaWOutRefIdeal.S1024x8192 [1, 0] (extf .f32 a Cert.GradGlaWOutRefIdeal.Gen.facts.bitsLt_bf16_f32)
      Cert.GradGlaWOutRefIdeal.Gen.facts.transposes_S8192x1024_S1024x8192_1_0)
    (extf .f32 b Cert.GradGlaWOutRefIdeal.Gen.facts.bitsLt_bf16_f32)

/-- Point `t`'s blocks: rows in turn; the result's rows are columns of the left side, its columns those of the right. -/
theorem places : ∀ t : Fin cfg0.N, win0_0.index t 0 = t.val % 8 ∧ win0_0.index t 1 = win0_2.index t 0
    ∧ win0_1.index t 0 = t.val % 8 ∧ win0_1.index t 1 = win0_2.index t 1 :=
  (by decide +kernel : ∀ t : Fin grid0.N, _)

/-- The eight points that add to one block. -/
theorem together : ∀ t p : Fin cfg0.N, t.val / 8 = p.val / 8 → win0_2.index t 0 = win0_2.index p 0 ∧ win0_2.index t 1 = win0_2.index p 1 :=
  (by decide +kernel : ∀ t p : Fin grid0.N, t.val / 8 = p.val / 8 → _)

/-- One point's product. -/
def term (c : Dev nD) (p : Fin cfg0.N) (y : S512x1024.Idx) : EReal := mulT (iblk m c 0 p) (iblk m c 1 p) y

/-- What a point adds to the block. -/
theorem step (c : Dev nD) (t : Fin cfg0.N) (o : Vec Ideal S512x1024 .f32) (y : S512x1024.Idx) :
    k0_pay2 (F := Ideal) o (iblk m c 0 t) (iblk m c 1 t) y = o y + term m c t y := by
  unfold k0_pay2 term mulT
  idx_vars y
  pointwise

/-- The block starts at zero. -/
theorem zeros {y : S512x1024.Idx} : k0_pay1 (F := Ideal) y = (0 : EReal) := by
  unfold k0_pay1
  pointwise

/-- A point's blocks, read in the arrays. -/
theorem left (c : Dev nD) (t p : Fin cfg0.N) (h : p.val / 8 = t.val / 8) (k : Fin 1024) (y0 : Fin 512) (y1 : Fin 1024) :
    (iblk m c 0 p : Vec Ideal S1024x512 .bf16) (ix2 k y0)
      = V m c main_arg0 (ix2 (⟨p.val % 8 * 1024 + k.val, by omega⟩ : Fin 8192) ((win0_2.blk t).view.emb (ix2 y0 y1) 0)) := by
  have e := places p
  have g := together p t h
  refine congrArg (V m c main_arg0) (funext fun i => ?_)
  fin_cases i <;> apply Fin.ext <;> blk_simp [e.1, e.2.1, g.1]
  · rfl
  · exact (show ((win0_2.blk t).view.emb (ix2 y0 y1) 0 : ℕ) = win0_2.index t 0 * 512 + y0 by blk_simp).symm
theorem right (c : Dev nD) (t p : Fin cfg0.N) (h : p.val / 8 = t.val / 8) (k : Fin 1024) (y0 : Fin 512) (y1 : Fin 1024) :
    (iblk m c 1 p : Vec Ideal S1024x1024 .bf16) (ix2 k y1)
      = V m c main_arg1 (ix2 (⟨p.val % 8 * 1024 + k.val, by omega⟩ : Fin 8192) ((win0_2.blk t).view.emb (ix2 y0 y1) 1)) := by
  have e := places p
  have g := together p t h
  refine congrArg (V m c main_arg1) (funext fun i => ?_)
  fin_cases i <;> apply Fin.ext <;> blk_simp [e.2.2.1, e.2.2.2, g.2]
  · rfl
  · exact (show ((win0_2.blk t).view.emb (ix2 y0 y1) 1 : ℕ) = win0_2.index t 1 * 1024 + y1 by blk_simp).symm

/-- The array after the last point is the product. -/
theorem array (c : Dev nD) : (dats m 0 c).arrAt 2 cfg0.N = Prod (V m c main_arg0) (V m c main_arg1) := by
  refine (dats m 0 c).arrAt_eq_of_covers 2 _ (by decide +kernel) fun t hf y => ?_
  have last : t.val % 8 = 8 - 1 := (flush0_2 t).mp hf
  have e := Pipeline.eq_sum_fin_of_reset_step_apply_of_flush (M := EReal) (N := cfg0.N) (outsAt0 m c) 8
    (fun _ => 0) (term m c)
    (fun t h0 i => by
      rw [outsAt0_A m c t h0]
      frame_out
      exact (step m c t _ i).trans (congrArg (fun u : EReal => u + term m c t i) zeros))
    (fun t h0 i => by
      rw [outsAt0_B m c t h0]
      frame_out
      exact step m c t _ i) t last
  blk_simp [iblk]
  rw [after0_2]
  refine (e _).trans ?_
  idx_vars y
  unfold Prod
  pointwise
  have d (s : Fin 8) : (8 * (t.val / 8) + s.val) / 8 = t.val / 8 := by omega
  have r (s : Fin 8) : (8 * (t.val / 8) + s.val) % 8 = s.val := by omega
  refine mulT_tiles _ _ (fun s => iblk m c 0 ⟨8 * (t.val / 8) + s.val, Pipeline.run_point_lt_of_flush t last s⟩)
    (fun s => iblk m c 1 ⟨8 * (t.val / 8) + s.val, Pipeline.run_point_lt_of_flush t last s⟩) _ _ y0 y1 (fun s k => ?_) fun s k => ?_
  · have l := left m c t ⟨8 * (t.val / 8) + s.val, Pipeline.run_point_lt_of_flush t last s⟩ (d s) k y0 y1
    simp only [r] at l
    exact l
  · have n := right m c t ⟨8 * (t.val / 8) + s.val, Pipeline.run_point_lt_of_flush t last s⟩ (d s) k y0 y1
    simp only [r] at n
    exact n

/-- Kernel and reference end with the same product of the same arguments. -/
theorem agree : Cert.algebraic_GradGlaWOutIdeal_GradGlaWOutRefIdeal := fun m ρ m' ρ' _ h =>
  ⟨_, Value.run_blocks (F := Ideal) m ρ,
    (θ_run Cert.GradGlaWOutRefIdeal.defs _ _).mono (fun r k c => by
      obtain ⟨k, kept⟩ := k c
      rw [(h c).1, (h c).2] at k
      have e := array m c
      rw [V_main_arg0, V_main_arg1] at e
      exact ⟨k.trans e.symm, kept⟩)
      (Cert.GradGlaWOutRefIdeal.Value.run (F := Ideal) m' ρ')⟩

end Cert.Talk.GradGlaWOut

end
-- ==== Proof.Talk.GradGlaWIn.lean ====
/-
# The gradient of `gla_w_in`

Eight grid points add eight blocks of rows' products to one block; over the extended reals the array is the whole product.
-/
module

public import proofs.«01_k».proof.Defs
public import proofs.«01_k».proof.Proof.Talk.Back
public import proofs.«01_k».proof.Proof.Gen.GradGlaWInIdeal.Value
public import proofs.«01_k».proof.Proof.Gen.GradGlaWInRefIdeal.Run
public import Idealize.ShloMosaic.Lib.Pipeline.ValueKit.Geometry
public import Idealize.ShloMosaic.Lib.Pipeline.ValueKit.Acc
public import Idealize.ShloMosaic.Lib.Pointwise

@[expose] public section

set_option Elab.async false

noncomputable section

namespace Cert.Talk.GradGlaWIn

open Cert.GradGlaWInIdeal Cert.GradGlaWInIdeal.Gen Idealize.ShloMosaic Idealize.ShloMosaic.TcCoe Idealize.SL.Sem

variable (m : (ℓ : Loc nD τ sig) → Buf (Elt Ideal) ℓ)

/-- The product as the reference states it. -/
def Prod (a : FVec Ideal S8192x1024 .bf16) (b : FVec Ideal S8192x3200 .bf16) : FVec Ideal S1024x3200 .f32 :=
  Host.dotGeneral Cert.GradGlaWInRefIdeal.dot_S1024x8192_S8192x3200_S1024x3200_1_0_0_1_n_n none
    (transpose Cert.GradGlaWInRefIdeal.S1024x8192 [1, 0] (extf .f32 a Cert.GradGlaWInRefIdeal.Gen.facts.bitsLt_bf16_f32)
      Cert.GradGlaWInRefIdeal.Gen.facts.transposes_S8192x1024_S1024x8192_1_0)
    (extf .f32 b Cert.GradGlaWInRefIdeal.Gen.facts.bitsLt_bf16_f32)

/-- Point `t`'s blocks: rows in turn; the result's rows are columns of the left side, its columns those of the right. -/
theorem places : ∀ t : Fin cfg0.N, win0_0.index t 0 = t.val % 8 ∧ win0_0.index t 1 = win0_2.index t 0
    ∧ win0_1.index t 0 = t.val % 8 ∧ win0_1.index t 1 = win0_2.index t 1 :=
  (by decide +kernel : ∀ t : Fin grid0.N, _)

/-- The eight points that add to one block. -/
theorem together : ∀ t p : Fin cfg0.N, t.val / 8 = p.val / 8 → win0_2.index t 0 = win0_2.index p 0 ∧ win0_2.index t 1 = win0_2.index p 1 :=
  (by decide +kernel : ∀ t p : Fin grid0.N, t.val / 8 = p.val / 8 → _)

/-- One point's product. -/
def term (c : Dev nD) (p : Fin cfg0.N) (y : S512x640.Idx) : EReal := mulT (iblk m c 0 p) (iblk m c 1 p) y

/-- What a point adds to the block. -/
theorem step (c : Dev nD) (t : Fin cfg0.N) (o : Vec Ideal S512x640 .f32) (y : S512x640.Idx) :
    k0_pay2 (F := Ideal) o (iblk m c 0 t) (iblk m c 1 t) y = o y + term m c t y := by
  unfold k0_pay2 term mulT
  idx_vars y
  pointwise

/-- The block starts at zero. -/
theorem zeros {y : S512x640.Idx} : k0_pay1 (F := Ideal) y = (0 : EReal) := by
  unfold k0_pay1
  pointwise

/-- A point's blocks, read in the arrays. -/
theorem left (c : Dev nD) (t p : Fin cfg0.N) (h : p.val / 8 = t.val / 8) (k : Fin 1024) (y0 : Fin 512) (y1 : Fin 640) :
    (iblk m c 0 p : Vec Ideal S1024x512 .bf16) (ix2 k y0)
      = V m c main_arg0 (ix2 (⟨p.val % 8 * 1024 + k.val, by omega⟩ : Fin 8192) ((win0_2.blk t).view.emb (ix2 y0 y1) 0)) := by
  have e := places p
  have g := together p t h
  refine congrArg (V m c main_arg0) (funext fun i => ?_)
  fin_cases i <;> apply Fin.ext <;> blk_simp [e.1, e.2.1, g.1]
  · rfl
  · exact (show ((win0_2.blk t).view.emb (ix2 y0 y1) 0 : ℕ) = win0_2.index t 0 * 512 + y0 by blk_simp).symm
theorem right (c : Dev nD) (t p : Fin cfg0.N) (h : p.val / 8 = t.val / 8) (k : Fin 1024) (y0 : Fin 512) (y1 : Fin 640) :
    (iblk m c 1 p : Vec Ideal S1024x640 .bf16) (ix2 k y1)
      = V m c main_arg1 (ix2 (⟨p.val % 8 * 1024 + k.val, by omega⟩ : Fin 8192) ((win0_2.blk t).view.emb (ix2 y0 y1) 1)) := by
  have e := places p
  have g := together p t h
  refine congrArg (V m c main_arg1) (funext fun i => ?_)
  fin_cases i <;> apply Fin.ext <;> blk_simp [e.2.2.1, e.2.2.2, g.2]
  · rfl
  · exact (show ((win0_2.blk t).view.emb (ix2 y0 y1) 1 : ℕ) = win0_2.index t 1 * 640 + y1 by blk_simp).symm

/-- The array after the last point is the product. -/
theorem array (c : Dev nD) : (dats m 0 c).arrAt 2 cfg0.N = Prod (V m c main_arg0) (V m c main_arg1) := by
  refine (dats m 0 c).arrAt_eq_of_covers 2 _ (by decide +kernel) fun t hf y => ?_
  have last : t.val % 8 = 8 - 1 := (flush0_2 t).mp hf
  have e := Pipeline.eq_sum_fin_of_reset_step_apply_of_flush (M := EReal) (N := cfg0.N) (outsAt0 m c) 8
    (fun _ => 0) (term m c)
    (fun t h0 i => by
      rw [outsAt0_A m c t h0]
      frame_out
      exact (step m c t _ i).trans (congrArg (fun u : EReal => u + term m c t i) zeros))
    (fun t h0 i => by
      rw [outsAt0_B m c t h0]
      frame_out
      exact step m c t _ i) t last
  blk_simp [iblk]
  rw [after0_2]
  refine (e _).trans ?_
  idx_vars y
  unfold Prod
  pointwise
  have d (s : Fin 8) : (8 * (t.val / 8) + s.val) / 8 = t.val / 8 := by omega
  have r (s : Fin 8) : (8 * (t.val / 8) + s.val) % 8 = s.val := by omega
  refine mulT_tiles _ _ (fun s => iblk m c 0 ⟨8 * (t.val / 8) + s.val, Pipeline.run_point_lt_of_flush t last s⟩)
    (fun s => iblk m c 1 ⟨8 * (t.val / 8) + s.val, Pipeline.run_point_lt_of_flush t last s⟩) _ _ y0 y1 (fun s k => ?_) fun s k => ?_
  · have l := left m c t ⟨8 * (t.val / 8) + s.val, Pipeline.run_point_lt_of_flush t last s⟩ (d s) k y0 y1
    simp only [r] at l
    exact l
  · have n := right m c t ⟨8 * (t.val / 8) + s.val, Pipeline.run_point_lt_of_flush t last s⟩ (d s) k y0 y1
    simp only [r] at n
    exact n

/-- Kernel and reference end with the same product of the same arguments. -/
theorem agree : Cert.algebraic_GradGlaWInIdeal_GradGlaWInRefIdeal := fun m ρ m' ρ' _ h =>
  ⟨_, Value.run_blocks (F := Ideal) m ρ,
    (θ_run Cert.GradGlaWInRefIdeal.defs _ _).mono (fun r k c => by
      obtain ⟨k, kept⟩ := k c
      rw [(h c).1, (h c).2] at k
      have e := array m c
      rw [V_main_arg0, V_main_arg1] at e
      exact ⟨k.trans e.symm, kept⟩)
      (Cert.GradGlaWInRefIdeal.Value.run (F := Ideal) m' ρ')⟩

end Cert.Talk.GradGlaWIn

end
-- ==== Proof.Talk.GradAttWIn.lean ====
/-
# The gradient of `att_w_in`

Eight grid points add eight blocks of rows' products to one block; over the extended reals the array is the whole product.
-/
module

public import proofs.«01_k».proof.Defs
public import proofs.«01_k».proof.Proof.Talk.Back
public import proofs.«01_k».proof.Proof.Gen.GradAttWInIdeal.Value
public import proofs.«01_k».proof.Proof.Gen.GradAttWInRefIdeal.Run
public import Idealize.ShloMosaic.Lib.Pipeline.ValueKit.Geometry
public import Idealize.ShloMosaic.Lib.Pipeline.ValueKit.Acc
public import Idealize.ShloMosaic.Lib.Pointwise

@[expose] public section

set_option Elab.async false

noncomputable section

namespace Cert.Talk.GradAttWIn

open Cert.GradAttWInIdeal Cert.GradAttWInIdeal.Gen Idealize.ShloMosaic Idealize.ShloMosaic.TcCoe Idealize.SL.Sem

variable (m : (ℓ : Loc nD τ sig) → Buf (Elt Ideal) ℓ)

/-- The product as the reference states it. -/
def Prod (a : FVec Ideal S8192x1024 .bf16) (b : FVec Ideal S8192x3072 .bf16) : FVec Ideal S1024x3072 .f32 :=
  Host.dotGeneral Cert.GradAttWInRefIdeal.dot_S1024x8192_S8192x3072_S1024x3072_1_0_0_1_n_n none
    (transpose Cert.GradAttWInRefIdeal.S1024x8192 [1, 0] (extf .f32 a Cert.GradAttWInRefIdeal.Gen.facts.bitsLt_bf16_f32)
      Cert.GradAttWInRefIdeal.Gen.facts.transposes_S8192x1024_S1024x8192_1_0)
    (extf .f32 b Cert.GradAttWInRefIdeal.Gen.facts.bitsLt_bf16_f32)

/-- Point `t`'s blocks: rows in turn; the result's rows are columns of the left side, its columns those of the right. -/
theorem places : ∀ t : Fin cfg0.N, win0_0.index t 0 = t.val % 8 ∧ win0_0.index t 1 = win0_2.index t 0
    ∧ win0_1.index t 0 = t.val % 8 ∧ win0_1.index t 1 = win0_2.index t 1 :=
  (by decide +kernel : ∀ t : Fin grid0.N, _)

/-- The eight points that add to one block. -/
theorem together : ∀ t p : Fin cfg0.N, t.val / 8 = p.val / 8 → win0_2.index t 0 = win0_2.index p 0 ∧ win0_2.index t 1 = win0_2.index p 1 :=
  (by decide +kernel : ∀ t p : Fin grid0.N, t.val / 8 = p.val / 8 → _)

/-- One point's product. -/
def term (c : Dev nD) (p : Fin cfg0.N) (y : S512x1024.Idx) : EReal := mulT (iblk m c 0 p) (iblk m c 1 p) y

/-- What a point adds to the block. -/
theorem step (c : Dev nD) (t : Fin cfg0.N) (o : Vec Ideal S512x1024 .f32) (y : S512x1024.Idx) :
    k0_pay2 (F := Ideal) o (iblk m c 0 t) (iblk m c 1 t) y = o y + term m c t y := by
  unfold k0_pay2 term mulT
  idx_vars y
  pointwise

/-- The block starts at zero. -/
theorem zeros {y : S512x1024.Idx} : k0_pay1 (F := Ideal) y = (0 : EReal) := by
  unfold k0_pay1
  pointwise

/-- A point's blocks, read in the arrays. -/
theorem left (c : Dev nD) (t p : Fin cfg0.N) (h : p.val / 8 = t.val / 8) (k : Fin 1024) (y0 : Fin 512) (y1 : Fin 1024) :
    (iblk m c 0 p : Vec Ideal S1024x512 .bf16) (ix2 k y0)
      = V m c main_arg0 (ix2 (⟨p.val % 8 * 1024 + k.val, by omega⟩ : Fin 8192) ((win0_2.blk t).view.emb (ix2 y0 y1) 0)) := by
  have e := places p
  have g := together p t h
  refine congrArg (V m c main_arg0) (funext fun i => ?_)
  fin_cases i <;> apply Fin.ext <;> blk_simp [e.1, e.2.1, g.1]
  · rfl
  · exact (show ((win0_2.blk t).view.emb (ix2 y0 y1) 0 : ℕ) = win0_2.index t 0 * 512 + y0 by blk_simp).symm
theorem right (c : Dev nD) (t p : Fin cfg0.N) (h : p.val / 8 = t.val / 8) (k : Fin 1024) (y0 : Fin 512) (y1 : Fin 1024) :
    (iblk m c 1 p : Vec Ideal S1024x1024 .bf16) (ix2 k y1)
      = V m c main_arg1 (ix2 (⟨p.val % 8 * 1024 + k.val, by omega⟩ : Fin 8192) ((win0_2.blk t).view.emb (ix2 y0 y1) 1)) := by
  have e := places p
  have g := together p t h
  refine congrArg (V m c main_arg1) (funext fun i => ?_)
  fin_cases i <;> apply Fin.ext <;> blk_simp [e.2.2.1, e.2.2.2, g.2]
  · rfl
  · exact (show ((win0_2.blk t).view.emb (ix2 y0 y1) 1 : ℕ) = win0_2.index t 1 * 1024 + y1 by blk_simp).symm

/-- The array after the last point is the product. -/
theorem array (c : Dev nD) : (dats m 0 c).arrAt 2 cfg0.N = Prod (V m c main_arg0) (V m c main_arg1) := by
  refine (dats m 0 c).arrAt_eq_of_covers 2 _ (by decide +kernel) fun t hf y => ?_
  have last : t.val % 8 = 8 - 1 := (flush0_2 t).mp hf
  have e := Pipeline.eq_sum_fin_of_reset_step_apply_of_flush (M := EReal) (N := cfg0.N) (outsAt0 m c) 8
    (fun _ => 0) (term m c)
    (fun t h0 i => by
      rw [outsAt0_A m c t h0]
      frame_out
      exact (step m c t _ i).trans (congrArg (fun u : EReal => u + term m c t i) zeros))
    (fun t h0 i => by
      rw [outsAt0_B m c t h0]
      frame_out
      exact step m c t _ i) t last
  blk_simp [iblk]
  rw [after0_2]
  refine (e _).trans ?_
  idx_vars y
  unfold Prod
  pointwise
  have d (s : Fin 8) : (8 * (t.val / 8) + s.val) / 8 = t.val / 8 := by omega
  have r (s : Fin 8) : (8 * (t.val / 8) + s.val) % 8 = s.val := by omega
  refine mulT_tiles _ _ (fun s => iblk m c 0 ⟨8 * (t.val / 8) + s.val, Pipeline.run_point_lt_of_flush t last s⟩)
    (fun s => iblk m c 1 ⟨8 * (t.val / 8) + s.val, Pipeline.run_point_lt_of_flush t last s⟩) _ _ y0 y1 (fun s k => ?_) fun s k => ?_
  · have l := left m c t ⟨8 * (t.val / 8) + s.val, Pipeline.run_point_lt_of_flush t last s⟩ (d s) k y0 y1
    simp only [r] at l
    exact l
  · have n := right m c t ⟨8 * (t.val / 8) + s.val, Pipeline.run_point_lt_of_flush t last s⟩ (d s) k y0 y1
    simp only [r] at n
    exact n

/-- Kernel and reference end with the same product of the same arguments. -/
theorem agree : Cert.algebraic_GradAttWInIdeal_GradAttWInRefIdeal := fun m ρ m' ρ' _ h =>
  ⟨_, Value.run_blocks (F := Ideal) m ρ,
    (θ_run Cert.GradAttWInRefIdeal.defs _ _).mono (fun r k c => by
      obtain ⟨k, kept⟩ := k c
      rw [(h c).1, (h c).2] at k
      have e := array m c
      rw [V_main_arg0, V_main_arg1] at e
      exact ⟨k.trans e.symm, kept⟩)
      (Cert.GradAttWInRefIdeal.Value.run (F := Ideal) m' ρ')⟩

end Cert.Talk.GradAttWIn

end
-- ==== Proof.Talk.DxGla.lean ====
/-
# Back through the linear attention's input projection

Every grid point stores its rows of the gradient and adds two rows of sums to one block. Over the extended reals the arrays are
the gradient, and the sums over all rows.
-/
module

public import proofs.«01_k».proof.Defs
public import proofs.«01_k».proof.Proof.Talk.Back
public import proofs.«01_k».proof.Proof.Gen.DxGlaIdeal.Value
public import proofs.«01_k».proof.Proof.Gen.DxGlaRefIdeal.Run
public import Idealize.ShloMosaic.Lib.Pipeline.ValueKit.Geometry
public import Idealize.ShloMosaic.Lib.Pipeline.ValueKit.Acc
public import Idealize.ShloMosaic.Lib.Pointwise

@[expose] public section

set_option Elab.async false

noncomputable section

namespace Cert.Talk.DxGla

open Cert.DxGlaIdeal Cert.DxGlaIdeal.Gen Idealize.ShloMosaic Idealize.ShloMosaic.TcCoe Idealize.SL.Sem

variable (m : (ℓ : Loc nD τ sig) → Buf (Elt Ideal) ℓ)

/-- Back through the matrix, as the reference states it. -/
def back (a : FVec Ideal S8192x3200 .bf16) (b : FVec Ideal S3200x1024 .bf16) : FVec Ideal S8192x1024 .f32 :=
  Host.dotGeneral Cert.DxGlaRefIdeal.dot_S8192x3200_S3200x1024_S8192x1024_1_0_0_1_n_n none
    (extf .f32 a Cert.DxGlaRefIdeal.Gen.facts.bitsLt_bf16_f32) (extf .f32 b Cert.DxGlaRefIdeal.Gen.facts.bitsLt_bf16_f32)

/-- The gradient as the reference states it. -/
def Grad (a : FVec Ideal S8192x3200 .bf16) (b : FVec Ideal S3200x1024 .bf16) (z : FVec Ideal S8192x1024 .f32)
    (s : FVec Ideal S1x1024 .f32) : FVec Ideal S8192x1024 .f32 :=
  addf (mulf (broadcastInDim S8192x1024 ![] Cert.DxGlaRefIdeal.Gen.facts.bcast_S_S8192x1024 (constant (F := Ideal) Cert.DxGlaRefIdeal.S_ .f32 0x3FD744FD#32)) z)
    (mulf (back a b) (broadcastInDim S8192x1024 ![0, 1] Cert.DxGlaRefIdeal.Gen.facts.bcast_S1x1024_S8192x1024_0_1 s))

/-- A row of sums as the reference states it. -/
def Row (v : FVec Ideal S8192x1024 .f32) : FVec Ideal S1x1024 .f32 :=
  broadcastInDim S1x1024 ![1] Cert.DxGlaRefIdeal.Gen.facts.bcast_S1024_S1x1024_1
    (Host.reduceAdd v (constant (F := Ideal) Cert.DxGlaRefIdeal.S_ .f32 0x00000000#32)
      Cert.DxGlaRefIdeal.Gen.facts.reducesTo_S8192x1024_S1024_d0 Cert.DxGlaRefIdeal.Gen.facts.h_S_)

/-- The sums as the reference states them: two rows, then zeros. -/
def Sums (a : FVec Ideal S8192x3200 .bf16) (b : FVec Ideal S3200x1024 .bf16) (x : FVec Ideal S8192x1024 .f32) : FVec Ideal S8x1024 .f32 :=
  concatenate S8x1024 0 [⟨Cert.DxGlaRefIdeal.S2x1024, concatenate Cert.DxGlaRefIdeal.S2x1024 0 [⟨S1x1024, Row (mulf (back a b) x)⟩, ⟨S1x1024, Row (back a b)⟩]
      Cert.DxGlaRefIdeal.Gen.facts.concatenates_S1x1024_S1x1024_S2x1024_d0⟩,
    ⟨Cert.DxGlaRefIdeal.S6x1024, broadcastInDim Cert.DxGlaRefIdeal.S6x1024 ![] Cert.DxGlaRefIdeal.Gen.facts.bcast_S_S6x1024
      (constant (F := Ideal) Cert.DxGlaRefIdeal.S_ .f32 0x00000000#32)⟩] Cert.DxGlaRefIdeal.Gen.facts.concatenates_S2x1024_S6x1024_S8x1024_d0

/-- One point's two sums. -/
def term (c : Dev nD) (p : Fin cfg0.N) (i : S8x1024.Idx) : EReal := rows (mul (iblk m c 0 p) (iblk m c 1 p)) (iblk m c 3 p) i

/-- The reference's sums, entry by entry. -/
theorem sums_at (a : FVec Ideal S8192x3200 .bf16) (b : FVec Ideal S3200x1024 .bf16) (x : FVec Ideal S8192x1024 .f32) (i : S8x1024.Idx) :
    Sums a b x i = rows (mul a b) x i := by
  unfold Sums Row back rows pick mul
  idx_vars i
  fin_cases i0
  all_goals pointwise
  all_goals rfl

/-- The first row of a block grows by the point's first sum, -/
theorem first (a : FVec Ideal S256x3200 .bf16) (b : FVec Ideal S3200x1024 .bf16) (x : FVec Ideal S256x1024 .f32) (v : FVec Ideal S1x1024 .f32) (j : Fin 1024) :
    k0_pay4 (F := Ideal) a b v x (ix2 0 j) = v (ix2 0 j) + rows (mul a b) x (ix2 0 j) := by
  unfold k0_pay4 k0_pay2 rows mul
  pointwise
  rfl

/-- the second by the second. -/
theorem second (a : FVec Ideal S256x3200 .bf16) (b : FVec Ideal S3200x1024 .bf16) (x : FVec Ideal S256x1024 .f32) (v : FVec Ideal S1x1024 .f32) (j : Fin 1024) :
    k0_pay5 (F := Ideal) a b v (ix2 0 j) = v (ix2 0 j) + rows (mul a b) x (ix2 1 j) := by
  unfold k0_pay5 k0_pay2 rows mul
  pointwise
  rfl

/-- The block starts at zero. -/
theorem zeros {i : S8x1024.Idx} : k0_pay1 (F := Ideal) i = (0 : EReal) := by
  unfold k0_pay1
  pointwise

/-- What the first point leaves in the block. -/
theorem begins (c : Dev nD) (t : Fin cfg0.N) (h0 : t.val % 32 = 0) (i : S8x1024.Idx) :
    (outsAt0 m c t.val t.isLt).2 i = (0 : EReal) + term m c t i := by
  rw [outsAt0_A m c t h0]
  frame_out
  idx_vars i
  refine rows_begin _ _ i0 i1 _ _ _ _ _ _ zeros ?_ ?_
  · refine (first _ _ _ _ _).trans (congrArg (fun u : EReal => u + term m c t (ix2 0 i1)) ?_)
    rw [load_written _ _ _ 0 _ (show ((0 : Fin 8) : ℕ) = 0 from rfl), View.canon_cons_unit_lit' _ _ _ (by decide)]
    exact zeros
  · refine (second _ _ (iblk m c 3 t) _ _).trans (congrArg (fun u : EReal => u + term m c t (ix2 1 i1)) ?_)
    rw [load_written _ _ _ 1 _ (show ((1 : Fin 8) : ℕ) = 1 from rfl), canon_miss _ _ _ _ _ (by decide), View.canon_cons_unit_lit' _ _ _ (by decide)]
    exact zeros

/-- What every later point adds. -/
theorem goes_on (c : Dev nD) (t : Fin cfg0.N) (h0 : ¬ t.val % 32 = 0) (i : S8x1024.Idx) :
    (outsAt0 m c t.val t.isLt).2 i = ((outsAt0 m c (t.val - 1) (Nat.lt_of_le_of_lt (Nat.sub_le _ _) t.isLt)).2 i : EReal) + term m c t i := by
  rw [outsAt0_B m c t h0]
  frame_out
  idx_vars i
  refine rows_go _ _ i0 i1 _ _ _ _ _ _ _ (Memref.IsWhole.read_unread _ _) ?_ ?_
  · exact (first _ _ _ _ _).trans (congrArg (fun u : EReal => u + term m c t (ix2 0 i1)) (load_row _ _ 0 _ rfl))
  · exact (second _ _ (iblk m c 3 t) _ _).trans (congrArg (fun u : EReal => u + term m c t (ix2 1 i1)) (load_row _ _ 1 _ rfl))

/-- Where the blocks lie. -/
theorem places : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = t.val ∧ win0_5.index t 1 = 0)
    ∧ (win0_6.index t 0 = 0 ∧ win0_6.index t 1 = 0) :=
  (by decide +kernel : ∀ t : Fin grid0.N, _)

/-- A point's blocks, read in the arrays. -/
theorem left (c : Dev nD) (t : Fin cfg0.N) (r : Fin 256) (k : Fin 3200) :
    (iblk m c 0 t : Vec Ideal S256x3200 .bf16) (ix2 r k)
      = V m c main_arg0 (ix2 (⟨t.val * 256 + r.val, by have := t.isLt; change t.val < 32 at this; omega⟩ : Fin 8192) k) := by
  refine congrArg (V m c main_arg0) (funext fun i => ?_)
  fin_cases i <;> apply Fin.ext <;> blk_simp [(places t).1.1, (places t).1.2] <;> rfl
theorem right (c : Dev nD) (t : Fin cfg0.N) (k : Fin 3200) (j : Fin 1024) :
    (iblk m c 1 t : Vec Ideal S3200x1024 .bf16) (ix2 k j) = V m c main_arg1 (ix2 k j) := by
  refine congrArg (V m c main_arg1) (funext fun i => ?_)
  fin_cases i <;> apply Fin.ext <;> blk_simp [(places t).2.1.1, (places t).2.1.2] <;> rfl
theorem input (c : Dev nD) (t : Fin cfg0.N) (r : Fin 256) (j : Fin 1024) :
    (iblk m c 3 t : Vec Ideal S256x1024 .f32) (ix2 r j)
      = V m c main_arg3 (ix2 (⟨t.val * 256 + r.val, by have := t.isLt; change t.val < 32 at this; omega⟩ : Fin 8192) j) := by
  refine congrArg (V m c main_arg3) (funext fun i => ?_)
  fin_cases i <;> apply Fin.ext <;> blk_simp [(places t).2.2.2.1.1, (places t).2.2.2.1.2] <;> rfl

/-- The first array after the last point is the gradient. -/
theorem grads (c : Dev nD) : (dats m 0 c).arrAt 5 cfg0.N
    = Grad (V m c main_arg0) (V m c main_arg1) (V m c main_arg2) (V m c main_arg4) := by
  refine (dats m 0 c).arrAt_eq_of_covers 5 _ (by decide +kernel) fun t hf y => ?_
  have e : (outsAt0 m c t.val t.isLt).1 = k0_pay3 (iblk m c 0 t) (iblk m c 1 t) (iblk m c 2 t) (iblk m c 4 t) := by
    by_cases h0 : t.val % 32 = 0
    · rw [outsAt0_A m c t h0]
      frame_out
    · rw [outsAt0_B m c t h0]
      frame_out
  blk_simp [iblk]
  rw [after0_5, e]
  unfold Grad back k0_pay3 k0_pay2
  idx_vars y
  pointwise
  have l : ((win0_5.blk t).view.emb (ix2 y0 y1) 0 : ℕ) = t.val * 256 + y0 := by
    blk_simp [(places t).2.2.2.2.2.1.1]
  have r : ((win0_5.blk t).view.emb (ix2 y0 y1) 1 : ℕ) = y1 := by
    blk_simp [(places t).2.2.2.2.2.1.2]
  refine congrArg₂ (fun u v : EReal => u + v) (congrArg (fun u : EReal => Ideal.ofBits FTy.f32 1071072509#32 * u) ?_)
    (congrArg₂ (fun u v : EReal => u * v) (Finset.sum_congr (M := EReal) rfl fun k _ => congrArg₂ (fun u v : EReal => u * v) ?_ ?_) ?_)
  · refine congrArg (V m c main_arg2) (funext fun i => ?_)
    fin_cases i <;> apply Fin.ext <;> blk_simp [(places t).2.2.1.1, (places t).2.2.1.2, (places t).2.2.2.2.2.1.1, (places t).2.2.2.2.2.1.2]
  · exact (left m c t y0 k).trans (congrArg (V m c main_arg0) (congrArg (fun i => ix2 i k) (Fin.ext l.symm)))
  · exact (right m c t k y1).trans (congrArg (V m c main_arg1) (congrArg (ix2 k) (Fin.ext r.symm)))
  · refine congrArg (V m c main_arg4) (funext fun i => ?_)
    fin_cases i <;> apply Fin.ext <;> blk_simp [(places t).2.2.2.2.1.1, (places t).2.2.2.2.1.2]
    exact r.symm

/-- The second array after the last point holds the two sums. -/
theorem sums (c : Dev nD) : (dats m 0 c).arrAt 6 cfg0.N = Sums (V m c main_arg0) (V m c main_arg1) (V m c main_arg3) := by
  refine (dats m 0 c).arrAt_eq_of_covers 6 _ (by decide +kernel) fun t hf y => ?_
  have last : t.val % 32 = 31 := (flush0_6 t).mp hf
  have e := fun i => Pipeline.eq_sum_fin_of_reset_step_apply_last (M := EReal) (N := cfg0.N) (fun n hn => (outsAt0 m c n hn).2) 32 (fun _ => 0)
    (term m c) (fun t h0 i => begins m c t h0 i) (fun t h0 i => goes_on m c t h0 i)
    (Nat.le_refl _) t (show t.val + 1 = 32 by have := t.isLt; change t.val < 32 at this; omega) i
  blk_simp [iblk]
  rw [after0_6]
  refine ((e _).trans (zero_add _)).trans ?_
  have w : (win0_6.blk t).view.emb y = y := by
    funext i
    fin_cases i <;> apply Fin.ext <;> blk_simp [(places t).2.2.2.2.2.2.1, (places t).2.2.2.2.2.2.2] <;> rfl
  rw [w, sums_at]
  exact rows_tiles _ _ (fun p => mul (iblk m c 0 p) (iblk m c 1 p)) (fun p => iblk m c 3 p)
    (fun p r j => mul_block _ _ _ _ r _ j (left m c p r) fun k => right m c p k j) (input m c) y

/-- Kernel and reference end with the same two arrays of the same arguments. -/
theorem agree : Cert.algebraic_DxGlaIdeal_DxGlaRefIdeal := fun m ρ m' ρ' _ h =>
  ⟨_, _, Value.run_blocks (F := Ideal) m ρ,
    (θ_run Cert.DxGlaRefIdeal.defs _ _).mono (fun r k c => by
      obtain ⟨ke, ks, kept⟩ := k c
      obtain ⟨h0, h1, h2, h3, h4⟩ := h c
      rw [h0, h1, h2, h4] at ke
      rw [h0, h1, h3] at ks
      have e := grads m c
      have s := sums m c
      rw [V_main_arg0, V_main_arg1, V_main_arg2, V_main_arg4] at e
      rw [V_main_arg0, V_main_arg1, V_main_arg3] at s
      exact ⟨ke.trans e.symm, ks.trans s.symm, kept⟩)
      (Cert.DxGlaRefIdeal.Value.run (F := Ideal) m' ρ')⟩

end Cert.Talk.DxGla

end
-- ==== Proof.Talk.DxAtt.lean ====
/-
# Back through the attention's input projection

Every grid point stores its rows of the gradient and adds two rows of sums to one block. Over the extended reals the arrays are
the gradient, and the sums over all rows.
-/
module

public import proofs.«01_k».proof.Defs
public import proofs.«01_k».proof.Proof.Talk.Back
public import proofs.«01_k».proof.Proof.Gen.DxAttIdeal.Value
public import proofs.«01_k».proof.Proof.Gen.DxAttRefIdeal.Run
public import Idealize.ShloMosaic.Lib.Pipeline.ValueKit.Geometry
public import Idealize.ShloMosaic.Lib.Pipeline.ValueKit.Acc
public import Idealize.ShloMosaic.Lib.Pointwise

@[expose] public section

set_option Elab.async false

noncomputable section

namespace Cert.Talk.DxAtt

open Cert.DxAttIdeal Cert.DxAttIdeal.Gen Idealize.ShloMosaic Idealize.ShloMosaic.TcCoe Idealize.SL.Sem

variable (m : (ℓ : Loc nD τ sig) → Buf (Elt Ideal) ℓ)

/-- Back through the matrix, as the reference states it. -/
def back (a : FVec Ideal S8192x3072 .bf16) (b : FVec Ideal S3072x1024 .bf16) : FVec Ideal S8192x1024 .f32 :=
  Host.dotGeneral Cert.DxAttRefIdeal.dot_S8192x3072_S3072x1024_S8192x1024_1_0_0_1_n_n none
    (extf .f32 a Cert.DxAttRefIdeal.Gen.facts.bitsLt_bf16_f32) (extf .f32 b Cert.DxAttRefIdeal.Gen.facts.bitsLt_bf16_f32)

/-- The gradient as the reference states it. -/
def Grad (a : FVec Ideal S8192x3072 .bf16) (b : FVec Ideal S3072x1024 .bf16) (z : FVec Ideal S8192x1024 .f32)
    (s : FVec Ideal S1x1024 .f32) : FVec Ideal S8192x1024 .f32 :=
  addf (mulf (broadcastInDim S8192x1024 ![] Cert.DxAttRefIdeal.Gen.facts.bcast_S_S8192x1024 (constant (F := Ideal) Cert.DxAttRefIdeal.S_ .f32 0x3FD744FD#32)) z)
    (mulf (back a b) (broadcastInDim S8192x1024 ![0, 1] Cert.DxAttRefIdeal.Gen.facts.bcast_S1x1024_S8192x1024_0_1 s))

/-- A row of sums as the reference states it. -/
def Row (v : FVec Ideal S8192x1024 .f32) : FVec Ideal S1x1024 .f32 :=
  broadcastInDim S1x1024 ![1] Cert.DxAttRefIdeal.Gen.facts.bcast_S1024_S1x1024_1
    (Host.reduceAdd v (constant (F := Ideal) Cert.DxAttRefIdeal.S_ .f32 0x00000000#32)
      Cert.DxAttRefIdeal.Gen.facts.reducesTo_S8192x1024_S1024_d0 Cert.DxAttRefIdeal.Gen.facts.h_S_)

/-- The sums as the reference states them: two rows, then zeros. -/
def Sums (a : FVec Ideal S8192x3072 .bf16) (b : FVec Ideal S3072x1024 .bf16) (x : FVec Ideal S8192x1024 .f32) : FVec Ideal S8x1024 .f32 :=
  concatenate S8x1024 0 [⟨Cert.DxAttRefIdeal.S2x1024, concatenate Cert.DxAttRefIdeal.S2x1024 0 [⟨S1x1024, Row (mulf (back a b) x)⟩, ⟨S1x1024, Row (back a b)⟩]
      Cert.DxAttRefIdeal.Gen.facts.concatenates_S1x1024_S1x1024_S2x1024_d0⟩,
    ⟨Cert.DxAttRefIdeal.S6x1024, broadcastInDim Cert.DxAttRefIdeal.S6x1024 ![] Cert.DxAttRefIdeal.Gen.facts.bcast_S_S6x1024
      (constant (F := Ideal) Cert.DxAttRefIdeal.S_ .f32 0x00000000#32)⟩] Cert.DxAttRefIdeal.Gen.facts.concatenates_S2x1024_S6x1024_S8x1024_d0

/-- One point's two sums. -/
def term (c : Dev nD) (p : Fin cfg0.N) (i : S8x1024.Idx) : EReal := rows (mul (iblk m c 0 p) (iblk m c 1 p)) (iblk m c 3 p) i

/-- The reference's sums, entry by entry. -/
theorem sums_at (a : FVec Ideal S8192x3072 .bf16) (b : FVec Ideal S3072x1024 .bf16) (x : FVec Ideal S8192x1024 .f32) (i : S8x1024.Idx) :
    Sums a b x i = rows (mul a b) x i := by
  unfold Sums Row back rows pick mul
  idx_vars i
  fin_cases i0
  all_goals pointwise
  all_goals rfl

/-- The first row of a block grows by the point's first sum, -/
theorem first (a : FVec Ideal S256x3072 .bf16) (b : FVec Ideal S3072x1024 .bf16) (x : FVec Ideal S256x1024 .f32) (v : FVec Ideal S1x1024 .f32) (j : Fin 1024) :
    k0_pay4 (F := Ideal) a b v x (ix2 0 j) = v (ix2 0 j) + rows (mul a b) x (ix2 0 j) := by
  unfold k0_pay4 k0_pay2 rows mul
  pointwise
  rfl

/-- the second by the second. -/
theorem second (a : FVec Ideal S256x3072 .bf16) (b : FVec Ideal S3072x1024 .bf16) (x : FVec Ideal S256x1024 .f32) (v : FVec Ideal S1x1024 .f32) (j : Fin 1024) :
    k0_pay5 (F := Ideal) a b v (ix2 0 j) = v (ix2 0 j) + rows (mul a b) x (ix2 1 j) := by
  unfold k0_pay5 k0_pay2 rows mul
  pointwise
  rfl

/-- The block starts at zero. -/
theorem zeros {i : S8x1024.Idx} : k0_pay1 (F := Ideal) i = (0 : EReal) := by
  unfold k0_pay1
  pointwise

/-- What the first point leaves in the block. -/
theorem begins (c : Dev nD) (t : Fin cfg0.N) (h0 : t.val % 32 = 0) (i : S8x1024.Idx) :
    (outsAt0 m c t.val t.isLt).2 i = (0 : EReal) + term m c t i := by
  rw [outsAt0_A m c t h0]
  frame_out
  idx_vars i
  refine rows_begin _ _ i0 i1 _ _ _ _ _ _ zeros ?_ ?_
  · refine (first _ _ _ _ _).trans (congrArg (fun u : EReal => u + term m c t (ix2 0 i1)) ?_)
    rw [load_written _ _ _ 0 _ (show ((0 : Fin 8) : ℕ) = 0 from rfl), View.canon_cons_unit_lit' _ _ _ (by decide)]
    exact zeros
  · refine (second _ _ (iblk m c 3 t) _ _).trans (congrArg (fun u : EReal => u + term m c t (ix2 1 i1)) ?_)
    rw [load_written _ _ _ 1 _ (show ((1 : Fin 8) : ℕ) = 1 from rfl), canon_miss _ _ _ _ _ (by decide), View.canon_cons_unit_lit' _ _ _ (by decide)]
    exact zeros

/-- What every later point adds. -/
theorem goes_on (c : Dev nD) (t : Fin cfg0.N) (h0 : ¬ t.val % 32 = 0) (i : S8x1024.Idx) :
    (outsAt0 m c t.val t.isLt).2 i = ((outsAt0 m c (t.val - 1) (Nat.lt_of_le_of_lt (Nat.sub_le _ _) t.isLt)).2 i : EReal) + term m c t i := by
  rw [outsAt0_B m c t h0]
  frame_out
  idx_vars i
  refine rows_go _ _ i0 i1 _ _ _ _ _ _ _ (Memref.IsWhole.read_unread _ _) ?_ ?_
  · exact (first _ _ _ _ _).trans (congrArg (fun u : EReal => u + term m c t (ix2 0 i1)) (load_row _ _ 0 _ rfl))
  · exact (second _ _ (iblk m c 3 t) _ _).trans (congrArg (fun u : EReal => u + term m c t (ix2 1 i1)) (load_row _ _ 1 _ rfl))

/-- Where the blocks lie. -/
theorem places : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = t.val ∧ win0_5.index t 1 = 0)
    ∧ (win0_6.index t 0 = 0 ∧ win0_6.index t 1 = 0) :=
  (by decide +kernel : ∀ t : Fin grid0.N, _)

/-- A point's blocks, read in the arrays. -/
theorem left (c : Dev nD) (t : Fin cfg0.N) (r : Fin 256) (k : Fin 3072) :
    (iblk m c 0 t : Vec Ideal S256x3072 .bf16) (ix2 r k)
      = V m c main_arg0 (ix2 (⟨t.val * 256 + r.val, by have := t.isLt; change t.val < 32 at this; omega⟩ : Fin 8192) k) := by
  refine congrArg (V m c main_arg0) (funext fun i => ?_)
  fin_cases i <;> apply Fin.ext <;> blk_simp [(places t).1.1, (places t).1.2] <;> rfl
theorem right (c : Dev nD) (t : Fin cfg0.N) (k : Fin 3072) (j : Fin 1024) :
    (iblk m c 1 t : Vec Ideal S3072x1024 .bf16) (ix2 k j) = V m c main_arg1 (ix2 k j) := by
  refine congrArg (V m c main_arg1) (funext fun i => ?_)
  fin_cases i <;> apply Fin.ext <;> blk_simp [(places t).2.1.1, (places t).2.1.2] <;> rfl
theorem input (c : Dev nD) (t : Fin cfg0.N) (r : Fin 256) (j : Fin 1024) :
    (iblk m c 3 t : Vec Ideal S256x1024 .f32) (ix2 r j)
      = V m c main_arg3 (ix2 (⟨t.val * 256 + r.val, by have := t.isLt; change t.val < 32 at this; omega⟩ : Fin 8192) j) := by
  refine congrArg (V m c main_arg3) (funext fun i => ?_)
  fin_cases i <;> apply Fin.ext <;> blk_simp [(places t).2.2.2.1.1, (places t).2.2.2.1.2] <;> rfl

/-- The first array after the last point is the gradient. -/
theorem grads (c : Dev nD) : (dats m 0 c).arrAt 5 cfg0.N
    = Grad (V m c main_arg0) (V m c main_arg1) (V m c main_arg2) (V m c main_arg4) := by
  refine (dats m 0 c).arrAt_eq_of_covers 5 _ (by decide +kernel) fun t hf y => ?_
  have e : (outsAt0 m c t.val t.isLt).1 = k0_pay3 (iblk m c 0 t) (iblk m c 1 t) (iblk m c 2 t) (iblk m c 4 t) := by
    by_cases h0 : t.val % 32 = 0
    · rw [outsAt0_A m c t h0]
      frame_out
    · rw [outsAt0_B m c t h0]
      frame_out
  blk_simp [iblk]
  rw [after0_5, e]
  unfold Grad back k0_pay3 k0_pay2
  idx_vars y
  pointwise
  have l : ((win0_5.blk t).view.emb (ix2 y0 y1) 0 : ℕ) = t.val * 256 + y0 := by
    blk_simp [(places t).2.2.2.2.2.1.1]
  have r : ((win0_5.blk t).view.emb (ix2 y0 y1) 1 : ℕ) = y1 := by
    blk_simp [(places t).2.2.2.2.2.1.2]
  refine congrArg₂ (fun u v : EReal => u + v) (congrArg (fun u : EReal => Ideal.ofBits FTy.f32 1071072509#32 * u) ?_)
    (congrArg₂ (fun u v : EReal => u * v) (Finset.sum_congr (M := EReal) rfl fun k _ => congrArg₂ (fun u v : EReal => u * v) ?_ ?_) ?_)
  · refine congrArg (V m c main_arg2) (funext fun i => ?_)
    fin_cases i <;> apply Fin.ext <;> blk_simp [(places t).2.2.1.1, (places t).2.2.1.2, (places t).2.2.2.2.2.1.1, (places t).2.2.2.2.2.1.2]
  · exact (left m c t y0 k).trans (congrArg (V m c main_arg0) (congrArg (fun i => ix2 i k) (Fin.ext l.symm)))
  · exact (right m c t k y1).trans (congrArg (V m c main_arg1) (congrArg (ix2 k) (Fin.ext r.symm)))
  · refine congrArg (V m c main_arg4) (funext fun i => ?_)
    fin_cases i <;> apply Fin.ext <;> blk_simp [(places t).2.2.2.2.1.1, (places t).2.2.2.2.1.2]
    exact r.symm

/-- The second array after the last point holds the two sums. -/
theorem sums (c : Dev nD) : (dats m 0 c).arrAt 6 cfg0.N = Sums (V m c main_arg0) (V m c main_arg1) (V m c main_arg3) := by
  refine (dats m 0 c).arrAt_eq_of_covers 6 _ (by decide +kernel) fun t hf y => ?_
  have last : t.val % 32 = 31 := (flush0_6 t).mp hf
  have e := fun i => Pipeline.eq_sum_fin_of_reset_step_apply_last (M := EReal) (N := cfg0.N) (fun n hn => (outsAt0 m c n hn).2) 32 (fun _ => 0)
    (term m c) (fun t h0 i => begins m c t h0 i) (fun t h0 i => goes_on m c t h0 i)
    (Nat.le_refl _) t (show t.val + 1 = 32 by have := t.isLt; change t.val < 32 at this; omega) i
  blk_simp [iblk]
  rw [after0_6]
  refine ((e _).trans (zero_add _)).trans ?_
  have w : (win0_6.blk t).view.emb y = y := by
    funext i
    fin_cases i <;> apply Fin.ext <;> blk_simp [(places t).2.2.2.2.2.2.1, (places t).2.2.2.2.2.2.2] <;> rfl
  rw [w, sums_at]
  exact rows_tiles _ _ (fun p => mul (iblk m c 0 p) (iblk m c 1 p)) (fun p => iblk m c 3 p)
    (fun p r j => mul_block _ _ _ _ r _ j (left m c p r) fun k => right m c p k j) (input m c) y

/-- Kernel and reference end with the same two arrays of the same arguments. -/
theorem agree : Cert.algebraic_DxAttIdeal_DxAttRefIdeal := fun m ρ m' ρ' _ h =>
  ⟨_, _, Value.run_blocks (F := Ideal) m ρ,
    (θ_run Cert.DxAttRefIdeal.defs _ _).mono (fun r k c => by
      obtain ⟨ke, ks, kept⟩ := k c
      obtain ⟨h0, h1, h2, h3, h4⟩ := h c
      rw [h0, h1, h2, h4] at ke
      rw [h0, h1, h3] at ks
      have e := grads m c
      have s := sums m c
      rw [V_main_arg0, V_main_arg1, V_main_arg2, V_main_arg4] at e
      rw [V_main_arg0, V_main_arg1, V_main_arg3] at s
      exact ⟨ke.trans e.symm, ks.trans s.symm, kept⟩)
      (Cert.DxAttRefIdeal.Value.run (F := Ideal) m' ρ')⟩

end Cert.Talk.DxAtt

end
-- ==== Proof.Talk.DxFf.lean ====
/-
# Back through the channel mixer's first matrix

Every grid point stores its rows of the gradient and adds two rows of sums to one block. Over the extended reals the arrays are
the gradient, and the sums over all rows.
-/
module

public import proofs.«01_k».proof.Defs
public import proofs.«01_k».proof.Proof.Talk.Back
public import proofs.«01_k».proof.Proof.Gen.DxFfIdeal.Value
public import proofs.«01_k».proof.Proof.Gen.DxFfRefIdeal.Run
public import Idealize.ShloMosaic.Lib.Pipeline.ValueKit.Geometry
public import Idealize.ShloMosaic.Lib.Pipeline.ValueKit.Acc
public import Idealize.ShloMosaic.Lib.Pointwise

@[expose] public section

set_option Elab.async false

noncomputable section

namespace Cert.Talk.DxFf

open Cert.DxFfIdeal Cert.DxFfIdeal.Gen Idealize.ShloMosaic Idealize.ShloMosaic.TcCoe Idealize.SL.Sem

variable (m : (ℓ : Loc nD τ sig) → Buf (Elt Ideal) ℓ)

/-- Back through the matrix, as the reference states it. -/
def back (a : FVec Ideal S8192x4096 .bf16) (b : FVec Ideal S4096x1024 .bf16) : FVec Ideal S8192x1024 .f32 :=
  Host.dotGeneral Cert.DxFfRefIdeal.dot_S8192x4096_S4096x1024_S8192x1024_1_0_0_1_n_n none
    (extf .f32 a Cert.DxFfRefIdeal.Gen.facts.bitsLt_bf16_f32) (extf .f32 b Cert.DxFfRefIdeal.Gen.facts.bitsLt_bf16_f32)

/-- The gradient as the reference states it. -/
def Grad (a : FVec Ideal S8192x4096 .bf16) (b : FVec Ideal S4096x1024 .bf16) (z : FVec Ideal S8192x1024 .f32)
    (s : FVec Ideal S1x1024 .f32) : FVec Ideal S8192x1024 .f32 :=
  addf (mulf (broadcastInDim S8192x1024 ![] Cert.DxFfRefIdeal.Gen.facts.bcast_S_S8192x1024 (constant (F := Ideal) Cert.DxFfRefIdeal.S_ .f32 0x3FD744FD#32)) z)
    (mulf (back a b) (broadcastInDim S8192x1024 ![0, 1] Cert.DxFfRefIdeal.Gen.facts.bcast_S1x1024_S8192x1024_0_1 s))

/-- A row of sums as the reference states it. -/
def Row (v : FVec Ideal S8192x1024 .f32) : FVec Ideal S1x1024 .f32 :=
  broadcastInDim S1x1024 ![1] Cert.DxFfRefIdeal.Gen.facts.bcast_S1024_S1x1024_1
    (Host.reduceAdd v (constant (F := Ideal) Cert.DxFfRefIdeal.S_ .f32 0x00000000#32)
      Cert.DxFfRefIdeal.Gen.facts.reducesTo_S8192x1024_S1024_d0 Cert.DxFfRefIdeal.Gen.facts.h_S_)

/-- The sums as the reference states them: two rows, then zeros. -/
def Sums (a : FVec Ideal S8192x4096 .bf16) (b : FVec Ideal S4096x1024 .bf16) (x : FVec Ideal S8192x1024 .f32) : FVec Ideal S8x1024 .f32 :=
  concatenate S8x1024 0 [⟨Cert.DxFfRefIdeal.S2x1024, concatenate Cert.DxFfRefIdeal.S2x1024 0 [⟨S1x1024, Row (mulf (back a b) x)⟩, ⟨S1x1024, Row (back a b)⟩]
      Cert.DxFfRefIdeal.Gen.facts.concatenates_S1x1024_S1x1024_S2x1024_d0⟩,
    ⟨Cert.DxFfRefIdeal.S6x1024, broadcastInDim Cert.DxFfRefIdeal.S6x1024 ![] Cert.DxFfRefIdeal.Gen.facts.bcast_S_S6x1024
      (constant (F := Ideal) Cert.DxFfRefIdeal.S_ .f32 0x00000000#32)⟩] Cert.DxFfRefIdeal.Gen.facts.concatenates_S2x1024_S6x1024_S8x1024_d0

/-- One point's two sums. -/
def term (c : Dev nD) (p : Fin cfg0.N) (i : S8x1024.Idx) : EReal := rows (mul (iblk m c 0 p) (iblk m c 1 p)) (iblk m c 3 p) i

/-- The reference's sums, entry by entry. -/
theorem sums_at (a : FVec Ideal S8192x4096 .bf16) (b : FVec Ideal S4096x1024 .bf16) (x : FVec Ideal S8192x1024 .f32) (i : S8x1024.Idx) :
    Sums a b x i = rows (mul a b) x i := by
  unfold Sums Row back rows pick mul
  idx_vars i
  fin_cases i0
  all_goals pointwise
  all_goals rfl

/-- The first row of a block grows by the point's first sum, -/
theorem first (a : FVec Ideal S256x4096 .bf16) (b : FVec Ideal S4096x1024 .bf16) (x : FVec Ideal S256x1024 .f32) (v : FVec Ideal S1x1024 .f32) (j : Fin 1024) :
    k0_pay4 (F := Ideal) a b v x (ix2 0 j) = v (ix2 0 j) + rows (mul a b) x (ix2 0 j) := by
  unfold k0_pay4 k0_pay2 rows mul
  pointwise
  rfl

/-- the second by the second. -/
theorem second (a : FVec Ideal S256x4096 .bf16) (b : FVec Ideal S4096x1024 .bf16) (x : FVec Ideal S256x1024 .f32) (v : FVec Ideal S1x1024 .f32) (j : Fin 1024) :
    k0_pay5 (F := Ideal) a b v (ix2 0 j) = v (ix2 0 j) + rows (mul a b) x (ix2 1 j) := by
  unfold k0_pay5 k0_pay2 rows mul
  pointwise
  rfl

/-- The block starts at zero. -/
theorem zeros {i : S8x1024.Idx} : k0_pay1 (F := Ideal) i = (0 : EReal) := by
  unfold k0_pay1
  pointwise

/-- What the first point leaves in the block. -/
theorem begins (c : Dev nD) (t : Fin cfg0.N) (h0 : t.val % 32 = 0) (i : S8x1024.Idx) :
    (outsAt0 m c t.val t.isLt).2 i = (0 : EReal) + term m c t i := by
  rw [outsAt0_A m c t h0]
  frame_out
  idx_vars i
  refine rows_begin _ _ i0 i1 _ _ _ _ _ _ zeros ?_ ?_
  · refine (first _ _ _ _ _).trans (congrArg (fun u : EReal => u + term m c t (ix2 0 i1)) ?_)
    rw [load_written _ _ _ 0 _ (show ((0 : Fin 8) : ℕ) = 0 from rfl), View.canon_cons_unit_lit' _ _ _ (by decide)]
    exact zeros
  · refine (second _ _ (iblk m c 3 t) _ _).trans (congrArg (fun u : EReal => u + term m c t (ix2 1 i1)) ?_)
    rw [load_written _ _ _ 1 _ (show ((1 : Fin 8) : ℕ) = 1 from rfl), canon_miss _ _ _ _ _ (by decide), View.canon_cons_unit_lit' _ _ _ (by decide)]
    exact zeros

/-- What every later point adds. -/
theorem goes_on (c : Dev nD) (t : Fin cfg0.N) (h0 : ¬ t.val % 32 = 0) (i : S8x1024.Idx) :
    (outsAt0 m c t.val t.isLt).2 i = ((outsAt0 m c (t.val - 1) (Nat.lt_of_le_of_lt (Nat.sub_le _ _) t.isLt)).2 i : EReal) + term m c t i := by
  rw [outsAt0_B m c t h0]
  frame_out
  idx_vars i
  refine rows_go _ _ i0 i1 _ _ _ _ _ _ _ (Memref.IsWhole.read_unread _ _) ?_ ?_
  · exact (first _ _ _ _ _).trans (congrArg (fun u : EReal => u + term m c t (ix2 0 i1)) (load_row _ _ 0 _ rfl))
  · exact (second _ _ (iblk m c 3 t) _ _).trans (congrArg (fun u : EReal => u + term m c t (ix2 1 i1)) (load_row _ _ 1 _ rfl))

/-- Where the blocks lie. -/
theorem places : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = t.val ∧ win0_5.index t 1 = 0)
    ∧ (win0_6.index t 0 = 0 ∧ win0_6.index t 1 = 0) :=
  (by decide +kernel : ∀ t : Fin grid0.N, _)

/-- A point's blocks, read in the arrays. -/
theorem left (c : Dev nD) (t : Fin cfg0.N) (r : Fin 256) (k : Fin 4096) :
    (iblk m c 0 t : Vec Ideal S256x4096 .bf16) (ix2 r k)
      = V m c main_arg0 (ix2 (⟨t.val * 256 + r.val, by have := t.isLt; change t.val < 32 at this; omega⟩ : Fin 8192) k) := by
  refine congrArg (V m c main_arg0) (funext fun i => ?_)
  fin_cases i <;> apply Fin.ext <;> blk_simp [(places t).1.1, (places t).1.2] <;> rfl
theorem right (c : Dev nD) (t : Fin cfg0.N) (k : Fin 4096) (j : Fin 1024) :
    (iblk m c 1 t : Vec Ideal S4096x1024 .bf16) (ix2 k j) = V m c main_arg1 (ix2 k j) := by
  refine congrArg (V m c main_arg1) (funext fun i => ?_)
  fin_cases i <;> apply Fin.ext <;> blk_simp [(places t).2.1.1, (places t).2.1.2] <;> rfl
theorem input (c : Dev nD) (t : Fin cfg0.N) (r : Fin 256) (j : Fin 1024) :
    (iblk m c 3 t : Vec Ideal S256x1024 .f32) (ix2 r j)
      = V m c main_arg3 (ix2 (⟨t.val * 256 + r.val, by have := t.isLt; change t.val < 32 at this; omega⟩ : Fin 8192) j) := by
  refine congrArg (V m c main_arg3) (funext fun i => ?_)
  fin_cases i <;> apply Fin.ext <;> blk_simp [(places t).2.2.2.1.1, (places t).2.2.2.1.2] <;> rfl

/-- The first array after the last point is the gradient. -/
theorem grads (c : Dev nD) : (dats m 0 c).arrAt 5 cfg0.N
    = Grad (V m c main_arg0) (V m c main_arg1) (V m c main_arg2) (V m c main_arg4) := by
  refine (dats m 0 c).arrAt_eq_of_covers 5 _ (by decide +kernel) fun t hf y => ?_
  have e : (outsAt0 m c t.val t.isLt).1 = k0_pay3 (iblk m c 0 t) (iblk m c 1 t) (iblk m c 2 t) (iblk m c 4 t) := by
    by_cases h0 : t.val % 32 = 0
    · rw [outsAt0_A m c t h0]
      frame_out
    · rw [outsAt0_B m c t h0]
      frame_out
  blk_simp [iblk]
  rw [after0_5, e]
  unfold Grad back k0_pay3 k0_pay2
  idx_vars y
  pointwise
  have l : ((win0_5.blk t).view.emb (ix2 y0 y1) 0 : ℕ) = t.val * 256 + y0 := by
    blk_simp [(places t).2.2.2.2.2.1.1]
  have r : ((win0_5.blk t).view.emb (ix2 y0 y1) 1 : ℕ) = y1 := by
    blk_simp [(places t).2.2.2.2.2.1.2]
  refine congrArg₂ (fun u v : EReal => u + v) (congrArg (fun u : EReal => Ideal.ofBits FTy.f32 1071072509#32 * u) ?_)
    (congrArg₂ (fun u v : EReal => u * v) (Finset.sum_congr (M := EReal) rfl fun k _ => congrArg₂ (fun u v : EReal => u * v) ?_ ?_) ?_)
  · refine congrArg (V m c main_arg2) (funext fun i => ?_)
    fin_cases i <;> apply Fin.ext <;> blk_simp [(places t).2.2.1.1, (places t).2.2.1.2, (places t).2.2.2.2.2.1.1, (places t).2.2.2.2.2.1.2]
  · exact (left m c t y0 k).trans (congrArg (V m c main_arg0) (congrArg (fun i => ix2 i k) (Fin.ext l.symm)))
  · exact (right m c t k y1).trans (congrArg (V m c main_arg1) (congrArg (ix2 k) (Fin.ext r.symm)))
  · refine congrArg (V m c main_arg4) (funext fun i => ?_)
    fin_cases i <;> apply Fin.ext <;> blk_simp [(places t).2.2.2.2.1.1, (places t).2.2.2.2.1.2]
    exact r.symm

/-- The second array after the last point holds the two sums. -/
theorem sums (c : Dev nD) : (dats m 0 c).arrAt 6 cfg0.N = Sums (V m c main_arg0) (V m c main_arg1) (V m c main_arg3) := by
  refine (dats m 0 c).arrAt_eq_of_covers 6 _ (by decide +kernel) fun t hf y => ?_
  have last : t.val % 32 = 31 := (flush0_6 t).mp hf
  have e := fun i => Pipeline.eq_sum_fin_of_reset_step_apply_last (M := EReal) (N := cfg0.N) (fun n hn => (outsAt0 m c n hn).2) 32 (fun _ => 0)
    (term m c) (fun t h0 i => begins m c t h0 i) (fun t h0 i => goes_on m c t h0 i)
    (Nat.le_refl _) t (show t.val + 1 = 32 by have := t.isLt; change t.val < 32 at this; omega) i
  blk_simp [iblk]
  rw [after0_6]
  refine ((e _).trans (zero_add _)).trans ?_
  have w : (win0_6.blk t).view.emb y = y := by
    funext i
    fin_cases i <;> apply Fin.ext <;> blk_simp [(places t).2.2.2.2.2.2.1, (places t).2.2.2.2.2.2.2] <;> rfl
  rw [w, sums_at]
  exact rows_tiles _ _ (fun p => mul (iblk m c 0 p) (iblk m c 1 p)) (fun p => iblk m c 3 p)
    (fun p r j => mul_block _ _ _ _ r _ j (left m c p r) fun k => right m c p k j) (input m c) y

/-- Kernel and reference end with the same two arrays of the same arguments. -/
theorem agree : Cert.algebraic_DxFfIdeal_DxFfRefIdeal := fun m ρ m' ρ' _ h =>
  ⟨_, _, Value.run_blocks (F := Ideal) m ρ,
    (θ_run Cert.DxFfRefIdeal.defs _ _).mono (fun r k c => by
      obtain ⟨ke, ks, kept⟩ := k c
      obtain ⟨h0, h1, h2, h3, h4⟩ := h c
      rw [h0, h1, h2, h4] at ke
      rw [h0, h1, h3] at ks
      have e := grads m c
      have s := sums m c
      rw [V_main_arg0, V_main_arg1, V_main_arg2, V_main_arg4] at e
      rw [V_main_arg0, V_main_arg1, V_main_arg3] at s
      exact ⟨ke.trans e.symm, ks.trans s.symm, kept⟩)
      (Cert.DxFfRefIdeal.Value.run (F := Ideal) m' ρ')⟩

end Cert.Talk.DxFf

end
-- ==== Proof.Talk.Place.lean ====
/-
# An index of a matrix from its two coordinates
-/
module

public import proofs.«01_k».proof.Proof.Talk.Back

@[expose] public section

namespace Cert.Talk

open Idealize.ShloMosaic

/-- An index is known by its coordinates. -/
theorem place {M N : ℕ} (i : (⟨2, ![M, N]⟩ : Shape).Idx) (a : Fin M) (b : Fin N) (h0 : ((i 0 : Fin M) : ℕ) = a)
    (h1 : ((i 1 : Fin N) : ℕ) = b) : i = ix2 a b := by
  funext j
  fin_cases j
  · exact Fin.ext h0
  · exact Fin.ext h1

end Cert.Talk
-- ==== Proof.Talk.Silu.lean ====
/-
# The activation of the conditioning vectors

One point stores the whole; the call subtracts from zero where the reference negates.
-/
module

public import proofs.«01_k».proof.Defs
public import proofs.«01_k».proof.Proof.Talk.Place
public import proofs.«01_k».proof.Proof.Gen.SiluIdeal.Value
public import proofs.«01_k».proof.Proof.Gen.SiluRefIdeal.Run
public import Idealize.ShloMosaic.Lib.Pipeline.ValueKit.Geometry
public import Idealize.ShloMosaic.Lib.Pipeline.ValueKit.Acc
public import Idealize.ShloMosaic.Lib.Pointwise

@[expose] public section

set_option Elab.async false

noncomputable section

namespace Cert.Talk.Silu

open Cert.SiluIdeal Cert.SiluIdeal.Gen Idealize.ShloMosaic Idealize.ShloMosaic.TcCoe Idealize.SL.Sem

/-- The activation is the reference's. -/
theorem same (a : Vec Ideal S128x1024 .f32) :
    (truncf .bf16 (mulf a (Host.divf (broadcastInDim S128x1024 ![] Cert.SiluRefIdeal.Gen.facts.bcast_S_S128x1024 (constant (F := Ideal) Cert.SiluRefIdeal.S_ .f32 0x3F800000#32))
      (addf (broadcastInDim S128x1024 ![] Cert.SiluRefIdeal.Gen.facts.bcast_S_S128x1024 (constant (F := Ideal) Cert.SiluRefIdeal.S_ .f32 0x3F800000#32))
        (Host.exp (Host.negf a))))) Cert.SiluRefIdeal.Gen.facts.bitsLt_bf16_f32 : Vec Ideal S128x1024 .bf16)
    = Value.G1 (F := Ideal) a := by
  funext j
  idx_vars j
  unfold Value.G1
  pointwise
  rw [zero_sub]

/-- Kernel and reference end with the same activation of the same argument. -/
theorem agree : Cert.algebraic_SiluIdeal_SiluRefIdeal := fun m ρ m' ρ' _ h =>
  ⟨_, Value.run (F := Ideal) m ρ,
    (θ_run Cert.SiluRefIdeal.defs _ _).mono (fun r k c => by
      obtain ⟨k, kept⟩ := k c
      rw [h c] at k
      exact ⟨k.trans (same _), kept⟩)
      (Cert.SiluRefIdeal.Value.run (F := Ideal) m' ρ')⟩

end Cert.Talk.Silu

end
-- ==== Proof.Talk.Modulate.lean ====
/-
# The modulation

Every grid point stores its rows, scaled and shifted; over the extended reals the array is the whole.
-/
module

public import proofs.«01_k».proof.Defs
public import proofs.«01_k».proof.Proof.Talk.Place
public import proofs.«01_k».proof.Proof.Gen.ModulateIdeal.Value
public import proofs.«01_k».proof.Proof.Gen.ModulateRefIdeal.Run
public import Idealize.ShloMosaic.Lib.Pipeline.ValueKit.Geometry
public import Idealize.ShloMosaic.Lib.Pipeline.ValueKit.Acc
public import Idealize.ShloMosaic.Lib.Pointwise

@[expose] public section

set_option Elab.async false

noncomputable section

namespace Cert.Talk.Modulate

open Cert.ModulateIdeal Cert.ModulateIdeal.Gen Idealize.ShloMosaic Idealize.ShloMosaic.TcCoe Idealize.SL.Sem

variable (m : (ℓ : Loc nD τ sig) → Buf (Elt Ideal) ℓ)

/-- The modulation as the reference states it. -/
def Mod (x : FVec Ideal S8192x1024 .f32) (s h : FVec Ideal S1x1024 .f32) : FVec Ideal S8192x1024 .bf16 :=
  truncf .bf16 (addf (mulf x (broadcastInDim S8192x1024 ![0, 1] Cert.ModulateRefIdeal.Gen.facts.bcast_S1x1024_S8192x1024_0_1
      (addf (broadcastInDim S1x1024 ![] Cert.ModulateRefIdeal.Gen.facts.bcast_S_S1x1024 (constant (F := Ideal) Cert.ModulateRefIdeal.S_ .f32 0x3F800000#32)) s)))
    (broadcastInDim S8192x1024 ![0, 1] Cert.ModulateRefIdeal.Gen.facts.bcast_S1x1024_S8192x1024_0_1 h)) Cert.ModulateRefIdeal.Gen.facts.bitsLt_bf16_f32

/-- Where the blocks lie. -/
theorem places : ∀ t : Fin cfg0.N, (win0_0.index t 0 = win0_3.index t 0 ∧ win0_0.index t 1 = 0)
    ∧ (win0_1.index t 0 = 0 ∧ win0_1.index t 1 = 0) ∧ (win0_2.index t 0 = 0 ∧ win0_2.index t 1 = 0) ∧ win0_3.index t 1 = 0 :=
  (by decide +kernel : ∀ t : Fin grid0.N, _)

/-- The array after the last point is the modulated input. -/
theorem whole (c : Dev nD) : (dats m 0 c).arrAt 3 cfg0.N = Mod (V m c main_arg0) (V m c main_arg1) (V m c main_arg2) := by
  refine (dats m 0 c).arrAt_eq_of_covers 3 _ (by decide +kernel) fun t hf y => ?_
  blk_simp [iblk]
  rw [after0_3]
  unfold Mod
  frame_out
  unfold k0_pay1
  idx_vars y
  pointwise
  refine congrArg₂ (fun u v : EReal => u + v) (congrArg₂ (fun u v : EReal => u * (1 + v)) ?_ ?_) ?_
  · refine congrArg (V m c main_arg0) (funext fun i => ?_)
    fin_cases i
    · apply Fin.ext
      blk_simp [(places t).1.1]
    · apply Fin.ext
      blk_simp [(places t).1.2, (places t).2.2.2]
  · refine congrArg (V m c main_arg1) (place _ _ _ ?_ ?_)
    · blk_simp [(places t).2.1.1]
    · blk_simp [(places t).2.1.2, (places t).2.2.2]
  · refine congrArg (V m c main_arg2) (place _ _ _ ?_ ?_)
    · blk_simp [(places t).2.2.1.1]
    · blk_simp [(places t).2.2.1.2, (places t).2.2.2]

/-- Kernel and reference end with the same array of the same arguments. -/
theorem agree : Cert.algebraic_ModulateIdeal_ModulateRefIdeal := fun m ρ m' ρ' _ h =>
  ⟨_, Value.run_blocks (F := Ideal) m ρ,
    (θ_run Cert.ModulateRefIdeal.defs _ _).mono (fun r k c => by
      obtain ⟨k0, kept⟩ := k c
      obtain ⟨h0, h1, h2⟩ := h c
      rw [h0, h1, h2] at k0
      have e0 := whole m c
      rw [V_main_arg0, V_main_arg1, V_main_arg2] at e0
      exact ⟨k0.trans e0.symm, kept⟩)
      (Cert.ModulateRefIdeal.Value.run (F := Ideal) m' ρ')⟩

end Cert.Talk.Modulate

end
-- ==== Proof.Talk.ColSum.lean ====
/-
# The sums of the columns

Every grid point adds the sums of its rows to one block; over the extended reals the array is the sum of all rows.
-/
module

public import proofs.«01_k».proof.Defs
public import proofs.«01_k».proof.Proof.Talk.Place
public import proofs.«01_k».proof.Proof.Gen.ColSumIdeal.Value
public import proofs.«01_k».proof.Proof.Gen.ColSumRefIdeal.Run
public import Idealize.ShloMosaic.Lib.Pipeline.ValueKit.Geometry
public import Idealize.ShloMosaic.Lib.Pipeline.ValueKit.Acc
public import Idealize.ShloMosaic.Lib.Pointwise

@[expose] public section

set_option Elab.async false

noncomputable section

namespace Cert.Talk.ColSum

open Cert.ColSumIdeal Cert.ColSumIdeal.Gen Idealize.ShloMosaic Idealize.ShloMosaic.TcCoe Idealize.SL.Sem

variable (m : (ℓ : Loc nD τ sig) → Buf (Elt Ideal) ℓ)

/-- The sums as the reference states them. -/
def Sum (a : FVec Ideal S8192x3072 .bf16) : FVec Ideal S1x3072 .f32 :=
  broadcastInDim S1x3072 ![1] Cert.ColSumRefIdeal.Gen.facts.bcast_S3072_S1x3072_1
    (Host.reduceAdd (extf .f32 a Cert.ColSumRefIdeal.Gen.facts.bitsLt_bf16_f32) (constant (F := Ideal) Cert.ColSumRefIdeal.S_ .f32 0x00000000#32)
      Cert.ColSumRefIdeal.Gen.facts.reducesTo_S8192x3072_S3072_d0 Cert.ColSumRefIdeal.Gen.facts.h_S_)

/-- The reference's sums, entry by entry. -/
theorem sum_at (a : FVec Ideal S8192x3072 .bf16) (i : Fin 1) (j : Fin 3072) : Sum a (ix2 i j) = ∑ r : Fin 8192, (a (ix2 r j) : EReal) := by
  unfold Sum
  pointwise

/-- One point's sums. -/
def term (c : Dev nD) (p : Fin cfg0.N) (y : S1x3072.Idx) : EReal := ∑ r : Fin 512, (iblk m c 0 p : Arr 512 3072) (ix2 r (y 1 : Fin 3072))

/-- What a point adds to the block. -/
theorem step (c : Dev nD) (t : Fin cfg0.N) (o : Vec Ideal S1x3072 .f32) (y : S1x3072.Idx) :
    k0_pay2 (F := Ideal) o (iblk m c 0 t) y = o y + term m c t y := by
  unfold k0_pay2 term
  idx_vars y
  pointwise

/-- The block starts at zero. -/
theorem zeros {y : S1x3072.Idx} : k0_pay1 (F := Ideal) y = (0 : EReal) := by
  unfold k0_pay1
  pointwise

/-- Where the blocks lie. -/
theorem places : ∀ t : Fin cfg0.N, (win0_0.index t 0 = t.val ∧ win0_0.index t 1 = 0) ∧ (win0_1.index t 0 = 0 ∧ win0_1.index t 1 = 0) :=
  (by decide +kernel : ∀ t : Fin grid0.N, _)

/-- A point's block, read in the array. -/
theorem block (c : Dev nD) (t : Fin cfg0.N) (r : Fin 512) (j : Fin 3072) : (iblk m c 0 t : Arr 512 3072) (ix2 r j)
    = V m c main_arg0 (ix2 (⟨t.val * 512 + r.val, by have := t.isLt; change t.val < 16 at this; omega⟩ : Fin 8192) j) := by
  refine congrArg (V m c main_arg0) (place _ _ _ ?_ ?_)
  · blk_simp [(places t).1.1]
  · blk_simp [(places t).1.2]

/-- The array after the last point is the sum of all rows. -/
theorem whole (c : Dev nD) : (dats m 0 c).arrAt 1 cfg0.N = Sum (V m c main_arg0) := by
  refine (dats m 0 c).arrAt_eq_of_covers 1 _ (by decide +kernel) fun t hf y => ?_
  have last : t.val % 16 = 15 := (flush0_1 t).mp hf
  have e := fun i => Pipeline.eq_sum_fin_of_reset_step_apply_last (M := EReal) (N := cfg0.N) (fun n hn => outsAt0 m c n hn) 16 (fun _ => 0)
    (term m c)
    (fun t h0 i => by
      show outsAt0 m c t.val t.isLt i = _
      rw [outsAt0_A m c t h0]
      frame_out
      exact (step m c t _ i).trans (congrArg (fun u : EReal => u + term m c t i) zeros))
    (fun t h0 i => by
      show outsAt0 m c t.val t.isLt i = _
      rw [outsAt0_B m c t h0]
      frame_out
      exact step m c t _ i)
    (Nat.le_refl _) t (show t.val + 1 = 16 by have := t.isLt; change t.val < 16 at this; omega) i
  blk_simp [iblk]
  rw [after0_1]
  refine ((e _).trans (zero_add _)).trans ?_
  idx_vars y
  have w : (win0_1.blk t).view.emb (ix2 y0 y1) = ix2 y0 y1 := place _ _ _ (by blk_simp [(places t).2.1]) (by blk_simp [(places t).2.2])
  rw [w, sum_at]
  exact (Finset.sum_congr (M := EReal) rfl fun p _ => Finset.sum_congr (M := EReal) rfl fun r _ => block m c p r y1).trans
    (sum_tiles 16 512 rfl (fun k => (V m c main_arg0 (ix2 k y1) : EReal)) fun p r => by omega)

/-- Kernel and reference end with the same array of the same arguments. -/
theorem agree : Cert.algebraic_ColSumIdeal_ColSumRefIdeal := fun m ρ m' ρ' _ h =>
  ⟨_, Value.run_blocks (F := Ideal) m ρ,
    (θ_run Cert.ColSumRefIdeal.defs _ _).mono (fun r k c => by
      obtain ⟨k0, kept⟩ := k c
      have h0 := h c
      rw [h0] at k0
      have e0 := whole m c
      rw [V_main_arg0] at e0
      exact ⟨k0.trans e0.symm, kept⟩)
      (Cert.ColSumRefIdeal.Value.run (F := Ideal) m' ρ')⟩

end Cert.Talk.ColSum

end
-- ==== Proof.Talk.AdaFwd.lean ====
/-
# The modulations

Every grid point stores one block of the product; over the extended reals the array is the whole product.
-/
module

public import proofs.«01_k».proof.Defs
public import proofs.«01_k».proof.Proof.Talk.Place
public import proofs.«01_k».proof.Proof.Gen.AdaFwdIdeal.Value
public import proofs.«01_k».proof.Proof.Gen.AdaFwdRefIdeal.Run
public import Idealize.ShloMosaic.Lib.Pipeline.ValueKit.Geometry
public import Idealize.ShloMosaic.Lib.Pipeline.ValueKit.Acc
public import Idealize.ShloMosaic.Lib.Pointwise

@[expose] public section

set_option Elab.async false

noncomputable section

namespace Cert.Talk.AdaFwd

open Cert.AdaFwdIdeal Cert.AdaFwdIdeal.Gen Idealize.ShloMosaic Idealize.ShloMosaic.TcCoe Idealize.SL.Sem

variable (m : (ℓ : Loc nD τ sig) → Buf (Elt Ideal) ℓ)

/-- The product as the reference states it. -/
def Prod (a : FVec Ideal S128x1024 .bf16) (b : FVec Ideal S1024x6144 .bf16) : FVec Ideal S128x6144 .f32 :=
  Host.dotGeneral Cert.AdaFwdRefIdeal.dot_S128x1024_S1024x6144_S128x6144_1_0_0_1_n_n none
    (extf .f32 a Cert.AdaFwdRefIdeal.Gen.facts.bitsLt_bf16_f32) (extf .f32 b Cert.AdaFwdRefIdeal.Gen.facts.bitsLt_bf16_f32)

/-- Where the blocks lie. -/
theorem places : ∀ t : Fin cfg0.N, (win0_0.index t 0 = win0_2.index t 0 ∧ win0_0.index t 1 = 0)
    ∧ (win0_1.index t 0 = 0 ∧ win0_1.index t 1 = win0_2.index t 1) :=
  (by decide +kernel : ∀ t : Fin grid0.N, _)

/-- The array after the last point is the product. -/
theorem whole (c : Dev nD) : (dats m 0 c).arrAt 2 cfg0.N = Prod (V m c main_arg0) (V m c main_arg1) := by
  refine (dats m 0 c).arrAt_eq_of_covers 2 _ (by decide +kernel) fun t hf y => ?_
  blk_simp [iblk]
  rw [after0_2]
  unfold Prod
  frame_out
  unfold k0_pay1
  idx_vars y
  pointwise
  refine Finset.sum_congr (M := EReal) rfl fun k _ => congrArg₂ (fun u v : EReal => u * v) ?_ ?_
  · refine congrArg (V m c main_arg0) (place _ _ _ ?_ ?_)
    · blk_simp [(places t).1.1]
    · blk_simp [(places t).1.2]
  · refine congrArg (V m c main_arg1) (place _ _ _ ?_ ?_)
    · blk_simp [(places t).2.1]
    · blk_simp [(places t).2.2]

/-- Kernel and reference end with the same array of the same arguments. -/
theorem agree : Cert.algebraic_AdaFwdIdeal_AdaFwdRefIdeal := fun m ρ m' ρ' _ h =>
  ⟨_, Value.run_blocks (F := Ideal) m ρ,
    (θ_run Cert.AdaFwdRefIdeal.defs _ _).mono (fun r k c => by
      obtain ⟨k0, kept⟩ := k c
      obtain ⟨h0, h1⟩ := h c
      rw [h0, h1] at k0
      have e0 := whole m c
      rw [V_main_arg0, V_main_arg1] at e0
      exact ⟨k0.trans e0.symm, kept⟩)
      (Cert.AdaFwdRefIdeal.Value.run (F := Ideal) m' ρ')⟩

end Cert.Talk.AdaFwd

end
-- ==== Proof.Talk.GlaIn.lean ====
/-
# Into the linear attention

Every grid point stores one block of the product; over the extended reals the array is the whole product.
-/
module

public import proofs.«01_k».proof.Defs
public import proofs.«01_k».proof.Proof.Talk.Place
public import proofs.«01_k».proof.Proof.Gen.GlaInIdeal.Value
public import proofs.«01_k».proof.Proof.Gen.GlaInRefIdeal.Run
public import Idealize.ShloMosaic.Lib.Pipeline.ValueKit.Geometry
public import Idealize.ShloMosaic.Lib.Pipeline.ValueKit.Acc
public import Idealize.ShloMosaic.Lib.Pointwise

@[expose] public section

set_option Elab.async false

noncomputable section

namespace Cert.Talk.GlaIn

open Cert.GlaInIdeal Cert.GlaInIdeal.Gen Idealize.ShloMosaic Idealize.ShloMosaic.TcCoe Idealize.SL.Sem

variable (m : (ℓ : Loc nD τ sig) → Buf (Elt Ideal) ℓ)

/-- The product as the reference states it. -/
def Prod (a : FVec Ideal S8192x1024 .bf16) (b : FVec Ideal S1024x3200 .bf16) : FVec Ideal S8192x3200 .f32 :=
  Host.dotGeneral Cert.GlaInRefIdeal.dot_S8192x1024_S1024x3200_S8192x3200_1_0_0_1_n_n none
    (extf .f32 a Cert.GlaInRefIdeal.Gen.facts.bitsLt_bf16_f32) (extf .f32 b Cert.GlaInRefIdeal.Gen.facts.bitsLt_bf16_f32)

/-- Where the blocks lie. -/
theorem places : ∀ t : Fin cfg0.N, (win0_0.index t 0 = win0_2.index t 0 ∧ win0_0.index t 1 = 0)
    ∧ (win0_1.index t 0 = 0 ∧ win0_1.index t 1 = win0_2.index t 1) :=
  (by decide +kernel : ∀ t : Fin grid0.N, _)

/-- The array after the last point is the product. -/
theorem whole (c : Dev nD) : (dats m 0 c).arrAt 2 cfg0.N = Prod (V m c main_arg0) (V m c main_arg1) := by
  refine (dats m 0 c).arrAt_eq_of_covers 2 _ (by decide +kernel) fun t hf y => ?_
  blk_simp [iblk]
  rw [after0_2]
  unfold Prod
  frame_out
  unfold k0_pay1
  idx_vars y
  pointwise
  refine Finset.sum_congr (M := EReal) rfl fun k _ => congrArg₂ (fun u v : EReal => u * v) ?_ ?_
  · refine congrArg (V m c main_arg0) (place _ _ _ ?_ ?_)
    · blk_simp [(places t).1.1]
    · blk_simp [(places t).1.2]
  · refine congrArg (V m c main_arg1) (place _ _ _ ?_ ?_)
    · blk_simp [(places t).2.1]
    · blk_simp [(places t).2.2]

/-- Kernel and reference end with the same array of the same arguments. -/
theorem agree : Cert.algebraic_GlaInIdeal_GlaInRefIdeal := fun m ρ m' ρ' _ h =>
  ⟨_, Value.run_blocks (F := Ideal) m ρ,
    (θ_run Cert.GlaInRefIdeal.defs _ _).mono (fun r k c => by
      obtain ⟨k0, kept⟩ := k c
      obtain ⟨h0, h1⟩ := h c
      rw [h0, h1] at k0
      have e0 := whole m c
      rw [V_main_arg0, V_main_arg1] at e0
      exact ⟨k0.trans e0.symm, kept⟩)
      (Cert.GlaInRefIdeal.Value.run (F := Ideal) m' ρ')⟩

end Cert.Talk.GlaIn

end
-- ==== Proof.Talk.GlaDz.lean ====
/-
# Back through a mixer's output projection

Every grid point stores one block of the product; over the extended reals the array is the whole product.
-/
module

public import proofs.«01_k».proof.Defs
public import proofs.«01_k».proof.Proof.Talk.Place
public import proofs.«01_k».proof.Proof.Gen.GlaDzIdeal.Value
public import proofs.«01_k».proof.Proof.Gen.GlaDzRefIdeal.Run
public import Idealize.ShloMosaic.Lib.Pipeline.ValueKit.Geometry
public import Idealize.ShloMosaic.Lib.Pipeline.ValueKit.Acc
public import Idealize.ShloMosaic.Lib.Pointwise

@[expose] public section

set_option Elab.async false

noncomputable section

namespace Cert.Talk.GlaDz

open Cert.GlaDzIdeal Cert.GlaDzIdeal.Gen Idealize.ShloMosaic Idealize.ShloMosaic.TcCoe Idealize.SL.Sem

variable (m : (ℓ : Loc nD τ sig) → Buf (Elt Ideal) ℓ)

/-- The product as the reference states it. -/
def Prod (a : FVec Ideal S8192x1024 .bf16) (b : FVec Ideal S1024x1024 .bf16) : FVec Ideal S8192x1024 .f32 :=
  Host.dotGeneral Cert.GlaDzRefIdeal.dot_S8192x1024_S1024x1024_S8192x1024_1_0_0_1_n_n none
    (extf .f32 a Cert.GlaDzRefIdeal.Gen.facts.bitsLt_bf16_f32) (extf .f32 b Cert.GlaDzRefIdeal.Gen.facts.bitsLt_bf16_f32)

/-- Where the blocks lie. -/
theorem places : ∀ t : Fin cfg0.N, (win0_0.index t 0 = win0_2.index t 0 ∧ win0_0.index t 1 = 0)
    ∧ (win0_1.index t 0 = 0 ∧ win0_1.index t 1 = win0_2.index t 1) :=
  (by decide +kernel : ∀ t : Fin grid0.N, _)

/-- The array after the last point is the product. -/
theorem whole (c : Dev nD) : (dats m 0 c).arrAt 2 cfg0.N = Prod (V m c main_arg0) (V m c main_arg1) := by
  refine (dats m 0 c).arrAt_eq_of_covers 2 _ (by decide +kernel) fun t hf y => ?_
  blk_simp [iblk]
  rw [after0_2]
  unfold Prod
  frame_out
  unfold k0_pay1
  idx_vars y
  pointwise
  refine Finset.sum_congr (M := EReal) rfl fun k _ => congrArg₂ (fun u v : EReal => u * v) ?_ ?_
  · refine congrArg (V m c main_arg0) (place _ _ _ ?_ ?_)
    · blk_simp [(places t).1.1]
    · blk_simp [(places t).1.2]
  · refine congrArg (V m c main_arg1) (place _ _ _ ?_ ?_)
    · blk_simp [(places t).2.1]
    · blk_simp [(places t).2.2]

/-- Kernel and reference end with the same array of the same arguments. -/
theorem agree : Cert.algebraic_GlaDzIdeal_GlaDzRefIdeal := fun m ρ m' ρ' _ h =>
  ⟨_, Value.run_blocks (F := Ideal) m ρ,
    (θ_run Cert.GlaDzRefIdeal.defs _ _).mono (fun r k c => by
      obtain ⟨k0, kept⟩ := k c
      obtain ⟨h0, h1⟩ := h c
      rw [h0, h1] at k0
      have e0 := whole m c
      rw [V_main_arg0, V_main_arg1] at e0
      exact ⟨k0.trans e0.symm, kept⟩)
      (Cert.GlaDzRefIdeal.Value.run (F := Ideal) m' ρ')⟩

end Cert.Talk.GlaDz

end
-- ==== Proof.Talk.AttIn.lean ====
/-
# Into the chunked attention

Every grid point stores one block of the product and its bias; over the extended reals the array is the whole.
-/
module

public import proofs.«01_k».proof.Defs
public import proofs.«01_k».proof.Proof.Talk.Place
public import proofs.«01_k».proof.Proof.Gen.AttInIdeal.Value
public import proofs.«01_k».proof.Proof.Gen.AttInRefIdeal.Run
public import Idealize.ShloMosaic.Lib.Pipeline.ValueKit.Geometry
public import Idealize.ShloMosaic.Lib.Pipeline.ValueKit.Acc
public import Idealize.ShloMosaic.Lib.Pointwise

@[expose] public section

set_option Elab.async false

noncomputable section

namespace Cert.Talk.AttIn

open Cert.AttInIdeal Cert.AttInIdeal.Gen Idealize.ShloMosaic Idealize.ShloMosaic.TcCoe Idealize.SL.Sem

variable (m : (ℓ : Loc nD τ sig) → Buf (Elt Ideal) ℓ)

/-- The product as the reference states it. -/
def Prod (a : FVec Ideal S8192x1024 .bf16) (b : FVec Ideal S1024x3072 .bf16) : FVec Ideal S8192x3072 .f32 :=
  Host.dotGeneral Cert.AttInRefIdeal.dot_S8192x1024_S1024x3072_S8192x3072_1_0_0_1_n_n none
    (extf .f32 a Cert.AttInRefIdeal.Gen.facts.bitsLt_bf16_f32) (extf .f32 b Cert.AttInRefIdeal.Gen.facts.bitsLt_bf16_f32)

/-- The product and its bias as the reference states them. -/
def Affine (a : FVec Ideal S8192x1024 .bf16) (b : FVec Ideal S1024x3072 .bf16) (v : FVec Ideal S1x3072 .f32) : FVec Ideal S8192x3072 .f32 :=
  addf (Prod a b) (broadcastInDim S8192x3072 ![0, 1] Cert.AttInRefIdeal.Gen.facts.bcast_S1x3072_S8192x3072_0_1 v)

/-- Where the blocks lie. -/
theorem places : ∀ t : Fin cfg0.N, (win0_0.index t 0 = win0_3.index t 0 ∧ win0_0.index t 1 = 0)
    ∧ (win0_1.index t 0 = 0 ∧ win0_1.index t 1 = win0_3.index t 1) ∧ (win0_2.index t 0 = 0 ∧ win0_2.index t 1 = win0_3.index t 1) :=
  (by decide +kernel : ∀ t : Fin grid0.N, _)

/-- The array after the last point is the product with its bias. -/
theorem whole (c : Dev nD) : (dats m 0 c).arrAt 3 cfg0.N = Affine (V m c main_arg0) (V m c main_arg1) (V m c main_arg2) := by
  refine (dats m 0 c).arrAt_eq_of_covers 3 _ (by decide +kernel) fun t hf y => ?_
  blk_simp [iblk]
  rw [after0_3]
  unfold Affine Prod
  frame_out
  unfold k0_pay1
  idx_vars y
  pointwise
  refine congrArg₂ (fun u v : EReal => u + v) (Finset.sum_congr (M := EReal) rfl fun k _ => congrArg₂ (fun u v : EReal => u * v) ?_ ?_) ?_
  · refine congrArg (V m c main_arg0) (place _ _ _ ?_ ?_)
    · blk_simp [(places t).1.1]
    · blk_simp [(places t).1.2]
  · refine congrArg (V m c main_arg1) (place _ _ _ ?_ ?_)
    · blk_simp [(places t).2.1.1]
    · blk_simp [(places t).2.1.2]
  · refine congrArg (V m c main_arg2) (place _ _ _ ?_ ?_)
    · blk_simp [(places t).2.2.1]
    · blk_simp [(places t).2.2.2]

/-- Kernel and reference end with the same array of the same arguments. -/
theorem agree : Cert.algebraic_AttInIdeal_AttInRefIdeal := fun m ρ m' ρ' _ h =>
  ⟨_, Value.run_blocks (F := Ideal) m ρ,
    (θ_run Cert.AttInRefIdeal.defs _ _).mono (fun r k c => by
      obtain ⟨k0, kept⟩ := k c
      obtain ⟨h0, h1, h2⟩ := h c
      rw [h0, h1, h2] at k0
      have e0 := whole m c
      rw [V_main_arg0, V_main_arg1, V_main_arg2] at e0
      exact ⟨k0.trans e0.symm, kept⟩)
      (Cert.AttInRefIdeal.Value.run (F := Ideal) m' ρ')⟩

end Cert.Talk.AttIn

end
-- ==== Proof.Talk.FfUp.lean ====
/-
# The squared-ReLU MLP's first half

Every grid point stores one block of the product, and its positive part squared; over the extended reals the arrays are the
whole product, and the same of it.
-/
module

public import proofs.«01_k».proof.Defs
public import proofs.«01_k».proof.Proof.Talk.Place
public import proofs.«01_k».proof.Proof.Gen.FfUpIdeal.Value
public import proofs.«01_k».proof.Proof.Gen.FfUpRefIdeal.Run
public import Idealize.ShloMosaic.Lib.Pipeline.ValueKit.Geometry
public import Idealize.ShloMosaic.Lib.Pipeline.ValueKit.Acc
public import Idealize.ShloMosaic.Lib.Pointwise

@[expose] public section

set_option Elab.async false

noncomputable section

namespace Cert.Talk.FfUp

open Cert.FfUpIdeal Cert.FfUpIdeal.Gen Idealize.ShloMosaic Idealize.ShloMosaic.TcCoe Idealize.SL.Sem

variable (m : (ℓ : Loc nD τ sig) → Buf (Elt Ideal) ℓ)

/-- The product as the reference states it. -/
def Prod (a : FVec Ideal S8192x1024 .bf16) (b : FVec Ideal S1024x4096 .bf16) : FVec Ideal S8192x4096 .f32 :=
  Host.dotGeneral Cert.FfUpRefIdeal.dot_S8192x1024_S1024x4096_S8192x4096_1_0_0_1_n_n none
    (extf .f32 a Cert.FfUpRefIdeal.Gen.facts.bitsLt_bf16_f32) (extf .f32 b Cert.FfUpRefIdeal.Gen.facts.bitsLt_bf16_f32)

/-- The activation as the reference states it. -/
def Act (h : FVec Ideal S8192x4096 .f32) : FVec Ideal S8192x4096 .bf16 :=
  truncf .bf16 (mulf
    (maximumf h (broadcastInDim S8192x4096 ![] Cert.FfUpRefIdeal.Gen.facts.bcast_S_S8192x4096 (constant (F := Ideal) Cert.FfUpRefIdeal.S_ .f32 0x00000000#32)))
    (maximumf h (broadcastInDim S8192x4096 ![] Cert.FfUpRefIdeal.Gen.facts.bcast_S_S8192x4096 (constant (F := Ideal) Cert.FfUpRefIdeal.S_ .f32 0x00000000#32))))
    Cert.FfUpRefIdeal.Gen.facts.bitsLt_bf16_f32

/-- Where the blocks lie. -/
theorem places : ∀ t : Fin cfg0.N, (win0_0.index t 0 = win0_2.index t 0 ∧ win0_0.index t 1 = 0)
    ∧ (win0_1.index t 0 = 0 ∧ win0_1.index t 1 = win0_2.index t 1) ∧ (win0_3.index t 0 = win0_2.index t 0 ∧ win0_3.index t 1 = win0_2.index t 1) :=
  (by decide +kernel : ∀ t : Fin grid0.N, _)

/-- A block of the product. -/
theorem block (c : Dev nD) (t : Fin cfg0.N) (y0 : Fin 512) (y1 : Fin 1024) (i : Fin 8192) (j : Fin 4096)
    (l : (i : ℕ) = win0_2.index t 0 * 512 + y0) (r : (j : ℕ) = win0_2.index t 1 * 1024 + y1) :
    k0_pay1 (iblk m c 0 t) (iblk m c 1 t) (ix2 y0 y1) = Prod (V m c main_arg0) (V m c main_arg1) (ix2 i j) := by
  unfold Prod k0_pay1
  pointwise
  refine Finset.sum_congr (M := EReal) rfl fun k _ => congrArg₂ (fun u v : EReal => u * v) ?_ ?_
  · refine congrArg (V m c main_arg0) (place _ _ _ ?_ ?_)
    · blk_simp [(places t).1.1, l]
    · blk_simp [(places t).1.2]
  · refine congrArg (V m c main_arg1) (place _ _ _ ?_ ?_)
    · blk_simp [(places t).2.1.1]
    · blk_simp [(places t).2.1.2, r]

/-- The first array after the last point is the product. -/
theorem whole (c : Dev nD) : (dats m 0 c).arrAt 2 cfg0.N = Prod (V m c main_arg0) (V m c main_arg1) := by
  refine (dats m 0 c).arrAt_eq_of_covers 2 _ (by decide +kernel) fun t hf y => ?_
  blk_simp [iblk]
  rw [after0_2]
  frame_out
  idx_vars y
  exact (block m c t y0 y1 ((win0_2.blk t).view.emb (ix2 y0 y1) 0) ((win0_2.blk t).view.emb (ix2 y0 y1) 1) (by blk_simp []) (by blk_simp [])).trans
    (congrArg (Prod (V m c main_arg0) (V m c main_arg1)) (place _ _ _ rfl rfl).symm)

/-- The second array after the last point is its activation. -/
theorem acts (c : Dev nD) : (dats m 0 c).arrAt 3 cfg0.N = Act (Prod (V m c main_arg0) (V m c main_arg1)) := by
  refine (dats m 0 c).arrAt_eq_of_covers 3 _ (by decide +kernel) fun t hf y => ?_
  blk_simp [iblk]
  rw [after0_3]
  frame_out
  idx_vars y
  have e := block m c t y0 y1 ((win0_3.blk t).view.emb (ix2 y0 y1) 0) ((win0_3.blk t).view.emb (ix2 y0 y1) 1)
    (by blk_simp [(places t).2.2.1]) (by blk_simp [(places t).2.2.2])
  unfold k0_pay2 Act
  pointwise
  exact congrArg (fun u : EReal => max u 0 * max u 0) (e.trans (congrArg (Prod (V m c main_arg0) (V m c main_arg1)) (place _ _ _ rfl rfl).symm))

/-- Kernel and reference end with the same two arrays of the same arguments. -/
theorem agree : Cert.algebraic_FfUpIdeal_FfUpRefIdeal := fun m ρ m' ρ' _ h =>
  ⟨_, _, Value.run_blocks (F := Ideal) m ρ,
    (θ_run Cert.FfUpRefIdeal.defs _ _).mono (fun r k c => by
      obtain ⟨k0, k1, kept⟩ := k c
      obtain ⟨h0, h1⟩ := h c
      rw [h0, h1] at k0
      rw [h0, h1] at k1
      have e0 := whole m c
      rw [V_main_arg0, V_main_arg1] at e0
      have e1 := acts m c
      rw [V_main_arg0, V_main_arg1] at e1
      exact ⟨k0.trans e0.symm, k1.trans e1.symm, kept⟩)
      (Cert.FfUpRefIdeal.Value.run (F := Ideal) m' ρ')⟩

end Cert.Talk.FfUp

end
-- ==== Proof.Talk.FfDn.lean ====
/-
# Back through the squared-ReLU MLP's second half

Every grid point stores one block of the product, scaled by the activation's slope; over the extended reals the array is the
whole.
-/
module

public import proofs.«01_k».proof.Defs
public import proofs.«01_k».proof.Proof.Talk.Place
public import proofs.«01_k».proof.Proof.Gen.FfDnIdeal.Value
public import proofs.«01_k».proof.Proof.Gen.FfDnRefIdeal.Run
public import Idealize.ShloMosaic.Lib.Pipeline.ValueKit.Geometry
public import Idealize.ShloMosaic.Lib.Pipeline.ValueKit.Acc
public import Idealize.ShloMosaic.Lib.Pointwise

@[expose] public section

set_option Elab.async false

noncomputable section

namespace Cert.Talk.FfDn

open Cert.FfDnIdeal Cert.FfDnIdeal.Gen Idealize.ShloMosaic Idealize.ShloMosaic.TcCoe Idealize.SL.Sem

variable (m : (ℓ : Loc nD τ sig) → Buf (Elt Ideal) ℓ)

/-- The product as the reference states it. -/
def Prod (a : FVec Ideal S8192x1024 .bf16) (b : FVec Ideal S1024x4096 .bf16) : FVec Ideal S8192x4096 .f32 :=
  Host.dotGeneral Cert.FfDnRefIdeal.dot_S8192x1024_S1024x4096_S8192x4096_1_0_0_1_n_n none
    (extf .f32 a Cert.FfDnRefIdeal.Gen.facts.bitsLt_bf16_f32) (extf .f32 b Cert.FfDnRefIdeal.Gen.facts.bitsLt_bf16_f32)

/-- The scaled product as the reference states it. -/
def Scaled (a : FVec Ideal S8192x1024 .bf16) (b : FVec Ideal S1024x4096 .bf16) (h : FVec Ideal S8192x4096 .f32) : FVec Ideal S8192x4096 .bf16 :=
  truncf .bf16 (mulf (Prod a b)
    (mulf (broadcastInDim S8192x4096 ![] Cert.FfDnRefIdeal.Gen.facts.bcast_S_S8192x4096 (constant (F := Ideal) Cert.FfDnRefIdeal.S_ .f32 0x40000000#32))
      (maximumf h (broadcastInDim S8192x4096 ![] Cert.FfDnRefIdeal.Gen.facts.bcast_S_S8192x4096 (constant (F := Ideal) Cert.FfDnRefIdeal.S_ .f32 0x00000000#32)))))
    Cert.FfDnRefIdeal.Gen.facts.bitsLt_bf16_f32

/-- Where the blocks lie. -/
theorem places : ∀ t : Fin cfg0.N, (win0_0.index t 0 = win0_3.index t 0 ∧ win0_0.index t 1 = 0)
    ∧ (win0_1.index t 0 = 0 ∧ win0_1.index t 1 = win0_3.index t 1) ∧ (win0_2.index t 0 = win0_3.index t 0 ∧ win0_2.index t 1 = win0_3.index t 1) :=
  (by decide +kernel : ∀ t : Fin grid0.N, _)

/-- The array after the last point is the scaled product. -/
theorem whole (c : Dev nD) : (dats m 0 c).arrAt 3 cfg0.N = Scaled (V m c main_arg0) (V m c main_arg1) (V m c main_arg2) := by
  refine (dats m 0 c).arrAt_eq_of_covers 3 _ (by decide +kernel) fun t hf y => ?_
  blk_simp [iblk]
  rw [after0_3]
  unfold Scaled Prod
  frame_out
  unfold k0_pay1
  idx_vars y
  pointwise
  refine congrArg₂ (fun u v : EReal => u * v) (Finset.sum_congr (M := EReal) rfl fun k _ => congrArg₂ (fun u v : EReal => u * v) ?_ ?_) (congrArg (fun u : EReal => Ideal.ofBits FTy.f32 1073741824#32 * max u 0) ?_)
  · refine congrArg (V m c main_arg0) (place _ _ _ ?_ ?_)
    · blk_simp [(places t).1.1]
    · blk_simp [(places t).1.2]
  · refine congrArg (V m c main_arg1) (place _ _ _ ?_ ?_)
    · blk_simp [(places t).2.1.1]
    · blk_simp [(places t).2.1.2]
  · refine congrArg (V m c main_arg2) (funext fun i => ?_)
    fin_cases i
    · apply Fin.ext
      blk_simp [(places t).2.2.1]
    · apply Fin.ext
      blk_simp [(places t).2.2.2]

/-- Kernel and reference end with the same array of the same arguments. -/
theorem agree : Cert.algebraic_FfDnIdeal_FfDnRefIdeal := fun m ρ m' ρ' _ h =>
  ⟨_, Value.run_blocks (F := Ideal) m ρ,
    (θ_run Cert.FfDnRefIdeal.defs _ _).mono (fun r k c => by
      obtain ⟨k0, kept⟩ := k c
      obtain ⟨h0, h1, h2⟩ := h c
      rw [h0, h1, h2] at k0
      have e0 := whole m c
      rw [V_main_arg0, V_main_arg1, V_main_arg2] at e0
      exact ⟨k0.trans e0.symm, kept⟩)
      (Cert.FfDnRefIdeal.Value.run (F := Ideal) m' ρ')⟩

end Cert.Talk.FfDn

end
-- ==== Proof.Talk.Norm.lean ====
/-
# The normalization of a row
-/
module

public import proofs.«01_k».proof.Proof.Talk.Place

@[expose] public section

noncomputable section

namespace Cert.Talk

open Idealize.ShloMosaic

/-- The mean of 1024 numbers, as the calls divide. -/
def mean (z : Fin 1024 → EReal) : EReal := Ideal.div (∑ k, z k) (Ideal.ofBits .f32 0x44800000#32)

/-- A number less its row's mean, over the row's deviation. -/
def standard (z : Fin 1024 → EReal) (j : Fin 1024) : EReal :=
  (z j - mean z) * Ideal.rsqrt (mean (fun k => (z k - mean z) * (z k - mean z)) + Ideal.ofBits .f32 0x3727C5AC#32)

/-- An entry of the residual sum: the scaled input and the gated product. -/
def residual {R K : ℕ} (a : Arr R K) (b : Arr K 1024) (x : Arr R 1024) (g : Arr 1 1024) (r : Fin R) (j : Fin 1024) : EReal :=
  Ideal.ofBits .f32 0x3FD744FD#32 * x (ix2 r j) + g (ix2 0 j) * mul a b (ix2 r j)

end Cert.Talk
-- ==== Proof.Talk.MixOut.lean ====
/-
# A mixer's output projection, residual and normalization

Every grid point stores its rows of the product and of the normalized residual sum. Over the extended reals the arrays are the
whole product, and the whole sum with every row normalized.
-/
module

public import proofs.«01_k».proof.Defs
public import proofs.«01_k».proof.Proof.Talk.Norm
public import proofs.«01_k».proof.Proof.Gen.MixOutIdeal.Value
public import proofs.«01_k».proof.Proof.Gen.MixOutRefIdeal.Run
public import Idealize.ShloMosaic.Lib.Pipeline.ValueKit.Geometry
public import Idealize.ShloMosaic.Lib.Pipeline.ValueKit.Acc
public import Idealize.ShloMosaic.Lib.Pointwise

@[expose] public section

set_option Elab.async false

noncomputable section

namespace Cert.Talk.MixOut

open Cert.MixOutIdeal Cert.MixOutIdeal.Gen Idealize.ShloMosaic Idealize.ShloMosaic.TcCoe Idealize.SL.Sem

variable (m : (ℓ : Loc nD τ sig) → Buf (Elt Ideal) ℓ)

/-- The product as the reference states it. -/
def Prod (a : FVec Ideal S8192x1024 .bf16) (b : FVec Ideal S1024x1024 .bf16) : FVec Ideal S8192x1024 .f32 :=
  Host.dotGeneral Cert.MixOutRefIdeal.dot_S8192x1024_S1024x1024_S8192x1024_1_0_0_1_n_n none
    (extf .f32 a Cert.MixOutRefIdeal.Gen.facts.bitsLt_bf16_f32) (extf .f32 b Cert.MixOutRefIdeal.Gen.facts.bitsLt_bf16_f32)

/-- The residual sum as the reference states it. -/
def Sum (y x : FVec Ideal S8192x1024 .f32) (g : FVec Ideal S1x1024 .f32) : FVec Ideal S8192x1024 .f32 :=
  addf (mulf (broadcastInDim S8192x1024 ![] Cert.MixOutRefIdeal.Gen.facts.bcast_S_S8192x1024 (constant (F := Ideal) Cert.MixOutRefIdeal.S_ .f32 0x3FD744FD#32)) x)
    (mulf (broadcastInDim S8192x1024 ![0, 1] Cert.MixOutRefIdeal.Gen.facts.bcast_S1x1024_S8192x1024_0_1 g) y)

/-- The rows' means as the reference states them. -/
def Mean (z : FVec Ideal S8192x1024 .f32) : FVec Ideal Cert.MixOutRefIdeal.S8192x1 .f32 :=
  Host.divf (broadcastInDim Cert.MixOutRefIdeal.S8192x1 ![0] Cert.MixOutRefIdeal.Gen.facts.bcast_S8192_S8192x1_0
      (Host.reduceAdd z (constant (F := Ideal) Cert.MixOutRefIdeal.S_ .f32 0x00000000#32) Cert.MixOutRefIdeal.Gen.facts.reducesTo_S8192x1024_S8192_d1 Cert.MixOutRefIdeal.Gen.facts.h_S_))
    (broadcastInDim Cert.MixOutRefIdeal.S8192x1 ![] Cert.MixOutRefIdeal.Gen.facts.bcast_S_S8192x1 (constant (F := Ideal) Cert.MixOutRefIdeal.S_ .f32 0x44800000#32))

/-- The rows less their means, as the reference states them. -/
def Centred (z : FVec Ideal S8192x1024 .f32) : FVec Ideal S8192x1024 .f32 :=
  subf z (broadcastInDim S8192x1024 ![0, 1] Cert.MixOutRefIdeal.Gen.facts.bcast_S8192x1_S8192x1024_0_1 (Mean z))

/-- The normalization as the reference states it. -/
def Normal (z : FVec Ideal S8192x1024 .f32) (g b : FVec Ideal S1x1024 .f32) : FVec Ideal S8192x1024 .f32 :=
  addf (mulf (mulf (Centred z) (broadcastInDim S8192x1024 ![0, 1] Cert.MixOutRefIdeal.Gen.facts.bcast_S8192x1_S8192x1024_0_1
      (Host.rsqrt (addf (Mean (mulf (Centred z) (Centred z)))
        (broadcastInDim Cert.MixOutRefIdeal.S8192x1 ![] Cert.MixOutRefIdeal.Gen.facts.bcast_S_S8192x1 (constant (F := Ideal) Cert.MixOutRefIdeal.S_ .f32 0x3727C5AC#32))))))
    (broadcastInDim S8192x1024 ![0, 1] Cert.MixOutRefIdeal.Gen.facts.bcast_S1x1024_S8192x1024_0_1 g))
    (broadcastInDim S8192x1024 ![0, 1] Cert.MixOutRefIdeal.Gen.facts.bcast_S1x1024_S8192x1024_0_1 b)

/-- The reference's normalization, entry by entry. -/
theorem normal_at (z : FVec Ideal S8192x1024 .f32) (g b : FVec Ideal S1x1024 .f32) (i : Fin 8192) (j : Fin 1024) :
    Normal z g b (ix2 i j) = standard (fun k => z (ix2 i k)) j * g (ix2 0 j) + b (ix2 0 j) := by
  unfold Normal Centred Mean standard mean
  pointwise

/-- The reference's residual sum, entry by entry. -/
theorem sum_at (a : FVec Ideal S8192x1024 .bf16) (b : FVec Ideal S1024x1024 .bf16) (x : FVec Ideal S8192x1024 .f32)
    (g : FVec Ideal S1x1024 .f32) (i : Fin 8192) (j : Fin 1024) : Sum (Prod a b) x g (ix2 i j) = residual a b x g i j := by
  unfold Sum Prod residual mul
  pointwise

/-- A block of the product, -/
theorem prod_at (a : FVec Ideal S256x1024 .bf16) (b : FVec Ideal S1024x1024 .bf16) (i : Fin 256) (j : Fin 1024) :
    k0_pay1 (F := Ideal) a b (ix2 i j) = mul a b (ix2 i j) := by
  unfold k0_pay1 mul
  pointwise

/-- and of the normalized sum. -/
theorem block_at (a : FVec Ideal S256x1024 .bf16) (b : FVec Ideal S1024x1024 .bf16) (x : FVec Ideal S256x1024 .f32)
    (p g v : FVec Ideal S1x1024 .f32) (i : Fin 256) (j : Fin 1024) :
    k0_pay2 (F := Ideal) a b x p g v (ix2 i j) = standard (residual a b x p i) j * g (ix2 0 j) + v (ix2 0 j) := by
  unfold k0_pay2 k0_pay1 standard mean residual mul
  pointwise

/-- Where the blocks lie. -/
theorem places : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = t.val ∧ win0_6.index t 1 = 0) ∧ (win0_7.index t 0 = t.val ∧ win0_7.index t 1 = 0) :=
  (by decide +kernel : ∀ t : Fin grid0.N, _)

/-- A point's product is a block of rows of the whole. -/
theorem product (c : Dev nD) (t : Fin cfg0.N) (r : Fin 256) (i : Fin 8192) (j : Fin 1024) (l : (i : ℕ) = t.val * 256 + r) :
    mul (iblk m c 0 t) (iblk m c 1 t) (ix2 r j) = mul (V m c main_arg0) (V m c main_arg1) (ix2 i j) := by
  refine mul_block _ _ _ _ r i j (fun k => ?_) (fun k => ?_)
  · refine congrArg (V m c main_arg0) (place _ _ _ ?_ ?_)
    · blk_simp [(places t).1.1, l]
    · blk_simp [(places t).1.2]
  · refine congrArg (V m c main_arg1) (place _ _ _ ?_ ?_)
    · blk_simp [(places t).2.1.1]
    · blk_simp [(places t).2.1.2]

/-- A point's residual sum is a block of rows of the whole. -/
theorem summed (c : Dev nD) (t : Fin cfg0.N) (r : Fin 256) (i : Fin 8192) (j : Fin 1024) (l : (i : ℕ) = t.val * 256 + r) :
    residual (iblk m c 0 t) (iblk m c 1 t) (iblk m c 2 t) (iblk m c 3 t) r j
      = residual (V m c main_arg0) (V m c main_arg1) (V m c main_arg2) (V m c main_arg3) i j := by
  refine congrArg₂ (fun u v : EReal => u + v) (congrArg (fun u : EReal => Ideal.ofBits .f32 0x3FD744FD#32 * u) ?_)
    (congrArg₂ (fun u v : EReal => u * v) ?_ (product m c t r i j l))
  · refine congrArg (V m c main_arg2) (place _ _ _ ?_ ?_)
    · blk_simp [(places t).2.2.1.1, l]
    · blk_simp [(places t).2.2.1.2]
  · refine congrArg (V m c main_arg3) (place _ _ _ ?_ ?_)
    · blk_simp [(places t).2.2.2.1.1]
    · blk_simp [(places t).2.2.2.1.2]

/-- The first array after the last point is the product. -/
theorem whole (c : Dev nD) : (dats m 0 c).arrAt 6 cfg0.N = Prod (V m c main_arg0) (V m c main_arg1) := by
  refine (dats m 0 c).arrAt_eq_of_covers 6 _ (by decide +kernel) fun t hf y => ?_
  blk_simp [iblk]
  rw [after0_6]
  frame_out
  idx_vars y
  have e := product m c t y0 ((win0_6.blk t).view.emb (ix2 y0 y1) 0) y1 (by blk_simp [(places t).2.2.2.2.2.2.1.1])
  have w : (win0_6.blk t).view.emb (ix2 y0 y1) = ix2 ((win0_6.blk t).view.emb (ix2 y0 y1) 0 : Fin 8192) y1 :=
    place _ _ _ rfl (by blk_simp [(places t).2.2.2.2.2.2.1.2])
  rw [w]
  refine ((prod_at _ _ _ _).trans e).trans ?_
  unfold Prod mul
  pointwise

/-- The second array after the last point is the normalized sum. -/
theorem normals (c : Dev nD) : (dats m 0 c).arrAt 7 cfg0.N = Normal (Sum (Prod (V m c main_arg0) (V m c main_arg1)) (V m c main_arg2) (V m c main_arg3)) (V m c main_arg4) (V m c main_arg5) := by
  refine (dats m 0 c).arrAt_eq_of_covers 7 _ (by decide +kernel) fun t hf y => ?_
  blk_simp [iblk]
  rw [after0_7]
  frame_out
  idx_vars y
  have w : (win0_7.blk t).view.emb (ix2 y0 y1) = ix2 ((win0_7.blk t).view.emb (ix2 y0 y1) 0 : Fin 8192) y1 :=
    place _ _ _ rfl (by blk_simp [(places t).2.2.2.2.2.2.2.2])
  rw [w]
  refine ((block_at _ _ _ _ _ _ _ _).trans ?_).trans (normal_at _ _ _ _ _).symm
  refine congrArg₂ (fun u v : EReal => u + v) (congrArg₂ (fun u v : EReal => u * v) (congrArg (standard · y1) (funext fun k => ?_)) ?_) ?_
  · exact (summed m c t y0 _ k (by blk_simp [(places t).2.2.2.2.2.2.2.1])).trans (sum_at _ _ _ _ _ _).symm
  · refine congrArg (V m c main_arg4) (place _ _ _ ?_ ?_)
    · blk_simp [(places t).2.2.2.2.1.1]
    · blk_simp [(places t).2.2.2.2.1.2]
  · refine congrArg (V m c main_arg5) (place _ _ _ ?_ ?_)
    · blk_simp [(places t).2.2.2.2.2.1.1]
    · blk_simp [(places t).2.2.2.2.2.1.2]

/-- Kernel and reference end with the same two arrays of the same arguments. -/
theorem agree : Cert.algebraic_MixOutIdeal_MixOutRefIdeal := fun m ρ m' ρ' _ h =>
  ⟨_, _, Value.run_blocks (F := Ideal) m ρ,
    (θ_run Cert.MixOutRefIdeal.defs _ _).mono (fun r k c => by
      obtain ⟨k0, k1, kept⟩ := k c
      obtain ⟨h0, h1, h2, h3, h4, h5⟩ := h c
      rw [h0, h1] at k0
      unfold Cert.MixOutRefIdeal.Value.res_main_v29 at k1
      rw [h0, h1, h2, h3, h4, h5] at k1
      have e0 := whole m c
      rw [V_main_arg0, V_main_arg1] at e0
      have e1 := normals m c
      rw [V_main_arg0, V_main_arg1, V_main_arg2, V_main_arg3, V_main_arg4, V_main_arg5] at e1
      exact ⟨k0.trans e0.symm, k1.trans e1.symm, kept⟩)
      (Cert.MixOutRefIdeal.Value.run (F := Ideal) m' ρ')⟩

end Cert.Talk.MixOut

end
-- ==== Proof.Talk.FfOut.lean ====
/-
# The MLP's second matrix, residual and normalization

Every grid point stores its rows of the product and of the normalized residual sum. Over the extended reals the arrays are the
whole product, and the whole sum with every row normalized.
-/
module

public import proofs.«01_k».proof.Defs
public import proofs.«01_k».proof.Proof.Talk.Norm
public import proofs.«01_k».proof.Proof.Gen.FfOutIdeal.Value
public import proofs.«01_k».proof.Proof.Gen.FfOutRefIdeal.Run
public import Idealize.ShloMosaic.Lib.Pipeline.ValueKit.Geometry
public import Idealize.ShloMosaic.Lib.Pipeline.ValueKit.Acc
public import Idealize.ShloMosaic.Lib.Pointwise

@[expose] public section

set_option Elab.async false

noncomputable section

namespace Cert.Talk.FfOut

open Cert.FfOutIdeal Cert.FfOutIdeal.Gen Idealize.ShloMosaic Idealize.ShloMosaic.TcCoe Idealize.SL.Sem

variable (m : (ℓ : Loc nD τ sig) → Buf (Elt Ideal) ℓ)

/-- The product as the reference states it. -/
def Prod (a : FVec Ideal S8192x4096 .bf16) (b : FVec Ideal S4096x1024 .bf16) : FVec Ideal S8192x1024 .f32 :=
  Host.dotGeneral Cert.FfOutRefIdeal.dot_S8192x4096_S4096x1024_S8192x1024_1_0_0_1_n_n none
    (extf .f32 a Cert.FfOutRefIdeal.Gen.facts.bitsLt_bf16_f32) (extf .f32 b Cert.FfOutRefIdeal.Gen.facts.bitsLt_bf16_f32)

/-- The residual sum as the reference states it. -/
def Sum (y x : FVec Ideal S8192x1024 .f32) (g : FVec Ideal S1x1024 .f32) : FVec Ideal S8192x1024 .f32 :=
  addf (mulf (broadcastInDim S8192x1024 ![] Cert.FfOutRefIdeal.Gen.facts.bcast_S_S8192x1024 (constant (F := Ideal) Cert.FfOutRefIdeal.S_ .f32 0x3FD744FD#32)) x)
    (mulf (broadcastInDim S8192x1024 ![0, 1] Cert.FfOutRefIdeal.Gen.facts.bcast_S1x1024_S8192x1024_0_1 g) y)

/-- The rows' means as the reference states them. -/
def Mean (z : FVec Ideal S8192x1024 .f32) : FVec Ideal Cert.FfOutRefIdeal.S8192x1 .f32 :=
  Host.divf (broadcastInDim Cert.FfOutRefIdeal.S8192x1 ![0] Cert.FfOutRefIdeal.Gen.facts.bcast_S8192_S8192x1_0
      (Host.reduceAdd z (constant (F := Ideal) Cert.FfOutRefIdeal.S_ .f32 0x00000000#32) Cert.FfOutRefIdeal.Gen.facts.reducesTo_S8192x1024_S8192_d1 Cert.FfOutRefIdeal.Gen.facts.h_S_))
    (broadcastInDim Cert.FfOutRefIdeal.S8192x1 ![] Cert.FfOutRefIdeal.Gen.facts.bcast_S_S8192x1 (constant (F := Ideal) Cert.FfOutRefIdeal.S_ .f32 0x44800000#32))

/-- The rows less their means, as the reference states them. -/
def Centred (z : FVec Ideal S8192x1024 .f32) : FVec Ideal S8192x1024 .f32 :=
  subf z (broadcastInDim S8192x1024 ![0, 1] Cert.FfOutRefIdeal.Gen.facts.bcast_S8192x1_S8192x1024_0_1 (Mean z))

/-- The normalization as the reference states it. -/
def Normal (z : FVec Ideal S8192x1024 .f32) (g b : FVec Ideal S1x1024 .f32) : FVec Ideal S8192x1024 .f32 :=
  addf (mulf (mulf (Centred z) (broadcastInDim S8192x1024 ![0, 1] Cert.FfOutRefIdeal.Gen.facts.bcast_S8192x1_S8192x1024_0_1
      (Host.rsqrt (addf (Mean (mulf (Centred z) (Centred z)))
        (broadcastInDim Cert.FfOutRefIdeal.S8192x1 ![] Cert.FfOutRefIdeal.Gen.facts.bcast_S_S8192x1 (constant (F := Ideal) Cert.FfOutRefIdeal.S_ .f32 0x3727C5AC#32))))))
    (broadcastInDim S8192x1024 ![0, 1] Cert.FfOutRefIdeal.Gen.facts.bcast_S1x1024_S8192x1024_0_1 g))
    (broadcastInDim S8192x1024 ![0, 1] Cert.FfOutRefIdeal.Gen.facts.bcast_S1x1024_S8192x1024_0_1 b)

/-- The reference's normalization, entry by entry. -/
theorem normal_at (z : FVec Ideal S8192x1024 .f32) (g b : FVec Ideal S1x1024 .f32) (i : Fin 8192) (j : Fin 1024) :
    Normal z g b (ix2 i j) = standard (fun k => z (ix2 i k)) j * g (ix2 0 j) + b (ix2 0 j) := by
  unfold Normal Centred Mean standard mean
  pointwise

/-- The reference's residual sum, entry by entry. -/
theorem sum_at (a : FVec Ideal S8192x4096 .bf16) (b : FVec Ideal S4096x1024 .bf16) (x : FVec Ideal S8192x1024 .f32)
    (g : FVec Ideal S1x1024 .f32) (i : Fin 8192) (j : Fin 1024) : Sum (Prod a b) x g (ix2 i j) = residual a b x g i j := by
  unfold Sum Prod residual mul
  pointwise

/-- A block of the product, -/
theorem prod_at (a : FVec Ideal S256x4096 .bf16) (b : FVec Ideal S4096x1024 .bf16) (i : Fin 256) (j : Fin 1024) :
    k0_pay1 (F := Ideal) a b (ix2 i j) = mul a b (ix2 i j) := by
  unfold k0_pay1 mul
  pointwise

/-- and of the normalized sum. -/
theorem block_at (a : FVec Ideal S256x4096 .bf16) (b : FVec Ideal S4096x1024 .bf16) (x : FVec Ideal S256x1024 .f32)
    (p g v : FVec Ideal S1x1024 .f32) (i : Fin 256) (j : Fin 1024) :
    k0_pay2 (F := Ideal) a b x p g v (ix2 i j) = standard (residual a b x p i) j * g (ix2 0 j) + v (ix2 0 j) := by
  unfold k0_pay2 k0_pay1 standard mean residual mul
  pointwise

/-- Where the blocks lie. -/
theorem places : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = t.val ∧ win0_6.index t 1 = 0) ∧ (win0_7.index t 0 = t.val ∧ win0_7.index t 1 = 0) :=
  (by decide +kernel : ∀ t : Fin grid0.N, _)

/-- A point's product is a block of rows of the whole. -/
theorem product (c : Dev nD) (t : Fin cfg0.N) (r : Fin 256) (i : Fin 8192) (j : Fin 1024) (l : (i : ℕ) = t.val * 256 + r) :
    mul (iblk m c 0 t) (iblk m c 1 t) (ix2 r j) = mul (V m c main_arg0) (V m c main_arg1) (ix2 i j) := by
  refine mul_block _ _ _ _ r i j (fun k => ?_) (fun k => ?_)
  · refine congrArg (V m c main_arg0) (place _ _ _ ?_ ?_)
    · blk_simp [(places t).1.1, l]
    · blk_simp [(places t).1.2]
  · refine congrArg (V m c main_arg1) (place _ _ _ ?_ ?_)
    · blk_simp [(places t).2.1.1]
    · blk_simp [(places t).2.1.2]

/-- A point's residual sum is a block of rows of the whole. -/
theorem summed (c : Dev nD) (t : Fin cfg0.N) (r : Fin 256) (i : Fin 8192) (j : Fin 1024) (l : (i : ℕ) = t.val * 256 + r) :
    residual (iblk m c 0 t) (iblk m c 1 t) (iblk m c 2 t) (iblk m c 3 t) r j
      = residual (V m c main_arg0) (V m c main_arg1) (V m c main_arg2) (V m c main_arg3) i j := by
  refine congrArg₂ (fun u v : EReal => u + v) (congrArg (fun u : EReal => Ideal.ofBits .f32 0x3FD744FD#32 * u) ?_)
    (congrArg₂ (fun u v : EReal => u * v) ?_ (product m c t r i j l))
  · refine congrArg (V m c main_arg2) (place _ _ _ ?_ ?_)
    · blk_simp [(places t).2.2.1.1, l]
    · blk_simp [(places t).2.2.1.2]
  · refine congrArg (V m c main_arg3) (place _ _ _ ?_ ?_)
    · blk_simp [(places t).2.2.2.1.1]
    · blk_simp [(places t).2.2.2.1.2]

/-- The first array after the last point is the product. -/
theorem whole (c : Dev nD) : (dats m 0 c).arrAt 6 cfg0.N = Prod (V m c main_arg0) (V m c main_arg1) := by
  refine (dats m 0 c).arrAt_eq_of_covers 6 _ (by decide +kernel) fun t hf y => ?_
  blk_simp [iblk]
  rw [after0_6]
  frame_out
  idx_vars y
  have e := product m c t y0 ((win0_6.blk t).view.emb (ix2 y0 y1) 0) y1 (by blk_simp [(places t).2.2.2.2.2.2.1.1])
  have w : (win0_6.blk t).view.emb (ix2 y0 y1) = ix2 ((win0_6.blk t).view.emb (ix2 y0 y1) 0 : Fin 8192) y1 :=
    place _ _ _ rfl (by blk_simp [(places t).2.2.2.2.2.2.1.2])
  rw [w]
  refine ((prod_at _ _ _ _).trans e).trans ?_
  unfold Prod mul
  pointwise

/-- The second array after the last point is the normalized sum. -/
theorem normals (c : Dev nD) : (dats m 0 c).arrAt 7 cfg0.N = Normal (Sum (Prod (V m c main_arg0) (V m c main_arg1)) (V m c main_arg2) (V m c main_arg3)) (V m c main_arg4) (V m c main_arg5) := by
  refine (dats m 0 c).arrAt_eq_of_covers 7 _ (by decide +kernel) fun t hf y => ?_
  blk_simp [iblk]
  rw [after0_7]
  frame_out
  idx_vars y
  have w : (win0_7.blk t).view.emb (ix2 y0 y1) = ix2 ((win0_7.blk t).view.emb (ix2 y0 y1) 0 : Fin 8192) y1 :=
    place _ _ _ rfl (by blk_simp [(places t).2.2.2.2.2.2.2.2])
  rw [w]
  refine ((block_at _ _ _ _ _ _ _ _).trans ?_).trans (normal_at _ _ _ _ _).symm
  refine congrArg₂ (fun u v : EReal => u + v) (congrArg₂ (fun u v : EReal => u * v) (congrArg (standard · y1) (funext fun k => ?_)) ?_) ?_
  · exact (summed m c t y0 _ k (by blk_simp [(places t).2.2.2.2.2.2.2.1])).trans (sum_at _ _ _ _ _ _).symm
  · refine congrArg (V m c main_arg4) (place _ _ _ ?_ ?_)
    · blk_simp [(places t).2.2.2.2.1.1]
    · blk_simp [(places t).2.2.2.2.1.2]
  · refine congrArg (V m c main_arg5) (place _ _ _ ?_ ?_)
    · blk_simp [(places t).2.2.2.2.2.1.1]
    · blk_simp [(places t).2.2.2.2.2.1.2]

/-- Kernel and reference end with the same two arrays of the same arguments. -/
theorem agree : Cert.algebraic_FfOutIdeal_FfOutRefIdeal := fun m ρ m' ρ' _ h =>
  ⟨_, _, Value.run_blocks (F := Ideal) m ρ,
    (θ_run Cert.FfOutRefIdeal.defs _ _).mono (fun r k c => by
      obtain ⟨k0, k1, kept⟩ := k c
      obtain ⟨h0, h1, h2, h3, h4, h5⟩ := h c
      rw [h0, h1] at k0
      unfold Cert.FfOutRefIdeal.Value.res_main_v29 at k1
      rw [h0, h1, h2, h3, h4, h5] at k1
      have e0 := whole m c
      rw [V_main_arg0, V_main_arg1] at e0
      have e1 := normals m c
      rw [V_main_arg0, V_main_arg1, V_main_arg2, V_main_arg3, V_main_arg4, V_main_arg5] at e1
      exact ⟨k0.trans e0.symm, k1.trans e1.symm, kept⟩)
      (Cert.FfOutRefIdeal.Value.run (F := Ideal) m' ρ')⟩

end Cert.Talk.FfOut

end
-- ==== Proof.Talk.Three.lean ====
/-
# Three rows of sums, and the way back through a normalization

What a call back through a normalization leaves in its block of three rows, and the mathematics of one row.
-/
module

public import proofs.«01_k».proof.Proof.Talk.Norm

@[expose] public section

noncomputable section

namespace Cert.Talk

open Idealize.ShloMosaic

/-- The reciprocal deviation of a row. -/
def deviation (z : Fin 1024 → EReal) : EReal :=
  Ideal.rsqrt (mean (fun k => (z k - mean z) * (z k - mean z)) + Ideal.ofBits .f32 0x3727C5AC#32)

/-- Back through the normalization of a row `z`: `d` is the gradient of the normalized row. -/
def backward (z d : Fin 1024 → EReal) (j : Fin 1024) : EReal :=
  deviation z * ((d j - mean d) - standard z j * mean (fun k => d k * standard z k))

/-- An entry of the residual sum: the scaled input and the gated sublayer's output. -/
def gated {R : ℕ} (x y : Arr R 1024) (g : Arr 1 1024) (r : Fin R) (j : Fin 1024) : EReal :=
  Ideal.ofBits .f32 0x3FD744FD#32 * x (ix2 r j) + g (ix2 0 j) * y (ix2 r j)

/-- An entry of the normalized row's gradient. -/
def slope {R : ℕ} (d : Arr R 1024) (l : Arr 1 1024) (r : Fin R) (j : Fin 1024) : EReal := d (ix2 r j) * l (ix2 0 j)

/-- Three rows, then zeros. -/
def pick3 (i : Fin 8) (u v w : EReal) : EReal := if i.val = 0 then u else if i.val = 1 then v else if i.val = 2 then w else 0

/-- The sum of such blocks. -/
theorem sum_pick3 {N : ℕ} (i : Fin 8) (u v w : Fin N → EReal) :
    ∑ t, pick3 i (u t) (v t) (w t) = pick3 i (∑ t, u t) (∑ t, v t) (∑ t, w t) := by
  unfold pick3
  split_ifs <;> simp

/-- The sums of `d · n`, of `d` and of `z · y` over the rows. -/
def rows3 {R : ℕ} (d n z y : Arr R 1024) (i : (⟨2, ![8, 1024]⟩ : Shape).Idx) : EReal :=
  pick3 (i 0) (∑ r : Fin R, d (ix2 r (i 1 : Fin 1024)) * n (ix2 r (i 1 : Fin 1024))) (∑ r : Fin R, d (ix2 r (i 1 : Fin 1024)))
    (∑ r : Fin R, z (ix2 r (i 1 : Fin 1024)) * y (ix2 r (i 1 : Fin 1024)))

/-- A column's sum over 32 blocks of 256 rows is its sum over all rows. -/
theorem column_tiles (a : Arr 8192 1024) (a' : Fin 32 → Arr 256 1024) (j : Fin 1024)
    (h : ∀ p r, a' p (ix2 r j) = a (ix2 (⟨p.val * 256 + r.val, by omega⟩ : Fin 8192) j)) :
    ∑ p, ∑ r : Fin 256, a' p (ix2 r j) = ∑ r : Fin 8192, a (ix2 r j) :=
  (Finset.sum_congr rfl fun p _ => Finset.sum_congr rfl fun r _ => h p r).trans
    (sum_tiles 32 256 rfl (fun r => a (ix2 r j)) fun p r => by omega)

/-- The sums over 32 blocks of 256 rows add up to the sums over all rows. -/
theorem rows3_tiles (d n z y : Arr 8192 1024) (d' n' z' y' : Fin 32 → Arr 256 1024)
    (hd : ∀ p r j, d' p (ix2 r j) = d (ix2 (⟨p.val * 256 + r.val, by omega⟩ : Fin 8192) j))
    (hn : ∀ p r j, n' p (ix2 r j) = n (ix2 (⟨p.val * 256 + r.val, by omega⟩ : Fin 8192) j))
    (hz : ∀ p r j, z' p (ix2 r j) = z (ix2 (⟨p.val * 256 + r.val, by omega⟩ : Fin 8192) j))
    (hy : ∀ p r j, y' p (ix2 r j) = y (ix2 (⟨p.val * 256 + r.val, by omega⟩ : Fin 8192) j)) (i : (⟨2, ![8, 1024]⟩ : Shape).Idx) :
    ∑ p, rows3 (d' p) (n' p) (z' p) (y' p) i = rows3 d n z y i := by
  refine (sum_pick3 _ _ _ _).trans (congr (congrArg₂ (pick3 _) ?_ ?_) ?_)
  · exact column_tiles (fun i => d i * n i) (fun p i => d' p i * n' p i) (i 1) fun p r =>
      congrArg₂ (fun u v : EReal => u * v) (hd p r _) (hn p r _)
  · exact column_tiles d d' (i 1) fun p r => hd p r _
  · exact column_tiles (fun i => z i * y i) (fun p i => z' p i * y' p i) (i 1) fun p r =>
      congrArg₂ (fun u v : EReal => u * v) (hz p r _) (hy p r _)

section
variable {R : ℕ} (d n z y : Arr R 1024) (i : Fin 8) (j : Fin 1024)

/-- The other rows stay. -/
theorem rows3_other (h0 : i.val ≠ 0) (h1 : i.val ≠ 1) (h2 : i.val ≠ 2) (u : EReal) : u = u + rows3 d n z y (ix2 i j) :=
  ((congrArg (fun z : EReal => u + z) ((if_neg h0).trans ((if_neg h1).trans (if_neg h2)))).trans (add_zero u)).symm

variable (i0 : ∀ a, (![0, 0] : Fin 2 → ℕ) a + (![1, 1024] : Fin 2 → ℕ) a ≤ (⟨2, ![8, 1024]⟩ : Shape).size a)
variable (i1 : ∀ a, (![1, 0] : Fin 2 → ℕ) a + (![1, 1024] : Fin 2 → ℕ) a ≤ (⟨2, ![8, 1024]⟩ : Shape).size a)
variable (i2 : ∀ a, (![2, 0] : Fin 2 → ℕ) a + (![1, 1024] : Fin 2 → ℕ) a ≤ (⟨2, ![8, 1024]⟩ : Shape).size a)
variable (iw : ∀ a, (![0, 0] : Fin 2 → ℕ) a + (⟨2, ![8, 1024]⟩ : Shape).size a ≤ (⟨2, ![8, 1024]⟩ : Shape).size a)
variable (u v w : (⟨2, ![1, 1024]⟩ : Shape).Idx → Elt Ideal .f32)

/-- A block filled and then raised in its three rows. -/
theorem rows3_begin (o : (⟨2, ![8, 1024]⟩ : Shape).Idx → Elt Ideal .f32) (ho : o (ix2 i j) = (0 : EReal))
    (hu : u (ix2 0 j) = (0 : EReal) + rows3 d n z y (ix2 0 j)) (hv : v (ix2 0 j) = (0 : EReal) + rows3 d n z y (ix2 1 j))
    (hw : w (ix2 0 j) = (0 : EReal) + rows3 d n z y (ix2 2 j)) :
    View.canon (Val := Elt Ideal) (s := ⟨2, ![8, 1024]⟩) (e := .f32) [⟨Rect.unit ![2, 0] ![1, 1024] i2, w⟩, ⟨Rect.unit ![1, 0] ![1, 1024] i1, v⟩,
      ⟨Rect.unit ![0, 0] ![1, 1024] i0, u⟩, ⟨Rect.unit ![0, 0] ![8, 1024] iw, o⟩] (ix2 i j) = (0 : EReal) + rows3 d n z y (ix2 i j) := by
  by_cases e2 : i.val = 2
  · obtain rfl : i = 2 := Fin.ext e2
    rw [canon_hit _ _ _ _ _ e2]
    exact hw
  rw [canon_miss _ _ _ _ _ e2]
  by_cases e1 : i.val = 1
  · obtain rfl : i = 1 := Fin.ext e1
    rw [canon_hit _ _ _ _ _ e1]
    exact hv
  rw [canon_miss _ _ _ _ _ e1]
  by_cases e0 : i.val = 0
  · obtain rfl : i = 0 := Fin.ext e0
    rw [canon_hit _ _ _ _ _ e0]
    exact hu
  rw [canon_miss _ _ _ _ _ e0, View.canon_cons_unit_lit' _ _ _ (by decide)]
  exact ho.trans (rows3_other d n z y i j e0 e1 e2 _)

/-- A block kept and raised in its three rows. -/
theorem rows3_go {sig : RefSig} {κ : Kind} {sp : Space} (b : View sig κ sp ⟨2, ![8, 1024]⟩ .f32) (f : b.ty.Contents (Elt Ideal))
    (o : (⟨2, ![8, 1024]⟩ : Shape).Idx → EReal) (ho : b.read (Elt Ideal) f = o)
    (hu : u (ix2 0 j) = o (ix2 0 j) + rows3 d n z y (ix2 0 j)) (hv : v (ix2 0 j) = o (ix2 1 j) + rows3 d n z y (ix2 1 j))
    (hw : w (ix2 0 j) = o (ix2 2 j) + rows3 d n z y (ix2 2 j)) :
    b.read (Elt Ideal) (b.writes (Elt Ideal) f [⟨Rect.unit ![2, 0] ![1, 1024] i2, w⟩, ⟨Rect.unit ![1, 0] ![1, 1024] i1, v⟩,
      ⟨Rect.unit ![0, 0] ![1, 1024] i0, u⟩]) (ix2 i j) = o (ix2 i j) + rows3 d n z y (ix2 i j) := by
  by_cases e2 : i.val = 2
  · obtain rfl : i = 2 := Fin.ext e2
    rw [read_hit _ _ _ _ _ _ _ e2]
    exact hw
  rw [read_miss _ _ _ _ _ _ _ e2]
  by_cases e1 : i.val = 1
  · obtain rfl : i = 1 := Fin.ext e1
    rw [read_hit _ _ _ _ _ _ _ e1]
    exact hv
  rw [read_miss _ _ _ _ _ _ _ e1]
  by_cases e0 : i.val = 0
  · obtain rfl : i = 0 := Fin.ext e0
    rw [read_hit _ _ _ _ _ _ _ e0]
    exact hu
  rw [read_miss _ _ _ _ _ _ _ e0, View.writes_nil, ho]
  exact rows3_other d n z y i j e0 e1 e2 _
end

end Cert.Talk
-- ==== Proof.Talk.LnBwd.lean ====
/-
# Back through a normalization

Every grid point stores its rows of the two gradients and adds three rows of sums to one block. Over the extended reals the arrays
are the gradients, and the sums over all rows.
-/
module

public import proofs.«01_k».proof.Defs
public import proofs.«01_k».proof.Proof.Talk.Three
public import proofs.«01_k».proof.Proof.Gen.LnBwdIdeal.Value
public import proofs.«01_k».proof.Proof.Gen.LnBwdRefIdeal.Run
public import Idealize.ShloMosaic.Lib.Pipeline.ValueKit.Geometry
public import Idealize.ShloMosaic.Lib.Pipeline.ValueKit.Acc
public import Idealize.ShloMosaic.Lib.Pointwise

@[expose] public section

set_option Elab.async false

noncomputable section

namespace Cert.Talk.LnBwd

open Cert.LnBwdIdeal Cert.LnBwdIdeal.Gen Idealize.ShloMosaic Idealize.ShloMosaic.TcCoe Idealize.SL.Sem

variable (m : (ℓ : Loc nD τ sig) → Buf (Elt Ideal) ℓ)

/-- The residual sum as the reference states it. -/
def Sum (x y : FVec Ideal S8192x1024 .f32) (g : FVec Ideal S1x1024 .f32) : FVec Ideal S8192x1024 .f32 :=
  addf (mulf (broadcastInDim S8192x1024 ![] Cert.LnBwdRefIdeal.Gen.facts.bcast_S_S8192x1024 (constant (F := Ideal) Cert.LnBwdRefIdeal.S_ .f32 0x3FD744FD#32)) x)
    (mulf (broadcastInDim S8192x1024 ![0, 1] Cert.LnBwdRefIdeal.Gen.facts.bcast_S1x1024_S8192x1024_0_1 g) y)

/-- The normalized rows' gradient as the reference states it. -/
def Slope (d : FVec Ideal S8192x1024 .f32) (l : FVec Ideal S1x1024 .f32) : FVec Ideal S8192x1024 .f32 :=
  mulf d (broadcastInDim S8192x1024 ![0, 1] Cert.LnBwdRefIdeal.Gen.facts.bcast_S1x1024_S8192x1024_0_1 l)

/-- The rows' means as the reference states them. -/
def Mean (z : FVec Ideal S8192x1024 .f32) : FVec Ideal Cert.LnBwdRefIdeal.S8192x1 .f32 :=
  Host.divf (broadcastInDim Cert.LnBwdRefIdeal.S8192x1 ![0] Cert.LnBwdRefIdeal.Gen.facts.bcast_S8192_S8192x1_0
      (Host.reduceAdd z (constant (F := Ideal) Cert.LnBwdRefIdeal.S_ .f32 0x00000000#32) Cert.LnBwdRefIdeal.Gen.facts.reducesTo_S8192x1024_S8192_d1 Cert.LnBwdRefIdeal.Gen.facts.h_S_))
    (broadcastInDim Cert.LnBwdRefIdeal.S8192x1 ![] Cert.LnBwdRefIdeal.Gen.facts.bcast_S_S8192x1 (constant (F := Ideal) Cert.LnBwdRefIdeal.S_ .f32 0x44800000#32))

/-- A column of numbers, one a row, spread over the rows. -/
def Spread (v : FVec Ideal Cert.LnBwdRefIdeal.S8192x1 .f32) : FVec Ideal S8192x1024 .f32 :=
  broadcastInDim S8192x1024 ![0, 1] Cert.LnBwdRefIdeal.Gen.facts.bcast_S8192x1_S8192x1024_0_1 v

/-- The rows' reciprocal deviations as the reference states them. -/
def Inverse (z : FVec Ideal S8192x1024 .f32) : FVec Ideal Cert.LnBwdRefIdeal.S8192x1 .f32 :=
  Host.rsqrt (addf (Mean (mulf (subf z (Spread (Mean z))) (subf z (Spread (Mean z)))))
    (broadcastInDim Cert.LnBwdRefIdeal.S8192x1 ![] Cert.LnBwdRefIdeal.Gen.facts.bcast_S_S8192x1 (constant (F := Ideal) Cert.LnBwdRefIdeal.S_ .f32 0x3727C5AC#32)))

/-- The normalized rows as the reference states them. -/
def Normal (z : FVec Ideal S8192x1024 .f32) : FVec Ideal S8192x1024 .f32 := mulf (subf z (Spread (Mean z))) (Spread (Inverse z))

/-- The gradient of the residual sum as the reference states it. -/
def Grad (z d : FVec Ideal S8192x1024 .f32) : FVec Ideal S8192x1024 .f32 :=
  mulf (Spread (Inverse z)) (subf (subf d (Spread (Mean d))) (mulf (Normal z) (Spread (Mean (mulf d (Normal z))))))

/-- The gradient of the sublayer's output as the reference states it. -/
def Inner (z d : FVec Ideal S8192x1024 .f32) (g : FVec Ideal S1x1024 .f32) : FVec Ideal S8192x1024 .bf16 :=
  truncf .bf16 (mulf (broadcastInDim S8192x1024 ![0, 1] Cert.LnBwdRefIdeal.Gen.facts.bcast_S1x1024_S8192x1024_0_1 g) (Grad z d)) Cert.LnBwdRefIdeal.Gen.facts.bitsLt_bf16_f32

/-- A row of sums as the reference states it. -/
def Row (v : FVec Ideal S8192x1024 .f32) : FVec Ideal S1x1024 .f32 :=
  broadcastInDim S1x1024 ![1] Cert.LnBwdRefIdeal.Gen.facts.bcast_S1024_S1x1024_1
    (Host.reduceAdd v (constant (F := Ideal) Cert.LnBwdRefIdeal.S_ .f32 0x00000000#32) Cert.LnBwdRefIdeal.Gen.facts.reducesTo_S8192x1024_S1024_d0 Cert.LnBwdRefIdeal.Gen.facts.h_S_)

/-- The sums as the reference states them: three rows, then zeros. -/
def Sums (d n z y : FVec Ideal S8192x1024 .f32) : FVec Ideal S8x1024 .f32 :=
  concatenate S8x1024 0 [⟨Cert.LnBwdRefIdeal.S3x1024, concatenate Cert.LnBwdRefIdeal.S3x1024 0 [⟨S1x1024, Row (mulf d n)⟩, ⟨S1x1024, Row d⟩, ⟨S1x1024, Row (mulf z y)⟩]
      Cert.LnBwdRefIdeal.Gen.facts.concatenates_S1x1024_S1x1024_S1x1024_S3x1024_d0⟩,
    ⟨Cert.LnBwdRefIdeal.S5x1024, broadcastInDim Cert.LnBwdRefIdeal.S5x1024 ![] Cert.LnBwdRefIdeal.Gen.facts.bcast_S_S5x1024
      (constant (F := Ideal) Cert.LnBwdRefIdeal.S_ .f32 0x00000000#32)⟩] Cert.LnBwdRefIdeal.Gen.facts.concatenates_S3x1024_S5x1024_S8x1024_d0

/-! The reference, entry by entry. -/

theorem sum_at (x y : FVec Ideal S8192x1024 .f32) (g : FVec Ideal S1x1024 .f32) (i : Fin 8192) (j : Fin 1024) : Sum x y g (ix2 i j) = gated x y g i j := by
  unfold Sum gated
  pointwise

theorem slope_at (d : FVec Ideal S8192x1024 .f32) (l : FVec Ideal S1x1024 .f32) (i : Fin 8192) (j : Fin 1024) : Slope d l (ix2 i j) = slope d l i j := by
  unfold Slope slope
  pointwise

theorem mean_at (z : FVec Ideal S8192x1024 .f32) (i : Fin 8192) : Mean z (ix2 i 0) = mean fun k => z (ix2 i k) := by
  unfold Mean mean
  pointwise

theorem spread_at (v : FVec Ideal Cert.LnBwdRefIdeal.S8192x1 .f32) (i : Fin 8192) (j : Fin 1024) : Spread v (ix2 i j) = v (ix2 i 0) := by
  unfold Spread
  pointwise

theorem inverse_at (z : FVec Ideal S8192x1024 .f32) (i : Fin 8192) : Inverse z (ix2 i 0) = deviation fun k => z (ix2 i k) := by
  unfold Inverse deviation Spread Mean mean
  pointwise

theorem normal_at (z : FVec Ideal S8192x1024 .f32) (i : Fin 8192) (j : Fin 1024) : Normal z (ix2 i j) = standard (fun k => z (ix2 i k)) j :=
  congrArg₂ (fun u v : EReal => u * v) (congrArg (fun u : EReal => z (ix2 i j) - u) ((spread_at _ i j).trans (mean_at z i)))
    ((spread_at _ i j).trans (inverse_at z i))

theorem grad_at (z d : FVec Ideal S8192x1024 .f32) (i : Fin 8192) (j : Fin 1024) :
    Grad z d (ix2 i j) = backward (fun k => z (ix2 i k)) (fun k => d (ix2 i k)) j :=
  congrArg₂ (fun u v : EReal => u * v) ((spread_at _ i j).trans (inverse_at z i))
    (congrArg₂ (fun u v : EReal => u - v) (congrArg (fun u : EReal => d (ix2 i j) - u) ((spread_at _ i j).trans (mean_at d i)))
      (congrArg₂ (fun u v : EReal => u * v) (normal_at z i j) (((spread_at _ i j).trans (mean_at _ i)).trans
        (congrArg mean (funext fun k => congrArg (fun u : EReal => d (ix2 i k) * u) (normal_at z i k))))))

theorem inner_at (z d : FVec Ideal S8192x1024 .f32) (g : FVec Ideal S1x1024 .f32) (i : Fin 8192) (j : Fin 1024) : Inner z d g (ix2 i j) = g (ix2 0 j) * Grad z d (ix2 i j) := by
  unfold Inner
  pointwise

theorem sums_at (d n z y : FVec Ideal S8192x1024 .f32) (i : S8x1024.Idx) : Sums d n z y i = rows3 d n z y i := by
  unfold Sums Row rows3 pick3
  idx_vars i
  fin_cases i0
  all_goals pointwise
  all_goals rfl

/-! The call's values, entry by entry: `d` the gradient, `y` the sublayer's output, `x` its input, `g` the gate, `l` the scale. -/

section
variable (d y x : Vec Ideal S256x1024 .f32) (g l : Vec Ideal S1x1024 .f32)

theorem deviations (i : Fin 256) : k0_pay3 (F := Ideal) y x g (ix2 i 0) = deviation (gated x y g i) := by
  unfold k0_pay3 k0_pay2 deviation mean gated
  pointwise

theorem normals (i : Fin 256) (j : Fin 1024) : k0_pay4 (F := Ideal) y x g (ix2 i j) = standard (gated x y g i) j := by
  unfold k0_pay4 k0_pay3 k0_pay2 standard mean gated
  pointwise

theorem centred (i : Fin 256) (j : Fin 1024) : k0_pay6 (F := Ideal) d l (ix2 i j) = slope d l i j - mean (slope d l i) := by
  unfold k0_pay6 k0_pay5 mean slope
  pointwise

theorem weighed (i : Fin 256) (j : Fin 1024) :
    k0_pay7 (F := Ideal) d y x g l (ix2 i j) = slope d l i j * standard (gated x y g i) j := by
  refine Eq.trans ?_ (congrArg (fun u : EReal => slope d l i j * u) (normals y x g i j))
  unfold k0_pay7 k0_pay5 slope
  pointwise

/-- The block of the gradient. -/
def grad : FVec Ideal S256x1024 .f32 := k0_pay8 (k0_pay3 y x g) (k0_pay4 y x g) (k0_pay6 d l) (k0_pay7 d y x g l)

theorem combined (v : FVec Ideal S256x1 .f32) (n e w : FVec Ideal S256x1024 .f32) (i : Fin 256) (j : Fin 1024) :
    k0_pay8 (F := Ideal) v n e w (ix2 i j) = v (ix2 i 0) * (e (ix2 i j) - n (ix2 i j) * mean fun k => w (ix2 i k)) := by
  unfold k0_pay8 mean
  pointwise

theorem gradient (i : Fin 256) (j : Fin 1024) : grad d y x g l (ix2 i j) = backward (gated x y g i) (slope d l i) j :=
  (combined _ _ _ _ i j).trans (congrArg₂ (fun u v : EReal => u * v) (deviations y x g i)
    (congrArg₂ (fun u v : EReal => u - v) (centred d l i j) (congrArg₂ (fun u v : EReal => u * v) (normals y x g i j)
      (congrArg mean (funext fun k => weighed d y x g l i k)))))

theorem inner (i : Fin 256) (j : Fin 1024) :
    k0_pay9 (F := Ideal) (k0_pay3 y x g) (k0_pay4 y x g) (k0_pay6 d l) (k0_pay7 d y x g l) g (ix2 i j) = g (ix2 0 j) * grad d y x g l (ix2 i j) := by
  unfold k0_pay9 grad
  pointwise

/-- The first row of the block of sums grows by the point's first sum, -/
theorem first (n z : Arr 256 1024) (v : FVec Ideal S1x1024 .f32) (j : Fin 1024) :
    k0_pay10 (F := Ideal) d n v (ix2 0 j) = v (ix2 0 j) + rows3 d n z y (ix2 0 j) := by
  unfold k0_pay10 rows3
  pointwise
  rfl

/-- the second by the second, -/
theorem second (n z : Arr 256 1024) (v : FVec Ideal S1x1024 .f32) (j : Fin 1024) :
    k0_pay11 (F := Ideal) d v (ix2 0 j) = v (ix2 0 j) + rows3 d n z y (ix2 1 j) := by
  unfold k0_pay11 rows3
  pointwise
  rfl

/-- the third by the third. -/
theorem third (n : Arr 256 1024) (p : FVec Ideal S256x1 .f32) (q e w : FVec Ideal S256x1024 .f32) (v : FVec Ideal S1x1024 .f32) (j : Fin 1024) :
    k0_pay12 (F := Ideal) y p q e w v (ix2 0 j) = v (ix2 0 j) + rows3 d n (k0_pay8 p q e w) y (ix2 2 j) := by
  unfold k0_pay12 rows3
  pointwise
  rfl
end

/-- The block starts at zero. -/
theorem zeros {i : S8x1024.Idx} : k0_pay1 (F := Ideal) i = (0 : EReal) := by
  unfold k0_pay1
  pointwise

/-- A point's normalized rows, -/
def norms (c : Dev nD) (p : Fin cfg0.N) : Arr 256 1024 := k0_pay4 (F := Ideal) (iblk m c 2 p) (iblk m c 1 p) (iblk m c 3 p)

/-- its gradient, -/
def grads (c : Dev nD) (p : Fin cfg0.N) : Arr 256 1024 := grad (iblk m c 0 p) (iblk m c 2 p) (iblk m c 1 p) (iblk m c 3 p) (iblk m c 4 p)

/-- and its three sums. -/
def term (c : Dev nD) (p : Fin cfg0.N) (i : S8x1024.Idx) : EReal := rows3 (iblk m c 0 p) (norms m c p) (grads m c p) (iblk m c 2 p) i

/-- What the first point leaves in the block. -/
theorem begins (c : Dev nD) (t : Fin cfg0.N) (h0 : t.val % 32 = 0) (i : S8x1024.Idx) :
    (outsAt0 m c t.val t.isLt).2.2 i = (0 : EReal) + term m c t i := by
  rw [outsAt0_A m c t h0]
  frame_out
  idx_vars i
  refine rows3_begin _ _ _ _ i0 i1 _ _ _ _ _ _ _ _ zeros ?_ ?_ ?_
  · refine (first _ (iblk m c 2 t) _ (grads m c t) _ _).trans (congrArg (fun u : EReal => u + term m c t (ix2 0 i1)) ?_)
    rw [load_written _ _ _ 0 _ (show ((0 : Fin 8) : ℕ) = 0 from rfl), View.canon_cons_unit_lit' _ _ _ (by decide)]
    exact zeros
  · refine (second _ (iblk m c 2 t) (norms m c t) (grads m c t) _ _).trans (congrArg (fun u : EReal => u + term m c t (ix2 1 i1)) ?_)
    rw [load_written _ _ _ 1 _ (show ((1 : Fin 8) : ℕ) = 1 from rfl), canon_miss _ _ _ _ _ (by decide), View.canon_cons_unit_lit' _ _ _ (by decide)]
    exact zeros
  · refine (third (iblk m c 0 t) _ (norms m c t) _ _ _ _ _ _).trans (congrArg (fun u : EReal => u + term m c t (ix2 2 i1)) ?_)
    rw [load_written _ _ _ 2 _ (show ((2 : Fin 8) : ℕ) = 2 from rfl), canon_miss _ _ _ _ _ (by decide), canon_miss _ _ _ _ _ (by decide),
      View.canon_cons_unit_lit' _ _ _ (by decide)]
    exact zeros

/-- What every later point adds. -/
theorem goes_on (c : Dev nD) (t : Fin cfg0.N) (h0 : ¬ t.val % 32 = 0) (i : S8x1024.Idx) :
    (outsAt0 m c t.val t.isLt).2.2 i = ((outsAt0 m c (t.val - 1) (Nat.lt_of_le_of_lt (Nat.sub_le _ _) t.isLt)).2.2 i : EReal) + term m c t i := by
  rw [outsAt0_B m c t h0]
  frame_out
  idx_vars i
  refine rows3_go _ _ _ _ i0 i1 _ _ _ _ _ _ _ _ _ (Memref.IsWhole.read_unread _ _) ?_ ?_ ?_
  · exact (first _ (iblk m c 2 t) _ (grads m c t) _ _).trans (congrArg (fun u : EReal => u + term m c t (ix2 0 i1)) (load_row _ _ 0 _ rfl))
  · exact (second _ (iblk m c 2 t) (norms m c t) (grads m c t) _ _).trans (congrArg (fun u : EReal => u + term m c t (ix2 1 i1)) (load_row _ _ 1 _ rfl))
  · exact (third (iblk m c 0 t) _ (norms m c t) _ _ _ _ _ _).trans (congrArg (fun u : EReal => u + term m c t (ix2 2 i1)) (load_row _ _ 2 _ rfl))

/-- Where the blocks lie. -/
theorem places : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0)
    ∧ (win0_6.index t 0 = t.val ∧ win0_6.index t 1 = 0) ∧ (win0_7.index t 0 = 0 ∧ win0_7.index t 1 = 0) :=
  (by decide +kernel : ∀ t : Fin grid0.N, _)

section
variable (c : Dev nD) (t : Fin cfg0.N) (r : Fin 256) (i : Fin 8192) (l : (i : ℕ) = t.val * 256 + r)
include l

/-! A point's blocks, read in the arrays. -/

theorem block0 (j : Fin 1024) : (iblk m c 0 t : Arr 256 1024) (ix2 r j) = V m c main_arg0 (ix2 i j) :=
  congrArg (V m c main_arg0) (place _ _ _ (by blk_simp [(places t).1.1, l]) (by blk_simp [(places t).1.2]))

theorem block1 (j : Fin 1024) : (iblk m c 1 t : Arr 256 1024) (ix2 r j) = V m c main_arg1 (ix2 i j) :=
  congrArg (V m c main_arg1) (place _ _ _ (by blk_simp [(places t).2.1.1, l]) (by blk_simp [(places t).2.1.2]))

theorem block2 (j : Fin 1024) : (iblk m c 2 t : Arr 256 1024) (ix2 r j) = V m c main_arg2 (ix2 i j) :=
  congrArg (V m c main_arg2) (place _ _ _ (by blk_simp [(places t).2.2.1.1, l]) (by blk_simp [(places t).2.2.1.2]))

omit l in
theorem block3 (j : Fin 1024) : (iblk m c 3 t : Arr 1 1024) (ix2 0 j) = V m c main_arg3 (ix2 0 j) :=
  congrArg (V m c main_arg3) (place _ _ _ (by blk_simp [(places t).2.2.2.1.1]) (by blk_simp [(places t).2.2.2.1.2]))

omit l in
theorem block4 (j : Fin 1024) : (iblk m c 4 t : Arr 1 1024) (ix2 0 j) = V m c main_arg4 (ix2 0 j) :=
  congrArg (V m c main_arg4) (place _ _ _ (by blk_simp [(places t).2.2.2.2.1.1]) (by blk_simp [(places t).2.2.2.2.1.2]))

/-- A point's residual sum is a block of rows of the whole. -/
theorem residuals : gated (iblk m c 1 t) (iblk m c 2 t) (iblk m c 3 t) r = fun k => Sum (V m c main_arg1) (V m c main_arg2) (V m c main_arg3) (ix2 i k) :=
  funext fun k => (congrArg₂ (fun u v : EReal => u + v) (congrArg (fun u : EReal => Ideal.ofBits .f32 0x3FD744FD#32 * u) (block1 m c t r i l k))
    (congrArg₂ (fun u v : EReal => u * v) (block3 m c t k) (block2 m c t r i l k))).trans (sum_at _ _ _ i k).symm

/-- So is its gradient of the normalized rows. -/
theorem slopes : slope (iblk m c 0 t) (iblk m c 4 t) r = fun k => Slope (V m c main_arg0) (V m c main_arg4) (ix2 i k) :=
  funext fun k => (congrArg₂ (fun u v : EReal => u * v) (block0 m c t r i l k) (block4 m c t k)).trans (slope_at _ _ i k).symm

theorem norms_at (j : Fin 1024) : norms m c t (ix2 r j) = Normal (Sum (V m c main_arg1) (V m c main_arg2) (V m c main_arg3)) (ix2 i j) :=
  ((normals _ _ _ r j).trans (congrArg (standard · j) (residuals m c t r i l))).trans (normal_at _ i j).symm

theorem grads_at (j : Fin 1024) : grads m c t (ix2 r j)
    = Grad (Sum (V m c main_arg1) (V m c main_arg2) (V m c main_arg3)) (Slope (V m c main_arg0) (V m c main_arg4)) (ix2 i j) :=
  ((gradient _ _ _ _ _ r j).trans (congrArg₂ (backward · · j) (residuals m c t r i l) (slopes m c t r i l))).trans (grad_at _ _ i j).symm
end

/-- What a point leaves of the two gradients. -/
theorem leaves (c : Dev nD) (t : Fin cfg0.N) : (outsAt0 m c t.val t.isLt).1 = grads m c t
    ∧ (outsAt0 m c t.val t.isLt).2.1 = k0_pay9 (F := Ideal) (k0_pay3 (iblk m c 2 t) (iblk m c 1 t) (iblk m c 3 t)) (k0_pay4 (iblk m c 2 t) (iblk m c 1 t) (iblk m c 3 t))
      (k0_pay6 (iblk m c 0 t) (iblk m c 4 t)) (k0_pay7 (iblk m c 0 t) (iblk m c 2 t) (iblk m c 1 t) (iblk m c 3 t) (iblk m c 4 t)) (iblk m c 3 t) := by
  by_cases h0 : t.val % 32 = 0
  · rw [outsAt0_A m c t h0]
    constructor
    · frame_out
      rfl
    · frame_out
  · rw [outsAt0_B m c t h0]
    constructor
    · frame_out
      rfl
    · frame_out

/-- The first array after the last point is the gradient of the residual sum, -/
theorem outer (c : Dev nD) : (dats m 0 c).arrAt 5 cfg0.N
    = Grad (Sum (V m c main_arg1) (V m c main_arg2) (V m c main_arg3)) (Slope (V m c main_arg0) (V m c main_arg4)) := by
  refine (dats m 0 c).arrAt_eq_of_covers 5 _ (by decide +kernel) fun t hf y => ?_
  blk_simp [iblk]
  rw [after0_5, (leaves m c t).1]
  idx_vars y
  have w : (win0_5.blk t).view.emb (ix2 y0 y1) = ix2 ((win0_5.blk t).view.emb (ix2 y0 y1) 0 : Fin 8192) y1 :=
    place _ _ _ rfl (by blk_simp [(places t).2.2.2.2.2.1.2])
  rw [w]
  exact grads_at m c t y0 _ (by blk_simp [(places t).2.2.2.2.2.1.1]) y1

/-- the second the gradient of the sublayer's output, -/
theorem inners (c : Dev nD) : (dats m 0 c).arrAt 6 cfg0.N
    = Inner (Sum (V m c main_arg1) (V m c main_arg2) (V m c main_arg3)) (Slope (V m c main_arg0) (V m c main_arg4)) (V m c main_arg3) := by
  refine (dats m 0 c).arrAt_eq_of_covers 6 _ (by decide +kernel) fun t hf y => ?_
  blk_simp [iblk]
  rw [after0_6, (leaves m c t).2]
  idx_vars y
  have w : (win0_6.blk t).view.emb (ix2 y0 y1) = ix2 ((win0_6.blk t).view.emb (ix2 y0 y1) 0 : Fin 8192) y1 :=
    place _ _ _ rfl (by blk_simp [(places t).2.2.2.2.2.2.1.2])
  rw [w]
  exact (inner _ _ _ _ _ y0 y1).trans ((congrArg₂ (fun u v : EReal => u * v) (block3 m c t y1)
    (grads_at m c t y0 _ (by blk_simp [(places t).2.2.2.2.2.2.1.1]) y1)).trans (inner_at _ _ _ _ y1).symm)

/-- and the third holds the three sums. -/
theorem sums (c : Dev nD) : (dats m 0 c).arrAt 7 cfg0.N
    = Sums (V m c main_arg0) (Normal (Sum (V m c main_arg1) (V m c main_arg2) (V m c main_arg3)))
      (Grad (Sum (V m c main_arg1) (V m c main_arg2) (V m c main_arg3)) (Slope (V m c main_arg0) (V m c main_arg4))) (V m c main_arg2) := by
  refine (dats m 0 c).arrAt_eq_of_covers 7 _ (by decide +kernel) fun t hf y => ?_
  have last : t.val % 32 = 31 := (flush0_7 t).mp hf
  have e := fun i => Pipeline.eq_sum_fin_of_reset_step_apply_last (M := EReal) (N := cfg0.N) (fun n hn => (outsAt0 m c n hn).2.2) 32 (fun _ => 0)
    (term m c) (fun t h0 i => begins m c t h0 i) (fun t h0 i => goes_on m c t h0 i)
    (Nat.le_refl _) t (show t.val + 1 = 32 by have := t.isLt; change t.val < 32 at this; omega) i
  blk_simp [iblk]
  rw [after0_7]
  refine ((e _).trans (zero_add _)).trans ?_
  have w : (win0_7.blk t).view.emb y = y := by
    idx_vars y
    exact place _ _ _ (by blk_simp [(places t).2.2.2.2.2.2.2.1]) (by blk_simp [(places t).2.2.2.2.2.2.2.2])
  rw [w, sums_at]
  exact rows3_tiles _ _ _ _ (fun p => iblk m c 0 p) (fun p => norms m c p) (fun p => grads m c p) (fun p => iblk m c 2 p)
    (fun p r j => block0 m c p r _ rfl j) (fun p r j => norms_at m c p r _ rfl j) (fun p r j => grads_at m c p r _ rfl j)
    (fun p r j => block2 m c p r _ rfl j) y

/-- Kernel and reference end with the same three arrays of the same arguments. -/
theorem agree : Cert.algebraic_LnBwdIdeal_LnBwdRefIdeal := fun m ρ m' ρ' _ h =>
  ⟨_, _, _, Value.run_blocks (F := Ideal) m ρ,
    (θ_run Cert.LnBwdRefIdeal.defs _ _).mono (fun r k c => by
      obtain ⟨k0, k1, k2, kept⟩ := k c
      obtain ⟨h0, h1, h2, h3, h4⟩ := h c
      unfold Cert.LnBwdRefIdeal.Value.res_main_v38 at k0
      unfold Cert.LnBwdRefIdeal.Value.res_main_v50 at k1
      unfold Cert.LnBwdRefIdeal.Value.res_main_v52 at k2
      rw [h0, h1, h2, h3, h4] at k0 k1 k2
      have e0 := outer m c
      have e1 := inners m c
      have e2 := sums m c
      rw [V_main_arg0, V_main_arg1, V_main_arg2, V_main_arg3, V_main_arg4] at e0 e1 e2
      exact ⟨k0.trans e0.symm, k1.trans e1.symm, k2.trans e2.symm, kept⟩)
      (Cert.LnBwdRefIdeal.Value.run (F := Ideal) m' ρ')⟩

end Cert.Talk.LnBwd

end
-- ==== Proof.Talk.Diag.lean ====
/-
# The sums along the diagonals

Every grid point stores the sums of its eight matrices' columns; the array is the sums of all.
-/
module

public import proofs.«01_k».proof.Defs
public import proofs.«01_k».proof.Proof.Talk.Place
public import proofs.«01_k».proof.Proof.Gen.DiagIdeal.Value
public import proofs.«01_k».proof.Proof.Gen.DiagRefIdeal.Run
public import Idealize.ShloMosaic.Lib.Pipeline.ValueKit.Geometry
public import Idealize.ShloMosaic.Lib.Pipeline.ValueKit.Acc
public import Idealize.ShloMosaic.Lib.Pointwise

@[expose] public section

set_option Elab.async false

noncomputable section

namespace Cert.Talk.Diag

open Cert.DiagIdeal Cert.DiagIdeal.Gen Idealize.ShloMosaic Idealize.ShloMosaic.TcCoe Idealize.SL.Sem

variable (m : (ℓ : Loc nD τ sig) → Buf (Elt Ideal) ℓ)

/-- The sums as the reference states them. -/
def Sum (a : FVec Ideal S48x264x1024 .f32) : FVec Ideal S48x1024 .f32 :=
  Host.reduceAdd a (constant (F := Ideal) Cert.DiagRefIdeal.S_ .f32 0x00000000#32)
    Cert.DiagRefIdeal.Gen.facts.reducesTo_S48x264x1024_S48x1024_d1 Cert.DiagRefIdeal.Gen.facts.h_S_

/-- Where the blocks lie. -/
theorem places : ∀ t : Fin cfg0.N, win0_0.index t 0 = win0_1.index t 0 ∧ win0_0.index t 1 = 0 ∧ win0_0.index t 2 = 0 ∧ win0_1.index t 1 = 0 :=
  (by decide +kernel : ∀ t : Fin grid0.N, _)

/-- The array after the last point is the sums. -/
theorem whole (c : Dev nD) : (dats m 0 c).arrAt 1 cfg0.N = Sum (V m c main_arg0) := by
  refine (dats m 0 c).arrAt_eq_of_covers 1 _ (by decide +kernel) fun t hf y => ?_
  blk_simp [iblk]
  rw [after0_1]
  unfold Sum
  frame_out
  unfold k0_pay1
  idx_vars y
  pointwise
  have w0 : (((win0_1.blk t).view.emb (ix2 y0 y1) 0 : Fin 48) : ℕ) = win0_1.index t 0 * 8 + y0 := by blk_simp
  have w1 : (((win0_1.blk t).view.emb (ix2 y0 y1) 1 : Fin 1024) : ℕ) = y1 := by blk_simp [(places t).2.2.2]
  refine Finset.sum_congr (M := EReal) rfl fun k _ => congrArg (V m c main_arg0) (funext fun i => ?_)
  fin_cases i <;> apply Fin.ext
  · refine Eq.trans ?_ w0.symm
    blk_simp [(places t).1]
    rfl
  · blk_simp [(places t).2.1]
    rfl
  · refine Eq.trans ?_ w1.symm
    blk_simp [(places t).2.2.1]
    rfl

/-- Kernel and reference end with the same array of the same arguments. -/
theorem agree : Cert.algebraic_DiagIdeal_DiagRefIdeal := fun m ρ m' ρ' _ h =>
  ⟨_, Value.run_blocks (F := Ideal) m ρ,
    (θ_run Cert.DiagRefIdeal.defs _ _).mono (fun r k c => by
      obtain ⟨k0, kept⟩ := k c
      have h0 := h c
      rw [h0] at k0
      have e0 := whole m c
      rw [V_main_arg0] at e0
      exact ⟨k0.trans e0.symm, kept⟩)
      (Cert.DiagRefIdeal.Value.run (F := Ideal) m' ρ')⟩

end Cert.Talk.Diag

end
-- ==== Proof.Talk.Bins.lean ====
/-
# The sums by relative position

The call multiplies the diagonals' sums with the table of positions; over the extended reals that is the product.
-/
module

public import proofs.«01_k».proof.Defs
public import proofs.«01_k».proof.Proof.Talk.Place
public import proofs.«01_k».proof.Proof.Gen.BinsIdeal.Value
public import proofs.«01_k».proof.Proof.Gen.BinsRefIdeal.Run
public import Idealize.ShloMosaic.Lib.Pipeline.ValueKit.Geometry
public import Idealize.ShloMosaic.Lib.Pipeline.ValueKit.Acc
public import Idealize.ShloMosaic.Lib.Pointwise

@[expose] public section

set_option Elab.async false

noncomputable section

namespace Cert.Talk.Bins

open Cert.BinsIdeal Cert.BinsIdeal.Gen Idealize.ShloMosaic Idealize.ShloMosaic.TcCoe Idealize.SL.Sem

/-- The product is the reference's. -/
theorem same (a : Vec Ideal S16x3072 .f32) (b : Vec Ideal S3072x384 .f32) :
    (Host.dotGeneral (φ₁ := .f32) (φ₂ := .f32) Cert.BinsRefIdeal.dot_S16x3072_S3072x384_S16x384_1_0_0_1_n_n none a b : FVec Ideal S16x384 .f32)
    = Value.G2 (F := Ideal) a b := by
  funext j
  idx_vars j
  unfold Value.G2 k0_pay1
  pointwise

/-- Kernel and reference end with the same product of the same arguments. -/
theorem agree : Cert.algebraic_BinsIdeal_BinsRefIdeal := fun m ρ m' ρ' _ h =>
  ⟨_, Value.run (F := Ideal) m ρ,
    (θ_run Cert.BinsRefIdeal.defs _ _).mono (fun r k c => by
      obtain ⟨k, kept⟩ := k c
      rw [(h c).1, (h c).2] at k
      exact ⟨k.trans (same _ _), kept⟩)
      (Cert.BinsRefIdeal.Value.run (F := Ideal) m' ρ')⟩

end Cert.Talk.Bins

end
-- ==== Proof.lean ====
/-
# The claims about the exchanges of the training step

Each program's run is proved once, over any float values, in Proof/Talk; here it is read at each claim.
-/
module

public import proofs.«01_k».proof.Defs
public import proofs.«01_k».proof.Proof.Gen.Swap
public import proofs.«01_k».proof.Proof.Gen.Swap.Skeleton
public import proofs.«01_k».proof.Proof.Gen.Swap.Launch
public import proofs.«01_k».proof.Proof.Gen.Swap.Points
public import proofs.«01_k».proof.Proof.Gen.Swap.Frame
public import proofs.«01_k».proof.Proof.Gen.SwapIdeal
public import proofs.«01_k».proof.Proof.Gen.SwapIdeal.Skeleton
public import proofs.«01_k».proof.Proof.Gen.SwapIdeal.Launch
public import proofs.«01_k».proof.Proof.Gen.SwapIdeal.Points
public import proofs.«01_k».proof.Proof.Gen.SwapIdeal.Frame
public import proofs.«01_k».proof.Proof.Gen.SwapRefIdeal
public import proofs.«01_k».proof.Proof.Gen.SwapRef
public import proofs.«01_k».proof.Proof.Gen.SwapRef.Run
public import proofs.«01_k».proof.Proof.Gen.SwapRefIdeal.Run
public import proofs.«01_k».proof.Proof.Gen.Exchange
public import proofs.«01_k».proof.Proof.Gen.Exchange.Skeleton
public import proofs.«01_k».proof.Proof.Gen.Exchange.Launch
public import proofs.«01_k».proof.Proof.Gen.Exchange.Points
public import proofs.«01_k».proof.Proof.Gen.Exchange.Frame
public import proofs.«01_k».proof.Proof.Gen.ExchangeIdeal
public import proofs.«01_k».proof.Proof.Gen.ExchangeIdeal.Skeleton
public import proofs.«01_k».proof.Proof.Gen.ExchangeIdeal.Launch
public import proofs.«01_k».proof.Proof.Gen.ExchangeIdeal.Points
public import proofs.«01_k».proof.Proof.Gen.ExchangeIdeal.Frame
public import proofs.«01_k».proof.Proof.Gen.ExchangeRefIdeal
public import proofs.«01_k».proof.Proof.Gen.ExchangeRefIdeal.Run
public import proofs.«01_k».proof.Proof.Gen.ExchangeRef
public import proofs.«01_k».proof.Proof.Gen.ExchangeRef.Run
public import proofs.«01_k».proof.Proof.Gen.Join
public import proofs.«01_k».proof.Proof.Gen.Join.Skeleton
public import proofs.«01_k».proof.Proof.Gen.Join.Launch
public import proofs.«01_k».proof.Proof.Gen.Join.Points
public import proofs.«01_k».proof.Proof.Gen.Join.Frame
public import proofs.«01_k».proof.Proof.Gen.JoinIdeal
public import proofs.«01_k».proof.Proof.Gen.JoinIdeal.Skeleton
public import proofs.«01_k».proof.Proof.Gen.JoinIdeal.Launch
public import proofs.«01_k».proof.Proof.Gen.JoinIdeal.Points
public import proofs.«01_k».proof.Proof.Gen.JoinIdeal.Frame
public import proofs.«01_k».proof.Proof.Gen.JoinRefIdeal
public import proofs.«01_k».proof.Proof.Gen.JoinRefIdeal.Run
public import proofs.«01_k».proof.Proof.Gen.JoinRef
public import proofs.«01_k».proof.Proof.Gen.JoinRef.Run
public import proofs.«01_k».proof.Proof.Gen.Gather
public import proofs.«01_k».proof.Proof.Gen.Gather.Skeleton
public import proofs.«01_k».proof.Proof.Gen.Gather.Launch
public import proofs.«01_k».proof.Proof.Gen.Gather.Points
public import proofs.«01_k».proof.Proof.Gen.Gather.Frame
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherIdeal.Frame
public import proofs.«01_k».proof.Proof.Gen.GatherRefIdeal
public import proofs.«01_k».proof.Proof.Gen.GatherRefIdeal.Run
public import proofs.«01_k».proof.Proof.Gen.GatherRef
public import proofs.«01_k».proof.Proof.Gen.GatherRef.Run
public import proofs.«01_k».proof.Proof.Gen.SumGrads.Frame
public import proofs.«01_k».proof.Proof.Gen.SumGradsIdeal.Frame
public import proofs.«01_k».proof.Proof.Gen.SumGradsRefIdeal.Run
public import proofs.«01_k».proof.Proof.Gen.AdaBwd.Frame
public import proofs.«01_k».proof.Proof.Gen.AdaBwdIdeal.Frame
public import proofs.«01_k».proof.Proof.Gen.AdaBwdRefIdeal.Run
public import proofs.«01_k».proof.Proof.Gen.LossHead.Frame
public import proofs.«01_k».proof.Proof.Gen.LossHeadIdeal.Frame
public import proofs.«01_k».proof.Proof.Gen.LossHeadRefIdeal.Run
public import proofs.«01_k».proof.Proof.Gen.GradFfW2.Frame
public import proofs.«01_k».proof.Proof.Gen.GradFfW2Ideal.Frame
public import proofs.«01_k».proof.Proof.Gen.GradFfW2RefIdeal.Run
public import proofs.«01_k».proof.Proof.Gen.GradFfW1.Frame
public import proofs.«01_k».proof.Proof.Gen.GradFfW1Ideal.Frame
public import proofs.«01_k».proof.Proof.Gen.GradFfW1RefIdeal.Run
public import proofs.«01_k».proof.Proof.Gen.GradGlaWOut.Frame
public import proofs.«01_k».proof.Proof.Gen.GradGlaWOutIdeal.Frame
public import proofs.«01_k».proof.Proof.Gen.GradGlaWOutRefIdeal.Run
public import proofs.«01_k».proof.Proof.Gen.GradGlaWIn.Frame
public import proofs.«01_k».proof.Proof.Gen.GradGlaWInIdeal.Frame
public import proofs.«01_k».proof.Proof.Gen.GradGlaWInRefIdeal.Run
public import proofs.«01_k».proof.Proof.Gen.GradAttWIn.Frame
public import proofs.«01_k».proof.Proof.Gen.GradAttWInIdeal.Frame
public import proofs.«01_k».proof.Proof.Gen.GradAttWInRefIdeal.Run
public import proofs.«01_k».proof.Proof.Gen.DxGla.Frame
public import proofs.«01_k».proof.Proof.Gen.DxGlaIdeal.Frame
public import proofs.«01_k».proof.Proof.Gen.DxGlaRefIdeal.Run
public import proofs.«01_k».proof.Proof.Gen.DxAtt.Frame
public import proofs.«01_k».proof.Proof.Gen.DxAttIdeal.Frame
public import proofs.«01_k».proof.Proof.Gen.DxAttRefIdeal.Run
public import proofs.«01_k».proof.Proof.Gen.DxFf.Frame
public import proofs.«01_k».proof.Proof.Gen.DxFfIdeal.Frame
public import proofs.«01_k».proof.Proof.Gen.DxFfRefIdeal.Run
public import proofs.«01_k».proof.Proof.Gen.Silu.Frame
public import proofs.«01_k».proof.Proof.Gen.SiluIdeal.Frame
public import proofs.«01_k».proof.Proof.Gen.SiluRefIdeal.Run
public import proofs.«01_k».proof.Proof.Gen.Modulate.Frame
public import proofs.«01_k».proof.Proof.Gen.ModulateIdeal.Frame
public import proofs.«01_k».proof.Proof.Gen.ModulateRefIdeal.Run
public import proofs.«01_k».proof.Proof.Gen.ColSum.Frame
public import proofs.«01_k».proof.Proof.Gen.ColSumIdeal.Frame
public import proofs.«01_k».proof.Proof.Gen.ColSumRefIdeal.Run
public import proofs.«01_k».proof.Proof.Gen.AdaFwd.Frame
public import proofs.«01_k».proof.Proof.Gen.AdaFwdIdeal.Frame
public import proofs.«01_k».proof.Proof.Gen.AdaFwdRefIdeal.Run
public import proofs.«01_k».proof.Proof.Gen.GlaIn.Frame
public import proofs.«01_k».proof.Proof.Gen.GlaInIdeal.Frame
public import proofs.«01_k».proof.Proof.Gen.GlaInRefIdeal.Run
public import proofs.«01_k».proof.Proof.Gen.GlaDz.Frame
public import proofs.«01_k».proof.Proof.Gen.GlaDzIdeal.Frame
public import proofs.«01_k».proof.Proof.Gen.GlaDzRefIdeal.Run
public import proofs.«01_k».proof.Proof.Gen.AttIn.Frame
public import proofs.«01_k».proof.Proof.Gen.AttInIdeal.Frame
public import proofs.«01_k».proof.Proof.Gen.AttInRefIdeal.Run
public import proofs.«01_k».proof.Proof.Gen.FfUp.Frame
public import proofs.«01_k».proof.Proof.Gen.FfUpIdeal.Frame
public import proofs.«01_k».proof.Proof.Gen.FfUpRefIdeal.Run
public import proofs.«01_k».proof.Proof.Gen.FfDn.Frame
public import proofs.«01_k».proof.Proof.Gen.FfDnIdeal.Frame
public import proofs.«01_k».proof.Proof.Gen.FfDnRefIdeal.Run
public import proofs.«01_k».proof.Proof.Gen.MixOut.Frame
public import proofs.«01_k».proof.Proof.Gen.MixOutIdeal.Frame
public import proofs.«01_k».proof.Proof.Gen.MixOutRefIdeal.Run
public import proofs.«01_k».proof.Proof.Gen.FfOut.Frame
public import proofs.«01_k».proof.Proof.Gen.FfOutIdeal.Frame
public import proofs.«01_k».proof.Proof.Gen.FfOutRefIdeal.Run
public import proofs.«01_k».proof.Proof.Gen.LnBwd.Frame
public import proofs.«01_k».proof.Proof.Gen.LnBwdIdeal.Frame
public import proofs.«01_k».proof.Proof.Gen.LnBwdRefIdeal.Run
public import proofs.«01_k».proof.Proof.Gen.Diag.Frame
public import proofs.«01_k».proof.Proof.Gen.DiagIdeal.Frame
public import proofs.«01_k».proof.Proof.Gen.DiagRefIdeal.Run
public import proofs.«01_k».proof.Proof.Gen.Bins.Frame
public import proofs.«01_k».proof.Proof.Gen.BinsIdeal.Frame
public import proofs.«01_k».proof.Proof.Gen.BinsRefIdeal.Run
public import proofs.«01_k».proof.Proof.Talk.SwapValue
public import proofs.«01_k».proof.Proof.Talk.ExchangeValue
public import proofs.«01_k».proof.Proof.Talk.JoinValue
public import proofs.«01_k».proof.Proof.Talk.GatherValue
public import Idealize.ShloMosaic.Adequacy
public import Idealize.ShloMosaic.Init
public import proofs.«01_k».proof.Proof.Gen.AdamwWAda.Frame
public import proofs.«01_k».proof.Proof.Gen.AdamwWAdaIdeal.Frame
public import proofs.«01_k».proof.Proof.Gen.AdamwWAdaRefIdeal.Run
public import proofs.«01_k».proof.Proof.Gen.AdamwBAda.Frame
public import proofs.«01_k».proof.Proof.Gen.AdamwBAdaIdeal.Frame
public import proofs.«01_k».proof.Proof.Gen.AdamwBAdaRefIdeal.Run
public import proofs.«01_k».proof.Proof.Gen.AdamwLnG.Frame
public import proofs.«01_k».proof.Proof.Gen.AdamwLnGIdeal.Frame
public import proofs.«01_k».proof.Proof.Gen.AdamwLnGRefIdeal.Run
public import proofs.«01_k».proof.Proof.Gen.AdamwGlaWIn.Frame
public import proofs.«01_k».proof.Proof.Gen.AdamwGlaWInIdeal.Frame
public import proofs.«01_k».proof.Proof.Gen.AdamwGlaWInRefIdeal.Run
public import proofs.«01_k».proof.Proof.Gen.AdamwGlaWGk2.Frame
public import proofs.«01_k».proof.Proof.Gen.AdamwGlaWGk2Ideal.Frame
public import proofs.«01_k».proof.Proof.Gen.AdamwGlaWGk2RefIdeal.Run
public import proofs.«01_k».proof.Proof.Gen.AdamwGlaBGk.Frame
public import proofs.«01_k».proof.Proof.Gen.AdamwGlaBGkIdeal.Frame
public import proofs.«01_k».proof.Proof.Gen.AdamwGlaBGkRefIdeal.Run
public import proofs.«01_k».proof.Proof.Gen.AdamwGlaGNorm.Frame
public import proofs.«01_k».proof.Proof.Gen.AdamwGlaGNormIdeal.Frame
public import proofs.«01_k».proof.Proof.Gen.AdamwGlaGNormRefIdeal.Run
public import proofs.«01_k».proof.Proof.Gen.AdamwGlaWOut.Frame
public import proofs.«01_k».proof.Proof.Gen.AdamwGlaWOutIdeal.Frame
public import proofs.«01_k».proof.Proof.Gen.AdamwGlaWOutRefIdeal.Run
public import proofs.«01_k».proof.Proof.Gen.AdamwAttWIn.Frame
public import proofs.«01_k».proof.Proof.Gen.AdamwAttWInIdeal.Frame
public import proofs.«01_k».proof.Proof.Gen.AdamwAttWInRefIdeal.Run
public import proofs.«01_k».proof.Proof.Gen.AdamwAttBIn.Frame
public import proofs.«01_k».proof.Proof.Gen.AdamwAttBInIdeal.Frame
public import proofs.«01_k».proof.Proof.Gen.AdamwAttBInRefIdeal.Run
public import proofs.«01_k».proof.Proof.Gen.AdamwAttRelBias.Frame
public import proofs.«01_k».proof.Proof.Gen.AdamwAttRelBiasIdeal.Frame
public import proofs.«01_k».proof.Proof.Gen.AdamwAttRelBiasRefIdeal.Run
public import proofs.«01_k».proof.Proof.Gen.AdamwFfW1.Frame
public import proofs.«01_k».proof.Proof.Gen.AdamwFfW1Ideal.Frame
public import proofs.«01_k».proof.Proof.Gen.AdamwFfW1RefIdeal.Run
public import proofs.«01_k».proof.Proof.Talk.StepWAda
public import proofs.«01_k».proof.Proof.Talk.StepBAda
public import proofs.«01_k».proof.Proof.Talk.StepLnG
public import proofs.«01_k».proof.Proof.Talk.StepGlaWIn
public import proofs.«01_k».proof.Proof.Talk.StepGlaWGk2
public import proofs.«01_k».proof.Proof.Talk.StepGlaBGk
public import proofs.«01_k».proof.Proof.Talk.StepGlaGNorm
public import proofs.«01_k».proof.Proof.Talk.StepGlaWOut
public import proofs.«01_k».proof.Proof.Talk.StepAttWIn
public import proofs.«01_k».proof.Proof.Talk.StepAttBIn
public import proofs.«01_k».proof.Proof.Talk.StepAttRelBias
public import proofs.«01_k».proof.Proof.Talk.StepFfW1
public import proofs.«01_k».proof.Proof.Talk.SumGrads
public import proofs.«01_k».proof.Proof.Talk.AdaBwd
public import proofs.«01_k».proof.Proof.Talk.LossHead
public import proofs.«01_k».proof.Proof.Talk.GradFfW2
public import proofs.«01_k».proof.Proof.Talk.GradFfW1
public import proofs.«01_k».proof.Proof.Talk.GradGlaWOut
public import proofs.«01_k».proof.Proof.Talk.GradGlaWIn
public import proofs.«01_k».proof.Proof.Talk.GradAttWIn
public import proofs.«01_k».proof.Proof.Talk.DxGla
public import proofs.«01_k».proof.Proof.Talk.DxAtt
public import proofs.«01_k».proof.Proof.Talk.DxFf
public import proofs.«01_k».proof.Proof.Talk.Silu
public import proofs.«01_k».proof.Proof.Talk.Modulate
public import proofs.«01_k».proof.Proof.Talk.ColSum
public import proofs.«01_k».proof.Proof.Talk.AdaFwd
public import proofs.«01_k».proof.Proof.Talk.GlaIn
public import proofs.«01_k».proof.Proof.Talk.GlaDz
public import proofs.«01_k».proof.Proof.Talk.AttIn
public import proofs.«01_k».proof.Proof.Talk.FfUp
public import proofs.«01_k».proof.Proof.Talk.FfDn
public import proofs.«01_k».proof.Proof.Talk.MixOut
public import proofs.«01_k».proof.Proof.Talk.FfOut
public import proofs.«01_k».proof.Proof.Talk.LnBwd
public import proofs.«01_k».proof.Proof.Talk.Diag
public import proofs.«01_k».proof.Proof.Talk.Bins

@[expose] public section

noncomputable section

namespace Cert.Proof

open Idealize.ShloMosaic Idealize.SL.Sem Cert.Swap

theorem frame_swap : Cert.quiescent_Swap := fun m ρ _ =>
  (θ_run Cert.SwapIdeal.defs _ _).mono (fun _ h => ⟨fun c => (h.1 c).2, h.2⟩) (Cert.Talk.Swap.run_main (F := Bits) m ρ)
theorem frame_swapIdeal : Cert.quiescent_SwapIdeal := fun m ρ _ =>
  (θ_run Cert.SwapIdeal.defs _ _).mono (fun _ h => ⟨fun c => (h.1 c).2, h.2⟩) (Cert.Talk.Swap.run_main (F := Ideal) m ρ)
theorem frame_swapRef : Cert.quiescent_SwapRef := fun m ρ _ =>
  (θ_run Cert.SwapRef.defs _ _).mono (fun r h => ⟨fun c => (h c).2, sem_eq_zero_of_no_sems (by decide) r.2⟩) (Cert.SwapRef.Value.run (F := Bits) m ρ)
theorem frame_swapRefIdeal : Cert.quiescent_SwapRefIdeal := fun m ρ _ =>
  (θ_run Cert.SwapRefIdeal.defs _ _).mono (fun r h => ⟨fun c => (h c).2, sem_eq_zero_of_no_sems (by decide) r.2⟩) (Cert.SwapRefIdeal.Value.run (F := Ideal) m ρ)
theorem algebraic_swap : Cert.algebraic_SwapIdeal_SwapRefIdeal := fun m g m' g' _ h => Cert.Talk.Swap.agree (F := Ideal) m g m' g' h
theorem bitexact_swap : Cert.bitexact_Swap_SwapRef := fun m g m' g' _ h => Cert.Talk.Swap.agree (F := Bits) m g m' g' h

theorem frame_exchange : Cert.quiescent_Exchange := fun m ρ _ =>
  (θ_run Cert.ExchangeIdeal.defs _ _).mono (fun _ h => ⟨fun c => (h.1 c).2, h.2⟩) (Cert.Talk.Exchange.run_main (F := Bits) m ρ)
theorem frame_exchangeIdeal : Cert.quiescent_ExchangeIdeal := fun m ρ _ =>
  (θ_run Cert.ExchangeIdeal.defs _ _).mono (fun _ h => ⟨fun c => (h.1 c).2, h.2⟩) (Cert.Talk.Exchange.run_main (F := Ideal) m ρ)
theorem frame_exchangeRef : Cert.quiescent_ExchangeRef := fun m ρ _ =>
  (θ_run Cert.ExchangeRef.defs _ _).mono (fun r h => ⟨fun c => (h c).2, sem_eq_zero_of_no_sems (by decide) r.2⟩) (Cert.ExchangeRef.Value.run (F := Bits) m ρ)
theorem frame_exchangeRefIdeal : Cert.quiescent_ExchangeRefIdeal := fun m ρ _ =>
  (θ_run Cert.ExchangeRefIdeal.defs _ _).mono (fun r h => ⟨fun c => (h c).2, sem_eq_zero_of_no_sems (by decide) r.2⟩) (Cert.ExchangeRefIdeal.Value.run (F := Ideal) m ρ)
theorem algebraic_exchange : Cert.algebraic_ExchangeIdeal_ExchangeRefIdeal := fun m g m' g' _ h => Cert.Talk.Exchange.agree (F := Ideal) m g m' g' h
theorem bitexact_exchange : Cert.bitexact_Exchange_ExchangeRef := fun m g m' g' _ h => Cert.Talk.Exchange.agree (F := Bits) m g m' g' h

theorem frame_join : Cert.quiescent_Join := fun m ρ _ =>
  (θ_run Cert.JoinIdeal.defs _ _).mono (fun _ h => ⟨fun c => (h.1 c).2, h.2⟩) (Cert.Talk.Join.run_main (F := Bits) m ρ)
theorem frame_joinIdeal : Cert.quiescent_JoinIdeal := fun m ρ _ =>
  (θ_run Cert.JoinIdeal.defs _ _).mono (fun _ h => ⟨fun c => (h.1 c).2, h.2⟩) (Cert.Talk.Join.run_main (F := Ideal) m ρ)
theorem frame_joinRef : Cert.quiescent_JoinRef := fun m ρ _ =>
  (θ_run Cert.JoinRef.defs _ _).mono (fun r h => ⟨fun c => (h c).2, sem_eq_zero_of_no_sems (by decide) r.2⟩) (Cert.JoinRef.Value.run (F := Bits) m ρ)
theorem frame_joinRefIdeal : Cert.quiescent_JoinRefIdeal := fun m ρ _ =>
  (θ_run Cert.JoinRefIdeal.defs _ _).mono (fun r h => ⟨fun c => (h c).2, sem_eq_zero_of_no_sems (by decide) r.2⟩) (Cert.JoinRefIdeal.Value.run (F := Ideal) m ρ)
theorem algebraic_join : Cert.algebraic_JoinIdeal_JoinRefIdeal := fun m g m' g' _ h => Cert.Talk.Join.agree (F := Ideal) m g m' g' h
theorem bitexact_join : Cert.bitexact_Join_JoinRef := fun m g m' g' _ h => Cert.Talk.Join.agree (F := Bits) m g m' g' h

theorem frame_gather : Cert.quiescent_Gather := fun m ρ _ =>
  (θ_run Cert.GatherIdeal.defs _ _).mono (fun _ h => ⟨fun c => (h.1 c).2, h.2⟩) (Cert.Talk.Gather.run_main (F := Bits) m ρ)
theorem frame_gatherIdeal : Cert.quiescent_GatherIdeal := fun m ρ _ =>
  (θ_run Cert.GatherIdeal.defs _ _).mono (fun _ h => ⟨fun c => (h.1 c).2, h.2⟩) (Cert.Talk.Gather.run_main (F := Ideal) m ρ)
theorem frame_gatherRef : Cert.quiescent_GatherRef := fun m ρ _ =>
  (θ_run Cert.GatherRef.defs _ _).mono (fun r h => ⟨fun c => (h c).2, sem_eq_zero_of_no_sems (by decide) r.2⟩) (Cert.GatherRef.Value.run (F := Bits) m ρ)
theorem frame_gatherRefIdeal : Cert.quiescent_GatherRefIdeal := fun m ρ _ =>
  (θ_run Cert.GatherRefIdeal.defs _ _).mono (fun r h => ⟨fun c => (h c).2, sem_eq_zero_of_no_sems (by decide) r.2⟩) (Cert.GatherRefIdeal.Value.run (F := Ideal) m ρ)
theorem algebraic_gather : Cert.algebraic_GatherIdeal_GatherRefIdeal := fun m g m' g' _ h => Cert.Talk.Gather.agree (F := Ideal) m g m' g' h
theorem bitexact_gather : Cert.bitexact_Gather_GatherRef := fun m g m' g' _ h => Cert.Talk.Gather.agree (F := Bits) m g m' g' h

theorem frame_wAda : Cert.quiescent_AdamwWAda := fun m ρ _ => Cert.AdamwWAda.Gen.frame m ρ
theorem frame_wAdaIdeal : Cert.quiescent_AdamwWAdaIdeal := fun m ρ _ => Cert.AdamwWAdaIdeal.Gen.frame m ρ
theorem frame_wAdaRefIdeal : Cert.quiescent_AdamwWAdaRefIdeal := fun m ρ _ =>
  (θ_run Cert.AdamwWAdaRefIdeal.defs _ _).mono (fun r h => ⟨fun c => (h c).2.2.2, sem_eq_zero_of_no_sems (by decide) r.2⟩) (Cert.AdamwWAdaRefIdeal.Value.run (F := Ideal) m ρ)

theorem frame_bAda : Cert.quiescent_AdamwBAda := fun m ρ _ => Cert.AdamwBAda.Gen.frame m ρ
theorem frame_bAdaIdeal : Cert.quiescent_AdamwBAdaIdeal := fun m ρ _ => Cert.AdamwBAdaIdeal.Gen.frame m ρ
theorem frame_bAdaRefIdeal : Cert.quiescent_AdamwBAdaRefIdeal := fun m ρ _ =>
  (θ_run Cert.AdamwBAdaRefIdeal.defs _ _).mono (fun r h => ⟨fun c => (h c).2.2.2, sem_eq_zero_of_no_sems (by decide) r.2⟩) (Cert.AdamwBAdaRefIdeal.Value.run (F := Ideal) m ρ)

theorem frame_lnG : Cert.quiescent_AdamwLnG := fun m ρ _ => Cert.AdamwLnG.Gen.frame m ρ
theorem frame_lnGIdeal : Cert.quiescent_AdamwLnGIdeal := fun m ρ _ => Cert.AdamwLnGIdeal.Gen.frame m ρ
theorem frame_lnGRefIdeal : Cert.quiescent_AdamwLnGRefIdeal := fun m ρ _ =>
  (θ_run Cert.AdamwLnGRefIdeal.defs _ _).mono (fun r h => ⟨fun c => (h c).2.2.2, sem_eq_zero_of_no_sems (by decide) r.2⟩) (Cert.AdamwLnGRefIdeal.Value.run (F := Ideal) m ρ)

theorem frame_glaWIn : Cert.quiescent_AdamwGlaWIn := fun m ρ _ => Cert.AdamwGlaWIn.Gen.frame m ρ
theorem frame_glaWInIdeal : Cert.quiescent_AdamwGlaWInIdeal := fun m ρ _ => Cert.AdamwGlaWInIdeal.Gen.frame m ρ
theorem frame_glaWInRefIdeal : Cert.quiescent_AdamwGlaWInRefIdeal := fun m ρ _ =>
  (θ_run Cert.AdamwGlaWInRefIdeal.defs _ _).mono (fun r h => ⟨fun c => (h c).2.2.2, sem_eq_zero_of_no_sems (by decide) r.2⟩) (Cert.AdamwGlaWInRefIdeal.Value.run (F := Ideal) m ρ)

theorem frame_glaWGk2 : Cert.quiescent_AdamwGlaWGk2 := fun m ρ _ => Cert.AdamwGlaWGk2.Gen.frame m ρ
theorem frame_glaWGk2Ideal : Cert.quiescent_AdamwGlaWGk2Ideal := fun m ρ _ => Cert.AdamwGlaWGk2Ideal.Gen.frame m ρ
theorem frame_glaWGk2RefIdeal : Cert.quiescent_AdamwGlaWGk2RefIdeal := fun m ρ _ =>
  (θ_run Cert.AdamwGlaWGk2RefIdeal.defs _ _).mono (fun r h => ⟨fun c => (h c).2.2.2, sem_eq_zero_of_no_sems (by decide) r.2⟩) (Cert.AdamwGlaWGk2RefIdeal.Value.run (F := Ideal) m ρ)

theorem frame_glaBGk : Cert.quiescent_AdamwGlaBGk := fun m ρ _ => Cert.AdamwGlaBGk.Gen.frame m ρ
theorem frame_glaBGkIdeal : Cert.quiescent_AdamwGlaBGkIdeal := fun m ρ _ => Cert.AdamwGlaBGkIdeal.Gen.frame m ρ
theorem frame_glaBGkRefIdeal : Cert.quiescent_AdamwGlaBGkRefIdeal := fun m ρ _ =>
  (θ_run Cert.AdamwGlaBGkRefIdeal.defs _ _).mono (fun r h => ⟨fun c => (h c).2.2.2, sem_eq_zero_of_no_sems (by decide) r.2⟩) (Cert.AdamwGlaBGkRefIdeal.Value.run (F := Ideal) m ρ)

theorem frame_glaGNorm : Cert.quiescent_AdamwGlaGNorm := fun m ρ _ => Cert.AdamwGlaGNorm.Gen.frame m ρ
theorem frame_glaGNormIdeal : Cert.quiescent_AdamwGlaGNormIdeal := fun m ρ _ => Cert.AdamwGlaGNormIdeal.Gen.frame m ρ
theorem frame_glaGNormRefIdeal : Cert.quiescent_AdamwGlaGNormRefIdeal := fun m ρ _ =>
  (θ_run Cert.AdamwGlaGNormRefIdeal.defs _ _).mono (fun r h => ⟨fun c => (h c).2.2.2, sem_eq_zero_of_no_sems (by decide) r.2⟩) (Cert.AdamwGlaGNormRefIdeal.Value.run (F := Ideal) m ρ)

theorem frame_glaWOut : Cert.quiescent_AdamwGlaWOut := fun m ρ _ => Cert.AdamwGlaWOut.Gen.frame m ρ
theorem frame_glaWOutIdeal : Cert.quiescent_AdamwGlaWOutIdeal := fun m ρ _ => Cert.AdamwGlaWOutIdeal.Gen.frame m ρ
theorem frame_glaWOutRefIdeal : Cert.quiescent_AdamwGlaWOutRefIdeal := fun m ρ _ =>
  (θ_run Cert.AdamwGlaWOutRefIdeal.defs _ _).mono (fun r h => ⟨fun c => (h c).2.2.2, sem_eq_zero_of_no_sems (by decide) r.2⟩) (Cert.AdamwGlaWOutRefIdeal.Value.run (F := Ideal) m ρ)

theorem frame_attWIn : Cert.quiescent_AdamwAttWIn := fun m ρ _ => Cert.AdamwAttWIn.Gen.frame m ρ
theorem frame_attWInIdeal : Cert.quiescent_AdamwAttWInIdeal := fun m ρ _ => Cert.AdamwAttWInIdeal.Gen.frame m ρ
theorem frame_attWInRefIdeal : Cert.quiescent_AdamwAttWInRefIdeal := fun m ρ _ =>
  (θ_run Cert.AdamwAttWInRefIdeal.defs _ _).mono (fun r h => ⟨fun c => (h c).2.2.2, sem_eq_zero_of_no_sems (by decide) r.2⟩) (Cert.AdamwAttWInRefIdeal.Value.run (F := Ideal) m ρ)

theorem frame_attBIn : Cert.quiescent_AdamwAttBIn := fun m ρ _ => Cert.AdamwAttBIn.Gen.frame m ρ
theorem frame_attBInIdeal : Cert.quiescent_AdamwAttBInIdeal := fun m ρ _ => Cert.AdamwAttBInIdeal.Gen.frame m ρ
theorem frame_attBInRefIdeal : Cert.quiescent_AdamwAttBInRefIdeal := fun m ρ _ =>
  (θ_run Cert.AdamwAttBInRefIdeal.defs _ _).mono (fun r h => ⟨fun c => (h c).2.2.2, sem_eq_zero_of_no_sems (by decide) r.2⟩) (Cert.AdamwAttBInRefIdeal.Value.run (F := Ideal) m ρ)

theorem frame_attRelBias : Cert.quiescent_AdamwAttRelBias := fun m ρ _ => Cert.AdamwAttRelBias.Gen.frame m ρ
theorem frame_attRelBiasIdeal : Cert.quiescent_AdamwAttRelBiasIdeal := fun m ρ _ => Cert.AdamwAttRelBiasIdeal.Gen.frame m ρ
theorem frame_attRelBiasRefIdeal : Cert.quiescent_AdamwAttRelBiasRefIdeal := fun m ρ _ =>
  (θ_run Cert.AdamwAttRelBiasRefIdeal.defs _ _).mono (fun r h => ⟨fun c => (h c).2.2.2, sem_eq_zero_of_no_sems (by decide) r.2⟩) (Cert.AdamwAttRelBiasRefIdeal.Value.run (F := Ideal) m ρ)

theorem frame_ffW1 : Cert.quiescent_AdamwFfW1 := fun m ρ _ => Cert.AdamwFfW1.Gen.frame m ρ
theorem frame_ffW1Ideal : Cert.quiescent_AdamwFfW1Ideal := fun m ρ _ => Cert.AdamwFfW1Ideal.Gen.frame m ρ
theorem frame_ffW1RefIdeal : Cert.quiescent_AdamwFfW1RefIdeal := fun m ρ _ =>
  (θ_run Cert.AdamwFfW1RefIdeal.defs _ _).mono (fun r h => ⟨fun c => (h c).2.2.2, sem_eq_zero_of_no_sems (by decide) r.2⟩) (Cert.AdamwFfW1RefIdeal.Value.run (F := Ideal) m ρ)
theorem frame_sumGrads : Cert.quiescent_SumGrads := fun m ρ _ => Cert.SumGrads.Gen.frame m ρ
theorem frame_sumGradsIdeal : Cert.quiescent_SumGradsIdeal := fun m ρ _ => Cert.SumGradsIdeal.Gen.frame m ρ
theorem frame_sumGradsRefIdeal : Cert.quiescent_SumGradsRefIdeal := fun m ρ _ =>
  (θ_run Cert.SumGradsRefIdeal.defs _ _).mono (fun r h => ⟨fun c => (h c).2, sem_eq_zero_of_no_sems (by decide) r.2⟩) (Cert.SumGradsRefIdeal.Value.run (F := Ideal) m ρ)
theorem frame_adaBwd : Cert.quiescent_AdaBwd := fun m ρ _ => Cert.AdaBwd.Gen.frame m ρ
theorem frame_adaBwdIdeal : Cert.quiescent_AdaBwdIdeal := fun m ρ _ => Cert.AdaBwdIdeal.Gen.frame m ρ
theorem frame_adaBwdRefIdeal : Cert.quiescent_AdaBwdRefIdeal := fun m ρ _ =>
  (θ_run Cert.AdaBwdRefIdeal.defs _ _).mono (fun r h => ⟨fun c => (h c).2, sem_eq_zero_of_no_sems (by decide) r.2⟩) (Cert.AdaBwdRefIdeal.Value.run (F := Ideal) m ρ)
theorem frame_lossHead : Cert.quiescent_LossHead := fun m ρ _ => Cert.LossHead.Gen.frame m ρ
theorem frame_lossHeadIdeal : Cert.quiescent_LossHeadIdeal := fun m ρ _ => Cert.LossHeadIdeal.Gen.frame m ρ
theorem frame_lossHeadRefIdeal : Cert.quiescent_LossHeadRefIdeal := fun m ρ _ =>
  (θ_run Cert.LossHeadRefIdeal.defs _ _).mono (fun r h => ⟨fun c => (h c).2.2, sem_eq_zero_of_no_sems (by decide) r.2⟩) (Cert.LossHeadRefIdeal.Value.run (F := Ideal) m ρ)
theorem frame_gradFfW2 : Cert.quiescent_GradFfW2 := fun m ρ _ => Cert.GradFfW2.Gen.frame m ρ
theorem frame_gradFfW2Ideal : Cert.quiescent_GradFfW2Ideal := fun m ρ _ => Cert.GradFfW2Ideal.Gen.frame m ρ
theorem frame_gradFfW2RefIdeal : Cert.quiescent_GradFfW2RefIdeal := fun m ρ _ =>
  (θ_run Cert.GradFfW2RefIdeal.defs _ _).mono (fun r h => ⟨fun c => (h c).2, sem_eq_zero_of_no_sems (by decide) r.2⟩) (Cert.GradFfW2RefIdeal.Value.run (F := Ideal) m ρ)
theorem frame_gradFfW1 : Cert.quiescent_GradFfW1 := fun m ρ _ => Cert.GradFfW1.Gen.frame m ρ
theorem frame_gradFfW1Ideal : Cert.quiescent_GradFfW1Ideal := fun m ρ _ => Cert.GradFfW1Ideal.Gen.frame m ρ
theorem frame_gradFfW1RefIdeal : Cert.quiescent_GradFfW1RefIdeal := fun m ρ _ =>
  (θ_run Cert.GradFfW1RefIdeal.defs _ _).mono (fun r h => ⟨fun c => (h c).2, sem_eq_zero_of_no_sems (by decide) r.2⟩) (Cert.GradFfW1RefIdeal.Value.run (F := Ideal) m ρ)
theorem frame_gradGlaWOut : Cert.quiescent_GradGlaWOut := fun m ρ _ => Cert.GradGlaWOut.Gen.frame m ρ
theorem frame_gradGlaWOutIdeal : Cert.quiescent_GradGlaWOutIdeal := fun m ρ _ => Cert.GradGlaWOutIdeal.Gen.frame m ρ
theorem frame_gradGlaWOutRefIdeal : Cert.quiescent_GradGlaWOutRefIdeal := fun m ρ _ =>
  (θ_run Cert.GradGlaWOutRefIdeal.defs _ _).mono (fun r h => ⟨fun c => (h c).2, sem_eq_zero_of_no_sems (by decide) r.2⟩) (Cert.GradGlaWOutRefIdeal.Value.run (F := Ideal) m ρ)
theorem frame_gradGlaWIn : Cert.quiescent_GradGlaWIn := fun m ρ _ => Cert.GradGlaWIn.Gen.frame m ρ
theorem frame_gradGlaWInIdeal : Cert.quiescent_GradGlaWInIdeal := fun m ρ _ => Cert.GradGlaWInIdeal.Gen.frame m ρ
theorem frame_gradGlaWInRefIdeal : Cert.quiescent_GradGlaWInRefIdeal := fun m ρ _ =>
  (θ_run Cert.GradGlaWInRefIdeal.defs _ _).mono (fun r h => ⟨fun c => (h c).2, sem_eq_zero_of_no_sems (by decide) r.2⟩) (Cert.GradGlaWInRefIdeal.Value.run (F := Ideal) m ρ)
theorem frame_gradAttWIn : Cert.quiescent_GradAttWIn := fun m ρ _ => Cert.GradAttWIn.Gen.frame m ρ
theorem frame_gradAttWInIdeal : Cert.quiescent_GradAttWInIdeal := fun m ρ _ => Cert.GradAttWInIdeal.Gen.frame m ρ
theorem frame_gradAttWInRefIdeal : Cert.quiescent_GradAttWInRefIdeal := fun m ρ _ =>
  (θ_run Cert.GradAttWInRefIdeal.defs _ _).mono (fun r h => ⟨fun c => (h c).2, sem_eq_zero_of_no_sems (by decide) r.2⟩) (Cert.GradAttWInRefIdeal.Value.run (F := Ideal) m ρ)
theorem frame_dxGla : Cert.quiescent_DxGla := fun m ρ _ => Cert.DxGla.Gen.frame m ρ
theorem frame_dxGlaIdeal : Cert.quiescent_DxGlaIdeal := fun m ρ _ => Cert.DxGlaIdeal.Gen.frame m ρ
theorem frame_dxGlaRefIdeal : Cert.quiescent_DxGlaRefIdeal := fun m ρ _ =>
  (θ_run Cert.DxGlaRefIdeal.defs _ _).mono (fun r h => ⟨fun c => (h c).2.2, sem_eq_zero_of_no_sems (by decide) r.2⟩) (Cert.DxGlaRefIdeal.Value.run (F := Ideal) m ρ)
theorem frame_dxAtt : Cert.quiescent_DxAtt := fun m ρ _ => Cert.DxAtt.Gen.frame m ρ
theorem frame_dxAttIdeal : Cert.quiescent_DxAttIdeal := fun m ρ _ => Cert.DxAttIdeal.Gen.frame m ρ
theorem frame_dxAttRefIdeal : Cert.quiescent_DxAttRefIdeal := fun m ρ _ =>
  (θ_run Cert.DxAttRefIdeal.defs _ _).mono (fun r h => ⟨fun c => (h c).2.2, sem_eq_zero_of_no_sems (by decide) r.2⟩) (Cert.DxAttRefIdeal.Value.run (F := Ideal) m ρ)
theorem frame_dxFf : Cert.quiescent_DxFf := fun m ρ _ => Cert.DxFf.Gen.frame m ρ
theorem frame_dxFfIdeal : Cert.quiescent_DxFfIdeal := fun m ρ _ => Cert.DxFfIdeal.Gen.frame m ρ
theorem frame_dxFfRefIdeal : Cert.quiescent_DxFfRefIdeal := fun m ρ _ =>
  (θ_run Cert.DxFfRefIdeal.defs _ _).mono (fun r h => ⟨fun c => (h c).2.2, sem_eq_zero_of_no_sems (by decide) r.2⟩) (Cert.DxFfRefIdeal.Value.run (F := Ideal) m ρ)
theorem frame_silu : Cert.quiescent_Silu := fun m ρ _ => Cert.Silu.Gen.frame m ρ
theorem frame_siluIdeal : Cert.quiescent_SiluIdeal := fun m ρ _ => Cert.SiluIdeal.Gen.frame m ρ
theorem frame_siluRefIdeal : Cert.quiescent_SiluRefIdeal := fun m ρ _ =>
  (θ_run Cert.SiluRefIdeal.defs _ _).mono (fun r h => ⟨fun c => (h c).2, sem_eq_zero_of_no_sems (by decide) r.2⟩) (Cert.SiluRefIdeal.Value.run (F := Ideal) m ρ)
theorem frame_modulate : Cert.quiescent_Modulate := fun m ρ _ => Cert.Modulate.Gen.frame m ρ
theorem frame_modulateIdeal : Cert.quiescent_ModulateIdeal := fun m ρ _ => Cert.ModulateIdeal.Gen.frame m ρ
theorem frame_modulateRefIdeal : Cert.quiescent_ModulateRefIdeal := fun m ρ _ =>
  (θ_run Cert.ModulateRefIdeal.defs _ _).mono (fun r h => ⟨fun c => (h c).2, sem_eq_zero_of_no_sems (by decide) r.2⟩) (Cert.ModulateRefIdeal.Value.run (F := Ideal) m ρ)
theorem frame_colSum : Cert.quiescent_ColSum := fun m ρ _ => Cert.ColSum.Gen.frame m ρ
theorem frame_colSumIdeal : Cert.quiescent_ColSumIdeal := fun m ρ _ => Cert.ColSumIdeal.Gen.frame m ρ
theorem frame_colSumRefIdeal : Cert.quiescent_ColSumRefIdeal := fun m ρ _ =>
  (θ_run Cert.ColSumRefIdeal.defs _ _).mono (fun r h => ⟨fun c => (h c).2, sem_eq_zero_of_no_sems (by decide) r.2⟩) (Cert.ColSumRefIdeal.Value.run (F := Ideal) m ρ)
theorem frame_adaFwd : Cert.quiescent_AdaFwd := fun m ρ _ => Cert.AdaFwd.Gen.frame m ρ
theorem frame_adaFwdIdeal : Cert.quiescent_AdaFwdIdeal := fun m ρ _ => Cert.AdaFwdIdeal.Gen.frame m ρ
theorem frame_adaFwdRefIdeal : Cert.quiescent_AdaFwdRefIdeal := fun m ρ _ =>
  (θ_run Cert.AdaFwdRefIdeal.defs _ _).mono (fun r h => ⟨fun c => (h c).2, sem_eq_zero_of_no_sems (by decide) r.2⟩) (Cert.AdaFwdRefIdeal.Value.run (F := Ideal) m ρ)
theorem frame_glaIn : Cert.quiescent_GlaIn := fun m ρ _ => Cert.GlaIn.Gen.frame m ρ
theorem frame_glaInIdeal : Cert.quiescent_GlaInIdeal := fun m ρ _ => Cert.GlaInIdeal.Gen.frame m ρ
theorem frame_glaInRefIdeal : Cert.quiescent_GlaInRefIdeal := fun m ρ _ =>
  (θ_run Cert.GlaInRefIdeal.defs _ _).mono (fun r h => ⟨fun c => (h c).2, sem_eq_zero_of_no_sems (by decide) r.2⟩) (Cert.GlaInRefIdeal.Value.run (F := Ideal) m ρ)
theorem frame_glaDz : Cert.quiescent_GlaDz := fun m ρ _ => Cert.GlaDz.Gen.frame m ρ
theorem frame_glaDzIdeal : Cert.quiescent_GlaDzIdeal := fun m ρ _ => Cert.GlaDzIdeal.Gen.frame m ρ
theorem frame_glaDzRefIdeal : Cert.quiescent_GlaDzRefIdeal := fun m ρ _ =>
  (θ_run Cert.GlaDzRefIdeal.defs _ _).mono (fun r h => ⟨fun c => (h c).2, sem_eq_zero_of_no_sems (by decide) r.2⟩) (Cert.GlaDzRefIdeal.Value.run (F := Ideal) m ρ)
theorem frame_attIn : Cert.quiescent_AttIn := fun m ρ _ => Cert.AttIn.Gen.frame m ρ
theorem frame_attInIdeal : Cert.quiescent_AttInIdeal := fun m ρ _ => Cert.AttInIdeal.Gen.frame m ρ
theorem frame_attInRefIdeal : Cert.quiescent_AttInRefIdeal := fun m ρ _ =>
  (θ_run Cert.AttInRefIdeal.defs _ _).mono (fun r h => ⟨fun c => (h c).2, sem_eq_zero_of_no_sems (by decide) r.2⟩) (Cert.AttInRefIdeal.Value.run (F := Ideal) m ρ)
theorem frame_ffUp : Cert.quiescent_FfUp := fun m ρ _ => Cert.FfUp.Gen.frame m ρ
theorem frame_ffUpIdeal : Cert.quiescent_FfUpIdeal := fun m ρ _ => Cert.FfUpIdeal.Gen.frame m ρ
theorem frame_ffUpRefIdeal : Cert.quiescent_FfUpRefIdeal := fun m ρ _ =>
  (θ_run Cert.FfUpRefIdeal.defs _ _).mono (fun r h => ⟨fun c => (h c).2.2, sem_eq_zero_of_no_sems (by decide) r.2⟩) (Cert.FfUpRefIdeal.Value.run (F := Ideal) m ρ)
theorem frame_ffDn : Cert.quiescent_FfDn := fun m ρ _ => Cert.FfDn.Gen.frame m ρ
theorem frame_ffDnIdeal : Cert.quiescent_FfDnIdeal := fun m ρ _ => Cert.FfDnIdeal.Gen.frame m ρ
theorem frame_ffDnRefIdeal : Cert.quiescent_FfDnRefIdeal := fun m ρ _ =>
  (θ_run Cert.FfDnRefIdeal.defs _ _).mono (fun r h => ⟨fun c => (h c).2, sem_eq_zero_of_no_sems (by decide) r.2⟩) (Cert.FfDnRefIdeal.Value.run (F := Ideal) m ρ)
theorem frame_mixOut : Cert.quiescent_MixOut := fun m ρ _ => Cert.MixOut.Gen.frame m ρ
theorem frame_mixOutIdeal : Cert.quiescent_MixOutIdeal := fun m ρ _ => Cert.MixOutIdeal.Gen.frame m ρ
theorem frame_mixOutRefIdeal : Cert.quiescent_MixOutRefIdeal := fun m ρ _ =>
  (θ_run Cert.MixOutRefIdeal.defs _ _).mono (fun r h => ⟨fun c => (h c).2.2, sem_eq_zero_of_no_sems (by decide) r.2⟩) (Cert.MixOutRefIdeal.Value.run (F := Ideal) m ρ)
theorem frame_ffOut : Cert.quiescent_FfOut := fun m ρ _ => Cert.FfOut.Gen.frame m ρ
theorem frame_ffOutIdeal : Cert.quiescent_FfOutIdeal := fun m ρ _ => Cert.FfOutIdeal.Gen.frame m ρ
theorem frame_ffOutRefIdeal : Cert.quiescent_FfOutRefIdeal := fun m ρ _ =>
  (θ_run Cert.FfOutRefIdeal.defs _ _).mono (fun r h => ⟨fun c => (h c).2.2, sem_eq_zero_of_no_sems (by decide) r.2⟩) (Cert.FfOutRefIdeal.Value.run (F := Ideal) m ρ)
theorem frame_lnBwd : Cert.quiescent_LnBwd := fun m ρ _ => Cert.LnBwd.Gen.frame m ρ
theorem frame_lnBwdIdeal : Cert.quiescent_LnBwdIdeal := fun m ρ _ => Cert.LnBwdIdeal.Gen.frame m ρ
theorem frame_lnBwdRefIdeal : Cert.quiescent_LnBwdRefIdeal := fun m ρ _ =>
  (θ_run Cert.LnBwdRefIdeal.defs _ _).mono (fun r h => ⟨fun c => (h c).2.2.2, sem_eq_zero_of_no_sems (by decide) r.2⟩) (Cert.LnBwdRefIdeal.Value.run (F := Ideal) m ρ)
theorem frame_diag : Cert.quiescent_Diag := fun m ρ _ => Cert.Diag.Gen.frame m ρ
theorem frame_diagIdeal : Cert.quiescent_DiagIdeal := fun m ρ _ => Cert.DiagIdeal.Gen.frame m ρ
theorem frame_diagRefIdeal : Cert.quiescent_DiagRefIdeal := fun m ρ _ =>
  (θ_run Cert.DiagRefIdeal.defs _ _).mono (fun r h => ⟨fun c => (h c).2, sem_eq_zero_of_no_sems (by decide) r.2⟩) (Cert.DiagRefIdeal.Value.run (F := Ideal) m ρ)
theorem frame_bins : Cert.quiescent_Bins := fun m ρ _ => Cert.Bins.Gen.frame m ρ
theorem frame_binsIdeal : Cert.quiescent_BinsIdeal := fun m ρ _ => Cert.BinsIdeal.Gen.frame m ρ
theorem frame_binsRefIdeal : Cert.quiescent_BinsRefIdeal := fun m ρ _ =>
  (θ_run Cert.BinsRefIdeal.defs _ _).mono (fun r h => ⟨fun c => (h c).2, sem_eq_zero_of_no_sems (by decide) r.2⟩) (Cert.BinsRefIdeal.Value.run (F := Ideal) m ρ)

theorem claim : Cert.Claim := ⟨Cert.Swap.Gen.facts, Cert.SwapIdeal.Gen.facts, Cert.SwapRefIdeal.Gen.facts, Cert.SwapRef.Gen.facts,
  Cert.Exchange.Gen.facts, Cert.ExchangeIdeal.Gen.facts, Cert.ExchangeRefIdeal.Gen.facts, Cert.ExchangeRef.Gen.facts,
  Cert.Join.Gen.facts, Cert.JoinIdeal.Gen.facts, Cert.JoinRefIdeal.Gen.facts, Cert.JoinRef.Gen.facts,
  Cert.Gather.Gen.facts, Cert.GatherIdeal.Gen.facts, Cert.GatherRefIdeal.Gen.facts, Cert.GatherRef.Gen.facts,
  Cert.AdamwWAda.Gen.facts, Cert.AdamwWAdaIdeal.Gen.facts, Cert.AdamwWAdaRefIdeal.Gen.facts,
  Cert.AdamwBAda.Gen.facts, Cert.AdamwBAdaIdeal.Gen.facts, Cert.AdamwBAdaRefIdeal.Gen.facts,
  Cert.AdamwLnG.Gen.facts, Cert.AdamwLnGIdeal.Gen.facts, Cert.AdamwLnGRefIdeal.Gen.facts,
  Cert.AdamwGlaWIn.Gen.facts, Cert.AdamwGlaWInIdeal.Gen.facts, Cert.AdamwGlaWInRefIdeal.Gen.facts,
  Cert.AdamwGlaWGk2.Gen.facts, Cert.AdamwGlaWGk2Ideal.Gen.facts, Cert.AdamwGlaWGk2RefIdeal.Gen.facts,
  Cert.AdamwGlaBGk.Gen.facts, Cert.AdamwGlaBGkIdeal.Gen.facts, Cert.AdamwGlaBGkRefIdeal.Gen.facts,
  Cert.AdamwGlaGNorm.Gen.facts, Cert.AdamwGlaGNormIdeal.Gen.facts, Cert.AdamwGlaGNormRefIdeal.Gen.facts,
  Cert.AdamwGlaWOut.Gen.facts, Cert.AdamwGlaWOutIdeal.Gen.facts, Cert.AdamwGlaWOutRefIdeal.Gen.facts,
  Cert.AdamwAttWIn.Gen.facts, Cert.AdamwAttWInIdeal.Gen.facts, Cert.AdamwAttWInRefIdeal.Gen.facts,
  Cert.AdamwAttBIn.Gen.facts, Cert.AdamwAttBInIdeal.Gen.facts, Cert.AdamwAttBInRefIdeal.Gen.facts,
  Cert.AdamwAttRelBias.Gen.facts, Cert.AdamwAttRelBiasIdeal.Gen.facts, Cert.AdamwAttRelBiasRefIdeal.Gen.facts,
  Cert.AdamwFfW1.Gen.facts, Cert.AdamwFfW1Ideal.Gen.facts, Cert.AdamwFfW1RefIdeal.Gen.facts,
  Cert.SumGrads.Gen.facts, Cert.SumGradsIdeal.Gen.facts, Cert.SumGradsRefIdeal.Gen.facts,
  Cert.AdaBwd.Gen.facts, Cert.AdaBwdIdeal.Gen.facts, Cert.AdaBwdRefIdeal.Gen.facts,
  Cert.LossHead.Gen.facts, Cert.LossHeadIdeal.Gen.facts, Cert.LossHeadRefIdeal.Gen.facts,
  Cert.GradFfW2.Gen.facts, Cert.GradFfW2Ideal.Gen.facts, Cert.GradFfW2RefIdeal.Gen.facts,
  Cert.GradFfW1.Gen.facts, Cert.GradFfW1Ideal.Gen.facts, Cert.GradFfW1RefIdeal.Gen.facts,
  Cert.GradGlaWOut.Gen.facts, Cert.GradGlaWOutIdeal.Gen.facts, Cert.GradGlaWOutRefIdeal.Gen.facts,
  Cert.GradGlaWIn.Gen.facts, Cert.GradGlaWInIdeal.Gen.facts, Cert.GradGlaWInRefIdeal.Gen.facts,
  Cert.GradAttWIn.Gen.facts, Cert.GradAttWInIdeal.Gen.facts, Cert.GradAttWInRefIdeal.Gen.facts,
  Cert.DxGla.Gen.facts, Cert.DxGlaIdeal.Gen.facts, Cert.DxGlaRefIdeal.Gen.facts,
  Cert.DxAtt.Gen.facts, Cert.DxAttIdeal.Gen.facts, Cert.DxAttRefIdeal.Gen.facts,
  Cert.DxFf.Gen.facts, Cert.DxFfIdeal.Gen.facts, Cert.DxFfRefIdeal.Gen.facts,
  Cert.Silu.Gen.facts, Cert.SiluIdeal.Gen.facts, Cert.SiluRefIdeal.Gen.facts,
  Cert.Modulate.Gen.facts, Cert.ModulateIdeal.Gen.facts, Cert.ModulateRefIdeal.Gen.facts,
  Cert.ColSum.Gen.facts, Cert.ColSumIdeal.Gen.facts, Cert.ColSumRefIdeal.Gen.facts,
  Cert.AdaFwd.Gen.facts, Cert.AdaFwdIdeal.Gen.facts, Cert.AdaFwdRefIdeal.Gen.facts,
  Cert.GlaIn.Gen.facts, Cert.GlaInIdeal.Gen.facts, Cert.GlaInRefIdeal.Gen.facts,
  Cert.GlaDz.Gen.facts, Cert.GlaDzIdeal.Gen.facts, Cert.GlaDzRefIdeal.Gen.facts,
  Cert.AttIn.Gen.facts, Cert.AttInIdeal.Gen.facts, Cert.AttInRefIdeal.Gen.facts,
  Cert.FfUp.Gen.facts, Cert.FfUpIdeal.Gen.facts, Cert.FfUpRefIdeal.Gen.facts,
  Cert.FfDn.Gen.facts, Cert.FfDnIdeal.Gen.facts, Cert.FfDnRefIdeal.Gen.facts,
  Cert.MixOut.Gen.facts, Cert.MixOutIdeal.Gen.facts, Cert.MixOutRefIdeal.Gen.facts,
  Cert.FfOut.Gen.facts, Cert.FfOutIdeal.Gen.facts, Cert.FfOutRefIdeal.Gen.facts,
  Cert.LnBwd.Gen.facts, Cert.LnBwdIdeal.Gen.facts, Cert.LnBwdRefIdeal.Gen.facts,
  Cert.Diag.Gen.facts, Cert.DiagIdeal.Gen.facts, Cert.DiagRefIdeal.Gen.facts,
  Cert.Bins.Gen.facts, Cert.BinsIdeal.Gen.facts, Cert.BinsRefIdeal.Gen.facts,
  frame_swap, frame_swapIdeal, frame_swapRefIdeal, frame_swapRef,
  frame_exchange, frame_exchangeIdeal, frame_exchangeRefIdeal, frame_exchangeRef,
  frame_join, frame_joinIdeal, frame_joinRefIdeal, frame_joinRef,
  frame_gather, frame_gatherIdeal, frame_gatherRefIdeal, frame_gatherRef,
  frame_wAda, frame_wAdaIdeal, frame_wAdaRefIdeal,
  frame_bAda, frame_bAdaIdeal, frame_bAdaRefIdeal,
  frame_lnG, frame_lnGIdeal, frame_lnGRefIdeal,
  frame_glaWIn, frame_glaWInIdeal, frame_glaWInRefIdeal,
  frame_glaWGk2, frame_glaWGk2Ideal, frame_glaWGk2RefIdeal,
  frame_glaBGk, frame_glaBGkIdeal, frame_glaBGkRefIdeal,
  frame_glaGNorm, frame_glaGNormIdeal, frame_glaGNormRefIdeal,
  frame_glaWOut, frame_glaWOutIdeal, frame_glaWOutRefIdeal,
  frame_attWIn, frame_attWInIdeal, frame_attWInRefIdeal,
  frame_attBIn, frame_attBInIdeal, frame_attBInRefIdeal,
  frame_attRelBias, frame_attRelBiasIdeal, frame_attRelBiasRefIdeal,
  frame_ffW1, frame_ffW1Ideal, frame_ffW1RefIdeal,
  frame_sumGrads, frame_sumGradsIdeal, frame_sumGradsRefIdeal,
  frame_adaBwd, frame_adaBwdIdeal, frame_adaBwdRefIdeal,
  frame_lossHead, frame_lossHeadIdeal, frame_lossHeadRefIdeal,
  frame_gradFfW2, frame_gradFfW2Ideal, frame_gradFfW2RefIdeal,
  frame_gradFfW1, frame_gradFfW1Ideal, frame_gradFfW1RefIdeal,
  frame_gradGlaWOut, frame_gradGlaWOutIdeal, frame_gradGlaWOutRefIdeal,
  frame_gradGlaWIn, frame_gradGlaWInIdeal, frame_gradGlaWInRefIdeal,
  frame_gradAttWIn, frame_gradAttWInIdeal, frame_gradAttWInRefIdeal,
  frame_dxGla, frame_dxGlaIdeal, frame_dxGlaRefIdeal,
  frame_dxAtt, frame_dxAttIdeal, frame_dxAttRefIdeal,
  frame_dxFf, frame_dxFfIdeal, frame_dxFfRefIdeal,
  frame_silu, frame_siluIdeal, frame_siluRefIdeal,
  frame_modulate, frame_modulateIdeal, frame_modulateRefIdeal,
  frame_colSum, frame_colSumIdeal, frame_colSumRefIdeal,
  frame_adaFwd, frame_adaFwdIdeal, frame_adaFwdRefIdeal,
  frame_glaIn, frame_glaInIdeal, frame_glaInRefIdeal,
  frame_glaDz, frame_glaDzIdeal, frame_glaDzRefIdeal,
  frame_attIn, frame_attInIdeal, frame_attInRefIdeal,
  frame_ffUp, frame_ffUpIdeal, frame_ffUpRefIdeal,
  frame_ffDn, frame_ffDnIdeal, frame_ffDnRefIdeal,
  frame_mixOut, frame_mixOutIdeal, frame_mixOutRefIdeal,
  frame_ffOut, frame_ffOutIdeal, frame_ffOutRefIdeal,
  frame_lnBwd, frame_lnBwdIdeal, frame_lnBwdRefIdeal,
  frame_diag, frame_diagIdeal, frame_diagRefIdeal,
  frame_bins, frame_binsIdeal, frame_binsRefIdeal,
  trivial, algebraic_swap, bitexact_swap,
  trivial, algebraic_exchange, bitexact_exchange,
  trivial, algebraic_join, bitexact_join,
  trivial, algebraic_gather, bitexact_gather,
  trivial, Cert.Talk.WAda.agree,
  trivial, Cert.Talk.BAda.agree,
  trivial, Cert.Talk.LnG.agree,
  trivial, Cert.Talk.GlaWIn.agree,
  trivial, Cert.Talk.GlaWGk2.agree,
  trivial, Cert.Talk.GlaBGk.agree,
  trivial, Cert.Talk.GlaGNorm.agree,
  trivial, Cert.Talk.GlaWOut.agree,
  trivial, Cert.Talk.AttWIn.agree,
  trivial, Cert.Talk.AttBIn.agree,
  trivial, Cert.Talk.AttRelBias.agree,
  trivial, Cert.Talk.FfW1.agree,
  trivial, Cert.Talk.SumGrads.agree,
  trivial, Cert.Talk.AdaBwd.agree,
  trivial, Cert.Talk.LossHead.agree,
  trivial, Cert.Talk.GradFfW2.agree,
  trivial, Cert.Talk.GradFfW1.agree,
  trivial, Cert.Talk.GradGlaWOut.agree,
  trivial, Cert.Talk.GradGlaWIn.agree,
  trivial, Cert.Talk.GradAttWIn.agree,
  trivial, Cert.Talk.DxGla.agree,
  trivial, Cert.Talk.DxAtt.agree,
  trivial, Cert.Talk.DxFf.agree,
  trivial, Cert.Talk.Silu.agree,
  trivial, Cert.Talk.Modulate.agree,
  trivial, Cert.Talk.ColSum.agree,
  trivial, Cert.Talk.AdaFwd.agree,
  trivial, Cert.Talk.GlaIn.agree,
  trivial, Cert.Talk.GlaDz.agree,
  trivial, Cert.Talk.AttIn.agree,
  trivial, Cert.Talk.FfUp.agree,
  trivial, Cert.Talk.FfDn.agree,
  trivial, Cert.Talk.MixOut.agree,
  trivial, Cert.Talk.FfOut.agree,
  trivial, Cert.Talk.LnBwd.agree,
  trivial, Cert.Talk.Diag.agree,
  trivial, Cert.Talk.Bins.agree⟩

end Cert.Proof

end
